-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_KernelIdeal2 (m : (ℓ : Loc Cert.KernelIdeal2.nD Cert.KernelIdeal2.τ Cert.KernelIdeal2.sig) → Buf (Elt Ideal) ℓ) : Prop :=
  True

def Pre_ReferenceIdeal2 (m : (ℓ : Loc Cert.ReferenceIdeal2.nD Cert.ReferenceIdeal2.τ Cert.ReferenceIdeal2.sig) → Buf (Elt Ideal) ℓ) : Prop :=
  True

def Pre_Kernel3 (m : (ℓ : Loc Cert.Kernel3.nD Cert.Kernel3.τ Cert.Kernel3.sig) → Buf (Elt Bits) ℓ) : Prop :=
  True

def Pre_KernelIdeal3 (m : (ℓ : Loc Cert.KernelIdeal3.nD Cert.KernelIdeal3.τ Cert.KernelIdeal3.sig) → Buf (Elt Ideal) ℓ) : Prop :=
  True

def Pre_ReferenceIdeal3 (m : (ℓ : Loc Cert.ReferenceIdeal3.nD Cert.ReferenceIdeal3.τ Cert.ReferenceIdeal3.sig) → Buf (Elt Ideal) ℓ) : Prop :=
  True

def Pre_Kernel4 (m : (ℓ : Loc Cert.Kernel4.nD Cert.Kernel4.τ Cert.Kernel4.sig) → Buf (Elt Bits) ℓ) : Prop :=
  True

def Pre_KernelIdeal4 (m : (ℓ : Loc Cert.KernelIdeal4.nD Cert.KernelIdeal4.τ Cert.KernelIdeal4.sig) → Buf (Elt Ideal) ℓ) : Prop :=
  True

def Pre_ReferenceIdeal4 (m : (ℓ : Loc Cert.ReferenceIdeal4.nD Cert.ReferenceIdeal4.τ Cert.ReferenceIdeal4.sig) → Buf (Elt Ideal) ℓ) : Prop :=
  True

def Pre_Kernel5 (m : (ℓ : Loc Cert.Kernel5.nD Cert.Kernel5.τ Cert.Kernel5.sig) → Buf (Elt Bits) ℓ) : Prop :=
  True

def Pre_KernelIdeal5 (m : (ℓ : Loc Cert.KernelIdeal5.nD Cert.KernelIdeal5.τ Cert.KernelIdeal5.sig) → Buf (Elt Ideal) ℓ) : Prop :=
  True

def Pre_ReferenceIdeal5 (m : (ℓ : Loc Cert.ReferenceIdeal5.nD Cert.ReferenceIdeal5.τ Cert.ReferenceIdeal5.sig) → Buf (Elt Ideal) ℓ) : Prop :=
  True

def Pre_Kernel6 (m : (ℓ : Loc Cert.Kernel6.nD Cert.Kernel6.τ Cert.Kernel6.sig) → Buf (Elt Bits) ℓ) : Prop :=
  True

def Pre_KernelIdeal6 (m : (ℓ : Loc Cert.KernelIdeal6.nD Cert.KernelIdeal6.τ Cert.KernelIdeal6.sig) → Buf (Elt Ideal) ℓ) : Prop :=
  True

def Pre_ReferenceIdeal6 (m : (ℓ : Loc Cert.ReferenceIdeal6.nD Cert.ReferenceIdeal6.τ Cert.ReferenceIdeal6.sig) → Buf (Elt Ideal) ℓ) : Prop :=
  True

def Pre_Kernel7 (m : (ℓ : Loc Cert.Kernel7.nD Cert.Kernel7.τ Cert.Kernel7.sig) → Buf (Elt Bits) ℓ) : Prop :=
  True

def Pre_KernelIdeal7 (m : (ℓ : Loc Cert.KernelIdeal7.nD Cert.KernelIdeal7.τ Cert.KernelIdeal7.sig) → Buf (Elt Ideal) ℓ) : Prop :=
  True

def Pre_ReferenceIdeal7 (m : (ℓ : Loc Cert.ReferenceIdeal7.nD Cert.ReferenceIdeal7.τ Cert.ReferenceIdeal7.sig) → Buf (Elt Ideal) ℓ) : Prop :=
  True

def Pre_Kernel8 (m : (ℓ : Loc Cert.Kernel8.nD Cert.Kernel8.τ Cert.Kernel8.sig) → Buf (Elt Bits) ℓ) : Prop :=
  True

def Pre_KernelIdeal8 (m : (ℓ : Loc Cert.KernelIdeal8.nD Cert.KernelIdeal8.τ Cert.KernelIdeal8.sig) → Buf (Elt Ideal) ℓ) : Prop :=
  True

def Pre_ReferenceIdeal8 (m : (ℓ : Loc Cert.ReferenceIdeal8.nD Cert.ReferenceIdeal8.τ Cert.ReferenceIdeal8.sig) → Buf (Elt Ideal) ℓ) : Prop :=
  True

def Pre_Kernel9 (m : (ℓ : Loc Cert.Kernel9.nD Cert.Kernel9.τ Cert.Kernel9.sig) → Buf (Elt Bits) ℓ) : Prop :=
  True

def Pre_KernelIdeal9 (m : (ℓ : Loc Cert.KernelIdeal9.nD Cert.KernelIdeal9.τ Cert.KernelIdeal9.sig) → Buf (Elt Ideal) ℓ) : Prop :=
  True

def Pre_ReferenceIdeal9 (m : (ℓ : Loc Cert.ReferenceIdeal9.nD Cert.ReferenceIdeal9.τ Cert.ReferenceIdeal9.sig) → Buf (Elt Ideal) ℓ) : Prop :=
  True

def Pre_Kernel10 (m : (ℓ : Loc Cert.Kernel10.nD Cert.Kernel10.τ Cert.Kernel10.sig) → Buf (Elt Bits) ℓ) : Prop :=
  True

def Pre_KernelIdeal10 (m : (ℓ : Loc Cert.KernelIdeal10.nD Cert.KernelIdeal10.τ Cert.KernelIdeal10.sig) → Buf (Elt Ideal) ℓ) : Prop :=
  True

def Pre_ReferenceIdeal10 (m : (ℓ : Loc Cert.ReferenceIdeal10.nD Cert.ReferenceIdeal10.τ Cert.ReferenceIdeal10.sig) → Buf (Elt Ideal) ℓ) : Prop :=
  True

def Pre_Kernel11 (m : (ℓ : Loc Cert.Kernel11.nD Cert.Kernel11.τ Cert.Kernel11.sig) → Buf (Elt Bits) ℓ) : Prop :=
  True

def Pre_KernelIdeal11 (m : (ℓ : Loc Cert.KernelIdeal11.nD Cert.KernelIdeal11.τ Cert.KernelIdeal11.sig) → Buf (Elt Ideal) ℓ) : Prop :=
  True

def Pre_ReferenceIdeal11 (m : (ℓ : Loc Cert.ReferenceIdeal11.nD Cert.ReferenceIdeal11.τ Cert.ReferenceIdeal11.sig) → Buf (Elt Ideal) ℓ) : Prop :=
  True

def Pre_Kernel12 (m : (ℓ : Loc Cert.Kernel12.nD Cert.Kernel12.τ Cert.Kernel12.sig) → Buf (Elt Bits) ℓ) : Prop :=
  True

def Pre_KernelIdeal12 (m : (ℓ : Loc Cert.KernelIdeal12.nD Cert.KernelIdeal12.τ Cert.KernelIdeal12.sig) → Buf (Elt Ideal) ℓ) : Prop :=
  True

def Pre_ReferenceIdeal12 (m : (ℓ : Loc Cert.ReferenceIdeal12.nD Cert.ReferenceIdeal12.τ Cert.ReferenceIdeal12.sig) → Buf (Elt Ideal) ℓ) : Prop :=
  True

def Pre_Kernel13 (m : (ℓ : Loc Cert.Kernel13.nD Cert.Kernel13.τ Cert.Kernel13.sig) → Buf (Elt Bits) ℓ) : Prop :=
  True

def Pre_KernelIdeal13 (m : (ℓ : Loc Cert.KernelIdeal13.nD Cert.KernelIdeal13.τ Cert.KernelIdeal13.sig) → Buf (Elt Ideal) ℓ) : Prop :=
  True

def Pre_ReferenceIdeal13 (m : (ℓ : Loc Cert.ReferenceIdeal13.nD Cert.ReferenceIdeal13.τ Cert.ReferenceIdeal13.sig) → Buf (Elt Ideal) ℓ) : Prop :=
  True

def Pre_Kernel14 (m : (ℓ : Loc Cert.Kernel14.nD Cert.Kernel14.τ Cert.Kernel14.sig) → Buf (Elt Bits) ℓ) : Prop :=
  True

def Pre_KernelIdeal14 (m : (ℓ : Loc Cert.KernelIdeal14.nD Cert.KernelIdeal14.τ Cert.KernelIdeal14.sig) → Buf (Elt Ideal) ℓ) : Prop :=
  True

def Pre_ReferenceIdeal14 (m : (ℓ : Loc Cert.ReferenceIdeal14.nD Cert.ReferenceIdeal14.τ Cert.ReferenceIdeal14.sig) → Buf (Elt Ideal) ℓ) : Prop :=
  True

def Pre_Kernel15 (m : (ℓ : Loc Cert.Kernel15.nD Cert.Kernel15.τ Cert.Kernel15.sig) → Buf (Elt Bits) ℓ) : Prop :=
  True

def Pre_KernelIdeal15 (m : (ℓ : Loc Cert.KernelIdeal15.nD Cert.KernelIdeal15.τ Cert.KernelIdeal15.sig) → Buf (Elt Ideal) ℓ) : Prop :=
  True

def Pre_ReferenceIdeal15 (m : (ℓ : Loc Cert.ReferenceIdeal15.nD Cert.ReferenceIdeal15.τ Cert.ReferenceIdeal15.sig) → Buf (Elt Ideal) ℓ) : Prop :=
  True

def Pre_Kernel16 (m : (ℓ : Loc Cert.Kernel16.nD Cert.Kernel16.τ Cert.Kernel16.sig) → Buf (Elt Bits) ℓ) : Prop :=
  True

def Pre_KernelIdeal16 (m : (ℓ : Loc Cert.KernelIdeal16.nD Cert.KernelIdeal16.τ Cert.KernelIdeal16.sig) → Buf (Elt Ideal) ℓ) : Prop :=
  True

def Pre_ReferenceIdeal16 (m : (ℓ : Loc Cert.ReferenceIdeal16.nD Cert.ReferenceIdeal16.τ Cert.ReferenceIdeal16.sig) → Buf (Elt Ideal) ℓ) : Prop :=
  True

def Pre_Kernel17 (m : (ℓ : Loc Cert.Kernel17.nD Cert.Kernel17.τ Cert.Kernel17.sig) → Buf (Elt Bits) ℓ) : Prop :=
  True

def Pre_KernelIdeal17 (m : (ℓ : Loc Cert.KernelIdeal17.nD Cert.KernelIdeal17.τ Cert.KernelIdeal17.sig) → Buf (Elt Ideal) ℓ) : Prop :=
  True

def Pre_ReferenceIdeal17 (m : (ℓ : Loc Cert.ReferenceIdeal17.nD Cert.ReferenceIdeal17.τ Cert.ReferenceIdeal17.sig) → Buf (Elt Ideal) ℓ) : Prop :=
  True

def Pre_Kernel18 (m : (ℓ : Loc Cert.Kernel18.nD Cert.Kernel18.τ Cert.Kernel18.sig) → Buf (Elt Bits) ℓ) : Prop :=
  True

def Pre_KernelIdeal18 (m : (ℓ : Loc Cert.KernelIdeal18.nD Cert.KernelIdeal18.τ Cert.KernelIdeal18.sig) → Buf (Elt Ideal) ℓ) : Prop :=
  True

def Pre_ReferenceIdeal18 (m : (ℓ : Loc Cert.ReferenceIdeal18.nD Cert.ReferenceIdeal18.τ Cert.ReferenceIdeal18.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_KernelIdeal2 [hKernelIdeal2 : Cert.KernelIdeal2.Facts] : Prop :=
  ∀ (m : (ℓ : Loc Cert.KernelIdeal2.nD Cert.KernelIdeal2.τ Cert.KernelIdeal2.sig) → Buf (Elt Ideal) ℓ) (g : Dev Cert.KernelIdeal2.nD → PrngReg), Pre_KernelIdeal2 m →
    θ_run (Cert.KernelIdeal2.defs (F := Ideal)) (onTc (τ := Cert.KernelIdeal2.τ) (Cert.KernelIdeal2.main (F := Ideal))) ⟨m, fun _ => 0, g⟩ (fun r => (∀ c : Dev Cert.KernelIdeal2.nD,
      r.2.mem ((c.tc : Thread Cert.KernelIdeal2.nD Cert.KernelIdeal2.τ).loc Cert.KernelIdeal2.main_arg0) = m ((c.tc : Thread Cert.KernelIdeal2.nD Cert.KernelIdeal2.τ).loc Cert.KernelIdeal2.main_arg0)
      ∧ r.2.mem ((c.tc : Thread Cert.KernelIdeal2.nD Cert.KernelIdeal2.τ).loc Cert.KernelIdeal2.main_arg1) = m ((c.tc : Thread Cert.KernelIdeal2.nD Cert.KernelIdeal2.τ).loc Cert.KernelIdeal2.main_arg1)
      ∧ r.2.mem ((c.tc : Thread Cert.KernelIdeal2.nD Cert.KernelIdeal2.τ).loc Cert.KernelIdeal2.main_arg2) = m ((c.tc : Thread Cert.KernelIdeal2.nD Cert.KernelIdeal2.τ).loc Cert.KernelIdeal2.main_arg2))
      ∧ r.2.sem = fun _ => 0)

def quiescent_ReferenceIdeal2 [hReferenceIdeal2 : Cert.ReferenceIdeal2.Facts] : Prop :=
  ∀ (m : (ℓ : Loc Cert.ReferenceIdeal2.nD Cert.ReferenceIdeal2.τ Cert.ReferenceIdeal2.sig) → Buf (Elt Ideal) ℓ) (g : Dev Cert.ReferenceIdeal2.nD → PrngReg), Pre_ReferenceIdeal2 m →
    θ_run (Cert.ReferenceIdeal2.defs (F := Ideal)) (onTc (τ := Cert.ReferenceIdeal2.τ) (Cert.ReferenceIdeal2.main (F := Ideal))) ⟨m, fun _ => 0, g⟩ (fun r => (∀ c : Dev Cert.ReferenceIdeal2.nD,
      r.2.mem ((c.tc : Thread Cert.ReferenceIdeal2.nD Cert.ReferenceIdeal2.τ).loc Cert.ReferenceIdeal2.main_arg0) = m ((c.tc : Thread Cert.ReferenceIdeal2.nD Cert.ReferenceIdeal2.τ).loc Cert.ReferenceIdeal2.main_arg0)
      ∧ r.2.mem ((c.tc : Thread Cert.ReferenceIdeal2.nD Cert.ReferenceIdeal2.τ).loc Cert.ReferenceIdeal2.main_arg1) = m ((c.tc : Thread Cert.ReferenceIdeal2.nD Cert.ReferenceIdeal2.τ).loc Cert.ReferenceIdeal2.main_arg1)
      ∧ r.2.mem ((c.tc : Thread Cert.ReferenceIdeal2.nD Cert.ReferenceIdeal2.τ).loc Cert.ReferenceIdeal2.main_arg2) = m ((c.tc : Thread Cert.ReferenceIdeal2.nD Cert.ReferenceIdeal2.τ).loc Cert.ReferenceIdeal2.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_KernelIdeal3 [hKernelIdeal3 : Cert.KernelIdeal3.Facts] : Prop :=
  ∀ (m : (ℓ : Loc Cert.KernelIdeal3.nD Cert.KernelIdeal3.τ Cert.KernelIdeal3.sig) → Buf (Elt Ideal) ℓ) (g : Dev Cert.KernelIdeal3.nD → PrngReg), Pre_KernelIdeal3 m →
    θ_run (Cert.KernelIdeal3.defs (F := Ideal)) (onTc (τ := Cert.KernelIdeal3.τ) (Cert.KernelIdeal3.main (F := Ideal))) ⟨m, fun _ => 0, g⟩ (fun r => (∀ c : Dev Cert.KernelIdeal3.nD,
      r.2.mem ((c.tc : Thread Cert.KernelIdeal3.nD Cert.KernelIdeal3.τ).loc Cert.KernelIdeal3.main_arg0) = m ((c.tc : Thread Cert.KernelIdeal3.nD Cert.KernelIdeal3.τ).loc Cert.KernelIdeal3.main_arg0)
      ∧ r.2.mem ((c.tc : Thread Cert.KernelIdeal3.nD Cert.KernelIdeal3.τ).loc Cert.KernelIdeal3.main_arg1) = m ((c.tc : Thread Cert.KernelIdeal3.nD Cert.KernelIdeal3.τ).loc Cert.KernelIdeal3.main_arg1)
      ∧ r.2.mem ((c.tc : Thread Cert.KernelIdeal3.nD Cert.KernelIdeal3.τ).loc Cert.KernelIdeal3.main_arg2) = m ((c.tc : Thread Cert.KernelIdeal3.nD Cert.KernelIdeal3.τ).loc Cert.KernelIdeal3.main_arg2))
      ∧ r.2.sem = fun _ => 0)

def quiescent_ReferenceIdeal3 [hReferenceIdeal3 : Cert.ReferenceIdeal3.Facts] : Prop :=
  ∀ (m : (ℓ : Loc Cert.ReferenceIdeal3.nD Cert.ReferenceIdeal3.τ Cert.ReferenceIdeal3.sig) → Buf (Elt Ideal) ℓ) (g : Dev Cert.ReferenceIdeal3.nD → PrngReg), Pre_ReferenceIdeal3 m →
    θ_run (Cert.ReferenceIdeal3.defs (F := Ideal)) (onTc (τ := Cert.ReferenceIdeal3.τ) (Cert.ReferenceIdeal3.main (F := Ideal))) ⟨m, fun _ => 0, g⟩ (fun r => (∀ c : Dev Cert.ReferenceIdeal3.nD,
      r.2.mem ((c.tc : Thread Cert.ReferenceIdeal3.nD Cert.ReferenceIdeal3.τ).loc Cert.ReferenceIdeal3.main_arg0) = m ((c.tc : Thread Cert.ReferenceIdeal3.nD Cert.ReferenceIdeal3.τ).loc Cert.ReferenceIdeal3.main_arg0)
      ∧ r.2.mem ((c.tc : Thread Cert.ReferenceIdeal3.nD Cert.ReferenceIdeal3.τ).loc Cert.ReferenceIdeal3.main_arg1) = m ((c.tc : Thread Cert.ReferenceIdeal3.nD Cert.ReferenceIdeal3.τ).loc Cert.ReferenceIdeal3.main_arg1)
      ∧ r.2.mem ((c.tc : Thread Cert.ReferenceIdeal3.nD Cert.ReferenceIdeal3.τ).loc Cert.ReferenceIdeal3.main_arg2) = m ((c.tc : Thread Cert.ReferenceIdeal3.nD Cert.ReferenceIdeal3.τ).loc Cert.ReferenceIdeal3.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_KernelIdeal4 [hKernelIdeal4 : Cert.KernelIdeal4.Facts] : Prop :=
  ∀ (m : (ℓ : Loc Cert.KernelIdeal4.nD Cert.KernelIdeal4.τ Cert.KernelIdeal4.sig) → Buf (Elt Ideal) ℓ) (g : Dev Cert.KernelIdeal4.nD → PrngReg), Pre_KernelIdeal4 m →
    θ_run (Cert.KernelIdeal4.defs (F := Ideal)) (onTc (τ := Cert.KernelIdeal4.τ) (Cert.KernelIdeal4.main (F := Ideal))) ⟨m, fun _ => 0, g⟩ (fun r => (∀ c : Dev Cert.KernelIdeal4.nD,
      r.2.mem ((c.tc : Thread Cert.KernelIdeal4.nD Cert.KernelIdeal4.τ).loc Cert.KernelIdeal4.main_arg0) = m ((c.tc : Thread Cert.KernelIdeal4.nD Cert.KernelIdeal4.τ).loc Cert.KernelIdeal4.main_arg0)
      ∧ r.2.mem ((c.tc : Thread Cert.KernelIdeal4.nD Cert.KernelIdeal4.τ).loc Cert.KernelIdeal4.main_arg1) = m ((c.tc : Thread Cert.KernelIdeal4.nD Cert.KernelIdeal4.τ).loc Cert.KernelIdeal4.main_arg1))
      ∧ r.2.sem = fun _ => 0)

def quiescent_ReferenceIdeal4 [hReferenceIdeal4 : Cert.ReferenceIdeal4.Facts] : Prop :=
  ∀ (m : (ℓ : Loc Cert.ReferenceIdeal4.nD Cert.ReferenceIdeal4.τ Cert.ReferenceIdeal4.sig) → Buf (Elt Ideal) ℓ) (g : Dev Cert.ReferenceIdeal4.nD → PrngReg), Pre_ReferenceIdeal4 m →
    θ_run (Cert.ReferenceIdeal4.defs (F := Ideal)) (onTc (τ := Cert.ReferenceIdeal4.τ) (Cert.ReferenceIdeal4.main (F := Ideal))) ⟨m, fun _ => 0, g⟩ (fun r => (∀ c : Dev Cert.ReferenceIdeal4.nD,
      r.2.mem ((c.tc : Thread Cert.ReferenceIdeal4.nD Cert.ReferenceIdeal4.τ).loc Cert.ReferenceIdeal4.main_arg0) = m ((c.tc : Thread Cert.ReferenceIdeal4.nD Cert.ReferenceIdeal4.τ).loc Cert.ReferenceIdeal4.main_arg0)
      ∧ r.2.mem ((c.tc : Thread Cert.ReferenceIdeal4.nD Cert.ReferenceIdeal4.τ).loc Cert.ReferenceIdeal4.main_arg1) = m ((c.tc : Thread Cert.ReferenceIdeal4.nD Cert.ReferenceIdeal4.τ).loc Cert.ReferenceIdeal4.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_KernelIdeal5 [hKernelIdeal5 : Cert.KernelIdeal5.Facts] : Prop :=
  ∀ (m : (ℓ : Loc Cert.KernelIdeal5.nD Cert.KernelIdeal5.τ Cert.KernelIdeal5.sig) → Buf (Elt Ideal) ℓ) (g : Dev Cert.KernelIdeal5.nD → PrngReg), Pre_KernelIdeal5 m →
    θ_run (Cert.KernelIdeal5.defs (F := Ideal)) (onTc (τ := Cert.KernelIdeal5.τ) (Cert.KernelIdeal5.main (F := Ideal))) ⟨m, fun _ => 0, g⟩ (fun r => (∀ c : Dev Cert.KernelIdeal5.nD,
      r.2.mem ((c.tc : Thread Cert.KernelIdeal5.nD Cert.KernelIdeal5.τ).loc Cert.KernelIdeal5.main_arg0) = m ((c.tc : Thread Cert.KernelIdeal5.nD Cert.KernelIdeal5.τ).loc Cert.KernelIdeal5.main_arg0)
      ∧ r.2.mem ((c.tc : Thread Cert.KernelIdeal5.nD Cert.KernelIdeal5.τ).loc Cert.KernelIdeal5.main_arg1) = m ((c.tc : Thread Cert.KernelIdeal5.nD Cert.KernelIdeal5.τ).loc Cert.KernelIdeal5.main_arg1)
      ∧ r.2.mem ((c.tc : Thread Cert.KernelIdeal5.nD Cert.KernelIdeal5.τ).loc Cert.KernelIdeal5.main_arg2) = m ((c.tc : Thread Cert.KernelIdeal5.nD Cert.KernelIdeal5.τ).loc Cert.KernelIdeal5.main_arg2)
      ∧ r.2.mem ((c.tc : Thread Cert.KernelIdeal5.nD Cert.KernelIdeal5.τ).loc Cert.KernelIdeal5.main_arg3) = m ((c.tc : Thread Cert.KernelIdeal5.nD Cert.KernelIdeal5.τ).loc Cert.KernelIdeal5.main_arg3))
      ∧ r.2.sem = fun _ => 0)

def quiescent_ReferenceIdeal5 [hReferenceIdeal5 : Cert.ReferenceIdeal5.Facts] : Prop :=
  ∀ (m : (ℓ : Loc Cert.ReferenceIdeal5.nD Cert.ReferenceIdeal5.τ Cert.ReferenceIdeal5.sig) → Buf (Elt Ideal) ℓ) (g : Dev Cert.ReferenceIdeal5.nD → PrngReg), Pre_ReferenceIdeal5 m →
    θ_run (Cert.ReferenceIdeal5.defs (F := Ideal)) (onTc (τ := Cert.ReferenceIdeal5.τ) (Cert.ReferenceIdeal5.main (F := Ideal))) ⟨m, fun _ => 0, g⟩ (fun r => (∀ c : Dev Cert.ReferenceIdeal5.nD,
      r.2.mem ((c.tc : Thread Cert.ReferenceIdeal5.nD Cert.ReferenceIdeal5.τ).loc Cert.ReferenceIdeal5.main_arg0) = m ((c.tc : Thread Cert.ReferenceIdeal5.nD Cert.ReferenceIdeal5.τ).loc Cert.ReferenceIdeal5.main_arg0)
      ∧ r.2.mem ((c.tc : Thread Cert.ReferenceIdeal5.nD Cert.ReferenceIdeal5.τ).loc Cert.ReferenceIdeal5.main_arg1) = m ((c.tc : Thread Cert.ReferenceIdeal5.nD Cert.ReferenceIdeal5.τ).loc Cert.ReferenceIdeal5.main_arg1)
      ∧ r.2.mem ((c.tc : Thread Cert.ReferenceIdeal5.nD Cert.ReferenceIdeal5.τ).loc Cert.ReferenceIdeal5.main_arg2) = m ((c.tc : Thread Cert.ReferenceIdeal5.nD Cert.ReferenceIdeal5.τ).loc Cert.ReferenceIdeal5.main_arg2)
      ∧ r.2.mem ((c.tc : Thread Cert.ReferenceIdeal5.nD Cert.ReferenceIdeal5.τ).loc Cert.ReferenceIdeal5.main_arg3) = m ((c.tc : Thread Cert.ReferenceIdeal5.nD Cert.ReferenceIdeal5.τ).loc Cert.ReferenceIdeal5.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_KernelIdeal6 [hKernelIdeal6 : Cert.KernelIdeal6.Facts] : Prop :=
  ∀ (m : (ℓ : Loc Cert.KernelIdeal6.nD Cert.KernelIdeal6.τ Cert.KernelIdeal6.sig) → Buf (Elt Ideal) ℓ) (g : Dev Cert.KernelIdeal6.nD → PrngReg), Pre_KernelIdeal6 m →
    θ_run (Cert.KernelIdeal6.defs (F := Ideal)) (onTc (τ := Cert.KernelIdeal6.τ) (Cert.KernelIdeal6.main (F := Ideal))) ⟨m, fun _ => 0, g⟩ (fun r => (∀ c : Dev Cert.KernelIdeal6.nD,
      r.2.mem ((c.tc : Thread Cert.KernelIdeal6.nD Cert.KernelIdeal6.τ).loc Cert.KernelIdeal6.main_arg0) = m ((c.tc : Thread Cert.KernelIdeal6.nD Cert.KernelIdeal6.τ).loc Cert.KernelIdeal6.main_arg0)
      ∧ r.2.mem ((c.tc : Thread Cert.KernelIdeal6.nD Cert.KernelIdeal6.τ).loc Cert.KernelIdeal6.main_arg1) = m ((c.tc : Thread Cert.KernelIdeal6.nD Cert.KernelIdeal6.τ).loc Cert.KernelIdeal6.main_arg1)
      ∧ r.2.mem ((c.tc : Thread Cert.KernelIdeal6.nD Cert.KernelIdeal6.τ).loc Cert.KernelIdeal6.main_arg2) = m ((c.tc : Thread Cert.KernelIdeal6.nD Cert.KernelIdeal6.τ).loc Cert.KernelIdeal6.main_arg2))
      ∧ r.2.sem = fun _ => 0)

def quiescent_ReferenceIdeal6 [hReferenceIdeal6 : Cert.ReferenceIdeal6.Facts] : Prop :=
  ∀ (m : (ℓ : Loc Cert.ReferenceIdeal6.nD Cert.ReferenceIdeal6.τ Cert.ReferenceIdeal6.sig) → Buf (Elt Ideal) ℓ) (g : Dev Cert.ReferenceIdeal6.nD → PrngReg), Pre_ReferenceIdeal6 m →
    θ_run (Cert.ReferenceIdeal6.defs (F := Ideal)) (onTc (τ := Cert.ReferenceIdeal6.τ) (Cert.ReferenceIdeal6.main (F := Ideal))) ⟨m, fun _ => 0, g⟩ (fun r => (∀ c : Dev Cert.ReferenceIdeal6.nD,
      r.2.mem ((c.tc : Thread Cert.ReferenceIdeal6.nD Cert.ReferenceIdeal6.τ).loc Cert.ReferenceIdeal6.main_arg0) = m ((c.tc : Thread Cert.ReferenceIdeal6.nD Cert.ReferenceIdeal6.τ).loc Cert.ReferenceIdeal6.main_arg0)
      ∧ r.2.mem ((c.tc : Thread Cert.ReferenceIdeal6.nD Cert.ReferenceIdeal6.τ).loc Cert.ReferenceIdeal6.main_arg1) = m ((c.tc : Thread Cert.ReferenceIdeal6.nD Cert.ReferenceIdeal6.τ).loc Cert.ReferenceIdeal6.main_arg1)
      ∧ r.2.mem ((c.tc : Thread Cert.ReferenceIdeal6.nD Cert.ReferenceIdeal6.τ).loc Cert.ReferenceIdeal6.main_arg2) = m ((c.tc : Thread Cert.ReferenceIdeal6.nD Cert.ReferenceIdeal6.τ).loc Cert.ReferenceIdeal6.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_KernelIdeal7 [hKernelIdeal7 : Cert.KernelIdeal7.Facts] : Prop :=
  ∀ (m : (ℓ : Loc Cert.KernelIdeal7.nD Cert.KernelIdeal7.τ Cert.KernelIdeal7.sig) → Buf (Elt Ideal) ℓ) (g : Dev Cert.KernelIdeal7.nD → PrngReg), Pre_KernelIdeal7 m →
    θ_run (Cert.KernelIdeal7.defs (F := Ideal)) (onTc (τ := Cert.KernelIdeal7.τ) (Cert.KernelIdeal7.main (F := Ideal))) ⟨m, fun _ => 0, g⟩ (fun r => (∀ c : Dev Cert.KernelIdeal7.nD,
      r.2.mem ((c.tc : Thread Cert.KernelIdeal7.nD Cert.KernelIdeal7.τ).loc Cert.KernelIdeal7.main_arg0) = m ((c.tc : Thread Cert.KernelIdeal7.nD Cert.KernelIdeal7.τ).loc Cert.KernelIdeal7.main_arg0)
      ∧ r.2.mem ((c.tc : Thread Cert.KernelIdeal7.nD Cert.KernelIdeal7.τ).loc Cert.KernelIdeal7.main_arg1) = m ((c.tc : Thread Cert.KernelIdeal7.nD Cert.KernelIdeal7.τ).loc Cert.KernelIdeal7.main_arg1)
      ∧ r.2.mem ((c.tc : Thread Cert.KernelIdeal7.nD Cert.KernelIdeal7.τ).loc Cert.KernelIdeal7.main_arg2) = m ((c.tc : Thread Cert.KernelIdeal7.nD Cert.KernelIdeal7.τ).loc Cert.KernelIdeal7.main_arg2))
      ∧ r.2.sem = fun _ => 0)

def quiescent_ReferenceIdeal7 [hReferenceIdeal7 : Cert.ReferenceIdeal7.Facts] : Prop :=
  ∀ (m : (ℓ : Loc Cert.ReferenceIdeal7.nD Cert.ReferenceIdeal7.τ Cert.ReferenceIdeal7.sig) → Buf (Elt Ideal) ℓ) (g : Dev Cert.ReferenceIdeal7.nD → PrngReg), Pre_ReferenceIdeal7 m →
    θ_run (Cert.ReferenceIdeal7.defs (F := Ideal)) (onTc (τ := Cert.ReferenceIdeal7.τ) (Cert.ReferenceIdeal7.main (F := Ideal))) ⟨m, fun _ => 0, g⟩ (fun r => (∀ c : Dev Cert.ReferenceIdeal7.nD,
      r.2.mem ((c.tc : Thread Cert.ReferenceIdeal7.nD Cert.ReferenceIdeal7.τ).loc Cert.ReferenceIdeal7.main_arg0) = m ((c.tc : Thread Cert.ReferenceIdeal7.nD Cert.ReferenceIdeal7.τ).loc Cert.ReferenceIdeal7.main_arg0)
      ∧ r.2.mem ((c.tc : Thread Cert.ReferenceIdeal7.nD Cert.ReferenceIdeal7.τ).loc Cert.ReferenceIdeal7.main_arg1) = m ((c.tc : Thread Cert.ReferenceIdeal7.nD Cert.ReferenceIdeal7.τ).loc Cert.ReferenceIdeal7.main_arg1)
      ∧ r.2.mem ((c.tc : Thread Cert.ReferenceIdeal7.nD Cert.ReferenceIdeal7.τ).loc Cert.ReferenceIdeal7.main_arg2) = m ((c.tc : Thread Cert.ReferenceIdeal7.nD Cert.ReferenceIdeal7.τ).loc Cert.ReferenceIdeal7.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_KernelIdeal8 [hKernelIdeal8 : Cert.KernelIdeal8.Facts] : Prop :=
  ∀ (m : (ℓ : Loc Cert.KernelIdeal8.nD Cert.KernelIdeal8.τ Cert.KernelIdeal8.sig) → Buf (Elt Ideal) ℓ) (g : Dev Cert.KernelIdeal8.nD → PrngReg), Pre_KernelIdeal8 m →
    θ_run (Cert.KernelIdeal8.defs (F := Ideal)) (onTc (τ := Cert.KernelIdeal8.τ) (Cert.KernelIdeal8.main (F := Ideal))) ⟨m, fun _ => 0, g⟩ (fun r => (∀ c : Dev Cert.KernelIdeal8.nD,
      r.2.mem ((c.tc : Thread Cert.KernelIdeal8.nD Cert.KernelIdeal8.τ).loc Cert.KernelIdeal8.main_arg0) = m ((c.tc : Thread Cert.KernelIdeal8.nD Cert.KernelIdeal8.τ).loc Cert.KernelIdeal8.main_arg0)
      ∧ r.2.mem ((c.tc : Thread Cert.KernelIdeal8.nD Cert.KernelIdeal8.τ).loc Cert.KernelIdeal8.main_arg1) = m ((c.tc : Thread Cert.KernelIdeal8.nD Cert.KernelIdeal8.τ).loc Cert.KernelIdeal8.main_arg1)
      ∧ r.2.mem ((c.tc : Thread Cert.KernelIdeal8.nD Cert.KernelIdeal8.τ).loc Cert.KernelIdeal8.main_arg2) = m ((c.tc : Thread Cert.KernelIdeal8.nD Cert.KernelIdeal8.τ).loc Cert.KernelIdeal8.main_arg2))
      ∧ r.2.sem = fun _ => 0)

def quiescent_ReferenceIdeal8 [hReferenceIdeal8 : Cert.ReferenceIdeal8.Facts] : Prop :=
  ∀ (m : (ℓ : Loc Cert.ReferenceIdeal8.nD Cert.ReferenceIdeal8.τ Cert.ReferenceIdeal8.sig) → Buf (Elt Ideal) ℓ) (g : Dev Cert.ReferenceIdeal8.nD → PrngReg), Pre_ReferenceIdeal8 m →
    θ_run (Cert.ReferenceIdeal8.defs (F := Ideal)) (onTc (τ := Cert.ReferenceIdeal8.τ) (Cert.ReferenceIdeal8.main (F := Ideal))) ⟨m, fun _ => 0, g⟩ (fun r => (∀ c : Dev Cert.ReferenceIdeal8.nD,
      r.2.mem ((c.tc : Thread Cert.ReferenceIdeal8.nD Cert.ReferenceIdeal8.τ).loc Cert.ReferenceIdeal8.main_arg0) = m ((c.tc : Thread Cert.ReferenceIdeal8.nD Cert.ReferenceIdeal8.τ).loc Cert.ReferenceIdeal8.main_arg0)
      ∧ r.2.mem ((c.tc : Thread Cert.ReferenceIdeal8.nD Cert.ReferenceIdeal8.τ).loc Cert.ReferenceIdeal8.main_arg1) = m ((c.tc : Thread Cert.ReferenceIdeal8.nD Cert.ReferenceIdeal8.τ).loc Cert.ReferenceIdeal8.main_arg1)
      ∧ r.2.mem ((c.tc : Thread Cert.ReferenceIdeal8.nD Cert.ReferenceIdeal8.τ).loc Cert.ReferenceIdeal8.main_arg2) = m ((c.tc : Thread Cert.ReferenceIdeal8.nD Cert.ReferenceIdeal8.τ).loc Cert.ReferenceIdeal8.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_KernelIdeal9 [hKernelIdeal9 : Cert.KernelIdeal9.Facts] : Prop :=
  ∀ (m : (ℓ : Loc Cert.KernelIdeal9.nD Cert.KernelIdeal9.τ Cert.KernelIdeal9.sig) → Buf (Elt Ideal) ℓ) (g : Dev Cert.KernelIdeal9.nD → PrngReg), Pre_KernelIdeal9 m →
    θ_run (Cert.KernelIdeal9.defs (F := Ideal)) (onTc (τ := Cert.KernelIdeal9.τ) (Cert.KernelIdeal9.main (F := Ideal))) ⟨m, fun _ => 0, g⟩ (fun r => (∀ c : Dev Cert.KernelIdeal9.nD,
      r.2.mem ((c.tc : Thread Cert.KernelIdeal9.nD Cert.KernelIdeal9.τ).loc Cert.KernelIdeal9.main_arg0) = m ((c.tc : Thread Cert.KernelIdeal9.nD Cert.KernelIdeal9.τ).loc Cert.KernelIdeal9.main_arg0)
      ∧ r.2.mem ((c.tc : Thread Cert.KernelIdeal9.nD Cert.KernelIdeal9.τ).loc Cert.KernelIdeal9.main_arg1) = m ((c.tc : Thread Cert.KernelIdeal9.nD Cert.KernelIdeal9.τ).loc Cert.KernelIdeal9.main_arg1))
      ∧ r.2.sem = fun _ => 0)

def quiescent_ReferenceIdeal9 [hReferenceIdeal9 : Cert.ReferenceIdeal9.Facts] : Prop :=
  ∀ (m : (ℓ : Loc Cert.ReferenceIdeal9.nD Cert.ReferenceIdeal9.τ Cert.ReferenceIdeal9.sig) → Buf (Elt Ideal) ℓ) (g : Dev Cert.ReferenceIdeal9.nD → PrngReg), Pre_ReferenceIdeal9 m →
    θ_run (Cert.ReferenceIdeal9.defs (F := Ideal)) (onTc (τ := Cert.ReferenceIdeal9.τ) (Cert.ReferenceIdeal9.main (F := Ideal))) ⟨m, fun _ => 0, g⟩ (fun r => (∀ c : Dev Cert.ReferenceIdeal9.nD,
      r.2.mem ((c.tc : Thread Cert.ReferenceIdeal9.nD Cert.ReferenceIdeal9.τ).loc Cert.ReferenceIdeal9.main_arg0) = m ((c.tc : Thread Cert.ReferenceIdeal9.nD Cert.ReferenceIdeal9.τ).loc Cert.ReferenceIdeal9.main_arg0)
      ∧ r.2.mem ((c.tc : Thread Cert.ReferenceIdeal9.nD Cert.ReferenceIdeal9.τ).loc Cert.ReferenceIdeal9.main_arg1) = m ((c.tc : Thread Cert.ReferenceIdeal9.nD Cert.ReferenceIdeal9.τ).loc Cert.ReferenceIdeal9.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_KernelIdeal10 [hKernelIdeal10 : Cert.KernelIdeal10.Facts] : Prop :=
  ∀ (m : (ℓ : Loc Cert.KernelIdeal10.nD Cert.KernelIdeal10.τ Cert.KernelIdeal10.sig) → Buf (Elt Ideal) ℓ) (g : Dev Cert.KernelIdeal10.nD → PrngReg), Pre_KernelIdeal10 m →
    θ_run (Cert.KernelIdeal10.defs (F := Ideal)) (onTc (τ := Cert.KernelIdeal10.τ) (Cert.KernelIdeal10.main (F := Ideal))) ⟨m, fun _ => 0, g⟩ (fun r => (∀ c : Dev Cert.KernelIdeal10.nD,
      r.2.mem ((c.tc : Thread Cert.KernelIdeal10.nD Cert.KernelIdeal10.τ).loc Cert.KernelIdeal10.main_arg0) = m ((c.tc : Thread Cert.KernelIdeal10.nD Cert.KernelIdeal10.τ).loc Cert.KernelIdeal10.main_arg0)
      ∧ r.2.mem ((c.tc : Thread Cert.KernelIdeal10.nD Cert.KernelIdeal10.τ).loc Cert.KernelIdeal10.main_arg1) = m ((c.tc : Thread Cert.KernelIdeal10.nD Cert.KernelIdeal10.τ).loc Cert.KernelIdeal10.main_arg1)
      ∧ r.2.mem ((c.tc : Thread Cert.KernelIdeal10.nD Cert.KernelIdeal10.τ).loc Cert.KernelIdeal10.main_arg2) = m ((c.tc : Thread Cert.KernelIdeal10.nD Cert.KernelIdeal10.τ).loc Cert.KernelIdeal10.main_arg2))
      ∧ r.2.sem = fun _ => 0)

def quiescent_ReferenceIdeal10 [hReferenceIdeal10 : Cert.ReferenceIdeal10.Facts] : Prop :=
  ∀ (m : (ℓ : Loc Cert.ReferenceIdeal10.nD Cert.ReferenceIdeal10.τ Cert.ReferenceIdeal10.sig) → Buf (Elt Ideal) ℓ) (g : Dev Cert.ReferenceIdeal10.nD → PrngReg), Pre_ReferenceIdeal10 m →
    θ_run (Cert.ReferenceIdeal10.defs (F := Ideal)) (onTc (τ := Cert.ReferenceIdeal10.τ) (Cert.ReferenceIdeal10.main (F := Ideal))) ⟨m, fun _ => 0, g⟩ (fun r => (∀ c : Dev Cert.ReferenceIdeal10.nD,
      r.2.mem ((c.tc : Thread Cert.ReferenceIdeal10.nD Cert.ReferenceIdeal10.τ).loc Cert.ReferenceIdeal10.main_arg0) = m ((c.tc : Thread Cert.ReferenceIdeal10.nD Cert.ReferenceIdeal10.τ).loc Cert.ReferenceIdeal10.main_arg0)
      ∧ r.2.mem ((c.tc : Thread Cert.ReferenceIdeal10.nD Cert.ReferenceIdeal10.τ).loc Cert.ReferenceIdeal10.main_arg1) = m ((c.tc : Thread Cert.ReferenceIdeal10.nD Cert.ReferenceIdeal10.τ).loc Cert.ReferenceIdeal10.main_arg1)
      ∧ r.2.mem ((c.tc : Thread Cert.ReferenceIdeal10.nD Cert.ReferenceIdeal10.τ).loc Cert.ReferenceIdeal10.main_arg2) = m ((c.tc : Thread Cert.ReferenceIdeal10.nD Cert.ReferenceIdeal10.τ).loc Cert.ReferenceIdeal10.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_KernelIdeal11 [hKernelIdeal11 : Cert.KernelIdeal11.Facts] : Prop :=
  ∀ (m : (ℓ : Loc Cert.KernelIdeal11.nD Cert.KernelIdeal11.τ Cert.KernelIdeal11.sig) → Buf (Elt Ideal) ℓ) (g : Dev Cert.KernelIdeal11.nD → PrngReg), Pre_KernelIdeal11 m →
    θ_run (Cert.KernelIdeal11.defs (F := Ideal)) (onTc (τ := Cert.KernelIdeal11.τ) (Cert.KernelIdeal11.main (F := Ideal))) ⟨m, fun _ => 0, g⟩ (fun r => (∀ c : Dev Cert.KernelIdeal11.nD,
      r.2.mem ((c.tc : Thread Cert.KernelIdeal11.nD Cert.KernelIdeal11.τ).loc Cert.KernelIdeal11.main_arg0) = m ((c.tc : Thread Cert.KernelIdeal11.nD Cert.KernelIdeal11.τ).loc Cert.KernelIdeal11.main_arg0)
      ∧ r.2.mem ((c.tc : Thread Cert.KernelIdeal11.nD Cert.KernelIdeal11.τ).loc Cert.KernelIdeal11.main_arg1) = m ((c.tc : Thread Cert.KernelIdeal11.nD Cert.KernelIdeal11.τ).loc Cert.KernelIdeal11.main_arg1)
      ∧ r.2.mem ((c.tc : Thread Cert.KernelIdeal11.nD Cert.KernelIdeal11.τ).loc Cert.KernelIdeal11.main_arg2) = m ((c.tc : Thread Cert.KernelIdeal11.nD Cert.KernelIdeal11.τ).loc Cert.KernelIdeal11.main_arg2)
      ∧ r.2.mem ((c.tc : Thread Cert.KernelIdeal11.nD Cert.KernelIdeal11.τ).loc Cert.KernelIdeal11.main_arg3) = m ((c.tc : Thread Cert.KernelIdeal11.nD Cert.KernelIdeal11.τ).loc Cert.KernelIdeal11.main_arg3))
      ∧ r.2.sem = fun _ => 0)

def quiescent_ReferenceIdeal11 [hReferenceIdeal11 : Cert.ReferenceIdeal11.Facts] : Prop :=
  ∀ (m : (ℓ : Loc Cert.ReferenceIdeal11.nD Cert.ReferenceIdeal11.τ Cert.ReferenceIdeal11.sig) → Buf (Elt Ideal) ℓ) (g : Dev Cert.ReferenceIdeal11.nD → PrngReg), Pre_ReferenceIdeal11 m →
    θ_run (Cert.ReferenceIdeal11.defs (F := Ideal)) (onTc (τ := Cert.ReferenceIdeal11.τ) (Cert.ReferenceIdeal11.main (F := Ideal))) ⟨m, fun _ => 0, g⟩ (fun r => (∀ c : Dev Cert.ReferenceIdeal11.nD,
      r.2.mem ((c.tc : Thread Cert.ReferenceIdeal11.nD Cert.ReferenceIdeal11.τ).loc Cert.ReferenceIdeal11.main_arg0) = m ((c.tc : Thread Cert.ReferenceIdeal11.nD Cert.ReferenceIdeal11.τ).loc Cert.ReferenceIdeal11.main_arg0)
      ∧ r.2.mem ((c.tc : Thread Cert.ReferenceIdeal11.nD Cert.ReferenceIdeal11.τ).loc Cert.ReferenceIdeal11.main_arg1) = m ((c.tc : Thread Cert.ReferenceIdeal11.nD Cert.ReferenceIdeal11.τ).loc Cert.ReferenceIdeal11.main_arg1)
      ∧ r.2.mem ((c.tc : Thread Cert.ReferenceIdeal11.nD Cert.ReferenceIdeal11.τ).loc Cert.ReferenceIdeal11.main_arg2) = m ((c.tc : Thread Cert.ReferenceIdeal11.nD Cert.ReferenceIdeal11.τ).loc Cert.ReferenceIdeal11.main_arg2)
      ∧ r.2.mem ((c.tc : Thread Cert.ReferenceIdeal11.nD Cert.ReferenceIdeal11.τ).loc Cert.ReferenceIdeal11.main_arg3) = m ((c.tc : Thread Cert.ReferenceIdeal11.nD Cert.ReferenceIdeal11.τ).loc Cert.ReferenceIdeal11.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_KernelIdeal12 [hKernelIdeal12 : Cert.KernelIdeal12.Facts] : Prop :=
  ∀ (m : (ℓ : Loc Cert.KernelIdeal12.nD Cert.KernelIdeal12.τ Cert.KernelIdeal12.sig) → Buf (Elt Ideal) ℓ) (g : Dev Cert.KernelIdeal12.nD → PrngReg), Pre_KernelIdeal12 m →
    θ_run (Cert.KernelIdeal12.defs (F := Ideal)) (onTc (τ := Cert.KernelIdeal12.τ) (Cert.KernelIdeal12.main (F := Ideal))) ⟨m, fun _ => 0, g⟩ (fun r => (∀ c : Dev Cert.KernelIdeal12.nD,
      r.2.mem ((c.tc : Thread Cert.KernelIdeal12.nD Cert.KernelIdeal12.τ).loc Cert.KernelIdeal12.main_arg0) = m ((c.tc : Thread Cert.KernelIdeal12.nD Cert.KernelIdeal12.τ).loc Cert.KernelIdeal12.main_arg0)
      ∧ r.2.mem ((c.tc : Thread Cert.KernelIdeal12.nD Cert.KernelIdeal12.τ).loc Cert.KernelIdeal12.main_arg1) = m ((c.tc : Thread Cert.KernelIdeal12.nD Cert.KernelIdeal12.τ).loc Cert.KernelIdeal12.main_arg1)
      ∧ r.2.mem ((c.tc : Thread Cert.KernelIdeal12.nD Cert.KernelIdeal12.τ).loc Cert.KernelIdeal12.main_arg2) = m ((c.tc : Thread Cert.KernelIdeal12.nD Cert.KernelIdeal12.τ).loc Cert.KernelIdeal12.main_arg2)
      ∧ r.2.mem ((c.tc : Thread Cert.KernelIdeal12.nD Cert.KernelIdeal12.τ).loc Cert.KernelIdeal12.main_arg3) = m ((c.tc : Thread Cert.KernelIdeal12.nD Cert.KernelIdeal12.τ).loc Cert.KernelIdeal12.main_arg3)
      ∧ r.2.mem ((c.tc : Thread Cert.KernelIdeal12.nD Cert.KernelIdeal12.τ).loc Cert.KernelIdeal12.main_arg4) = m ((c.tc : Thread Cert.KernelIdeal12.nD Cert.KernelIdeal12.τ).loc Cert.KernelIdeal12.main_arg4))
      ∧ r.2.sem = fun _ => 0)

def quiescent_ReferenceIdeal12 [hReferenceIdeal12 : Cert.ReferenceIdeal12.Facts] : Prop :=
  ∀ (m : (ℓ : Loc Cert.ReferenceIdeal12.nD Cert.ReferenceIdeal12.τ Cert.ReferenceIdeal12.sig) → Buf (Elt Ideal) ℓ) (g : Dev Cert.ReferenceIdeal12.nD → PrngReg), Pre_ReferenceIdeal12 m →
    θ_run (Cert.ReferenceIdeal12.defs (F := Ideal)) (onTc (τ := Cert.ReferenceIdeal12.τ) (Cert.ReferenceIdeal12.main (F := Ideal))) ⟨m, fun _ => 0, g⟩ (fun r => (∀ c : Dev Cert.ReferenceIdeal12.nD,
      r.2.mem ((c.tc : Thread Cert.ReferenceIdeal12.nD Cert.ReferenceIdeal12.τ).loc Cert.ReferenceIdeal12.main_arg0) = m ((c.tc : Thread Cert.ReferenceIdeal12.nD Cert.ReferenceIdeal12.τ).loc Cert.ReferenceIdeal12.main_arg0)
      ∧ r.2.mem ((c.tc : Thread Cert.ReferenceIdeal12.nD Cert.ReferenceIdeal12.τ).loc Cert.ReferenceIdeal12.main_arg1) = m ((c.tc : Thread Cert.ReferenceIdeal12.nD Cert.ReferenceIdeal12.τ).loc Cert.ReferenceIdeal12.main_arg1)
      ∧ r.2.mem ((c.tc : Thread Cert.ReferenceIdeal12.nD Cert.ReferenceIdeal12.τ).loc Cert.ReferenceIdeal12.main_arg2) = m ((c.tc : Thread Cert.ReferenceIdeal12.nD Cert.ReferenceIdeal12.τ).loc Cert.ReferenceIdeal12.main_arg2)
      ∧ r.2.mem ((c.tc : Thread Cert.ReferenceIdeal12.nD Cert.ReferenceIdeal12.τ).loc Cert.ReferenceIdeal12.main_arg3) = m ((c.tc : Thread Cert.ReferenceIdeal12.nD Cert.ReferenceIdeal12.τ).loc Cert.ReferenceIdeal12.main_arg3)
      ∧ r.2.mem ((c.tc : Thread Cert.ReferenceIdeal12.nD Cert.ReferenceIdeal12.τ).loc Cert.ReferenceIdeal12.main_arg4) = m ((c.tc : Thread Cert.ReferenceIdeal12.nD Cert.ReferenceIdeal12.τ).loc Cert.ReferenceIdeal12.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_KernelIdeal13 [hKernelIdeal13 : Cert.KernelIdeal13.Facts] : Prop :=
  ∀ (m : (ℓ : Loc Cert.KernelIdeal13.nD Cert.KernelIdeal13.τ Cert.KernelIdeal13.sig) → Buf (Elt Ideal) ℓ) (g : Dev Cert.KernelIdeal13.nD → PrngReg), Pre_KernelIdeal13 m →
    θ_run (Cert.KernelIdeal13.defs (F := Ideal)) (onTc (τ := Cert.KernelIdeal13.τ) (Cert.KernelIdeal13.main (F := Ideal))) ⟨m, fun _ => 0, g⟩ (fun r => (∀ c : Dev Cert.KernelIdeal13.nD,
      r.2.mem ((c.tc : Thread Cert.KernelIdeal13.nD Cert.KernelIdeal13.τ).loc Cert.KernelIdeal13.main_arg0) = m ((c.tc : Thread Cert.KernelIdeal13.nD Cert.KernelIdeal13.τ).loc Cert.KernelIdeal13.main_arg0)
      ∧ r.2.mem ((c.tc : Thread Cert.KernelIdeal13.nD Cert.KernelIdeal13.τ).loc Cert.KernelIdeal13.main_arg1) = m ((c.tc : Thread Cert.KernelIdeal13.nD Cert.KernelIdeal13.τ).loc Cert.KernelIdeal13.main_arg1)
      ∧ r.2.mem ((c.tc : Thread Cert.KernelIdeal13.nD Cert.KernelIdeal13.τ).loc Cert.KernelIdeal13.main_arg2) = m ((c.tc : Thread Cert.KernelIdeal13.nD Cert.KernelIdeal13.τ).loc Cert.KernelIdeal13.main_arg2)
      ∧ r.2.mem ((c.tc : Thread Cert.KernelIdeal13.nD Cert.KernelIdeal13.τ).loc Cert.KernelIdeal13.main_arg3) = m ((c.tc : Thread Cert.KernelIdeal13.nD Cert.KernelIdeal13.τ).loc Cert.KernelIdeal13.main_arg3)
      ∧ r.2.mem ((c.tc : Thread Cert.KernelIdeal13.nD Cert.KernelIdeal13.τ).loc Cert.KernelIdeal13.main_arg4) = m ((c.tc : Thread Cert.KernelIdeal13.nD Cert.KernelIdeal13.τ).loc Cert.KernelIdeal13.main_arg4))
      ∧ r.2.sem = fun _ => 0)

def quiescent_ReferenceIdeal13 [hReferenceIdeal13 : Cert.ReferenceIdeal13.Facts] : Prop :=
  ∀ (m : (ℓ : Loc Cert.ReferenceIdeal13.nD Cert.ReferenceIdeal13.τ Cert.ReferenceIdeal13.sig) → Buf (Elt Ideal) ℓ) (g : Dev Cert.ReferenceIdeal13.nD → PrngReg), Pre_ReferenceIdeal13 m →
    θ_run (Cert.ReferenceIdeal13.defs (F := Ideal)) (onTc (τ := Cert.ReferenceIdeal13.τ) (Cert.ReferenceIdeal13.main (F := Ideal))) ⟨m, fun _ => 0, g⟩ (fun r => (∀ c : Dev Cert.ReferenceIdeal13.nD,
      r.2.mem ((c.tc : Thread Cert.ReferenceIdeal13.nD Cert.ReferenceIdeal13.τ).loc Cert.ReferenceIdeal13.main_arg0) = m ((c.tc : Thread Cert.ReferenceIdeal13.nD Cert.ReferenceIdeal13.τ).loc Cert.ReferenceIdeal13.main_arg0)
      ∧ r.2.mem ((c.tc : Thread Cert.ReferenceIdeal13.nD Cert.ReferenceIdeal13.τ).loc Cert.ReferenceIdeal13.main_arg1) = m ((c.tc : Thread Cert.ReferenceIdeal13.nD Cert.ReferenceIdeal13.τ).loc Cert.ReferenceIdeal13.main_arg1)
      ∧ r.2.mem ((c.tc : Thread Cert.ReferenceIdeal13.nD Cert.ReferenceIdeal13.τ).loc Cert.ReferenceIdeal13.main_arg2) = m ((c.tc : Thread Cert.ReferenceIdeal13.nD Cert.ReferenceIdeal13.τ).loc Cert.ReferenceIdeal13.main_arg2)
      ∧ r.2.mem ((c.tc : Thread Cert.ReferenceIdeal13.nD Cert.ReferenceIdeal13.τ).loc Cert.ReferenceIdeal13.main_arg3) = m ((c.tc : Thread Cert.ReferenceIdeal13.nD Cert.ReferenceIdeal13.τ).loc Cert.ReferenceIdeal13.main_arg3)
      ∧ r.2.mem ((c.tc : Thread Cert.ReferenceIdeal13.nD Cert.ReferenceIdeal13.τ).loc Cert.ReferenceIdeal13.main_arg4) = m ((c.tc : Thread Cert.ReferenceIdeal13.nD Cert.ReferenceIdeal13.τ).loc Cert.ReferenceIdeal13.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_KernelIdeal14 [hKernelIdeal14 : Cert.KernelIdeal14.Facts] : Prop :=
  ∀ (m : (ℓ : Loc Cert.KernelIdeal14.nD Cert.KernelIdeal14.τ Cert.KernelIdeal14.sig) → Buf (Elt Ideal) ℓ) (g : Dev Cert.KernelIdeal14.nD → PrngReg), Pre_KernelIdeal14 m →
    θ_run (Cert.KernelIdeal14.defs (F := Ideal)) (onTc (τ := Cert.KernelIdeal14.τ) (Cert.KernelIdeal14.main (F := Ideal))) ⟨m, fun _ => 0, g⟩ (fun r => (∀ c : Dev Cert.KernelIdeal14.nD,
      r.2.mem ((c.tc : Thread Cert.KernelIdeal14.nD Cert.KernelIdeal14.τ).loc Cert.KernelIdeal14.main_arg0) = m ((c.tc : Thread Cert.KernelIdeal14.nD Cert.KernelIdeal14.τ).loc Cert.KernelIdeal14.main_arg0)
      ∧ r.2.mem ((c.tc : Thread Cert.KernelIdeal14.nD Cert.KernelIdeal14.τ).loc Cert.KernelIdeal14.main_arg1) = m ((c.tc : Thread Cert.KernelIdeal14.nD Cert.KernelIdeal14.τ).loc Cert.KernelIdeal14.main_arg1)
      ∧ r.2.mem ((c.tc : Thread Cert.KernelIdeal14.nD Cert.KernelIdeal14.τ).loc Cert.KernelIdeal14.main_arg2) = m ((c.tc : Thread Cert.KernelIdeal14.nD Cert.KernelIdeal14.τ).loc Cert.KernelIdeal14.main_arg2)
      ∧ r.2.mem ((c.tc : Thread Cert.KernelIdeal14.nD Cert.KernelIdeal14.τ).loc Cert.KernelIdeal14.main_arg3) = m ((c.tc : Thread Cert.KernelIdeal14.nD Cert.KernelIdeal14.τ).loc Cert.KernelIdeal14.main_arg3)
      ∧ r.2.mem ((c.tc : Thread Cert.KernelIdeal14.nD Cert.KernelIdeal14.τ).loc Cert.KernelIdeal14.main_arg4) = m ((c.tc : Thread Cert.KernelIdeal14.nD Cert.KernelIdeal14.τ).loc Cert.KernelIdeal14.main_arg4))
      ∧ r.2.sem = fun _ => 0)

def quiescent_ReferenceIdeal14 [hReferenceIdeal14 : Cert.ReferenceIdeal14.Facts] : Prop :=
  ∀ (m : (ℓ : Loc Cert.ReferenceIdeal14.nD Cert.ReferenceIdeal14.τ Cert.ReferenceIdeal14.sig) → Buf (Elt Ideal) ℓ) (g : Dev Cert.ReferenceIdeal14.nD → PrngReg), Pre_ReferenceIdeal14 m →
    θ_run (Cert.ReferenceIdeal14.defs (F := Ideal)) (onTc (τ := Cert.ReferenceIdeal14.τ) (Cert.ReferenceIdeal14.main (F := Ideal))) ⟨m, fun _ => 0, g⟩ (fun r => (∀ c : Dev Cert.ReferenceIdeal14.nD,
      r.2.mem ((c.tc : Thread Cert.ReferenceIdeal14.nD Cert.ReferenceIdeal14.τ).loc Cert.ReferenceIdeal14.main_arg0) = m ((c.tc : Thread Cert.ReferenceIdeal14.nD Cert.ReferenceIdeal14.τ).loc Cert.ReferenceIdeal14.main_arg0)
      ∧ r.2.mem ((c.tc : Thread Cert.ReferenceIdeal14.nD Cert.ReferenceIdeal14.τ).loc Cert.ReferenceIdeal14.main_arg1) = m ((c.tc : Thread Cert.ReferenceIdeal14.nD Cert.ReferenceIdeal14.τ).loc Cert.ReferenceIdeal14.main_arg1)
      ∧ r.2.mem ((c.tc : Thread Cert.ReferenceIdeal14.nD Cert.ReferenceIdeal14.τ).loc Cert.ReferenceIdeal14.main_arg2) = m ((c.tc : Thread Cert.ReferenceIdeal14.nD Cert.ReferenceIdeal14.τ).loc Cert.ReferenceIdeal14.main_arg2)
      ∧ r.2.mem ((c.tc : Thread Cert.ReferenceIdeal14.nD Cert.ReferenceIdeal14.τ).loc Cert.ReferenceIdeal14.main_arg3) = m ((c.tc : Thread Cert.ReferenceIdeal14.nD Cert.ReferenceIdeal14.τ).loc Cert.ReferenceIdeal14.main_arg3)
      ∧ r.2.mem ((c.tc : Thread Cert.ReferenceIdeal14.nD Cert.ReferenceIdeal14.τ).loc Cert.ReferenceIdeal14.main_arg4) = m ((c.tc : Thread Cert.ReferenceIdeal14.nD Cert.ReferenceIdeal14.τ).loc Cert.ReferenceIdeal14.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_KernelIdeal15 [hKernelIdeal15 : Cert.KernelIdeal15.Facts] : Prop :=
  ∀ (m : (ℓ : Loc Cert.KernelIdeal15.nD Cert.KernelIdeal15.τ Cert.KernelIdeal15.sig) → Buf (Elt Ideal) ℓ) (g : Dev Cert.KernelIdeal15.nD → PrngReg), Pre_KernelIdeal15 m →
    θ_run (Cert.KernelIdeal15.defs (F := Ideal)) (onTc (τ := Cert.KernelIdeal15.τ) (Cert.KernelIdeal15.main (F := Ideal))) ⟨m, fun _ => 0, g⟩ (fun r => (∀ c : Dev Cert.KernelIdeal15.nD,
      r.2.mem ((c.tc : Thread Cert.KernelIdeal15.nD Cert.KernelIdeal15.τ).loc Cert.KernelIdeal15.main_arg0) = m ((c.tc : Thread Cert.KernelIdeal15.nD Cert.KernelIdeal15.τ).loc Cert.KernelIdeal15.main_arg0)
      ∧ r.2.mem ((c.tc : Thread Cert.KernelIdeal15.nD Cert.KernelIdeal15.τ).loc Cert.KernelIdeal15.main_arg1) = m ((c.tc : Thread Cert.KernelIdeal15.nD Cert.KernelIdeal15.τ).loc Cert.KernelIdeal15.main_arg1)
      ∧ r.2.mem ((c.tc : Thread Cert.KernelIdeal15.nD Cert.KernelIdeal15.τ).loc Cert.KernelIdeal15.main_arg2) = m ((c.tc : Thread Cert.KernelIdeal15.nD Cert.KernelIdeal15.τ).loc Cert.KernelIdeal15.main_arg2)
      ∧ r.2.mem ((c.tc : Thread Cert.KernelIdeal15.nD Cert.KernelIdeal15.τ).loc Cert.KernelIdeal15.main_arg3) = m ((c.tc : Thread Cert.KernelIdeal15.nD Cert.KernelIdeal15.τ).loc Cert.KernelIdeal15.main_arg3)
      ∧ r.2.mem ((c.tc : Thread Cert.KernelIdeal15.nD Cert.KernelIdeal15.τ).loc Cert.KernelIdeal15.main_arg4) = m ((c.tc : Thread Cert.KernelIdeal15.nD Cert.KernelIdeal15.τ).loc Cert.KernelIdeal15.main_arg4))
      ∧ r.2.sem = fun _ => 0)

def quiescent_ReferenceIdeal15 [hReferenceIdeal15 : Cert.ReferenceIdeal15.Facts] : Prop :=
  ∀ (m : (ℓ : Loc Cert.ReferenceIdeal15.nD Cert.ReferenceIdeal15.τ Cert.ReferenceIdeal15.sig) → Buf (Elt Ideal) ℓ) (g : Dev Cert.ReferenceIdeal15.nD → PrngReg), Pre_ReferenceIdeal15 m →
    θ_run (Cert.ReferenceIdeal15.defs (F := Ideal)) (onTc (τ := Cert.ReferenceIdeal15.τ) (Cert.ReferenceIdeal15.main (F := Ideal))) ⟨m, fun _ => 0, g⟩ (fun r => (∀ c : Dev Cert.ReferenceIdeal15.nD,
      r.2.mem ((c.tc : Thread Cert.ReferenceIdeal15.nD Cert.ReferenceIdeal15.τ).loc Cert.ReferenceIdeal15.main_arg0) = m ((c.tc : Thread Cert.ReferenceIdeal15.nD Cert.ReferenceIdeal15.τ).loc Cert.ReferenceIdeal15.main_arg0)
      ∧ r.2.mem ((c.tc : Thread Cert.ReferenceIdeal15.nD Cert.ReferenceIdeal15.τ).loc Cert.ReferenceIdeal15.main_arg1) = m ((c.tc : Thread Cert.ReferenceIdeal15.nD Cert.ReferenceIdeal15.τ).loc Cert.ReferenceIdeal15.main_arg1)
      ∧ r.2.mem ((c.tc : Thread Cert.ReferenceIdeal15.nD Cert.ReferenceIdeal15.τ).loc Cert.ReferenceIdeal15.main_arg2) = m ((c.tc : Thread Cert.ReferenceIdeal15.nD Cert.ReferenceIdeal15.τ).loc Cert.ReferenceIdeal15.main_arg2)
      ∧ r.2.mem ((c.tc : Thread Cert.ReferenceIdeal15.nD Cert.ReferenceIdeal15.τ).loc Cert.ReferenceIdeal15.main_arg3) = m ((c.tc : Thread Cert.ReferenceIdeal15.nD Cert.ReferenceIdeal15.τ).loc Cert.ReferenceIdeal15.main_arg3)
      ∧ r.2.mem ((c.tc : Thread Cert.ReferenceIdeal15.nD Cert.ReferenceIdeal15.τ).loc Cert.ReferenceIdeal15.main_arg4) = m ((c.tc : Thread Cert.ReferenceIdeal15.nD Cert.ReferenceIdeal15.τ).loc Cert.ReferenceIdeal15.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_KernelIdeal16 [hKernelIdeal16 : Cert.KernelIdeal16.Facts] : Prop :=
  ∀ (m : (ℓ : Loc Cert.KernelIdeal16.nD Cert.KernelIdeal16.τ Cert.KernelIdeal16.sig) → Buf (Elt Ideal) ℓ) (g : Dev Cert.KernelIdeal16.nD → PrngReg), Pre_KernelIdeal16 m →
    θ_run (Cert.KernelIdeal16.defs (F := Ideal)) (onTc (τ := Cert.KernelIdeal16.τ) (Cert.KernelIdeal16.main (F := Ideal))) ⟨m, fun _ => 0, g⟩ (fun r => (∀ c : Dev Cert.KernelIdeal16.nD,
      r.2.mem ((c.tc : Thread Cert.KernelIdeal16.nD Cert.KernelIdeal16.τ).loc Cert.KernelIdeal16.main_arg0) = m ((c.tc : Thread Cert.KernelIdeal16.nD Cert.KernelIdeal16.τ).loc Cert.KernelIdeal16.main_arg0)
      ∧ r.2.mem ((c.tc : Thread Cert.KernelIdeal16.nD Cert.KernelIdeal16.τ).loc Cert.KernelIdeal16.main_arg1) = m ((c.tc : Thread Cert.KernelIdeal16.nD Cert.KernelIdeal16.τ).loc Cert.KernelIdeal16.main_arg1)
      ∧ r.2.mem ((c.tc : Thread Cert.KernelIdeal16.nD Cert.KernelIdeal16.τ).loc Cert.KernelIdeal16.main_arg2) = m ((c.tc : Thread Cert.KernelIdeal16.nD Cert.KernelIdeal16.τ).loc Cert.KernelIdeal16.main_arg2)
      ∧ r.2.mem ((c.tc : Thread Cert.KernelIdeal16.nD Cert.KernelIdeal16.τ).loc Cert.KernelIdeal16.main_arg3) = m ((c.tc : Thread Cert.KernelIdeal16.nD Cert.KernelIdeal16.τ).loc Cert.KernelIdeal16.main_arg3))
      ∧ r.2.sem = fun _ => 0)

def quiescent_ReferenceIdeal16 [hReferenceIdeal16 : Cert.ReferenceIdeal16.Facts] : Prop :=
  ∀ (m : (ℓ : Loc Cert.ReferenceIdeal16.nD Cert.ReferenceIdeal16.τ Cert.ReferenceIdeal16.sig) → Buf (Elt Ideal) ℓ) (g : Dev Cert.ReferenceIdeal16.nD → PrngReg), Pre_ReferenceIdeal16 m →
    θ_run (Cert.ReferenceIdeal16.defs (F := Ideal)) (onTc (τ := Cert.ReferenceIdeal16.τ) (Cert.ReferenceIdeal16.main (F := Ideal))) ⟨m, fun _ => 0, g⟩ (fun r => (∀ c : Dev Cert.ReferenceIdeal16.nD,
      r.2.mem ((c.tc : Thread Cert.ReferenceIdeal16.nD Cert.ReferenceIdeal16.τ).loc Cert.ReferenceIdeal16.main_arg0) = m ((c.tc : Thread Cert.ReferenceIdeal16.nD Cert.ReferenceIdeal16.τ).loc Cert.ReferenceIdeal16.main_arg0)
      ∧ r.2.mem ((c.tc : Thread Cert.ReferenceIdeal16.nD Cert.ReferenceIdeal16.τ).loc Cert.ReferenceIdeal16.main_arg1) = m ((c.tc : Thread Cert.ReferenceIdeal16.nD Cert.ReferenceIdeal16.τ).loc Cert.ReferenceIdeal16.main_arg1)
      ∧ r.2.mem ((c.tc : Thread Cert.ReferenceIdeal16.nD Cert.ReferenceIdeal16.τ).loc Cert.ReferenceIdeal16.main_arg2) = m ((c.tc : Thread Cert.ReferenceIdeal16.nD Cert.ReferenceIdeal16.τ).loc Cert.ReferenceIdeal16.main_arg2)
      ∧ r.2.mem ((c.tc : Thread Cert.ReferenceIdeal16.nD Cert.ReferenceIdeal16.τ).loc Cert.ReferenceIdeal16.main_arg3) = m ((c.tc : Thread Cert.ReferenceIdeal16.nD Cert.ReferenceIdeal16.τ).loc Cert.ReferenceIdeal16.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_KernelIdeal17 [hKernelIdeal17 : Cert.KernelIdeal17.Facts] : Prop :=
  ∀ (m : (ℓ : Loc Cert.KernelIdeal17.nD Cert.KernelIdeal17.τ Cert.KernelIdeal17.sig) → Buf (Elt Ideal) ℓ) (g : Dev Cert.KernelIdeal17.nD → PrngReg), Pre_KernelIdeal17 m →
    θ_run (Cert.KernelIdeal17.defs (F := Ideal)) (onTc (τ := Cert.KernelIdeal17.τ) (Cert.KernelIdeal17.main (F := Ideal))) ⟨m, fun _ => 0, g⟩ (fun r => (∀ c : Dev Cert.KernelIdeal17.nD,
      r.2.mem ((c.tc : Thread Cert.KernelIdeal17.nD Cert.KernelIdeal17.τ).loc Cert.KernelIdeal17.main_arg0) = m ((c.tc : Thread Cert.KernelIdeal17.nD Cert.KernelIdeal17.τ).loc Cert.KernelIdeal17.main_arg0)
      ∧ r.2.mem ((c.tc : Thread Cert.KernelIdeal17.nD Cert.KernelIdeal17.τ).loc Cert.KernelIdeal17.main_arg1) = m ((c.tc : Thread Cert.KernelIdeal17.nD Cert.KernelIdeal17.τ).loc Cert.KernelIdeal17.main_arg1)
      ∧ r.2.mem ((c.tc : Thread Cert.KernelIdeal17.nD Cert.KernelIdeal17.τ).loc Cert.KernelIdeal17.main_arg2) = m ((c.tc : Thread Cert.KernelIdeal17.nD Cert.KernelIdeal17.τ).loc Cert.KernelIdeal17.main_arg2)
      ∧ r.2.mem ((c.tc : Thread Cert.KernelIdeal17.nD Cert.KernelIdeal17.τ).loc Cert.KernelIdeal17.main_arg3) = m ((c.tc : Thread Cert.KernelIdeal17.nD Cert.KernelIdeal17.τ).loc Cert.KernelIdeal17.main_arg3))
      ∧ r.2.sem = fun _ => 0)

def quiescent_ReferenceIdeal17 [hReferenceIdeal17 : Cert.ReferenceIdeal17.Facts] : Prop :=
  ∀ (m : (ℓ : Loc Cert.ReferenceIdeal17.nD Cert.ReferenceIdeal17.τ Cert.ReferenceIdeal17.sig) → Buf (Elt Ideal) ℓ) (g : Dev Cert.ReferenceIdeal17.nD → PrngReg), Pre_ReferenceIdeal17 m →
    θ_run (Cert.ReferenceIdeal17.defs (F := Ideal)) (onTc (τ := Cert.ReferenceIdeal17.τ) (Cert.ReferenceIdeal17.main (F := Ideal))) ⟨m, fun _ => 0, g⟩ (fun r => (∀ c : Dev Cert.ReferenceIdeal17.nD,
      r.2.mem ((c.tc : Thread Cert.ReferenceIdeal17.nD Cert.ReferenceIdeal17.τ).loc Cert.ReferenceIdeal17.main_arg0) = m ((c.tc : Thread Cert.ReferenceIdeal17.nD Cert.ReferenceIdeal17.τ).loc Cert.ReferenceIdeal17.main_arg0)
      ∧ r.2.mem ((c.tc : Thread Cert.ReferenceIdeal17.nD Cert.ReferenceIdeal17.τ).loc Cert.ReferenceIdeal17.main_arg1) = m ((c.tc : Thread Cert.ReferenceIdeal17.nD Cert.ReferenceIdeal17.τ).loc Cert.ReferenceIdeal17.main_arg1)
      ∧ r.2.mem ((c.tc : Thread Cert.ReferenceIdeal17.nD Cert.ReferenceIdeal17.τ).loc Cert.ReferenceIdeal17.main_arg2) = m ((c.tc : Thread Cert.ReferenceIdeal17.nD Cert.ReferenceIdeal17.τ).loc Cert.ReferenceIdeal17.main_arg2)
      ∧ r.2.mem ((c.tc : Thread Cert.ReferenceIdeal17.nD Cert.ReferenceIdeal17.τ).loc Cert.ReferenceIdeal17.main_arg3) = m ((c.tc : Thread Cert.ReferenceIdeal17.nD Cert.ReferenceIdeal17.τ).loc Cert.ReferenceIdeal17.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_KernelIdeal18 [hKernelIdeal18 : Cert.KernelIdeal18.Facts] : Prop :=
  ∀ (m : (ℓ : Loc Cert.KernelIdeal18.nD Cert.KernelIdeal18.τ Cert.KernelIdeal18.sig) → Buf (Elt Ideal) ℓ) (g : Dev Cert.KernelIdeal18.nD → PrngReg), Pre_KernelIdeal18 m →
    θ_run (Cert.KernelIdeal18.defs (F := Ideal)) (onTc (τ := Cert.KernelIdeal18.τ) (Cert.KernelIdeal18.main (F := Ideal))) ⟨m, fun _ => 0, g⟩ (fun r => (∀ c : Dev Cert.KernelIdeal18.nD,
      r.2.mem ((c.tc : Thread Cert.KernelIdeal18.nD Cert.KernelIdeal18.τ).loc Cert.KernelIdeal18.main_arg0) = m ((c.tc : Thread Cert.KernelIdeal18.nD Cert.KernelIdeal18.τ).loc Cert.KernelIdeal18.main_arg0)
      ∧ r.2.mem ((c.tc : Thread Cert.KernelIdeal18.nD Cert.KernelIdeal18.τ).loc Cert.KernelIdeal18.main_arg1) = m ((c.tc : Thread Cert.KernelIdeal18.nD Cert.KernelIdeal18.τ).loc Cert.KernelIdeal18.main_arg1))
      ∧ r.2.sem = fun _ => 0)

def quiescent_ReferenceIdeal18 [hReferenceIdeal18 : Cert.ReferenceIdeal18.Facts] : Prop :=
  ∀ (m : (ℓ : Loc Cert.ReferenceIdeal18.nD Cert.ReferenceIdeal18.τ Cert.ReferenceIdeal18.sig) → Buf (Elt Ideal) ℓ) (g : Dev Cert.ReferenceIdeal18.nD → PrngReg), Pre_ReferenceIdeal18 m →
    θ_run (Cert.ReferenceIdeal18.defs (F := Ideal)) (onTc (τ := Cert.ReferenceIdeal18.τ) (Cert.ReferenceIdeal18.main (F := Ideal))) ⟨m, fun _ => 0, g⟩ (fun r => (∀ c : Dev Cert.ReferenceIdeal18.nD,
      r.2.mem ((c.tc : Thread Cert.ReferenceIdeal18.nD Cert.ReferenceIdeal18.τ).loc Cert.ReferenceIdeal18.main_arg0) = m ((c.tc : Thread Cert.ReferenceIdeal18.nD Cert.ReferenceIdeal18.τ).loc Cert.ReferenceIdeal18.main_arg0)
      ∧ r.2.mem ((c.tc : Thread Cert.ReferenceIdeal18.nD Cert.ReferenceIdeal18.τ).loc Cert.ReferenceIdeal18.main_arg1) = m ((c.tc : Thread Cert.ReferenceIdeal18.nD Cert.ReferenceIdeal18.τ).loc Cert.ReferenceIdeal18.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def preserves_Kernel2_KernelIdeal2 : Prop :=
  True

def algebraic_KernelIdeal2_ReferenceIdeal2 [hKernelIdeal2 : Cert.KernelIdeal2.Facts] [hReferenceIdeal2 : Cert.ReferenceIdeal2.Facts] : Prop :=
  ∀ (m : (ℓ : Loc Cert.KernelIdeal2.nD Cert.KernelIdeal2.τ Cert.KernelIdeal2.sig) → Buf (Elt Ideal) ℓ) (g : Dev Cert.KernelIdeal2.nD → PrngReg)
    (m' : (ℓ : Loc Cert.ReferenceIdeal2.nD Cert.ReferenceIdeal2.τ Cert.ReferenceIdeal2.sig) → Buf (Elt Ideal) ℓ) (g' : Dev Cert.ReferenceIdeal2.nD → PrngReg), Pre_KernelIdeal2 m →
    (∀ c : Dev Cert.KernelIdeal2.nD,
      m' ((c.tc : Thread Cert.ReferenceIdeal2.nD Cert.ReferenceIdeal2.τ).loc Cert.ReferenceIdeal2.main_arg0) = m ((c.tc : Thread Cert.KernelIdeal2.nD Cert.KernelIdeal2.τ).loc Cert.KernelIdeal2.main_arg0)
      ∧ m' ((c.tc : Thread Cert.ReferenceIdeal2.nD Cert.ReferenceIdeal2.τ).loc Cert.ReferenceIdeal2.main_arg1) = m ((c.tc : Thread Cert.KernelIdeal2.nD Cert.KernelIdeal2.τ).loc Cert.KernelIdeal2.main_arg1)
      ∧ m' ((c.tc : Thread Cert.ReferenceIdeal2.nD Cert.ReferenceIdeal2.τ).loc Cert.ReferenceIdeal2.main_arg2) = m ((c.tc : Thread Cert.KernelIdeal2.nD Cert.KernelIdeal2.τ).loc Cert.KernelIdeal2.main_arg2)) →
    ∃ (v0 : (c : Dev Cert.KernelIdeal2.nD) → Buf (Elt Ideal) ((c.tc : Thread Cert.KernelIdeal2.nD Cert.KernelIdeal2.τ).loc Cert.KernelIdeal2.main_v0)),
      θ_run (Cert.KernelIdeal2.defs (F := Ideal)) (onTc (τ := Cert.KernelIdeal2.τ) (Cert.KernelIdeal2.main (F := Ideal))) ⟨m, fun _ => 0, g⟩ (fun r => ∀ c : Dev Cert.KernelIdeal2.nD,
          r.2.mem ((c.tc : Thread Cert.KernelIdeal2.nD Cert.KernelIdeal2.τ).loc Cert.KernelIdeal2.main_v0) = v0 c
          ∧ r.2.mem ((c.tc : Thread Cert.KernelIdeal2.nD Cert.KernelIdeal2.τ).loc Cert.KernelIdeal2.main_arg0) = m ((c.tc : Thread Cert.KernelIdeal2.nD Cert.KernelIdeal2.τ).loc Cert.KernelIdeal2.main_arg0)
          ∧ r.2.mem ((c.tc : Thread Cert.KernelIdeal2.nD Cert.KernelIdeal2.τ).loc Cert.KernelIdeal2.main_arg1) = m ((c.tc : Thread Cert.KernelIdeal2.nD Cert.KernelIdeal2.τ).loc Cert.KernelIdeal2.main_arg1)
          ∧ r.2.mem ((c.tc : Thread Cert.KernelIdeal2.nD Cert.KernelIdeal2.τ).loc Cert.KernelIdeal2.main_arg2) = m ((c.tc : Thread Cert.KernelIdeal2.nD Cert.KernelIdeal2.τ).loc Cert.KernelIdeal2.main_arg2))
      ∧ θ_run (Cert.ReferenceIdeal2.defs (F := Ideal)) (onTc (τ := Cert.ReferenceIdeal2.τ) (Cert.ReferenceIdeal2.main (F := Ideal))) ⟨m', fun _ => 0, g'⟩ (fun r => ∀ c : Dev Cert.ReferenceIdeal2.nD,
          r.2.mem ((c.tc : Thread Cert.ReferenceIdeal2.nD Cert.ReferenceIdeal2.τ).loc Cert.ReferenceIdeal2.main_v4) = v0 c
          ∧ r.2.mem ((c.tc : Thread Cert.ReferenceIdeal2.nD Cert.ReferenceIdeal2.τ).loc Cert.ReferenceIdeal2.main_arg0) = m' ((c.tc : Thread Cert.ReferenceIdeal2.nD Cert.ReferenceIdeal2.τ).loc Cert.ReferenceIdeal2.main_arg0)
          ∧ r.2.mem ((c.tc : Thread Cert.ReferenceIdeal2.nD Cert.ReferenceIdeal2.τ).loc Cert.ReferenceIdeal2.main_arg1) = m' ((c.tc : Thread Cert.ReferenceIdeal2.nD Cert.ReferenceIdeal2.τ).loc Cert.ReferenceIdeal2.main_arg1)
          ∧ r.2.mem ((c.tc : Thread Cert.ReferenceIdeal2.nD Cert.ReferenceIdeal2.τ).loc Cert.ReferenceIdeal2.main_arg2) = m' ((c.tc : Thread Cert.ReferenceIdeal2.nD Cert.ReferenceIdeal2.τ).loc Cert.ReferenceIdeal2.main_arg2))

def preserves_Kernel3_KernelIdeal3 : Prop :=
  True

def algebraic_KernelIdeal3_ReferenceIdeal3 [hKernelIdeal3 : Cert.KernelIdeal3.Facts] [hReferenceIdeal3 : Cert.ReferenceIdeal3.Facts] : Prop :=
  ∀ (m : (ℓ : Loc Cert.KernelIdeal3.nD Cert.KernelIdeal3.τ Cert.KernelIdeal3.sig) → Buf (Elt Ideal) ℓ) (g : Dev Cert.KernelIdeal3.nD → PrngReg)
    (m' : (ℓ : Loc Cert.ReferenceIdeal3.nD Cert.ReferenceIdeal3.τ Cert.ReferenceIdeal3.sig) → Buf (Elt Ideal) ℓ) (g' : Dev Cert.ReferenceIdeal3.nD → PrngReg), Pre_KernelIdeal3 m →
    (∀ c : Dev Cert.KernelIdeal3.nD,
      m' ((c.tc : Thread Cert.ReferenceIdeal3.nD Cert.ReferenceIdeal3.τ).loc Cert.ReferenceIdeal3.main_arg0) = m ((c.tc : Thread Cert.KernelIdeal3.nD Cert.KernelIdeal3.τ).loc Cert.KernelIdeal3.main_arg0)
      ∧ m' ((c.tc : Thread Cert.ReferenceIdeal3.nD Cert.ReferenceIdeal3.τ).loc Cert.ReferenceIdeal3.main_arg1) = m ((c.tc : Thread Cert.KernelIdeal3.nD Cert.KernelIdeal3.τ).loc Cert.KernelIdeal3.main_arg1)
      ∧ m' ((c.tc : Thread Cert.ReferenceIdeal3.nD Cert.ReferenceIdeal3.τ).loc Cert.ReferenceIdeal3.main_arg2) = m ((c.tc : Thread Cert.KernelIdeal3.nD Cert.KernelIdeal3.τ).loc Cert.KernelIdeal3.main_arg2)) →
    ∃ (v0 : (c : Dev Cert.KernelIdeal3.nD) → Buf (Elt Ideal) ((c.tc : Thread Cert.KernelIdeal3.nD Cert.KernelIdeal3.τ).loc Cert.KernelIdeal3.main_v0)),
      θ_run (Cert.KernelIdeal3.defs (F := Ideal)) (onTc (τ := Cert.KernelIdeal3.τ) (Cert.KernelIdeal3.main (F := Ideal))) ⟨m, fun _ => 0, g⟩ (fun r => ∀ c : Dev Cert.KernelIdeal3.nD,
          r.2.mem ((c.tc : Thread Cert.KernelIdeal3.nD Cert.KernelIdeal3.τ).loc Cert.KernelIdeal3.main_v0) = v0 c
          ∧ r.2.mem ((c.tc : Thread Cert.KernelIdeal3.nD Cert.KernelIdeal3.τ).loc Cert.KernelIdeal3.main_arg0) = m ((c.tc : Thread Cert.KernelIdeal3.nD Cert.KernelIdeal3.τ).loc Cert.KernelIdeal3.main_arg0)
          ∧ r.2.mem ((c.tc : Thread Cert.KernelIdeal3.nD Cert.KernelIdeal3.τ).loc Cert.KernelIdeal3.main_arg1) = m ((c.tc : Thread Cert.KernelIdeal3.nD Cert.KernelIdeal3.τ).loc Cert.KernelIdeal3.main_arg1)
          ∧ r.2.mem ((c.tc : Thread Cert.KernelIdeal3.nD Cert.KernelIdeal3.τ).loc Cert.KernelIdeal3.main_arg2) = m ((c.tc : Thread Cert.KernelIdeal3.nD Cert.KernelIdeal3.τ).loc Cert.KernelIdeal3.main_arg2))
      ∧ θ_run (Cert.ReferenceIdeal3.defs (F := Ideal)) (onTc (τ := Cert.ReferenceIdeal3.τ) (Cert.ReferenceIdeal3.main (F := Ideal))) ⟨m', fun _ => 0, g'⟩ (fun r => ∀ c : Dev Cert.ReferenceIdeal3.nD,
          r.2.mem ((c.tc : Thread Cert.ReferenceIdeal3.nD Cert.ReferenceIdeal3.τ).loc Cert.ReferenceIdeal3.main_v4) = v0 c
          ∧ r.2.mem ((c.tc : Thread Cert.ReferenceIdeal3.nD Cert.ReferenceIdeal3.τ).loc Cert.ReferenceIdeal3.main_arg0) = m' ((c.tc : Thread Cert.ReferenceIdeal3.nD Cert.ReferenceIdeal3.τ).loc Cert.ReferenceIdeal3.main_arg0)
          ∧ r.2.mem ((c.tc : Thread Cert.ReferenceIdeal3.nD Cert.ReferenceIdeal3.τ).loc Cert.ReferenceIdeal3.main_arg1) = m' ((c.tc : Thread Cert.ReferenceIdeal3.nD Cert.ReferenceIdeal3.τ).loc Cert.ReferenceIdeal3.main_arg1)
          ∧ r.2.mem ((c.tc : Thread Cert.ReferenceIdeal3.nD Cert.ReferenceIdeal3.τ).loc Cert.ReferenceIdeal3.main_arg2) = m' ((c.tc : Thread Cert.ReferenceIdeal3.nD Cert.ReferenceIdeal3.τ).loc Cert.ReferenceIdeal3.main_arg2))

def preserves_Kernel4_KernelIdeal4 : Prop :=
  True

def algebraic_KernelIdeal4_ReferenceIdeal4 [hKernelIdeal4 : Cert.KernelIdeal4.Facts] [hReferenceIdeal4 : Cert.ReferenceIdeal4.Facts] : Prop :=
  ∀ (m : (ℓ : Loc Cert.KernelIdeal4.nD Cert.KernelIdeal4.τ Cert.KernelIdeal4.sig) → Buf (Elt Ideal) ℓ) (g : Dev Cert.KernelIdeal4.nD → PrngReg)
    (m' : (ℓ : Loc Cert.ReferenceIdeal4.nD Cert.ReferenceIdeal4.τ Cert.ReferenceIdeal4.sig) → Buf (Elt Ideal) ℓ) (g' : Dev Cert.ReferenceIdeal4.nD → PrngReg), Pre_KernelIdeal4 m →
    (∀ c : Dev Cert.KernelIdeal4.nD,
      m' ((c.tc : Thread Cert.ReferenceIdeal4.nD Cert.ReferenceIdeal4.τ).loc Cert.ReferenceIdeal4.main_arg0) = m ((c.tc : Thread Cert.KernelIdeal4.nD Cert.KernelIdeal4.τ).loc Cert.KernelIdeal4.main_arg0)
      ∧ m' ((c.tc : Thread Cert.ReferenceIdeal4.nD Cert.ReferenceIdeal4.τ).loc Cert.ReferenceIdeal4.main_arg1) = m ((c.tc : Thread Cert.KernelIdeal4.nD Cert.KernelIdeal4.τ).loc Cert.KernelIdeal4.main_arg1)) →
    ∃ (v0 : (c : Dev Cert.KernelIdeal4.nD) → Buf (Elt Ideal) ((c.tc : Thread Cert.KernelIdeal4.nD Cert.KernelIdeal4.τ).loc Cert.KernelIdeal4.main_v1)),
      θ_run (Cert.KernelIdeal4.defs (F := Ideal)) (onTc (τ := Cert.KernelIdeal4.τ) (Cert.KernelIdeal4.main (F := Ideal))) ⟨m, fun _ => 0, g⟩ (fun r => ∀ c : Dev Cert.KernelIdeal4.nD,
          r.2.mem ((c.tc : Thread Cert.KernelIdeal4.nD Cert.KernelIdeal4.τ).loc Cert.KernelIdeal4.main_v1) = v0 c
          ∧ r.2.mem ((c.tc : Thread Cert.KernelIdeal4.nD Cert.KernelIdeal4.τ).loc Cert.KernelIdeal4.main_arg0) = m ((c.tc : Thread Cert.KernelIdeal4.nD Cert.KernelIdeal4.τ).loc Cert.KernelIdeal4.main_arg0)
          ∧ r.2.mem ((c.tc : Thread Cert.KernelIdeal4.nD Cert.KernelIdeal4.τ).loc Cert.KernelIdeal4.main_arg1) = m ((c.tc : Thread Cert.KernelIdeal4.nD Cert.KernelIdeal4.τ).loc Cert.KernelIdeal4.main_arg1))
      ∧ θ_run (Cert.ReferenceIdeal4.defs (F := Ideal)) (onTc (τ := Cert.ReferenceIdeal4.τ) (Cert.ReferenceIdeal4.main (F := Ideal))) ⟨m', fun _ => 0, g'⟩ (fun r => ∀ c : Dev Cert.ReferenceIdeal4.nD,
          r.2.mem ((c.tc : Thread Cert.ReferenceIdeal4.nD Cert.ReferenceIdeal4.τ).loc Cert.ReferenceIdeal4.main_v4) = v0 c
          ∧ r.2.mem ((c.tc : Thread Cert.ReferenceIdeal4.nD Cert.ReferenceIdeal4.τ).loc Cert.ReferenceIdeal4.main_arg0) = m' ((c.tc : Thread Cert.ReferenceIdeal4.nD Cert.ReferenceIdeal4.τ).loc Cert.ReferenceIdeal4.main_arg0)
          ∧ r.2.mem ((c.tc : Thread Cert.ReferenceIdeal4.nD Cert.ReferenceIdeal4.τ).loc Cert.ReferenceIdeal4.main_arg1) = m' ((c.tc : Thread Cert.ReferenceIdeal4.nD Cert.ReferenceIdeal4.τ).loc Cert.ReferenceIdeal4.main_arg1))

def preserves_Kernel5_KernelIdeal5 : Prop :=
  True

def algebraic_KernelIdeal5_ReferenceIdeal5 [hKernelIdeal5 : Cert.KernelIdeal5.Facts] [hReferenceIdeal5 : Cert.ReferenceIdeal5.Facts] : Prop :=
  ∀ (m : (ℓ : Loc Cert.KernelIdeal5.nD Cert.KernelIdeal5.τ Cert.KernelIdeal5.sig) → Buf (Elt Ideal) ℓ) (g : Dev Cert.KernelIdeal5.nD → PrngReg)
    (m' : (ℓ : Loc Cert.ReferenceIdeal5.nD Cert.ReferenceIdeal5.τ Cert.ReferenceIdeal5.sig) → Buf (Elt Ideal) ℓ) (g' : Dev Cert.ReferenceIdeal5.nD → PrngReg), Pre_KernelIdeal5 m →
    (∀ c : Dev Cert.KernelIdeal5.nD,
      m' ((c.tc : Thread Cert.ReferenceIdeal5.nD Cert.ReferenceIdeal5.τ).loc Cert.ReferenceIdeal5.main_arg0) = m ((c.tc : Thread Cert.KernelIdeal5.nD Cert.KernelIdeal5.τ).loc Cert.KernelIdeal5.main_arg0)
      ∧ m' ((c.tc : Thread Cert.ReferenceIdeal5.nD Cert.ReferenceIdeal5.τ).loc Cert.ReferenceIdeal5.main_arg1) = m ((c.tc : Thread Cert.KernelIdeal5.nD Cert.KernelIdeal5.τ).loc Cert.KernelIdeal5.main_arg1)
      ∧ m' ((c.tc : Thread Cert.ReferenceIdeal5.nD Cert.ReferenceIdeal5.τ).loc Cert.ReferenceIdeal5.main_arg2) = m ((c.tc : Thread Cert.KernelIdeal5.nD Cert.KernelIdeal5.τ).loc Cert.KernelIdeal5.main_arg2)
      ∧ m' ((c.tc : Thread Cert.ReferenceIdeal5.nD Cert.ReferenceIdeal5.τ).loc Cert.ReferenceIdeal5.main_arg3) = m ((c.tc : Thread Cert.KernelIdeal5.nD Cert.KernelIdeal5.τ).loc Cert.KernelIdeal5.main_arg3)) →
    ∃ (v0 : (c : Dev Cert.KernelIdeal5.nD) → Buf (Elt Ideal) ((c.tc : Thread Cert.KernelIdeal5.nD Cert.KernelIdeal5.τ).loc Cert.KernelIdeal5.main_v1)),
      θ_run (Cert.KernelIdeal5.defs (F := Ideal)) (onTc (τ := Cert.KernelIdeal5.τ) (Cert.KernelIdeal5.main (F := Ideal))) ⟨m, fun _ => 0, g⟩ (fun r => ∀ c : Dev Cert.KernelIdeal5.nD,
          r.2.mem ((c.tc : Thread Cert.KernelIdeal5.nD Cert.KernelIdeal5.τ).loc Cert.KernelIdeal5.main_v1) = v0 c
          ∧ r.2.mem ((c.tc : Thread Cert.KernelIdeal5.nD Cert.KernelIdeal5.τ).loc Cert.KernelIdeal5.main_arg0) = m ((c.tc : Thread Cert.KernelIdeal5.nD Cert.KernelIdeal5.τ).loc Cert.KernelIdeal5.main_arg0)
          ∧ r.2.mem ((c.tc : Thread Cert.KernelIdeal5.nD Cert.KernelIdeal5.τ).loc Cert.KernelIdeal5.main_arg1) = m ((c.tc : Thread Cert.KernelIdeal5.nD Cert.KernelIdeal5.τ).loc Cert.KernelIdeal5.main_arg1)
          ∧ r.2.mem ((c.tc : Thread Cert.KernelIdeal5.nD Cert.KernelIdeal5.τ).loc Cert.KernelIdeal5.main_arg2) = m ((c.tc : Thread Cert.KernelIdeal5.nD Cert.KernelIdeal5.τ).loc Cert.KernelIdeal5.main_arg2)
          ∧ r.2.mem ((c.tc : Thread Cert.KernelIdeal5.nD Cert.KernelIdeal5.τ).loc Cert.KernelIdeal5.main_arg3) = m ((c.tc : Thread Cert.KernelIdeal5.nD Cert.KernelIdeal5.τ).loc Cert.KernelIdeal5.main_arg3))
      ∧ θ_run (Cert.ReferenceIdeal5.defs (F := Ideal)) (onTc (τ := Cert.ReferenceIdeal5.τ) (Cert.ReferenceIdeal5.main (F := Ideal))) ⟨m', fun _ => 0, g'⟩ (fun r => ∀ c : Dev Cert.ReferenceIdeal5.nD,
          r.2.mem ((c.tc : Thread Cert.ReferenceIdeal5.nD Cert.ReferenceIdeal5.τ).loc Cert.ReferenceIdeal5.main_v9) = v0 c
          ∧ r.2.mem ((c.tc : Thread Cert.ReferenceIdeal5.nD Cert.ReferenceIdeal5.τ).loc Cert.ReferenceIdeal5.main_arg0) = m' ((c.tc : Thread Cert.ReferenceIdeal5.nD Cert.ReferenceIdeal5.τ).loc Cert.ReferenceIdeal5.main_arg0)
          ∧ r.2.mem ((c.tc : Thread Cert.ReferenceIdeal5.nD Cert.ReferenceIdeal5.τ).loc Cert.ReferenceIdeal5.main_arg1) = m' ((c.tc : Thread Cert.ReferenceIdeal5.nD Cert.ReferenceIdeal5.τ).loc Cert.ReferenceIdeal5.main_arg1)
          ∧ r.2.mem ((c.tc : Thread Cert.ReferenceIdeal5.nD Cert.ReferenceIdeal5.τ).loc Cert.ReferenceIdeal5.main_arg2) = m' ((c.tc : Thread Cert.ReferenceIdeal5.nD Cert.ReferenceIdeal5.τ).loc Cert.ReferenceIdeal5.main_arg2)
          ∧ r.2.mem ((c.tc : Thread Cert.ReferenceIdeal5.nD Cert.ReferenceIdeal5.τ).loc Cert.ReferenceIdeal5.main_arg3) = m' ((c.tc : Thread Cert.ReferenceIdeal5.nD Cert.ReferenceIdeal5.τ).loc Cert.ReferenceIdeal5.main_arg3))

def preserves_Kernel6_KernelIdeal6 : Prop :=
  True

def algebraic_KernelIdeal6_ReferenceIdeal6 [hKernelIdeal6 : Cert.KernelIdeal6.Facts] [hReferenceIdeal6 : Cert.ReferenceIdeal6.Facts] : Prop :=
  ∀ (m : (ℓ : Loc Cert.KernelIdeal6.nD Cert.KernelIdeal6.τ Cert.KernelIdeal6.sig) → Buf (Elt Ideal) ℓ) (g : Dev Cert.KernelIdeal6.nD → PrngReg)
    (m' : (ℓ : Loc Cert.ReferenceIdeal6.nD Cert.ReferenceIdeal6.τ Cert.ReferenceIdeal6.sig) → Buf (Elt Ideal) ℓ) (g' : Dev Cert.ReferenceIdeal6.nD → PrngReg), Pre_KernelIdeal6 m →
    (∀ c : Dev Cert.KernelIdeal6.nD,
      m' ((c.tc : Thread Cert.ReferenceIdeal6.nD Cert.ReferenceIdeal6.τ).loc Cert.ReferenceIdeal6.main_arg0) = m ((c.tc : Thread Cert.KernelIdeal6.nD Cert.KernelIdeal6.τ).loc Cert.KernelIdeal6.main_arg0)
      ∧ m' ((c.tc : Thread Cert.ReferenceIdeal6.nD Cert.ReferenceIdeal6.τ).loc Cert.ReferenceIdeal6.main_arg1) = m ((c.tc : Thread Cert.KernelIdeal6.nD Cert.KernelIdeal6.τ).loc Cert.KernelIdeal6.main_arg1)
      ∧ m' ((c.tc : Thread Cert.ReferenceIdeal6.nD Cert.ReferenceIdeal6.τ).loc Cert.ReferenceIdeal6.main_arg2) = m ((c.tc : Thread Cert.KernelIdeal6.nD Cert.KernelIdeal6.τ).loc Cert.KernelIdeal6.main_arg2)) →
    ∃ (v0 : (c : Dev Cert.KernelIdeal6.nD) → Buf (Elt Ideal) ((c.tc : Thread Cert.KernelIdeal6.nD Cert.KernelIdeal6.τ).loc Cert.KernelIdeal6.main_v0)),
      θ_run (Cert.KernelIdeal6.defs (F := Ideal)) (onTc (τ := Cert.KernelIdeal6.τ) (Cert.KernelIdeal6.main (F := Ideal))) ⟨m, fun _ => 0, g⟩ (fun r => ∀ c : Dev Cert.KernelIdeal6.nD,
          r.2.mem ((c.tc : Thread Cert.KernelIdeal6.nD Cert.KernelIdeal6.τ).loc Cert.KernelIdeal6.main_v0) = v0 c
          ∧ r.2.mem ((c.tc : Thread Cert.KernelIdeal6.nD Cert.KernelIdeal6.τ).loc Cert.KernelIdeal6.main_arg0) = m ((c.tc : Thread Cert.KernelIdeal6.nD Cert.KernelIdeal6.τ).loc Cert.KernelIdeal6.main_arg0)
          ∧ r.2.mem ((c.tc : Thread Cert.KernelIdeal6.nD Cert.KernelIdeal6.τ).loc Cert.KernelIdeal6.main_arg1) = m ((c.tc : Thread Cert.KernelIdeal6.nD Cert.KernelIdeal6.τ).loc Cert.KernelIdeal6.main_arg1)
          ∧ r.2.mem ((c.tc : Thread Cert.KernelIdeal6.nD Cert.KernelIdeal6.τ).loc Cert.KernelIdeal6.main_arg2) = m ((c.tc : Thread Cert.KernelIdeal6.nD Cert.KernelIdeal6.τ).loc Cert.KernelIdeal6.main_arg2))
      ∧ θ_run (Cert.ReferenceIdeal6.defs (F := Ideal)) (onTc (τ := Cert.ReferenceIdeal6.τ) (Cert.ReferenceIdeal6.main (F := Ideal))) ⟨m', fun _ => 0, g'⟩ (fun r => ∀ c : Dev Cert.ReferenceIdeal6.nD,
          r.2.mem ((c.tc : Thread Cert.ReferenceIdeal6.nD Cert.ReferenceIdeal6.τ).loc Cert.ReferenceIdeal6.main_v4) = v0 c
          ∧ r.2.mem ((c.tc : Thread Cert.ReferenceIdeal6.nD Cert.ReferenceIdeal6.τ).loc Cert.ReferenceIdeal6.main_arg0) = m' ((c.tc : Thread Cert.ReferenceIdeal6.nD Cert.ReferenceIdeal6.τ).loc Cert.ReferenceIdeal6.main_arg0)
          ∧ r.2.mem ((c.tc : Thread Cert.ReferenceIdeal6.nD Cert.ReferenceIdeal6.τ).loc Cert.ReferenceIdeal6.main_arg1) = m' ((c.tc : Thread Cert.ReferenceIdeal6.nD Cert.ReferenceIdeal6.τ).loc Cert.ReferenceIdeal6.main_arg1)
          ∧ r.2.mem ((c.tc : Thread Cert.ReferenceIdeal6.nD Cert.ReferenceIdeal6.τ).loc Cert.ReferenceIdeal6.main_arg2) = m' ((c.tc : Thread Cert.ReferenceIdeal6.nD Cert.ReferenceIdeal6.τ).loc Cert.ReferenceIdeal6.main_arg2))

def preserves_Kernel7_KernelIdeal7 : Prop :=
  True

def algebraic_KernelIdeal7_ReferenceIdeal7 [hKernelIdeal7 : Cert.KernelIdeal7.Facts] [hReferenceIdeal7 : Cert.ReferenceIdeal7.Facts] : Prop :=
  ∀ (m : (ℓ : Loc Cert.KernelIdeal7.nD Cert.KernelIdeal7.τ Cert.KernelIdeal7.sig) → Buf (Elt Ideal) ℓ) (g : Dev Cert.KernelIdeal7.nD → PrngReg)
    (m' : (ℓ : Loc Cert.ReferenceIdeal7.nD Cert.ReferenceIdeal7.τ Cert.ReferenceIdeal7.sig) → Buf (Elt Ideal) ℓ) (g' : Dev Cert.ReferenceIdeal7.nD → PrngReg), Pre_KernelIdeal7 m →
    (∀ c : Dev Cert.KernelIdeal7.nD,
      m' ((c.tc : Thread Cert.ReferenceIdeal7.nD Cert.ReferenceIdeal7.τ).loc Cert.ReferenceIdeal7.main_arg0) = m ((c.tc : Thread Cert.KernelIdeal7.nD Cert.KernelIdeal7.τ).loc Cert.KernelIdeal7.main_arg0)
      ∧ m' ((c.tc : Thread Cert.ReferenceIdeal7.nD Cert.ReferenceIdeal7.τ).loc Cert.ReferenceIdeal7.main_arg1) = m ((c.tc : Thread Cert.KernelIdeal7.nD Cert.KernelIdeal7.τ).loc Cert.KernelIdeal7.main_arg1)
      ∧ m' ((c.tc : Thread Cert.ReferenceIdeal7.nD Cert.ReferenceIdeal7.τ).loc Cert.ReferenceIdeal7.main_arg2) = m ((c.tc : Thread Cert.KernelIdeal7.nD Cert.KernelIdeal7.τ).loc Cert.KernelIdeal7.main_arg2)) →
    ∃ (v0 : (c : Dev Cert.KernelIdeal7.nD) → Buf (Elt Ideal) ((c.tc : Thread Cert.KernelIdeal7.nD Cert.KernelIdeal7.τ).loc Cert.KernelIdeal7.main_v0)),
      θ_run (Cert.KernelIdeal7.defs (F := Ideal)) (onTc (τ := Cert.KernelIdeal7.τ) (Cert.KernelIdeal7.main (F := Ideal))) ⟨m, fun _ => 0, g⟩ (fun r => ∀ c : Dev Cert.KernelIdeal7.nD,
          r.2.mem ((c.tc : Thread Cert.KernelIdeal7.nD Cert.KernelIdeal7.τ).loc Cert.KernelIdeal7.main_v0) = v0 c
          ∧ r.2.mem ((c.tc : Thread Cert.KernelIdeal7.nD Cert.KernelIdeal7.τ).loc Cert.KernelIdeal7.main_arg0) = m ((c.tc : Thread Cert.KernelIdeal7.nD Cert.KernelIdeal7.τ).loc Cert.KernelIdeal7.main_arg0)
          ∧ r.2.mem ((c.tc : Thread Cert.KernelIdeal7.nD Cert.KernelIdeal7.τ).loc Cert.KernelIdeal7.main_arg1) = m ((c.tc : Thread Cert.KernelIdeal7.nD Cert.KernelIdeal7.τ).loc Cert.KernelIdeal7.main_arg1)
          ∧ r.2.mem ((c.tc : Thread Cert.KernelIdeal7.nD Cert.KernelIdeal7.τ).loc Cert.KernelIdeal7.main_arg2) = m ((c.tc : Thread Cert.KernelIdeal7.nD Cert.KernelIdeal7.τ).loc Cert.KernelIdeal7.main_arg2))
      ∧ θ_run (Cert.ReferenceIdeal7.defs (F := Ideal)) (onTc (τ := Cert.ReferenceIdeal7.τ) (Cert.ReferenceIdeal7.main (F := Ideal))) ⟨m', fun _ => 0, g'⟩ (fun r => ∀ c : Dev Cert.ReferenceIdeal7.nD,
          r.2.mem ((c.tc : Thread Cert.ReferenceIdeal7.nD Cert.ReferenceIdeal7.τ).loc Cert.ReferenceIdeal7.main_v4) = v0 c
          ∧ r.2.mem ((c.tc : Thread Cert.ReferenceIdeal7.nD Cert.ReferenceIdeal7.τ).loc Cert.ReferenceIdeal7.main_arg0) = m' ((c.tc : Thread Cert.ReferenceIdeal7.nD Cert.ReferenceIdeal7.τ).loc Cert.ReferenceIdeal7.main_arg0)
          ∧ r.2.mem ((c.tc : Thread Cert.ReferenceIdeal7.nD Cert.ReferenceIdeal7.τ).loc Cert.ReferenceIdeal7.main_arg1) = m' ((c.tc : Thread Cert.ReferenceIdeal7.nD Cert.ReferenceIdeal7.τ).loc Cert.ReferenceIdeal7.main_arg1)
          ∧ r.2.mem ((c.tc : Thread Cert.ReferenceIdeal7.nD Cert.ReferenceIdeal7.τ).loc Cert.ReferenceIdeal7.main_arg2) = m' ((c.tc : Thread Cert.ReferenceIdeal7.nD Cert.ReferenceIdeal7.τ).loc Cert.ReferenceIdeal7.main_arg2))

def preserves_Kernel8_KernelIdeal8 : Prop :=
  True

def algebraic_KernelIdeal8_ReferenceIdeal8 [hKernelIdeal8 : Cert.KernelIdeal8.Facts] [hReferenceIdeal8 : Cert.ReferenceIdeal8.Facts] : Prop :=
  ∀ (m : (ℓ : Loc Cert.KernelIdeal8.nD Cert.KernelIdeal8.τ Cert.KernelIdeal8.sig) → Buf (Elt Ideal) ℓ) (g : Dev Cert.KernelIdeal8.nD → PrngReg)
    (m' : (ℓ : Loc Cert.ReferenceIdeal8.nD Cert.ReferenceIdeal8.τ Cert.ReferenceIdeal8.sig) → Buf (Elt Ideal) ℓ) (g' : Dev Cert.ReferenceIdeal8.nD → PrngReg), Pre_KernelIdeal8 m →
    (∀ c : Dev Cert.KernelIdeal8.nD,
      m' ((c.tc : Thread Cert.ReferenceIdeal8.nD Cert.ReferenceIdeal8.τ).loc Cert.ReferenceIdeal8.main_arg0) = m ((c.tc : Thread Cert.KernelIdeal8.nD Cert.KernelIdeal8.τ).loc Cert.KernelIdeal8.main_arg0)
      ∧ m' ((c.tc : Thread Cert.ReferenceIdeal8.nD Cert.ReferenceIdeal8.τ).loc Cert.ReferenceIdeal8.main_arg1) = m ((c.tc : Thread Cert.KernelIdeal8.nD Cert.KernelIdeal8.τ).loc Cert.KernelIdeal8.main_arg1)
      ∧ m' ((c.tc : Thread Cert.ReferenceIdeal8.nD Cert.ReferenceIdeal8.τ).loc Cert.ReferenceIdeal8.main_arg2) = m ((c.tc : Thread Cert.KernelIdeal8.nD Cert.KernelIdeal8.τ).loc Cert.KernelIdeal8.main_arg2)) →
    ∃ (v0 : (c : Dev Cert.KernelIdeal8.nD) → Buf (Elt Ideal) ((c.tc : Thread Cert.KernelIdeal8.nD Cert.KernelIdeal8.τ).loc Cert.KernelIdeal8.main_v0)),
      θ_run (Cert.KernelIdeal8.defs (F := Ideal)) (onTc (τ := Cert.KernelIdeal8.τ) (Cert.KernelIdeal8.main (F := Ideal))) ⟨m, fun _ => 0, g⟩ (fun r => ∀ c : Dev Cert.KernelIdeal8.nD,
          r.2.mem ((c.tc : Thread Cert.KernelIdeal8.nD Cert.KernelIdeal8.τ).loc Cert.KernelIdeal8.main_v0) = v0 c
          ∧ r.2.mem ((c.tc : Thread Cert.KernelIdeal8.nD Cert.KernelIdeal8.τ).loc Cert.KernelIdeal8.main_arg0) = m ((c.tc : Thread Cert.KernelIdeal8.nD Cert.KernelIdeal8.τ).loc Cert.KernelIdeal8.main_arg0)
          ∧ r.2.mem ((c.tc : Thread Cert.KernelIdeal8.nD Cert.KernelIdeal8.τ).loc Cert.KernelIdeal8.main_arg1) = m ((c.tc : Thread Cert.KernelIdeal8.nD Cert.KernelIdeal8.τ).loc Cert.KernelIdeal8.main_arg1)
          ∧ r.2.mem ((c.tc : Thread Cert.KernelIdeal8.nD Cert.KernelIdeal8.τ).loc Cert.KernelIdeal8.main_arg2) = m ((c.tc : Thread Cert.KernelIdeal8.nD Cert.KernelIdeal8.τ).loc Cert.KernelIdeal8.main_arg2))
      ∧ θ_run (Cert.ReferenceIdeal8.defs (F := Ideal)) (onTc (τ := Cert.ReferenceIdeal8.τ) (Cert.ReferenceIdeal8.main (F := Ideal))) ⟨m', fun _ => 0, g'⟩ (fun r => ∀ c : Dev Cert.ReferenceIdeal8.nD,
          r.2.mem ((c.tc : Thread Cert.ReferenceIdeal8.nD Cert.ReferenceIdeal8.τ).loc Cert.ReferenceIdeal8.main_v4) = v0 c
          ∧ r.2.mem ((c.tc : Thread Cert.ReferenceIdeal8.nD Cert.ReferenceIdeal8.τ).loc Cert.ReferenceIdeal8.main_arg0) = m' ((c.tc : Thread Cert.ReferenceIdeal8.nD Cert.ReferenceIdeal8.τ).loc Cert.ReferenceIdeal8.main_arg0)
          ∧ r.2.mem ((c.tc : Thread Cert.ReferenceIdeal8.nD Cert.ReferenceIdeal8.τ).loc Cert.ReferenceIdeal8.main_arg1) = m' ((c.tc : Thread Cert.ReferenceIdeal8.nD Cert.ReferenceIdeal8.τ).loc Cert.ReferenceIdeal8.main_arg1)
          ∧ r.2.mem ((c.tc : Thread Cert.ReferenceIdeal8.nD Cert.ReferenceIdeal8.τ).loc Cert.ReferenceIdeal8.main_arg2) = m' ((c.tc : Thread Cert.ReferenceIdeal8.nD Cert.ReferenceIdeal8.τ).loc Cert.ReferenceIdeal8.main_arg2))

def preserves_Kernel9_KernelIdeal9 : Prop :=
  True

def algebraic_KernelIdeal9_ReferenceIdeal9 [hKernelIdeal9 : Cert.KernelIdeal9.Facts] [hReferenceIdeal9 : Cert.ReferenceIdeal9.Facts] : Prop :=
  ∀ (m : (ℓ : Loc Cert.KernelIdeal9.nD Cert.KernelIdeal9.τ Cert.KernelIdeal9.sig) → Buf (Elt Ideal) ℓ) (g : Dev Cert.KernelIdeal9.nD → PrngReg)
    (m' : (ℓ : Loc Cert.ReferenceIdeal9.nD Cert.ReferenceIdeal9.τ Cert.ReferenceIdeal9.sig) → Buf (Elt Ideal) ℓ) (g' : Dev Cert.ReferenceIdeal9.nD → PrngReg), Pre_KernelIdeal9 m →
    (∀ c : Dev Cert.KernelIdeal9.nD,
      m' ((c.tc : Thread Cert.ReferenceIdeal9.nD Cert.ReferenceIdeal9.τ).loc Cert.ReferenceIdeal9.main_arg0) = m ((c.tc : Thread Cert.KernelIdeal9.nD Cert.KernelIdeal9.τ).loc Cert.KernelIdeal9.main_arg0)
      ∧ m' ((c.tc : Thread Cert.ReferenceIdeal9.nD Cert.ReferenceIdeal9.τ).loc Cert.ReferenceIdeal9.main_arg1) = m ((c.tc : Thread Cert.KernelIdeal9.nD Cert.KernelIdeal9.τ).loc Cert.KernelIdeal9.main_arg1)) →
    ∃ (v0 : (c : Dev Cert.KernelIdeal9.nD) → Buf (Elt Ideal) ((c.tc : Thread Cert.KernelIdeal9.nD Cert.KernelIdeal9.τ).loc Cert.KernelIdeal9.main_v1)),
      θ_run (Cert.KernelIdeal9.defs (F := Ideal)) (onTc (τ := Cert.KernelIdeal9.τ) (Cert.KernelIdeal9.main (F := Ideal))) ⟨m, fun _ => 0, g⟩ (fun r => ∀ c : Dev Cert.KernelIdeal9.nD,
          r.2.mem ((c.tc : Thread Cert.KernelIdeal9.nD Cert.KernelIdeal9.τ).loc Cert.KernelIdeal9.main_v1) = v0 c
          ∧ r.2.mem ((c.tc : Thread Cert.KernelIdeal9.nD Cert.KernelIdeal9.τ).loc Cert.KernelIdeal9.main_arg0) = m ((c.tc : Thread Cert.KernelIdeal9.nD Cert.KernelIdeal9.τ).loc Cert.KernelIdeal9.main_arg0)
          ∧ r.2.mem ((c.tc : Thread Cert.KernelIdeal9.nD Cert.KernelIdeal9.τ).loc Cert.KernelIdeal9.main_arg1) = m ((c.tc : Thread Cert.KernelIdeal9.nD Cert.KernelIdeal9.τ).loc Cert.KernelIdeal9.main_arg1))
      ∧ θ_run (Cert.ReferenceIdeal9.defs (F := Ideal)) (onTc (τ := Cert.ReferenceIdeal9.τ) (Cert.ReferenceIdeal9.main (F := Ideal))) ⟨m', fun _ => 0, g'⟩ (fun r => ∀ c : Dev Cert.ReferenceIdeal9.nD,
          r.2.mem ((c.tc : Thread Cert.ReferenceIdeal9.nD Cert.ReferenceIdeal9.τ).loc Cert.ReferenceIdeal9.main_v4) = v0 c
          ∧ r.2.mem ((c.tc : Thread Cert.ReferenceIdeal9.nD Cert.ReferenceIdeal9.τ).loc Cert.ReferenceIdeal9.main_arg0) = m' ((c.tc : Thread Cert.ReferenceIdeal9.nD Cert.ReferenceIdeal9.τ).loc Cert.ReferenceIdeal9.main_arg0)
          ∧ r.2.mem ((c.tc : Thread Cert.ReferenceIdeal9.nD Cert.ReferenceIdeal9.τ).loc Cert.ReferenceIdeal9.main_arg1) = m' ((c.tc : Thread Cert.ReferenceIdeal9.nD Cert.ReferenceIdeal9.τ).loc Cert.ReferenceIdeal9.main_arg1))

def preserves_Kernel10_KernelIdeal10 : Prop :=
  True

def algebraic_KernelIdeal10_ReferenceIdeal10 [hKernelIdeal10 : Cert.KernelIdeal10.Facts] [hReferenceIdeal10 : Cert.ReferenceIdeal10.Facts] : Prop :=
  ∀ (m : (ℓ : Loc Cert.KernelIdeal10.nD Cert.KernelIdeal10.τ Cert.KernelIdeal10.sig) → Buf (Elt Ideal) ℓ) (g : Dev Cert.KernelIdeal10.nD → PrngReg)
    (m' : (ℓ : Loc Cert.ReferenceIdeal10.nD Cert.ReferenceIdeal10.τ Cert.ReferenceIdeal10.sig) → Buf (Elt Ideal) ℓ) (g' : Dev Cert.ReferenceIdeal10.nD → PrngReg), Pre_KernelIdeal10 m →
    (∀ c : Dev Cert.KernelIdeal10.nD,
      m' ((c.tc : Thread Cert.ReferenceIdeal10.nD Cert.ReferenceIdeal10.τ).loc Cert.ReferenceIdeal10.main_arg0) = m ((c.tc : Thread Cert.KernelIdeal10.nD Cert.KernelIdeal10.τ).loc Cert.KernelIdeal10.main_arg0)
      ∧ m' ((c.tc : Thread Cert.ReferenceIdeal10.nD Cert.ReferenceIdeal10.τ).loc Cert.ReferenceIdeal10.main_arg1) = m ((c.tc : Thread Cert.KernelIdeal10.nD Cert.KernelIdeal10.τ).loc Cert.KernelIdeal10.main_arg1)
      ∧ m' ((c.tc : Thread Cert.ReferenceIdeal10.nD Cert.ReferenceIdeal10.τ).loc Cert.ReferenceIdeal10.main_arg2) = m ((c.tc : Thread Cert.KernelIdeal10.nD Cert.KernelIdeal10.τ).loc Cert.KernelIdeal10.main_arg2)) →
    ∃ (v0 : (c : Dev Cert.KernelIdeal10.nD) → Buf (Elt Ideal) ((c.tc : Thread Cert.KernelIdeal10.nD Cert.KernelIdeal10.τ).loc Cert.KernelIdeal10.main_v0)),
      θ_run (Cert.KernelIdeal10.defs (F := Ideal)) (onTc (τ := Cert.KernelIdeal10.τ) (Cert.KernelIdeal10.main (F := Ideal))) ⟨m, fun _ => 0, g⟩ (fun r => ∀ c : Dev Cert.KernelIdeal10.nD,
          r.2.mem ((c.tc : Thread Cert.KernelIdeal10.nD Cert.KernelIdeal10.τ).loc Cert.KernelIdeal10.main_v0) = v0 c
          ∧ r.2.mem ((c.tc : Thread Cert.KernelIdeal10.nD Cert.KernelIdeal10.τ).loc Cert.KernelIdeal10.main_arg0) = m ((c.tc : Thread Cert.KernelIdeal10.nD Cert.KernelIdeal10.τ).loc Cert.KernelIdeal10.main_arg0)
          ∧ r.2.mem ((c.tc : Thread Cert.KernelIdeal10.nD Cert.KernelIdeal10.τ).loc Cert.KernelIdeal10.main_arg1) = m ((c.tc : Thread Cert.KernelIdeal10.nD Cert.KernelIdeal10.τ).loc Cert.KernelIdeal10.main_arg1)
          ∧ r.2.mem ((c.tc : Thread Cert.KernelIdeal10.nD Cert.KernelIdeal10.τ).loc Cert.KernelIdeal10.main_arg2) = m ((c.tc : Thread Cert.KernelIdeal10.nD Cert.KernelIdeal10.τ).loc Cert.KernelIdeal10.main_arg2))
      ∧ θ_run (Cert.ReferenceIdeal10.defs (F := Ideal)) (onTc (τ := Cert.ReferenceIdeal10.τ) (Cert.ReferenceIdeal10.main (F := Ideal))) ⟨m', fun _ => 0, g'⟩ (fun r => ∀ c : Dev Cert.ReferenceIdeal10.nD,
          r.2.mem ((c.tc : Thread Cert.ReferenceIdeal10.nD Cert.ReferenceIdeal10.τ).loc Cert.ReferenceIdeal10.main_v4) = v0 c
          ∧ r.2.mem ((c.tc : Thread Cert.ReferenceIdeal10.nD Cert.ReferenceIdeal10.τ).loc Cert.ReferenceIdeal10.main_arg0) = m' ((c.tc : Thread Cert.ReferenceIdeal10.nD Cert.ReferenceIdeal10.τ).loc Cert.ReferenceIdeal10.main_arg0)
          ∧ r.2.mem ((c.tc : Thread Cert.ReferenceIdeal10.nD Cert.ReferenceIdeal10.τ).loc Cert.ReferenceIdeal10.main_arg1) = m' ((c.tc : Thread Cert.ReferenceIdeal10.nD Cert.ReferenceIdeal10.τ).loc Cert.ReferenceIdeal10.main_arg1)
          ∧ r.2.mem ((c.tc : Thread Cert.ReferenceIdeal10.nD Cert.ReferenceIdeal10.τ).loc Cert.ReferenceIdeal10.main_arg2) = m' ((c.tc : Thread Cert.ReferenceIdeal10.nD Cert.ReferenceIdeal10.τ).loc Cert.ReferenceIdeal10.main_arg2))

def preserves_Kernel11_KernelIdeal11 : Prop :=
  True

def algebraic_KernelIdeal11_ReferenceIdeal11 [hKernelIdeal11 : Cert.KernelIdeal11.Facts] [hReferenceIdeal11 : Cert.ReferenceIdeal11.Facts] : Prop :=
  ∀ (m : (ℓ : Loc Cert.KernelIdeal11.nD Cert.KernelIdeal11.τ Cert.KernelIdeal11.sig) → Buf (Elt Ideal) ℓ) (g : Dev Cert.KernelIdeal11.nD → PrngReg)
    (m' : (ℓ : Loc Cert.ReferenceIdeal11.nD Cert.ReferenceIdeal11.τ Cert.ReferenceIdeal11.sig) → Buf (Elt Ideal) ℓ) (g' : Dev Cert.ReferenceIdeal11.nD → PrngReg), Pre_KernelIdeal11 m →
    (∀ c : Dev Cert.KernelIdeal11.nD,
      m' ((c.tc : Thread Cert.ReferenceIdeal11.nD Cert.ReferenceIdeal11.τ).loc Cert.ReferenceIdeal11.main_arg0) = m ((c.tc : Thread Cert.KernelIdeal11.nD Cert.KernelIdeal11.τ).loc Cert.KernelIdeal11.main_arg0)
      ∧ m' ((c.tc : Thread Cert.ReferenceIdeal11.nD Cert.ReferenceIdeal11.τ).loc Cert.ReferenceIdeal11.main_arg1) = m ((c.tc : Thread Cert.KernelIdeal11.nD Cert.KernelIdeal11.τ).loc Cert.KernelIdeal11.main_arg1)
      ∧ m' ((c.tc : Thread Cert.ReferenceIdeal11.nD Cert.ReferenceIdeal11.τ).loc Cert.ReferenceIdeal11.main_arg2) = m ((c.tc : Thread Cert.KernelIdeal11.nD Cert.KernelIdeal11.τ).loc Cert.KernelIdeal11.main_arg2)
      ∧ m' ((c.tc : Thread Cert.ReferenceIdeal11.nD Cert.ReferenceIdeal11.τ).loc Cert.ReferenceIdeal11.main_arg3) = m ((c.tc : Thread Cert.KernelIdeal11.nD Cert.KernelIdeal11.τ).loc Cert.KernelIdeal11.main_arg3)) →
    ∃ (v0 : (c : Dev Cert.KernelIdeal11.nD) → Buf (Elt Ideal) ((c.tc : Thread Cert.KernelIdeal11.nD Cert.KernelIdeal11.τ).loc Cert.KernelIdeal11.main_v1)),
      θ_run (Cert.KernelIdeal11.defs (F := Ideal)) (onTc (τ := Cert.KernelIdeal11.τ) (Cert.KernelIdeal11.main (F := Ideal))) ⟨m, fun _ => 0, g⟩ (fun r => ∀ c : Dev Cert.KernelIdeal11.nD,
          r.2.mem ((c.tc : Thread Cert.KernelIdeal11.nD Cert.KernelIdeal11.τ).loc Cert.KernelIdeal11.main_v1) = v0 c
          ∧ r.2.mem ((c.tc : Thread Cert.KernelIdeal11.nD Cert.KernelIdeal11.τ).loc Cert.KernelIdeal11.main_arg0) = m ((c.tc : Thread Cert.KernelIdeal11.nD Cert.KernelIdeal11.τ).loc Cert.KernelIdeal11.main_arg0)
          ∧ r.2.mem ((c.tc : Thread Cert.KernelIdeal11.nD Cert.KernelIdeal11.τ).loc Cert.KernelIdeal11.main_arg1) = m ((c.tc : Thread Cert.KernelIdeal11.nD Cert.KernelIdeal11.τ).loc Cert.KernelIdeal11.main_arg1)
          ∧ r.2.mem ((c.tc : Thread Cert.KernelIdeal11.nD Cert.KernelIdeal11.τ).loc Cert.KernelIdeal11.main_arg2) = m ((c.tc : Thread Cert.KernelIdeal11.nD Cert.KernelIdeal11.τ).loc Cert.KernelIdeal11.main_arg2)
          ∧ r.2.mem ((c.tc : Thread Cert.KernelIdeal11.nD Cert.KernelIdeal11.τ).loc Cert.KernelIdeal11.main_arg3) = m ((c.tc : Thread Cert.KernelIdeal11.nD Cert.KernelIdeal11.τ).loc Cert.KernelIdeal11.main_arg3))
      ∧ θ_run (Cert.ReferenceIdeal11.defs (F := Ideal)) (onTc (τ := Cert.ReferenceIdeal11.τ) (Cert.ReferenceIdeal11.main (F := Ideal))) ⟨m', fun _ => 0, g'⟩ (fun r => ∀ c : Dev Cert.ReferenceIdeal11.nD,
          r.2.mem ((c.tc : Thread Cert.ReferenceIdeal11.nD Cert.ReferenceIdeal11.τ).loc Cert.ReferenceIdeal11.main_v9) = v0 c
          ∧ r.2.mem ((c.tc : Thread Cert.ReferenceIdeal11.nD Cert.ReferenceIdeal11.τ).loc Cert.ReferenceIdeal11.main_arg0) = m' ((c.tc : Thread Cert.ReferenceIdeal11.nD Cert.ReferenceIdeal11.τ).loc Cert.ReferenceIdeal11.main_arg0)
          ∧ r.2.mem ((c.tc : Thread Cert.ReferenceIdeal11.nD Cert.ReferenceIdeal11.τ).loc Cert.ReferenceIdeal11.main_arg1) = m' ((c.tc : Thread Cert.ReferenceIdeal11.nD Cert.ReferenceIdeal11.τ).loc Cert.ReferenceIdeal11.main_arg1)
          ∧ r.2.mem ((c.tc : Thread Cert.ReferenceIdeal11.nD Cert.ReferenceIdeal11.τ).loc Cert.ReferenceIdeal11.main_arg2) = m' ((c.tc : Thread Cert.ReferenceIdeal11.nD Cert.ReferenceIdeal11.τ).loc Cert.ReferenceIdeal11.main_arg2)
          ∧ r.2.mem ((c.tc : Thread Cert.ReferenceIdeal11.nD Cert.ReferenceIdeal11.τ).loc Cert.ReferenceIdeal11.main_arg3) = m' ((c.tc : Thread Cert.ReferenceIdeal11.nD Cert.ReferenceIdeal11.τ).loc Cert.ReferenceIdeal11.main_arg3))

def preserves_Kernel12_KernelIdeal12 : Prop :=
  True

def algebraic_KernelIdeal12_ReferenceIdeal12 [hKernelIdeal12 : Cert.KernelIdeal12.Facts] [hReferenceIdeal12 : Cert.ReferenceIdeal12.Facts] : Prop :=
  ∀ (m : (ℓ : Loc Cert.KernelIdeal12.nD Cert.KernelIdeal12.τ Cert.KernelIdeal12.sig) → Buf (Elt Ideal) ℓ) (g : Dev Cert.KernelIdeal12.nD → PrngReg)
    (m' : (ℓ : Loc Cert.ReferenceIdeal12.nD Cert.ReferenceIdeal12.τ Cert.ReferenceIdeal12.sig) → Buf (Elt Ideal) ℓ) (g' : Dev Cert.ReferenceIdeal12.nD → PrngReg), Pre_KernelIdeal12 m →
    (∀ c : Dev Cert.KernelIdeal12.nD,
      m' ((c.tc : Thread Cert.ReferenceIdeal12.nD Cert.ReferenceIdeal12.τ).loc Cert.ReferenceIdeal12.main_arg0) = m ((c.tc : Thread Cert.KernelIdeal12.nD Cert.KernelIdeal12.τ).loc Cert.KernelIdeal12.main_arg0)
      ∧ m' ((c.tc : Thread Cert.ReferenceIdeal12.nD Cert.ReferenceIdeal12.τ).loc Cert.ReferenceIdeal12.main_arg1) = m ((c.tc : Thread Cert.KernelIdeal12.nD Cert.KernelIdeal12.τ).loc Cert.KernelIdeal12.main_arg1)
      ∧ m' ((c.tc : Thread Cert.ReferenceIdeal12.nD Cert.ReferenceIdeal12.τ).loc Cert.ReferenceIdeal12.main_arg2) = m ((c.tc : Thread Cert.KernelIdeal12.nD Cert.KernelIdeal12.τ).loc Cert.KernelIdeal12.main_arg2)
      ∧ m' ((c.tc : Thread Cert.ReferenceIdeal12.nD Cert.ReferenceIdeal12.τ).loc Cert.ReferenceIdeal12.main_arg3) = m ((c.tc : Thread Cert.KernelIdeal12.nD Cert.KernelIdeal12.τ).loc Cert.KernelIdeal12.main_arg3)
      ∧ m' ((c.tc : Thread Cert.ReferenceIdeal12.nD Cert.ReferenceIdeal12.τ).loc Cert.ReferenceIdeal12.main_arg4) = m ((c.tc : Thread Cert.KernelIdeal12.nD Cert.KernelIdeal12.τ).loc Cert.KernelIdeal12.main_arg4)) →
    ∃ (v0 : (c : Dev Cert.KernelIdeal12.nD) → Buf (Elt Ideal) ((c.tc : Thread Cert.KernelIdeal12.nD Cert.KernelIdeal12.τ).loc Cert.KernelIdeal12.main_v2)),
      θ_run (Cert.KernelIdeal12.defs (F := Ideal)) (onTc (τ := Cert.KernelIdeal12.τ) (Cert.KernelIdeal12.main (F := Ideal))) ⟨m, fun _ => 0, g⟩ (fun r => ∀ c : Dev Cert.KernelIdeal12.nD,
          r.2.mem ((c.tc : Thread Cert.KernelIdeal12.nD Cert.KernelIdeal12.τ).loc Cert.KernelIdeal12.main_v2) = v0 c
          ∧ r.2.mem ((c.tc : Thread Cert.KernelIdeal12.nD Cert.KernelIdeal12.τ).loc Cert.KernelIdeal12.main_arg0) = m ((c.tc : Thread Cert.KernelIdeal12.nD Cert.KernelIdeal12.τ).loc Cert.KernelIdeal12.main_arg0)
          ∧ r.2.mem ((c.tc : Thread Cert.KernelIdeal12.nD Cert.KernelIdeal12.τ).loc Cert.KernelIdeal12.main_arg1) = m ((c.tc : Thread Cert.KernelIdeal12.nD Cert.KernelIdeal12.τ).loc Cert.KernelIdeal12.main_arg1)
          ∧ r.2.mem ((c.tc : Thread Cert.KernelIdeal12.nD Cert.KernelIdeal12.τ).loc Cert.KernelIdeal12.main_arg2) = m ((c.tc : Thread Cert.KernelIdeal12.nD Cert.KernelIdeal12.τ).loc Cert.KernelIdeal12.main_arg2)
          ∧ r.2.mem ((c.tc : Thread Cert.KernelIdeal12.nD Cert.KernelIdeal12.τ).loc Cert.KernelIdeal12.main_arg3) = m ((c.tc : Thread Cert.KernelIdeal12.nD Cert.KernelIdeal12.τ).loc Cert.KernelIdeal12.main_arg3)
          ∧ r.2.mem ((c.tc : Thread Cert.KernelIdeal12.nD Cert.KernelIdeal12.τ).loc Cert.KernelIdeal12.main_arg4) = m ((c.tc : Thread Cert.KernelIdeal12.nD Cert.KernelIdeal12.τ).loc Cert.KernelIdeal12.main_arg4))
      ∧ θ_run (Cert.ReferenceIdeal12.defs (F := Ideal)) (onTc (τ := Cert.ReferenceIdeal12.τ) (Cert.ReferenceIdeal12.main (F := Ideal))) ⟨m', fun _ => 0, g'⟩ (fun r => ∀ c : Dev Cert.ReferenceIdeal12.nD,
          r.2.mem ((c.tc : Thread Cert.ReferenceIdeal12.nD Cert.ReferenceIdeal12.τ).loc Cert.ReferenceIdeal12.main_v56) = v0 c
          ∧ r.2.mem ((c.tc : Thread Cert.ReferenceIdeal12.nD Cert.ReferenceIdeal12.τ).loc Cert.ReferenceIdeal12.main_arg0) = m' ((c.tc : Thread Cert.ReferenceIdeal12.nD Cert.ReferenceIdeal12.τ).loc Cert.ReferenceIdeal12.main_arg0)
          ∧ r.2.mem ((c.tc : Thread Cert.ReferenceIdeal12.nD Cert.ReferenceIdeal12.τ).loc Cert.ReferenceIdeal12.main_arg1) = m' ((c.tc : Thread Cert.ReferenceIdeal12.nD Cert.ReferenceIdeal12.τ).loc Cert.ReferenceIdeal12.main_arg1)
          ∧ r.2.mem ((c.tc : Thread Cert.ReferenceIdeal12.nD Cert.ReferenceIdeal12.τ).loc Cert.ReferenceIdeal12.main_arg2) = m' ((c.tc : Thread Cert.ReferenceIdeal12.nD Cert.ReferenceIdeal12.τ).loc Cert.ReferenceIdeal12.main_arg2)
          ∧ r.2.mem ((c.tc : Thread Cert.ReferenceIdeal12.nD Cert.ReferenceIdeal12.τ).loc Cert.ReferenceIdeal12.main_arg3) = m' ((c.tc : Thread Cert.ReferenceIdeal12.nD Cert.ReferenceIdeal12.τ).loc Cert.ReferenceIdeal12.main_arg3)
          ∧ r.2.mem ((c.tc : Thread Cert.ReferenceIdeal12.nD Cert.ReferenceIdeal12.τ).loc Cert.ReferenceIdeal12.main_arg4) = m' ((c.tc : Thread Cert.ReferenceIdeal12.nD Cert.ReferenceIdeal12.τ).loc Cert.ReferenceIdeal12.main_arg4))

def preserves_Kernel13_KernelIdeal13 : Prop :=
  True

def algebraic_KernelIdeal13_ReferenceIdeal13 [hKernelIdeal13 : Cert.KernelIdeal13.Facts] [hReferenceIdeal13 : Cert.ReferenceIdeal13.Facts] : Prop :=
  ∀ (m : (ℓ : Loc Cert.KernelIdeal13.nD Cert.KernelIdeal13.τ Cert.KernelIdeal13.sig) → Buf (Elt Ideal) ℓ) (g : Dev Cert.KernelIdeal13.nD → PrngReg)
    (m' : (ℓ : Loc Cert.ReferenceIdeal13.nD Cert.ReferenceIdeal13.τ Cert.ReferenceIdeal13.sig) → Buf (Elt Ideal) ℓ) (g' : Dev Cert.ReferenceIdeal13.nD → PrngReg), Pre_KernelIdeal13 m →
    (∀ c : Dev Cert.KernelIdeal13.nD,
      m' ((c.tc : Thread Cert.ReferenceIdeal13.nD Cert.ReferenceIdeal13.τ).loc Cert.ReferenceIdeal13.main_arg0) = m ((c.tc : Thread Cert.KernelIdeal13.nD Cert.KernelIdeal13.τ).loc Cert.KernelIdeal13.main_arg0)
      ∧ m' ((c.tc : Thread Cert.ReferenceIdeal13.nD Cert.ReferenceIdeal13.τ).loc Cert.ReferenceIdeal13.main_arg1) = m ((c.tc : Thread Cert.KernelIdeal13.nD Cert.KernelIdeal13.τ).loc Cert.KernelIdeal13.main_arg1)
      ∧ m' ((c.tc : Thread Cert.ReferenceIdeal13.nD Cert.ReferenceIdeal13.τ).loc Cert.ReferenceIdeal13.main_arg2) = m ((c.tc : Thread Cert.KernelIdeal13.nD Cert.KernelIdeal13.τ).loc Cert.KernelIdeal13.main_arg2)
      ∧ m' ((c.tc : Thread Cert.ReferenceIdeal13.nD Cert.ReferenceIdeal13.τ).loc Cert.ReferenceIdeal13.main_arg3) = m ((c.tc : Thread Cert.KernelIdeal13.nD Cert.KernelIdeal13.τ).loc Cert.KernelIdeal13.main_arg3)
      ∧ m' ((c.tc : Thread Cert.ReferenceIdeal13.nD Cert.ReferenceIdeal13.τ).loc Cert.ReferenceIdeal13.main_arg4) = m ((c.tc : Thread Cert.KernelIdeal13.nD Cert.KernelIdeal13.τ).loc Cert.KernelIdeal13.main_arg4)) →
    ∃ (v0 : (c : Dev Cert.KernelIdeal13.nD) → Buf (Elt Ideal) ((c.tc : Thread Cert.KernelIdeal13.nD Cert.KernelIdeal13.τ).loc Cert.KernelIdeal13.main_v2)),
      θ_run (Cert.KernelIdeal13.defs (F := Ideal)) (onTc (τ := Cert.KernelIdeal13.τ) (Cert.KernelIdeal13.main (F := Ideal))) ⟨m, fun _ => 0, g⟩ (fun r => ∀ c : Dev Cert.KernelIdeal13.nD,
          r.2.mem ((c.tc : Thread Cert.KernelIdeal13.nD Cert.KernelIdeal13.τ).loc Cert.KernelIdeal13.main_v2) = v0 c
          ∧ r.2.mem ((c.tc : Thread Cert.KernelIdeal13.nD Cert.KernelIdeal13.τ).loc Cert.KernelIdeal13.main_arg0) = m ((c.tc : Thread Cert.KernelIdeal13.nD Cert.KernelIdeal13.τ).loc Cert.KernelIdeal13.main_arg0)
          ∧ r.2.mem ((c.tc : Thread Cert.KernelIdeal13.nD Cert.KernelIdeal13.τ).loc Cert.KernelIdeal13.main_arg1) = m ((c.tc : Thread Cert.KernelIdeal13.nD Cert.KernelIdeal13.τ).loc Cert.KernelIdeal13.main_arg1)
          ∧ r.2.mem ((c.tc : Thread Cert.KernelIdeal13.nD Cert.KernelIdeal13.τ).loc Cert.KernelIdeal13.main_arg2) = m ((c.tc : Thread Cert.KernelIdeal13.nD Cert.KernelIdeal13.τ).loc Cert.KernelIdeal13.main_arg2)
          ∧ r.2.mem ((c.tc : Thread Cert.KernelIdeal13.nD Cert.KernelIdeal13.τ).loc Cert.KernelIdeal13.main_arg3) = m ((c.tc : Thread Cert.KernelIdeal13.nD Cert.KernelIdeal13.τ).loc Cert.KernelIdeal13.main_arg3)
          ∧ r.2.mem ((c.tc : Thread Cert.KernelIdeal13.nD Cert.KernelIdeal13.τ).loc Cert.KernelIdeal13.main_arg4) = m ((c.tc : Thread Cert.KernelIdeal13.nD Cert.KernelIdeal13.τ).loc Cert.KernelIdeal13.main_arg4))
      ∧ θ_run (Cert.ReferenceIdeal13.defs (F := Ideal)) (onTc (τ := Cert.ReferenceIdeal13.τ) (Cert.ReferenceIdeal13.main (F := Ideal))) ⟨m', fun _ => 0, g'⟩ (fun r => ∀ c : Dev Cert.ReferenceIdeal13.nD,
          r.2.mem ((c.tc : Thread Cert.ReferenceIdeal13.nD Cert.ReferenceIdeal13.τ).loc Cert.ReferenceIdeal13.main_v56) = v0 c
          ∧ r.2.mem ((c.tc : Thread Cert.ReferenceIdeal13.nD Cert.ReferenceIdeal13.τ).loc Cert.ReferenceIdeal13.main_arg0) = m' ((c.tc : Thread Cert.ReferenceIdeal13.nD Cert.ReferenceIdeal13.τ).loc Cert.ReferenceIdeal13.main_arg0)
          ∧ r.2.mem ((c.tc : Thread Cert.ReferenceIdeal13.nD Cert.ReferenceIdeal13.τ).loc Cert.ReferenceIdeal13.main_arg1) = m' ((c.tc : Thread Cert.ReferenceIdeal13.nD Cert.ReferenceIdeal13.τ).loc Cert.ReferenceIdeal13.main_arg1)
          ∧ r.2.mem ((c.tc : Thread Cert.ReferenceIdeal13.nD Cert.ReferenceIdeal13.τ).loc Cert.ReferenceIdeal13.main_arg2) = m' ((c.tc : Thread Cert.ReferenceIdeal13.nD Cert.ReferenceIdeal13.τ).loc Cert.ReferenceIdeal13.main_arg2)
          ∧ r.2.mem ((c.tc : Thread Cert.ReferenceIdeal13.nD Cert.ReferenceIdeal13.τ).loc Cert.ReferenceIdeal13.main_arg3) = m' ((c.tc : Thread Cert.ReferenceIdeal13.nD Cert.ReferenceIdeal13.τ).loc Cert.ReferenceIdeal13.main_arg3)
          ∧ r.2.mem ((c.tc : Thread Cert.ReferenceIdeal13.nD Cert.ReferenceIdeal13.τ).loc Cert.ReferenceIdeal13.main_arg4) = m' ((c.tc : Thread Cert.ReferenceIdeal13.nD Cert.ReferenceIdeal13.τ).loc Cert.ReferenceIdeal13.main_arg4))

def preserves_Kernel14_KernelIdeal14 : Prop :=
  True

def algebraic_KernelIdeal14_ReferenceIdeal14 [hKernelIdeal14 : Cert.KernelIdeal14.Facts] [hReferenceIdeal14 : Cert.ReferenceIdeal14.Facts] : Prop :=
  ∀ (m : (ℓ : Loc Cert.KernelIdeal14.nD Cert.KernelIdeal14.τ Cert.KernelIdeal14.sig) → Buf (Elt Ideal) ℓ) (g : Dev Cert.KernelIdeal14.nD → PrngReg)
    (m' : (ℓ : Loc Cert.ReferenceIdeal14.nD Cert.ReferenceIdeal14.τ Cert.ReferenceIdeal14.sig) → Buf (Elt Ideal) ℓ) (g' : Dev Cert.ReferenceIdeal14.nD → PrngReg), Pre_KernelIdeal14 m →
    (∀ c : Dev Cert.KernelIdeal14.nD,
      m' ((c.tc : Thread Cert.ReferenceIdeal14.nD Cert.ReferenceIdeal14.τ).loc Cert.ReferenceIdeal14.main_arg0) = m ((c.tc : Thread Cert.KernelIdeal14.nD Cert.KernelIdeal14.τ).loc Cert.KernelIdeal14.main_arg0)
      ∧ m' ((c.tc : Thread Cert.ReferenceIdeal14.nD Cert.ReferenceIdeal14.τ).loc Cert.ReferenceIdeal14.main_arg1) = m ((c.tc : Thread Cert.KernelIdeal14.nD Cert.KernelIdeal14.τ).loc Cert.KernelIdeal14.main_arg1)
      ∧ m' ((c.tc : Thread Cert.ReferenceIdeal14.nD Cert.ReferenceIdeal14.τ).loc Cert.ReferenceIdeal14.main_arg2) = m ((c.tc : Thread Cert.KernelIdeal14.nD Cert.KernelIdeal14.τ).loc Cert.KernelIdeal14.main_arg2)
      ∧ m' ((c.tc : Thread Cert.ReferenceIdeal14.nD Cert.ReferenceIdeal14.τ).loc Cert.ReferenceIdeal14.main_arg3) = m ((c.tc : Thread Cert.KernelIdeal14.nD Cert.KernelIdeal14.τ).loc Cert.KernelIdeal14.main_arg3)
      ∧ m' ((c.tc : Thread Cert.ReferenceIdeal14.nD Cert.ReferenceIdeal14.τ).loc Cert.ReferenceIdeal14.main_arg4) = m ((c.tc : Thread Cert.KernelIdeal14.nD Cert.KernelIdeal14.τ).loc Cert.KernelIdeal14.main_arg4)) →
    ∃ (v0 : (c : Dev Cert.KernelIdeal14.nD) → Buf (Elt Ideal) ((c.tc : Thread Cert.KernelIdeal14.nD Cert.KernelIdeal14.τ).loc Cert.KernelIdeal14.main_v2)),
      θ_run (Cert.KernelIdeal14.defs (F := Ideal)) (onTc (τ := Cert.KernelIdeal14.τ) (Cert.KernelIdeal14.main (F := Ideal))) ⟨m, fun _ => 0, g⟩ (fun r => ∀ c : Dev Cert.KernelIdeal14.nD,
          r.2.mem ((c.tc : Thread Cert.KernelIdeal14.nD Cert.KernelIdeal14.τ).loc Cert.KernelIdeal14.main_v2) = v0 c
          ∧ r.2.mem ((c.tc : Thread Cert.KernelIdeal14.nD Cert.KernelIdeal14.τ).loc Cert.KernelIdeal14.main_arg0) = m ((c.tc : Thread Cert.KernelIdeal14.nD Cert.KernelIdeal14.τ).loc Cert.KernelIdeal14.main_arg0)
          ∧ r.2.mem ((c.tc : Thread Cert.KernelIdeal14.nD Cert.KernelIdeal14.τ).loc Cert.KernelIdeal14.main_arg1) = m ((c.tc : Thread Cert.KernelIdeal14.nD Cert.KernelIdeal14.τ).loc Cert.KernelIdeal14.main_arg1)
          ∧ r.2.mem ((c.tc : Thread Cert.KernelIdeal14.nD Cert.KernelIdeal14.τ).loc Cert.KernelIdeal14.main_arg2) = m ((c.tc : Thread Cert.KernelIdeal14.nD Cert.KernelIdeal14.τ).loc Cert.KernelIdeal14.main_arg2)
          ∧ r.2.mem ((c.tc : Thread Cert.KernelIdeal14.nD Cert.KernelIdeal14.τ).loc Cert.KernelIdeal14.main_arg3) = m ((c.tc : Thread Cert.KernelIdeal14.nD Cert.KernelIdeal14.τ).loc Cert.KernelIdeal14.main_arg3)
          ∧ r.2.mem ((c.tc : Thread Cert.KernelIdeal14.nD Cert.KernelIdeal14.τ).loc Cert.KernelIdeal14.main_arg4) = m ((c.tc : Thread Cert.KernelIdeal14.nD Cert.KernelIdeal14.τ).loc Cert.KernelIdeal14.main_arg4))
      ∧ θ_run (Cert.ReferenceIdeal14.defs (F := Ideal)) (onTc (τ := Cert.ReferenceIdeal14.τ) (Cert.ReferenceIdeal14.main (F := Ideal))) ⟨m', fun _ => 0, g'⟩ (fun r => ∀ c : Dev Cert.ReferenceIdeal14.nD,
          r.2.mem ((c.tc : Thread Cert.ReferenceIdeal14.nD Cert.ReferenceIdeal14.τ).loc Cert.ReferenceIdeal14.main_v56) = v0 c
          ∧ r.2.mem ((c.tc : Thread Cert.ReferenceIdeal14.nD Cert.ReferenceIdeal14.τ).loc Cert.ReferenceIdeal14.main_arg0) = m' ((c.tc : Thread Cert.ReferenceIdeal14.nD Cert.ReferenceIdeal14.τ).loc Cert.ReferenceIdeal14.main_arg0)
          ∧ r.2.mem ((c.tc : Thread Cert.ReferenceIdeal14.nD Cert.ReferenceIdeal14.τ).loc Cert.ReferenceIdeal14.main_arg1) = m' ((c.tc : Thread Cert.ReferenceIdeal14.nD Cert.ReferenceIdeal14.τ).loc Cert.ReferenceIdeal14.main_arg1)
          ∧ r.2.mem ((c.tc : Thread Cert.ReferenceIdeal14.nD Cert.ReferenceIdeal14.τ).loc Cert.ReferenceIdeal14.main_arg2) = m' ((c.tc : Thread Cert.ReferenceIdeal14.nD Cert.ReferenceIdeal14.τ).loc Cert.ReferenceIdeal14.main_arg2)
          ∧ r.2.mem ((c.tc : Thread Cert.ReferenceIdeal14.nD Cert.ReferenceIdeal14.τ).loc Cert.ReferenceIdeal14.main_arg3) = m' ((c.tc : Thread Cert.ReferenceIdeal14.nD Cert.ReferenceIdeal14.τ).loc Cert.ReferenceIdeal14.main_arg3)
          ∧ r.2.mem ((c.tc : Thread Cert.ReferenceIdeal14.nD Cert.ReferenceIdeal14.τ).loc Cert.ReferenceIdeal14.main_arg4) = m' ((c.tc : Thread Cert.ReferenceIdeal14.nD Cert.ReferenceIdeal14.τ).loc Cert.ReferenceIdeal14.main_arg4))

def preserves_Kernel15_KernelIdeal15 : Prop :=
  True

def algebraic_KernelIdeal15_ReferenceIdeal15 [hKernelIdeal15 : Cert.KernelIdeal15.Facts] [hReferenceIdeal15 : Cert.ReferenceIdeal15.Facts] : Prop :=
  ∀ (m : (ℓ : Loc Cert.KernelIdeal15.nD Cert.KernelIdeal15.τ Cert.KernelIdeal15.sig) → Buf (Elt Ideal) ℓ) (g : Dev Cert.KernelIdeal15.nD → PrngReg)
    (m' : (ℓ : Loc Cert.ReferenceIdeal15.nD Cert.ReferenceIdeal15.τ Cert.ReferenceIdeal15.sig) → Buf (Elt Ideal) ℓ) (g' : Dev Cert.ReferenceIdeal15.nD → PrngReg), Pre_KernelIdeal15 m →
    (∀ c : Dev Cert.KernelIdeal15.nD,
      m' ((c.tc : Thread Cert.ReferenceIdeal15.nD Cert.ReferenceIdeal15.τ).loc Cert.ReferenceIdeal15.main_arg0) = m ((c.tc : Thread Cert.KernelIdeal15.nD Cert.KernelIdeal15.τ).loc Cert.KernelIdeal15.main_arg0)
      ∧ m' ((c.tc : Thread Cert.ReferenceIdeal15.nD Cert.ReferenceIdeal15.τ).loc Cert.ReferenceIdeal15.main_arg1) = m ((c.tc : Thread Cert.KernelIdeal15.nD Cert.KernelIdeal15.τ).loc Cert.KernelIdeal15.main_arg1)
      ∧ m' ((c.tc : Thread Cert.ReferenceIdeal15.nD Cert.ReferenceIdeal15.τ).loc Cert.ReferenceIdeal15.main_arg2) = m ((c.tc : Thread Cert.KernelIdeal15.nD Cert.KernelIdeal15.τ).loc Cert.KernelIdeal15.main_arg2)
      ∧ m' ((c.tc : Thread Cert.ReferenceIdeal15.nD Cert.ReferenceIdeal15.τ).loc Cert.ReferenceIdeal15.main_arg3) = m ((c.tc : Thread Cert.KernelIdeal15.nD Cert.KernelIdeal15.τ).loc Cert.KernelIdeal15.main_arg3)
      ∧ m' ((c.tc : Thread Cert.ReferenceIdeal15.nD Cert.ReferenceIdeal15.τ).loc Cert.ReferenceIdeal15.main_arg4) = m ((c.tc : Thread Cert.KernelIdeal15.nD Cert.KernelIdeal15.τ).loc Cert.KernelIdeal15.main_arg4)) →
    ∃ (v0 : (c : Dev Cert.KernelIdeal15.nD) → Buf (Elt Ideal) ((c.tc : Thread Cert.KernelIdeal15.nD Cert.KernelIdeal15.τ).loc Cert.KernelIdeal15.main_v2)),
      θ_run (Cert.KernelIdeal15.defs (F := Ideal)) (onTc (τ := Cert.KernelIdeal15.τ) (Cert.KernelIdeal15.main (F := Ideal))) ⟨m, fun _ => 0, g⟩ (fun r => ∀ c : Dev Cert.KernelIdeal15.nD,
          r.2.mem ((c.tc : Thread Cert.KernelIdeal15.nD Cert.KernelIdeal15.τ).loc Cert.KernelIdeal15.main_v2) = v0 c
          ∧ r.2.mem ((c.tc : Thread Cert.KernelIdeal15.nD Cert.KernelIdeal15.τ).loc Cert.KernelIdeal15.main_arg0) = m ((c.tc : Thread Cert.KernelIdeal15.nD Cert.KernelIdeal15.τ).loc Cert.KernelIdeal15.main_arg0)
          ∧ r.2.mem ((c.tc : Thread Cert.KernelIdeal15.nD Cert.KernelIdeal15.τ).loc Cert.KernelIdeal15.main_arg1) = m ((c.tc : Thread Cert.KernelIdeal15.nD Cert.KernelIdeal15.τ).loc Cert.KernelIdeal15.main_arg1)
          ∧ r.2.mem ((c.tc : Thread Cert.KernelIdeal15.nD Cert.KernelIdeal15.τ).loc Cert.KernelIdeal15.main_arg2) = m ((c.tc : Thread Cert.KernelIdeal15.nD Cert.KernelIdeal15.τ).loc Cert.KernelIdeal15.main_arg2)
          ∧ r.2.mem ((c.tc : Thread Cert.KernelIdeal15.nD Cert.KernelIdeal15.τ).loc Cert.KernelIdeal15.main_arg3) = m ((c.tc : Thread Cert.KernelIdeal15.nD Cert.KernelIdeal15.τ).loc Cert.KernelIdeal15.main_arg3)
          ∧ r.2.mem ((c.tc : Thread Cert.KernelIdeal15.nD Cert.KernelIdeal15.τ).loc Cert.KernelIdeal15.main_arg4) = m ((c.tc : Thread Cert.KernelIdeal15.nD Cert.KernelIdeal15.τ).loc Cert.KernelIdeal15.main_arg4))
      ∧ θ_run (Cert.ReferenceIdeal15.defs (F := Ideal)) (onTc (τ := Cert.ReferenceIdeal15.τ) (Cert.ReferenceIdeal15.main (F := Ideal))) ⟨m', fun _ => 0, g'⟩ (fun r => ∀ c : Dev Cert.ReferenceIdeal15.nD,
          r.2.mem ((c.tc : Thread Cert.ReferenceIdeal15.nD Cert.ReferenceIdeal15.τ).loc Cert.ReferenceIdeal15.main_v56) = v0 c
          ∧ r.2.mem ((c.tc : Thread Cert.ReferenceIdeal15.nD Cert.ReferenceIdeal15.τ).loc Cert.ReferenceIdeal15.main_arg0) = m' ((c.tc : Thread Cert.ReferenceIdeal15.nD Cert.ReferenceIdeal15.τ).loc Cert.ReferenceIdeal15.main_arg0)
          ∧ r.2.mem ((c.tc : Thread Cert.ReferenceIdeal15.nD Cert.ReferenceIdeal15.τ).loc Cert.ReferenceIdeal15.main_arg1) = m' ((c.tc : Thread Cert.ReferenceIdeal15.nD Cert.ReferenceIdeal15.τ).loc Cert.ReferenceIdeal15.main_arg1)
          ∧ r.2.mem ((c.tc : Thread Cert.ReferenceIdeal15.nD Cert.ReferenceIdeal15.τ).loc Cert.ReferenceIdeal15.main_arg2) = m' ((c.tc : Thread Cert.ReferenceIdeal15.nD Cert.ReferenceIdeal15.τ).loc Cert.ReferenceIdeal15.main_arg2)
          ∧ r.2.mem ((c.tc : Thread Cert.ReferenceIdeal15.nD Cert.ReferenceIdeal15.τ).loc Cert.ReferenceIdeal15.main_arg3) = m' ((c.tc : Thread Cert.ReferenceIdeal15.nD Cert.ReferenceIdeal15.τ).loc Cert.ReferenceIdeal15.main_arg3)
          ∧ r.2.mem ((c.tc : Thread Cert.ReferenceIdeal15.nD Cert.ReferenceIdeal15.τ).loc Cert.ReferenceIdeal15.main_arg4) = m' ((c.tc : Thread Cert.ReferenceIdeal15.nD Cert.ReferenceIdeal15.τ).loc Cert.ReferenceIdeal15.main_arg4))

def preserves_Kernel16_KernelIdeal16 : Prop :=
  True

def algebraic_KernelIdeal16_ReferenceIdeal16 [hKernelIdeal16 : Cert.KernelIdeal16.Facts] [hReferenceIdeal16 : Cert.ReferenceIdeal16.Facts] : Prop :=
  ∀ (m : (ℓ : Loc Cert.KernelIdeal16.nD Cert.KernelIdeal16.τ Cert.KernelIdeal16.sig) → Buf (Elt Ideal) ℓ) (g : Dev Cert.KernelIdeal16.nD → PrngReg)
    (m' : (ℓ : Loc Cert.ReferenceIdeal16.nD Cert.ReferenceIdeal16.τ Cert.ReferenceIdeal16.sig) → Buf (Elt Ideal) ℓ) (g' : Dev Cert.ReferenceIdeal16.nD → PrngReg), Pre_KernelIdeal16 m →
    (∀ c : Dev Cert.KernelIdeal16.nD,
      m' ((c.tc : Thread Cert.ReferenceIdeal16.nD Cert.ReferenceIdeal16.τ).loc Cert.ReferenceIdeal16.main_arg0) = m ((c.tc : Thread Cert.KernelIdeal16.nD Cert.KernelIdeal16.τ).loc Cert.KernelIdeal16.main_arg0)
      ∧ m' ((c.tc : Thread Cert.ReferenceIdeal16.nD Cert.ReferenceIdeal16.τ).loc Cert.ReferenceIdeal16.main_arg1) = m ((c.tc : Thread Cert.KernelIdeal16.nD Cert.KernelIdeal16.τ).loc Cert.KernelIdeal16.main_arg1)
      ∧ m' ((c.tc : Thread Cert.ReferenceIdeal16.nD Cert.ReferenceIdeal16.τ).loc Cert.ReferenceIdeal16.main_arg2) = m ((c.tc : Thread Cert.KernelIdeal16.nD Cert.KernelIdeal16.τ).loc Cert.KernelIdeal16.main_arg2)
      ∧ m' ((c.tc : Thread Cert.ReferenceIdeal16.nD Cert.ReferenceIdeal16.τ).loc Cert.ReferenceIdeal16.main_arg3) = m ((c.tc : Thread Cert.KernelIdeal16.nD Cert.KernelIdeal16.τ).loc Cert.KernelIdeal16.main_arg3)) →
    ∃ (v0 : (c : Dev Cert.KernelIdeal16.nD) → Buf (Elt Ideal) ((c.tc : Thread Cert.KernelIdeal16.nD Cert.KernelIdeal16.τ).loc Cert.KernelIdeal16.main_v2)),
      θ_run (Cert.KernelIdeal16.defs (F := Ideal)) (onTc (τ := Cert.KernelIdeal16.τ) (Cert.KernelIdeal16.main (F := Ideal))) ⟨m, fun _ => 0, g⟩ (fun r => ∀ c : Dev Cert.KernelIdeal16.nD,
          r.2.mem ((c.tc : Thread Cert.KernelIdeal16.nD Cert.KernelIdeal16.τ).loc Cert.KernelIdeal16.main_v2) = v0 c
          ∧ r.2.mem ((c.tc : Thread Cert.KernelIdeal16.nD Cert.KernelIdeal16.τ).loc Cert.KernelIdeal16.main_arg0) = m ((c.tc : Thread Cert.KernelIdeal16.nD Cert.KernelIdeal16.τ).loc Cert.KernelIdeal16.main_arg0)
          ∧ r.2.mem ((c.tc : Thread Cert.KernelIdeal16.nD Cert.KernelIdeal16.τ).loc Cert.KernelIdeal16.main_arg1) = m ((c.tc : Thread Cert.KernelIdeal16.nD Cert.KernelIdeal16.τ).loc Cert.KernelIdeal16.main_arg1)
          ∧ r.2.mem ((c.tc : Thread Cert.KernelIdeal16.nD Cert.KernelIdeal16.τ).loc Cert.KernelIdeal16.main_arg2) = m ((c.tc : Thread Cert.KernelIdeal16.nD Cert.KernelIdeal16.τ).loc Cert.KernelIdeal16.main_arg2)
          ∧ r.2.mem ((c.tc : Thread Cert.KernelIdeal16.nD Cert.KernelIdeal16.τ).loc Cert.KernelIdeal16.main_arg3) = m ((c.tc : Thread Cert.KernelIdeal16.nD Cert.KernelIdeal16.τ).loc Cert.KernelIdeal16.main_arg3))
      ∧ θ_run (Cert.ReferenceIdeal16.defs (F := Ideal)) (onTc (τ := Cert.ReferenceIdeal16.τ) (Cert.ReferenceIdeal16.main (F := Ideal))) ⟨m', fun _ => 0, g'⟩ (fun r => ∀ c : Dev Cert.ReferenceIdeal16.nD,
          r.2.mem ((c.tc : Thread Cert.ReferenceIdeal16.nD Cert.ReferenceIdeal16.τ).loc Cert.ReferenceIdeal16.main_v46) = v0 c
          ∧ r.2.mem ((c.tc : Thread Cert.ReferenceIdeal16.nD Cert.ReferenceIdeal16.τ).loc Cert.ReferenceIdeal16.main_arg0) = m' ((c.tc : Thread Cert.ReferenceIdeal16.nD Cert.ReferenceIdeal16.τ).loc Cert.ReferenceIdeal16.main_arg0)
          ∧ r.2.mem ((c.tc : Thread Cert.ReferenceIdeal16.nD Cert.ReferenceIdeal16.τ).loc Cert.ReferenceIdeal16.main_arg1) = m' ((c.tc : Thread Cert.ReferenceIdeal16.nD Cert.ReferenceIdeal16.τ).loc Cert.ReferenceIdeal16.main_arg1)
          ∧ r.2.mem ((c.tc : Thread Cert.ReferenceIdeal16.nD Cert.ReferenceIdeal16.τ).loc Cert.ReferenceIdeal16.main_arg2) = m' ((c.tc : Thread Cert.ReferenceIdeal16.nD Cert.ReferenceIdeal16.τ).loc Cert.ReferenceIdeal16.main_arg2)
          ∧ r.2.mem ((c.tc : Thread Cert.ReferenceIdeal16.nD Cert.ReferenceIdeal16.τ).loc Cert.ReferenceIdeal16.main_arg3) = m' ((c.tc : Thread Cert.ReferenceIdeal16.nD Cert.ReferenceIdeal16.τ).loc Cert.ReferenceIdeal16.main_arg3))

def preserves_Kernel17_KernelIdeal17 : Prop :=
  True

def algebraic_KernelIdeal17_ReferenceIdeal17 [hKernelIdeal17 : Cert.KernelIdeal17.Facts] [hReferenceIdeal17 : Cert.ReferenceIdeal17.Facts] : Prop :=
  ∀ (m : (ℓ : Loc Cert.KernelIdeal17.nD Cert.KernelIdeal17.τ Cert.KernelIdeal17.sig) → Buf (Elt Ideal) ℓ) (g : Dev Cert.KernelIdeal17.nD → PrngReg)
    (m' : (ℓ : Loc Cert.ReferenceIdeal17.nD Cert.ReferenceIdeal17.τ Cert.ReferenceIdeal17.sig) → Buf (Elt Ideal) ℓ) (g' : Dev Cert.ReferenceIdeal17.nD → PrngReg), Pre_KernelIdeal17 m →
    (∀ c : Dev Cert.KernelIdeal17.nD,
      m' ((c.tc : Thread Cert.ReferenceIdeal17.nD Cert.ReferenceIdeal17.τ).loc Cert.ReferenceIdeal17.main_arg0) = m ((c.tc : Thread Cert.KernelIdeal17.nD Cert.KernelIdeal17.τ).loc Cert.KernelIdeal17.main_arg0)
      ∧ m' ((c.tc : Thread Cert.ReferenceIdeal17.nD Cert.ReferenceIdeal17.τ).loc Cert.ReferenceIdeal17.main_arg1) = m ((c.tc : Thread Cert.KernelIdeal17.nD Cert.KernelIdeal17.τ).loc Cert.KernelIdeal17.main_arg1)
      ∧ m' ((c.tc : Thread Cert.ReferenceIdeal17.nD Cert.ReferenceIdeal17.τ).loc Cert.ReferenceIdeal17.main_arg2) = m ((c.tc : Thread Cert.KernelIdeal17.nD Cert.KernelIdeal17.τ).loc Cert.KernelIdeal17.main_arg2)
      ∧ m' ((c.tc : Thread Cert.ReferenceIdeal17.nD Cert.ReferenceIdeal17.τ).loc Cert.ReferenceIdeal17.main_arg3) = m ((c.tc : Thread Cert.KernelIdeal17.nD Cert.KernelIdeal17.τ).loc Cert.KernelIdeal17.main_arg3)) →
    ∃ (v0 : (c : Dev Cert.KernelIdeal17.nD) → Buf (Elt Ideal) ((c.tc : Thread Cert.KernelIdeal17.nD Cert.KernelIdeal17.τ).loc Cert.KernelIdeal17.main_v2)),
      θ_run (Cert.KernelIdeal17.defs (F := Ideal)) (onTc (τ := Cert.KernelIdeal17.τ) (Cert.KernelIdeal17.main (F := Ideal))) ⟨m, fun _ => 0, g⟩ (fun r => ∀ c : Dev Cert.KernelIdeal17.nD,
          r.2.mem ((c.tc : Thread Cert.KernelIdeal17.nD Cert.KernelIdeal17.τ).loc Cert.KernelIdeal17.main_v2) = v0 c
          ∧ r.2.mem ((c.tc : Thread Cert.KernelIdeal17.nD Cert.KernelIdeal17.τ).loc Cert.KernelIdeal17.main_arg0) = m ((c.tc : Thread Cert.KernelIdeal17.nD Cert.KernelIdeal17.τ).loc Cert.KernelIdeal17.main_arg0)
          ∧ r.2.mem ((c.tc : Thread Cert.KernelIdeal17.nD Cert.KernelIdeal17.τ).loc Cert.KernelIdeal17.main_arg1) = m ((c.tc : Thread Cert.KernelIdeal17.nD Cert.KernelIdeal17.τ).loc Cert.KernelIdeal17.main_arg1)
          ∧ r.2.mem ((c.tc : Thread Cert.KernelIdeal17.nD Cert.KernelIdeal17.τ).loc Cert.KernelIdeal17.main_arg2) = m ((c.tc : Thread Cert.KernelIdeal17.nD Cert.KernelIdeal17.τ).loc Cert.KernelIdeal17.main_arg2)
          ∧ r.2.mem ((c.tc : Thread Cert.KernelIdeal17.nD Cert.KernelIdeal17.τ).loc Cert.KernelIdeal17.main_arg3) = m ((c.tc : Thread Cert.KernelIdeal17.nD Cert.KernelIdeal17.τ).loc Cert.KernelIdeal17.main_arg3))
      ∧ θ_run (Cert.ReferenceIdeal17.defs (F := Ideal)) (onTc (τ := Cert.ReferenceIdeal17.τ) (Cert.ReferenceIdeal17.main (F := Ideal))) ⟨m', fun _ => 0, g'⟩ (fun r => ∀ c : Dev Cert.ReferenceIdeal17.nD,
          r.2.mem ((c.tc : Thread Cert.ReferenceIdeal17.nD Cert.ReferenceIdeal17.τ).loc Cert.ReferenceIdeal17.main_v46) = v0 c
          ∧ r.2.mem ((c.tc : Thread Cert.ReferenceIdeal17.nD Cert.ReferenceIdeal17.τ).loc Cert.ReferenceIdeal17.main_arg0) = m' ((c.tc : Thread Cert.ReferenceIdeal17.nD Cert.ReferenceIdeal17.τ).loc Cert.ReferenceIdeal17.main_arg0)
          ∧ r.2.mem ((c.tc : Thread Cert.ReferenceIdeal17.nD Cert.ReferenceIdeal17.τ).loc Cert.ReferenceIdeal17.main_arg1) = m' ((c.tc : Thread Cert.ReferenceIdeal17.nD Cert.ReferenceIdeal17.τ).loc Cert.ReferenceIdeal17.main_arg1)
          ∧ r.2.mem ((c.tc : Thread Cert.ReferenceIdeal17.nD Cert.ReferenceIdeal17.τ).loc Cert.ReferenceIdeal17.main_arg2) = m' ((c.tc : Thread Cert.ReferenceIdeal17.nD Cert.ReferenceIdeal17.τ).loc Cert.ReferenceIdeal17.main_arg2)
          ∧ r.2.mem ((c.tc : Thread Cert.ReferenceIdeal17.nD Cert.ReferenceIdeal17.τ).loc Cert.ReferenceIdeal17.main_arg3) = m' ((c.tc : Thread Cert.ReferenceIdeal17.nD Cert.ReferenceIdeal17.τ).loc Cert.ReferenceIdeal17.main_arg3))

def preserves_Kernel18_KernelIdeal18 : Prop :=
  True

def algebraic_KernelIdeal18_ReferenceIdeal18 [hKernelIdeal18 : Cert.KernelIdeal18.Facts] [hReferenceIdeal18 : Cert.ReferenceIdeal18.Facts] : Prop :=
  ∀ (m : (ℓ : Loc Cert.KernelIdeal18.nD Cert.KernelIdeal18.τ Cert.KernelIdeal18.sig) → Buf (Elt Ideal) ℓ) (g : Dev Cert.KernelIdeal18.nD → PrngReg)
    (m' : (ℓ : Loc Cert.ReferenceIdeal18.nD Cert.ReferenceIdeal18.τ Cert.ReferenceIdeal18.sig) → Buf (Elt Ideal) ℓ) (g' : Dev Cert.ReferenceIdeal18.nD → PrngReg), Pre_KernelIdeal18 m →
    (∀ c : Dev Cert.KernelIdeal18.nD,
      m' ((c.tc : Thread Cert.ReferenceIdeal18.nD Cert.ReferenceIdeal18.τ).loc Cert.ReferenceIdeal18.main_arg0) = m ((c.tc : Thread Cert.KernelIdeal18.nD Cert.KernelIdeal18.τ).loc Cert.KernelIdeal18.main_arg0)
      ∧ m' ((c.tc : Thread Cert.ReferenceIdeal18.nD Cert.ReferenceIdeal18.τ).loc Cert.ReferenceIdeal18.main_arg1) = m ((c.tc : Thread Cert.KernelIdeal18.nD Cert.KernelIdeal18.τ).loc Cert.KernelIdeal18.main_arg1)) →
    ∃ (v0 : (c : Dev Cert.KernelIdeal18.nD) → Buf (Elt Ideal) ((c.tc : Thread Cert.KernelIdeal18.nD Cert.KernelIdeal18.τ).loc Cert.KernelIdeal18.main_v1)),
      θ_run (Cert.KernelIdeal18.defs (F := Ideal)) (onTc (τ := Cert.KernelIdeal18.τ) (Cert.KernelIdeal18.main (F := Ideal))) ⟨m, fun _ => 0, g⟩ (fun r => ∀ c : Dev Cert.KernelIdeal18.nD,
          r.2.mem ((c.tc : Thread Cert.KernelIdeal18.nD Cert.KernelIdeal18.τ).loc Cert.KernelIdeal18.main_v1) = v0 c
          ∧ r.2.mem ((c.tc : Thread Cert.KernelIdeal18.nD Cert.KernelIdeal18.τ).loc Cert.KernelIdeal18.main_arg0) = m ((c.tc : Thread Cert.KernelIdeal18.nD Cert.KernelIdeal18.τ).loc Cert.KernelIdeal18.main_arg0)
          ∧ r.2.mem ((c.tc : Thread Cert.KernelIdeal18.nD Cert.KernelIdeal18.τ).loc Cert.KernelIdeal18.main_arg1) = m ((c.tc : Thread Cert.KernelIdeal18.nD Cert.KernelIdeal18.τ).loc Cert.KernelIdeal18.main_arg1))
      ∧ θ_run (Cert.ReferenceIdeal18.defs (F := Ideal)) (onTc (τ := Cert.ReferenceIdeal18.τ) (Cert.ReferenceIdeal18.main (F := Ideal))) ⟨m', fun _ => 0, g'⟩ (fun r => ∀ c : Dev Cert.ReferenceIdeal18.nD,
          r.2.mem ((c.tc : Thread Cert.ReferenceIdeal18.nD Cert.ReferenceIdeal18.τ).loc Cert.ReferenceIdeal18.main_v12) = v0 c
          ∧ r.2.mem ((c.tc : Thread Cert.ReferenceIdeal18.nD Cert.ReferenceIdeal18.τ).loc Cert.ReferenceIdeal18.main_arg0) = m' ((c.tc : Thread Cert.ReferenceIdeal18.nD Cert.ReferenceIdeal18.τ).loc Cert.ReferenceIdeal18.main_arg0)
          ∧ r.2.mem ((c.tc : Thread Cert.ReferenceIdeal18.nD Cert.ReferenceIdeal18.τ).loc Cert.ReferenceIdeal18.main_arg1) = m' ((c.tc : Thread Cert.ReferenceIdeal18.nD Cert.ReferenceIdeal18.τ).loc Cert.ReferenceIdeal18.main_arg1))

def Claim : Prop :=
  ∃ (hKernel : Cert.Kernel.Facts) (hKernelIdeal : Cert.KernelIdeal.Facts) (hReferenceIdeal : Cert.ReferenceIdeal.Facts) (hKernel2 : Cert.Kernel2.Facts) (hKernelIdeal2 : Cert.KernelIdeal2.Facts) (hReferenceIdeal2 : Cert.ReferenceIdeal2.Facts) (hKernel3 : Cert.Kernel3.Facts) (hKernelIdeal3 : Cert.KernelIdeal3.Facts) (hReferenceIdeal3 : Cert.ReferenceIdeal3.Facts) (hKernel4 : Cert.Kernel4.Facts) (hKernelIdeal4 : Cert.KernelIdeal4.Facts) (hReferenceIdeal4 : Cert.ReferenceIdeal4.Facts) (hKernel5 : Cert.Kernel5.Facts) (hKernelIdeal5 : Cert.KernelIdeal5.Facts) (hReferenceIdeal5 : Cert.ReferenceIdeal5.Facts) (hKernel6 : Cert.Kernel6.Facts) (hKernelIdeal6 : Cert.KernelIdeal6.Facts) (hReferenceIdeal6 : Cert.ReferenceIdeal6.Facts) (hKernel7 : Cert.Kernel7.Facts) (hKernelIdeal7 : Cert.KernelIdeal7.Facts) (hReferenceIdeal7 : Cert.ReferenceIdeal7.Facts) (hKernel8 : Cert.Kernel8.Facts) (hKernelIdeal8 : Cert.KernelIdeal8.Facts) (hReferenceIdeal8 : Cert.ReferenceIdeal8.Facts) (hKernel9 : Cert.Kernel9.Facts) (hKernelIdeal9 : Cert.KernelIdeal9.Facts) (hReferenceIdeal9 : Cert.ReferenceIdeal9.Facts) (hKernel10 : Cert.Kernel10.Facts) (hKernelIdeal10 : Cert.KernelIdeal10.Facts) (hReferenceIdeal10 : Cert.ReferenceIdeal10.Facts) (hKernel11 : Cert.Kernel11.Facts) (hKernelIdeal11 : Cert.KernelIdeal11.Facts) (hReferenceIdeal11 : Cert.ReferenceIdeal11.Facts) (hKernel12 : Cert.Kernel12.Facts) (hKernelIdeal12 : Cert.KernelIdeal12.Facts) (hReferenceIdeal12 : Cert.ReferenceIdeal12.Facts) (hKernel13 : Cert.Kernel13.Facts) (hKernelIdeal13 : Cert.KernelIdeal13.Facts) (hReferenceIdeal13 : Cert.ReferenceIdeal13.Facts) (hKernel14 : Cert.Kernel14.Facts) (hKernelIdeal14 : Cert.KernelIdeal14.Facts) (hReferenceIdeal14 : Cert.ReferenceIdeal14.Facts) (hKernel15 : Cert.Kernel15.Facts) (hKernelIdeal15 : Cert.KernelIdeal15.Facts) (hReferenceIdeal15 : Cert.ReferenceIdeal15.Facts) (hKernel16 : Cert.Kernel16.Facts) (hKernelIdeal16 : Cert.KernelIdeal16.Facts) (hReferenceIdeal16 : Cert.ReferenceIdeal16.Facts) (hKernel17 : Cert.Kernel17.Facts) (hKernelIdeal17 : Cert.KernelIdeal17.Facts) (hReferenceIdeal17 : Cert.ReferenceIdeal17.Facts) (hKernel18 : Cert.Kernel18.Facts) (hKernelIdeal18 : Cert.KernelIdeal18.Facts) (hReferenceIdeal18 : Cert.ReferenceIdeal18.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_KernelIdeal2 (hKernelIdeal2 := hKernelIdeal2)
    ∧ quiescent_ReferenceIdeal2 (hReferenceIdeal2 := hReferenceIdeal2)
    ∧ quiescent_Kernel3 (hKernel3 := hKernel3)
    ∧ quiescent_KernelIdeal3 (hKernelIdeal3 := hKernelIdeal3)
    ∧ quiescent_ReferenceIdeal3 (hReferenceIdeal3 := hReferenceIdeal3)
    ∧ quiescent_Kernel4 (hKernel4 := hKernel4)
    ∧ quiescent_KernelIdeal4 (hKernelIdeal4 := hKernelIdeal4)
    ∧ quiescent_ReferenceIdeal4 (hReferenceIdeal4 := hReferenceIdeal4)
    ∧ quiescent_Kernel5 (hKernel5 := hKernel5)
    ∧ quiescent_KernelIdeal5 (hKernelIdeal5 := hKernelIdeal5)
    ∧ quiescent_ReferenceIdeal5 (hReferenceIdeal5 := hReferenceIdeal5)
    ∧ quiescent_Kernel6 (hKernel6 := hKernel6)
    ∧ quiescent_KernelIdeal6 (hKernelIdeal6 := hKernelIdeal6)
    ∧ quiescent_ReferenceIdeal6 (hReferenceIdeal6 := hReferenceIdeal6)
    ∧ quiescent_Kernel7 (hKernel7 := hKernel7)
    ∧ quiescent_KernelIdeal7 (hKernelIdeal7 := hKernelIdeal7)
    ∧ quiescent_ReferenceIdeal7 (hReferenceIdeal7 := hReferenceIdeal7)
    ∧ quiescent_Kernel8 (hKernel8 := hKernel8)
    ∧ quiescent_KernelIdeal8 (hKernelIdeal8 := hKernelIdeal8)
    ∧ quiescent_ReferenceIdeal8 (hReferenceIdeal8 := hReferenceIdeal8)
    ∧ quiescent_Kernel9 (hKernel9 := hKernel9)
    ∧ quiescent_KernelIdeal9 (hKernelIdeal9 := hKernelIdeal9)
    ∧ quiescent_ReferenceIdeal9 (hReferenceIdeal9 := hReferenceIdeal9)
    ∧ quiescent_Kernel10 (hKernel10 := hKernel10)
    ∧ quiescent_KernelIdeal10 (hKernelIdeal10 := hKernelIdeal10)
    ∧ quiescent_ReferenceIdeal10 (hReferenceIdeal10 := hReferenceIdeal10)
    ∧ quiescent_Kernel11 (hKernel11 := hKernel11)
    ∧ quiescent_KernelIdeal11 (hKernelIdeal11 := hKernelIdeal11)
    ∧ quiescent_ReferenceIdeal11 (hReferenceIdeal11 := hReferenceIdeal11)
    ∧ quiescent_Kernel12 (hKernel12 := hKernel12)
    ∧ quiescent_KernelIdeal12 (hKernelIdeal12 := hKernelIdeal12)
    ∧ quiescent_ReferenceIdeal12 (hReferenceIdeal12 := hReferenceIdeal12)
    ∧ quiescent_Kernel13 (hKernel13 := hKernel13)
    ∧ quiescent_KernelIdeal13 (hKernelIdeal13 := hKernelIdeal13)
    ∧ quiescent_ReferenceIdeal13 (hReferenceIdeal13 := hReferenceIdeal13)
    ∧ quiescent_Kernel14 (hKernel14 := hKernel14)
    ∧ quiescent_KernelIdeal14 (hKernelIdeal14 := hKernelIdeal14)
    ∧ quiescent_ReferenceIdeal14 (hReferenceIdeal14 := hReferenceIdeal14)
    ∧ quiescent_Kernel15 (hKernel15 := hKernel15)
    ∧ quiescent_KernelIdeal15 (hKernelIdeal15 := hKernelIdeal15)
    ∧ quiescent_ReferenceIdeal15 (hReferenceIdeal15 := hReferenceIdeal15)
    ∧ quiescent_Kernel16 (hKernel16 := hKernel16)
    ∧ quiescent_KernelIdeal16 (hKernelIdeal16 := hKernelIdeal16)
    ∧ quiescent_ReferenceIdeal16 (hReferenceIdeal16 := hReferenceIdeal16)
    ∧ quiescent_Kernel17 (hKernel17 := hKernel17)
    ∧ quiescent_KernelIdeal17 (hKernelIdeal17 := hKernelIdeal17)
    ∧ quiescent_ReferenceIdeal17 (hReferenceIdeal17 := hReferenceIdeal17)
    ∧ quiescent_Kernel18 (hKernel18 := hKernel18)
    ∧ quiescent_KernelIdeal18 (hKernelIdeal18 := hKernelIdeal18)
    ∧ quiescent_ReferenceIdeal18 (hReferenceIdeal18 := hReferenceIdeal18)
    ∧ preserves_Kernel_KernelIdeal
    ∧ preserves_Kernel2_KernelIdeal2
    ∧ algebraic_KernelIdeal2_ReferenceIdeal2 (hKernelIdeal2 := hKernelIdeal2) (hReferenceIdeal2 := hReferenceIdeal2)
    ∧ preserves_Kernel3_KernelIdeal3
    ∧ algebraic_KernelIdeal3_ReferenceIdeal3 (hKernelIdeal3 := hKernelIdeal3) (hReferenceIdeal3 := hReferenceIdeal3)
    ∧ preserves_Kernel4_KernelIdeal4
    ∧ algebraic_KernelIdeal4_ReferenceIdeal4 (hKernelIdeal4 := hKernelIdeal4) (hReferenceIdeal4 := hReferenceIdeal4)
    ∧ preserves_Kernel5_KernelIdeal5
    ∧ algebraic_KernelIdeal5_ReferenceIdeal5 (hKernelIdeal5 := hKernelIdeal5) (hReferenceIdeal5 := hReferenceIdeal5)
    ∧ preserves_Kernel6_KernelIdeal6
    ∧ algebraic_KernelIdeal6_ReferenceIdeal6 (hKernelIdeal6 := hKernelIdeal6) (hReferenceIdeal6 := hReferenceIdeal6)
    ∧ preserves_Kernel7_KernelIdeal7
    ∧ algebraic_KernelIdeal7_ReferenceIdeal7 (hKernelIdeal7 := hKernelIdeal7) (hReferenceIdeal7 := hReferenceIdeal7)
    ∧ preserves_Kernel8_KernelIdeal8
    ∧ algebraic_KernelIdeal8_ReferenceIdeal8 (hKernelIdeal8 := hKernelIdeal8) (hReferenceIdeal8 := hReferenceIdeal8)
    ∧ preserves_Kernel9_KernelIdeal9
    ∧ algebraic_KernelIdeal9_ReferenceIdeal9 (hKernelIdeal9 := hKernelIdeal9) (hReferenceIdeal9 := hReferenceIdeal9)
    ∧ preserves_Kernel10_KernelIdeal10
    ∧ algebraic_KernelIdeal10_ReferenceIdeal10 (hKernelIdeal10 := hKernelIdeal10) (hReferenceIdeal10 := hReferenceIdeal10)
    ∧ preserves_Kernel11_KernelIdeal11
    ∧ algebraic_KernelIdeal11_ReferenceIdeal11 (hKernelIdeal11 := hKernelIdeal11) (hReferenceIdeal11 := hReferenceIdeal11)
    ∧ preserves_Kernel12_KernelIdeal12
    ∧ algebraic_KernelIdeal12_ReferenceIdeal12 (hKernelIdeal12 := hKernelIdeal12) (hReferenceIdeal12 := hReferenceIdeal12)
    ∧ preserves_Kernel13_KernelIdeal13
    ∧ algebraic_KernelIdeal13_ReferenceIdeal13 (hKernelIdeal13 := hKernelIdeal13) (hReferenceIdeal13 := hReferenceIdeal13)
    ∧ preserves_Kernel14_KernelIdeal14
    ∧ algebraic_KernelIdeal14_ReferenceIdeal14 (hKernelIdeal14 := hKernelIdeal14) (hReferenceIdeal14 := hReferenceIdeal14)
    ∧ preserves_Kernel15_KernelIdeal15
    ∧ algebraic_KernelIdeal15_ReferenceIdeal15 (hKernelIdeal15 := hKernelIdeal15) (hReferenceIdeal15 := hReferenceIdeal15)
    ∧ preserves_Kernel16_KernelIdeal16
    ∧ algebraic_KernelIdeal16_ReferenceIdeal16 (hKernelIdeal16 := hKernelIdeal16) (hReferenceIdeal16 := hReferenceIdeal16)
    ∧ preserves_Kernel17_KernelIdeal17
    ∧ algebraic_KernelIdeal17_ReferenceIdeal17 (hKernelIdeal17 := hKernelIdeal17) (hReferenceIdeal17 := hReferenceIdeal17)
    ∧ preserves_Kernel18_KernelIdeal18
    ∧ algebraic_KernelIdeal18_ReferenceIdeal18 (hKernelIdeal18 := hKernelIdeal18) (hReferenceIdeal18 := hReferenceIdeal18)
-- ==== Kernel.lean ====
abbrev S8192x6144 : Shape := ⟨2, ![8192, 6144]⟩
abbrev S8192x4096 : Shape := ⟨2, ![8192, 4096]⟩
abbrev S8192x128 : Shape := ⟨2, ![8192, 128]⟩
abbrev S2x64 : Shape := ⟨2, ![2, 64]⟩
abbrev S2x4096 : Shape := ⟨2, ![2, 4096]⟩
abbrev S2x64x64 : Shape := ⟨3, ![2, 64, 64]⟩
abbrev S2x1x4096 : Shape := ⟨3, ![2, 1, 4096]⟩
abbrev S_ : Shape := ⟨0, ![]⟩
abbrev S2x128 : Shape := ⟨2, ![2, 128]⟩
abbrev S2x1x128 : Shape := ⟨3, ![2, 1, 128]⟩
abbrev S512x2048 : Shape := ⟨2, ![512, 2048]⟩
abbrev S512x512 : Shape := ⟨2, ![512, 512]⟩
abbrev S512x128 : Shape := ⟨2, ![512, 128]⟩
abbrev S1x1x128 : Shape := ⟨3, ![1, 1, 128]⟩
abbrev S1x1x2048 : Shape := ⟨3, ![1, 1, 2048]⟩
abbrev S8x128x512 : Shape := ⟨3, ![8, 128, 512]⟩
abbrev S2048x128 : Shape := ⟨2, ![2048, 128]⟩
abbrev S128x512 : Shape := ⟨2, ![128, 512]⟩
abbrev S1x128x512 : Shape := ⟨3, ![1, 128, 512]⟩
abbrev S1x128 : Shape := ⟨2, ![1, 128]⟩
abbrev S128x2048 : Shape := ⟨2, ![128, 2048]⟩
abbrev S2048x2048 : Shape := ⟨2, ![2048, 2048]⟩
abbrev S64x512 : Shape := ⟨2, ![64, 512]⟩
abbrev S256x256 : Shape := ⟨2, ![256, 256]⟩
abbrev S64x128 : Shape := ⟨2, ![64, 128]⟩
abbrev S1x512 : Shape := ⟨2, ![1, 512]⟩
abbrev S512 : Shape := ⟨1, ![512]⟩
abbrev S64x256 : Shape := ⟨2, ![64, 256]⟩
abbrev S1x1x512 : Shape := ⟨3, ![1, 1, 512]⟩
abbrev S64 : Shape := ⟨1, ![64]⟩
abbrev S64x1 : Shape := ⟨2, ![64, 1]⟩

abbrev nBuf : Space → Nat
  | .hbm => 20
  | .vmem => 22
  | .smem => 0
  | _ => 0

abbrev bufTy : (tb : Table) → Fin (tcTables nBuf tb) → BufTy
  | .hbm, ⟨0, _⟩ => ⟨S8192x6144, .f32⟩
  | .hbm, ⟨1, _⟩ => ⟨S8192x4096, .f32⟩
  | .hbm, ⟨2, _⟩ => ⟨S8192x128, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x4096, .f32⟩
  | .hbm, ⟨7, _⟩ => ⟨S2x64x64, .f32⟩
  | .hbm, ⟨8, _⟩ => ⟨S2x4096, .f32⟩
  | .hbm, ⟨9, _⟩ => ⟨S2x1x4096, .f32⟩
  | .hbm, ⟨10, _⟩ => ⟨S_, .i32⟩
  | .hbm, ⟨11, _⟩ => ⟨S_, .f32⟩
  | .hbm, ⟨12, _⟩ => ⟨S2x128, .f32⟩
  | .hbm, ⟨13, _⟩ => ⟨S2x1x128, .f32⟩
  | .hbm, ⟨14, _⟩ => ⟨S_, .i32⟩
  | .hbm, ⟨15, _⟩ => ⟨S_, .f32⟩
  | .hbm, ⟨16, _⟩ => ⟨S2x128, .f32⟩
  | .hbm, ⟨17, _⟩ => ⟨S2x1x128, .f32⟩
  | .hbm, ⟨18, _⟩ => ⟨S2x1x4096, .f32⟩
  | .hbm, ⟨19, _⟩ => ⟨S8192x4096, .bf16⟩
  | .local _ .vmem, ⟨0, _⟩ => ⟨S512x2048, .f32⟩
  | .local _ .vmem, ⟨1, _⟩ => ⟨S512x2048, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x2048, .f32⟩
  | .local _ .vmem, ⟨7, _⟩ => ⟨S512x2048, .f32⟩
  | .local _ .vmem, ⟨8, _⟩ => ⟨S512x128, .f32⟩
  | .local _ .vmem, ⟨9, _⟩ => ⟨S512x128, .f32⟩
  | .local _ .vmem, ⟨10, _⟩ => ⟨S1x1x128, .f32⟩
  | .local _ .vmem, ⟨11, _⟩ => ⟨S1x1x128, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S512x2048, .bf16⟩
  | .local _ .vmem, ⟨17, _⟩ => ⟨S512x2048, .bf16⟩
  | .local _ .vmem, ⟨18, _⟩ => ⟨S8x128x512, .f32⟩
  | .local _ .vmem, ⟨19, _⟩ => ⟨S2048x128, .bf16⟩
  | .local _ .vmem, ⟨20, _⟩ => ⟨S512x2048, .f32⟩
  | .local _ .vmem, ⟨21, _⟩ => ⟨S512x2048, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![2, 8, 2], ![false, false, false]⟩

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

def k0_off1 (i : grid0.Coords) (c0_i32_1242 : BitVec 32) : Fin 3 → Nat :=
  let arg2 : BitVec 32 := BitVec.ofNat 32 (i 2).val
  let c4_i32 : BitVec 32 := 4#32
  let v0 : BitVec 32 := Scalar.muli arg2 c4_i32
  let v2707 : BitVec 32 := Scalar.addi v0 c0_i32_1242
  let v2708 : Index := Scalar.indexCast v2707
  let c0_1243 : Index := 0#32
  let c0_1244 : Index := 0#32
  ![v2708.toNat, 0, 0]
def k0_off2 (i : grid0.Coords) (c0_i32_25 : BitVec 32) : Fin 3 → Nat :=
  let arg2 : BitVec 32 := BitVec.ofNat 32 (i 2).val
  let c4_i32 : BitVec 32 := 4#32
  let v0 : BitVec 32 := Scalar.muli arg2 c4_i32
  let v60 : BitVec 32 := Scalar.addi v0 c0_i32_25
  let v61 : Index := Scalar.indexCast v60
  let c0_26 : Index := 0#32
  let c0_27 : Index := 0#32
  ![v61.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c8_i32_0 : BitVec 32 := 8#32
  let v2 : BitVec 32 := Scalar.addi c8_i32_0 arg2
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c10_i32 : BitVec 32 := 10#32
  let v2 : BitVec 32 := Scalar.addi c10_i32 arg2
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S8192x6144 : Shape := ⟨2, ![8192, 6144]⟩
abbrev S8192x4096 : Shape := ⟨2, ![8192, 4096]⟩
abbrev S8192x128 : Shape := ⟨2, ![8192, 128]⟩
abbrev S2x64 : Shape := ⟨2, ![2, 64]⟩
abbrev S2x4096 : Shape := ⟨2, ![2, 4096]⟩
abbrev S2x4096x6144 : Shape := ⟨3, ![2, 4096, 6144]⟩
abbrev S2x4096x4096 : Shape := ⟨3, ![2, 4096, 4096]⟩
abbrev S2x4096x1024 : Shape := ⟨3, ![2, 4096, 1024]⟩
abbrev S2x4096x64x64 : Shape := ⟨4, ![2, 4096, 64, 64]⟩
abbrev S2x4096x8x128 : Shape := ⟨4, ![2, 4096, 8, 128]⟩
abbrev S8192x64 : Shape := ⟨2, ![8192, 64]⟩
abbrev S2x4096x64 : Shape := ⟨3, ![2, 4096, 64]⟩
abbrev S1x64 : Shape := ⟨2, ![1, 64]⟩
abbrev S64 : Shape := ⟨1, ![64]⟩
abbrev S1x1x64 : Shape := ⟨3, ![1, 1, 64]⟩
abbrev S_ : Shape := ⟨0, ![]⟩
abbrev S2x4096x64x1 : Shape := ⟨4, ![2, 4096, 64, 1]⟩
abbrev S2x64x64x8x8x64 : Shape := ⟨6, ![2, 64, 64, 8, 8, 64]⟩
abbrev S2x64x64x8x8 : Shape := ⟨5, ![2, 64, 64, 8, 8]⟩
abbrev S2x64x8x8x64 : Shape := ⟨5, ![2, 64, 8, 8, 64]⟩
abbrev S2x64x64x8x128 : Shape := ⟨5, ![2, 64, 64, 8, 128]⟩
abbrev S2x64x8x8x64x1 : Shape := ⟨6, ![2, 64, 8, 8, 64, 1]⟩
abbrev S2x64x8x8x64x64 : Shape := ⟨6, ![2, 64, 8, 8, 64, 64]⟩
abbrev S64x64 : Shape := ⟨2, ![64, 64]⟩
abbrev S2x64x8x64x64 : Shape := ⟨5, ![2, 64, 8, 64, 64]⟩
abbrev S2x64x8x1x64x64 : Shape := ⟨6, ![2, 64, 8, 1, 64, 64]⟩
abbrev S2x64x8x8x1 : Shape := ⟨5, ![2, 64, 8, 8, 1]⟩
abbrev S2x64x64x8x8x1 : Shape := ⟨6, ![2, 64, 64, 8, 8, 1]⟩
abbrev S2x64x8x8x64x128 : Shape := ⟨6, ![2, 64, 8, 8, 64, 128]⟩
abbrev S2x64x8x8 : Shape := ⟨4, ![2, 64, 8, 8]⟩
abbrev S2x8x8x64x128 : Shape := ⟨5, ![2, 8, 8, 64, 128]⟩
abbrev S64x2x8x8x64x128 : Shape := ⟨6, ![64, 2, 8, 8, 64, 128]⟩
abbrev S64x2x8x8 : Shape := ⟨4, ![64, 2, 8, 8]⟩
abbrev S1x2x8x8x64x128 : Shape := ⟨6, ![1, 2, 8, 8, 64, 128]⟩
abbrev S1x2x8x8 : Shape := ⟨4, ![1, 2, 8, 8]⟩
abbrev S2x8x8 : Shape := ⟨3, ![2, 8, 8]⟩
abbrev S2x8x8x1x1 : Shape := ⟨5, ![2, 8, 8, 1, 1]⟩
abbrev S64x1 : Shape := ⟨2, ![64, 1]⟩
abbrev S1x1x64x1 : Shape := ⟨4, ![1, 1, 64, 1]⟩
abbrev S2x4096x8x512 : Shape := ⟨4, ![2, 4096, 8, 512]⟩
abbrev S2x4096x8 : Shape := ⟨3, ![2, 4096, 8]⟩
abbrev S2x4096x8x1 : Shape := ⟨4, ![2, 4096, 8, 1]⟩
abbrev S1x4096 : Shape := ⟨2, ![1, 4096]⟩
abbrev S4096 : Shape := ⟨1, ![4096]⟩
abbrev S1x1x4096 : Shape := ⟨3, ![1, 1, 4096]⟩

abbrev nBuf : Space → Nat
  | .hbm => 199
  | .vmem => 0
  | .smem => 0
  | _ => 0

abbrev hbmTy0_0 (i : Nat) : BufTy := match i % 128 with
  | 0 => ⟨S8192x6144, .f32⟩
  | 1 => ⟨S8192x4096, .f32⟩
  | 2 => ⟨S8192x128, .f32⟩
  | 3 => ⟨S2x64, .f32⟩
  | 4 => ⟨S2x64, .f32⟩
  | 5 => ⟨S2x64, .f32⟩
  | 6 => ⟨S2x4096, .f32⟩
  | 7 => ⟨S2x4096x6144, .f32⟩
  | 8 => ⟨S2x4096x4096, .f32⟩
  | 9 => ⟨S2x4096x1024, .f32⟩
  | 10 => ⟨S2x4096x1024, .f32⟩
  | 11 => ⟨S2x4096x64x64, .f32⟩
  | 12 => ⟨S2x4096x8x128, .f32⟩
  | 13 => ⟨S2x4096x8x128, .f32⟩
  | 14 => ⟨S8192x64, .f32⟩
  | 15 => ⟨S2x4096x64, .f32⟩
  | 16 => ⟨S1x64, .f32⟩
  | 17 => ⟨S64, .f32⟩
  | 18 => ⟨S1x1x64, .f32⟩
  | 19 => ⟨S2x4096x64, .f32⟩
  | 20 => ⟨S2x4096x64, .f32⟩
  | 21 => ⟨S_, .f32⟩
  | 22 => ⟨S2x4096x64, .f32⟩
  | 23 => ⟨S2x4096x64, .f32⟩
  | 24 => ⟨S2x4096x64, .f32⟩
  | 25 => ⟨S2x4096x64, .f32⟩
  | 26 => ⟨S2x4096x64, .i1⟩
  | 27 => ⟨S2x4096x64, .f32⟩
  | 28 => ⟨S2x4096x64, .f32⟩
  | 29 => ⟨S2x4096x64, .f32⟩
  | 30 => ⟨S2x4096x64, .f32⟩
  | 31 => ⟨S2x4096x64, .f32⟩
  | 32 => ⟨S2x4096x64, .f32⟩
  | 33 => ⟨S2x4096x64, .f32⟩
  | 34 => ⟨S2x4096x64, .f32⟩
  | 35 => ⟨S1x64, .f32⟩
  | 36 => ⟨S64, .f32⟩
  | 37 => ⟨S64, .f32⟩
  | 38 => ⟨S64, .f32⟩
  | 39 => ⟨S2x4096x64x1, .f32⟩
  | 40 => ⟨S2x4096x64x64, .f32⟩
  | 41 => ⟨S2x4096x64x64, .f32⟩
  | 42 => ⟨S2x64x64x8x8x64, .f32⟩
  | 43 => ⟨S1x1x64, .f32⟩
  | 44 => ⟨S2x4096x64, .f32⟩
  | 45 => ⟨S2x4096x64, .f32⟩
  | 46 => ⟨S2x64x64x8x8, .f32⟩
  | 47 => ⟨S2x64x8x8x64, .f32⟩
  | 48 => ⟨S2x64x64x8x128, .f32⟩
  | 49 => ⟨S2x64x64x8x128, .f32⟩
  | 50 => ⟨S_, .f32⟩
  | 51 => ⟨S_, .f32⟩
  | 52 => ⟨S2x64x8x8x64, .f32⟩
  | 53 => ⟨S2x64x8x8x64x1, .f32⟩
  | 54 => ⟨S2x64x8x8x64x64, .f32⟩
  | 55 => ⟨S_, .i1⟩
  | 56 => ⟨S64x64, .i1⟩
  | 57 => ⟨S64x64, .i32⟩
  | 58 => ⟨S_, .i32⟩
  | 59 => ⟨S64x64, .i32⟩
  | 60 => ⟨S64x64, .i32⟩
  | 61 => ⟨S64x64, .i32⟩
  | 62 => ⟨S64x64, .i1⟩
  | 63 => ⟨S_, .i1⟩
  | 64 => ⟨S64x64, .i1⟩
  | 65 => ⟨S64x64, .i1⟩
  | 66 => ⟨S_, .f32⟩
  | 67 => ⟨S_, .f32⟩
  | 68 => ⟨S2x64x8x8x64x64, .i1⟩
  | 69 => ⟨S2x64x8x8x64x64, .f32⟩
  | 70 => ⟨S2x64x8x8x64x64, .f32⟩
  | 71 => ⟨S_, .f32⟩
  | 72 => ⟨S_, .f32⟩
  | 73 => ⟨S2x64x8x8x64x64, .f32⟩
  | 74 => ⟨S_, .i1⟩
  | 75 => ⟨S64x64, .i1⟩
  | 76 => ⟨S64x64, .i32⟩
  | 77 => ⟨S_, .i32⟩
  | 78 => ⟨S64x64, .i32⟩
  | 79 => ⟨S64x64, .i32⟩
  | 80 => ⟨S64x64, .i32⟩
  | 81 => ⟨S64x64, .i1⟩
  | 82 => ⟨S_, .i1⟩
  | 83 => ⟨S64x64, .i1⟩
  | 84 => ⟨S64x64, .i1⟩
  | 85 => ⟨S_, .f32⟩
  | 86 => ⟨S_, .f32⟩
  | 87 => ⟨S2x64x8x8x64x64, .i1⟩
  | 88 => ⟨S2x64x8x8x64x64, .f32⟩
  | 89 => ⟨S2x64x8x8x64x64, .f32⟩
  | 90 => ⟨S2x64x8x8x64x64, .f32⟩
  | 91 => ⟨S2x64x8x64x64, .f32⟩
  | 92 => ⟨S2x64x8x1x64x64, .f32⟩
  | 93 => ⟨S2x64x8x8x64x64, .f32⟩
  | 94 => ⟨S2x64x8x8x64x64, .f32⟩
  | 95 => ⟨S2x64x8x8x64x64, .f32⟩
  | 96 => ⟨S2x64x64x8x8x64, .f32⟩
  | 97 => ⟨S2x64x8x8x1, .f32⟩
  | 98 => ⟨S2x64x8x8x64, .f32⟩
  | 99 => ⟨S2x64x8x8x64, .f32⟩
  | 100 => ⟨S2x64x8x8x64, .f32⟩
  | 101 => ⟨S2x64x64x8x8, .f32⟩
  | 102 => ⟨S2x64x64x8x8x1, .f32⟩
  | 103 => ⟨S2x64x64x8x8x64, .f32⟩
  | 104 => ⟨S2x64x64x8x8x64, .f32⟩
  | 105 => ⟨S2x64x8x8x64x128, .f32⟩
  | 106 => ⟨S2x64x8x8x1, .f32⟩
  | 107 => ⟨S2x64x8x8, .f32⟩
  | 108 => ⟨S2x64x8x8, .f32⟩
  | 109 => ⟨S_, .f32⟩
  | 110 => ⟨S2x8x8x64x128, .f32⟩
  | 111 => ⟨S64x2x8x8x64x128, .f32⟩
  | 112 => ⟨S64x2x8x8, .f32⟩
  | 113 => ⟨S_, .f32⟩
  | 114 => ⟨S64x2x8x8x64x128, .f32⟩
  | 115 => ⟨S_, .i32⟩
  | 116 => ⟨S64x2x8x8x64x128, .f32⟩
  | 117 => ⟨S64x2x8x8, .f32⟩
  | 118 => ⟨S_, .i32⟩
  | 119 => ⟨S2x8x8x64x128, .f32⟩
  | 120 => ⟨S64x2x8x8x64x128, .f32⟩
  | 121 => ⟨S_, .i32⟩
  | 122 => ⟨S_, .i1⟩
  | 123 => ⟨S_, .i32⟩
  | 124 => ⟨S_, .i32⟩
  | 125 => ⟨S_, .i32⟩
  | 126 => ⟨S_, .i32⟩
  | 127 => ⟨S_, .i32⟩
  | _ => ⟨S8192x6144, .f32⟩

abbrev hbmTy0_1 (i : Nat) : BufTy := match i % 128 with
  | 0 => ⟨S1x2x8x8x64x128, .f32⟩
  | 1 => ⟨S2x8x8x64x128, .f32⟩
  | 2 => ⟨S_, .i32⟩
  | 3 => ⟨S_, .i32⟩
  | 4 => ⟨S_, .i32⟩
  | 5 => ⟨S1x2x8x8, .f32⟩
  | 6 => ⟨S2x8x8, .f32⟩
  | 7 => ⟨S2x8x8x1x1, .f32⟩
  | 8 => ⟨S2x8x8x64x128, .f32⟩
  | 9 => ⟨S2x8x8x64x128, .f32⟩
  | 10 => ⟨S2x8x8x64x128, .f32⟩
  | 11 => ⟨S1x2x8x8x64x128, .f32⟩
  | 12 => ⟨S_, .i32⟩
  | 13 => ⟨S_, .i32⟩
  | 14 => ⟨S_, .i32⟩
  | 15 => ⟨S_, .i32⟩
  | 16 => ⟨S_, .i32⟩
  | 17 => ⟨S64x2x8x8x64x128, .f32⟩
  | 18 => ⟨S_, .i32⟩
  | 19 => ⟨S_, .i32⟩
  | 20 => ⟨S2x64x8x8x64x128, .f32⟩
  | 21 => ⟨S2x64x8x8x64x64, .f32⟩
  | 22 => ⟨S2x64x64x8x8x64, .f32⟩
  | 23 => ⟨S2x64x8x8x64, .f32⟩
  | 24 => ⟨S2x64x64x8x8, .f32⟩
  | 25 => ⟨S2x64x64x8x8x1, .f32⟩
  | 26 => ⟨S2x64x64x8x8x64, .f32⟩
  | 27 => ⟨S2x64x64x8x8x64, .f32⟩
  | 28 => ⟨S2x64x64x8x8x64, .f32⟩
  | 29 => ⟨S2x4096x64x64, .f32⟩
  | 30 => ⟨S1x64, .f32⟩
  | 31 => ⟨S64, .f32⟩
  | 32 => ⟨S64x1, .f32⟩
  | 33 => ⟨S1x1x64x1, .f32⟩
  | 34 => ⟨S2x4096x64x64, .f32⟩
  | 35 => ⟨S2x4096x64x64, .f32⟩
  | 36 => ⟨S2x4096x64x64, .f32⟩
  | 37 => ⟨S2x4096x4096, .f32⟩
  | 38 => ⟨S2x4096x4096, .f32⟩
  | 39 => ⟨S2x4096x4096, .f32⟩
  | 40 => ⟨S2x4096x4096, .f32⟩
  | 41 => ⟨S_, .f32⟩
  | 42 => ⟨S2x4096x4096, .f32⟩
  | 43 => ⟨S2x4096x4096, .f32⟩
  | 44 => ⟨S_, .f32⟩
  | 45 => ⟨S2x4096x4096, .f32⟩
  | 46 => ⟨S2x4096x4096, .f32⟩
  | 47 => ⟨S2x4096x4096, .f32⟩
  | 48 => ⟨S2x4096x4096, .f32⟩
  | 49 => ⟨S2x4096x8x512, .f32⟩
  | 50 => ⟨S2x4096x8x512, .f32⟩
  | 51 => ⟨S_, .f32⟩
  | 52 => ⟨S2x4096x8, .f32⟩
  | 53 => ⟨S2x4096x8x1, .f32⟩
  | 54 => ⟨S_, .f32⟩
  | 55 => ⟨S2x4096x8x1, .f32⟩
  | 56 => ⟨S2x4096x8x1, .f32⟩
  | 57 => ⟨S_, .f32⟩
  | 58 => ⟨S2x4096x8x1, .f32⟩
  | 59 => ⟨S2x4096x8x1, .f32⟩
  | 60 => ⟨S2x4096x8x1, .f32⟩
  | 61 => ⟨S2x4096x8x512, .f32⟩
  | 62 => ⟨S2x4096x8x512, .f32⟩
  | 63 => ⟨S2x4096x4096, .f32⟩
  | 64 => ⟨S1x4096, .f32⟩
  | 65 => ⟨S4096, .f32⟩
  | 66 => ⟨S1x1x4096, .f32⟩
  | 67 => ⟨S2x4096x4096, .f32⟩
  | 68 => ⟨S2x4096x4096, .f32⟩
  | 69 => ⟨S8192x4096, .f32⟩
  | 70 => ⟨S8192x4096, .bf16⟩
  | _ => ⟨S8192x6144, .f32⟩

abbrev hbmTy (i : Nat) : BufTy := match i / 128 with
  | 0 => hbmTy0_0 i
  | 1 => hbmTy0_1 i
  | _ => ⟨S8192x6144, .f32⟩

abbrev bufTy : (tb : Table) → Fin (tcTables nBuf tb) → BufTy
  | .hbm, ⟨i, _⟩ => hbmTy i
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call1_call0_cst : Ref sig .tc := ⟨.hbm, 50, rfl⟩
abbrev main_call1_call0_v0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c : Ref sig .tc := ⟨.hbm, 55, rfl⟩
abbrev main_v33 : Ref sig .tc := ⟨.hbm, 56, rfl⟩
abbrev main_call2_v0 : Ref sig .tc := ⟨.hbm, 57, rfl⟩
abbrev main_call2_c : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_0 : Ref sig .tc := ⟨.hbm, 63, rfl⟩
abbrev main_call2_v5 : Ref sig .tc := ⟨.hbm, 64, rfl⟩
abbrev main_v34 : Ref sig .tc := ⟨.hbm, 65, rfl⟩
abbrev main_cst : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_v35 : Ref sig .tc := ⟨.hbm, 70, rfl⟩
abbrev main_call4_call0_cst : Ref sig .tc := ⟨.hbm, 71, rfl⟩
abbrev main_call4_call0_v0 : Ref sig .tc := ⟨.hbm, 72, rfl⟩
abbrev main_v36 : Ref sig .tc := ⟨.hbm, 73, rfl⟩
abbrev main_c_0 : Ref sig .tc := ⟨.hbm, 74, rfl⟩
abbrev main_v37 : Ref sig .tc := ⟨.hbm, 75, rfl⟩
abbrev main_call5_v0 : Ref sig .tc := ⟨.hbm, 76, rfl⟩
abbrev main_call5_c : Ref sig .tc := ⟨.hbm, 77, rfl⟩
abbrev main_call5_v1 : Ref sig .tc := ⟨.hbm, 78, rfl⟩
abbrev main_call5_v2 : Ref sig .tc := ⟨.hbm, 79, rfl⟩
abbrev main_call5_v3 : Ref sig .tc := ⟨.hbm, 80, rfl⟩
abbrev main_call5_v4 : Ref sig .tc := ⟨.hbm, 81, rfl⟩
abbrev main_call5_c_0 : Ref sig .tc := ⟨.hbm, 82, rfl⟩
abbrev main_call5_v5 : Ref sig .tc := ⟨.hbm, 83, rfl⟩
abbrev main_v38 : Ref sig .tc := ⟨.hbm, 84, rfl⟩
abbrev main_cst_1 : Ref sig .tc := ⟨.hbm, 85, rfl⟩
abbrev main_call6_v0 : Ref sig .tc := ⟨.hbm, 86, rfl⟩
abbrev main_call6_v1 : Ref sig .tc := ⟨.hbm, 87, rfl⟩
abbrev main_call6_v2 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_2 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_cst_3 : Ref sig .tc := ⟨.hbm, 113, rfl⟩
abbrev main_v62 : Ref sig .tc := ⟨.hbm, 114, rfl⟩
abbrev main_c_4 : Ref sig .tc := ⟨.hbm, 115, rfl⟩
abbrev main_v63_0 : Ref sig .tc := ⟨.hbm, 116, rfl⟩
abbrev main_v63_1 : Ref sig .tc := ⟨.hbm, 117, rfl⟩
abbrev main_v63_2 : Ref sig .tc := ⟨.hbm, 118, rfl⟩
abbrev main_v63_3 : Ref sig .tc := ⟨.hbm, 119, rfl⟩
abbrev main_v63_4 : Ref sig .tc := ⟨.hbm, 120, rfl⟩
abbrev main_while0c_c_12 : Ref sig .tc := ⟨.hbm, 121, rfl⟩
abbrev main_while0c_v104 : Ref sig .tc := ⟨.hbm, 122, rfl⟩
abbrev main_while0b_call7_c : Ref sig .tc := ⟨.hbm, 123, rfl⟩
abbrev main_while0b_call7_c_0 : Ref sig .tc := ⟨.hbm, 124, rfl⟩
abbrev main_while0b_call7_c_1 : Ref sig .tc := ⟨.hbm, 125, rfl⟩
abbrev main_while0b_call7_c_2 : Ref sig .tc := ⟨.hbm, 126, rfl⟩
abbrev main_while0b_call7_c_3 : Ref sig .tc := ⟨.hbm, 127, rfl⟩
abbrev main_while0b_call7_v0 : Ref sig .tc := ⟨.hbm, 128, rfl⟩
abbrev main_while0b_v104 : Ref sig .tc := ⟨.hbm, 129, rfl⟩
abbrev main_while0b_call8_c : Ref sig .tc := ⟨.hbm, 130, rfl⟩
abbrev main_while0b_call8_c_0 : Ref sig .tc := ⟨.hbm, 131, rfl⟩
abbrev main_while0b_call8_c_1 : Ref sig .tc := ⟨.hbm, 132, rfl⟩
abbrev main_while0b_call8_v0 : Ref sig .tc := ⟨.hbm, 133, rfl⟩
abbrev main_while0b_v105 : Ref sig .tc := ⟨.hbm, 134, rfl⟩
abbrev main_while0b_v106 : Ref sig .tc := ⟨.hbm, 135, rfl⟩
abbrev main_while0b_v107 : Ref sig .tc := ⟨.hbm, 136, rfl⟩
abbrev main_while0b_v108 : Ref sig .tc := ⟨.hbm, 137, rfl⟩
abbrev main_while0b_v109 : Ref sig .tc := ⟨.hbm, 138, rfl⟩
abbrev main_while0b_call9_v0 : Ref sig .tc := ⟨.hbm, 139, rfl⟩
abbrev main_while0b_call9_c : Ref sig .tc := ⟨.hbm, 140, rfl⟩
abbrev main_while0b_call9_c_0 : Ref sig .tc := ⟨.hbm, 141, rfl⟩
abbrev main_while0b_call9_c_1 : Ref sig .tc := ⟨.hbm, 142, rfl⟩
abbrev main_while0b_call9_c_2 : Ref sig .tc := ⟨.hbm, 143, rfl⟩
abbrev main_while0b_call9_c_3 : Ref sig .tc := ⟨.hbm, 144, rfl⟩
abbrev main_while0b_v110 : Ref sig .tc := ⟨.hbm, 145, rfl⟩
abbrev main_while0b_c_12 : Ref sig .tc := ⟨.hbm, 146, rfl⟩
abbrev main_while0b_v111 : Ref sig .tc := ⟨.hbm, 147, rfl⟩
abbrev main_v64 : Ref sig .tc := ⟨.hbm, 148, rfl⟩
abbrev main_v65 : Ref sig .tc := ⟨.hbm, 149, rfl⟩
abbrev main_v66 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩
abbrev main_v81 : Ref sig .tc := ⟨.hbm, 165, rfl⟩
abbrev main_v82 : Ref sig .tc := ⟨.hbm, 166, rfl⟩
abbrev main_call10_v0 : Ref sig .tc := ⟨.hbm, 167, rfl⟩
abbrev main_call10_v1 : Ref sig .tc := ⟨.hbm, 168, rfl⟩
abbrev main_call10_cst : Ref sig .tc := ⟨.hbm, 169, rfl⟩
abbrev main_call10_v2 : Ref sig .tc := ⟨.hbm, 170, rfl⟩
abbrev main_call10_v3 : Ref sig .tc := ⟨.hbm, 171, rfl⟩
abbrev main_call10_cst_0 : Ref sig .tc := ⟨.hbm, 172, rfl⟩
abbrev main_call10_v4 : Ref sig .tc := ⟨.hbm, 173, rfl⟩
abbrev main_call10_v5 : Ref sig .tc := ⟨.hbm, 174, rfl⟩
abbrev main_v83 : Ref sig .tc := ⟨.hbm, 175, rfl⟩
abbrev main_v84 : Ref sig .tc := ⟨.hbm, 176, rfl⟩
abbrev main_v85 : Ref sig .tc := ⟨.hbm, 177, rfl⟩
abbrev main_v86 : Ref sig .tc := ⟨.hbm, 178, rfl⟩
abbrev main_cst_5 : Ref sig .tc := ⟨.hbm, 179, rfl⟩
abbrev main_v87 : Ref sig .tc := ⟨.hbm, 180, rfl⟩
abbrev main_v88 : Ref sig .tc := ⟨.hbm, 181, rfl⟩
abbrev main_cst_6 : Ref sig .tc := ⟨.hbm, 182, rfl⟩
abbrev main_v89 : Ref sig .tc := ⟨.hbm, 183, rfl⟩
abbrev main_v90 : Ref sig .tc := ⟨.hbm, 184, rfl⟩
abbrev main_cst_7 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_v98 : Ref sig .tc := ⟨.hbm, 193, rfl⟩
abbrev main_v99 : Ref sig .tc := ⟨.hbm, 194, rfl⟩
abbrev main_v100 : Ref sig .tc := ⟨.hbm, 195, rfl⟩
abbrev main_v101 : Ref sig .tc := ⟨.hbm, 196, rfl⟩
abbrev main_v102 : Ref sig .tc := ⟨.hbm, 197, rfl⟩
abbrev main_v103 : Ref sig .tc := ⟨.hbm, 198, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S8192x5632 : Shape := ⟨2, ![8192, 5632]⟩
abbrev S8192x2048 : Shape := ⟨2, ![8192, 2048]⟩
abbrev S4x5632x2048 : Shape := ⟨3, ![4, 5632, 2048]⟩
abbrev S512x5632 : Shape := ⟨2, ![512, 5632]⟩
abbrev S1x5632x512 : Shape := ⟨3, ![1, 5632, 512]⟩
abbrev S512x512 : Shape := ⟨2, ![512, 512]⟩
abbrev S5632x512 : Shape := ⟨2, ![5632, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S4x5632x2048, .f32⟩
  | .hbm, ⟨3, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S5632x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal2.lean ====
abbrev S8192x5632 : Shape := ⟨2, ![8192, 5632]⟩
abbrev S8192x2048 : Shape := ⟨2, ![8192, 2048]⟩
abbrev S4x5632x2048 : Shape := ⟨3, ![4, 5632, 2048]⟩
abbrev S1x5632x2048 : Shape := ⟨3, ![1, 5632, 2048]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S4x5632x2048, .f32⟩
  | .hbm, ⟨3, _⟩ => ⟨S8192x5632, .f32⟩
  | .hbm, ⟨4, _⟩ => ⟨S1x5632x2048, .f32⟩
  | .hbm, ⟨5, _⟩ => ⟨S5632x2048, .f32⟩
  | .hbm, ⟨6, _⟩ => ⟨S8192x2048, .f32⟩
  | .hbm, ⟨7, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S8192x4096 : Shape := ⟨2, ![8192, 4096]⟩
abbrev S8192x2048 : Shape := ⟨2, ![8192, 2048]⟩
abbrev S2x4096x2048 : Shape := ⟨3, ![2, 4096, 2048]⟩
abbrev S256x4096 : Shape := ⟨2, ![256, 4096]⟩
abbrev S1x4096x1024 : Shape := ⟨3, ![1, 4096, 1024]⟩
abbrev S256x1024 : Shape := ⟨2, ![256, 1024]⟩
abbrev S4096x1024 : Shape := ⟨2, ![4096, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .f32⟩
  | .hbm, ⟨2, _⟩ => ⟨S2x4096x2048, .f32⟩
  | .hbm, ⟨3, _⟩ => ⟨S8192x2048, .f32⟩
  | .local _ .vmem, ⟨0, _⟩ => ⟨S256x4096, .bf16⟩
  | .local _ .vmem, ⟨1, _⟩ => ⟨S256x4096, .bf16⟩
  | .local _ .vmem, ⟨2, _⟩ => ⟨S1x4096x1024, .f32⟩
  | .local _ .vmem, ⟨3, _⟩ => ⟨S1x4096x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S4096x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal3.lean ====
abbrev S8192x4096 : Shape := ⟨2, ![8192, 4096]⟩
abbrev S8192x2048 : Shape := ⟨2, ![8192, 2048]⟩
abbrev S2x4096x2048 : Shape := ⟨3, ![2, 4096, 2048]⟩
abbrev S1x4096x2048 : Shape := ⟨3, ![1, 4096, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .f32⟩
  | .hbm, ⟨2, _⟩ => ⟨S2x4096x2048, .f32⟩
  | .hbm, ⟨3, _⟩ => ⟨S8192x4096, .f32⟩
  | .hbm, ⟨4, _⟩ => ⟨S1x4096x2048, .f32⟩
  | .hbm, ⟨5, _⟩ => ⟨S4096x2048, .f32⟩
  | .hbm, ⟨6, _⟩ => ⟨S8192x2048, .f32⟩
  | .hbm, ⟨7, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8192x2048 : Shape := ⟨2, ![8192, 2048]⟩
abbrev S2x2048x10304 : Shape := ⟨3, ![2, 2048, 10304]⟩
abbrev S2x10304x2048 : Shape := ⟨3, ![2, 10304, 2048]⟩
abbrev S8192x4096 : Shape := ⟨2, ![8192, 4096]⟩
abbrev S1024x2048 : Shape := ⟨2, ![1024, 2048]⟩
abbrev S1x1024x2048 : Shape := ⟨3, ![1, 1024, 2048]⟩
abbrev S1024x1024 : Shape := ⟨2, ![1024, 1024]⟩
abbrev S2048x1024 : Shape := ⟨2, ![2048, 1024]⟩
abbrev S512x2048 : Shape := ⟨2, ![512, 2048]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x10304, .f32⟩
  | .hbm, ⟨2, _⟩ => ⟨S2x10304x2048, .f32⟩
  | .hbm, ⟨3, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal4.lean ====
abbrev S8192x2048 : Shape := ⟨2, ![8192, 2048]⟩
abbrev S2x2048x10304 : Shape := ⟨3, ![2, 2048, 10304]⟩
abbrev S1x2048x10304 : Shape := ⟨3, ![1, 2048, 10304]⟩
abbrev S2048x10304 : Shape := ⟨2, ![2048, 10304]⟩
abbrev S8192x10304 : Shape := ⟨2, ![8192, 10304]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x10304, .f32⟩
  | .hbm, ⟨2, _⟩ => ⟨S8192x2048, .f32⟩
  | .hbm, ⟨3, _⟩ => ⟨S1x2048x10304, .f32⟩
  | .hbm, ⟨4, _⟩ => ⟨S2048x10304, .f32⟩
  | .hbm, ⟨5, _⟩ => ⟨S8192x10304, .f32⟩
  | .hbm, ⟨6, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel5.lean ====
abbrev S8192x2048 : Shape := ⟨2, ![8192, 2048]⟩
abbrev S2x2048x2048 : Shape := ⟨3, ![2, 2048, 2048]⟩
abbrev S2x2048 : Shape := ⟨2, ![2, 2048]⟩
abbrev S2x1x2048 : Shape := ⟨3, ![2, 1, 2048]⟩
abbrev S1024x2048 : Shape := ⟨2, ![1024, 2048]⟩
abbrev S1x2048x1024 : Shape := ⟨3, ![1, 2048, 1024]⟩
abbrev S1024x1024 : Shape := ⟨2, ![1024, 1024]⟩
abbrev S1x1x1024 : Shape := ⟨3, ![1, 1, 1024]⟩
abbrev S2048x1024 : Shape := ⟨2, ![2048, 1024]⟩
abbrev S256x2048 : Shape := ⟨2, ![256, 2048]⟩
abbrev S256x1024 : Shape := ⟨2, ![256, 1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2x2048x2048, .f32⟩
  | .hbm, ⟨3, _⟩ => ⟨S2x2048, .f32⟩
  | .hbm, ⟨4, _⟩ => ⟨S2x1x2048, .f32⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | .local _ .vmem, ⟨10, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal5.lean ====
abbrev S8192x2048 : Shape := ⟨2, ![8192, 2048]⟩
abbrev S2x2048x2048 : Shape := ⟨3, ![2, 2048, 2048]⟩
abbrev S2x2048 : Shape := ⟨2, ![2, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2x2048x2048, .f32⟩
  | .hbm, ⟨3, _⟩ => ⟨S2x2048, .f32⟩
  | .hbm, ⟨4, _⟩ => ⟨S8192x2048, .f32⟩
  | .hbm, ⟨5, _⟩ => ⟨S1x2048x2048, .f32⟩
  | .hbm, ⟨6, _⟩ => ⟨S2048x2048, .f32⟩
  | .hbm, ⟨7, _⟩ => ⟨S8192x2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S8192x2048, .f32⟩
  | .hbm, ⟨12, _⟩ => ⟨S8192x2048, .f32⟩
  | .hbm, ⟨13, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel6.lean ====
abbrev S8192x5632 : Shape := ⟨2, ![8192, 5632]⟩
abbrev S8192x2048 : Shape := ⟨2, ![8192, 2048]⟩
abbrev S4x5632x2048 : Shape := ⟨3, ![4, 5632, 2048]⟩
abbrev S512x5632 : Shape := ⟨2, ![512, 5632]⟩
abbrev S1x5632x512 : Shape := ⟨3, ![1, 5632, 512]⟩
abbrev S512x512 : Shape := ⟨2, ![512, 512]⟩
abbrev S5632x512 : Shape := ⟨2, ![5632, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S4x5632x2048, .f32⟩
  | .hbm, ⟨3, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S5632x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal6.lean ====
abbrev S8192x5632 : Shape := ⟨2, ![8192, 5632]⟩
abbrev S8192x2048 : Shape := ⟨2, ![8192, 2048]⟩
abbrev S4x5632x2048 : Shape := ⟨3, ![4, 5632, 2048]⟩
abbrev S1x5632x2048 : Shape := ⟨3, ![1, 5632, 2048]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S4x5632x2048, .f32⟩
  | .hbm, ⟨3, _⟩ => ⟨S8192x5632, .f32⟩
  | .hbm, ⟨4, _⟩ => ⟨S1x5632x2048, .f32⟩
  | .hbm, ⟨5, _⟩ => ⟨S5632x2048, .f32⟩
  | .hbm, ⟨6, _⟩ => ⟨S8192x2048, .f32⟩
  | .hbm, ⟨7, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8192x5632 : Shape := ⟨2, ![8192, 5632]⟩
abbrev S8192x2048 : Shape := ⟨2, ![8192, 2048]⟩
abbrev S4x5632x2048 : Shape := ⟨3, ![4, 5632, 2048]⟩
abbrev S512x5632 : Shape := ⟨2, ![512, 5632]⟩
abbrev S1x5632x512 : Shape := ⟨3, ![1, 5632, 512]⟩
abbrev S512x512 : Shape := ⟨2, ![512, 512]⟩
abbrev S5632x512 : Shape := ⟨2, ![5632, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S4x5632x2048, .f32⟩
  | .hbm, ⟨3, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S5632x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c2_i32 : BitVec 32 := 2#32
  let c0_i32_0 : BitVec 32 := 0#32
  let c0_i32_1 : BitVec 32 := 0#32
  ![c2_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal7.lean ====
abbrev S8192x5632 : Shape := ⟨2, ![8192, 5632]⟩
abbrev S8192x2048 : Shape := ⟨2, ![8192, 2048]⟩
abbrev S4x5632x2048 : Shape := ⟨3, ![4, 5632, 2048]⟩
abbrev S1x5632x2048 : Shape := ⟨3, ![1, 5632, 2048]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S4x5632x2048, .f32⟩
  | .hbm, ⟨3, _⟩ => ⟨S8192x5632, .f32⟩
  | .hbm, ⟨4, _⟩ => ⟨S1x5632x2048, .f32⟩
  | .hbm, ⟨5, _⟩ => ⟨S5632x2048, .f32⟩
  | .hbm, ⟨6, _⟩ => ⟨S8192x2048, .f32⟩
  | .hbm, ⟨7, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8192x5632 : Shape := ⟨2, ![8192, 5632]⟩
abbrev S8192x2048 : Shape := ⟨2, ![8192, 2048]⟩
abbrev S4x5632x2048 : Shape := ⟨3, ![4, 5632, 2048]⟩
abbrev S512x5632 : Shape := ⟨2, ![512, 5632]⟩
abbrev S1x5632x512 : Shape := ⟨3, ![1, 5632, 512]⟩
abbrev S512x512 : Shape := ⟨2, ![512, 512]⟩
abbrev S5632x512 : Shape := ⟨2, ![5632, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S4x5632x2048, .f32⟩
  | .hbm, ⟨3, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S5632x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c3_i32 : BitVec 32 := 3#32
  let c0_i32_0 : BitVec 32 := 0#32
  let c0_i32_1 : BitVec 32 := 0#32
  ![c3_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal8.lean ====
abbrev S8192x5632 : Shape := ⟨2, ![8192, 5632]⟩
abbrev S8192x2048 : Shape := ⟨2, ![8192, 2048]⟩
abbrev S4x5632x2048 : Shape := ⟨3, ![4, 5632, 2048]⟩
abbrev S1x5632x2048 : Shape := ⟨3, ![1, 5632, 2048]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S4x5632x2048, .f32⟩
  | .hbm, ⟨3, _⟩ => ⟨S8192x5632, .f32⟩
  | .hbm, ⟨4, _⟩ => ⟨S1x5632x2048, .f32⟩
  | .hbm, ⟨5, _⟩ => ⟨S5632x2048, .f32⟩
  | .hbm, ⟨6, _⟩ => ⟨S8192x2048, .f32⟩
  | .hbm, ⟨7, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8192x2048 : Shape := ⟨2, ![8192, 2048]⟩
abbrev S2x2048x10304 : Shape := ⟨3, ![2, 2048, 10304]⟩
abbrev S2x10304x2048 : Shape := ⟨3, ![2, 10304, 2048]⟩
abbrev S8192x4096 : Shape := ⟨2, ![8192, 4096]⟩
abbrev S1024x2048 : Shape := ⟨2, ![1024, 2048]⟩
abbrev S1x1024x2048 : Shape := ⟨3, ![1, 1024, 2048]⟩
abbrev S1024x1024 : Shape := ⟨2, ![1024, 1024]⟩
abbrev S2048x1024 : Shape := ⟨2, ![2048, 1024]⟩
abbrev S512x2048 : Shape := ⟨2, ![512, 2048]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x10304, .f32⟩
  | .hbm, ⟨2, _⟩ => ⟨S2x10304x2048, .f32⟩
  | .hbm, ⟨3, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal9.lean ====
abbrev S8192x2048 : Shape := ⟨2, ![8192, 2048]⟩
abbrev S2x2048x10304 : Shape := ⟨3, ![2, 2048, 10304]⟩
abbrev S1x2048x10304 : Shape := ⟨3, ![1, 2048, 10304]⟩
abbrev S2048x10304 : Shape := ⟨2, ![2048, 10304]⟩
abbrev S8192x10304 : Shape := ⟨2, ![8192, 10304]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x10304, .f32⟩
  | .hbm, ⟨2, _⟩ => ⟨S8192x2048, .f32⟩
  | .hbm, ⟨3, _⟩ => ⟨S1x2048x10304, .f32⟩
  | .hbm, ⟨4, _⟩ => ⟨S2048x10304, .f32⟩
  | .hbm, ⟨5, _⟩ => ⟨S8192x10304, .f32⟩
  | .hbm, ⟨6, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S8192x4096 : Shape := ⟨2, ![8192, 4096]⟩
abbrev S8192x2048 : Shape := ⟨2, ![8192, 2048]⟩
abbrev S2x4096x2048 : Shape := ⟨3, ![2, 4096, 2048]⟩
abbrev S256x4096 : Shape := ⟨2, ![256, 4096]⟩
abbrev S1x4096x1024 : Shape := ⟨3, ![1, 4096, 1024]⟩
abbrev S256x1024 : Shape := ⟨2, ![256, 1024]⟩
abbrev S4096x1024 : Shape := ⟨2, ![4096, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .f32⟩
  | .hbm, ⟨2, _⟩ => ⟨S2x4096x2048, .f32⟩
  | .hbm, ⟨3, _⟩ => ⟨S8192x2048, .f32⟩
  | .local _ .vmem, ⟨0, _⟩ => ⟨S256x4096, .bf16⟩
  | .local _ .vmem, ⟨1, _⟩ => ⟨S256x4096, .bf16⟩
  | .local _ .vmem, ⟨2, _⟩ => ⟨S1x4096x1024, .f32⟩
  | .local _ .vmem, ⟨3, _⟩ => ⟨S1x4096x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S4096x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal10.lean ====
abbrev S8192x4096 : Shape := ⟨2, ![8192, 4096]⟩
abbrev S8192x2048 : Shape := ⟨2, ![8192, 2048]⟩
abbrev S2x4096x2048 : Shape := ⟨3, ![2, 4096, 2048]⟩
abbrev S1x4096x2048 : Shape := ⟨3, ![1, 4096, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .f32⟩
  | .hbm, ⟨2, _⟩ => ⟨S2x4096x2048, .f32⟩
  | .hbm, ⟨3, _⟩ => ⟨S8192x4096, .f32⟩
  | .hbm, ⟨4, _⟩ => ⟨S1x4096x2048, .f32⟩
  | .hbm, ⟨5, _⟩ => ⟨S4096x2048, .f32⟩
  | .hbm, ⟨6, _⟩ => ⟨S8192x2048, .f32⟩
  | .hbm, ⟨7, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S8192x2048 : Shape := ⟨2, ![8192, 2048]⟩
abbrev S2x2048x2048 : Shape := ⟨3, ![2, 2048, 2048]⟩
abbrev S2x2048 : Shape := ⟨2, ![2, 2048]⟩
abbrev S2x1x2048 : Shape := ⟨3, ![2, 1, 2048]⟩
abbrev S1024x2048 : Shape := ⟨2, ![1024, 2048]⟩
abbrev S1x2048x1024 : Shape := ⟨3, ![1, 2048, 1024]⟩
abbrev S1024x1024 : Shape := ⟨2, ![1024, 1024]⟩
abbrev S1x1x1024 : Shape := ⟨3, ![1, 1, 1024]⟩
abbrev S2048x1024 : Shape := ⟨2, ![2048, 1024]⟩
abbrev S256x2048 : Shape := ⟨2, ![256, 2048]⟩
abbrev S256x1024 : Shape := ⟨2, ![256, 1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2x2048x2048, .f32⟩
  | .hbm, ⟨3, _⟩ => ⟨S2x2048, .f32⟩
  | .hbm, ⟨4, _⟩ => ⟨S2x1x2048, .f32⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | .local _ .vmem, ⟨10, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal11.lean ====
abbrev S8192x2048 : Shape := ⟨2, ![8192, 2048]⟩
abbrev S2x2048x2048 : Shape := ⟨3, ![2, 2048, 2048]⟩
abbrev S2x2048 : Shape := ⟨2, ![2, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2x2048x2048, .f32⟩
  | .hbm, ⟨3, _⟩ => ⟨S2x2048, .f32⟩
  | .hbm, ⟨4, _⟩ => ⟨S8192x2048, .f32⟩
  | .hbm, ⟨5, _⟩ => ⟨S1x2048x2048, .f32⟩
  | .hbm, ⟨6, _⟩ => ⟨S2048x2048, .f32⟩
  | .hbm, ⟨7, _⟩ => ⟨S8192x2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S8192x2048, .f32⟩
  | .hbm, ⟨12, _⟩ => ⟨S8192x2048, .f32⟩
  | .hbm, ⟨13, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel12.lean ====
abbrev S8192x2048 : Shape := ⟨2, ![8192, 2048]⟩
abbrev S4x2048 : Shape := ⟨2, ![4, 2048]⟩
abbrev S4x2048x11264 : Shape := ⟨3, ![4, 2048, 11264]⟩
abbrev S4x3x11264 : Shape := ⟨3, ![4, 3, 11264]⟩
abbrev S4x11264 : Shape := ⟨2, ![4, 11264]⟩
abbrev S4x2048x1 : Shape := ⟨3, ![4, 2048, 1]⟩
abbrev S4x1x11264 : Shape := ⟨3, ![4, 1, 11264]⟩
abbrev S8192x5632 : Shape := ⟨2, ![8192, 5632]⟩
abbrev S1024x2048 : Shape := ⟨2, ![1024, 2048]⟩
abbrev S1x2048x1 : Shape := ⟨3, ![1, 2048, 1]⟩
abbrev S1x2048x512 : Shape := ⟨3, ![1, 2048, 512]⟩
abbrev S1x3x512 : Shape := ⟨3, ![1, 3, 512]⟩
abbrev S1x1x512 : Shape := ⟨3, ![1, 1, 512]⟩
abbrev S1024x512 : Shape := ⟨2, ![1024, 512]⟩
abbrev S2048x512 : Shape := ⟨2, ![2048, 512]⟩
abbrev S4x8x512 : Shape := ⟨3, ![4, 8, 512]⟩
abbrev S2x8x512 : Shape := ⟨3, ![2, 8, 512]⟩
abbrev S8x1024x128 : Shape := ⟨3, ![8, 1024, 128]⟩
abbrev S2048x1 : Shape := ⟨2, ![2048, 1]⟩
abbrev S1x512 : Shape := ⟨2, ![1, 512]⟩
abbrev S8x512 : Shape := ⟨2, ![8, 512]⟩
abbrev S1x8x512 : Shape := ⟨3, ![1, 8, 512]⟩
abbrev S1024 : Shape := ⟨1, ![1024]⟩
abbrev S1024x1 : Shape := ⟨2, ![1024, 1]⟩
abbrev S1024x128 : Shape := ⟨2, ![1024, 128]⟩
abbrev S1x1024x128 : Shape := ⟨3, ![1, 1024, 128]⟩
abbrev S256x2048 : Shape := ⟨2, ![256, 2048]⟩
abbrev S256x512 : Shape := ⟨2, ![256, 512]⟩
abbrev S1x256x128 : Shape := ⟨3, ![1, 256, 128]⟩
abbrev S256x128 : Shape := ⟨2, ![256, 128]⟩
abbrev S264x512 : Shape := ⟨2, ![264, 512]⟩

abbrev nBuf : Space → Nat
  | .hbm => 8
  | .vmem => 23
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x11264, .f32⟩
  | .hbm, ⟨3, _⟩ => ⟨S4x3x11264, .f32⟩
  | .hbm, ⟨4, _⟩ => ⟨S4x11264, .f32⟩
  | .hbm, ⟨5, _⟩ => ⟨S4x2048x1, .f32⟩
  | .hbm, ⟨6, _⟩ => ⟨S4x1x11264, .f32⟩
  | .hbm, ⟨7, _⟩ => ⟨S8192x5632, .bf16⟩
  | .local _ .vmem, ⟨0, _⟩ => ⟨S1024x2048, .f32⟩
  | .local _ .vmem, ⟨1, _⟩ => ⟨S1024x2048, .f32⟩
  | .local _ .vmem, ⟨2, _⟩ => ⟨S1x2048x1, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x3x512, .f32⟩
  | .local _ .vmem, ⟨8, _⟩ => ⟨S1x3x512, .f32⟩
  | .local _ .vmem, ⟨9, _⟩ => ⟨S1x3x512, .f32⟩
  | .local _ .vmem, ⟨10, _⟩ => ⟨S1x3x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S1x1x512, .f32⟩
  | .local _ .vmem, ⟨15, _⟩ => ⟨S1024x512, .bf16⟩
  | .local _ .vmem, ⟨16, _⟩ => ⟨S1024x512, .bf16⟩
  | .local _ .vmem, ⟨17, _⟩ => ⟨S2048x512, .bf16⟩
  | .local _ .vmem, ⟨18, _⟩ => ⟨S2048x512, .bf16⟩
  | .local _ .vmem, ⟨19, _⟩ => ⟨S4x8x512, .f32⟩
  | .local _ .vmem, ⟨20, _⟩ => ⟨S4x8x512, .f32⟩
  | .local _ .vmem, ⟨21, _⟩ => ⟨S2x8x512, .f32⟩
  | .local _ .vmem, ⟨22, _⟩ => ⟨S8x1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![11, 8], ![false, false]⟩

def k0_cond3 (i : grid0.Coords) : BitVec 1 :=
  let arg0 : BitVec 32 := BitVec.ofNat 32 (i 0).val
  let c0_i32_7 : BitVec 32 := 0#32
  let v16 : BitVec 1 := Scalar.cmpi .eq arg0 c0_i32_7
  let v17 : BitVec 32 := Scalar.extui v16
  let c0_i32_8 : BitVec 32 := 0#32
  let v18 : BitVec 1 := Scalar.cmpi .ne v17 c0_i32_8
  v18

def k0_off1 (i : grid0.Coords) : Fin 3 → Nat :=
  let arg1 : BitVec 32 := BitVec.ofNat 32 (i 1).val
  let v284 : Index := Scalar.indexCast arg1
  let c0_162 : Index := 0#32
  let c0_163 : Index := 0#32
  ![v284.toNat, 0, 0]
def k0_off2 (i : grid0.Coords) : Fin 3 → Nat :=
  let arg1 : BitVec 32 := BitVec.ofNat 32 (i 1).val
  let v29 : Index := Scalar.indexCast arg1
  let c0_20 : Index := 0#32
  let c0_21 : Index := 0#32
  ![v29.toNat, 0, 0]
def k0_off3 (i : grid0.Coords) : Fin 3 → Nat :=
  let arg1 : BitVec 32 := BitVec.ofNat 32 (i 1).val
  let v41 : Index := Scalar.indexCast arg1
  let c256_29 : Index := 256#32
  let c0_30 : Index := 0#32
  ![v41.toNat, 256, 0]
def k0_off4 (i : grid0.Coords) : Fin 3 → Nat :=
  let arg1 : BitVec 32 := BitVec.ofNat 32 (i 1).val
  let v102 : Index := Scalar.indexCast arg1
  let c512_62 : Index := 512#32
  let c0_63 : Index := 0#32
  ![v102.toNat, 512, 0]
def k0_off5 (i : grid0.Coords) : Fin 3 → Nat :=
  let arg1 : BitVec 32 := BitVec.ofNat 32 (i 1).val
  let v163 : Index := Scalar.indexCast arg1
  let c768_97 : Index := 768#32
  let c0_98 : Index := 0#32
  ![v163.toNat, 768, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_5 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_7 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  let c0_i32_1 : BitVec 32 := 0#32
  ![c0_i32.toNat, c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal12.lean ====
abbrev S8192x2048 : Shape := ⟨2, ![8192, 2048]⟩
abbrev S4x2048 : Shape := ⟨2, ![4, 2048]⟩
abbrev S4x2048x11264 : Shape := ⟨3, ![4, 2048, 11264]⟩
abbrev S4x3x11264 : Shape := ⟨3, ![4, 3, 11264]⟩
abbrev S4x11264 : Shape := ⟨2, ![4, 11264]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048 : Shape := ⟨1, ![2048]⟩
abbrev S1x2048x11264 : Shape := ⟨3, ![1, 2048, 11264]⟩
abbrev S2048x11264 : Shape := ⟨2, ![2048, 11264]⟩
abbrev S8192x11264 : Shape := ⟨2, ![8192, 11264]⟩
abbrev S2x4096x11264 : Shape := ⟨3, ![2, 4096, 11264]⟩
abbrev S2x4098x11264 : Shape := ⟨3, ![2, 4098, 11264]⟩
abbrev S1x1x11264 : Shape := ⟨3, ![1, 1, 11264]⟩
abbrev S11264 : Shape := ⟨1, ![11264]⟩
abbrev S1x11264 : Shape := ⟨2, ![1, 11264]⟩
abbrev S8192x5632 : Shape := ⟨2, ![8192, 5632]⟩

abbrev nBuf : Space → Nat
  | .hbm => 69
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x11264, .f32⟩
  | .hbm, ⟨3, _⟩ => ⟨S4x3x11264, .f32⟩
  | .hbm, ⟨4, _⟩ => ⟨S4x11264, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S1x2048x11264, .f32⟩
  | .hbm, ⟨24, _⟩ => ⟨S2048x11264, .f32⟩
  | .hbm, ⟨25, _⟩ => ⟨S8192x11264, .f32⟩
  | .hbm, ⟨26, _⟩ => ⟨S2x4096x11264, .f32⟩
  | .hbm, ⟨27, _⟩ => ⟨S_, .i32⟩
  | .hbm, ⟨28, _⟩ => ⟨S_, .f32⟩
  | .hbm, ⟨29, _⟩ => ⟨S2x4098x11264, .f32⟩
  | .hbm, ⟨30, _⟩ => ⟨S2x4096x11264, .f32⟩
  | .hbm, ⟨31, _⟩ => ⟨S1x1x11264, .f32⟩
  | .hbm, ⟨32, _⟩ => ⟨S11264, .f32⟩
  | .hbm, ⟨33, _⟩ => ⟨S1x1x11264, .f32⟩
  | .hbm, ⟨34, _⟩ => ⟨S2x4096x11264, .f32⟩
  | .hbm, ⟨35, _⟩ => ⟨S2x4096x11264, .f32⟩
  | .hbm, ⟨36, _⟩ => ⟨S2x4096x11264, .f32⟩
  | .hbm, ⟨37, _⟩ => ⟨S1x1x11264, .f32⟩
  | .hbm, ⟨38, _⟩ => ⟨S11264, .f32⟩
  | .hbm, ⟨39, _⟩ => ⟨S1x1x11264, .f32⟩
  | .hbm, ⟨40, _⟩ => ⟨S2x4096x11264, .f32⟩
  | .hbm, ⟨41, _⟩ => ⟨S2x4096x11264, .f32⟩
  | .hbm, ⟨42, _⟩ => ⟨S2x4096x11264, .f32⟩
  | .hbm, ⟨43, _⟩ => ⟨S2x4096x11264, .f32⟩
  | .hbm, ⟨44, _⟩ => ⟨S1x1x11264, .f32⟩
  | .hbm, ⟨45, _⟩ => ⟨S11264, .f32⟩
  | .hbm, ⟨46, _⟩ => ⟨S1x1x11264, .f32⟩
  | .hbm, ⟨47, _⟩ => ⟨S2x4096x11264, .f32⟩
  | .hbm, ⟨48, _⟩ => ⟨S2x4096x11264, .f32⟩
  | .hbm, ⟨49, _⟩ => ⟨S2x4096x11264, .f32⟩
  | .hbm, ⟨50, _⟩ => ⟨S1x11264, .f32⟩
  | .hbm, ⟨51, _⟩ => ⟨S11264, .f32⟩
  | .hbm, ⟨52, _⟩ => ⟨S1x1x11264, .f32⟩
  | .hbm, ⟨53, _⟩ => ⟨S2x4096x11264, .f32⟩
  | .hbm, ⟨54, _⟩ => ⟨S2x4096x11264, .f32⟩
  | .hbm, ⟨55, _⟩ => ⟨S8192x11264, .f32⟩
  | .hbm, ⟨56, _⟩ => ⟨S8192x5632, .f32⟩
  | .hbm, ⟨57, _⟩ => ⟨S8192x5632, .f32⟩
  | .hbm, ⟨58, _⟩ => ⟨S8192x5632, .f32⟩
  | .hbm, ⟨59, _⟩ => ⟨S8192x5632, .f32⟩
  | .hbm, ⟨60, _⟩ => ⟨S_, .f32⟩
  | .hbm, ⟨61, _⟩ => ⟨S8192x5632, .f32⟩
  | .hbm, ⟨62, _⟩ => ⟨S8192x5632, .f32⟩
  | .hbm, ⟨63, _⟩ => ⟨S_, .f32⟩
  | .hbm, ⟨64, _⟩ => ⟨S8192x5632, .f32⟩
  | .hbm, ⟨65, _⟩ => ⟨S8192x5632, .f32⟩
  | .hbm, ⟨66, _⟩ => ⟨S8192x5632, .f32⟩
  | .hbm, ⟨67, _⟩ => ⟨S8192x5632, .f32⟩
  | .hbm, ⟨68, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_call0_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_2 : Ref sig .tc := ⟨.hbm, 60, rfl⟩
abbrev main_v50 : Ref sig .tc := ⟨.hbm, 61, rfl⟩
abbrev main_v51 : Ref sig .tc := ⟨.hbm, 62, rfl⟩
abbrev main_cst_3 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩

abbrev nD : Nat := 1
abbrev τ : Topo := Topo.v7x

variable {F : FTy → Type} [FloatOps F]
-- ==== Kernel13.lean ====
abbrev S8192x2048 : Shape := ⟨2, ![8192, 2048]⟩
abbrev S4x2048 : Shape := ⟨2, ![4, 2048]⟩
abbrev S4x2048x11264 : Shape := ⟨3, ![4, 2048, 11264]⟩
abbrev S4x3x11264 : Shape := ⟨3, ![4, 3, 11264]⟩
abbrev S4x11264 : Shape := ⟨2, ![4, 11264]⟩
abbrev S4x2048x1 : Shape := ⟨3, ![4, 2048, 1]⟩
abbrev S4x1x11264 : Shape := ⟨3, ![4, 1, 11264]⟩
abbrev S8192x5632 : Shape := ⟨2, ![8192, 5632]⟩
abbrev S1024x2048 : Shape := ⟨2, ![1024, 2048]⟩
abbrev S1x2048x1 : Shape := ⟨3, ![1, 2048, 1]⟩
abbrev S1x2048x512 : Shape := ⟨3, ![1, 2048, 512]⟩
abbrev S1x3x512 : Shape := ⟨3, ![1, 3, 512]⟩
abbrev S1x1x512 : Shape := ⟨3, ![1, 1, 512]⟩
abbrev S1024x512 : Shape := ⟨2, ![1024, 512]⟩
abbrev S2048x512 : Shape := ⟨2, ![2048, 512]⟩
abbrev S4x8x512 : Shape := ⟨3, ![4, 8, 512]⟩
abbrev S2x8x512 : Shape := ⟨3, ![2, 8, 512]⟩
abbrev S8x1024x128 : Shape := ⟨3, ![8, 1024, 128]⟩
abbrev S2048x1 : Shape := ⟨2, ![2048, 1]⟩
abbrev S1x512 : Shape := ⟨2, ![1, 512]⟩
abbrev S8x512 : Shape := ⟨2, ![8, 512]⟩
abbrev S1x8x512 : Shape := ⟨3, ![1, 8, 512]⟩
abbrev S1024 : Shape := ⟨1, ![1024]⟩
abbrev S1024x1 : Shape := ⟨2, ![1024, 1]⟩
abbrev S1024x128 : Shape := ⟨2, ![1024, 128]⟩
abbrev S1x1024x128 : Shape := ⟨3, ![1, 1024, 128]⟩
abbrev S256x2048 : Shape := ⟨2, ![256, 2048]⟩
abbrev S256x512 : Shape := ⟨2, ![256, 512]⟩
abbrev S1x256x128 : Shape := ⟨3, ![1, 256, 128]⟩
abbrev S256x128 : Shape := ⟨2, ![256, 128]⟩
abbrev S264x512 : Shape := ⟨2, ![264, 512]⟩

abbrev nBuf : Space → Nat
  | .hbm => 8
  | .vmem => 23
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x11264, .f32⟩
  | .hbm, ⟨3, _⟩ => ⟨S4x3x11264, .f32⟩
  | .hbm, ⟨4, _⟩ => ⟨S4x11264, .f32⟩
  | .hbm, ⟨5, _⟩ => ⟨S4x2048x1, .f32⟩
  | .hbm, ⟨6, _⟩ => ⟨S4x1x11264, .f32⟩
  | .hbm, ⟨7, _⟩ => ⟨S8192x5632, .bf16⟩
  | .local _ .vmem, ⟨0, _⟩ => ⟨S1024x2048, .f32⟩
  | .local _ .vmem, ⟨1, _⟩ => ⟨S1024x2048, .f32⟩
  | .local _ .vmem, ⟨2, _⟩ => ⟨S1x2048x1, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x3x512, .f32⟩
  | .local _ .vmem, ⟨8, _⟩ => ⟨S1x3x512, .f32⟩
  | .local _ .vmem, ⟨9, _⟩ => ⟨S1x3x512, .f32⟩
  | .local _ .vmem, ⟨10, _⟩ => ⟨S1x3x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S1x1x512, .f32⟩
  | .local _ .vmem, ⟨15, _⟩ => ⟨S1024x512, .bf16⟩
  | .local _ .vmem, ⟨16, _⟩ => ⟨S1024x512, .bf16⟩
  | .local _ .vmem, ⟨17, _⟩ => ⟨S2048x512, .bf16⟩
  | .local _ .vmem, ⟨18, _⟩ => ⟨S2048x512, .bf16⟩
  | .local _ .vmem, ⟨19, _⟩ => ⟨S4x8x512, .f32⟩
  | .local _ .vmem, ⟨20, _⟩ => ⟨S4x8x512, .f32⟩
  | .local _ .vmem, ⟨21, _⟩ => ⟨S2x8x512, .f32⟩
  | .local _ .vmem, ⟨22, _⟩ => ⟨S8x1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![11, 8], ![false, false]⟩

def k0_cond3 (i : grid0.Coords) : BitVec 1 :=
  let arg0 : BitVec 32 := BitVec.ofNat 32 (i 0).val
  let c0_i32_7 : BitVec 32 := 0#32
  let v16 : BitVec 1 := Scalar.cmpi .eq arg0 c0_i32_7
  let v17 : BitVec 32 := Scalar.extui v16
  let c0_i32_8 : BitVec 32 := 0#32
  let v18 : BitVec 1 := Scalar.cmpi .ne v17 c0_i32_8
  v18

def k0_off1 (i : grid0.Coords) : Fin 3 → Nat :=
  let arg1 : BitVec 32 := BitVec.ofNat 32 (i 1).val
  let v284 : Index := Scalar.indexCast arg1
  let c0_162 : Index := 0#32
  let c0_163 : Index := 0#32
  ![v284.toNat, 0, 0]
def k0_off2 (i : grid0.Coords) : Fin 3 → Nat :=
  let arg1 : BitVec 32 := BitVec.ofNat 32 (i 1).val
  let v29 : Index := Scalar.indexCast arg1
  let c0_20 : Index := 0#32
  let c0_21 : Index := 0#32
  ![v29.toNat, 0, 0]
def k0_off3 (i : grid0.Coords) : Fin 3 → Nat :=
  let arg1 : BitVec 32 := BitVec.ofNat 32 (i 1).val
  let v41 : Index := Scalar.indexCast arg1
  let c256_29 : Index := 256#32
  let c0_30 : Index := 0#32
  ![v41.toNat, 256, 0]
def k0_off4 (i : grid0.Coords) : Fin 3 → Nat :=
  let arg1 : BitVec 32 := BitVec.ofNat 32 (i 1).val
  let v102 : Index := Scalar.indexCast arg1
  let c512_62 : Index := 512#32
  let c0_63 : Index := 0#32
  ![v102.toNat, 512, 0]
def k0_off5 (i : grid0.Coords) : Fin 3 → Nat :=
  let arg1 : BitVec 32 := BitVec.ofNat 32 (i 1).val
  let v163 : Index := Scalar.indexCast arg1
  let c768_97 : Index := 768#32
  let c0_98 : Index := 0#32
  ![v163.toNat, 768, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c1_i32 : BitVec 32 := 1#32
  let c0_i32 : BitVec 32 := 0#32
  let c0_i32_0 : BitVec 32 := 0#32
  ![c1_i32.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c1_i32 : BitVec 32 := 1#32
  let c0_i32 : BitVec 32 := 0#32
  let c0_i32_0 : BitVec 32 := 0#32
  ![c1_i32.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c1_i32 : BitVec 32 := 1#32
  let c0_i32 : BitVec 32 := 0#32
  let c0_i32_0 : BitVec 32 := 0#32
  ![c1_i32.toNat, c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal13.lean ====
abbrev S8192x2048 : Shape := ⟨2, ![8192, 2048]⟩
abbrev S4x2048 : Shape := ⟨2, ![4, 2048]⟩
abbrev S4x2048x11264 : Shape := ⟨3, ![4, 2048, 11264]⟩
abbrev S4x3x11264 : Shape := ⟨3, ![4, 3, 11264]⟩
abbrev S4x11264 : Shape := ⟨2, ![4, 11264]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048 : Shape := ⟨1, ![2048]⟩
abbrev S1x2048x11264 : Shape := ⟨3, ![1, 2048, 11264]⟩
abbrev S2048x11264 : Shape := ⟨2, ![2048, 11264]⟩
abbrev S8192x11264 : Shape := ⟨2, ![8192, 11264]⟩
abbrev S2x4096x11264 : Shape := ⟨3, ![2, 4096, 11264]⟩
abbrev S2x4098x11264 : Shape := ⟨3, ![2, 4098, 11264]⟩
abbrev S1x1x11264 : Shape := ⟨3, ![1, 1, 11264]⟩
abbrev S11264 : Shape := ⟨1, ![11264]⟩
abbrev S1x11264 : Shape := ⟨2, ![1, 11264]⟩
abbrev S8192x5632 : Shape := ⟨2, ![8192, 5632]⟩

abbrev nBuf : Space → Nat
  | .hbm => 69
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x11264, .f32⟩
  | .hbm, ⟨3, _⟩ => ⟨S4x3x11264, .f32⟩
  | .hbm, ⟨4, _⟩ => ⟨S4x11264, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S1x2048x11264, .f32⟩
  | .hbm, ⟨24, _⟩ => ⟨S2048x11264, .f32⟩
  | .hbm, ⟨25, _⟩ => ⟨S8192x11264, .f32⟩
  | .hbm, ⟨26, _⟩ => ⟨S2x4096x11264, .f32⟩
  | .hbm, ⟨27, _⟩ => ⟨S_, .i32⟩
  | .hbm, ⟨28, _⟩ => ⟨S_, .f32⟩
  | .hbm, ⟨29, _⟩ => ⟨S2x4098x11264, .f32⟩
  | .hbm, ⟨30, _⟩ => ⟨S2x4096x11264, .f32⟩
  | .hbm, ⟨31, _⟩ => ⟨S1x1x11264, .f32⟩
  | .hbm, ⟨32, _⟩ => ⟨S11264, .f32⟩
  | .hbm, ⟨33, _⟩ => ⟨S1x1x11264, .f32⟩
  | .hbm, ⟨34, _⟩ => ⟨S2x4096x11264, .f32⟩
  | .hbm, ⟨35, _⟩ => ⟨S2x4096x11264, .f32⟩
  | .hbm, ⟨36, _⟩ => ⟨S2x4096x11264, .f32⟩
  | .hbm, ⟨37, _⟩ => ⟨S1x1x11264, .f32⟩
  | .hbm, ⟨38, _⟩ => ⟨S11264, .f32⟩
  | .hbm, ⟨39, _⟩ => ⟨S1x1x11264, .f32⟩
  | .hbm, ⟨40, _⟩ => ⟨S2x4096x11264, .f32⟩
  | .hbm, ⟨41, _⟩ => ⟨S2x4096x11264, .f32⟩
  | .hbm, ⟨42, _⟩ => ⟨S2x4096x11264, .f32⟩
  | .hbm, ⟨43, _⟩ => ⟨S2x4096x11264, .f32⟩
  | .hbm, ⟨44, _⟩ => ⟨S1x1x11264, .f32⟩
  | .hbm, ⟨45, _⟩ => ⟨S11264, .f32⟩
  | .hbm, ⟨46, _⟩ => ⟨S1x1x11264, .f32⟩
  | .hbm, ⟨47, _⟩ => ⟨S2x4096x11264, .f32⟩
  | .hbm, ⟨48, _⟩ => ⟨S2x4096x11264, .f32⟩
  | .hbm, ⟨49, _⟩ => ⟨S2x4096x11264, .f32⟩
  | .hbm, ⟨50, _⟩ => ⟨S1x11264, .f32⟩
  | .hbm, ⟨51, _⟩ => ⟨S11264, .f32⟩
  | .hbm, ⟨52, _⟩ => ⟨S1x1x11264, .f32⟩
  | .hbm, ⟨53, _⟩ => ⟨S2x4096x11264, .f32⟩
  | .hbm, ⟨54, _⟩ => ⟨S2x4096x11264, .f32⟩
  | .hbm, ⟨55, _⟩ => ⟨S8192x11264, .f32⟩
  | .hbm, ⟨56, _⟩ => ⟨S8192x5632, .f32⟩
  | .hbm, ⟨57, _⟩ => ⟨S8192x5632, .f32⟩
  | .hbm, ⟨58, _⟩ => ⟨S8192x5632, .f32⟩
  | .hbm, ⟨59, _⟩ => ⟨S8192x5632, .f32⟩
  | .hbm, ⟨60, _⟩ => ⟨S_, .f32⟩
  | .hbm, ⟨61, _⟩ => ⟨S8192x5632, .f32⟩
  | .hbm, ⟨62, _⟩ => ⟨S8192x5632, .f32⟩
  | .hbm, ⟨63, _⟩ => ⟨S_, .f32⟩
  | .hbm, ⟨64, _⟩ => ⟨S8192x5632, .f32⟩
  | .hbm, ⟨65, _⟩ => ⟨S8192x5632, .f32⟩
  | .hbm, ⟨66, _⟩ => ⟨S8192x5632, .f32⟩
  | .hbm, ⟨67, _⟩ => ⟨S8192x5632, .f32⟩
  | .hbm, ⟨68, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_call0_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_2 : Ref sig .tc := ⟨.hbm, 60, rfl⟩
abbrev main_v50 : Ref sig .tc := ⟨.hbm, 61, rfl⟩
abbrev main_v51 : Ref sig .tc := ⟨.hbm, 62, rfl⟩
abbrev main_cst_3 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩

abbrev nD : Nat := 1
abbrev τ : Topo := Topo.v7x

variable {F : FTy → Type} [FloatOps F]
-- ==== Kernel14.lean ====
abbrev S8192x2048 : Shape := ⟨2, ![8192, 2048]⟩
abbrev S4x2048 : Shape := ⟨2, ![4, 2048]⟩
abbrev S4x2048x11264 : Shape := ⟨3, ![4, 2048, 11264]⟩
abbrev S4x3x11264 : Shape := ⟨3, ![4, 3, 11264]⟩
abbrev S4x11264 : Shape := ⟨2, ![4, 11264]⟩
abbrev S4x2048x1 : Shape := ⟨3, ![4, 2048, 1]⟩
abbrev S4x1x11264 : Shape := ⟨3, ![4, 1, 11264]⟩
abbrev S8192x5632 : Shape := ⟨2, ![8192, 5632]⟩
abbrev S1024x2048 : Shape := ⟨2, ![1024, 2048]⟩
abbrev S1x2048x1 : Shape := ⟨3, ![1, 2048, 1]⟩
abbrev S1x2048x512 : Shape := ⟨3, ![1, 2048, 512]⟩
abbrev S1x3x512 : Shape := ⟨3, ![1, 3, 512]⟩
abbrev S1x1x512 : Shape := ⟨3, ![1, 1, 512]⟩
abbrev S1024x512 : Shape := ⟨2, ![1024, 512]⟩
abbrev S2048x512 : Shape := ⟨2, ![2048, 512]⟩
abbrev S4x8x512 : Shape := ⟨3, ![4, 8, 512]⟩
abbrev S2x8x512 : Shape := ⟨3, ![2, 8, 512]⟩
abbrev S8x1024x128 : Shape := ⟨3, ![8, 1024, 128]⟩
abbrev S2048x1 : Shape := ⟨2, ![2048, 1]⟩
abbrev S1x512 : Shape := ⟨2, ![1, 512]⟩
abbrev S8x512 : Shape := ⟨2, ![8, 512]⟩
abbrev S1x8x512 : Shape := ⟨3, ![1, 8, 512]⟩
abbrev S1024 : Shape := ⟨1, ![1024]⟩
abbrev S1024x1 : Shape := ⟨2, ![1024, 1]⟩
abbrev S1024x128 : Shape := ⟨2, ![1024, 128]⟩
abbrev S1x1024x128 : Shape := ⟨3, ![1, 1024, 128]⟩
abbrev S256x2048 : Shape := ⟨2, ![256, 2048]⟩
abbrev S256x512 : Shape := ⟨2, ![256, 512]⟩
abbrev S1x256x128 : Shape := ⟨3, ![1, 256, 128]⟩
abbrev S256x128 : Shape := ⟨2, ![256, 128]⟩
abbrev S264x512 : Shape := ⟨2, ![264, 512]⟩

abbrev nBuf : Space → Nat
  | .hbm => 8
  | .vmem => 23
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x11264, .f32⟩
  | .hbm, ⟨3, _⟩ => ⟨S4x3x11264, .f32⟩
  | .hbm, ⟨4, _⟩ => ⟨S4x11264, .f32⟩
  | .hbm, ⟨5, _⟩ => ⟨S4x2048x1, .f32⟩
  | .hbm, ⟨6, _⟩ => ⟨S4x1x11264, .f32⟩
  | .hbm, ⟨7, _⟩ => ⟨S8192x5632, .bf16⟩
  | .local _ .vmem, ⟨0, _⟩ => ⟨S1024x2048, .f32⟩
  | .local _ .vmem, ⟨1, _⟩ => ⟨S1024x2048, .f32⟩
  | .local _ .vmem, ⟨2, _⟩ => ⟨S1x2048x1, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x3x512, .f32⟩
  | .local _ .vmem, ⟨8, _⟩ => ⟨S1x3x512, .f32⟩
  | .local _ .vmem, ⟨9, _⟩ => ⟨S1x3x512, .f32⟩
  | .local _ .vmem, ⟨10, _⟩ => ⟨S1x3x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S1x1x512, .f32⟩
  | .local _ .vmem, ⟨15, _⟩ => ⟨S1024x512, .bf16⟩
  | .local _ .vmem, ⟨16, _⟩ => ⟨S1024x512, .bf16⟩
  | .local _ .vmem, ⟨17, _⟩ => ⟨S2048x512, .bf16⟩
  | .local _ .vmem, ⟨18, _⟩ => ⟨S2048x512, .bf16⟩
  | .local _ .vmem, ⟨19, _⟩ => ⟨S4x8x512, .f32⟩
  | .local _ .vmem, ⟨20, _⟩ => ⟨S4x8x512, .f32⟩
  | .local _ .vmem, ⟨21, _⟩ => ⟨S2x8x512, .f32⟩
  | .local _ .vmem, ⟨22, _⟩ => ⟨S8x1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![11, 8], ![false, false]⟩

def k0_cond3 (i : grid0.Coords) : BitVec 1 :=
  let arg0 : BitVec 32 := BitVec.ofNat 32 (i 0).val
  let c0_i32_7 : BitVec 32 := 0#32
  let v16 : BitVec 1 := Scalar.cmpi .eq arg0 c0_i32_7
  let v17 : BitVec 32 := Scalar.extui v16
  let c0_i32_8 : BitVec 32 := 0#32
  let v18 : BitVec 1 := Scalar.cmpi .ne v17 c0_i32_8
  v18

def k0_off1 (i : grid0.Coords) : Fin 3 → Nat :=
  let arg1 : BitVec 32 := BitVec.ofNat 32 (i 1).val
  let v284 : Index := Scalar.indexCast arg1
  let c0_162 : Index := 0#32
  let c0_163 : Index := 0#32
  ![v284.toNat, 0, 0]
def k0_off2 (i : grid0.Coords) : Fin 3 → Nat :=
  let arg1 : BitVec 32 := BitVec.ofNat 32 (i 1).val
  let v29 : Index := Scalar.indexCast arg1
  let c0_20 : Index := 0#32
  let c0_21 : Index := 0#32
  ![v29.toNat, 0, 0]
def k0_off3 (i : grid0.Coords) : Fin 3 → Nat :=
  let arg1 : BitVec 32 := BitVec.ofNat 32 (i 1).val
  let v41 : Index := Scalar.indexCast arg1
  let c256_29 : Index := 256#32
  let c0_30 : Index := 0#32
  ![v41.toNat, 256, 0]
def k0_off4 (i : grid0.Coords) : Fin 3 → Nat :=
  let arg1 : BitVec 32 := BitVec.ofNat 32 (i 1).val
  let v102 : Index := Scalar.indexCast arg1
  let c512_62 : Index := 512#32
  let c0_63 : Index := 0#32
  ![v102.toNat, 512, 0]
def k0_off5 (i : grid0.Coords) : Fin 3 → Nat :=
  let arg1 : BitVec 32 := BitVec.ofNat 32 (i 1).val
  let v163 : Index := Scalar.indexCast arg1
  let c768_97 : Index := 768#32
  let c0_98 : Index := 0#32
  ![v163.toNat, 768, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c2_i32 : BitVec 32 := 2#32
  let c0_i32_0 : BitVec 32 := 0#32
  let c0_i32_1 : BitVec 32 := 0#32
  ![c2_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c2_i32 : BitVec 32 := 2#32
  let c0_i32 : BitVec 32 := 0#32
  let c0_i32_0 : BitVec 32 := 0#32
  ![c2_i32.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c2_i32 : BitVec 32 := 2#32
  let c0_i32_0 : BitVec 32 := 0#32
  let c0_i32_1 : BitVec 32 := 0#32
  ![c2_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c2_i32 : BitVec 32 := 2#32
  let c0_i32 : BitVec 32 := 0#32
  let c0_i32_0 : BitVec 32 := 0#32
  ![c2_i32.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c2_i32 : BitVec 32 := 2#32
  let c0_i32_0 : BitVec 32 := 0#32
  let c0_i32_1 : BitVec 32 := 0#32
  ![c2_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c2_i32 : BitVec 32 := 2#32
  let c0_i32 : BitVec 32 := 0#32
  let c0_i32_0 : BitVec 32 := 0#32
  ![c2_i32.toNat, c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal14.lean ====
abbrev S8192x2048 : Shape := ⟨2, ![8192, 2048]⟩
abbrev S4x2048 : Shape := ⟨2, ![4, 2048]⟩
abbrev S4x2048x11264 : Shape := ⟨3, ![4, 2048, 11264]⟩
abbrev S4x3x11264 : Shape := ⟨3, ![4, 3, 11264]⟩
abbrev S4x11264 : Shape := ⟨2, ![4, 11264]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048 : Shape := ⟨1, ![2048]⟩
abbrev S1x2048x11264 : Shape := ⟨3, ![1, 2048, 11264]⟩
abbrev S2048x11264 : Shape := ⟨2, ![2048, 11264]⟩
abbrev S8192x11264 : Shape := ⟨2, ![8192, 11264]⟩
abbrev S2x4096x11264 : Shape := ⟨3, ![2, 4096, 11264]⟩
abbrev S2x4098x11264 : Shape := ⟨3, ![2, 4098, 11264]⟩
abbrev S1x1x11264 : Shape := ⟨3, ![1, 1, 11264]⟩
abbrev S11264 : Shape := ⟨1, ![11264]⟩
abbrev S1x11264 : Shape := ⟨2, ![1, 11264]⟩
abbrev S8192x5632 : Shape := ⟨2, ![8192, 5632]⟩

abbrev nBuf : Space → Nat
  | .hbm => 69
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x11264, .f32⟩
  | .hbm, ⟨3, _⟩ => ⟨S4x3x11264, .f32⟩
  | .hbm, ⟨4, _⟩ => ⟨S4x11264, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S1x2048x11264, .f32⟩
  | .hbm, ⟨24, _⟩ => ⟨S2048x11264, .f32⟩
  | .hbm, ⟨25, _⟩ => ⟨S8192x11264, .f32⟩
  | .hbm, ⟨26, _⟩ => ⟨S2x4096x11264, .f32⟩
  | .hbm, ⟨27, _⟩ => ⟨S_, .i32⟩
  | .hbm, ⟨28, _⟩ => ⟨S_, .f32⟩
  | .hbm, ⟨29, _⟩ => ⟨S2x4098x11264, .f32⟩
  | .hbm, ⟨30, _⟩ => ⟨S2x4096x11264, .f32⟩
  | .hbm, ⟨31, _⟩ => ⟨S1x1x11264, .f32⟩
  | .hbm, ⟨32, _⟩ => ⟨S11264, .f32⟩
  | .hbm, ⟨33, _⟩ => ⟨S1x1x11264, .f32⟩
  | .hbm, ⟨34, _⟩ => ⟨S2x4096x11264, .f32⟩
  | .hbm, ⟨35, _⟩ => ⟨S2x4096x11264, .f32⟩
  | .hbm, ⟨36, _⟩ => ⟨S2x4096x11264, .f32⟩
  | .hbm, ⟨37, _⟩ => ⟨S1x1x11264, .f32⟩
  | .hbm, ⟨38, _⟩ => ⟨S11264, .f32⟩
  | .hbm, ⟨39, _⟩ => ⟨S1x1x11264, .f32⟩
  | .hbm, ⟨40, _⟩ => ⟨S2x4096x11264, .f32⟩
  | .hbm, ⟨41, _⟩ => ⟨S2x4096x11264, .f32⟩
  | .hbm, ⟨42, _⟩ => ⟨S2x4096x11264, .f32⟩
  | .hbm, ⟨43, _⟩ => ⟨S2x4096x11264, .f32⟩
  | .hbm, ⟨44, _⟩ => ⟨S1x1x11264, .f32⟩
  | .hbm, ⟨45, _⟩ => ⟨S11264, .f32⟩
  | .hbm, ⟨46, _⟩ => ⟨S1x1x11264, .f32⟩
  | .hbm, ⟨47, _⟩ => ⟨S2x4096x11264, .f32⟩
  | .hbm, ⟨48, _⟩ => ⟨S2x4096x11264, .f32⟩
  | .hbm, ⟨49, _⟩ => ⟨S2x4096x11264, .f32⟩
  | .hbm, ⟨50, _⟩ => ⟨S1x11264, .f32⟩
  | .hbm, ⟨51, _⟩ => ⟨S11264, .f32⟩
  | .hbm, ⟨52, _⟩ => ⟨S1x1x11264, .f32⟩
  | .hbm, ⟨53, _⟩ => ⟨S2x4096x11264, .f32⟩
  | .hbm, ⟨54, _⟩ => ⟨S2x4096x11264, .f32⟩
  | .hbm, ⟨55, _⟩ => ⟨S8192x11264, .f32⟩
  | .hbm, ⟨56, _⟩ => ⟨S8192x5632, .f32⟩
  | .hbm, ⟨57, _⟩ => ⟨S8192x5632, .f32⟩
  | .hbm, ⟨58, _⟩ => ⟨S8192x5632, .f32⟩
  | .hbm, ⟨59, _⟩ => ⟨S8192x5632, .f32⟩
  | .hbm, ⟨60, _⟩ => ⟨S_, .f32⟩
  | .hbm, ⟨61, _⟩ => ⟨S8192x5632, .f32⟩
  | .hbm, ⟨62, _⟩ => ⟨S8192x5632, .f32⟩
  | .hbm, ⟨63, _⟩ => ⟨S_, .f32⟩
  | .hbm, ⟨64, _⟩ => ⟨S8192x5632, .f32⟩
  | .hbm, ⟨65, _⟩ => ⟨S8192x5632, .f32⟩
  | .hbm, ⟨66, _⟩ => ⟨S8192x5632, .f32⟩
  | .hbm, ⟨67, _⟩ => ⟨S8192x5632, .f32⟩
  | .hbm, ⟨68, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_call0_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_2 : Ref sig .tc := ⟨.hbm, 60, rfl⟩
abbrev main_v50 : Ref sig .tc := ⟨.hbm, 61, rfl⟩
abbrev main_v51 : Ref sig .tc := ⟨.hbm, 62, rfl⟩
abbrev main_cst_3 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩

abbrev nD : Nat := 1
abbrev τ : Topo := Topo.v7x

variable {F : FTy → Type} [FloatOps F]
-- ==== Kernel15.lean ====
abbrev S8192x2048 : Shape := ⟨2, ![8192, 2048]⟩
abbrev S4x2048 : Shape := ⟨2, ![4, 2048]⟩
abbrev S4x2048x11264 : Shape := ⟨3, ![4, 2048, 11264]⟩
abbrev S4x3x11264 : Shape := ⟨3, ![4, 3, 11264]⟩
abbrev S4x11264 : Shape := ⟨2, ![4, 11264]⟩
abbrev S4x2048x1 : Shape := ⟨3, ![4, 2048, 1]⟩
abbrev S4x1x11264 : Shape := ⟨3, ![4, 1, 11264]⟩
abbrev S8192x5632 : Shape := ⟨2, ![8192, 5632]⟩
abbrev S1024x2048 : Shape := ⟨2, ![1024, 2048]⟩
abbrev S1x2048x1 : Shape := ⟨3, ![1, 2048, 1]⟩
abbrev S1x2048x512 : Shape := ⟨3, ![1, 2048, 512]⟩
abbrev S1x3x512 : Shape := ⟨3, ![1, 3, 512]⟩
abbrev S1x1x512 : Shape := ⟨3, ![1, 1, 512]⟩
abbrev S1024x512 : Shape := ⟨2, ![1024, 512]⟩
abbrev S2048x512 : Shape := ⟨2, ![2048, 512]⟩
abbrev S4x8x512 : Shape := ⟨3, ![4, 8, 512]⟩
abbrev S2x8x512 : Shape := ⟨3, ![2, 8, 512]⟩
abbrev S8x1024x128 : Shape := ⟨3, ![8, 1024, 128]⟩
abbrev S2048x1 : Shape := ⟨2, ![2048, 1]⟩
abbrev S1x512 : Shape := ⟨2, ![1, 512]⟩
abbrev S8x512 : Shape := ⟨2, ![8, 512]⟩
abbrev S1x8x512 : Shape := ⟨3, ![1, 8, 512]⟩
abbrev S1024 : Shape := ⟨1, ![1024]⟩
abbrev S1024x1 : Shape := ⟨2, ![1024, 1]⟩
abbrev S1024x128 : Shape := ⟨2, ![1024, 128]⟩
abbrev S1x1024x128 : Shape := ⟨3, ![1, 1024, 128]⟩
abbrev S256x2048 : Shape := ⟨2, ![256, 2048]⟩
abbrev S256x512 : Shape := ⟨2, ![256, 512]⟩
abbrev S1x256x128 : Shape := ⟨3, ![1, 256, 128]⟩
abbrev S256x128 : Shape := ⟨2, ![256, 128]⟩
abbrev S264x512 : Shape := ⟨2, ![264, 512]⟩

abbrev nBuf : Space → Nat
  | .hbm => 8
  | .vmem => 23
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x11264, .f32⟩
  | .hbm, ⟨3, _⟩ => ⟨S4x3x11264, .f32⟩
  | .hbm, ⟨4, _⟩ => ⟨S4x11264, .f32⟩
  | .hbm, ⟨5, _⟩ => ⟨S4x2048x1, .f32⟩
  | .hbm, ⟨6, _⟩ => ⟨S4x1x11264, .f32⟩
  | .hbm, ⟨7, _⟩ => ⟨S8192x5632, .bf16⟩
  | .local _ .vmem, ⟨0, _⟩ => ⟨S1024x2048, .f32⟩
  | .local _ .vmem, ⟨1, _⟩ => ⟨S1024x2048, .f32⟩
  | .local _ .vmem, ⟨2, _⟩ => ⟨S1x2048x1, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x3x512, .f32⟩
  | .local _ .vmem, ⟨8, _⟩ => ⟨S1x3x512, .f32⟩
  | .local _ .vmem, ⟨9, _⟩ => ⟨S1x3x512, .f32⟩
  | .local _ .vmem, ⟨10, _⟩ => ⟨S1x3x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S1x1x512, .f32⟩
  | .local _ .vmem, ⟨15, _⟩ => ⟨S1024x512, .bf16⟩
  | .local _ .vmem, ⟨16, _⟩ => ⟨S1024x512, .bf16⟩
  | .local _ .vmem, ⟨17, _⟩ => ⟨S2048x512, .bf16⟩
  | .local _ .vmem, ⟨18, _⟩ => ⟨S2048x512, .bf16⟩
  | .local _ .vmem, ⟨19, _⟩ => ⟨S4x8x512, .f32⟩
  | .local _ .vmem, ⟨20, _⟩ => ⟨S4x8x512, .f32⟩
  | .local _ .vmem, ⟨21, _⟩ => ⟨S2x8x512, .f32⟩
  | .local _ .vmem, ⟨22, _⟩ => ⟨S8x1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![11, 8], ![false, false]⟩

def k0_cond3 (i : grid0.Coords) : BitVec 1 :=
  let arg0 : BitVec 32 := BitVec.ofNat 32 (i 0).val
  let c0_i32_7 : BitVec 32 := 0#32
  let v16 : BitVec 1 := Scalar.cmpi .eq arg0 c0_i32_7
  let v17 : BitVec 32 := Scalar.extui v16
  let c0_i32_8 : BitVec 32 := 0#32
  let v18 : BitVec 1 := Scalar.cmpi .ne v17 c0_i32_8
  v18

def k0_off1 (i : grid0.Coords) : Fin 3 → Nat :=
  let arg1 : BitVec 32 := BitVec.ofNat 32 (i 1).val
  let v284 : Index := Scalar.indexCast arg1
  let c0_162 : Index := 0#32
  let c0_163 : Index := 0#32
  ![v284.toNat, 0, 0]
def k0_off2 (i : grid0.Coords) : Fin 3 → Nat :=
  let arg1 : BitVec 32 := BitVec.ofNat 32 (i 1).val
  let v29 : Index := Scalar.indexCast arg1
  let c0_20 : Index := 0#32
  let c0_21 : Index := 0#32
  ![v29.toNat, 0, 0]
def k0_off3 (i : grid0.Coords) : Fin 3 → Nat :=
  let arg1 : BitVec 32 := BitVec.ofNat 32 (i 1).val
  let v41 : Index := Scalar.indexCast arg1
  let c256_29 : Index := 256#32
  let c0_30 : Index := 0#32
  ![v41.toNat, 256, 0]
def k0_off4 (i : grid0.Coords) : Fin 3 → Nat :=
  let arg1 : BitVec 32 := BitVec.ofNat 32 (i 1).val
  let v102 : Index := Scalar.indexCast arg1
  let c512_62 : Index := 512#32
  let c0_63 : Index := 0#32
  ![v102.toNat, 512, 0]
def k0_off5 (i : grid0.Coords) : Fin 3 → Nat :=
  let arg1 : BitVec 32 := BitVec.ofNat 32 (i 1).val
  let v163 : Index := Scalar.indexCast arg1
  let c768_97 : Index := 768#32
  let c0_98 : Index := 0#32
  ![v163.toNat, 768, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c3_i32 : BitVec 32 := 3#32
  let c0_i32_0 : BitVec 32 := 0#32
  let c0_i32_1 : BitVec 32 := 0#32
  ![c3_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c3_i32 : BitVec 32 := 3#32
  let c0_i32 : BitVec 32 := 0#32
  let c0_i32_0 : BitVec 32 := 0#32
  ![c3_i32.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c3_i32 : BitVec 32 := 3#32
  let c0_i32_0 : BitVec 32 := 0#32
  let c0_i32_1 : BitVec 32 := 0#32
  ![c3_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c3_i32 : BitVec 32 := 3#32
  let c0_i32 : BitVec 32 := 0#32
  let c0_i32_0 : BitVec 32 := 0#32
  ![c3_i32.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c3_i32 : BitVec 32 := 3#32
  let c0_i32_0 : BitVec 32 := 0#32
  let c0_i32_1 : BitVec 32 := 0#32
  ![c3_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c3_i32 : BitVec 32 := 3#32
  let c0_i32 : BitVec 32 := 0#32
  let c0_i32_0 : BitVec 32 := 0#32
  ![c3_i32.toNat, c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal15.lean ====
abbrev S8192x2048 : Shape := ⟨2, ![8192, 2048]⟩
abbrev S4x2048 : Shape := ⟨2, ![4, 2048]⟩
abbrev S4x2048x11264 : Shape := ⟨3, ![4, 2048, 11264]⟩
abbrev S4x3x11264 : Shape := ⟨3, ![4, 3, 11264]⟩
abbrev S4x11264 : Shape := ⟨2, ![4, 11264]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048 : Shape := ⟨1, ![2048]⟩
abbrev S1x2048x11264 : Shape := ⟨3, ![1, 2048, 11264]⟩
abbrev S2048x11264 : Shape := ⟨2, ![2048, 11264]⟩
abbrev S8192x11264 : Shape := ⟨2, ![8192, 11264]⟩
abbrev S2x4096x11264 : Shape := ⟨3, ![2, 4096, 11264]⟩
abbrev S2x4098x11264 : Shape := ⟨3, ![2, 4098, 11264]⟩
abbrev S1x1x11264 : Shape := ⟨3, ![1, 1, 11264]⟩
abbrev S11264 : Shape := ⟨1, ![11264]⟩
abbrev S1x11264 : Shape := ⟨2, ![1, 11264]⟩
abbrev S8192x5632 : Shape := ⟨2, ![8192, 5632]⟩

abbrev nBuf : Space → Nat
  | .hbm => 69
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x11264, .f32⟩
  | .hbm, ⟨3, _⟩ => ⟨S4x3x11264, .f32⟩
  | .hbm, ⟨4, _⟩ => ⟨S4x11264, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S1x2048x11264, .f32⟩
  | .hbm, ⟨24, _⟩ => ⟨S2048x11264, .f32⟩
  | .hbm, ⟨25, _⟩ => ⟨S8192x11264, .f32⟩
  | .hbm, ⟨26, _⟩ => ⟨S2x4096x11264, .f32⟩
  | .hbm, ⟨27, _⟩ => ⟨S_, .i32⟩
  | .hbm, ⟨28, _⟩ => ⟨S_, .f32⟩
  | .hbm, ⟨29, _⟩ => ⟨S2x4098x11264, .f32⟩
  | .hbm, ⟨30, _⟩ => ⟨S2x4096x11264, .f32⟩
  | .hbm, ⟨31, _⟩ => ⟨S1x1x11264, .f32⟩
  | .hbm, ⟨32, _⟩ => ⟨S11264, .f32⟩
  | .hbm, ⟨33, _⟩ => ⟨S1x1x11264, .f32⟩
  | .hbm, ⟨34, _⟩ => ⟨S2x4096x11264, .f32⟩
  | .hbm, ⟨35, _⟩ => ⟨S2x4096x11264, .f32⟩
  | .hbm, ⟨36, _⟩ => ⟨S2x4096x11264, .f32⟩
  | .hbm, ⟨37, _⟩ => ⟨S1x1x11264, .f32⟩
  | .hbm, ⟨38, _⟩ => ⟨S11264, .f32⟩
  | .hbm, ⟨39, _⟩ => ⟨S1x1x11264, .f32⟩
  | .hbm, ⟨40, _⟩ => ⟨S2x4096x11264, .f32⟩
  | .hbm, ⟨41, _⟩ => ⟨S2x4096x11264, .f32⟩
  | .hbm, ⟨42, _⟩ => ⟨S2x4096x11264, .f32⟩
  | .hbm, ⟨43, _⟩ => ⟨S2x4096x11264, .f32⟩
  | .hbm, ⟨44, _⟩ => ⟨S1x1x11264, .f32⟩
  | .hbm, ⟨45, _⟩ => ⟨S11264, .f32⟩
  | .hbm, ⟨46, _⟩ => ⟨S1x1x11264, .f32⟩
  | .hbm, ⟨47, _⟩ => ⟨S2x4096x11264, .f32⟩
  | .hbm, ⟨48, _⟩ => ⟨S2x4096x11264, .f32⟩
  | .hbm, ⟨49, _⟩ => ⟨S2x4096x11264, .f32⟩
  | .hbm, ⟨50, _⟩ => ⟨S1x11264, .f32⟩
  | .hbm, ⟨51, _⟩ => ⟨S11264, .f32⟩
  | .hbm, ⟨52, _⟩ => ⟨S1x1x11264, .f32⟩
  | .hbm, ⟨53, _⟩ => ⟨S2x4096x11264, .f32⟩
  | .hbm, ⟨54, _⟩ => ⟨S2x4096x11264, .f32⟩
  | .hbm, ⟨55, _⟩ => ⟨S8192x11264, .f32⟩
  | .hbm, ⟨56, _⟩ => ⟨S8192x5632, .f32⟩
  | .hbm, ⟨57, _⟩ => ⟨S8192x5632, .f32⟩
  | .hbm, ⟨58, _⟩ => ⟨S8192x5632, .f32⟩
  | .hbm, ⟨59, _⟩ => ⟨S8192x5632, .f32⟩
  | .hbm, ⟨60, _⟩ => ⟨S_, .f32⟩
  | .hbm, ⟨61, _⟩ => ⟨S8192x5632, .f32⟩
  | .hbm, ⟨62, _⟩ => ⟨S8192x5632, .f32⟩
  | .hbm, ⟨63, _⟩ => ⟨S_, .f32⟩
  | .hbm, ⟨64, _⟩ => ⟨S8192x5632, .f32⟩
  | .hbm, ⟨65, _⟩ => ⟨S8192x5632, .f32⟩
  | .hbm, ⟨66, _⟩ => ⟨S8192x5632, .f32⟩
  | .hbm, ⟨67, _⟩ => ⟨S8192x5632, .f32⟩
  | .hbm, ⟨68, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_call0_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_2 : Ref sig .tc := ⟨.hbm, 60, rfl⟩
abbrev main_v50 : Ref sig .tc := ⟨.hbm, 61, rfl⟩
abbrev main_v51 : Ref sig .tc := ⟨.hbm, 62, rfl⟩
abbrev main_cst_3 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩

abbrev nD : Nat := 1
abbrev τ : Topo := Topo.v7x

variable {F : FTy → Type} [FloatOps F]
-- ==== Kernel16.lean ====
abbrev S8192x2048 : Shape := ⟨2, ![8192, 2048]⟩
abbrev S2x2048x10304 : Shape := ⟨3, ![2, 2048, 10304]⟩
abbrev S2x4x6144 : Shape := ⟨3, ![2, 4, 6144]⟩
abbrev S2x6144 : Shape := ⟨2, ![2, 6144]⟩
abbrev S2x10304x2048 : Shape := ⟨3, ![2, 10304, 2048]⟩
abbrev S2x1x6144 : Shape := ⟨3, ![2, 1, 6144]⟩
abbrev S8192x6144 : Shape := ⟨2, ![8192, 6144]⟩
abbrev S1024x2048 : Shape := ⟨2, ![1024, 2048]⟩
abbrev S1x1024x2048 : Shape := ⟨3, ![1, 1024, 2048]⟩
abbrev S1x4x1024 : Shape := ⟨3, ![1, 4, 1024]⟩
abbrev S1x1x1024 : Shape := ⟨3, ![1, 1, 1024]⟩
abbrev S1024x1024 : Shape := ⟨2, ![1024, 1024]⟩
abbrev S2048x1024 : Shape := ⟨2, ![2048, 1024]⟩
abbrev S5x8x1024 : Shape := ⟨3, ![5, 8, 1024]⟩
abbrev S1x8x1024 : Shape := ⟨3, ![1, 8, 1024]⟩
abbrev S1x1024 : Shape := ⟨2, ![1, 1024]⟩
abbrev S8x1024 : Shape := ⟨2, ![8, 1024]⟩
abbrev S256x2048 : Shape := ⟨2, ![256, 2048]⟩
abbrev S256x1024 : Shape := ⟨2, ![256, 1024]⟩
abbrev S264x1024 : Shape := ⟨2, ![264, 1024]⟩

abbrev nBuf : Space → Nat
  | .hbm => 7
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S2x2048x10304, .f32⟩
  | .hbm, ⟨2, _⟩ => ⟨S2x4x6144, .f32⟩
  | .hbm, ⟨3, _⟩ => ⟨S2x6144, .f32⟩
  | .hbm, ⟨4, _⟩ => ⟨S2x10304x2048, .f32⟩
  | .hbm, ⟨5, _⟩ => ⟨S2x1x6144, .f32⟩
  | .hbm, ⟨6, _⟩ => ⟨S8192x6144, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x4x1024, .f32⟩
  | .local _ .vmem, ⟨5, _⟩ => ⟨S1x4x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | .local _ .vmem, ⟨10, _⟩ => ⟨S2048x1024, .bf16⟩
  | .local _ .vmem, ⟨11, _⟩ => ⟨S5x8x1024, .f32⟩
  | .local _ .vmem, ⟨12, _⟩ => ⟨S1x8x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal16.lean ====
abbrev S8192x2048 : Shape := ⟨2, ![8192, 2048]⟩
abbrev S2x2048x10304 : Shape := ⟨3, ![2, 2048, 10304]⟩
abbrev S2x4x6144 : Shape := ⟨3, ![2, 4, 6144]⟩
abbrev S2x6144 : Shape := ⟨2, ![2, 6144]⟩
abbrev S1x2048x10304 : Shape := ⟨3, ![1, 2048, 10304]⟩
abbrev S2048x10304 : Shape := ⟨2, ![2048, 10304]⟩
abbrev S8192x10304 : Shape := ⟨2, ![8192, 10304]⟩
abbrev S8192x6144 : Shape := ⟨2, ![8192, 6144]⟩
abbrev S2x4096x6144 : Shape := ⟨3, ![2, 4096, 6144]⟩
abbrev S_ : Shape := ⟨0, ![]⟩
abbrev S2x4099x6144 : Shape := ⟨3, ![2, 4099, 6144]⟩
abbrev S1x1x6144 : Shape := ⟨3, ![1, 1, 6144]⟩
abbrev S6144 : Shape := ⟨1, ![6144]⟩
abbrev S1x6144 : Shape := ⟨2, ![1, 6144]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x10304, .f32⟩
  | .hbm, ⟨2, _⟩ => ⟨S2x4x6144, .f32⟩
  | .hbm, ⟨3, _⟩ => ⟨S2x6144, .f32⟩
  | .hbm, ⟨4, _⟩ => ⟨S8192x2048, .f32⟩
  | .hbm, ⟨5, _⟩ => ⟨S1x2048x10304, .f32⟩
  | .hbm, ⟨6, _⟩ => ⟨S2048x10304, .f32⟩
  | .hbm, ⟨7, _⟩ => ⟨S8192x10304, .f32⟩
  | .hbm, ⟨8, _⟩ => ⟨S8192x6144, .f32⟩
  | .hbm, ⟨9, _⟩ => ⟨S2x4096x6144, .f32⟩
  | .hbm, ⟨10, _⟩ => ⟨S_, .i32⟩
  | .hbm, ⟨11, _⟩ => ⟨S_, .f32⟩
  | .hbm, ⟨12, _⟩ => ⟨S2x4099x6144, .f32⟩
  | .hbm, ⟨13, _⟩ => ⟨S2x4096x6144, .f32⟩
  | .hbm, ⟨14, _⟩ => ⟨S1x1x6144, .f32⟩
  | .hbm, ⟨15, _⟩ => ⟨S6144, .f32⟩
  | .hbm, ⟨16, _⟩ => ⟨S1x1x6144, .f32⟩
  | .hbm, ⟨17, _⟩ => ⟨S2x4096x6144, .f32⟩
  | .hbm, ⟨18, _⟩ => ⟨S2x4096x6144, .f32⟩
  | .hbm, ⟨19, _⟩ => ⟨S2x4096x6144, .f32⟩
  | .hbm, ⟨20, _⟩ => ⟨S1x1x6144, .f32⟩
  | .hbm, ⟨21, _⟩ => ⟨S6144, .f32⟩
  | .hbm, ⟨22, _⟩ => ⟨S1x1x6144, .f32⟩
  | .hbm, ⟨23, _⟩ => ⟨S2x4096x6144, .f32⟩
  | .hbm, ⟨24, _⟩ => ⟨S2x4096x6144, .f32⟩
  | .hbm, ⟨25, _⟩ => ⟨S2x4096x6144, .f32⟩
  | .hbm, ⟨26, _⟩ => ⟨S2x4096x6144, .f32⟩
  | .hbm, ⟨27, _⟩ => ⟨S1x1x6144, .f32⟩
  | .hbm, ⟨28, _⟩ => ⟨S6144, .f32⟩
  | .hbm, ⟨29, _⟩ => ⟨S1x1x6144, .f32⟩
  | .hbm, ⟨30, _⟩ => ⟨S2x4096x6144, .f32⟩
  | .hbm, ⟨31, _⟩ => ⟨S2x4096x6144, .f32⟩
  | .hbm, ⟨32, _⟩ => ⟨S2x4096x6144, .f32⟩
  | .hbm, ⟨33, _⟩ => ⟨S2x4096x6144, .f32⟩
  | .hbm, ⟨34, _⟩ => ⟨S1x1x6144, .f32⟩
  | .hbm, ⟨35, _⟩ => ⟨S6144, .f32⟩
  | .hbm, ⟨36, _⟩ => ⟨S1x1x6144, .f32⟩
  | .hbm, ⟨37, _⟩ => ⟨S2x4096x6144, .f32⟩
  | .hbm, ⟨38, _⟩ => ⟨S2x4096x6144, .f32⟩
  | .hbm, ⟨39, _⟩ => ⟨S2x4096x6144, .f32⟩
  | .hbm, ⟨40, _⟩ => ⟨S1x6144, .f32⟩
  | .hbm, ⟨41, _⟩ => ⟨S6144, .f32⟩
  | .hbm, ⟨42, _⟩ => ⟨S1x1x6144, .f32⟩
  | .hbm, ⟨43, _⟩ => ⟨S2x4096x6144, .f32⟩
  | .hbm, ⟨44, _⟩ => ⟨S2x4096x6144, .f32⟩
  | .hbm, ⟨45, _⟩ => ⟨S8192x6144, .f32⟩
  | .hbm, ⟨46, _⟩ => ⟨S8192x6144, .f32⟩
  | .hbm, ⟨47, _⟩ => ⟨S8192x6144, .f32⟩
  | .hbm, ⟨48, _⟩ => ⟨S_, .f32⟩
  | .hbm, ⟨49, _⟩ => ⟨S8192x6144, .f32⟩
  | .hbm, ⟨50, _⟩ => ⟨S8192x6144, .f32⟩
  | .hbm, ⟨51, _⟩ => ⟨S_, .f32⟩
  | .hbm, ⟨52, _⟩ => ⟨S8192x6144, .f32⟩
  | .hbm, ⟨53, _⟩ => ⟨S8192x6144, .f32⟩
  | .hbm, ⟨54, _⟩ => ⟨S8192x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_cst : Ref sig .tc := ⟨.hbm, 48, rfl⟩
abbrev main_v42 : Ref sig .tc := ⟨.hbm, 49, rfl⟩
abbrev main_v43 : Ref sig .tc := ⟨.hbm, 50, rfl⟩
abbrev main_cst_0 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩

abbrev nD : Nat := 1
abbrev τ : Topo := Topo.v7x

variable {F : FTy → Type} [FloatOps F]
-- ==== Kernel17.lean ====
abbrev S8192x2048 : Shape := ⟨2, ![8192, 2048]⟩
abbrev S2x2048x10304 : Shape := ⟨3, ![2, 2048, 10304]⟩
abbrev S2x4x6144 : Shape := ⟨3, ![2, 4, 6144]⟩
abbrev S2x6144 : Shape := ⟨2, ![2, 6144]⟩
abbrev S2x10304x2048 : Shape := ⟨3, ![2, 10304, 2048]⟩
abbrev S2x1x6144 : Shape := ⟨3, ![2, 1, 6144]⟩
abbrev S8192x6144 : Shape := ⟨2, ![8192, 6144]⟩
abbrev S1024x2048 : Shape := ⟨2, ![1024, 2048]⟩
abbrev S1x1024x2048 : Shape := ⟨3, ![1, 1024, 2048]⟩
abbrev S1x4x1024 : Shape := ⟨3, ![1, 4, 1024]⟩
abbrev S1x1x1024 : Shape := ⟨3, ![1, 1, 1024]⟩
abbrev S1024x1024 : Shape := ⟨2, ![1024, 1024]⟩
abbrev S2048x1024 : Shape := ⟨2, ![2048, 1024]⟩
abbrev S5x8x1024 : Shape := ⟨3, ![5, 8, 1024]⟩
abbrev S1x8x1024 : Shape := ⟨3, ![1, 8, 1024]⟩
abbrev S1x1024 : Shape := ⟨2, ![1, 1024]⟩
abbrev S8x1024 : Shape := ⟨2, ![8, 1024]⟩
abbrev S256x2048 : Shape := ⟨2, ![256, 2048]⟩
abbrev S256x1024 : Shape := ⟨2, ![256, 1024]⟩
abbrev S264x1024 : Shape := ⟨2, ![264, 1024]⟩

abbrev nBuf : Space → Nat
  | .hbm => 7
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S2x2048x10304, .f32⟩
  | .hbm, ⟨2, _⟩ => ⟨S2x4x6144, .f32⟩
  | .hbm, ⟨3, _⟩ => ⟨S2x6144, .f32⟩
  | .hbm, ⟨4, _⟩ => ⟨S2x10304x2048, .f32⟩
  | .hbm, ⟨5, _⟩ => ⟨S2x1x6144, .f32⟩
  | .hbm, ⟨6, _⟩ => ⟨S8192x6144, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x4x1024, .f32⟩
  | .local _ .vmem, ⟨5, _⟩ => ⟨S1x4x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | .local _ .vmem, ⟨10, _⟩ => ⟨S2048x1024, .bf16⟩
  | .local _ .vmem, ⟨11, _⟩ => ⟨S5x8x1024, .f32⟩
  | .local _ .vmem, ⟨12, _⟩ => ⟨S1x8x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c1_i32 : BitVec 32 := 1#32
  let c0_i32 : BitVec 32 := 0#32
  let c0_i32_0 : BitVec 32 := 0#32
  ![c1_i32.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal17.lean ====
abbrev S8192x2048 : Shape := ⟨2, ![8192, 2048]⟩
abbrev S2x2048x10304 : Shape := ⟨3, ![2, 2048, 10304]⟩
abbrev S2x4x6144 : Shape := ⟨3, ![2, 4, 6144]⟩
abbrev S2x6144 : Shape := ⟨2, ![2, 6144]⟩
abbrev S1x2048x10304 : Shape := ⟨3, ![1, 2048, 10304]⟩
abbrev S2048x10304 : Shape := ⟨2, ![2048, 10304]⟩
abbrev S8192x10304 : Shape := ⟨2, ![8192, 10304]⟩
abbrev S8192x6144 : Shape := ⟨2, ![8192, 6144]⟩
abbrev S2x4096x6144 : Shape := ⟨3, ![2, 4096, 6144]⟩
abbrev S_ : Shape := ⟨0, ![]⟩
abbrev S2x4099x6144 : Shape := ⟨3, ![2, 4099, 6144]⟩
abbrev S1x1x6144 : Shape := ⟨3, ![1, 1, 6144]⟩
abbrev S6144 : Shape := ⟨1, ![6144]⟩
abbrev S1x6144 : Shape := ⟨2, ![1, 6144]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x10304, .f32⟩
  | .hbm, ⟨2, _⟩ => ⟨S2x4x6144, .f32⟩
  | .hbm, ⟨3, _⟩ => ⟨S2x6144, .f32⟩
  | .hbm, ⟨4, _⟩ => ⟨S8192x2048, .f32⟩
  | .hbm, ⟨5, _⟩ => ⟨S1x2048x10304, .f32⟩
  | .hbm, ⟨6, _⟩ => ⟨S2048x10304, .f32⟩
  | .hbm, ⟨7, _⟩ => ⟨S8192x10304, .f32⟩
  | .hbm, ⟨8, _⟩ => ⟨S8192x6144, .f32⟩
  | .hbm, ⟨9, _⟩ => ⟨S2x4096x6144, .f32⟩
  | .hbm, ⟨10, _⟩ => ⟨S_, .i32⟩
  | .hbm, ⟨11, _⟩ => ⟨S_, .f32⟩
  | .hbm, ⟨12, _⟩ => ⟨S2x4099x6144, .f32⟩
  | .hbm, ⟨13, _⟩ => ⟨S2x4096x6144, .f32⟩
  | .hbm, ⟨14, _⟩ => ⟨S1x1x6144, .f32⟩
  | .hbm, ⟨15, _⟩ => ⟨S6144, .f32⟩
  | .hbm, ⟨16, _⟩ => ⟨S1x1x6144, .f32⟩
  | .hbm, ⟨17, _⟩ => ⟨S2x4096x6144, .f32⟩
  | .hbm, ⟨18, _⟩ => ⟨S2x4096x6144, .f32⟩
  | .hbm, ⟨19, _⟩ => ⟨S2x4096x6144, .f32⟩
  | .hbm, ⟨20, _⟩ => ⟨S1x1x6144, .f32⟩
  | .hbm, ⟨21, _⟩ => ⟨S6144, .f32⟩
  | .hbm, ⟨22, _⟩ => ⟨S1x1x6144, .f32⟩
  | .hbm, ⟨23, _⟩ => ⟨S2x4096x6144, .f32⟩
  | .hbm, ⟨24, _⟩ => ⟨S2x4096x6144, .f32⟩
  | .hbm, ⟨25, _⟩ => ⟨S2x4096x6144, .f32⟩
  | .hbm, ⟨26, _⟩ => ⟨S2x4096x6144, .f32⟩
  | .hbm, ⟨27, _⟩ => ⟨S1x1x6144, .f32⟩
  | .hbm, ⟨28, _⟩ => ⟨S6144, .f32⟩
  | .hbm, ⟨29, _⟩ => ⟨S1x1x6144, .f32⟩
  | .hbm, ⟨30, _⟩ => ⟨S2x4096x6144, .f32⟩
  | .hbm, ⟨31, _⟩ => ⟨S2x4096x6144, .f32⟩
  | .hbm, ⟨32, _⟩ => ⟨S2x4096x6144, .f32⟩
  | .hbm, ⟨33, _⟩ => ⟨S2x4096x6144, .f32⟩
  | .hbm, ⟨34, _⟩ => ⟨S1x1x6144, .f32⟩
  | .hbm, ⟨35, _⟩ => ⟨S6144, .f32⟩
  | .hbm, ⟨36, _⟩ => ⟨S1x1x6144, .f32⟩
  | .hbm, ⟨37, _⟩ => ⟨S2x4096x6144, .f32⟩
  | .hbm, ⟨38, _⟩ => ⟨S2x4096x6144, .f32⟩
  | .hbm, ⟨39, _⟩ => ⟨S2x4096x6144, .f32⟩
  | .hbm, ⟨40, _⟩ => ⟨S1x6144, .f32⟩
  | .hbm, ⟨41, _⟩ => ⟨S6144, .f32⟩
  | .hbm, ⟨42, _⟩ => ⟨S1x1x6144, .f32⟩
  | .hbm, ⟨43, _⟩ => ⟨S2x4096x6144, .f32⟩
  | .hbm, ⟨44, _⟩ => ⟨S2x4096x6144, .f32⟩
  | .hbm, ⟨45, _⟩ => ⟨S8192x6144, .f32⟩
  | .hbm, ⟨46, _⟩ => ⟨S8192x6144, .f32⟩
  | .hbm, ⟨47, _⟩ => ⟨S8192x6144, .f32⟩
  | .hbm, ⟨48, _⟩ => ⟨S_, .f32⟩
  | .hbm, ⟨49, _⟩ => ⟨S8192x6144, .f32⟩
  | .hbm, ⟨50, _⟩ => ⟨S8192x6144, .f32⟩
  | .hbm, ⟨51, _⟩ => ⟨S_, .f32⟩
  | .hbm, ⟨52, _⟩ => ⟨S8192x6144, .f32⟩
  | .hbm, ⟨53, _⟩ => ⟨S8192x6144, .f32⟩
  | .hbm, ⟨54, _⟩ => ⟨S8192x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_cst : Ref sig .tc := ⟨.hbm, 48, rfl⟩
abbrev main_v42 : Ref sig .tc := ⟨.hbm, 49, rfl⟩
abbrev main_v43 : Ref sig .tc := ⟨.hbm, 50, rfl⟩
abbrev main_cst_0 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩

abbrev nD : Nat := 1
abbrev τ : Topo := Topo.v7x

variable {F : FTy → Type} [FloatOps F]
-- ==== Kernel18.lean ====
abbrev S8192x2048 : Shape := ⟨2, ![8192, 2048]⟩
abbrev S2048 : Shape := ⟨1, ![2048]⟩
abbrev S1x1x2048 : Shape := ⟨3, ![1, 1, 2048]⟩
abbrev S1024x2048 : Shape := ⟨2, ![1024, 2048]⟩
abbrev S1024 : Shape := ⟨1, ![1024]⟩
abbrev S1024x1 : Shape := ⟨2, ![1024, 1]⟩
abbrev S1x2048 : Shape := ⟨2, ![1, 2048]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x1x2048, .f32⟩
  | .hbm, ⟨3, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1024x2048, .f32⟩
  | .local _ .vmem, ⟨4, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal18.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Rules.lean ====
/- Loads and stores of an owned memref at a unit-stride rectangle, by the values it holds. -/
module

public import Idealize.ShloMosaic.Lib.VecWindow
public import Idealize.ShloMosaic.Lib.Pipeline.TableIdle
public import Idealize.ShloMosaic.Lib.Tactic

@[expose] public section

noncomputable section

namespace Cert.Rules

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} [∀ e, Nonempty (Val e)] {Name : Type} [DecidableEq Name]
variable {U : Type} [URA U] {Lvl : Type} {Λ : Labels}
local notation "𝕄" => MT nD τ sig Ix Val Name U Lvl

variable [Preorder Lvl] {defs : Defs nD τ sig Val Λ} {𝒱 : Variants} {c : Thread nD τ}
variable {bd : Option 𝒱.V} {E : Set Name} {α : Type} {Q : α → sProp (MT nD τ sig Ix Val Name U Lvl)} {s : Shape} {e : EltTy} {cs : CoreSpace}

/-- A load through a unit-stride rectangle goes on at the window of the values held. -/
theorem wp_load_owns {m : Memref sig c.2.kind cs s e} {off size : Fin s.rank → ℕ} {inb : ∀ a, off a + size a ≤ s.size a}
    {hl : m.view.LoadsAt (Rect.unit off size inb).toLoadRect}
    {k : ((Rect.unit off size inb).toLoadRect.shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) E (k (VecWindow.window X off size inb)) Q)
        -∗ wp frame (wpE defs 𝒱 c bd) E (Prog.lift (.load m (Rect.unit off size inb).toLoadRect hl) >>= k) Q) := by
  rw [owns_eq_rep, ← View.readAt_rep_unit m.view X inb rfl inb]
  exact wp_load 𝒱 c bd E (m.view.setOn_subset_set _)

/-- A store through a unit-stride rectangle leaves the values held with the payload put over that window. -/
theorem wp_store_owns {m : Memref sig c.2.kind cs s e} {off size : Fin s.rank → ℕ} {inb : ∀ a, off a + size a ≤ s.size a}
    {w : (Rect.unit off size inb).shape.Idx → Val e} {hx : (m.access (Rect.unit off size inb)).Stores Finset.univ}
    {hm : (Finset.univ : Finset (Rect.unit off size inb).shape.Idx) = Finset.univ ∨ ∀ a, (Rect.unit off size inb).stride a = 1}
    {k : PUnit → Prog (TpuEff nD τ sig Val Λ c.2) α} {X : s.Idx → Val e} :
    (owns c m fullShare X : sProp 𝕄)
      ⊢ iprop((owns c m fullShare (VecWindow.put X off size w) -∗ wp frame (wpE defs 𝒱 c bd) E (k ⟨⟩) Q)
        -∗ wp frame (wpE defs 𝒱 c bd) E (Prog.lift (.store m (Rect.unit off size inb) w Finset.univ hx hm) >>= k) Q) := by
  have h1 : (m.view.loc c ↦[m.view.set]{fullShare} m.view.writes Val (m.view.rep X) [⟨Rect.unit off size inb, w⟩] : sProp 𝕄)
      ⊢ m.view.loc c ↦[m.view.set]{fullShare} m.view.rep (VecWindow.put X off size w) :=
    pointsTo_rep_of_read c m _ fullShare _ (View.read_writes_rep_unit m.view X inb w rfl)
  have h2 : (m.access (Rect.unit off size inb)).setOn Finset.univ ⊆ m.view.set :=
    ((m.access _).setOn_subset_set _).trans (m.view.set_slice_subset _)
  have h3 := wp_store (r := Rect.unit off size inb) (w := w) (hx := hx) (hm := hm) (k := k) (Γ := PendingWaitsCtx.empty) (Q := Q) (defs := defs) (f := m.view.rep X) 𝒱 c bd E h2
  rw [owns_eq_rep, owns_eq_rep]
  exact h3.trans (wand_mono_left (wand_mono_left h1))

/-- A window of the shape's own sizes is the whole. -/
theorem window_full {β : Type} (x : s.Idx → β) (off : Fin s.rank → ℕ) (inb : ∀ a, off a + s.size a ≤ s.size a) :
    VecWindow.window x off s.size inb = x := by
  funext y
  exact congrArg x (funext fun a => Fin.ext (by
    show off a + 1 * (y a).val = (y a).val
    have := inb a; omega))

/-- A payload of the shape's own sizes replaces the whole. -/
theorem put_full {β : Type} (x : s.Idx → β) (off : Fin s.rank → ℕ) (inb : ∀ a, off a + s.size a ≤ s.size a) (w : s.Idx → β) :
    VecWindow.put x off s.size w = w := by
  rw [← window_full (VecWindow.put x off s.size w) off inb]
  exact VecWindow.window_put_same x off s.size inb w

/-- A load of the whole. -/
theorem wp_load_all {m : Memref sig c.2.kind cs s e} {off : Fin s.rank → ℕ} {inb : ∀ a, off a + s.size a ≤ s.size a}
    {hl : m.view.LoadsAt (Rect.unit off s.size inb).toLoadRect}
    {k : ((Rect.unit off s.size inb).toLoadRect.shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) E (k X) Q)
        -∗ wp frame (wpE defs 𝒱 c bd) E (Prog.lift (.load m (Rect.unit off s.size inb).toLoadRect hl) >>= k) Q) := by
  have h := wp_load_owns (m := m) (inb := inb) (hl := hl) (k := k) (q := q) (X := X) (defs := defs) (bd := bd) (E := E) (Q := Q)
  rw [window_full] at h
  exact h

/-- A store of the whole. -/
theorem wp_store_all {m : Memref sig c.2.kind cs s e} {off : Fin s.rank → ℕ} {inb : ∀ a, off a + s.size a ≤ s.size a}
    {w : (Rect.unit off s.size inb).shape.Idx → Val e} {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig Val Λ c.2) α} {X : s.Idx → Val e} :
    (owns c m fullShare X : sProp 𝕄)
      ⊢ iprop((owns c m fullShare w -∗ wp frame (wpE defs 𝒱 c bd) E (k ⟨⟩) Q)
        -∗ wp frame (wpE defs 𝒱 c bd) E (Prog.lift (.store m (Rect.unit off s.size inb) w Finset.univ hx hm) >>= k) Q) := by
  have h := wp_store_owns (m := m) (inb := inb) (w := w) (hx := hx) (hm := hm) (k := k) (X := X) (defs := defs) (bd := bd) (E := E) (Q := Q)
  rw [put_full X off inb w] at h
  exact h

end Cert.Rules

end
-- ==== Proof.Ssd.Round.lean ====
/- The body of the scan kernel as a prelude (the decays of this stretch of tokens, the states zeroed at the
   first stretch of a sequence) and thirty-two rounds, one per chunk of 64 tokens and group of 512 lanes. -/
module

public import proofs.«01_k».proof.Proof.Gen.KernelIdeal.Skeleton
public import proofs.«01_k».proof.Proof.Gen.KernelIdeal.Points
public import Idealize.ShloMosaic.Lib.VecWindow

@[expose] public section

set_option maxRecDepth 65536

noncomputable section

namespace Cert.KernelIdeal.Ssd

open Idealize.ShloMosaic Idealize.SL.Sem Cert.KernelIdeal Cert.KernelIdeal.Gen

variable {F : FTy → Type} [FloatOps F] [Named F]

/-! ## The rectangles of one round -/

theorem inb_x (ci : Fin 8) (gi : Fin 4) : ∀ a, (![64 * ci.val, 512 * gi.val] : Fin 2 → Nat) a + S64x512.size a ≤ S512x2048.size a := by
  revert ci gi; decide
theorem inb_b (ci : Fin 8) (gi : Fin 4) : ∀ a, (![64 * ci.val, 128 * gi.val] : Fin 2 → Nat) a + S64x128.size a ≤ S512x512.size a := by
  revert ci gi; decide
theorem inb_last (ci : Fin 8) (gi : Fin 4) : ∀ a, (![64 * ci.val + 63, 512 * gi.val] : Fin 2 → Nat) a + S1x512.size a ≤ S512x2048.size a := by
  revert ci gi; decide
theorem inb_row (gi : Fin 4) : ∀ a, (![0, 0, 512 * gi.val] : Fin 3 → Nat) a + S1x1x512.size a ≤ S1x1x2048.size a := by
  revert gi; decide
theorem packed_o (ci : Fin 8) (gi : Fin 4) :
    (Rect.unit (s := S512x2048) ![64 * ci.val, 512 * gi.val] S64x512.size (inb_x ci gi)).PackedRows (EltTy.packing .bf16) := by
  revert ci gi; decide

/-! ## The values of one round -/

/-- The group's state after the chunk: from the chunk's inputs `x`, `B`, its decays `a`, the decay `al` of its last
    token, its steps `d` and the state `s` before it. -/
def newState (x : Vec F S64x512 .f32) (b : Vec F S64x128 .f32) (a : Vec F S64x512 .f32) (al : Vec F S1x512 .f32) (d : Vec F S64x512 .f32)
    (s : Vec F S1x128x512 .f32) : FVec F S1x128x512 .f32 :=
  k0_pay37 (k0_pay33 s) (k0_pay35 x b a al d) (k0_pay36 al)

/-- The two masks of the token pairs: the later against the earlier, and the diagonal. -/
def maskLe : IVec S64x512 1 := k0_pay26 (iota .tc S64x512 32 [0] iota_S64x512_d0_w32) (iota .tc S64x512 32 [1] iota_S64x512_d1_w32) k0_pay24
def maskEq : IVec S64x512 1 := k0_pay27 (iota .tc S64x512 32 [0] iota_S64x512_d0_w32) (iota .tc S64x512 32 [1] iota_S64x512_d1_w32) k0_pay24

/-- The chunk's gated output of the group before the normalization. -/
def gated (x : Vec F S64x512 .f32) (b c : Vec F S64x128 .f32) (a d : Vec F S64x512 .f32) (s : Vec F S1x128x512 .f32)
    (dd : Vec F S1x1x512 .f32) (z : Vec F S64x512 .f32) : FVec F S64x512 .f32 :=
  k0_pay38 maskLe maskEq (k0_pay28 (F := F)) x (k0_pay29 b) (k0_pay30 c) a (k0_pay32 x d) (k0_pay34 c a s) dd z

/-- The row sums of its squares. -/
def gatedSq (x : Vec F S64x512 .f32) (b c : Vec F S64x128 .f32) (a d : Vec F S64x512 .f32) (s : Vec F S1x128x512 .f32)
    (dd : Vec F S1x1x512 .f32) (z : Vec F S64x512 .f32) : FVec F S64 .f32 :=
  k0_pay39 maskLe maskEq (k0_pay28 (F := F)) x (k0_pay29 b) (k0_pay30 c) a (k0_pay32 x d) (k0_pay34 c a s) dd z

/-- What the round stores of the output. -/
def outBlock (x : Vec F S64x512 .f32) (b c : Vec F S64x128 .f32) (a d : Vec F S64x512 .f32) (s : Vec F S1x128x512 .f32)
    (dd : Vec F S1x1x512 .f32) (z : Vec F S64x512 .f32) (w : Vec F S1x1x512 .f32) : FVec F S64x512 .bf16 :=
  k0_pay40 (gated x b c a d s dd z) (gatedSq x b c a d s dd z) w

/-! ## The programs -/

section
variable (i : grid0.Coords) (arg3 : Memref sig .tc .vmem S512x2048 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .f32) (harg6 : arg6.IsWhole) (arg7 : Memref sig .tc .vmem S512x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x2048 .f32) (harg10 : arg10.IsWhole) (arg11 : Memref sig .tc .vmem S1x1x2048 .f32) (harg11 : arg11.IsWhole) (arg12 : Memref sig .tc .vmem S512x2048 .bf16) (harg12 : arg12.IsWhole) (arg13 : Memref sig .tc .vmem S8x128x512 .f32) (harg13 : arg13.IsWhole) (arg14 : Memref sig .tc .vmem S2048x128 .bf16) (harg14 : arg14.IsWhole) (arg15 : Memref sig .tc .vmem S512x2048 .f32) (harg15 : arg15.IsWhole) (arg16 : Memref sig .tc .vmem S512x2048 .f32) (harg16 : arg16.IsWhole)

/-- One round: chunk `ci` of the stretch, group `gi` of the block of groups. -/
def round (ci : Fin 8) (gi : Fin 4) : Prog (TpuEff nD τ sig (Elt F) Λ₀ .tc) PUnit := do
  let x : Vec F S64x512 .f32 ← Prog.lift (.load arg3 (Rect.unit (s := S512x2048) ![64 * ci.val, 512 * gi.val] S64x512.size (inb_x ci gi)).toLoadRect (View.loadsAt_vmem h_S64x512))
  let b : Vec F S64x128 .f32 ← Prog.lift (.load arg4 (Rect.unit (s := S512x512) ![64 * ci.val, 128 * gi.val] S64x128.size (inb_b ci gi)).toLoadRect (View.loadsAt_vmem h_S64x128))
  let c : Vec F S64x128 .f32 ← Prog.lift (.load arg5 (Rect.unit (s := S512x512) ![64 * ci.val, 128 * gi.val] S64x128.size (inb_b ci gi)).toLoadRect (View.loadsAt_vmem h_S64x128))
  let a : Vec F S64x512 .f32 ← Prog.lift (.load arg16 (Rect.unit (s := S512x2048) ![64 * ci.val, 512 * gi.val] S64x512.size (inb_x ci gi)).toLoadRect (View.loadsAt_vmem h_S64x512))
  let al : Vec F S1x512 .f32 ← Prog.lift (.load arg16 (Rect.unit (s := S512x2048) ![64 * ci.val + 63, 512 * gi.val] S1x512.size (inb_last ci gi)).toLoadRect (View.loadsAt_vmem h_S1x512))
  let d : Vec F S64x512 .f32 ← Prog.lift (.load arg15 (Rect.unit (s := S512x2048) ![64 * ci.val, 512 * gi.val] S64x512.size (inb_x ci gi)).toLoadRect (View.loadsAt_vmem h_S64x512))
  let s : Vec F S1x128x512 .f32 ← Prog.lift (.load arg13 (Rect.unit (s := S8x128x512) (k0_off2 i (BitVec.ofNat 32 gi.val)) S1x128x512.size (k0_off2_inb i gi)).toLoadRect (View.loadsAt_vmem h_S1x128x512))
  let s' : Vec F S1x128x512 .f32 ← Prog.lift (.load arg13 (Rect.unit (s := S8x128x512) (k0_off2 i (BitVec.ofNat 32 gi.val)) S1x128x512.size (k0_off2_inb i gi)).toLoadRect (View.loadsAt_vmem h_S1x128x512))
  Prog.lift (.store arg13 (Rect.unit (s := S8x128x512) (k0_off2 i (BitVec.ofNat 32 gi.val)) S1x128x512.size (k0_off2_inb i gi)) (newState x b a al d s) Finset.univ (View.stores_vmem_bits_univ h_S1x128x512 rfl) (.inl rfl))
  let dd : Vec F S1x1x512 .f32 ← Prog.lift (.load arg10 (Rect.unit (s := S1x1x2048) ![0, 0, 512 * gi.val] S1x1x512.size (inb_row gi)).toLoadRect (View.loadsAt_vmem h_S1x1x512))
  let z : Vec F S64x512 .f32 ← Prog.lift (.load arg6 (Rect.unit (s := S512x2048) ![64 * ci.val, 512 * gi.val] S64x512.size (inb_x ci gi)).toLoadRect (View.loadsAt_vmem h_S64x512))
  let w : Vec F S1x1x512 .f32 ← Prog.lift (.load arg11 (Rect.unit (s := S1x1x2048) ![0, 0, 512 * gi.val] S1x1x512.size (inb_row gi)).toLoadRect (View.loadsAt_vmem h_S1x1x512))
  let o : Vec F S64x512 .bf16 ← Prog.lift (.load arg12 (Rect.unit (s := S512x2048) ![64 * ci.val, 512 * gi.val] S64x512.size (inb_x ci gi)).toLoadRect (View.loadsAt_vmem h_S64x512))
  Prog.lift (.store arg12 (Rect.unit (s := S512x2048) ![64 * ci.val, 512 * gi.val] S64x512.size (inb_x ci gi)) (outBlock x b c a d s dd z w) Finset.univ (View.stores_vmem h_S64x512 (harg12.storeExact_slice rfl _ (packed_o ci gi)) (fun _ => rfl)) (.inl rfl))

/-- A list of rounds, in order. -/
def rounds : List (Fin 8 × Fin 4) → Prog (TpuEff nD τ sig (Elt F) Λ₀ .tc) PUnit
  | [] => pure ⟨⟩
  | p :: L => do
    round i arg3 arg4 arg5 arg6 arg10 arg11 arg12 harg12 arg13 arg15 arg16 p.1 p.2
    rounds L

/-- The part before the rounds is the first piece of the printed body; what it hands on are constants. -/
def handed : Σ' (v0 : BitVec 32) (v33 : IVec S64x512 32) (v34 : IVec S64x512 32), IVec S64x512 32 :=
  ⟨Scalar.muli (BitVec.ofNat 32 (i 2).val) 4#32, iota .tc S64x512 32 [0] iota_S64x512_d0_w32, iota .tc S64x512 32 [1] iota_S64x512_d1_w32, k0_pay24⟩

end

/-- The rounds of one grid point: chunk by chunk, the groups of the block in order. -/
def order : List (Fin 8 × Fin 4) :=
  [(0, 0), (0, 1), (0, 2), (0, 3), (1, 0), (1, 1), (1, 2), (1, 3), (2, 0), (2, 1), (2, 2), (2, 3), (3, 0), (3, 1), (3, 2), (3, 3),
   (4, 0), (4, 1), (4, 2), (4, 3), (5, 0), (5, 1), (5, 2), (5, 3), (6, 0), (6, 1), (6, 2), (6, 3), (7, 0), (7, 1), (7, 2), (7, 3)]

end Cert.KernelIdeal.Ssd

end
-- ==== Proof.Ssd.Body.lean ====
/- The printed body is the prelude followed by the thirty-two rounds. -/
module

public import proofs.«01_k».proof.Proof.Ssd.Round
public import Idealize.ShloMosaic.Lib.Tactic

@[expose] public section

set_option maxRecDepth 65536

noncomputable section

namespace Cert.KernelIdeal.Ssd

open Idealize.ShloMosaic Idealize.SL.Sem Cert.KernelIdeal Cert.KernelIdeal.Gen

variable {F : FTy → Type} [FloatOps F] [Named F]

/-- Two sequels of a program that hands on a constant, taken together. -/
theorem split2.{v} {E : Type → Type v} {α β γ : Type} {p : Prog E α} {q : Prog E PUnit.{1}} {a : α} {f : α → Prog E β} {g : β → Prog E γ}
    {r : Prog E γ} (hp : p = q >>= fun _ => pure a) (h : (f a >>= g) = r) : ((p >>= f) >>= g) = q >>= fun _ => r := by
  subst hp; subst h
  rw [Prog.bind_assoc, Prog.bind_assoc]
  rfl

section
variable (i : grid0.Coords) (arg3 : Memref sig .tc .vmem S512x2048 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .f32) (harg6 : arg6.IsWhole) (arg7 : Memref sig .tc .vmem S512x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x2048 .f32) (harg10 : arg10.IsWhole) (arg11 : Memref sig .tc .vmem S1x1x2048 .f32) (harg11 : arg11.IsWhole) (arg12 : Memref sig .tc .vmem S512x2048 .bf16) (harg12 : arg12.IsWhole) (arg13 : Memref sig .tc .vmem S8x128x512 .f32) (harg13 : arg13.IsWhole) (arg14 : Memref sig .tc .vmem S2048x128 .bf16) (harg14 : arg14.IsWhole) (arg15 : Memref sig .tc .vmem S512x2048 .f32) (harg15 : arg15.IsWhole) (arg16 : Memref sig .tc .vmem S512x2048 .f32) (harg16 : arg16.IsWhole)

/-- Zeroing the four states of the block of groups. -/
def zeroStates (k0_h1 : k0_cond1 i = 1#1) : Prog (TpuEff nD τ sig (Elt F) Λ₀ .tc) PUnit := do
  let _ : Vec F S1x128x512 .f32 ← Prog.lift (.load arg13 (Rect.unit (s := S8x128x512) (k0_off1 i 0#32) S1x128x512.size (k0_off1_inb i k0_h1 0)).toLoadRect (View.loadsAt_vmem h_S1x128x512))
  Prog.lift (.store arg13 (Rect.unit (s := S8x128x512) (k0_off1 i 0#32) S1x128x512.size (k0_off1_inb i k0_h1 0)) (k0_pay10 (F := F)) Finset.univ (View.stores_vmem_bits_univ h_S1x128x512 rfl) (.inl rfl))
  let _ : Vec F S1x128x512 .f32 ← Prog.lift (.load arg13 (Rect.unit (s := S8x128x512) (k0_off1 i 1#32) S1x128x512.size (k0_off1_inb i k0_h1 1)).toLoadRect (View.loadsAt_vmem h_S1x128x512))
  Prog.lift (.store arg13 (Rect.unit (s := S8x128x512) (k0_off1 i 1#32) S1x128x512.size (k0_off1_inb i k0_h1 1)) (k0_pay11 (F := F)) Finset.univ (View.stores_vmem_bits_univ h_S1x128x512 rfl) (.inl rfl))
  let _ : Vec F S1x128x512 .f32 ← Prog.lift (.load arg13 (Rect.unit (s := S8x128x512) (k0_off1 i 2#32) S1x128x512.size (k0_off1_inb i k0_h1 2)).toLoadRect (View.loadsAt_vmem h_S1x128x512))
  Prog.lift (.store arg13 (Rect.unit (s := S8x128x512) (k0_off1 i 2#32) S1x128x512.size (k0_off1_inb i k0_h1 2)) (k0_pay12 (F := F)) Finset.univ (View.stores_vmem_bits_univ h_S1x128x512 rfl) (.inl rfl))
  let _ : Vec F S1x128x512 .f32 ← Prog.lift (.load arg13 (Rect.unit (s := S8x128x512) (k0_off1 i 3#32) S1x128x512.size (k0_off1_inb i k0_h1 3)).toLoadRect (View.loadsAt_vmem h_S1x128x512))
  Prog.lift (.store arg13 (Rect.unit (s := S8x128x512) (k0_off1 i 3#32) S1x128x512.size (k0_off1_inb i k0_h1 3)) (k0_pay13 (F := F)) Finset.univ (View.stores_vmem_bits_univ h_S1x128x512 rfl) (.inl rfl))
  pure ⟨⟩

/-- Filling the table of steps and decays of the stretch. -/
def fillTable : Prog (TpuEff nD τ sig (Elt F) Λ₀ .tc) PUnit := do
  let t : Vec F S512x128 .f32 ← Prog.lift (.load arg7 (Rect.unit (s := S512x128) ![0, 0] S512x128.size inb_S512x128_S512x128_0_0).toLoadRect (View.loadsAt_vmem h_S512x128))
  let bias : Vec F S1x1x128 .f32 ← Prog.lift (.load arg8 (Rect.unit (s := S1x1x128) ![0, 0, 0] S1x1x128.size inb_S1x1x128_S1x1x128_0_0_0).toLoadRect (View.loadsAt_vmem h_S1x1x128))
  let alog : Vec F S1x1x128 .f32 ← Prog.lift (.load arg9 (Rect.unit (s := S1x1x128) ![0, 0, 0] S1x1x128.size inb_S1x1x128_S1x1x128_0_0_0).toLoadRect (View.loadsAt_vmem h_S1x1x128))
  let _ : Vec F S512x128 .bf16 ← Prog.lift (.load arg14 (Rect.unit (s := S2048x128) ![0, 0] S512x128.size inb_S2048x128_S512x128_0_0).toLoadRect (View.loadsAt_vmem h_S512x128))
  Prog.lift (.store arg14 (Rect.unit (s := S2048x128) ![0, 0] S512x128.size inb_S2048x128_S512x128_0_0) (k0_pay17 (k0_pay2 t bias)) Finset.univ (View.stores_vmem h_S512x128 (harg14.storeExact_slice rfl _ packedbf16_S2048x128_S512x128_0_0) (fun _ => rfl)) (.inl rfl))
  let _ : Vec F S512x128 .bf16 ← Prog.lift (.load arg14 (Rect.unit (s := S2048x128) ![512, 0] S512x128.size inb_S2048x128_S512x128_512_0).toLoadRect (View.loadsAt_vmem h_S512x128))
  Prog.lift (.store arg14 (Rect.unit (s := S2048x128) ![512, 0] S512x128.size inb_S2048x128_S512x128_512_0) (k0_pay18 (k0_pay2 t bias)) Finset.univ (View.stores_vmem h_S512x128 (harg14.storeExact_slice rfl _ packedbf16_S2048x128_S512x128_512_0) (fun _ => rfl)) (.inl rfl))
  let _ : Vec F S512x128 .bf16 ← Prog.lift (.load arg14 (Rect.unit (s := S2048x128) ![1024, 0] S512x128.size inb_S2048x128_S512x128_1024_0).toLoadRect (View.loadsAt_vmem h_S512x128))
  Prog.lift (.store arg14 (Rect.unit (s := S2048x128) ![1024, 0] S512x128.size inb_S2048x128_S512x128_1024_0) (k0_pay19 k0_pay4 k0_pay5 (k0_pay6 t bias alog) (k0_pay7 t bias alog) (k0_pay8 t bias alog) (k0_pay9 t bias alog)) Finset.univ (View.stores_vmem h_S512x128 (harg14.storeExact_slice rfl _ packedbf16_S2048x128_S512x128_1024_0) (fun _ => rfl)) (.inl rfl))
  let _ : Vec F S512x128 .bf16 ← Prog.lift (.load arg14 (Rect.unit (s := S2048x128) ![1536, 0] S512x128.size inb_S2048x128_S512x128_1536_0).toLoadRect (View.loadsAt_vmem h_S512x128))
  Prog.lift (.store arg14 (Rect.unit (s := S2048x128) ![1536, 0] S512x128.size inb_S2048x128_S512x128_1536_0) (k0_pay20 k0_pay4 k0_pay5 (k0_pay6 t bias alog) (k0_pay7 t bias alog) (k0_pay8 t bias alog) (k0_pay9 t bias alog)) Finset.univ (View.stores_vmem h_S512x128 (harg14.storeExact_slice rfl _ packedbf16_S2048x128_S512x128_1536_0) (fun _ => rfl)) (.inl rfl))
  pure ⟨⟩

/-- Spreading the table over the lanes of the block of groups. -/
def spread : Prog (TpuEff nD τ sig (Elt F) Λ₀ .tc) PUnit := do
  let v19 : Vec F S2048x128 .bf16 ← Prog.lift (.load arg14 (Rect.unit (s := S2048x128) ![0, 0] S2048x128.size inb_S2048x128_S2048x128_0_0).toLoadRect (View.loadsAt_vmem h_S2048x128))
  let _ : Vec F S512x2048 .f32 ← Prog.lift (.load arg15 (Rect.unit (s := S512x2048) ![0, 0] S512x2048.size inb_S512x2048_S512x2048_0_0).toLoadRect (View.loadsAt_vmem h_S512x2048))
  Prog.lift (.store arg15 (Rect.unit (s := S512x2048) ![0, 0] S512x2048.size inb_S512x2048_S512x2048_0_0) (k0_pay22 i v19) Finset.univ (View.stores_vmem_bits_univ h_S512x2048 rfl) (.inl rfl))
  let _ : Vec F S512x2048 .f32 ← Prog.lift (.load arg16 (Rect.unit (s := S512x2048) ![0, 0] S512x2048.size inb_S512x2048_S512x2048_0_0).toLoadRect (View.loadsAt_vmem h_S512x2048))
  Prog.lift (.store arg16 (Rect.unit (s := S512x2048) ![0, 0] S512x2048.size inb_S512x2048_S512x2048_0_0) (k0_pay23 i v19) Finset.univ (View.stores_vmem_bits_univ h_S512x2048 rfl) (.inl rfl))
  pure ⟨⟩

/-- The block of groups is the first one. -/
abbrev firstBlock : BitVec 1 :=
  Scalar.cmpi .ne (Scalar.extui (Scalar.cmpi .eq (Scalar.muli (BitVec.ofNat 32 (i 2).val) 4#32) 0#32) : BitVec 32) 0#32

/-- The part of the body before the rounds. -/
def prelude : Prog (TpuEff nD τ sig (Elt F) Λ₀ .tc) PUnit :=
  (if h : k0_cond1 i = 1#1 then zeroStates i arg13 h else pure ⟨⟩) >>= fun _ =>
    (if firstBlock i = 1#1 then fillTable arg7 arg8 arg9 arg14 harg14 else pure ⟨⟩) >>= fun _ => spread i arg14 arg15 arg16

theorem part2_eq : k0_part2 (F := F) i arg3 harg3 arg4 harg4 arg5 harg5 arg6 harg6 arg7 harg7 arg8 harg8 arg9 harg9 arg10 harg10 arg11 harg11 arg12 harg12 arg13 harg13 arg14 harg14 arg15 harg15 arg16 harg16 =
    prelude i arg7 arg8 arg9 arg13 arg14 harg14 arg15 arg16 >>= fun _ => pure (handed i) := by
  rw [k0_part2_eq_skeleton]
  unfold k0_part2_skel prelude
  by_cases h1 : k0_cond1 i = 1#1 <;> by_cases h2 : firstBlock i = 1#1 <;>
    · first | rw [dif_pos h1] | rw [dif_neg h1]
      first | rw [if_pos h2] | rw [if_neg h2]
      first | rw [dif_pos h1] | rw [dif_neg h1]
      first | rw [dif_pos h2] | rw [dif_neg h2]
      rfl

theorem body_eq : cc0_ssd_scan_gate_norm (F := F) i arg3 harg3 arg4 harg4 arg5 harg5 arg6 harg6 arg7 harg7 arg8 harg8 arg9 harg9 arg10 harg10 arg11 harg11 arg12 harg12 arg13 harg13 arg14 harg14 arg15 harg15 arg16 harg16 =
    prelude i arg7 arg8 arg9 arg13 arg14 harg14 arg15 arg16 >>= fun _ =>
      rounds i arg3 arg4 arg5 arg6 arg10 arg11 arg12 harg12 arg13 arg15 arg16 order := by
  rw [cc0_ssd_scan_gate_norm_eq_skeleton]
  unfold cc0_ssd_scan_gate_norm_skel
  rw [k0_part69_eq_skeleton]
  unfold k0_part69_skel
  refine split2 (part2_eq (F := F) i arg3 harg3 arg4 harg4 arg5 harg5 arg6 harg6 arg7 harg7 arg8 harg8 arg9 harg9 arg10 harg10 arg11 harg11 arg12 harg12 arg13 harg13 arg14 harg14 arg15 harg15 arg16 harg16) ?_
  sl_kernel_rfl

end
end Cert.KernelIdeal.Ssd

end
-- ==== Proof.Ssd.Triple.lean ====
/- What the body does to the buffers it holds: the rounds by induction, the prelude by its two conditions. -/
module

public import proofs.«01_k».proof.Proof.Rules
public import proofs.«01_k».proof.Proof.Ssd.Body
public import proofs.«01_k».proof.Proof.Gen.KernelIdeal.Launch

@[expose] public section

set_option maxRecDepth 65536

noncomputable section

namespace Cert.KernelIdeal.Ssd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Rules
open Idealize.ShloMosaic.VecWindow (window put)

variable {F : FTy → Type} [FloatOps F] [Named F]

local notation "𝕄" => MT nD τ sig Unit (Elt F) ℕ (UR sig nD τ) ℕ

/-! ## What the rounds leave -/

/-- The blocks one grid point works on: the chunk inputs, the two rows of parameters, the steps `d` and the decays `a`. -/
structure Blocks (F : FTy → Type) where
  x : Vec F S512x2048 .f32
  b : Vec F S512x512 .f32
  c : Vec F S512x512 .f32
  z : Vec F S512x2048 .f32
  dd : Vec F S1x1x2048 .f32
  w : Vec F S1x1x2048 .f32
  d : Vec F S512x2048 .f32
  a : Vec F S512x2048 .f32

section
variable (i : grid0.Coords) (B : Blocks F) (ci : Fin 8) (gi : Fin 4)

/-- Chunk `ci` and group `gi` of a block of 512 tokens. -/
abbrev at_ (v : Vec F S512x2048 .f32) : Vec F S64x512 .f32 := window v ![64 * ci.val, 512 * gi.val] S64x512.size (inb_x ci gi)
abbrev atB (v : Vec F S512x512 .f32) : Vec F S64x128 .f32 := window v ![64 * ci.val, 128 * gi.val] S64x128.size (inb_b ci gi)
abbrev atLast (v : Vec F S512x2048 .f32) : Vec F S1x512 .f32 := window v ![64 * ci.val + 63, 512 * gi.val] S1x512.size (inb_last ci gi)
abbrev atRow (v : Vec F S1x1x2048 .f32) : Vec F S1x1x512 .f32 := window v ![0, 0, 512 * gi.val] S1x1x512.size (inb_row gi)
abbrev atState (s : Vec F S8x128x512 .f32) : Vec F S1x128x512 .f32 :=
  window s (k0_off2 i (BitVec.ofNat 32 gi.val)) S1x128x512.size (k0_off2_inb i gi)

/-- The states after a round. -/
def roundS (s : Vec F S8x128x512 .f32) : Vec F S8x128x512 .f32 :=
  put s (k0_off2 i (BitVec.ofNat 32 gi.val)) S1x128x512.size
    (newState (at_ ci gi B.x) (atB ci gi B.b) (at_ ci gi B.a) (atLast ci gi B.a) (at_ ci gi B.d) (atState i gi s))

/-- The output after a round that starts from the states `s`. -/
def roundO (s : Vec F S8x128x512 .f32) (o : Vec F S512x2048 .bf16) : Vec F S512x2048 .bf16 :=
  put o ![64 * ci.val, 512 * gi.val] S64x512.size
    (outBlock (at_ ci gi B.x) (atB ci gi B.b) (atB ci gi B.c) (at_ ci gi B.a) (at_ ci gi B.d) (atState i gi s) (atRow gi B.dd)
      (at_ ci gi B.z) (atRow gi B.w))
end

/-- The states after a list of rounds. -/
def runS (i : grid0.Coords) (B : Blocks F) : List (Fin 8 × Fin 4) → Vec F S8x128x512 .f32 → Vec F S8x128x512 .f32
  | [], s => s
  | p :: L, s => runS i B L (roundS i B p.1 p.2 s)

/-- The output after a list of rounds. -/
def runO (i : grid0.Coords) (B : Blocks F) : List (Fin 8 × Fin 4) → Vec F S8x128x512 .f32 → Vec F S512x2048 .bf16 → Vec F S512x2048 .bf16
  | [], _, o => o
  | p :: L, s, o => runO i B L (roundS i B p.1 p.2 s) (roundO i B p.1 p.2 s o)

/-- The states zeroed where a sequence starts. -/
def startS (i : grid0.Coords) (s : Vec F S8x128x512 .f32) : Vec F S8x128x512 .f32 :=
  if k0_cond1 i = 1#1 then
    put (put (put (put s (k0_off1 i 0#32) S1x128x512.size (k0_pay10 (F := F))) (k0_off1 i 1#32) S1x128x512.size (k0_pay11 (F := F)))
      (k0_off1 i 2#32) S1x128x512.size (k0_pay12 (F := F))) (k0_off1 i 3#32) S1x128x512.size (k0_pay13 (F := F))
  else s

/-- The table of steps and decays, filled at the first block of groups. -/
def fillT (t : Vec F S512x128 .f32) (bias alog : Vec F S1x1x128 .f32) (u : Vec F S2048x128 .bf16) : Vec F S2048x128 .bf16 :=
  put (put (put (put u ![0, 0] S512x128.size (k0_pay17 (k0_pay2 t bias))) ![512, 0] S512x128.size (k0_pay18 (k0_pay2 t bias)))
    ![1024, 0] S512x128.size (k0_pay19 k0_pay4 k0_pay5 (k0_pay6 t bias alog) (k0_pay7 t bias alog) (k0_pay8 t bias alog) (k0_pay9 t bias alog)))
    ![1536, 0] S512x128.size (k0_pay20 k0_pay4 k0_pay5 (k0_pay6 t bias alog) (k0_pay7 t bias alog) (k0_pay8 t bias alog) (k0_pay9 t bias alog))

def tableT (i : grid0.Coords) (t : Vec F S512x128 .f32) (bias alog : Vec F S1x1x128 .f32) (u : Vec F S2048x128 .bf16) : Vec F S2048x128 .bf16 :=
  if firstBlock i = 1#1 then fillT t bias alog u else u

/-- The blocks of a grid point from the staged blocks and the table found. -/
def blocksAt (i : grid0.Coords) (x : Vec F S512x2048 .f32) (b cc : Vec F S512x512 .f32) (z : Vec F S512x2048 .f32) (t : Vec F S512x128 .f32)
    (bias alog : Vec F S1x1x128 .f32) (dd w : Vec F S1x1x2048 .f32) (u : Vec F S2048x128 .bf16) : Blocks F :=
  ⟨x, b, cc, z, dd, w, k0_pay22 i (tableT i t bias alog u), k0_pay23 i (tableT i t bias alog u)⟩

/-! ## The triples -/

section
variable (c : Dev nD) (i : grid0.Coords) (arg3 : Memref sig .tc .vmem S512x2048 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .f32) (harg6 : arg6.IsWhole) (arg7 : Memref sig .tc .vmem S512x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x2048 .f32) (harg10 : arg10.IsWhole) (arg11 : Memref sig .tc .vmem S1x1x2048 .f32) (harg11 : arg11.IsWhole) (arg12 : Memref sig .tc .vmem S512x2048 .bf16) (harg12 : arg12.IsWhole) (arg13 : Memref sig .tc .vmem S8x128x512 .f32) (harg13 : arg13.IsWhole) (arg14 : Memref sig .tc .vmem S2048x128 .bf16) (harg14 : arg14.IsWhole) (arg15 : Memref sig .tc .vmem S512x2048 .f32) (harg15 : arg15.IsWhole) (arg16 : Memref sig .tc .vmem S512x2048 .f32) (harg16 : arg16.IsWhole)
variable (E : Set ℕ)

theorem round_triple (B : Blocks F) (o : Vec F S512x2048 .bf16) (s : Vec F S8x128x512 .f32) (ci : Fin 8) (gi : Fin 4) (K : PUnit → sProp 𝕄) :
    iprop(owns c.tc arg3 fullShare B.x ∗ owns c.tc arg4 fullShare B.b ∗ owns c.tc arg5 fullShare B.c ∗ owns c.tc arg6 fullShare B.z ∗ owns c.tc arg10 fullShare B.dd ∗ owns c.tc arg11 fullShare B.w ∗ owns c.tc arg12 fullShare o ∗ owns c.tc arg13 fullShare s ∗ owns c.tc arg15 fullShare B.d ∗ owns c.tc arg16 fullShare B.a
        ∗ (iprop(owns c.tc arg3 fullShare B.x ∗ owns c.tc arg4 fullShare B.b ∗ owns c.tc arg5 fullShare B.c ∗ owns c.tc arg6 fullShare B.z ∗ owns c.tc arg10 fullShare B.dd ∗ owns c.tc arg11 fullShare B.w ∗ owns c.tc arg12 fullShare (roundO i B ci gi s o) ∗ owns c.tc arg13 fullShare (roundS i B ci gi s) ∗ owns c.tc arg15 fullShare B.d ∗ owns c.tc arg16 fullShare B.a) -∗ K ⟨⟩))
      ⊢ wp frame (wpE (defs₀ (F := F)) Variants.none c none) E (round i arg3 arg4 arg5 arg6 arg10 arg11 arg12 harg12 arg13 arg15 arg16 ci gi) K := by
  unfold round
  iintro ⟨H3, H4, H5, H6, H10, H11, H12, H13, H15, H16, Hk⟩
  iapply (wp_load_owns (c := (c : Thread nD τ)) (m := arg3)) $$ H3
  iintro H3
  iapply (wp_load_owns (c := (c : Thread nD τ)) (m := arg4)) $$ H4
  iintro H4
  iapply (wp_load_owns (c := (c : Thread nD τ)) (m := arg5)) $$ H5
  iintro H5
  iapply (wp_load_owns (c := (c : Thread nD τ)) (m := arg16)) $$ H16
  iintro H16
  iapply (wp_load_owns (c := (c : Thread nD τ)) (m := arg16)) $$ H16
  iintro H16
  iapply (wp_load_owns (c := (c : Thread nD τ)) (m := arg15)) $$ H15
  iintro H15
  iapply (wp_load_owns (c := (c : Thread nD τ)) (m := arg13)) $$ H13
  iintro H13
  iapply (wp_load_owns (c := (c : Thread nD τ)) (m := arg13)) $$ H13
  iintro H13
  iapply (wp_store_owns (c := (c : Thread nD τ)) (m := arg13)) $$ H13
  iintro H13
  iapply (wp_load_owns (c := (c : Thread nD τ)) (m := arg10)) $$ H10
  iintro H10
  iapply (wp_load_owns (c := (c : Thread nD τ)) (m := arg6)) $$ H6
  iintro H6
  iapply (wp_load_owns (c := (c : Thread nD τ)) (m := arg11)) $$ H11
  iintro H11
  iapply (wp_load_owns (c := (c : Thread nD τ)) (m := arg12)) $$ H12
  iintro H12
  iapply (wp_store_owns (c := (c : Thread nD τ)) (m := arg12)) $$ H12
  iintro H12
  iapply (le_wp_ret _ _ _ _ _)
  iapply Hk
  isplitl [H3]; · iexact H3
  isplitl [H4]; · iexact H4
  isplitl [H5]; · iexact H5
  isplitl [H6]; · iexact H6
  isplitl [H10]; · iexact H10
  isplitl [H11]; · iexact H11
  isplitl [H12]; · iexact H12
  isplitl [H13]; · iexact H13
  isplitl [H15]; · iexact H15
  iexact H16

theorem rounds_triple (B : Blocks F) (K : PUnit → sProp 𝕄) (L : List (Fin 8 × Fin 4)) : ∀ (o : Vec F S512x2048 .bf16) (s : Vec F S8x128x512 .f32),
    iprop(owns c.tc arg3 fullShare B.x ∗ owns c.tc arg4 fullShare B.b ∗ owns c.tc arg5 fullShare B.c ∗ owns c.tc arg6 fullShare B.z ∗ owns c.tc arg10 fullShare B.dd ∗ owns c.tc arg11 fullShare B.w ∗ owns c.tc arg12 fullShare o ∗ owns c.tc arg13 fullShare s ∗ owns c.tc arg15 fullShare B.d ∗ owns c.tc arg16 fullShare B.a
        ∗ (iprop(owns c.tc arg3 fullShare B.x ∗ owns c.tc arg4 fullShare B.b ∗ owns c.tc arg5 fullShare B.c ∗ owns c.tc arg6 fullShare B.z ∗ owns c.tc arg10 fullShare B.dd ∗ owns c.tc arg11 fullShare B.w ∗ owns c.tc arg12 fullShare (runO i B L s o) ∗ owns c.tc arg13 fullShare (runS i B L s) ∗ owns c.tc arg15 fullShare B.d ∗ owns c.tc arg16 fullShare B.a) -∗ K ⟨⟩))
      ⊢ wp frame (wpE (defs₀ (F := F)) Variants.none c none) E (rounds i arg3 arg4 arg5 arg6 arg10 arg11 arg12 harg12 arg13 arg15 arg16 L) K := by
  induction L with
  | nil =>
    intro o s
    unfold rounds
    iintro ⟨H3, H4, H5, H6, H10, H11, H12, H13, H15, H16, Hk⟩
    iapply (le_wp_ret _ _ _ _ _)
    iapply Hk
    isplitl [H3]; · iexact H3
    isplitl [H4]; · iexact H4
    isplitl [H5]; · iexact H5
    isplitl [H6]; · iexact H6
    isplitl [H10]; · iexact H10
    isplitl [H11]; · iexact H11
    isplitl [H12]; · iexact H12
    isplitl [H13]; · iexact H13
    isplitl [H15]; · iexact H15
    iexact H16
  | cons p L ih =>
    intro o s
    unfold rounds
    rw [wp_bind]
    iintro ⟨H3, H4, H5, H6, H10, H11, H12, H13, H15, H16, Hk⟩
    iapply (round_triple c i arg3 arg4 arg5 arg6 arg10 arg11 arg12 harg12 arg13 arg15 arg16 E B o s p.1 p.2)
    isplitl [H3]; · iexact H3
    isplitl [H4]; · iexact H4
    isplitl [H5]; · iexact H5
    isplitl [H6]; · iexact H6
    isplitl [H10]; · iexact H10
    isplitl [H11]; · iexact H11
    isplitl [H12]; · iexact H12
    isplitl [H13]; · iexact H13
    isplitl [H15]; · iexact H15
    isplitl [H16]; · iexact H16
    iintro ⟨H3, H4, H5, H6, H10, H11, H12, H13, H15, H16⟩
    iapply (ih (roundO i B p.1 p.2 s o) (roundS i B p.1 p.2 s))
    isplitl [H3]; · iexact H3
    isplitl [H4]; · iexact H4
    isplitl [H5]; · iexact H5
    isplitl [H6]; · iexact H6
    isplitl [H10]; · iexact H10
    isplitl [H11]; · iexact H11
    isplitl [H12]; · iexact H12
    isplitl [H13]; · iexact H13
    isplitl [H15]; · iexact H15
    isplitl [H16]; · iexact H16
    iexact Hk

/-- Zeroing the states of a block of groups. -/
theorem zero_triple (h : k0_cond1 i = 1#1) (s : Vec F S8x128x512 .f32) (K : PUnit → sProp 𝕄) :
    iprop(owns c.tc arg13 fullShare s ∗ (iprop(owns c.tc arg13 fullShare (startS i s)) -∗ K ⟨⟩))
      ⊢ wp frame (wpE (defs₀ (F := F)) Variants.none c none) E (zeroStates i arg13 h) K := by
  iintro ⟨H13, Hk⟩
  unfold zeroStates startS
  rw [if_pos h]
  iapply (wp_load_owns (c := (c : Thread nD τ)) (m := arg13)) $$ H13
  iintro H13
  iapply (wp_store_owns (c := (c : Thread nD τ)) (m := arg13)) $$ H13
  iintro H13
  iapply (wp_load_owns (c := (c : Thread nD τ)) (m := arg13)) $$ H13
  iintro H13
  iapply (wp_store_owns (c := (c : Thread nD τ)) (m := arg13)) $$ H13
  iintro H13
  iapply (wp_load_owns (c := (c : Thread nD τ)) (m := arg13)) $$ H13
  iintro H13
  iapply (wp_store_owns (c := (c : Thread nD τ)) (m := arg13)) $$ H13
  iintro H13
  iapply (wp_load_owns (c := (c : Thread nD τ)) (m := arg13)) $$ H13
  iintro H13
  iapply (wp_store_owns (c := (c : Thread nD τ)) (m := arg13)) $$ H13
  iintro H13
  iapply (le_wp_ret _ _ _ _ _)
  iapply Hk
  iexact H13

/-- Filling the table. -/
theorem fill_triple (t : Vec F S512x128 .f32) (bias alog : Vec F S1x1x128 .f32) (u : Vec F S2048x128 .bf16) (K : PUnit → sProp 𝕄) :
    iprop(owns c.tc arg7 fullShare t ∗ owns c.tc arg8 fullShare bias ∗ owns c.tc arg9 fullShare alog ∗ owns c.tc arg14 fullShare u ∗ (iprop(owns c.tc arg7 fullShare t ∗ owns c.tc arg8 fullShare bias ∗ owns c.tc arg9 fullShare alog ∗ owns c.tc arg14 fullShare (fillT t bias alog u)) -∗ K ⟨⟩))
      ⊢ wp frame (wpE (defs₀ (F := F)) Variants.none c none) E (fillTable arg7 arg8 arg9 arg14 harg14) K := by
  iintro ⟨H7, H8, H9, H14, Hk⟩
  unfold fillTable fillT
  iapply (wp_load_all (c := (c : Thread nD τ)) (m := arg7)) $$ H7
  iintro H7
  iapply (wp_load_all (c := (c : Thread nD τ)) (m := arg8)) $$ H8
  iintro H8
  iapply (wp_load_all (c := (c : Thread nD τ)) (m := arg9)) $$ H9
  iintro H9
  iapply (wp_load_owns (c := (c : Thread nD τ)) (m := arg14)) $$ H14
  iintro H14
  iapply (wp_store_owns (c := (c : Thread nD τ)) (m := arg14)) $$ H14
  iintro H14
  iapply (wp_load_owns (c := (c : Thread nD τ)) (m := arg14)) $$ H14
  iintro H14
  iapply (wp_store_owns (c := (c : Thread nD τ)) (m := arg14)) $$ H14
  iintro H14
  iapply (wp_load_owns (c := (c : Thread nD τ)) (m := arg14)) $$ H14
  iintro H14
  iapply (wp_store_owns (c := (c : Thread nD τ)) (m := arg14)) $$ H14
  iintro H14
  iapply (wp_load_owns (c := (c : Thread nD τ)) (m := arg14)) $$ H14
  iintro H14
  iapply (wp_store_owns (c := (c : Thread nD τ)) (m := arg14)) $$ H14
  iintro H14
  iapply (le_wp_ret _ _ _ _ _)
  iapply Hk
  isplitl [H7]; · iexact H7
  isplitl [H8]; · iexact H8
  isplitl [H9]; · iexact H9
  iexact H14

/-- Spreading the table over the lanes. -/
theorem spread_triple (u : Vec F S2048x128 .bf16) (d a : Vec F S512x2048 .f32) (K : PUnit → sProp 𝕄) :
    iprop(owns c.tc arg14 fullShare u ∗ owns c.tc arg15 fullShare d ∗ owns c.tc arg16 fullShare a ∗ (iprop(owns c.tc arg14 fullShare u ∗ owns c.tc arg15 fullShare (k0_pay22 i u) ∗ owns c.tc arg16 fullShare (k0_pay23 i u)) -∗ K ⟨⟩))
      ⊢ wp frame (wpE (defs₀ (F := F)) Variants.none c none) E (spread i arg14 arg15 arg16) K := by
  iintro ⟨H14, H15, H16, Hk⟩
  unfold spread
  iapply (wp_load_all (c := (c : Thread nD τ)) (m := arg14)) $$ H14
  iintro H14
  iapply (wp_load_all (c := (c : Thread nD τ)) (m := arg15)) $$ H15
  iintro H15
  iapply (wp_store_all (c := (c : Thread nD τ)) (m := arg15)) $$ H15
  iintro H15
  iapply (wp_load_all (c := (c : Thread nD τ)) (m := arg16)) $$ H16
  iintro H16
  iapply (wp_store_all (c := (c : Thread nD τ)) (m := arg16)) $$ H16
  iintro H16
  iapply (le_wp_ret _ _ _ _ _)
  iapply Hk
  isplitl [H14]; · iexact H14
  isplitl [H15]; · iexact H15
  iexact H16

/-- The prelude. -/
theorem prelude_triple (t : Vec F S512x128 .f32) (bias alog : Vec F S1x1x128 .f32) (u : Vec F S2048x128 .bf16) (d a : Vec F S512x2048 .f32)
    (s : Vec F S8x128x512 .f32) (K : PUnit → sProp 𝕄) :
    iprop(owns c.tc arg7 fullShare t ∗ owns c.tc arg8 fullShare bias ∗ owns c.tc arg9 fullShare alog ∗ owns c.tc arg13 fullShare s ∗ owns c.tc arg14 fullShare u ∗ owns c.tc arg15 fullShare d ∗ owns c.tc arg16 fullShare a ∗ (iprop(owns c.tc arg7 fullShare t ∗ owns c.tc arg8 fullShare bias ∗ owns c.tc arg9 fullShare alog ∗ owns c.tc arg13 fullShare (startS i s) ∗ owns c.tc arg14 fullShare (tableT i t bias alog u) ∗ owns c.tc arg15 fullShare (k0_pay22 i (tableT i t bias alog u)) ∗ owns c.tc arg16 fullShare (k0_pay23 i (tableT i t bias alog u))) -∗ K ⟨⟩))
      ⊢ wp frame (wpE (defs₀ (F := F)) Variants.none c none) E (prelude i arg7 arg8 arg9 arg13 arg14 harg14 arg15 arg16) K := by
  unfold prelude
  rw [wp_bind]
  iintro ⟨H7, H8, H9, H13, H14, H15, H16, Hk⟩
  have h1 : ∀ K' : PUnit → sProp 𝕄, iprop(owns c.tc arg13 fullShare s ∗ (owns c.tc arg13 fullShare (startS i s) -∗ K' ⟨⟩))
      ⊢ wp frame (wpE (defs₀ (F := F)) Variants.none c none) E (if h : k0_cond1 i = 1#1 then zeroStates i arg13 h else pure ⟨⟩) K' := by
    intro K'
    by_cases h : k0_cond1 i = 1#1
    · rw [dif_pos h]; exact zero_triple c i arg13 E h s K'
    · rw [dif_neg h]; unfold startS; rw [if_neg h]
      iintro ⟨H13, Hk⟩
      iapply (le_wp_ret _ _ _ _ _)
      iapply Hk; iexact H13
  have h2 : ∀ K' : PUnit → sProp 𝕄, iprop(owns c.tc arg7 fullShare t ∗ owns c.tc arg8 fullShare bias ∗ owns c.tc arg9 fullShare alog ∗ owns c.tc arg14 fullShare u ∗ (iprop(owns c.tc arg7 fullShare t ∗ owns c.tc arg8 fullShare bias ∗ owns c.tc arg9 fullShare alog ∗ owns c.tc arg14 fullShare (tableT i t bias alog u)) -∗ K' ⟨⟩))
      ⊢ wp frame (wpE (defs₀ (F := F)) Variants.none c none) E (if firstBlock i = 1#1 then fillTable arg7 arg8 arg9 arg14 harg14 else pure ⟨⟩) K' := by
    intro K'
    unfold tableT
    by_cases h : firstBlock i = 1#1
    · rw [if_pos h, if_pos h]; exact fill_triple c arg7 arg8 arg9 arg14 harg14 E t bias alog u K'
    · rw [if_neg h, if_neg h]
      iintro ⟨H7, H8, H9, H14, Hk⟩
      iapply (le_wp_ret _ _ _ _ _)
      iapply Hk
      isplitl [H7]; · iexact H7
      isplitl [H8]; · iexact H8
      isplitl [H9]; · iexact H9
      iexact H14
  iapply (h1 _)
  isplitl [H13]; · iexact H13
  iintro H13
  rw [wp_bind]
  iapply (h2 _)
  isplitl [H7]; · iexact H7
  isplitl [H8]; · iexact H8
  isplitl [H9]; · iexact H9
  isplitl [H14]; · iexact H14
  iintro ⟨H7, H8, H9, H14⟩
  iapply (spread_triple c i arg14 arg15 arg16 E _ d a)
  isplitl [H14]; · iexact H14
  isplitl [H15]; · iexact H15
  isplitl [H16]; · iexact H16
  iintro ⟨H14, H15, H16⟩
  iapply Hk
  isplitl [H7]; · iexact H7
  isplitl [H8]; · iexact H8
  isplitl [H9]; · iexact H9
  isplitl [H13]; · iexact H13
  isplitl [H14]; · iexact H14
  isplitl [H15]; · iexact H15
  iexact H16

/-- The whole body. -/
theorem body_triple (x : Vec F S512x2048 .f32) (b cc : Vec F S512x512 .f32) (z : Vec F S512x2048 .f32) (t : Vec F S512x128 .f32) (bias alog : Vec F S1x1x128 .f32)
    (dd w : Vec F S1x1x2048 .f32) (o : Vec F S512x2048 .bf16) (s : Vec F S8x128x512 .f32) (u : Vec F S2048x128 .bf16) (d a : Vec F S512x2048 .f32)
    (K : PUnit → sProp 𝕄) :
    iprop(owns c.tc arg3 fullShare x ∗ owns c.tc arg4 fullShare b ∗ owns c.tc arg5 fullShare cc ∗ owns c.tc arg6 fullShare z ∗ owns c.tc arg7 fullShare t ∗ owns c.tc arg8 fullShare bias ∗ owns c.tc arg9 fullShare alog ∗ owns c.tc arg10 fullShare dd ∗ owns c.tc arg11 fullShare w ∗ owns c.tc arg12 fullShare o ∗ owns c.tc arg13 fullShare s ∗ owns c.tc arg14 fullShare u ∗ owns c.tc arg15 fullShare d ∗ owns c.tc arg16 fullShare a
        ∗ (iprop(owns c.tc arg3 fullShare x ∗ owns c.tc arg4 fullShare b ∗ owns c.tc arg5 fullShare cc ∗ owns c.tc arg6 fullShare z ∗ owns c.tc arg7 fullShare t ∗ owns c.tc arg8 fullShare bias ∗ owns c.tc arg9 fullShare alog ∗ owns c.tc arg10 fullShare dd ∗ owns c.tc arg11 fullShare w ∗ owns c.tc arg12 fullShare (runO i (blocksAt i x b cc z t bias alog dd w u) order (startS i s) o) ∗ owns c.tc arg13 fullShare (runS i (blocksAt i x b cc z t bias alog dd w u) order (startS i s)) ∗ owns c.tc arg14 fullShare (tableT i t bias alog u) ∗ owns c.tc arg15 fullShare (blocksAt i x b cc z t bias alog dd w u).d ∗ owns c.tc arg16 fullShare (blocksAt i x b cc z t bias alog dd w u).a) -∗ K ⟨⟩))
      ⊢ wp frame (wpE (defs₀ (F := F)) Variants.none c none) E (cc0_ssd_scan_gate_norm i arg3 harg3 arg4 harg4 arg5 harg5 arg6 harg6 arg7 harg7 arg8 harg8 arg9 harg9 arg10 harg10 arg11 harg11 arg12 harg12 arg13 harg13 arg14 harg14 arg15 harg15 arg16 harg16) K := by
  rw [body_eq, wp_bind]
  iintro ⟨H3, H4, H5, H6, H7, H8, H9, H10, H11, H12, H13, H14, H15, H16, Hk⟩
  iapply (prelude_triple c i arg7 arg8 arg9 arg13 arg14 harg14 arg15 arg16 E t bias alog u d a s)
  isplitl [H7]; · iexact H7
  isplitl [H8]; · iexact H8
  isplitl [H9]; · iexact H9
  isplitl [H13]; · iexact H13
  isplitl [H14]; · iexact H14
  isplitl [H15]; · iexact H15
  isplitl [H16]; · iexact H16
  iintro ⟨H7, H8, H9, H13, H14, H15, H16⟩
  iapply (rounds_triple c i arg3 arg4 arg5 arg6 arg10 arg11 arg12 harg12 arg13 arg15 arg16 E (blocksAt i x b cc z t bias alog dd w u) _ order o (startS i s))
  isplitl [H3]; · iexact H3
  isplitl [H4]; · iexact H4
  isplitl [H5]; · iexact H5
  isplitl [H6]; · iexact H6
  isplitl [H10]; · iexact H10
  isplitl [H11]; · iexact H11
  isplitl [H12]; · iexact H12
  isplitl [H13]; · iexact H13
  isplitl [H15]; · iexact H15
  isplitl [H16]; · iexact H16
  iintro ⟨H3, H4, H5, H6, H10, H11, H12, H13, H15, H16⟩
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

end

end Cert.KernelIdeal.Ssd

end
-- ==== Proof.Ssd.Scan.lean ====
/- The contents the body leaves, in closed form: each group's state is a recursion over the chunks of its sequence, each
   output block a function of its chunk's inputs and of the state before the chunk. -/
module

public import proofs.«01_k».proof.Proof.Ssd.Triple
public import Idealize.ShloMosaic.Lib.Pointwise

@[expose] public section

set_option maxRecDepth 65536

noncomputable section

namespace Cert.KernelIdeal.Ssd

open Idealize.ShloMosaic Idealize.SL.Sem
open Cert.KernelIdeal Cert.KernelIdeal.Gen Cert.Rules
open Idealize.ShloMosaic.VecWindow (window put)

variable {F : FTy → Type} [FloatOps F] [Named F]

/-! ## The grid's conditions and offsets at a point -/

theorem cond1_iff : ∀ t : Fin grid0.N, k0_cond1 (grid0.coords t) = 1#1 ↔ t.val % 16 / 2 = 0 := by decide +kernel
theorem firstBlock_iff : ∀ t : Fin grid0.N, firstBlock (grid0.coords t) = 1#1 ↔ t.val % 2 = 0 := by decide +kernel
theorem off2_eq : ∀ (t : Fin grid0.N) (gi : Fin 4), k0_off2 (grid0.coords t) (BitVec.ofNat 32 gi.val) = ![4 * (t.val % 2) + gi.val, 0, 0] := by
  decide +kernel
theorem off1_eq : ∀ (t : Fin grid0.N) (gi : Fin 4), k0_off1 (grid0.coords t) (BitVec.ofNat 32 gi.val) = ![4 * (t.val % 2) + gi.val, 0, 0] := by
  decide +kernel

/-! ## One group's state in the buffer of states -/

theorem inb_g (G : Fin 8) : ∀ a, (![G.val, 0, 0] : Fin 3 → Nat) a + S1x128x512.size a ≤ S8x128x512.size a := by
  revert G; decide

/-- Group `G`'s state. -/
abbrev atG (G : Fin 8) (s : Vec F S8x128x512 .f32) : Vec F S1x128x512 .f32 := window s ![G.val, 0, 0] S1x128x512.size (inb_g G)

/-- The group `gi` of the block of groups that point `t` works on. -/
def grp (t : Fin grid0.N) (gi : Fin 4) : Fin 8 := ⟨4 * (t.val % 2) + gi.val, by have := gi.isLt; omega⟩

theorem window_congr {α : Type} {s : Shape} (x : s.Idx → α) {off off' : Fin s.rank → ℕ} (size : Fin s.rank → ℕ) (h : off = off')
    (inb : ∀ a, off a + size a ≤ s.size a) (inb' : ∀ a, off' a + size a ≤ s.size a) :
    (window x off size inb : ((a : Fin s.rank) → Fin (size a)) → α) = window x off' size inb' := by
  subst h; rfl

theorem atState_eq (t : Fin grid0.N) (gi : Fin 4) (s : Vec F S8x128x512 .f32) : atState (grid0.coords t) gi s = atG (grp t gi) s :=
  window_congr s S1x128x512.size (off2_eq t gi) _ _

theorem atG_put (G G' : Fin 8) (s : Vec F S8x128x512 .f32) (v : Vec F S1x128x512 .f32) :
    atG G (put s ![G'.val, 0, 0] S1x128x512.size v) = if G = G' then v else atG G s := by
  by_cases h : G = G'
  · subst h; rw [if_pos rfl]; exact VecWindow.window_put_same s _ _ _ v
  · rw [if_neg h]
    refine VecWindow.window_put_of_disjoint s _ _ _ _ _ v (0 : Fin 3) ?_
    have h' : G.val ≠ G'.val := fun e => h (Fin.ext e)
    show G.val + 1 ≤ G'.val ∨ G'.val + 1 ≤ G.val
    omega

/-- Zeroing, at a group. -/
theorem atG_startS (t : Fin grid0.N) (G : Fin 8) (s : Vec F S8x128x512 .f32) :
    atG G (startS (grid0.coords t) s) = if t.val % 16 / 2 = 0 ∧ G.val / 4 = t.val % 2 then (k0_pay10 (F := F)) else atG G s := by
  unfold startS
  by_cases h : k0_cond1 (grid0.coords t) = 1#1
  · rw [if_pos h]
    have h0 : t.val % 16 / 2 = 0 := (cond1_iff t).mp h
    have e := off1_eq t
    have e0 : k0_off1 (grid0.coords t) 0#32 = ![(grp t 0).val, 0, 0] := e 0
    have e1 : k0_off1 (grid0.coords t) 1#32 = ![(grp t 1).val, 0, 0] := e 1
    have e2 : k0_off1 (grid0.coords t) 2#32 = ![(grp t 2).val, 0, 0] := e 2
    have e3 : k0_off1 (grid0.coords t) 3#32 = ![(grp t 3).val, 0, 0] := e 3
    rw [e0, e1, e2, e3, atG_put, atG_put, atG_put, atG_put,
      show (k0_pay11 (F := F)) = k0_pay10 from rfl, show (k0_pay12 (F := F)) = k0_pay10 from rfl, show (k0_pay13 (F := F)) = k0_pay10 from rfl]
    have hG := G.isLt
    have key : (G = grp t 3 ∨ G = grp t 2 ∨ G = grp t 1 ∨ G = grp t 0) ↔ G.val / 4 = t.val % 2 := by
      simp only [Fin.ext_iff, grp]
      show _ = _ + 3 ∨ _ = _ + 2 ∨ _ = _ + 1 ∨ _ = _ + 0 ↔ _
      omega
    by_cases g3 : G = grp t 3
    · rw [if_pos g3, if_pos ⟨h0, key.mp (.inl g3)⟩]
    rw [if_neg g3]
    by_cases g2 : G = grp t 2
    · rw [if_pos g2, if_pos ⟨h0, key.mp (.inr (.inl g2))⟩]
    rw [if_neg g2]
    by_cases g1 : G = grp t 1
    · rw [if_pos g1, if_pos ⟨h0, key.mp (.inr (.inr (.inl g1)))⟩]
    rw [if_neg g1]
    by_cases g0 : G = grp t 0
    · rw [if_pos g0, if_pos ⟨h0, key.mp (.inr (.inr (.inr g0)))⟩]
    rw [if_neg g0, if_neg]
    rintro ⟨-, hg⟩
    rcases key.mpr hg with h | h | h | h
    · exact g3 h
    · exact g2 h
    · exact g1 h
    · exact g0 h
  · rw [if_neg h, if_neg (fun hh => h ((cond1_iff t).mpr hh.1))]

/-! ## The rounds of one point -/

/-- The rounds of a list come in order: each group's chunks one after the other, the next one of group `g` being `k g`. -/
def Ordered : (Fin 4 → ℕ) → List (Fin 8 × Fin 4) → Prop
  | _, [] => True
  | k, p :: L => p.1.val = k p.2 ∧ Ordered (Function.update k p.2 (k p.2 + 1)) L

/-- How many rounds of a list are of group `g`. -/
def cnt (g : Fin 4) : List (Fin 8 × Fin 4) → ℕ
  | [] => 0
  | p :: L => (if p.2 = g then 1 else 0) + cnt g L

instance decOrdered : ∀ (L : List (Fin 8 × Fin 4)) (k : Fin 4 → ℕ), Decidable (Ordered k L)
  | [], _ => .isTrue trivial
  | p :: L, k => @instDecidableAnd _ _ (inferInstanceAs (Decidable (p.1.val = k p.2))) (decOrdered L _)

theorem order_ordered : Ordered (fun _ => 0) order := by decide +kernel
theorem order_cnt : ∀ g, cnt g order = 8 := by decide
theorem order_nodup : order.Nodup := by decide
theorem order_mem : ∀ (ci : Fin 8) (gi : Fin 4), (ci, gi) ∈ order := by decide

/-- The state of a group after a chunk. -/
abbrev nextState (B : Blocks F) (ci : Fin 8) (gi : Fin 4) (v : Vec F S1x128x512 .f32) : Vec F S1x128x512 .f32 :=
  newState (at_ ci gi B.x) (atB ci gi B.b) (at_ ci gi B.a) (atLast ci gi B.a) (at_ ci gi B.d) v

/-- The output block of a chunk and a group. -/
abbrev blockOut (B : Blocks F) (ci : Fin 8) (gi : Fin 4) (v : Vec F S1x128x512 .f32) : FVec F S64x512 .bf16 :=
  outBlock (at_ ci gi B.x) (atB ci gi B.b) (atB ci gi B.c) (at_ ci gi B.a) (at_ ci gi B.d) v (atRow gi B.dd) (at_ ci gi B.z) (atRow gi B.w)

section
variable (t : Fin grid0.N) (B : Blocks F)

theorem atG_roundS (p : Fin 8 × Fin 4) (s : Vec F S8x128x512 .f32) (G : Fin 8) :
    atG G (roundS (grid0.coords t) B p.1 p.2 s)
      = if G = grp t p.2 then nextState B p.1 p.2 (atG (grp t p.2) s) else atG G s := by
  unfold roundS
  rw [off2_eq t p.2, atState_eq]
  exact atG_put G (grp t p.2) s _

/-- The groups of the other block are left alone. -/
theorem atG_runS_other (G : Fin 8) (hG : G.val / 4 ≠ t.val % 2) (L : List (Fin 8 × Fin 4)) :
    ∀ s : Vec F S8x128x512 .f32, atG G (runS (grid0.coords t) B L s) = atG G s := by
  induction L with
  | nil => intro s; rfl
  | cons p L ih =>
    intro s
    unfold runS
    rw [ih, atG_roundS, if_neg]
    intro h
    refine hG ?_
    rw [h]
    have := p.2.isLt
    show (4 * (t.val % 2) + p.2.val) / 4 = _
    omega

theorem grp_inj {g g' : Fin 4} : grp t g = grp t g' ↔ g = g' := by
  refine ⟨fun h => Fin.ext ?_, fun h => by rw [h]⟩
  have := congrArg Fin.val h
  simp only [grp] at this
  omega

variable (H : Fin 4 → ℕ → Vec F S1x128x512 .f32)
  (hH : ∀ (ci : Fin 8) (gi : Fin 4), H gi (ci.val + 1) = nextState B ci gi (H gi ci.val))

include hH in
/-- The states of the block's groups follow their recursion. -/
theorem atG_runS (L : List (Fin 8 × Fin 4)) : ∀ (k : Fin 4 → ℕ) (s : Vec F S8x128x512 .f32), Ordered k L →
    (∀ g, atG (grp t g) s = H g (k g)) → ∀ g, atG (grp t g) (runS (grid0.coords t) B L s) = H g (k g + cnt g L) := by
  induction L with
  | nil => intro k s _ hs g; exact hs g
  | cons p L ih =>
    intro k s ho hs g
    unfold runS
    rw [ih (Function.update k p.2 (k p.2 + 1)) _ ho.2]
    · congr 1
      by_cases hg : p.2 = g
      · subst hg; simp only [Function.update_self, cnt, if_true]; omega
      · rw [Function.update_of_ne (Ne.symm hg)]; simp only [cnt, if_neg hg]; omega
    · intro g'
      rw [atG_roundS]
      by_cases hg : g' = p.2
      · subst hg
        rw [if_pos rfl, hs, Function.update_self, ← ho.1, hH]
      · rw [if_neg (fun h => hg ((grp_inj t).mp h)), Function.update_of_ne hg]
        exact hs g'

/-- The chunk and the group that an index of the block of 512 tokens lies in, and where in them. -/
def ciOf (y : S512x2048.Idx) : Fin 8 := ⟨(y 0).val / 64, by have : (y 0).val < 512 := (y 0).isLt; omega⟩
def giOf (y : S512x2048.Idx) : Fin 4 := ⟨(y 1).val / 512, by have : (y 1).val < 2048 := (y 1).isLt; omega⟩
def locOf (y : S512x2048.Idx) : S64x512.Idx := ix2 ⟨(y 0).val % 64, Nat.mod_lt _ (by decide)⟩ ⟨(y 1).val % 512, Nat.mod_lt _ (by decide)⟩

theorem put_block (o : Vec F S512x2048 .bf16) (ci : Fin 8) (gi : Fin 4) (v : FVec F S64x512 .bf16) (y : S512x2048.Idx) :
    put o ![64 * ci.val, 512 * gi.val] S64x512.size v y = if (ciOf y, giOf y) = (ci, gi) then v (locOf y) else o y := by
  unfold put
  have hc := ci.isLt
  have hg := gi.isLt
  by_cases h : (ciOf y, giOf y) = (ci, gi)
  · rw [if_pos h]
    have h1 : (y 0).val / 64 = ci.val := congrArg (fun p => p.1.val) h
    have h2 : (y 1).val / 512 = gi.val := congrArg (fun p => p.2.val) h
    rw [dif_pos]
    · refine congrArg v (funext fun a => Fin.ext ?_)
      match a with
      | ⟨0, _⟩ => show (y 0).val - 64 * ci.val = (y 0).val % 64; omega
      | ⟨1, _⟩ => show (y 1).val - 512 * gi.val = (y 1).val % 512; omega
    · intro a
      match a with
      | ⟨0, _⟩ => show 64 * ci.val ≤ (y 0).val ∧ (y 0).val < 64 * ci.val + 64; omega
      | ⟨1, _⟩ => show 512 * gi.val ≤ (y 1).val ∧ (y 1).val < 512 * gi.val + 512; omega
  · rw [if_neg h, dif_neg]
    intro hy
    have h0 : 64 * ci.val ≤ (y 0).val ∧ (y 0).val < 64 * ci.val + 64 := hy 0
    have h1 : 512 * gi.val ≤ (y 1).val ∧ (y 1).val < 512 * gi.val + 512 := hy 1
    refine h (Prod.ext (Fin.ext ?_) (Fin.ext ?_))
    · show (y 0).val / 64 = ci.val; omega
    · show (y 1).val / 512 = gi.val; omega

include hH in
/-- The output of a list of rounds: the rounds' blocks, the rest as found. -/
theorem runO_apply (L : List (Fin 8 × Fin 4)) : ∀ (k : Fin 4 → ℕ) (s : Vec F S8x128x512 .f32) (o : Vec F S512x2048 .bf16), Ordered k L → L.Nodup →
    (∀ g, atG (grp t g) s = H g (k g)) → ∀ y, runO (grid0.coords t) B L s o y
      = if (ciOf y, giOf y) ∈ L then blockOut B (ciOf y) (giOf y) (H (giOf y) (ciOf y).val) (locOf y) else o y := by
  induction L with
  | nil => intro k s o _ _ _ y; rw [if_neg (List.not_mem_nil)]; rfl
  | cons p L ih =>
    intro k s o ho hn hs y
    have hn' := List.nodup_cons.mp hn
    unfold runO
    rw [ih (Function.update k p.2 (k p.2 + 1)) _ _ ho.2 hn'.2]
    · by_cases hy : (ciOf y, giOf y) ∈ L
      · rw [if_pos hy, if_pos (List.mem_cons_of_mem _ hy)]
      · rw [if_neg hy]
        unfold roundO
        rw [put_block]
        by_cases hp : (ciOf y, giOf y) = (p.1, p.2)
        · rw [if_pos hp, if_pos (by rw [hp]; exact List.mem_cons_self)]
          have h1 : ciOf y = p.1 := congrArg Prod.fst hp
          have h2 : giOf y = p.2 := congrArg Prod.snd hp
          rw [h1, h2, atState_eq, hs, ho.1]
        · rw [if_neg hp, if_neg]
          intro h
          rcases List.mem_cons.mp h with h | h
          · exact hp h
          · exact hy h
    · intro g'
      rw [atG_roundS]
      by_cases hg : g' = p.2
      · subst hg
        rw [if_pos rfl, hs, Function.update_self, ← ho.1, hH]
      · rw [if_neg (fun h => hg ((grp_inj t).mp h)), Function.update_of_ne hg]
        exact hs g'
end

/-! ## The whole grid -/

section
variable (Bt : Fin grid0.N → Blocks F)

/-- The point of sequence `b`, stretch `lt` and block of groups `h`. -/
def pnt (b lt h : ℕ) : Fin grid0.N := ⟨(16 * b + 2 * lt + h) % 32, by rw [N_0]; exact Nat.mod_lt _ (by decide)⟩

/-- Group `gi` of the block of groups `h`, in sequence `b`: its state before chunk `k`. -/
def gst (b h : ℕ) (gi : Fin 4) : ℕ → Vec F S1x128x512 .f32
  | 0 => k0_pay10
  | k + 1 => nextState (Bt (pnt b (k / 8) h)) ⟨k % 8, Nat.mod_lt _ (by decide)⟩ gi (gst b h gi k)

/-- How many stretches of the sequence the groups of block `h` have behind them before point `n`. -/
def done (n h : ℕ) : ℕ := n % 16 / 2 + if h < n % 2 then 1 else 0

theorem done_same (n : ℕ) (h : 0 < done (n + 1) (n % 2)) : (n + 1) / 16 = n / 16 ∧ 8 * done (n + 1) (n % 2) = 8 * (n % 16 / 2) + (0 + 8) := by
  unfold done at h ⊢
  by_cases c : n % 2 < (n + 1) % 2
  · rw [if_pos c] at h ⊢; omega
  · rw [if_neg c] at h ⊢; omega

theorem done_other (n h : ℕ) (hh : h < 2) (hn : h ≠ n % 2) (hd : 0 < done (n + 1) h) : (n + 1) / 16 = n / 16 ∧ done (n + 1) h = done n h := by
  unfold done at hd ⊢
  by_cases c : h < (n + 1) % 2
  · rw [if_pos c] at hd ⊢; omega
  · rw [if_neg c] at hd ⊢
    by_cases c' : h < n % 2
    · rw [if_pos c']; omega
    · rw [if_neg c']; omega

/-- What is known of the states before point `n`. -/
def InvS (n : ℕ) (s : Vec F S8x128x512 .f32) : Prop :=
  ∀ G : Fin 8, 0 < done n (G.val / 4) → atG G s = gst Bt (n / 16) (G.val / 4) ⟨G.val % 4, Nat.mod_lt _ (by decide)⟩ (8 * done n (G.val / 4))

/-- The output block of a point. -/
def outAt (t : Fin grid0.N) : Vec F S512x2048 .bf16 := fun y =>
  blockOut (Bt t) (ciOf y) (giOf y) (gst Bt (t.val / 16) (t.val % 2) (giOf y) (8 * (t.val % 16 / 2) + (ciOf y).val)) (locOf y)

theorem pnt_eq (t : Fin grid0.N) : pnt (t.val / 16) (t.val % 16 / 2) (t.val % 2) = t := by
  have : t.val < 32 := lt_of_lt_of_eq t.isLt N_0
  refine Fin.ext ?_
  show (16 * (t.val / 16) + 2 * (t.val % 16 / 2) + t.val % 2) % 32 = t.val
  omega

theorem gst_step (t : Fin grid0.N) (ci : Fin 8) (gi : Fin 4) :
    gst Bt (t.val / 16) (t.val % 2) gi (8 * (t.val % 16 / 2) + (ci.val + 1))
      = nextState (Bt t) ci gi (gst Bt (t.val / 16) (t.val % 2) gi (8 * (t.val % 16 / 2) + ci.val)) := by
  have hc := ci.isLt
  have e1 : (8 * (t.val % 16 / 2) + ci.val) / 8 = t.val % 16 / 2 := by omega
  have e2 : (⟨(8 * (t.val % 16 / 2) + ci.val) % 8, Nat.mod_lt _ (by decide)⟩ : Fin 8) = ci := Fin.ext (by show _ % 8 = _; omega)
  show nextState (Bt (pnt (t.val / 16) ((8 * (t.val % 16 / 2) + ci.val) / 8) (t.val % 2))) ⟨(8 * (t.val % 16 / 2) + ci.val) % 8, _⟩ gi _ = _
  rw [e1, pnt_eq, e2]
  rfl

theorem start_inv (t : Fin grid0.N) (s : Vec F S8x128x512 .f32) (hs : InvS Bt t.val s) (g : Fin 4) :
    atG (grp t g) (startS (grid0.coords t) s) = gst Bt (t.val / 16) (t.val % 2) g (8 * (t.val % 16 / 2) + 0) := by
  have hg := g.isLt
  have hq : (grp t g).val / 4 = t.val % 2 := by show (4 * (t.val % 2) + g.val) / 4 = _; omega
  have hr : (⟨(grp t g).val % 4, Nat.mod_lt _ (by decide)⟩ : Fin 4) = g := Fin.ext (by show (4 * (t.val % 2) + g.val) % 4 = _; omega)
  rw [atG_startS, hq]
  by_cases h : t.val % 16 / 2 = 0
  · rw [if_pos ⟨h, rfl⟩, h]; rfl
  · rw [if_neg (fun hh => h hh.1)]
    have := hs (grp t g)
    rw [hq, hr] at this
    have hd : done t.val (t.val % 2) = t.val % 16 / 2 := by unfold done; rw [if_neg (Nat.lt_irrefl _)]; rfl
    rw [hd] at this
    exact this (by omega)

/-- The states before the next point. -/
theorem inv_step (t : Fin grid0.N) (s : Vec F S8x128x512 .f32) (hs : InvS Bt t.val s) :
    InvS Bt (t.val + 1) (runS (grid0.coords t) (Bt t) order (startS (grid0.coords t) s)) := by
  intro G hd
  have hG := G.isLt
  have hlt : t.val < 32 := lt_of_lt_of_eq t.isLt N_0
  by_cases hq : G.val / 4 = t.val % 2
  · have hg : G = grp t ⟨G.val % 4, Nat.mod_lt _ (by decide)⟩ := Fin.ext (by show G.val = 4 * (t.val % 2) + G.val % 4; omega)
    have h8 := atG_runS t (Bt t) (fun g k => gst Bt (t.val / 16) (t.val % 2) g (8 * (t.val % 16 / 2) + k)) (fun ci gi => gst_step Bt t ci gi)
      order (fun _ => 0) _ order_ordered (start_inv Bt t s hs) ⟨G.val % 4, Nat.mod_lt _ (by decide)⟩
    rw [← hg, order_cnt] at h8
    have hd' : 0 < done (t.val + 1) (t.val % 2) := by rw [← hq]; exact hd
    rw [h8, hq, (done_same t.val hd').1, (done_same t.val hd').2]
  · rw [atG_runS_other t (Bt t) G hq, atG_startS, if_neg (fun hh => hq hh.2)]
    have hd0 := done_other t.val (G.val / 4) (by omega) hq hd
    rw [hd0.2] at hd ⊢
    rw [hd0.1]
    exact hs G hd

/-- The output of a point. -/
theorem out_step (t : Fin grid0.N) (s : Vec F S8x128x512 .f32) (hs : InvS Bt t.val s) (o : Vec F S512x2048 .bf16) :
    runO (grid0.coords t) (Bt t) order (startS (grid0.coords t) s) o = outAt Bt t := by
  funext y
  rw [runO_apply t (Bt t) (fun g k => gst Bt (t.val / 16) (t.val % 2) g (8 * (t.val % 16 / 2) + k)) (fun ci gi => gst_step Bt t ci gi)
    order (fun _ => 0) _ o order_ordered order_nodup (start_inv Bt t s hs) y, if_pos (order_mem _ _)]
  rfl
end

/-! ## The table -/

/-- The table does not depend on what was there. -/
theorem fillT_congr (t : Vec F S512x128 .f32) (bias alog : Vec F S1x1x128 .f32) (u u' : Vec F S2048x128 .bf16) :
    fillT t bias alog u = fillT t bias alog u' := by
  funext y
  have h0 : (y 0).val < 2048 := (y 0).isLt
  have h1 : (y 1).val < 128 := (y 1).isLt
  have hb : ∀ (n : ℕ), (∀ a, (![n, 0] : Fin 2 → ℕ) a ≤ (y a).val ∧ (y a).val < (![n, 0] : Fin 2 → ℕ) a + S512x128.size a) ↔ n ≤ (y 0).val ∧ (y 0).val < n + 512 := by
    intro n
    constructor
    · intro h; exact h 0
    · intro h a
      match a with
      | ⟨0, _⟩ => exact h
      | ⟨1, _⟩ => exact ⟨Nat.zero_le _, by show (y 1).val < 0 + 128; omega⟩
  unfold fillT put
  split
  · rfl
  · split
    · rfl
    · split
      · rfl
      · split
        · rfl
        · rename_i a b c d
          rw [hb] at a b c d
          omega

end Cert.KernelIdeal.Ssd

end
-- ==== Proof.Ssd.Frame.lean ====
/- The scan kernel's run: what each grid point is given and leaves, the launch, and the frame. -/
module

public import proofs.«01_k».proof.Proof.Ssd.Scan
public import proofs.«01_k».proof.Proof.Gen.KernelIdeal.Frame
public import Idealize.ShloMosaic.Lib.Claim

@[expose] public section

set_option maxRecDepth 16384

noncomputable section

namespace Cert.KernelIdeal.Ssd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Rules

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The table and the blocks of a point -/

/-- The point of the same stretch that works on the first block of groups. -/
def evenPt (t : Fin cfg0.N) : Fin cfg0.N := ⟨t.val / 2 * 2, lt_of_le_of_lt (Nat.div_mul_le_self _ _) t.isLt⟩

/-- The table of the stretch. -/
def tbl (c : Dev nD) (t : Fin cfg0.N) : Vec F S2048x128 .bf16 :=
  fillT (iblk m c 4 (evenPt t)) (iblk m c 5 (evenPt t)) (iblk m c 6 (evenPt t)) (m (c.tc.loc cc0_scratch1))

/-- The blocks of a point. -/
def blks (c : Dev nD) (t : Fin grid0.N) : Blocks F :=
  ⟨iblk m c 0 t, iblk m c 1 t, iblk m c 2 t, iblk m c 3 t, iblk m c 7 t, iblk m c 8 t,
    k0_pay22 (grid0.coords t) (tbl m c t), k0_pay23 (grid0.coords t) (tbl m c t)⟩

/-- What is known of the table before point `n`. -/
def InvT (c : Dev nD) (n : ℕ) (u : Vec F S2048x128 .bf16) : Prop := ∀ t : Fin cfg0.N, t.val = n → n % 2 = 1 → u = tbl m c t

theorem table_step (c : Dev nD) (t : Fin cfg0.N) (u : Vec F S2048x128 .bf16) (hu : InvT m c t.val u) :
    tableT (grid0.coords t) (iblk m c 4 t) (iblk m c 5 t) (iblk m c 6 t) u = tbl m c t := by
  unfold tableT
  by_cases h : firstBlock (grid0.coords t) = 1#1
  · rw [if_pos h]
    have h0 := (firstBlock_iff t).mp h
    have e : evenPt t = t := Fin.ext (by show t.val / 2 * 2 = t.val; omega)
    unfold tbl
    rw [e]
    exact fillT_congr _ _ _ _ _
  · rw [if_neg h]
    have h0 : ¬ t.val % 2 = 0 := fun hh => h ((firstBlock_iff t).mpr hh)
    exact hu t rfl (by omega)

theorem invT_step (c : Dev nD) (t : Fin cfg0.N) : InvT m c (t.val + 1) (tbl m c t) := by
  intro t' ht' ho
  unfold tbl
  have e : evenPt t' = evenPt t := Fin.ext (by show t'.val / 2 * 2 = t.val / 2 * 2; omega)
  rw [e]

/-! ## The invariant and the proof data -/

/-- The scratch operands. -/
abbrev sc13 : Memref sig .tc .vmem S8x128x512 .f32 := Memref.whole cc0_scratch0
abbrev sc14 : Memref sig .tc .vmem S2048x128 .bf16 := Memref.whole cc0_scratch1
abbrev sc15 : Memref sig .tc .vmem S512x2048 .f32 := Memref.whole cc0_scratch2
abbrev sc16 : Memref sig .tc .vmem S512x2048 .f32 := Memref.whole cc0_scratch3

/-- Before point `n`: states and a table of which the above is known, the spread tables at anything. -/
def Phi (c : Dev nD) (n : ℕ) : sProp 𝕄 :=
  iprop(((∃ s, ⌜InvS (blks m c) n s⌝ ∗ owns c.tc sc13 fullShare s) ∗ (∃ u, ⌜InvT m c n u⌝ ∗ owns c.tc sc14 fullShare u)
    ∗ (∃ d, owns c.tc sc15 fullShare d) ∗ (∃ a, owns c.tc sc16 fullShare a)) ∗ (∃ r, prngReg c r))

theorem PhiA_eq (c : Dev nD) : (Pipeline.ΦA spec0 c : sProp 𝕄)
    = iprop(((∃ s, owns c.tc sc13 fullShare s) ∗ (∃ u, owns c.tc sc14 fullShare u)
      ∗ (∃ d, owns c.tc sc15 fullShare d) ∗ (∃ a, owns c.tc sc16 fullShare a)) ∗ (∃ r, prngReg c r)) := by
  unfold Pipeline.ΦA; rw [scopedRest0_eq]; simp only [sc13, sc14, sc15, sc16, owns_whole]; try rfl

/-- The proof data: the arrays as the region finds them, each input's buffer at its block, the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt (blks m c) t
  Φ t := Phi m c t.val
  q := Pipeline.shareOf spec0
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outAt (blks m c) t := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns c.tc (win0_0.stage (cfg0.slots t 0)) fullShare ((dats m 0 c).before 0 t d))
    ∗ (∃ d, owns c.tc (win0_1.stage (cfg0.slots t 1)) fullShare ((dats m 0 c).before 1 t d))
    ∗ (∃ d, owns c.tc (win0_2.stage (cfg0.slots t 2)) fullShare ((dats m 0 c).before 2 t d))
    ∗ (∃ d, owns c.tc (win0_3.stage (cfg0.slots t 3)) fullShare ((dats m 0 c).before 3 t d))
    ∗ (∃ d, owns c.tc (win0_4.stage (cfg0.slots t 4)) fullShare ((dats m 0 c).before 4 t d))
    ∗ (∃ d, owns c.tc (win0_5.stage (cfg0.slots t 5)) fullShare ((dats m 0 c).before 5 t d))
    ∗ (∃ d, owns c.tc (win0_6.stage (cfg0.slots t 6)) fullShare ((dats m 0 c).before 6 t d))
    ∗ (∃ d, owns c.tc (win0_7.stage (cfg0.slots t 7)) fullShare ((dats m 0 c).before 7 t d))
    ∗ (∃ d, owns c.tc (win0_8.stage (cfg0.slots t 8)) fullShare ((dats m 0 c).before 8 t d))
    ∗ (∃ d, owns c.tc (win0_9.stage (cfg0.slots t 9)) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns c.tc (win0_0.stage (cfg0.slots t 0)) fullShare ((dats m 0 c).after 0 t)
    ∗ owns c.tc (win0_1.stage (cfg0.slots t 1)) fullShare ((dats m 0 c).after 1 t)
    ∗ owns c.tc (win0_2.stage (cfg0.slots t 2)) fullShare ((dats m 0 c).after 2 t)
    ∗ owns c.tc (win0_3.stage (cfg0.slots t 3)) fullShare ((dats m 0 c).after 3 t)
    ∗ owns c.tc (win0_4.stage (cfg0.slots t 4)) fullShare ((dats m 0 c).after 4 t)
    ∗ owns c.tc (win0_5.stage (cfg0.slots t 5)) fullShare ((dats m 0 c).after 5 t)
    ∗ owns c.tc (win0_6.stage (cfg0.slots t 6)) fullShare ((dats m 0 c).after 6 t)
    ∗ owns c.tc (win0_7.stage (cfg0.slots t 7)) fullShare ((dats m 0 c).after 7 t)
    ∗ owns c.tc (win0_8.stage (cfg0.slots t 8)) fullShare ((dats m 0 c).after 8 t)
    ∗ owns c.tc (win0_9.stage (cfg0.slots t 9)) fullShare ((dats m 0 c).after 9 t))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = Phi m c (t.val + 1) from rfl, show (dats m 0 c).Φ t.castSucc = Phi m c t.val from rfl]
  unfold Phi
  iintro ⟨⟨⟨⟨%s, %hs, HS⟩, ⟨%u, %hu, HU⟩, ⟨%d, HD⟩, ⟨%a, HA⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hT := table_step m c t u hu
  have hB : blocksAt (grid0.coords t) (iblk m c 0 t) (iblk m c 1 t) (iblk m c 2 t) (iblk m c 3 t) (iblk m c 4 t) (iblk m c 5 t) (iblk m c 6 t)
      (iblk m c 7 t) (iblk m c 8 t) u = blks m c t := by
    unfold blocksAt blks; rw [hT]
  have key := body_triple c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9))
    sc13 (Memref.isWhole_whole _) sc14 (Memref.isWhole_whole _) sc15 (Memref.isWhole_whole _) sc16 (Memref.isWhole_whole _) Set.univ
    (iblk m c 0 t) (iblk m c 1 t) (iblk m c 2 t) (iblk m c 3 t) (iblk m c 4 t) (iblk m c 5 t) (iblk m c 6 t) (iblk m c 7 t) (iblk m c 8 t)
    ((dats m 0 c).before 9 t d9) s u d a
  rw [hB, hT, out_step (blks m c) t s hs] at key
  iapply (key _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS]; · iexact HS
  isplitl [HU]; · iexact HU
  isplitl [HD]; · iexact HD
  isplitl [HA]; · iexact HA
  iintro ⟨H0, H1, H2, H3, H4, H5, H6, H7, H8, H9, HS, HU, HD, HA⟩
  isplitl [HS HU HD HA Hg]
  · isplitl [HS HU HD HA]
    · isplitl [HS]
      · iexists _; isplitr
        swap; · iexact HS
        ipureintro; exact inv_step (blks m c) t s hs
      isplitl [HU]
      · iexists _; isplitr
        swap; · iexact HU
        ipureintro; exact invT_step m c t
      isplitl [HD]; · iexists _; iexact HD
      iexists _; iexact HA
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, PhiA_eq]
  unfold Phi
  iintro ⟨⟨⟨%s, HS⟩, ⟨%u, HU⟩, HD, HA⟩, Hg⟩
  isplitl [HS HU HD HA]
  · isplitl [HS]
    · iexists s; isplitr
      · ipureintro; intro G h; exact absurd h (by unfold done; simp)
      iexact HS
    isplitl [HU]
    · iexists u; isplitr
      · ipureintro; intro t _ h; exact absurd h (by decide)
      iexact HU
    isplitl [HD]; · iexact HD
    iexact HA
  iexact Hg

theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi
  iintro ⟨⟨⟨%s, -, HS⟩, ⟨%u, -, HU⟩, HD, HA⟩, Hg⟩
  isplitl [HS HU HD HA]
  · isplitl [HS]; · iexists s; iexact HS
    isplitl [HU]; · iexists u; iexact HU
    isplitl [HD]; · iexact HD
    iexact HA
  iexact Hg

/-! ## The run and the frame -/

set_option backward.isDefEq.respectTransparency.types false in
/-- Every weakly fair execution ends, with the arrays at what the proof data names and the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and the counters at zero. -/
theorem frame_run : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6))
      ∧ r.2.sem = fun _ => 0) :=
  θ_run_and (frame_of m ρ (dats m) (A_eq m) (run_main m ρ)) ((θ_run defs _ _).mono (fun _ h => h.2) (run_main_quiescent m ρ))

end Cert.KernelIdeal.Ssd

end
-- ==== Proof.Ssd.Bits.lean ====
/- The frame of the kernel at bit patterns, from the one proof over any reading of the floats. -/
module

public import proofs.«01_k».proof.Proof.Ssd.Frame
public import proofs.«01_k».proof.Defs
public import proofs.«01_k».proof.Proof.Gen.Kernel

@[expose] public section

set_option maxRecDepth 16384

noncomputable section

namespace Cert.Proof.Ssd

open Idealize.ShloMosaic Idealize.ShloMosaic.TcCoe Idealize.SL.Sem

/-- At bit patterns a named constant is its pattern. -/
local instance namedBits : Named Bits where
  named _ _ {φ} bits := Scalar.ofBits (F := Bits) φ bits

theorem body_agree (i) (a3 h3 a4 h4 a5 h5 a6 h6 a7 h7 a8 h8 a9 h9 a10 h10 a11 h11 a12 h12 a13 h13 a14 h14 a15 h15 a16 h16) :
    Cert.KernelIdeal.cc0_ssd_scan_gate_norm (F := Bits) i a3 h3 a4 h4 a5 h5 a6 h6 a7 h7 a8 h8 a9 h9 a10 h10 a11 h11 a12 h12 a13 h13 a14 h14 a15 h15 a16 h16
    = Cert.Kernel.cc0_ssd_scan_gate_norm (F := Bits) i a3 h3 a4 h4 a5 h5 a6 h6 a7 h7 a8 h8 a9 h9 a10 h10 a11 h11 a12 h12 a13 h13 a14 h14 a15 h15 a16 h16 := by
  rfl

theorem defs₀_agree : Cert.KernelIdeal.defs₀ (F := Bits) = Cert.Kernel.defs₀ (F := Bits) := by
  unfold Cert.KernelIdeal.defs₀ Cert.Kernel.defs₀
  refine congrArg Defs.onTc (funext fun l => funext fun ts => ?_)
  obtain ⟨l, hl⟩ := l
  obtain rfl : l = 0 := by
    have : l < 1 := hl
    omega
  obtain ⟨t, s⟩ := ts
  exact body_agree ..

theorem defs_agree : Cert.KernelIdeal.defs (F := Bits) = Cert.Kernel.defs (F := Bits) :=
  congrArg (Pipeline.defs Cert.KernelIdeal.pcfgs) defs₀_agree

theorem main_agree : Cert.KernelIdeal.main (F := Bits) = Cert.Kernel.main (F := Bits) := by
  rfl

/-- Every run of the kernel ends, with its arguments unchanged and its counters at zero. -/
theorem frame_bits (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0) :=
by
  rw [← defs_agree, ← main_agree]
  exact Cert.KernelIdeal.Ssd.frame_run (F := Bits) m ρ

end Cert.Proof.Ssd

end
-- ==== Proof.Ssd.Read.lean ====
/- What the scan's reference leaves: the buffers its stretches do not write, and its frame. -/
module

public import proofs.«01_k».proof.Proof.Gen.ReferenceIdeal.Run
public import Idealize.ShloMosaic.Lib.Claim

@[expose] public section

set_option maxRecDepth 16384

noncomputable section

namespace Cert.ReferenceIdeal.Read

open Idealize.ShloMosaic Idealize.ShloMosaic.TcCoe Idealize.ShloMosaic.StableHlo Idealize.SL.Sem
open Cert.ReferenceIdeal Cert.ReferenceIdeal.Gen Cert.ReferenceIdeal.Value

variable {F : FTy → Type} [FloatOps F]

/-- Each stretch with the references it writes. -/
abbrev Writes (items : List (List (HloOp τ sig (Elt F)))) (Ws : List (List (Ref sig .tc))) : Prop :=
  List.Forall₂ (fun ops W => List.Forall (fun op => op.writes ⊆ (W.map (Proc.devRef (τ := τ) .tc)).toFinset) ops) items Ws

/-- A buffer that no stretch writes is kept. -/
theorem afterL_keep {items : List (List (HloOp τ sig (Elt F)))} {Ws : List (List (Ref sig .tc))} (h : Writes items Ws) (r : Ref sig .tc) :
    ∀ (V : Valuation τ sig (Elt F)), r ∉ Ws.flatten → afterL items V (Proc.devRef .tc r) = V (Proc.devRef .tc r) := by
  induction h with
  | nil => intro V _; rfl
  | cons h1 _ ih =>
    intro V hr
    rw [List.flatten_cons, List.mem_append, not_or] at hr
    rw [afterL_cons, ih _ hr.2, after_of_writes_sub _ _ h1 hr.1]

/-! What the stretches after the loop write. -/

abbrev hostOps0_14_W : List (Ref sig .tc) := [main_v64, main_v65, main_v66, main_v67, main_v68, main_v69, main_v70, main_v71, main_v72, main_v73, main_v74, main_v75, main_v76, main_v77, main_v78, main_v79, main_v80, main_v81, main_v82]
theorem hostOps0_14_writes : (hostOps0_14 : List (HloOp τ sig (Elt F))).Forall fun op => op.writes ⊆ (hostOps0_14_W.map (Proc.devRef (τ := τ) .tc)).toFinset :=
  StableHlo.forall_writes_sub_of_map rfl
abbrev hostOps0_15_W : List (Ref sig .tc) := [main_call10_v0, main_call10_v1, main_call10_cst, main_call10_v2, main_call10_v3, main_call10_cst_0, main_call10_v4, main_call10_v5, main_v83]
theorem hostOps0_15_writes : (hostOps0_15 : List (HloOp τ sig (Elt F))).Forall fun op => op.writes ⊆ (hostOps0_15_W.map (Proc.devRef (τ := τ) .tc)).toFinset :=
  StableHlo.forall_writes_sub_of_map rfl
abbrev hostOps0_16_W : List (Ref sig .tc) := [main_v84, main_v85, main_v86, main_cst_5, main_v87, main_v88, main_cst_6, main_v89, main_v90, main_cst_7, main_v91, main_v92, main_v93, main_v94, main_v95, main_v96, main_v97, main_v98, main_v99, main_v100, main_v101, main_v102, main_v103]
theorem hostOps0_16_writes : (hostOps0_16 : List (HloOp τ sig (Elt F))).Forall fun op => op.writes ⊆ (hostOps0_16_W.map (Proc.devRef (τ := τ) .tc)).toFinset :=
  StableHlo.forall_writes_sub_of_map rfl

abbrev preW : List (List (Ref sig .tc)) := [hostOps0_W, hostOps0_1_W, hostOps0_2_W, hostOps0_3_W, hostOps0_4_W, hostOps0_5_W, hostOps0_6_W, hostOps0_7_W, hostOps0_8_W, hostOps0_9_W, hostOps0_10_W, hostOps0_11_W, hostOps0_12_W, hostOps0_13_W]
abbrev bodyW : List (List (Ref sig .tc)) := [while0Ops0_W, while0Ops0_1_W, while0Ops0_2_W, while0Ops0_3_W, while0Ops0_4_W]
abbrev postW : List (List (Ref sig .tc)) := [hostOps0_14_W, hostOps0_15_W, hostOps0_16_W]

theorem pre_writes : Writes (preI (F := F)) preW := .cons hostOps0_writes (.cons hostOps0_1_writes (.cons hostOps0_2_writes (.cons hostOps0_3_writes (.cons hostOps0_4_writes (.cons hostOps0_5_writes (.cons hostOps0_6_writes (.cons hostOps0_7_writes (.cons hostOps0_8_writes (.cons hostOps0_9_writes (.cons hostOps0_10_writes (.cons hostOps0_11_writes (.cons hostOps0_12_writes (.cons hostOps0_13_writes (.nil))))))))))))))
theorem body_writes : Writes (bodyI (F := F)) bodyW := .cons while0Ops0_writes (.cons while0Ops0_1_writes (.cons while0Ops0_2_writes (.cons while0Ops0_3_writes (.cons while0Ops0_4_writes (.nil)))))
theorem post_writes : Writes (postI (F := F)) postW := .cons hostOps0_14_writes (.cons hostOps0_15_writes (.cons hostOps0_16_writes (.nil)))

variable (m : (ℓ : Loc nD τ sig) → Buf (Elt F) ℓ) (ρ : Dev nD → PrngReg)

/-- A buffer that neither the condition nor the body writes is, at any trip, as at the loop's entry. -/
theorem atK_keep (c : Dev nD) (r : Ref sig .tc) (hc : r ∉ condOps_W) (hb : r ∉ bodyW.flatten) :
    ∀ k, atK m k c (Proc.devRef .tc r) = entryContents preI m c (Proc.devRef .tc r)
  | 0 => rfl
  | k + 1 => by
    rw [show atK m (k + 1) c = afterL bodyI (after condOps (atK m k c)) from rfl, afterL_keep body_writes r _ hb,
      after_of_writes_sub _ _ condOps_writes hc, atK_keep c r hc hb k]

/-- A buffer that nothing writes ends as at the launch. -/
theorem final_keep (c : Dev nD) (r : Ref sig .tc) (h0 : r ∉ preW.flatten) (hc : r ∉ condOps_W) (hb : r ∉ bodyW.flatten) (hp : r ∉ postW.flatten) :
    finalContents condOps preI bodyI postI 64 m c (Proc.devRef .tc r) = m (c.tc.loc r) := by
  rw [show finalContents condOps preI bodyI postI 64 m c = afterL postI (after condOps (atK m 64 c)) from rfl, afterL_keep post_writes r _ hp,
    after_of_writes_sub _ _ condOps_writes hc, atK_keep m c r hc hb 64, show entryContents preI m c = afterL preI (launchContents m c) from rfl,
    afterL_keep pre_writes r _ h0]

/-- Every run of the reference ends with its result at the fold and its arguments unchanged. -/
theorem run_result : θ_run (defs (F := F)) (onTc (τ := τ) (main (F := F))) ⟨m, fun _ => 0, ρ⟩ (fun r => ∀ c : Dev nD,
      r.2.mem (c.tc.loc main_v103) = finalContents condOps preI bodyI postI 64 m c (Proc.devRef .tc main_v103)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)) :=
  (θ_run defs _ _).mono (fun r h c => ⟨h c main_v103 rfl, (h c main_arg0 rfl).trans (final_keep m c main_arg0 (by decide +kernel) (by decide +kernel) (by decide +kernel) (by decide +kernel)), (h c main_arg1 rfl).trans (final_keep m c main_arg1 (by decide +kernel) (by decide +kernel) (by decide +kernel) (by decide +kernel)), (h c main_arg2 rfl).trans (final_keep m c main_arg2 (by decide +kernel) (by decide +kernel) (by decide +kernel) (by decide +kernel)), (h c main_arg3 rfl).trans (final_keep m c main_arg3 (by decide +kernel) (by decide +kernel) (by decide +kernel) (by decide +kernel)), (h c main_arg4 rfl).trans (final_keep m c main_arg4 (by decide +kernel) (by decide +kernel) (by decide +kernel) (by decide +kernel)), (h c main_arg5 rfl).trans (final_keep m c main_arg5 (by decide +kernel) (by decide +kernel) (by decide +kernel) (by decide +kernel)), (h c main_arg6 rfl).trans (final_keep m c main_arg6 (by decide +kernel) (by decide +kernel) (by decide +kernel) (by decide +kernel))⟩) (run_fold m ρ)

end Cert.ReferenceIdeal.Read

end
-- ==== Proof.Down.lean ====
module

public import proofs.«01_k».proof.Defs
public import proofs.«01_k».proof.Proof.Gen.KernelIdeal2.Value
public import proofs.«01_k».proof.Proof.Gen.ReferenceIdeal2.Run
public import Idealize.ShloMosaic.Lib.Pointwise
public import Idealize.ShloMosaic.Lib.Pointwise.Sums
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal2.Down

open Cert.KernelIdeal2 Cert.KernelIdeal2.Gen Cert.KernelIdeal2.Value

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

section

variable (c : Dev nD) (i : grid0.Coords) (a2 : Memref sig .tc .vmem S512x5632 .bf16) (h2 : a2.IsWhole) (a3 : Memref sig .tc .vmem S1x5632x512 .f32)
    (h3 : a3.IsWhole) (a4 : Memref sig .tc .vmem S512x512 .f32) (h4 : a4.IsWhole) (a5 : Memref sig .tc .vmem S512x512 .f32) (h5 : a5.IsWhole)
    (a6 : Memref sig .tc .vmem S5632x512 .bf16) (h6 : a6.IsWhole) (x0 : Vec F S512x5632 .bf16) (x1 : Vec F S1x5632x512 .f32) (x2 : Vec F S512x512 .f32)

/-- At the first row block of a column block the body stores the cast weight block and multiplies by it. -/
theorem out_A (hc : cond0_0 i) :
    out0_A_3 c i a2 h2 a3 h3 a4 h4 a5 h5 a6 h6 hc x0 x1 x2 = k0_pay2 x0 (k0_pay1 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz2]
  simp only [View.readCov_unit_zero (S := S5632x512) _ hz2, View.readAt_eq_ld, h2.read_unread, h3.read_unread, h4.read_unread,
    View.ld_unit_zero (S := S512x5632) hz2, View.ld_unit_zero (S := S512x512) hz2, View.ld_unit_zero (S := S1x5632x512) hz3]

/-- … and leaves the cast weight block in the scratch. -/
theorem sout_A (hc : cond0_0 i) :
    sout0_A_0 c i a2 h2 a3 h3 a4 h4 a5 h5 a6 h6 hc x0 x1 x2 = k0_pay1 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz2]
  simp only [View.readAt_eq_ld, h3.read_unread, View.ld_unit_zero (S := S1x5632x512) hz3]

/-- At every other row block the body multiplies by what the scratch holds. -/
theorem out_B (hc : ¬cond0_0 i) (xs : Vec F S5632x512 .bf16) :
    out0_B_3 c i a2 h2 a3 h3 a4 h4 a5 h5 a6 h6 hc x0 x1 x2 xs = k0_pay2 x0 xs x2 := by
  unfold out0_B_3
  rw [View.read_writes_eq_canon _ _ _ (cover0_B_3 c i a2 h2 a3 h3 a4 h4 a5 h5 a6 h6 hc x0 x1 x2 xs)]
  unfold kernelRun0_B
  dsimp only
  sl_unfold_words
  rw [View.canon_unit_zero hz2]
  simp only [View.readAt_eq_ld, h2.read_unread, h4.read_unread, h6.read_unread, View.ld_unit_zero (S := S5632x512) hz2,
    View.ld_unit_zero (S := S512x5632) hz2, View.ld_unit_zero (S := S512x512) hz2]

end

/-- The block of the weights that point `n` sees, by the column block `n / 16`. -/
theorem iblk1_apply (c : Dev nD) (t : Fin cfg0.N) (k : Fin 5632) (j : Fin 512) (h : t.val / 16 * 512 + j.val < 2048) :
    (iblk m c 1 t : Vec F S1x5632x512 .f32) (ix3 0 k j) = m (c.tc.loc main_arg2) (ix3 0 k ⟨t.val / 16 * 512 + j.val, h⟩) := by
  have hi : ∀ t : Fin cfg0.N, win0_1.index t 0 = 0 ∧ win0_1.index t 1 = 0 ∧ win0_1.index t 2 = t.val / 16 :=
    (by decide +kernel : ∀ t : Fin grid0.N, _)
  unfold iblk
  rw [View.read_apply]
  show V m c main_arg2 _ = m (c.tc.loc main_arg2) _
  rw [V_main_arg2]
  congr 1
  funext a
  apply Fin.ext
  match a with
  | ⟨0, _⟩ => show win0_1.index t 0 * 1 + 1 * 0 = 0; rw [(hi t).1]
  | ⟨1, _⟩ => show win0_1.index t 1 * 5632 + 1 * k.val = k.val; rw [(hi t).2.1]; omega
  | ⟨2, _⟩ => show win0_1.index t 2 * 512 + 1 * j.val = t.val / 16 * 512 + j.val; rw [(hi t).2.2]; omega

/-- The block of the activation that point `t` sees: rows of the row block `t % 16`, every column. -/
theorem iblk0_apply (c : Dev nD) (t : Fin cfg0.N) (r : Fin 512) (k : Fin 5632) (h : t.val % 16 * 512 + r.val < 8192) :
    (iblk m c 0 t : Vec F S512x5632 .bf16) (ix2 r k) = m (c.tc.loc main_arg0) (ix2 ⟨t.val % 16 * 512 + r.val, h⟩ k) := by
  have hi : ∀ t : Fin cfg0.N, win0_0.index t 0 = t.val % 16 ∧ win0_0.index t 1 = 0 :=
    (by decide +kernel : ∀ t : Fin grid0.N, _)
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = t.val % 16 * 512 + r.val; rw [(hi t).1]; omega
  | ⟨1, _⟩ => show win0_0.index t 1 * 5632 + 1 * k.val = k.val; rw [(hi t).2]; omega

/-- The block of the residual stream that point `t` sees. -/
theorem iblk2_apply (c : Dev nD) (t : Fin cfg0.N) (r j : Fin 512) (h : t.val % 16 * 512 + r.val < 8192) (h' : t.val / 16 * 512 + j.val < 2048) :
    (iblk m c 2 t : Vec F S512x512 .f32) (ix2 r j)
      = m (c.tc.loc main_arg1) (ix2 ⟨t.val % 16 * 512 + r.val, h⟩ ⟨t.val / 16 * 512 + j.val, h'⟩) := by
  have hi : ∀ t : Fin cfg0.N, win0_2.index t 0 = t.val % 16 ∧ win0_2.index t 1 = t.val / 16 :=
    (by decide +kernel : ∀ t : Fin grid0.N, _)
  unfold iblk
  rw [View.read_apply]
  show V m c main_arg1 _ = m (c.tc.loc main_arg1) _
  rw [V_main_arg1]
  congr 1
  funext a
  apply Fin.ext
  match a with
  | ⟨0, _⟩ => show win0_2.index t 0 * 512 + 1 * r.val = t.val % 16 * 512 + r.val; rw [(hi t).1]; omega
  | ⟨1, _⟩ => show win0_2.index t 1 * 512 + 1 * j.val = t.val / 16 * 512 + j.val; rw [(hi t).2]; omega

/-- Points of one column block see one weight block. -/
theorem iblk1_prev (c : Dev nD) (n : ℕ) (h : n + 1 < cfg0.N) (hn : ¬(n + 1) % 16 = 0) :
    (iblk m c 1 ⟨n, Nat.lt_of_succ_lt h⟩ : Vec F S1x5632x512 .f32) = iblk m c 1 ⟨n + 1, h⟩ := by
  have hN : cfg0.N = 64 := N_0
  funext y
  obtain ⟨k, j, rfl⟩ : ∃ (k : Fin 5632) (j : Fin 512), y = ix3 0 k j := ⟨y 1, y 2, by
    rw [eq_ix3 y]; congr 1; exact Subsingleton.elim (α := Fin 1) _ _⟩
  rw [iblk1_apply m c ⟨n, _⟩ k j (by have := j.isLt; dsimp only; omega), iblk1_apply m c ⟨n + 1, h⟩ k j (by have := j.isLt; dsimp only; omega)]
  congr 2
  apply Fin.ext
  dsimp only
  omega

/-- After every point: the output block at the residual plus the product, the scratch at the cast weight block. -/
theorem outsAt_eq (c : Dev nD) : ∀ (n : ℕ) (h : n < cfg0.N), outsAt0 m c n h
    = (k0_pay2 (iblk m c 0 ⟨n, h⟩) (k0_pay1 (iblk m c 1 ⟨n, h⟩)) (iblk m c 2 ⟨n, h⟩), k0_pay1 (iblk m c 1 ⟨n, h⟩))
  | 0, h => by rw [outsAt0_A m c ⟨0, h⟩ rfl, out_A, sout_A]
  | n + 1, h => by
    by_cases hn : (n + 1) % 16 = 0
    · rw [outsAt0_A m c ⟨n + 1, h⟩ hn, out_A, sout_A]
    · rw [outsAt0_B m c ⟨n + 1, h⟩ hn, out_B]
      unfold sout0_B_0
      show (k0_pay2 _ (outsAt0 m c n _).2 _, (outsAt0 m c n _).2) = _
      rw [outsAt_eq c n, iblk1_prev m c n h hn]

end Cert.KernelIdeal2.Down

namespace Cert.KernelIdeal2.Down

open Cert.KernelIdeal2 Cert.KernelIdeal2.Gen Cert.KernelIdeal2.Value

variable (m : (ℓ : Loc nD τ sig) → Buf (Elt Ideal) ℓ)

/-- The residual stream plus the row of the activation times the column of the first layer's down projection. -/
def downAt (act : S8192x5632.Idx → EReal) (x : S8192x2048.Idx → EReal) (w : S4x5632x2048.Idx → EReal) (r : Fin 8192) (j : Fin 2048) : EReal :=
  x (ix2 r j) + ∑ k : Fin 5632, act (ix2 r k) * w (ix3 0 k j)

/-- The output array: at row `r` and column `j` the residual plus the row of the activation times the column of the weights. -/
theorem G_apply (c : Dev nD) (r : Fin 8192) (j : Fin 2048) : G3 m c (ix2 r j)
    = downAt (m (c.tc.loc main_arg0)) (m (c.tc.loc main_arg1)) (m (c.tc.loc main_arg2)) r j := by
  unfold downAt
  have hN : cfg0.N = 64 := N_0
  have hr := r.isLt
  have hj := j.isLt
  have hp : pt3Of (ix2 r j) = r.val / 512 + 16 * (j.val / 512) := by
    show 1 * (r.val / 512 - 0) + 16 * (j.val / 512 - 0) = _; omega
  have hlt : pt3Of (ix2 r j) < cfg0.N := by rw [hp]; omega
  have hl : loc3Of (ix2 r j) = ix2 ⟨r.val % 512, Nat.mod_lt _ (by decide)⟩ ⟨j.val % 512, Nat.mod_lt _ (by decide)⟩ := by
    funext a; match a with
    | ⟨0, _⟩ => rfl
    | ⟨1, _⟩ => rfl
  unfold G3
  rw [dif_pos hlt, hl, ← outsAt0_sweep m c (pt3Of (ix2 r j)) hlt, outsAt_eq]
  dsimp only
  pointwise [k0_pay2, k0_pay1]
  have e1 : (pt3Of (ix2 r j)) % 16 = r.val / 512 := by rw [hp]; omega
  have e2 : (pt3Of (ix2 r j)) / 16 = j.val / 512 := by rw [hp]; omega
  have e3 : (⟨(pt3Of (ix2 r j)) % 16 * 512 + r.val % 512, by rw [e1]; omega⟩ : Fin 8192) = r := Fin.ext (by dsimp only; rw [e1]; omega)
  have e4 : (⟨(pt3Of (ix2 r j)) / 16 * 512 + j.val % 512, by rw [e2]; omega⟩ : Fin 2048) = j := Fin.ext (by dsimp only; rw [e2]; omega)
  rw [iblk2_apply m c ⟨pt3Of (ix2 r j), hlt⟩ _ _ (by dsimp only; rw [e1]; omega) (by dsimp only; rw [e2]; omega)]
  simp only [iblk0_apply m c ⟨pt3Of (ix2 r j), hlt⟩ _ _ (by dsimp only; rw [e1]; omega : (⟨pt3Of (ix2 r j), hlt⟩ : Fin cfg0.N).val % 16 * 512 + (⟨r.val % 512, Nat.mod_lt _ (by decide)⟩ : Fin 512).val < 8192),
    iblk1_apply m c ⟨pt3Of (ix2 r j), hlt⟩ _ _ (by dsimp only; rw [e2]; omega : (⟨pt3Of (ix2 r j), hlt⟩ : Fin cfg0.N).val / 16 * 512 + (⟨j.val % 512, Nat.mod_lt _ (by decide)⟩ : Fin 512).val < 2048), e3, e4]

end Cert.KernelIdeal2.Down

namespace Cert.Proof

/-- The reference's term is the array that the kernel leaves. -/
theorem down_ref (act : Cert.KernelIdeal2.S8192x5632.Idx → EReal) (x : Cert.KernelIdeal2.S8192x2048.Idx → EReal) (w : Cert.KernelIdeal2.S4x5632x2048.Idx → EReal) :
    (addf (F := Ideal) (φ := .f32) x (Host.dotGeneral (F := Ideal) (φ₁ := .f32) (φ₂ := .f32) Cert.ReferenceIdeal2.dot_S8192x5632_S5632x2048_S8192x2048_1_0_0_1_n_n none
      (extf (F := Ideal) (φ := .bf16) .f32 act Cert.ReferenceIdeal2.Gen.facts.bitsLt_bf16_f32)
      (shapeCast Cert.ReferenceIdeal2.S5632x2048 (extractStridedSlice Cert.ReferenceIdeal2.S1x5632x2048 ![0, 0, 0] w Cert.ReferenceIdeal2.Gen.facts.slices_S4x5632x2048_S1x5632x2048_0_0_0)
        Cert.ReferenceIdeal2.Gen.facts.shapeCasts_S1x5632x2048_S5632x2048)))
    = fun i => Cert.KernelIdeal2.Down.downAt act x w (i 0) (i 1) := by
  funext i
  idx_vars i
  unfold Cert.KernelIdeal2.Down.downAt
  pointwise

end Cert.Proof

end
-- ==== Proof.SsmOut.lean ====
module

public import proofs.«01_k».proof.Defs
public import proofs.«01_k».proof.Proof.Gen.KernelIdeal3.Value
public import proofs.«01_k».proof.Proof.Gen.ReferenceIdeal3.Run
public import Idealize.ShloMosaic.Lib.Pointwise
public import Idealize.ShloMosaic.Lib.Pointwise.Sums
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal3.SsmOut

open Cert.KernelIdeal3 Cert.KernelIdeal3.Gen Cert.KernelIdeal3.Value

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

section

variable (c : Dev nD) (i : grid0.Coords) (a2 : Memref sig .tc .vmem S256x4096 .bf16) (h2 : a2.IsWhole) (a3 : Memref sig .tc .vmem S1x4096x1024 .f32)
    (h3 : a3.IsWhole) (a4 : Memref sig .tc .vmem S256x1024 .f32) (h4 : a4.IsWhole) (a5 : Memref sig .tc .vmem S256x1024 .f32) (h5 : a5.IsWhole)
    (a6 : Memref sig .tc .vmem S4096x1024 .bf16) (h6 : a6.IsWhole) (x0 : Vec F S256x4096 .bf16) (x1 : Vec F S1x4096x1024 .f32)
    (x2 : Vec F S256x1024 .f32)

/-- At the first row block of a column block the body stores the cast weight block and multiplies by it. -/
theorem out_A (hc : cond0_0 i) :
    out0_A_3 c i a2 h2 a3 h3 a4 h4 a5 h5 a6 h6 hc x0 x1 x2 = k0_pay2 x0 (k0_pay1 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz2]
  simp only [View.readCov_unit_zero (S := S4096x1024) _ hz2, View.readAt_eq_ld, h2.read_unread, h3.read_unread, h4.read_unread,
    View.ld_unit_zero (S := S256x4096) hz2, View.ld_unit_zero (S := S256x1024) hz2, View.ld_unit_zero (S := S1x4096x1024) hz3]

/-- … and leaves the cast weight block in the scratch. -/
theorem sout_A (hc : cond0_0 i) :
    sout0_A_0 c i a2 h2 a3 h3 a4 h4 a5 h5 a6 h6 hc x0 x1 x2 = k0_pay1 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz2]
  simp only [View.readAt_eq_ld, h3.read_unread, View.ld_unit_zero (S := S1x4096x1024) hz3]

/-- At every other row block the body multiplies by what the scratch holds. -/
theorem out_B (hc : ¬cond0_0 i) (xs : Vec F S4096x1024 .bf16) :
    out0_B_3 c i a2 h2 a3 h3 a4 h4 a5 h5 a6 h6 hc x0 x1 x2 xs = k0_pay2 x0 xs x2 := by
  unfold out0_B_3
  rw [View.read_writes_eq_canon _ _ _ (cover0_B_3 c i a2 h2 a3 h3 a4 h4 a5 h5 a6 h6 hc x0 x1 x2 xs)]
  unfold kernelRun0_B
  dsimp only
  sl_unfold_words
  rw [View.canon_unit_zero hz2]
  simp only [View.readAt_eq_ld, h2.read_unread, h4.read_unread, h6.read_unread, View.ld_unit_zero (S := S4096x1024) hz2,
    View.ld_unit_zero (S := S256x4096) hz2, View.ld_unit_zero (S := S256x1024) hz2]

end

/-- The block of the weights that point `n` sees, by the column block `n / 32`. -/
theorem iblk1_apply (c : Dev nD) (t : Fin cfg0.N) (k : Fin 4096) (j : Fin 1024) (h : t.val / 32 * 1024 + j.val < 2048) :
    (iblk m c 1 t : Vec F S1x4096x1024 .f32) (ix3 0 k j) = m (c.tc.loc main_arg2) (ix3 0 k ⟨t.val / 32 * 1024 + j.val, h⟩) := by
  have hi : ∀ t : Fin cfg0.N, win0_1.index t 0 = 0 ∧ win0_1.index t 1 = 0 ∧ win0_1.index t 2 = t.val / 32 :=
    (by decide +kernel : ∀ t : Fin grid0.N, _)
  unfold iblk
  rw [View.read_apply]
  show V m c main_arg2 _ = m (c.tc.loc main_arg2) _
  rw [V_main_arg2]
  congr 1
  funext a
  apply Fin.ext
  match a with
  | ⟨0, _⟩ => show win0_1.index t 0 * 1 + 1 * 0 = 0; rw [(hi t).1]
  | ⟨1, _⟩ => show win0_1.index t 1 * 4096 + 1 * k.val = k.val; rw [(hi t).2.1]; omega
  | ⟨2, _⟩ => show win0_1.index t 2 * 1024 + 1 * j.val = t.val / 32 * 1024 + j.val; rw [(hi t).2.2]; omega

/-- The block of the activation that point `t` sees: rows of the row block `t % 32`, every column. -/
theorem iblk0_apply (c : Dev nD) (t : Fin cfg0.N) (r : Fin 256) (k : Fin 4096) (h : t.val % 32 * 256 + r.val < 8192) :
    (iblk m c 0 t : Vec F S256x4096 .bf16) (ix2 r k) = m (c.tc.loc main_arg0) (ix2 ⟨t.val % 32 * 256 + r.val, h⟩ k) := by
  have hi : ∀ t : Fin cfg0.N, win0_0.index t 0 = t.val % 32 ∧ win0_0.index t 1 = 0 :=
    (by decide +kernel : ∀ t : Fin grid0.N, _)
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * r.val = t.val % 32 * 256 + r.val; rw [(hi t).1]; omega
  | ⟨1, _⟩ => show win0_0.index t 1 * 4096 + 1 * k.val = k.val; rw [(hi t).2]; omega

/-- The block of the residual stream that point `t` sees. -/
theorem iblk2_apply (c : Dev nD) (t : Fin cfg0.N) (r : Fin 256) (j : Fin 1024) (h : t.val % 32 * 256 + r.val < 8192) (h' : t.val / 32 * 1024 + j.val < 2048) :
    (iblk m c 2 t : Vec F S256x1024 .f32) (ix2 r j)
      = m (c.tc.loc main_arg1) (ix2 ⟨t.val % 32 * 256 + r.val, h⟩ ⟨t.val / 32 * 1024 + j.val, h'⟩) := by
  have hi : ∀ t : Fin cfg0.N, win0_2.index t 0 = t.val % 32 ∧ win0_2.index t 1 = t.val / 32 :=
    (by decide +kernel : ∀ t : Fin grid0.N, _)
  unfold iblk
  rw [View.read_apply]
  show V m c main_arg1 _ = m (c.tc.loc main_arg1) _
  rw [V_main_arg1]
  congr 1
  funext a
  apply Fin.ext
  match a with
  | ⟨0, _⟩ => show win0_2.index t 0 * 256 + 1 * r.val = t.val % 32 * 256 + r.val; rw [(hi t).1]; omega
  | ⟨1, _⟩ => show win0_2.index t 1 * 1024 + 1 * j.val = t.val / 32 * 1024 + j.val; rw [(hi t).2]; omega

/-- Points of one column block see one weight block. -/
theorem iblk1_prev (c : Dev nD) (n : ℕ) (h : n + 1 < cfg0.N) (hn : ¬(n + 1) % 32 = 0) :
    (iblk m c 1 ⟨n, Nat.lt_of_succ_lt h⟩ : Vec F S1x4096x1024 .f32) = iblk m c 1 ⟨n + 1, h⟩ := by
  have hN : cfg0.N = 64 := N_0
  funext y
  obtain ⟨k, j, rfl⟩ : ∃ (k : Fin 4096) (j : Fin 1024), y = ix3 0 k j := ⟨y 1, y 2, by
    rw [eq_ix3 y]; congr 1; exact Subsingleton.elim (α := Fin 1) _ _⟩
  rw [iblk1_apply m c ⟨n, _⟩ k j (by have := j.isLt; dsimp only; omega), iblk1_apply m c ⟨n + 1, h⟩ k j (by have := j.isLt; dsimp only; omega)]
  congr 2
  apply Fin.ext
  dsimp only
  omega

/-- After every point: the output block at the residual plus the product, the scratch at the cast weight block. -/
theorem outsAt_eq (c : Dev nD) : ∀ (n : ℕ) (h : n < cfg0.N), outsAt0 m c n h
    = (k0_pay2 (iblk m c 0 ⟨n, h⟩) (k0_pay1 (iblk m c 1 ⟨n, h⟩)) (iblk m c 2 ⟨n, h⟩), k0_pay1 (iblk m c 1 ⟨n, h⟩))
  | 0, h => by rw [outsAt0_A m c ⟨0, h⟩ rfl, out_A, sout_A]
  | n + 1, h => by
    by_cases hn : (n + 1) % 32 = 0
    · rw [outsAt0_A m c ⟨n + 1, h⟩ hn, out_A, sout_A]
    · rw [outsAt0_B m c ⟨n + 1, h⟩ hn, out_B]
      unfold sout0_B_0
      show (k0_pay2 _ (outsAt0 m c n _).2 _, (outsAt0 m c n _).2) = _
      rw [outsAt_eq c n, iblk1_prev m c n h hn]

end Cert.KernelIdeal3.SsmOut

namespace Cert.KernelIdeal3.SsmOut

open Cert.KernelIdeal3 Cert.KernelIdeal3.Gen Cert.KernelIdeal3.Value

variable (m : (ℓ : Loc nD τ sig) → Buf (Elt Ideal) ℓ)

/-- The residual stream plus the row of the activation times the column of the first layer's down projection. -/
def ssmOutAt (act : S8192x4096.Idx → EReal) (x : S8192x2048.Idx → EReal) (w : S2x4096x2048.Idx → EReal) (r : Fin 8192) (j : Fin 2048) : EReal :=
  x (ix2 r j) + ∑ k : Fin 4096, act (ix2 r k) * w (ix3 0 k j)

/-- The output array: at row `r` and column `j` the residual plus the row of the activation times the column of the weights. -/
theorem G_apply (c : Dev nD) (r : Fin 8192) (j : Fin 2048) : G3 m c (ix2 r j)
    = ssmOutAt (m (c.tc.loc main_arg0)) (m (c.tc.loc main_arg1)) (m (c.tc.loc main_arg2)) r j := by
  unfold ssmOutAt
  have hN : cfg0.N = 64 := N_0
  have hr := r.isLt
  have hj := j.isLt
  have hp : pt3Of (ix2 r j) = r.val / 256 + 32 * (j.val / 1024) := by
    show 1 * (r.val / 256 - 0) + 32 * (j.val / 1024 - 0) = _; omega
  have hlt : pt3Of (ix2 r j) < cfg0.N := by rw [hp]; omega
  have hl : loc3Of (ix2 r j) = ix2 ⟨r.val % 256, Nat.mod_lt _ (by decide)⟩ ⟨j.val % 1024, Nat.mod_lt _ (by decide)⟩ := by
    funext a; match a with
    | ⟨0, _⟩ => rfl
    | ⟨1, _⟩ => rfl
  unfold G3
  rw [dif_pos hlt, hl, ← outsAt0_sweep m c (pt3Of (ix2 r j)) hlt, outsAt_eq]
  dsimp only
  pointwise [k0_pay2, k0_pay1]
  have e1 : (pt3Of (ix2 r j)) % 32 = r.val / 256 := by rw [hp]; omega
  have e2 : (pt3Of (ix2 r j)) / 32 = j.val / 1024 := by rw [hp]; omega
  have e3 : (⟨(pt3Of (ix2 r j)) % 32 * 256 + r.val % 256, by rw [e1]; omega⟩ : Fin 8192) = r := Fin.ext (by dsimp only; rw [e1]; omega)
  have e4 : (⟨(pt3Of (ix2 r j)) / 32 * 1024 + j.val % 1024, by rw [e2]; omega⟩ : Fin 2048) = j := Fin.ext (by dsimp only; rw [e2]; omega)
  rw [iblk2_apply m c ⟨pt3Of (ix2 r j), hlt⟩ _ _ (by dsimp only; rw [e1]; omega) (by dsimp only; rw [e2]; omega)]
  simp only [iblk0_apply m c ⟨pt3Of (ix2 r j), hlt⟩ _ _ (by dsimp only; rw [e1]; omega : (⟨pt3Of (ix2 r j), hlt⟩ : Fin cfg0.N).val % 32 * 256 + (⟨r.val % 256, Nat.mod_lt _ (by decide)⟩ : Fin 256).val < 8192),
    iblk1_apply m c ⟨pt3Of (ix2 r j), hlt⟩ _ _ (by dsimp only; rw [e2]; omega : (⟨pt3Of (ix2 r j), hlt⟩ : Fin cfg0.N).val / 32 * 1024 + (⟨j.val % 1024, Nat.mod_lt _ (by decide)⟩ : Fin 1024).val < 2048), e3, e4]

end Cert.KernelIdeal3.SsmOut

namespace Cert.Proof

/-- The reference's term is the array that the kernel leaves. -/
theorem ssmOut_ref (act : Cert.KernelIdeal3.S8192x4096.Idx → EReal) (x : Cert.KernelIdeal3.S8192x2048.Idx → EReal) (w : Cert.KernelIdeal3.S2x4096x2048.Idx → EReal) :
    (addf (F := Ideal) (φ := .f32) x (Host.dotGeneral (F := Ideal) (φ₁ := .f32) (φ₂ := .f32) Cert.ReferenceIdeal3.dot_S8192x4096_S4096x2048_S8192x2048_1_0_0_1_n_n none
      (extf (F := Ideal) (φ := .bf16) .f32 act Cert.ReferenceIdeal3.Gen.facts.bitsLt_bf16_f32)
      (shapeCast Cert.ReferenceIdeal3.S4096x2048 (extractStridedSlice Cert.ReferenceIdeal3.S1x4096x2048 ![0, 0, 0] w Cert.ReferenceIdeal3.Gen.facts.slices_S2x4096x2048_S1x4096x2048_0_0_0)
        Cert.ReferenceIdeal3.Gen.facts.shapeCasts_S1x4096x2048_S4096x2048)))
    = fun i => Cert.KernelIdeal3.SsmOut.ssmOutAt act x w (i 0) (i 1) := by
  funext i
  idx_vars i
  unfold Cert.KernelIdeal3.SsmOut.ssmOutAt
  pointwise

end Cert.Proof

end
-- ==== Proof.InZ.lean ====
module

public import proofs.«01_k».proof.Defs
public import proofs.«01_k».proof.Proof.Gen.KernelIdeal4.Value
public import proofs.«01_k».proof.Proof.Gen.ReferenceIdeal4.Run
public import Idealize.ShloMosaic.Lib.Pointwise
public import Idealize.ShloMosaic.Lib.Pointwise.Sums
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal4.InZ

open Cert.KernelIdeal4 Cert.KernelIdeal4.Gen Cert.KernelIdeal4.Value

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The product of a row block with a cast and transposed weight block. -/
def blockProd (x : S1024x2048.Idx → EReal) (w : S2048x1024.Idx → EReal) : S1024x1024.Idx → EReal :=
  fun y => ∑ k : Fin 2048, x (ix2 (y 0) k) * w (ix2 k (y 1))

/-- A row range of a block, multiplied, is that range of the block's product. -/
theorem half_lo (x : Vec Ideal S1024x2048 .bf16) (w : Vec Ideal S2048x1024 .bf16) (y : S512x1024.Idx) :
    k0_pay2 (F := Ideal) (View.ld x (Rect.unit (s := S1024x2048) ![0, 0] S512x2048.size inb_S1024x2048_S512x2048_0_0)) w y
      = blockProd x w ((Rect.unit (s := S1024x1024) ![0, 0] S512x1024.size inb_S1024x1024_S512x1024_0_0).emb y) := by
  idx_vars y
  pointwise [k0_pay2, blockProd]
  refine Finset.sum_congr rfl fun k _ => ?_
  refine congrArg₂ (· * ·) (congrArg x (congrArg (fun a => ix2 a k) (Fin.ext ?_))) (congrArg w (congrArg (fun a => ix2 k a) (Fin.ext ?_)))
  · show y0.val = 0 + 1 * y0.val; omega
  · show y1.val = 0 + 1 * y1.val; omega

theorem half_hi (x : Vec Ideal S1024x2048 .bf16) (w : Vec Ideal S2048x1024 .bf16) (y : S512x1024.Idx) :
    k0_pay3 (F := Ideal) (View.ld x (Rect.unit (s := S1024x2048) ![512, 0] S512x2048.size inb_S1024x2048_S512x2048_512_0)) w y
      = blockProd x w ((Rect.unit (s := S1024x1024) ![512, 0] S512x1024.size inb_S1024x1024_S512x1024_512_0).emb y) := by
  idx_vars y
  pointwise [k0_pay3, blockProd]
  refine Finset.sum_congr rfl fun k _ => ?_
  refine congrArg₂ (· * ·) (congrArg x (congrArg (fun a => ix2 a k) (Fin.ext ?_))) (congrArg w (congrArg (fun a => ix2 k a) (Fin.ext ?_)))
  · show 512 + y0.val = 512 + 1 * y0.val; omega
  · show y1.val = 0 + 1 * y1.val; omega

section

variable (c : Dev nD) (i : grid0.Coords) (a2 : Memref sig .tc .vmem S1024x2048 .bf16) (h2 : a2.IsWhole) (a3 : Memref sig .tc .vmem S1x1024x2048 .f32)
    (h3 : a3.IsWhole) (a4 : Memref sig .tc .vmem S1024x1024 .f32) (h4 : a4.IsWhole) (a5 : Memref sig .tc .vmem S2048x1024 .bf16) (h5 : a5.IsWhole)
    (x0 : Vec Ideal S1024x2048 .bf16) (x1 : Vec Ideal S1x1024x2048 .f32)

/-- At the first row block of a column block the body stores the cast, transposed weight block and multiplies by it. -/
theorem out_A (hc : cond0_0 i) :
    out0_A_2 c i a2 h2 a3 h3 a4 h4 a5 h5 hc x0 x1 = blockProd x0 (k0_pay1 (F := Ideal) x1) := by
  unfold out0_A_2
  rw [View.read_writes_eq_canon _ _ _ (cover0_A_2 c i a2 h2 a3 h3 a4 h4 a5 h5 hc x0 x1)]
  funext y
  refine View.canon_apply_of_pieces (blockProd x0 (k0_pay1 (F := Ideal) x1)) _ ?_ y (cover0_A_2 c i a2 h2 a3 h3 a4 h4 a5 h5 hc x0 x1 y)
  unfold kernelRun0_A
  dsimp only
  sl_unfold_words
  simp only [View.readCov_unit_zero (S := S2048x1024) _ hz2, View.readAt_eq_ld, h2.read_unread, h3.read_unread,
    View.ld_unit_zero (S := S1x1024x2048) hz3]
  intro p hp x
  simp only [List.mem_cons, List.not_mem_nil, or_false] at hp
  rcases hp with rfl | rfl
  · exact half_hi x0 _ x
  · exact half_lo x0 _ x

/-- … and leaves the cast, transposed weight block in the scratch. -/
theorem sout_A (hc : cond0_0 i) :
    sout0_A_0 c i a2 h2 a3 h3 a4 h4 a5 h5 hc x0 x1 = k0_pay1 (F := Ideal) x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz2]
  simp only [View.readAt_eq_ld, h3.read_unread, View.ld_unit_zero (S := S1x1024x2048) hz3]

/-- At every other row block the body multiplies by what the scratch holds. -/
theorem out_B (hc : ¬cond0_0 i) (xs : Vec Ideal S2048x1024 .bf16) :
    out0_B_2 c i a2 h2 a3 h3 a4 h4 a5 h5 hc x0 x1 xs = blockProd x0 xs := by
  unfold out0_B_2
  rw [View.read_writes_eq_canon _ _ _ (cover0_B_2 c i a2 h2 a3 h3 a4 h4 a5 h5 hc x0 x1 xs)]
  funext y
  refine View.canon_apply_of_pieces (blockProd x0 xs) _ ?_ y (cover0_B_2 c i a2 h2 a3 h3 a4 h4 a5 h5 hc x0 x1 xs y)
  unfold kernelRun0_B
  dsimp only
  sl_unfold_words
  simp only [View.readAt_eq_ld, h2.read_unread, h5.read_unread, View.ld_unit_zero (S := S2048x1024) hz2]
  intro p hp x
  simp only [List.mem_cons, List.not_mem_nil, or_false] at hp
  rcases hp with rfl | rfl
  · exact half_hi x0 _ x
  · exact half_lo x0 _ x

end

/-- The transposed weights, as the host leaves them for the call. -/
theorem V_main_v0 (c : Dev nD) : (V m c main_v0 : Vec Ideal S2x10304x2048 .f32)
    = transpose S2x10304x2048 [0, 2, 1] (m (c.tc.loc main_arg1)) facts.transposes_S2x2048x10304_S2x10304x2048_0_2_1 := by
  show StableHlo.after hostOps0 (fun b => m (c, b)) main_v0 = _
  after_results <;> rfl

/-- The block of the transposed weights that point `t` sees, by the column block `t / 8`. -/
theorem X1_apply (c : Dev nD) (t : Fin cfg0.N) (k : Fin 2048) (j : Fin 1024) (h : t.val / 8 * 1024 + j.val < 10304) :
    (X0_1 m c t : Vec Ideal S1x1024x2048 .f32) (ix3 0 j k) = m (c.tc.loc main_arg1) (ix3 0 k ⟨t.val / 8 * 1024 + j.val, h⟩) := by
  have hi : ∀ t : Fin cfg0.N, win0_1.index t 0 = 0 ∧ win0_1.index t 1 = t.val / 8 ∧ win0_1.index t 2 = 0 :=
    (by decide +kernel : ∀ t : Fin grid0.N, _)
  have e : (X0_1 m c t : Vec Ideal S1x1024x2048 .f32) (ix3 0 j k) = (V m c main_v0 : Vec Ideal S2x10304x2048 .f32) (ix3 0 ⟨t.val / 8 * 1024 + j.val, h⟩ k) := by
    unfold X0_1 Pipeline.Window.fill
    rw [dif_pos (moved0_1 t _)]
    unfold iblk
    rw [View.read_apply]
    show V m c main_v0 _ = V m c main_v0 _
    congr 1
    funext a
    apply Fin.ext
    match a with
    | ⟨0, _⟩ => show win0_1.index t 0 * 1 + 1 * 0 = 0; rw [(hi t).1]
    | ⟨1, _⟩ => show win0_1.index t 1 * 1024 + 1 * j.val = t.val / 8 * 1024 + j.val; rw [(hi t).2.1]; omega
    | ⟨2, _⟩ => show win0_1.index t 2 * 2048 + 1 * k.val = k.val; rw [(hi t).2.2]; omega
  rw [e, V_main_v0]
  pointwise

/-- The block of the activation that point `t` sees: rows of the row block `t % 8`, every column. -/
theorem iblk0_apply (c : Dev nD) (t : Fin cfg0.N) (r : Fin 1024) (k : Fin 2048) (h : t.val % 8 * 1024 + r.val < 8192) :
    (iblk m c 0 t : Vec Ideal S1024x2048 .bf16) (ix2 r k) = m (c.tc.loc main_arg0) (ix2 ⟨t.val % 8 * 1024 + r.val, h⟩ k) := by
  have hi : ∀ t : Fin cfg0.N, win0_0.index t 0 = t.val % 8 ∧ win0_0.index t 1 = 0 :=
    (by decide +kernel : ∀ t : Fin grid0.N, _)
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = t.val % 8 * 1024 + r.val; rw [(hi t).1]; omega
  | ⟨1, _⟩ => show win0_0.index t 1 * 2048 + 1 * k.val = k.val; rw [(hi t).2]; omega

/-- Points of one column block see one weight block. -/
theorem X1_prev (c : Dev nD) (n : ℕ) (h : n + 1 < cfg0.N) (hn : ¬(n + 1) % 8 = 0) :
    (X0_1 m c ⟨n, Nat.lt_of_succ_lt h⟩ : Vec Ideal S1x1024x2048 .f32) = X0_1 m c ⟨n + 1, h⟩ := by
  have hN : cfg0.N = 32 := N_0
  funext y
  obtain ⟨j, k, rfl⟩ : ∃ (j : Fin 1024) (k : Fin 2048), y = ix3 0 j k := ⟨y 1, y 2, by
    rw [eq_ix3 y]; congr 1; exact Subsingleton.elim (α := Fin 1) _ _⟩
  rw [X1_apply m c ⟨n, _⟩ k j (by have := j.isLt; dsimp only; omega), X1_apply m c ⟨n + 1, h⟩ k j (by have := j.isLt; dsimp only; omega)]
  congr 2
  apply Fin.ext
  dsimp only
  omega

/-- After every point: the output block at the product, the scratch at the cast weight block. -/
theorem outsAt_eq (c : Dev nD) : ∀ (n : ℕ) (h : n < cfg0.N), outsAt0 m c n h
    = (blockProd (iblk m c 0 ⟨n, h⟩) (k0_pay1 (F := Ideal) (X0_1 m c ⟨n, h⟩)), k0_pay1 (F := Ideal) (X0_1 m c ⟨n, h⟩))
  | 0, h => by rw [outsAt0_A m c ⟨0, h⟩ rfl, out_A, sout_A]
  | n + 1, h => by
    by_cases hn : (n + 1) % 8 = 0
    · rw [outsAt0_A m c ⟨n + 1, h⟩ hn, out_A, sout_A]
    · rw [outsAt0_B m c ⟨n + 1, h⟩ hn, out_B]
      unfold sout0_B_0
      show (blockProd _ (outsAt0 m c n _).2, (outsAt0 m c n _).2) = _
      rw [outsAt_eq c n, X1_prev m c n h hn]

/-- The row of the activation times the column of the first layer's input projection, for the columns of the gate. -/
def zAt (x : S8192x2048.Idx → EReal) (w : S2x2048x10304.Idx → EReal) (r : Fin 8192) (j : Fin 4096) : EReal :=
  ∑ k : Fin 2048, x (ix2 r k) * w (ix3 0 k ⟨j.val, by omega⟩)

/-- The output array, index by index. -/
theorem G_apply (c : Dev nD) (r : Fin 8192) (j : Fin 4096) : G2 m c (ix2 r j)
    = zAt (m (c.tc.loc main_arg0)) (m (c.tc.loc main_arg1)) r j := by
  unfold zAt
  have hN : cfg0.N = 32 := N_0
  have hr := r.isLt
  have hj := j.isLt
  have hp : pt2Of (ix2 r j) = r.val / 1024 + 8 * (j.val / 1024) := by
    show 1 * (r.val / 1024 - 0) + 8 * (j.val / 1024 - 0) = _; omega
  have hlt : pt2Of (ix2 r j) < cfg0.N := by rw [hp]; omega
  have hl : loc2Of (ix2 r j) = ix2 ⟨r.val % 1024, Nat.mod_lt _ (by decide)⟩ ⟨j.val % 1024, Nat.mod_lt _ (by decide)⟩ := by
    funext a; match a with
    | ⟨0, _⟩ => rfl
    | ⟨1, _⟩ => rfl
  have e1 : (pt2Of (ix2 r j)) % 8 = r.val / 1024 := by rw [hp]; omega
  have e2 : (pt2Of (ix2 r j)) / 8 = j.val / 1024 := by rw [hp]; omega
  have e3 : (⟨(pt2Of (ix2 r j)) % 8 * 1024 + r.val % 1024, by rw [e1]; omega⟩ : Fin 8192) = r := Fin.ext (by dsimp only; rw [e1]; omega)
  have e4 : (⟨(pt2Of (ix2 r j)) / 8 * 1024 + j.val % 1024, by rw [e2]; omega⟩ : Fin 10304) = ⟨j.val, by omega⟩ := Fin.ext (by dsimp only; rw [e2]; omega)
  unfold G2
  rw [dif_pos hlt, hl, ← outsAt0_sweep m c (pt2Of (ix2 r j)) hlt, outsAt_eq]
  dsimp only
  show (∑ k : Fin 2048, (_ : EReal)) = _
  refine Finset.sum_congr rfl fun k _ => ?_
  refine congrArg₂ (· * ·) ((iblk0_apply m c ⟨pt2Of (ix2 r j), hlt⟩ ⟨r.val % 1024, Nat.mod_lt _ (by decide)⟩ k (by dsimp only; rw [e1]; omega)).trans (by rw [e3])) ?_
  have e5 := X1_apply m c ⟨pt2Of (ix2 r j), hlt⟩ k ⟨j.val % 1024, Nat.mod_lt _ (by decide)⟩ (by dsimp only; rw [e2]; omega)
  rw [e4] at e5
  rw [← e5]
  generalize X0_1 m c ⟨pt2Of (ix2 r j), hlt⟩ = X
  show k0_pay1 (F := Ideal) X (ix2 k ⟨j.val % 1024, Nat.mod_lt _ (by decide)⟩) = _
  pointwise [k0_pay1]

end Cert.KernelIdeal4.InZ

namespace Cert.Proof

/-- The reference's term is the array that the kernel leaves. -/
theorem inZ_ref (x : Cert.KernelIdeal4.S8192x2048.Idx → EReal) (w : Cert.KernelIdeal4.S2x2048x10304.Idx → EReal) :
    (extractStridedSlice Cert.ReferenceIdeal4.S8192x4096 ![0, 0] (Host.dotGeneral (F := Ideal) (φ₁ := .f32) (φ₂ := .f32) Cert.ReferenceIdeal4.dot_S8192x2048_S2048x10304_S8192x10304_1_0_0_1_n_n none
      (extf (F := Ideal) (φ := .bf16) .f32 x Cert.ReferenceIdeal4.Gen.facts.bitsLt_bf16_f32)
      (shapeCast Cert.ReferenceIdeal4.S2048x10304 (extractStridedSlice Cert.ReferenceIdeal4.S1x2048x10304 ![0, 0, 0] w Cert.ReferenceIdeal4.Gen.facts.slices_S2x2048x10304_S1x2048x10304_0_0_0)
        Cert.ReferenceIdeal4.Gen.facts.shapeCasts_S1x2048x10304_S2048x10304)) Cert.ReferenceIdeal4.Gen.facts.slices_S8192x10304_S8192x4096_0_0)
    = fun i => Cert.KernelIdeal4.InZ.zAt x w (i 0) (i 1) := by
  funext i
  idx_vars i
  unfold Cert.KernelIdeal4.InZ.zAt
  pointwise

end Cert.Proof

end
-- ==== Proof.ConfOut.lean ====
module

public import proofs.«01_k».proof.Defs
public import proofs.«01_k».proof.Proof.Gen.KernelIdeal5.Value
public import proofs.«01_k».proof.Proof.Gen.ReferenceIdeal5.Run
public import Idealize.ShloMosaic.Lib.Pointwise
public import Idealize.ShloMosaic.Lib.Pointwise.Sums
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal5.ConfOut

open Cert.KernelIdeal5 Cert.KernelIdeal5.Gen Cert.KernelIdeal5.Value

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- A row block of the residual plus its product with a cast weight block plus the bias. -/
def blockOut (x : S1024x2048.Idx → EReal) (w : S2048x1024.Idx → EReal) (r : S1024x1024.Idx → EReal) (b : S1x1x1024.Idx → EReal) : S1024x1024.Idx → EReal :=
  fun y => r y + ((∑ k : Fin 2048, x (ix2 (y 0) k) * w (ix2 k (y 1))) + b (ix3 0 0 (y 1)))

/-- What the body computes for a range of 256 rows is that range of `blockOut`. -/
theorem rows_apply (o : ℕ) (hx : ∀ a, (![o, 0] : Fin 2 → ℕ) a + S256x2048.size a ≤ S1024x2048.size a)
    (hr : ∀ a, (![o, 0] : Fin 2 → ℕ) a + S256x1024.size a ≤ S1024x1024.size a)
    (x : Vec Ideal S1024x2048 .bf16) (w : Vec Ideal S2048x1024 .bf16) (r : Vec Ideal S1024x1024 .f32) (b : Vec Ideal S1x1x1024 .f32) (y : S256x1024.Idx) :
    k0_pay4 (F := Ideal) (View.ld x (Rect.unit (s := S1024x2048) ![o, 0] S256x2048.size hx)) w
        (View.ld r (Rect.unit (s := S1024x1024) ![o, 0] S256x1024.size hr)) b y
      = blockOut x w r b ((Rect.unit (s := S1024x1024) ![o, 0] S256x1024.size hr).emb y) := by
  obtain ⟨X, hX⟩ : ∃ X, X = View.ld x (Rect.unit (s := S1024x2048) ![o, 0] S256x2048.size hx) := ⟨_, rfl⟩
  obtain ⟨R, hR⟩ : ∃ R, R = View.ld r (Rect.unit (s := S1024x1024) ![o, 0] S256x1024.size hr) := ⟨_, rfl⟩
  rw [← hX, ← hR]
  idx_vars y
  have e0 : ((Rect.unit (s := S1024x1024) ![o, 0] S256x1024.size hr).emb (ix2 y0 y1)) 1 = y1 :=
    Fin.ext (by show 0 + 1 * y1.val = y1.val; omega)
  have e1 : R (ix2 y0 y1) = r ((Rect.unit (s := S1024x1024) ![o, 0] S256x1024.size hr).emb (ix2 y0 y1)) := by rw [hR]; rfl
  have e2 : ∀ k : Fin 2048, X (ix2 y0 k) = x (ix2 (((Rect.unit (s := S1024x1024) ![o, 0] S256x1024.size hr).emb (ix2 y0 y1)) 0) k) := by
    intro k
    rw [hX]
    refine congrArg x (funext fun a => Fin.ext ?_)
    match a with
    | ⟨0, _⟩ => rfl
    | ⟨1, _⟩ => show 0 + 1 * k.val = k.val; omega
  unfold blockOut
  rw [← e1, e0]
  simp only [← e2]
  pointwise [k0_pay4]

section

variable (c : Dev nD) (i : grid0.Coords) (a2 : Memref sig .tc .vmem S1024x2048 .bf16) (h2 : a2.IsWhole) (a3 : Memref sig .tc .vmem S1x2048x1024 .f32)
    (h3 : a3.IsWhole) (a4 : Memref sig .tc .vmem S1024x1024 .f32) (h4 : a4.IsWhole) (a5 : Memref sig .tc .vmem S1x1x1024 .f32) (h5 : a5.IsWhole)
    (a6 : Memref sig .tc .vmem S1024x1024 .f32) (h6 : a6.IsWhole) (a7 : Memref sig .tc .vmem S2048x1024 .bf16) (h7 : a7.IsWhole)
    (x0 : Vec Ideal S1024x2048 .bf16) (x1 : Vec Ideal S1x2048x1024 .f32) (x2 : Vec Ideal S1024x1024 .f32) (x3 : Vec Ideal S1x1x1024 .f32)

/-- At the first row block of a column block the body stores the cast weight block and multiplies by it. -/
theorem out_A (hc : cond0_0 i) :
    out0_A_4 c i a2 h2 a3 h3 a4 h4 a5 h5 a6 h6 a7 h7 hc x0 x1 x2 x3 = blockOut x0 (k0_pay3 (F := Ideal) x1) x2 x3 := by
  unfold out0_A_4
  rw [View.read_writes_eq_canon _ _ _ (cover0_A_4 c i a2 h2 a3 h3 a4 h4 a5 h5 a6 h6 a7 h7 hc x0 x1 x2 x3)]
  funext y
  refine View.canon_apply_of_pieces (blockOut x0 (k0_pay3 (F := Ideal) x1) x2 x3) _ ?_ y (cover0_A_4 c i a2 h2 a3 h3 a4 h4 a5 h5 a6 h6 a7 h7 hc x0 x1 x2 x3 y)
  unfold kernelRun0_A
  dsimp only
  sl_unfold_words
  simp only [View.readCov_unit_zero (S := S2048x1024) _ hz2, View.readAt_eq_ld, h2.read_unread, h3.read_unread, h4.read_unread, h5.read_unread,
    View.ld_unit_zero (S := S1x2048x1024) hz3, View.ld_unit_zero (S := S1x1x1024) hz3]
  intro p hp x
  simp only [List.mem_cons, List.not_mem_nil, or_false] at hp
  rcases hp with rfl | rfl | rfl | rfl <;> exact rows_apply _ _ _ x0 _ x2 x3 x

/-- … and leaves the cast weight block in the scratch. -/
theorem sout_A (hc : cond0_0 i) :
    sout0_A_0 c i a2 h2 a3 h3 a4 h4 a5 h5 a6 h6 a7 h7 hc x0 x1 x2 x3 = k0_pay3 (F := Ideal) x1 := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_unit_zero hz2]
  simp only [View.readAt_eq_ld, h3.read_unread, View.ld_unit_zero (S := S1x2048x1024) hz3]

/-- At every other row block the body multiplies by what the scratch holds. -/
theorem out_B (hc : ¬cond0_0 i) (xs : Vec Ideal S2048x1024 .bf16) : out0_B_4 c i a2 h2 a3 h3 a4 h4 a5 h5 a6 h6 a7 h7 hc x0 x1 x2 x3 xs = blockOut x0 xs x2 x3 := by
  unfold out0_B_4
  rw [View.read_writes_eq_canon _ _ _ (cover0_B_4 c i a2 h2 a3 h3 a4 h4 a5 h5 a6 h6 a7 h7 hc x0 x1 x2 x3 xs)]
  funext y
  refine View.canon_apply_of_pieces (blockOut x0 xs x2 x3) _ ?_ y (cover0_B_4 c i a2 h2 a3 h3 a4 h4 a5 h5 a6 h6 a7 h7 hc x0 x1 x2 x3 xs y)
  unfold kernelRun0_B
  dsimp only
  sl_unfold_words
  simp only [View.readAt_eq_ld, h2.read_unread, h4.read_unread, h5.read_unread, h7.read_unread, View.ld_unit_zero (S := S2048x1024) hz2,
    View.ld_unit_zero (S := S1x1x1024) hz3]
  intro p hp x
  simp only [List.mem_cons, List.not_mem_nil, or_false] at hp
  rcases hp with rfl | rfl | rfl | rfl <;> exact rows_apply _ _ _ x0 _ x2 x3 x

end

/-- The biases, as the host leaves them for the call. -/
theorem V_main_v0 (c : Dev nD) : (V m c main_v0 : Vec Ideal S2x1x2048 .f32)
    = shapeCast S2x1x2048 (m (c.tc.loc main_arg3)) facts.shapeCasts_S2x2048_S2x1x2048 := by
  show StableHlo.after hostOps0 (fun b => m (c, b)) main_v0 = _
  after_results <;> rfl

/-- The block of the biases that point `t` sees. -/
theorem iblk3_apply (c : Dev nD) (t : Fin cfg0.N) (j : Fin 1024) (h : t.val / 8 * 1024 + j.val < 2048) :
    (iblk m c 3 t : Vec Ideal S1x1x1024 .f32) (ix3 0 0 j) = m (c.tc.loc main_arg3) (ix2 0 ⟨t.val / 8 * 1024 + j.val, h⟩) := by
  have hi : ∀ t : Fin cfg0.N, win0_3.index t 0 = 0 ∧ win0_3.index t 1 = 0 ∧ win0_3.index t 2 = t.val / 8 :=
    (by decide +kernel : ∀ t : Fin grid0.N, _)
  have e : (iblk m c 3 t : Vec Ideal S1x1x1024 .f32) (ix3 0 0 j) = (V m c main_v0 : Vec Ideal S2x1x2048 .f32) (ix3 0 0 ⟨t.val / 8 * 1024 + j.val, h⟩) := by
    unfold iblk
    rw [View.read_apply]
    show V m c main_v0 _ = V m c main_v0 _
    congr 1
    funext a
    apply Fin.ext
    match a with
    | ⟨0, _⟩ => show win0_3.index t 0 * 1 + 1 * 0 = 0; rw [(hi t).1]
    | ⟨1, _⟩ => show win0_3.index t 1 * 1 + 1 * 0 = 0; rw [(hi t).2.1]
    | ⟨2, _⟩ => show win0_3.index t 2 * 1024 + 1 * j.val = t.val / 8 * 1024 + j.val; rw [(hi t).2.2]; omega
  rw [e, V_main_v0]
  pointwise

/-- The block of the weights that point `n` sees, by the column block `n / 8`. -/
theorem iblk1_apply (c : Dev nD) (t : Fin cfg0.N) (k : Fin 2048) (j : Fin 1024) (h : t.val / 8 * 1024 + j.val < 2048) :
    (iblk m c 1 t : Vec Ideal S1x2048x1024 .f32) (ix3 0 k j) = m (c.tc.loc main_arg2) (ix3 0 k ⟨t.val / 8 * 1024 + j.val, h⟩) := by
  have hi : ∀ t : Fin cfg0.N, win0_1.index t 0 = 0 ∧ win0_1.index t 1 = 0 ∧ win0_1.index t 2 = t.val / 8 :=
    (by decide +kernel : ∀ t : Fin grid0.N, _)
  unfold iblk
  rw [View.read_apply]
  show V m c main_arg2 _ = m (c.tc.loc main_arg2) _
  rw [V_main_arg2]
  congr 1
  funext a
  apply Fin.ext
  match a with
  | ⟨0, _⟩ => show win0_1.index t 0 * 1 + 1 * 0 = 0; rw [(hi t).1]
  | ⟨1, _⟩ => show win0_1.index t 1 * 2048 + 1 * k.val = k.val; rw [(hi t).2.1]; omega
  | ⟨2, _⟩ => show win0_1.index t 2 * 1024 + 1 * j.val = t.val / 8 * 1024 + j.val; rw [(hi t).2.2]; omega

/-- The block of the activation that point `t` sees: rows of the row block `t % 8`, every column. -/
theorem iblk0_apply (c : Dev nD) (t : Fin cfg0.N) (r : Fin 1024) (k : Fin 2048) (h : t.val % 8 * 1024 + r.val < 8192) :
    (iblk m c 0 t : Vec Ideal S1024x2048 .bf16) (ix2 r k) = m (c.tc.loc main_arg0) (ix2 ⟨t.val % 8 * 1024 + r.val, h⟩ k) := by
  have hi : ∀ t : Fin cfg0.N, win0_0.index t 0 = t.val % 8 ∧ win0_0.index t 1 = 0 :=
    (by decide +kernel : ∀ t : Fin grid0.N, _)
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = t.val % 8 * 1024 + r.val; rw [(hi t).1]; omega
  | ⟨1, _⟩ => show win0_0.index t 1 * 2048 + 1 * k.val = k.val; rw [(hi t).2]; omega

/-- The block of the residual stream that point `t` sees. -/
theorem iblk2_apply (c : Dev nD) (t : Fin cfg0.N) (r : Fin 1024) (j : Fin 1024) (h : t.val % 8 * 1024 + r.val < 8192) (h' : t.val / 8 * 1024 + j.val < 2048) :
    (iblk m c 2 t : Vec Ideal S1024x1024 .f32) (ix2 r j)
      = m (c.tc.loc main_arg1) (ix2 ⟨t.val % 8 * 1024 + r.val, h⟩ ⟨t.val / 8 * 1024 + j.val, h'⟩) := by
  have hi : ∀ t : Fin cfg0.N, win0_2.index t 0 = t.val % 8 ∧ win0_2.index t 1 = t.val / 8 :=
    (by decide +kernel : ∀ t : Fin grid0.N, _)
  unfold iblk
  rw [View.read_apply]
  show V m c main_arg1 _ = m (c.tc.loc main_arg1) _
  rw [V_main_arg1]
  congr 1
  funext a
  apply Fin.ext
  match a with
  | ⟨0, _⟩ => show win0_2.index t 0 * 1024 + 1 * r.val = t.val % 8 * 1024 + r.val; rw [(hi t).1]; omega
  | ⟨1, _⟩ => show win0_2.index t 1 * 1024 + 1 * j.val = t.val / 8 * 1024 + j.val; rw [(hi t).2]; omega

/-- Points of one column block see one weight block. -/
theorem iblk1_prev (c : Dev nD) (n : ℕ) (h : n + 1 < cfg0.N) (hn : ¬(n + 1) % 8 = 0) :
    (iblk m c 1 ⟨n, Nat.lt_of_succ_lt h⟩ : Vec Ideal S1x2048x1024 .f32) = iblk m c 1 ⟨n + 1, h⟩ := by
  have hN : cfg0.N = 16 := N_0
  funext y
  obtain ⟨k, j, rfl⟩ : ∃ (k : Fin 2048) (j : Fin 1024), y = ix3 0 k j := ⟨y 1, y 2, by
    rw [eq_ix3 y]; congr 1; exact Subsingleton.elim (α := Fin 1) _ _⟩
  rw [iblk1_apply m c ⟨n, _⟩ k j (by have := j.isLt; dsimp only; omega), iblk1_apply m c ⟨n + 1, h⟩ k j (by have := j.isLt; dsimp only; omega)]
  congr 2
  apply Fin.ext
  dsimp only
  omega

/-- After every point: the output block, the scratch at the cast weight block. -/
theorem outsAt_eq (c : Dev nD) : ∀ (n : ℕ) (h : n < cfg0.N), outsAt0 m c n h
    = (blockOut (iblk m c 0 ⟨n, h⟩) (k0_pay3 (F := Ideal) (iblk m c 1 ⟨n, h⟩)) (iblk m c 2 ⟨n, h⟩) (iblk m c 3 ⟨n, h⟩), k0_pay3 (F := Ideal) (iblk m c 1 ⟨n, h⟩))
  | 0, h => by rw [outsAt0_A m c ⟨0, h⟩ rfl, out_A, sout_A]
  | n + 1, h => by
    by_cases hn : (n + 1) % 8 = 0
    · rw [outsAt0_A m c ⟨n + 1, h⟩ hn, out_A, sout_A]
    · rw [outsAt0_B m c ⟨n + 1, h⟩ hn, out_B]
      unfold sout0_B_0
      show (blockOut _ (outsAt0 m c n _).2 _ _, (outsAt0 m c n _).2) = _
      rw [outsAt_eq c n, iblk1_prev m c n h hn]

/-- The residual stream plus the first layer's output projection of the row, with its bias. -/
def confOutAt (s : S8192x2048.Idx → EReal) (x : S8192x2048.Idx → EReal) (w : S2x2048x2048.Idx → EReal) (b : S2x2048.Idx → EReal)
    (r : Fin 8192) (j : Fin 2048) : EReal :=
  x (ix2 r j) + ((∑ k : Fin 2048, s (ix2 r k) * w (ix3 0 k j)) + b (ix2 0 j))

/-- The output array, index by index. -/
theorem G_apply (c : Dev nD) (r : Fin 8192) (j : Fin 2048) : G4 m c (ix2 r j)
    = confOutAt (m (c.tc.loc main_arg0)) (m (c.tc.loc main_arg1)) (m (c.tc.loc main_arg2))
        (m (c.tc.loc main_arg3)) r j := by
  unfold confOutAt
  have hN : cfg0.N = 16 := N_0
  have hr := r.isLt
  have hj := j.isLt
  have hp : pt4Of (ix2 r j) = r.val / 1024 + 8 * (j.val / 1024) := by
    show 1 * (r.val / 1024 - 0) + 8 * (j.val / 1024 - 0) = _; omega
  have hlt : pt4Of (ix2 r j) < cfg0.N := by rw [hp]; omega
  have hl : loc4Of (ix2 r j) = ix2 ⟨r.val % 1024, Nat.mod_lt _ (by decide)⟩ ⟨j.val % 1024, Nat.mod_lt _ (by decide)⟩ := by
    funext a; match a with
    | ⟨0, _⟩ => rfl
    | ⟨1, _⟩ => rfl
  have e1 : (pt4Of (ix2 r j)) % 8 = r.val / 1024 := by rw [hp]; omega
  have e2 : (pt4Of (ix2 r j)) / 8 = j.val / 1024 := by rw [hp]; omega
  have e3 : (⟨(pt4Of (ix2 r j)) % 8 * 1024 + r.val % 1024, by rw [e1]; omega⟩ : Fin 8192) = r := Fin.ext (by dsimp only; rw [e1]; omega)
  have e4 : (⟨(pt4Of (ix2 r j)) / 8 * 1024 + j.val % 1024, by rw [e2]; omega⟩ : Fin 2048) = j := Fin.ext (by dsimp only; rw [e2]; omega)
  unfold G4
  rw [dif_pos hlt, hl, ← outsAt0_sweep m c (pt4Of (ix2 r j)) hlt, outsAt_eq]
  dsimp only
  have q0 : ∀ k : Fin 2048, (iblk m c 0 ⟨pt4Of (ix2 r j), hlt⟩ : Vec Ideal S1024x2048 .bf16) (ix2 ⟨r.val % 1024, Nat.mod_lt _ (by decide)⟩ k)
      = m (c.tc.loc main_arg0) (ix2 r k) := fun k =>
    (iblk0_apply m c ⟨pt4Of (ix2 r j), hlt⟩ ⟨r.val % 1024, Nat.mod_lt _ (by decide)⟩ k (by dsimp only; rw [e1]; omega)).trans (by rw [e3])
  have q1 : ∀ k : Fin 2048, k0_pay3 (F := Ideal) (iblk m c 1 ⟨pt4Of (ix2 r j), hlt⟩) (ix2 k ⟨j.val % 1024, Nat.mod_lt _ (by decide)⟩)
      = m (c.tc.loc main_arg2) (ix3 0 k j) := fun k => by
    have e5 := iblk1_apply m c ⟨pt4Of (ix2 r j), hlt⟩ k ⟨j.val % 1024, Nat.mod_lt _ (by decide)⟩ (by dsimp only; rw [e2]; omega)
    rw [e4] at e5
    rw [← e5]
    generalize (iblk m c 1 ⟨pt4Of (ix2 r j), hlt⟩ : Vec Ideal S1x2048x1024 .f32) = X
    pointwise [k0_pay3]
  have q2 := iblk2_apply m c ⟨pt4Of (ix2 r j), hlt⟩ ⟨r.val % 1024, Nat.mod_lt _ (by decide)⟩ ⟨j.val % 1024, Nat.mod_lt _ (by decide)⟩
    (by dsimp only; rw [e1]; omega) (by dsimp only; rw [e2]; omega)
  have q3 := iblk3_apply m c ⟨pt4Of (ix2 r j), hlt⟩ ⟨j.val % 1024, Nat.mod_lt _ (by decide)⟩ (by dsimp only; rw [e2]; omega)
  rw [e3, e4] at q2
  rw [e4] at q3
  unfold blockOut
  exact congrArg₂ (· + ·) q2 (congrArg₂ (· + ·) (Finset.sum_congr rfl fun k _ => congrArg₂ (· * ·) (q0 k) (q1 k)) q3)

end Cert.KernelIdeal5.ConfOut

namespace Cert.Proof

/-- The reference's term is the array that the kernel leaves. -/
theorem confOut_ref (s x : Cert.KernelIdeal5.S8192x2048.Idx → EReal) (w : Cert.KernelIdeal5.S2x2048x2048.Idx → EReal) (b : Cert.KernelIdeal5.S2x2048.Idx → EReal) :
    (addf (F := Ideal) (φ := .f32) x (addf (F := Ideal) (φ := .f32) (Host.dotGeneral (F := Ideal) (φ₁ := .f32) (φ₂ := .f32) Cert.ReferenceIdeal5.dot_S8192x2048_S2048x2048_S8192x2048_1_0_0_1_n_n none
      (extf (F := Ideal) (φ := .bf16) .f32 s Cert.ReferenceIdeal5.Gen.facts.bitsLt_bf16_f32)
      (shapeCast Cert.ReferenceIdeal5.S2048x2048 (extractStridedSlice Cert.ReferenceIdeal5.S1x2048x2048 ![0, 0, 0] w Cert.ReferenceIdeal5.Gen.facts.slices_S2x2048x2048_S1x2048x2048_0_0_0)
        Cert.ReferenceIdeal5.Gen.facts.shapeCasts_S1x2048x2048_S2048x2048))
      (broadcastInDim Cert.ReferenceIdeal5.S8192x2048 ![0, 1] Cert.ReferenceIdeal5.Gen.facts.bcast_S1x2048_S8192x2048_0_1 (broadcastInDim Cert.ReferenceIdeal5.S1x2048 ![1] Cert.ReferenceIdeal5.Gen.facts.bcast_S2048_S1x2048_1
        (shapeCast Cert.ReferenceIdeal5.S2048 (extractStridedSlice Cert.ReferenceIdeal5.S1x2048 ![0, 0] b Cert.ReferenceIdeal5.Gen.facts.slices_S2x2048_S1x2048_0_0) Cert.ReferenceIdeal5.Gen.facts.shapeCasts_S1x2048_S2048)))))
    = fun i => Cert.KernelIdeal5.ConfOut.confOutAt s x w b (i 0) (i 1) := by
  funext i
  idx_vars i
  unfold Cert.KernelIdeal5.ConfOut.confOutAt
  pointwise

end Cert.Proof

end
-- ==== Proof.Down1.lean ====
module

public import proofs.«01_k».proof.Defs
public import proofs.«01_k».proof.Proof.Gen.KernelIdeal6.Value
public import proofs.«01_k».proof.Proof.Gen.ReferenceIdeal6.Run
public import Idealize.ShloMosaic.Lib.Pointwise
public import Idealize.ShloMosaic.Lib.Pointwise.Sums
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal6.Down1

open Cert.KernelIdeal6 Cert.KernelIdeal6.Gen Cert.KernelIdeal6.Value

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

section

variable (c : Dev nD) (i : grid0.Coords) (a2 : Memref sig .tc .vmem S512x5632 .bf16) (h2 : a2.IsWhole) (a3 : Memref sig .tc .vmem S1x5632x512 .f32)
    (h3 : a3.IsWhole) (a4 : Memref sig .tc .vmem S512x512 .f32) (h4 : a4.IsWhole) (a5 : Memref sig .tc .vmem S512x512 .f32) (h5 : a5.IsWhole)
    (a6 : Memref sig .tc .vmem S5632x512 .bf16) (h6 : a6.IsWhole) (x0 : Vec F S512x5632 .bf16) (x1 : Vec F S1x5632x512 .f32) (x2 : Vec F S512x512 .f32)

/-- At the first row block of a column block the body stores the cast weight block and multiplies by it. -/
theorem out_A (hc : cond0_0 i) :
    out0_A_3 c i a2 h2 a3 h3 a4 h4 a5 h5 a6 h6 hc x0 x1 x2 = k0_pay2 x0 (k0_pay1 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz2]
  simp only [View.readCov_unit_zero (S := S5632x512) _ hz2, View.readAt_eq_ld, h2.read_unread, h3.read_unread, h4.read_unread,
    View.ld_unit_zero (S := S512x5632) hz2, View.ld_unit_zero (S := S512x512) hz2, View.ld_unit_zero (S := S1x5632x512) hz3]

/-- … and leaves the cast weight block in the scratch. -/
theorem sout_A (hc : cond0_0 i) :
    sout0_A_0 c i a2 h2 a3 h3 a4 h4 a5 h5 a6 h6 hc x0 x1 x2 = k0_pay1 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz2]
  simp only [View.readAt_eq_ld, h3.read_unread, View.ld_unit_zero (S := S1x5632x512) hz3]

/-- At every other row block the body multiplies by what the scratch holds. -/
theorem out_B (hc : ¬cond0_0 i) (xs : Vec F S5632x512 .bf16) :
    out0_B_3 c i a2 h2 a3 h3 a4 h4 a5 h5 a6 h6 hc x0 x1 x2 xs = k0_pay2 x0 xs x2 := by
  unfold out0_B_3
  rw [View.read_writes_eq_canon _ _ _ (cover0_B_3 c i a2 h2 a3 h3 a4 h4 a5 h5 a6 h6 hc x0 x1 x2 xs)]
  unfold kernelRun0_B
  dsimp only
  sl_unfold_words
  rw [View.canon_unit_zero hz2]
  simp only [View.readAt_eq_ld, h2.read_unread, h4.read_unread, h6.read_unread, View.ld_unit_zero (S := S5632x512) hz2,
    View.ld_unit_zero (S := S512x5632) hz2, View.ld_unit_zero (S := S512x512) hz2]

end

/-- The block of the weights that point `n` sees, by the column block `n / 16`. -/
theorem iblk1_apply (c : Dev nD) (t : Fin cfg0.N) (k : Fin 5632) (j : Fin 512) (h : t.val / 16 * 512 + j.val < 2048) :
    (iblk m c 1 t : Vec F S1x5632x512 .f32) (ix3 0 k j) = m (c.tc.loc main_arg2) (ix3 1 k ⟨t.val / 16 * 512 + j.val, h⟩) := by
  have hi : ∀ t : Fin cfg0.N, win0_1.index t 0 = 1 ∧ win0_1.index t 1 = 0 ∧ win0_1.index t 2 = t.val / 16 :=
    (by decide +kernel : ∀ t : Fin grid0.N, _)
  unfold iblk
  rw [View.read_apply]
  show V m c main_arg2 _ = m (c.tc.loc main_arg2) _
  rw [V_main_arg2]
  congr 1
  funext a
  apply Fin.ext
  match a with
  | ⟨0, _⟩ => show win0_1.index t 0 * 1 + 1 * 0 = 1; rw [(hi t).1]
  | ⟨1, _⟩ => show win0_1.index t 1 * 5632 + 1 * k.val = k.val; rw [(hi t).2.1]; omega
  | ⟨2, _⟩ => show win0_1.index t 2 * 512 + 1 * j.val = t.val / 16 * 512 + j.val; rw [(hi t).2.2]; omega

/-- The block of the activation that point `t` sees: rows of the row block `t % 16`, every column. -/
theorem iblk0_apply (c : Dev nD) (t : Fin cfg0.N) (r : Fin 512) (k : Fin 5632) (h : t.val % 16 * 512 + r.val < 8192) :
    (iblk m c 0 t : Vec F S512x5632 .bf16) (ix2 r k) = m (c.tc.loc main_arg0) (ix2 ⟨t.val % 16 * 512 + r.val, h⟩ k) := by
  have hi : ∀ t : Fin cfg0.N, win0_0.index t 0 = t.val % 16 ∧ win0_0.index t 1 = 0 :=
    (by decide +kernel : ∀ t : Fin grid0.N, _)
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = t.val % 16 * 512 + r.val; rw [(hi t).1]; omega
  | ⟨1, _⟩ => show win0_0.index t 1 * 5632 + 1 * k.val = k.val; rw [(hi t).2]; omega

/-- The block of the residual stream that point `t` sees. -/
theorem iblk2_apply (c : Dev nD) (t : Fin cfg0.N) (r j : Fin 512) (h : t.val % 16 * 512 + r.val < 8192) (h' : t.val / 16 * 512 + j.val < 2048) :
    (iblk m c 2 t : Vec F S512x512 .f32) (ix2 r j)
      = m (c.tc.loc main_arg1) (ix2 ⟨t.val % 16 * 512 + r.val, h⟩ ⟨t.val / 16 * 512 + j.val, h'⟩) := by
  have hi : ∀ t : Fin cfg0.N, win0_2.index t 0 = t.val % 16 ∧ win0_2.index t 1 = t.val / 16 :=
    (by decide +kernel : ∀ t : Fin grid0.N, _)
  unfold iblk
  rw [View.read_apply]
  show V m c main_arg1 _ = m (c.tc.loc main_arg1) _
  rw [V_main_arg1]
  congr 1
  funext a
  apply Fin.ext
  match a with
  | ⟨0, _⟩ => show win0_2.index t 0 * 512 + 1 * r.val = t.val % 16 * 512 + r.val; rw [(hi t).1]; omega
  | ⟨1, _⟩ => show win0_2.index t 1 * 512 + 1 * j.val = t.val / 16 * 512 + j.val; rw [(hi t).2]; omega

/-- Points of one column block see one weight block. -/
theorem iblk1_prev (c : Dev nD) (n : ℕ) (h : n + 1 < cfg0.N) (hn : ¬(n + 1) % 16 = 0) :
    (iblk m c 1 ⟨n, Nat.lt_of_succ_lt h⟩ : Vec F S1x5632x512 .f32) = iblk m c 1 ⟨n + 1, h⟩ := by
  have hN : cfg0.N = 64 := N_0
  funext y
  obtain ⟨k, j, rfl⟩ : ∃ (k : Fin 5632) (j : Fin 512), y = ix3 0 k j := ⟨y 1, y 2, by
    rw [eq_ix3 y]; congr 1; exact Subsingleton.elim (α := Fin 1) _ _⟩
  rw [iblk1_apply m c ⟨n, _⟩ k j (by have := j.isLt; dsimp only; omega), iblk1_apply m c ⟨n + 1, h⟩ k j (by have := j.isLt; dsimp only; omega)]
  congr 2
  apply Fin.ext
  dsimp only
  omega

/-- After every point: the output block at the residual plus the product, the scratch at the cast weight block. -/
theorem outsAt_eq (c : Dev nD) : ∀ (n : ℕ) (h : n < cfg0.N), outsAt0 m c n h
    = (k0_pay2 (iblk m c 0 ⟨n, h⟩) (k0_pay1 (iblk m c 1 ⟨n, h⟩)) (iblk m c 2 ⟨n, h⟩), k0_pay1 (iblk m c 1 ⟨n, h⟩))
  | 0, h => by rw [outsAt0_A m c ⟨0, h⟩ rfl, out_A, sout_A]
  | n + 1, h => by
    by_cases hn : (n + 1) % 16 = 0
    · rw [outsAt0_A m c ⟨n + 1, h⟩ hn, out_A, sout_A]
    · rw [outsAt0_B m c ⟨n + 1, h⟩ hn, out_B]
      unfold sout0_B_0
      show (k0_pay2 _ (outsAt0 m c n _).2 _, (outsAt0 m c n _).2) = _
      rw [outsAt_eq c n, iblk1_prev m c n h hn]

end Cert.KernelIdeal6.Down1

namespace Cert.KernelIdeal6.Down1

open Cert.KernelIdeal6 Cert.KernelIdeal6.Gen Cert.KernelIdeal6.Value

variable (m : (ℓ : Loc nD τ sig) → Buf (Elt Ideal) ℓ)

/-- The residual stream plus the row of the activation times the column of layer 1's down projection. -/
def downAt (act : S8192x5632.Idx → EReal) (x : S8192x2048.Idx → EReal) (w : S4x5632x2048.Idx → EReal) (r : Fin 8192) (j : Fin 2048) : EReal :=
  x (ix2 r j) + ∑ k : Fin 5632, act (ix2 r k) * w (ix3 1 k j)

/-- The output array: at row `r` and column `j` the residual plus the row of the activation times the column of the weights. -/
theorem G_apply (c : Dev nD) (r : Fin 8192) (j : Fin 2048) : G3 m c (ix2 r j)
    = downAt (m (c.tc.loc main_arg0)) (m (c.tc.loc main_arg1)) (m (c.tc.loc main_arg2)) r j := by
  unfold downAt
  have hN : cfg0.N = 64 := N_0
  have hr := r.isLt
  have hj := j.isLt
  have hp : pt3Of (ix2 r j) = r.val / 512 + 16 * (j.val / 512) := by
    show 1 * (r.val / 512 - 0) + 16 * (j.val / 512 - 0) = _; omega
  have hlt : pt3Of (ix2 r j) < cfg0.N := by rw [hp]; omega
  have hl : loc3Of (ix2 r j) = ix2 ⟨r.val % 512, Nat.mod_lt _ (by decide)⟩ ⟨j.val % 512, Nat.mod_lt _ (by decide)⟩ := by
    funext a; match a with
    | ⟨0, _⟩ => rfl
    | ⟨1, _⟩ => rfl
  unfold G3
  rw [dif_pos hlt, hl, ← outsAt0_sweep m c (pt3Of (ix2 r j)) hlt, outsAt_eq]
  dsimp only
  pointwise [k0_pay2, k0_pay1]
  have e1 : (pt3Of (ix2 r j)) % 16 = r.val / 512 := by rw [hp]; omega
  have e2 : (pt3Of (ix2 r j)) / 16 = j.val / 512 := by rw [hp]; omega
  have e3 : (⟨(pt3Of (ix2 r j)) % 16 * 512 + r.val % 512, by rw [e1]; omega⟩ : Fin 8192) = r := Fin.ext (by dsimp only; rw [e1]; omega)
  have e4 : (⟨(pt3Of (ix2 r j)) / 16 * 512 + j.val % 512, by rw [e2]; omega⟩ : Fin 2048) = j := Fin.ext (by dsimp only; rw [e2]; omega)
  rw [iblk2_apply m c ⟨pt3Of (ix2 r j), hlt⟩ _ _ (by dsimp only; rw [e1]; omega) (by dsimp only; rw [e2]; omega)]
  simp only [iblk0_apply m c ⟨pt3Of (ix2 r j), hlt⟩ _ _ (by dsimp only; rw [e1]; omega : (⟨pt3Of (ix2 r j), hlt⟩ : Fin cfg0.N).val % 16 * 512 + (⟨r.val % 512, Nat.mod_lt _ (by decide)⟩ : Fin 512).val < 8192),
    iblk1_apply m c ⟨pt3Of (ix2 r j), hlt⟩ _ _ (by dsimp only; rw [e2]; omega : (⟨pt3Of (ix2 r j), hlt⟩ : Fin cfg0.N).val / 16 * 512 + (⟨j.val % 512, Nat.mod_lt _ (by decide)⟩ : Fin 512).val < 2048), e3, e4]

end Cert.KernelIdeal6.Down1

namespace Cert.Proof

/-- The reference's term is the array that the kernel leaves. -/
theorem down1_ref (act : Cert.KernelIdeal6.S8192x5632.Idx → EReal) (x : Cert.KernelIdeal6.S8192x2048.Idx → EReal) (w : Cert.KernelIdeal6.S4x5632x2048.Idx → EReal) :
    (addf (F := Ideal) (φ := .f32) x (Host.dotGeneral (F := Ideal) (φ₁ := .f32) (φ₂ := .f32) Cert.ReferenceIdeal6.dot_S8192x5632_S5632x2048_S8192x2048_1_0_0_1_n_n none
      (extf (F := Ideal) (φ := .bf16) .f32 act Cert.ReferenceIdeal6.Gen.facts.bitsLt_bf16_f32)
      (shapeCast Cert.ReferenceIdeal6.S5632x2048 (extractStridedSlice Cert.ReferenceIdeal6.S1x5632x2048 ![1, 0, 0] w Cert.ReferenceIdeal6.Gen.facts.slices_S4x5632x2048_S1x5632x2048_1_0_0)
        Cert.ReferenceIdeal6.Gen.facts.shapeCasts_S1x5632x2048_S5632x2048)))
    = fun i => Cert.KernelIdeal6.Down1.downAt act x w (i 0) (i 1) := by
  funext i
  idx_vars i
  unfold Cert.KernelIdeal6.Down1.downAt
  pointwise

end Cert.Proof

end
-- ==== Proof.Down2.lean ====
module

public import proofs.«01_k».proof.Defs
public import proofs.«01_k».proof.Proof.Gen.KernelIdeal7.Value
public import proofs.«01_k».proof.Proof.Gen.ReferenceIdeal7.Run
public import Idealize.ShloMosaic.Lib.Pointwise
public import Idealize.ShloMosaic.Lib.Pointwise.Sums
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal7.Down2

open Cert.KernelIdeal7 Cert.KernelIdeal7.Gen Cert.KernelIdeal7.Value

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

section

variable (c : Dev nD) (i : grid0.Coords) (a2 : Memref sig .tc .vmem S512x5632 .bf16) (h2 : a2.IsWhole) (a3 : Memref sig .tc .vmem S1x5632x512 .f32)
    (h3 : a3.IsWhole) (a4 : Memref sig .tc .vmem S512x512 .f32) (h4 : a4.IsWhole) (a5 : Memref sig .tc .vmem S512x512 .f32) (h5 : a5.IsWhole)
    (a6 : Memref sig .tc .vmem S5632x512 .bf16) (h6 : a6.IsWhole) (x0 : Vec F S512x5632 .bf16) (x1 : Vec F S1x5632x512 .f32) (x2 : Vec F S512x512 .f32)

/-- At the first row block of a column block the body stores the cast weight block and multiplies by it. -/
theorem out_A (hc : cond0_0 i) :
    out0_A_3 c i a2 h2 a3 h3 a4 h4 a5 h5 a6 h6 hc x0 x1 x2 = k0_pay2 x0 (k0_pay1 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz2]
  simp only [View.readCov_unit_zero (S := S5632x512) _ hz2, View.readAt_eq_ld, h2.read_unread, h3.read_unread, h4.read_unread,
    View.ld_unit_zero (S := S512x5632) hz2, View.ld_unit_zero (S := S512x512) hz2, View.ld_unit_zero (S := S1x5632x512) hz3]

/-- … and leaves the cast weight block in the scratch. -/
theorem sout_A (hc : cond0_0 i) :
    sout0_A_0 c i a2 h2 a3 h3 a4 h4 a5 h5 a6 h6 hc x0 x1 x2 = k0_pay1 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz2]
  simp only [View.readAt_eq_ld, h3.read_unread, View.ld_unit_zero (S := S1x5632x512) hz3]

/-- At every other row block the body multiplies by what the scratch holds. -/
theorem out_B (hc : ¬cond0_0 i) (xs : Vec F S5632x512 .bf16) :
    out0_B_3 c i a2 h2 a3 h3 a4 h4 a5 h5 a6 h6 hc x0 x1 x2 xs = k0_pay2 x0 xs x2 := by
  unfold out0_B_3
  rw [View.read_writes_eq_canon _ _ _ (cover0_B_3 c i a2 h2 a3 h3 a4 h4 a5 h5 a6 h6 hc x0 x1 x2 xs)]
  unfold kernelRun0_B
  dsimp only
  sl_unfold_words
  rw [View.canon_unit_zero hz2]
  simp only [View.readAt_eq_ld, h2.read_unread, h4.read_unread, h6.read_unread, View.ld_unit_zero (S := S5632x512) hz2,
    View.ld_unit_zero (S := S512x5632) hz2, View.ld_unit_zero (S := S512x512) hz2]

end

/-- The block of the weights that point `n` sees, by the column block `n / 16`. -/
theorem iblk1_apply (c : Dev nD) (t : Fin cfg0.N) (k : Fin 5632) (j : Fin 512) (h : t.val / 16 * 512 + j.val < 2048) :
    (iblk m c 1 t : Vec F S1x5632x512 .f32) (ix3 0 k j) = m (c.tc.loc main_arg2) (ix3 2 k ⟨t.val / 16 * 512 + j.val, h⟩) := by
  have hi : ∀ t : Fin cfg0.N, win0_1.index t 0 = 2 ∧ win0_1.index t 1 = 0 ∧ win0_1.index t 2 = t.val / 16 :=
    (by decide +kernel : ∀ t : Fin grid0.N, _)
  unfold iblk
  rw [View.read_apply]
  show V m c main_arg2 _ = m (c.tc.loc main_arg2) _
  rw [V_main_arg2]
  congr 1
  funext a
  apply Fin.ext
  match a with
  | ⟨0, _⟩ => show win0_1.index t 0 * 1 + 1 * 0 = 2; rw [(hi t).1]
  | ⟨1, _⟩ => show win0_1.index t 1 * 5632 + 1 * k.val = k.val; rw [(hi t).2.1]; omega
  | ⟨2, _⟩ => show win0_1.index t 2 * 512 + 1 * j.val = t.val / 16 * 512 + j.val; rw [(hi t).2.2]; omega

/-- The block of the activation that point `t` sees: rows of the row block `t % 16`, every column. -/
theorem iblk0_apply (c : Dev nD) (t : Fin cfg0.N) (r : Fin 512) (k : Fin 5632) (h : t.val % 16 * 512 + r.val < 8192) :
    (iblk m c 0 t : Vec F S512x5632 .bf16) (ix2 r k) = m (c.tc.loc main_arg0) (ix2 ⟨t.val % 16 * 512 + r.val, h⟩ k) := by
  have hi : ∀ t : Fin cfg0.N, win0_0.index t 0 = t.val % 16 ∧ win0_0.index t 1 = 0 :=
    (by decide +kernel : ∀ t : Fin grid0.N, _)
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = t.val % 16 * 512 + r.val; rw [(hi t).1]; omega
  | ⟨1, _⟩ => show win0_0.index t 1 * 5632 + 1 * k.val = k.val; rw [(hi t).2]; omega

/-- The block of the residual stream that point `t` sees. -/
theorem iblk2_apply (c : Dev nD) (t : Fin cfg0.N) (r j : Fin 512) (h : t.val % 16 * 512 + r.val < 8192) (h' : t.val / 16 * 512 + j.val < 2048) :
    (iblk m c 2 t : Vec F S512x512 .f32) (ix2 r j)
      = m (c.tc.loc main_arg1) (ix2 ⟨t.val % 16 * 512 + r.val, h⟩ ⟨t.val / 16 * 512 + j.val, h'⟩) := by
  have hi : ∀ t : Fin cfg0.N, win0_2.index t 0 = t.val % 16 ∧ win0_2.index t 1 = t.val / 16 :=
    (by decide +kernel : ∀ t : Fin grid0.N, _)
  unfold iblk
  rw [View.read_apply]
  show V m c main_arg1 _ = m (c.tc.loc main_arg1) _
  rw [V_main_arg1]
  congr 1
  funext a
  apply Fin.ext
  match a with
  | ⟨0, _⟩ => show win0_2.index t 0 * 512 + 1 * r.val = t.val % 16 * 512 + r.val; rw [(hi t).1]; omega
  | ⟨1, _⟩ => show win0_2.index t 1 * 512 + 1 * j.val = t.val / 16 * 512 + j.val; rw [(hi t).2]; omega

/-- Points of one column block see one weight block. -/
theorem iblk1_prev (c : Dev nD) (n : ℕ) (h : n + 1 < cfg0.N) (hn : ¬(n + 1) % 16 = 0) :
    (iblk m c 1 ⟨n, Nat.lt_of_succ_lt h⟩ : Vec F S1x5632x512 .f32) = iblk m c 1 ⟨n + 1, h⟩ := by
  have hN : cfg0.N = 64 := N_0
  funext y
  obtain ⟨k, j, rfl⟩ : ∃ (k : Fin 5632) (j : Fin 512), y = ix3 0 k j := ⟨y 1, y 2, by
    rw [eq_ix3 y]; congr 1; exact Subsingleton.elim (α := Fin 1) _ _⟩
  rw [iblk1_apply m c ⟨n, _⟩ k j (by have := j.isLt; dsimp only; omega), iblk1_apply m c ⟨n + 1, h⟩ k j (by have := j.isLt; dsimp only; omega)]
  congr 2
  apply Fin.ext
  dsimp only
  omega

/-- After every point: the output block at the residual plus the product, the scratch at the cast weight block. -/
theorem outsAt_eq (c : Dev nD) : ∀ (n : ℕ) (h : n < cfg0.N), outsAt0 m c n h
    = (k0_pay2 (iblk m c 0 ⟨n, h⟩) (k0_pay1 (iblk m c 1 ⟨n, h⟩)) (iblk m c 2 ⟨n, h⟩), k0_pay1 (iblk m c 1 ⟨n, h⟩))
  | 0, h => by rw [outsAt0_A m c ⟨0, h⟩ rfl, out_A, sout_A]
  | n + 1, h => by
    by_cases hn : (n + 1) % 16 = 0
    · rw [outsAt0_A m c ⟨n + 1, h⟩ hn, out_A, sout_A]
    · rw [outsAt0_B m c ⟨n + 1, h⟩ hn, out_B]
      unfold sout0_B_0
      show (k0_pay2 _ (outsAt0 m c n _).2 _, (outsAt0 m c n _).2) = _
      rw [outsAt_eq c n, iblk1_prev m c n h hn]

end Cert.KernelIdeal7.Down2

namespace Cert.KernelIdeal7.Down2

open Cert.KernelIdeal7 Cert.KernelIdeal7.Gen Cert.KernelIdeal7.Value

variable (m : (ℓ : Loc nD τ sig) → Buf (Elt Ideal) ℓ)

/-- The residual stream plus the row of the activation times the column of layer 2's down projection. -/
def downAt (act : S8192x5632.Idx → EReal) (x : S8192x2048.Idx → EReal) (w : S4x5632x2048.Idx → EReal) (r : Fin 8192) (j : Fin 2048) : EReal :=
  x (ix2 r j) + ∑ k : Fin 5632, act (ix2 r k) * w (ix3 2 k j)

/-- The output array: at row `r` and column `j` the residual plus the row of the activation times the column of the weights. -/
theorem G_apply (c : Dev nD) (r : Fin 8192) (j : Fin 2048) : G3 m c (ix2 r j)
    = downAt (m (c.tc.loc main_arg0)) (m (c.tc.loc main_arg1)) (m (c.tc.loc main_arg2)) r j := by
  unfold downAt
  have hN : cfg0.N = 64 := N_0
  have hr := r.isLt
  have hj := j.isLt
  have hp : pt3Of (ix2 r j) = r.val / 512 + 16 * (j.val / 512) := by
    show 1 * (r.val / 512 - 0) + 16 * (j.val / 512 - 0) = _; omega
  have hlt : pt3Of (ix2 r j) < cfg0.N := by rw [hp]; omega
  have hl : loc3Of (ix2 r j) = ix2 ⟨r.val % 512, Nat.mod_lt _ (by decide)⟩ ⟨j.val % 512, Nat.mod_lt _ (by decide)⟩ := by
    funext a; match a with
    | ⟨0, _⟩ => rfl
    | ⟨1, _⟩ => rfl
  unfold G3
  rw [dif_pos hlt, hl, ← outsAt0_sweep m c (pt3Of (ix2 r j)) hlt, outsAt_eq]
  dsimp only
  pointwise [k0_pay2, k0_pay1]
  have e1 : (pt3Of (ix2 r j)) % 16 = r.val / 512 := by rw [hp]; omega
  have e2 : (pt3Of (ix2 r j)) / 16 = j.val / 512 := by rw [hp]; omega
  have e3 : (⟨(pt3Of (ix2 r j)) % 16 * 512 + r.val % 512, by rw [e1]; omega⟩ : Fin 8192) = r := Fin.ext (by dsimp only; rw [e1]; omega)
  have e4 : (⟨(pt3Of (ix2 r j)) / 16 * 512 + j.val % 512, by rw [e2]; omega⟩ : Fin 2048) = j := Fin.ext (by dsimp only; rw [e2]; omega)
  rw [iblk2_apply m c ⟨pt3Of (ix2 r j), hlt⟩ _ _ (by dsimp only; rw [e1]; omega) (by dsimp only; rw [e2]; omega)]
  simp only [iblk0_apply m c ⟨pt3Of (ix2 r j), hlt⟩ _ _ (by dsimp only; rw [e1]; omega : (⟨pt3Of (ix2 r j), hlt⟩ : Fin cfg0.N).val % 16 * 512 + (⟨r.val % 512, Nat.mod_lt _ (by decide)⟩ : Fin 512).val < 8192),
    iblk1_apply m c ⟨pt3Of (ix2 r j), hlt⟩ _ _ (by dsimp only; rw [e2]; omega : (⟨pt3Of (ix2 r j), hlt⟩ : Fin cfg0.N).val / 16 * 512 + (⟨j.val % 512, Nat.mod_lt _ (by decide)⟩ : Fin 512).val < 2048), e3, e4]

end Cert.KernelIdeal7.Down2

namespace Cert.Proof

/-- The reference's term is the array that the kernel leaves. -/
theorem down2_ref (act : Cert.KernelIdeal7.S8192x5632.Idx → EReal) (x : Cert.KernelIdeal7.S8192x2048.Idx → EReal) (w : Cert.KernelIdeal7.S4x5632x2048.Idx → EReal) :
    (addf (F := Ideal) (φ := .f32) x (Host.dotGeneral (F := Ideal) (φ₁ := .f32) (φ₂ := .f32) Cert.ReferenceIdeal7.dot_S8192x5632_S5632x2048_S8192x2048_1_0_0_1_n_n none
      (extf (F := Ideal) (φ := .bf16) .f32 act Cert.ReferenceIdeal7.Gen.facts.bitsLt_bf16_f32)
      (shapeCast Cert.ReferenceIdeal7.S5632x2048 (extractStridedSlice Cert.ReferenceIdeal7.S1x5632x2048 ![2, 0, 0] w Cert.ReferenceIdeal7.Gen.facts.slices_S4x5632x2048_S1x5632x2048_2_0_0)
        Cert.ReferenceIdeal7.Gen.facts.shapeCasts_S1x5632x2048_S5632x2048)))
    = fun i => Cert.KernelIdeal7.Down2.downAt act x w (i 0) (i 1) := by
  funext i
  idx_vars i
  unfold Cert.KernelIdeal7.Down2.downAt
  pointwise

end Cert.Proof

end
-- ==== Proof.Down3.lean ====
module

public import proofs.«01_k».proof.Defs
public import proofs.«01_k».proof.Proof.Gen.KernelIdeal8.Value
public import proofs.«01_k».proof.Proof.Gen.ReferenceIdeal8.Run
public import Idealize.ShloMosaic.Lib.Pointwise
public import Idealize.ShloMosaic.Lib.Pointwise.Sums
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal8.Down3

open Cert.KernelIdeal8 Cert.KernelIdeal8.Gen Cert.KernelIdeal8.Value

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

section

variable (c : Dev nD) (i : grid0.Coords) (a2 : Memref sig .tc .vmem S512x5632 .bf16) (h2 : a2.IsWhole) (a3 : Memref sig .tc .vmem S1x5632x512 .f32)
    (h3 : a3.IsWhole) (a4 : Memref sig .tc .vmem S512x512 .f32) (h4 : a4.IsWhole) (a5 : Memref sig .tc .vmem S512x512 .f32) (h5 : a5.IsWhole)
    (a6 : Memref sig .tc .vmem S5632x512 .bf16) (h6 : a6.IsWhole) (x0 : Vec F S512x5632 .bf16) (x1 : Vec F S1x5632x512 .f32) (x2 : Vec F S512x512 .f32)

/-- At the first row block of a column block the body stores the cast weight block and multiplies by it. -/
theorem out_A (hc : cond0_0 i) :
    out0_A_3 c i a2 h2 a3 h3 a4 h4 a5 h5 a6 h6 hc x0 x1 x2 = k0_pay2 x0 (k0_pay1 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz2]
  simp only [View.readCov_unit_zero (S := S5632x512) _ hz2, View.readAt_eq_ld, h2.read_unread, h3.read_unread, h4.read_unread,
    View.ld_unit_zero (S := S512x5632) hz2, View.ld_unit_zero (S := S512x512) hz2, View.ld_unit_zero (S := S1x5632x512) hz3]

/-- … and leaves the cast weight block in the scratch. -/
theorem sout_A (hc : cond0_0 i) :
    sout0_A_0 c i a2 h2 a3 h3 a4 h4 a5 h5 a6 h6 hc x0 x1 x2 = k0_pay1 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz2]
  simp only [View.readAt_eq_ld, h3.read_unread, View.ld_unit_zero (S := S1x5632x512) hz3]

/-- At every other row block the body multiplies by what the scratch holds. -/
theorem out_B (hc : ¬cond0_0 i) (xs : Vec F S5632x512 .bf16) :
    out0_B_3 c i a2 h2 a3 h3 a4 h4 a5 h5 a6 h6 hc x0 x1 x2 xs = k0_pay2 x0 xs x2 := by
  unfold out0_B_3
  rw [View.read_writes_eq_canon _ _ _ (cover0_B_3 c i a2 h2 a3 h3 a4 h4 a5 h5 a6 h6 hc x0 x1 x2 xs)]
  unfold kernelRun0_B
  dsimp only
  sl_unfold_words
  rw [View.canon_unit_zero hz2]
  simp only [View.readAt_eq_ld, h2.read_unread, h4.read_unread, h6.read_unread, View.ld_unit_zero (S := S5632x512) hz2,
    View.ld_unit_zero (S := S512x5632) hz2, View.ld_unit_zero (S := S512x512) hz2]

end

/-- The block of the weights that point `n` sees, by the column block `n / 16`. -/
theorem iblk1_apply (c : Dev nD) (t : Fin cfg0.N) (k : Fin 5632) (j : Fin 512) (h : t.val / 16 * 512 + j.val < 2048) :
    (iblk m c 1 t : Vec F S1x5632x512 .f32) (ix3 0 k j) = m (c.tc.loc main_arg2) (ix3 3 k ⟨t.val / 16 * 512 + j.val, h⟩) := by
  have hi : ∀ t : Fin cfg0.N, win0_1.index t 0 = 3 ∧ win0_1.index t 1 = 0 ∧ win0_1.index t 2 = t.val / 16 :=
    (by decide +kernel : ∀ t : Fin grid0.N, _)
  unfold iblk
  rw [View.read_apply]
  show V m c main_arg2 _ = m (c.tc.loc main_arg2) _
  rw [V_main_arg2]
  congr 1
  funext a
  apply Fin.ext
  match a with
  | ⟨0, _⟩ => show win0_1.index t 0 * 1 + 1 * 0 = 3; rw [(hi t).1]
  | ⟨1, _⟩ => show win0_1.index t 1 * 5632 + 1 * k.val = k.val; rw [(hi t).2.1]; omega
  | ⟨2, _⟩ => show win0_1.index t 2 * 512 + 1 * j.val = t.val / 16 * 512 + j.val; rw [(hi t).2.2]; omega

/-- The block of the activation that point `t` sees: rows of the row block `t % 16`, every column. -/
theorem iblk0_apply (c : Dev nD) (t : Fin cfg0.N) (r : Fin 512) (k : Fin 5632) (h : t.val % 16 * 512 + r.val < 8192) :
    (iblk m c 0 t : Vec F S512x5632 .bf16) (ix2 r k) = m (c.tc.loc main_arg0) (ix2 ⟨t.val % 16 * 512 + r.val, h⟩ k) := by
  have hi : ∀ t : Fin cfg0.N, win0_0.index t 0 = t.val % 16 ∧ win0_0.index t 1 = 0 :=
    (by decide +kernel : ∀ t : Fin grid0.N, _)
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = t.val % 16 * 512 + r.val; rw [(hi t).1]; omega
  | ⟨1, _⟩ => show win0_0.index t 1 * 5632 + 1 * k.val = k.val; rw [(hi t).2]; omega

/-- The block of the residual stream that point `t` sees. -/
theorem iblk2_apply (c : Dev nD) (t : Fin cfg0.N) (r j : Fin 512) (h : t.val % 16 * 512 + r.val < 8192) (h' : t.val / 16 * 512 + j.val < 2048) :
    (iblk m c 2 t : Vec F S512x512 .f32) (ix2 r j)
      = m (c.tc.loc main_arg1) (ix2 ⟨t.val % 16 * 512 + r.val, h⟩ ⟨t.val / 16 * 512 + j.val, h'⟩) := by
  have hi : ∀ t : Fin cfg0.N, win0_2.index t 0 = t.val % 16 ∧ win0_2.index t 1 = t.val / 16 :=
    (by decide +kernel : ∀ t : Fin grid0.N, _)
  unfold iblk
  rw [View.read_apply]
  show V m c main_arg1 _ = m (c.tc.loc main_arg1) _
  rw [V_main_arg1]
  congr 1
  funext a
  apply Fin.ext
  match a with
  | ⟨0, _⟩ => show win0_2.index t 0 * 512 + 1 * r.val = t.val % 16 * 512 + r.val; rw [(hi t).1]; omega
  | ⟨1, _⟩ => show win0_2.index t 1 * 512 + 1 * j.val = t.val / 16 * 512 + j.val; rw [(hi t).2]; omega

/-- Points of one column block see one weight block. -/
theorem iblk1_prev (c : Dev nD) (n : ℕ) (h : n + 1 < cfg0.N) (hn : ¬(n + 1) % 16 = 0) :
    (iblk m c 1 ⟨n, Nat.lt_of_succ_lt h⟩ : Vec F S1x5632x512 .f32) = iblk m c 1 ⟨n + 1, h⟩ := by
  have hN : cfg0.N = 64 := N_0
  funext y
  obtain ⟨k, j, rfl⟩ : ∃ (k : Fin 5632) (j : Fin 512), y = ix3 0 k j := ⟨y 1, y 2, by
    rw [eq_ix3 y]; congr 1; exact Subsingleton.elim (α := Fin 1) _ _⟩
  rw [iblk1_apply m c ⟨n, _⟩ k j (by have := j.isLt; dsimp only; omega), iblk1_apply m c ⟨n + 1, h⟩ k j (by have := j.isLt; dsimp only; omega)]
  congr 2
  apply Fin.ext
  dsimp only
  omega

/-- After every point: the output block at the residual plus the product, the scratch at the cast weight block. -/
theorem outsAt_eq (c : Dev nD) : ∀ (n : ℕ) (h : n < cfg0.N), outsAt0 m c n h
    = (k0_pay2 (iblk m c 0 ⟨n, h⟩) (k0_pay1 (iblk m c 1 ⟨n, h⟩)) (iblk m c 2 ⟨n, h⟩), k0_pay1 (iblk m c 1 ⟨n, h⟩))
  | 0, h => by rw [outsAt0_A m c ⟨0, h⟩ rfl, out_A, sout_A]
  | n + 1, h => by
    by_cases hn : (n + 1) % 16 = 0
    · rw [outsAt0_A m c ⟨n + 1, h⟩ hn, out_A, sout_A]
    · rw [outsAt0_B m c ⟨n + 1, h⟩ hn, out_B]
      unfold sout0_B_0
      show (k0_pay2 _ (outsAt0 m c n _).2 _, (outsAt0 m c n _).2) = _
      rw [outsAt_eq c n, iblk1_prev m c n h hn]

end Cert.KernelIdeal8.Down3

namespace Cert.KernelIdeal8.Down3

open Cert.KernelIdeal8 Cert.KernelIdeal8.Gen Cert.KernelIdeal8.Value

variable (m : (ℓ : Loc nD τ sig) → Buf (Elt Ideal) ℓ)

/-- The residual stream plus the row of the activation times the column of layer 3's down projection. -/
def downAt (act : S8192x5632.Idx → EReal) (x : S8192x2048.Idx → EReal) (w : S4x5632x2048.Idx → EReal) (r : Fin 8192) (j : Fin 2048) : EReal :=
  x (ix2 r j) + ∑ k : Fin 5632, act (ix2 r k) * w (ix3 3 k j)

/-- The output array: at row `r` and column `j` the residual plus the row of the activation times the column of the weights. -/
theorem G_apply (c : Dev nD) (r : Fin 8192) (j : Fin 2048) : G3 m c (ix2 r j)
    = downAt (m (c.tc.loc main_arg0)) (m (c.tc.loc main_arg1)) (m (c.tc.loc main_arg2)) r j := by
  unfold downAt
  have hN : cfg0.N = 64 := N_0
  have hr := r.isLt
  have hj := j.isLt
  have hp : pt3Of (ix2 r j) = r.val / 512 + 16 * (j.val / 512) := by
    show 1 * (r.val / 512 - 0) + 16 * (j.val / 512 - 0) = _; omega
  have hlt : pt3Of (ix2 r j) < cfg0.N := by rw [hp]; omega
  have hl : loc3Of (ix2 r j) = ix2 ⟨r.val % 512, Nat.mod_lt _ (by decide)⟩ ⟨j.val % 512, Nat.mod_lt _ (by decide)⟩ := by
    funext a; match a with
    | ⟨0, _⟩ => rfl
    | ⟨1, _⟩ => rfl
  unfold G3
  rw [dif_pos hlt, hl, ← outsAt0_sweep m c (pt3Of (ix2 r j)) hlt, outsAt_eq]
  dsimp only
  pointwise [k0_pay2, k0_pay1]
  have e1 : (pt3Of (ix2 r j)) % 16 = r.val / 512 := by rw [hp]; omega
  have e2 : (pt3Of (ix2 r j)) / 16 = j.val / 512 := by rw [hp]; omega
  have e3 : (⟨(pt3Of (ix2 r j)) % 16 * 512 + r.val % 512, by rw [e1]; omega⟩ : Fin 8192) = r := Fin.ext (by dsimp only; rw [e1]; omega)
  have e4 : (⟨(pt3Of (ix2 r j)) / 16 * 512 + j.val % 512, by rw [e2]; omega⟩ : Fin 2048) = j := Fin.ext (by dsimp only; rw [e2]; omega)
  rw [iblk2_apply m c ⟨pt3Of (ix2 r j), hlt⟩ _ _ (by dsimp only; rw [e1]; omega) (by dsimp only; rw [e2]; omega)]
  simp only [iblk0_apply m c ⟨pt3Of (ix2 r j), hlt⟩ _ _ (by dsimp only; rw [e1]; omega : (⟨pt3Of (ix2 r j), hlt⟩ : Fin cfg0.N).val % 16 * 512 + (⟨r.val % 512, Nat.mod_lt _ (by decide)⟩ : Fin 512).val < 8192),
    iblk1_apply m c ⟨pt3Of (ix2 r j), hlt⟩ _ _ (by dsimp only; rw [e2]; omega : (⟨pt3Of (ix2 r j), hlt⟩ : Fin cfg0.N).val / 16 * 512 + (⟨j.val % 512, Nat.mod_lt _ (by decide)⟩ : Fin 512).val < 2048), e3, e4]

end Cert.KernelIdeal8.Down3

namespace Cert.Proof

/-- The reference's term is the array that the kernel leaves. -/
theorem down3_ref (act : Cert.KernelIdeal8.S8192x5632.Idx → EReal) (x : Cert.KernelIdeal8.S8192x2048.Idx → EReal) (w : Cert.KernelIdeal8.S4x5632x2048.Idx → EReal) :
    (addf (F := Ideal) (φ := .f32) x (Host.dotGeneral (F := Ideal) (φ₁ := .f32) (φ₂ := .f32) Cert.ReferenceIdeal8.dot_S8192x5632_S5632x2048_S8192x2048_1_0_0_1_n_n none
      (extf (F := Ideal) (φ := .bf16) .f32 act Cert.ReferenceIdeal8.Gen.facts.bitsLt_bf16_f32)
      (shapeCast Cert.ReferenceIdeal8.S5632x2048 (extractStridedSlice Cert.ReferenceIdeal8.S1x5632x2048 ![3, 0, 0] w Cert.ReferenceIdeal8.Gen.facts.slices_S4x5632x2048_S1x5632x2048_3_0_0)
        Cert.ReferenceIdeal8.Gen.facts.shapeCasts_S1x5632x2048_S5632x2048)))
    = fun i => Cert.KernelIdeal8.Down3.downAt act x w (i 0) (i 1) := by
  funext i
  idx_vars i
  unfold Cert.KernelIdeal8.Down3.downAt
  pointwise

end Cert.Proof

end
-- ==== Proof.InZ1.lean ====
module

public import proofs.«01_k».proof.Defs
public import proofs.«01_k».proof.Proof.Gen.KernelIdeal9.Value
public import proofs.«01_k».proof.Proof.Gen.ReferenceIdeal9.Run
public import Idealize.ShloMosaic.Lib.Pointwise
public import Idealize.ShloMosaic.Lib.Pointwise.Sums
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal9.InZ1

open Cert.KernelIdeal9 Cert.KernelIdeal9.Gen Cert.KernelIdeal9.Value

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The product of a row block with a cast and transposed weight block. -/
def blockProd (x : S1024x2048.Idx → EReal) (w : S2048x1024.Idx → EReal) : S1024x1024.Idx → EReal :=
  fun y => ∑ k : Fin 2048, x (ix2 (y 0) k) * w (ix2 k (y 1))

/-- A row range of a block, multiplied, is that range of the block's product. -/
theorem half_lo (x : Vec Ideal S1024x2048 .bf16) (w : Vec Ideal S2048x1024 .bf16) (y : S512x1024.Idx) :
    k0_pay2 (F := Ideal) (View.ld x (Rect.unit (s := S1024x2048) ![0, 0] S512x2048.size inb_S1024x2048_S512x2048_0_0)) w y
      = blockProd x w ((Rect.unit (s := S1024x1024) ![0, 0] S512x1024.size inb_S1024x1024_S512x1024_0_0).emb y) := by
  idx_vars y
  pointwise [k0_pay2, blockProd]
  refine Finset.sum_congr rfl fun k _ => ?_
  refine congrArg₂ (· * ·) (congrArg x (congrArg (fun a => ix2 a k) (Fin.ext ?_))) (congrArg w (congrArg (fun a => ix2 k a) (Fin.ext ?_)))
  · show y0.val = 0 + 1 * y0.val; omega
  · show y1.val = 0 + 1 * y1.val; omega

theorem half_hi (x : Vec Ideal S1024x2048 .bf16) (w : Vec Ideal S2048x1024 .bf16) (y : S512x1024.Idx) :
    k0_pay3 (F := Ideal) (View.ld x (Rect.unit (s := S1024x2048) ![512, 0] S512x2048.size inb_S1024x2048_S512x2048_512_0)) w y
      = blockProd x w ((Rect.unit (s := S1024x1024) ![512, 0] S512x1024.size inb_S1024x1024_S512x1024_512_0).emb y) := by
  idx_vars y
  pointwise [k0_pay3, blockProd]
  refine Finset.sum_congr rfl fun k _ => ?_
  refine congrArg₂ (· * ·) (congrArg x (congrArg (fun a => ix2 a k) (Fin.ext ?_))) (congrArg w (congrArg (fun a => ix2 k a) (Fin.ext ?_)))
  · show 512 + y0.val = 512 + 1 * y0.val; omega
  · show y1.val = 0 + 1 * y1.val; omega

section

variable (c : Dev nD) (i : grid0.Coords) (a2 : Memref sig .tc .vmem S1024x2048 .bf16) (h2 : a2.IsWhole) (a3 : Memref sig .tc .vmem S1x1024x2048 .f32)
    (h3 : a3.IsWhole) (a4 : Memref sig .tc .vmem S1024x1024 .f32) (h4 : a4.IsWhole) (a5 : Memref sig .tc .vmem S2048x1024 .bf16) (h5 : a5.IsWhole)
    (x0 : Vec Ideal S1024x2048 .bf16) (x1 : Vec Ideal S1x1024x2048 .f32)

/-- At the first row block of a column block the body stores the cast, transposed weight block and multiplies by it. -/
theorem out_A (hc : cond0_0 i) :
    out0_A_2 c i a2 h2 a3 h3 a4 h4 a5 h5 hc x0 x1 = blockProd x0 (k0_pay1 (F := Ideal) x1) := by
  unfold out0_A_2
  rw [View.read_writes_eq_canon _ _ _ (cover0_A_2 c i a2 h2 a3 h3 a4 h4 a5 h5 hc x0 x1)]
  funext y
  refine View.canon_apply_of_pieces (blockProd x0 (k0_pay1 (F := Ideal) x1)) _ ?_ y (cover0_A_2 c i a2 h2 a3 h3 a4 h4 a5 h5 hc x0 x1 y)
  unfold kernelRun0_A
  dsimp only
  sl_unfold_words
  simp only [View.readCov_unit_zero (S := S2048x1024) _ hz2, View.readAt_eq_ld, h2.read_unread, h3.read_unread,
    View.ld_unit_zero (S := S1x1024x2048) hz3]
  intro p hp x
  simp only [List.mem_cons, List.not_mem_nil, or_false] at hp
  rcases hp with rfl | rfl
  · exact half_hi x0 _ x
  · exact half_lo x0 _ x

/-- … and leaves the cast, transposed weight block in the scratch. -/
theorem sout_A (hc : cond0_0 i) :
    sout0_A_0 c i a2 h2 a3 h3 a4 h4 a5 h5 hc x0 x1 = k0_pay1 (F := Ideal) x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz2]
  simp only [View.readAt_eq_ld, h3.read_unread, View.ld_unit_zero (S := S1x1024x2048) hz3]

/-- At every other row block the body multiplies by what the scratch holds. -/
theorem out_B (hc : ¬cond0_0 i) (xs : Vec Ideal S2048x1024 .bf16) :
    out0_B_2 c i a2 h2 a3 h3 a4 h4 a5 h5 hc x0 x1 xs = blockProd x0 xs := by
  unfold out0_B_2
  rw [View.read_writes_eq_canon _ _ _ (cover0_B_2 c i a2 h2 a3 h3 a4 h4 a5 h5 hc x0 x1 xs)]
  funext y
  refine View.canon_apply_of_pieces (blockProd x0 xs) _ ?_ y (cover0_B_2 c i a2 h2 a3 h3 a4 h4 a5 h5 hc x0 x1 xs y)
  unfold kernelRun0_B
  dsimp only
  sl_unfold_words
  simp only [View.readAt_eq_ld, h2.read_unread, h5.read_unread, View.ld_unit_zero (S := S2048x1024) hz2]
  intro p hp x
  simp only [List.mem_cons, List.not_mem_nil, or_false] at hp
  rcases hp with rfl | rfl
  · exact half_hi x0 _ x
  · exact half_lo x0 _ x

end

/-- The transposed weights, as the host leaves them for the call. -/
theorem V_main_v0 (c : Dev nD) : (V m c main_v0 : Vec Ideal S2x10304x2048 .f32)
    = transpose S2x10304x2048 [0, 2, 1] (m (c.tc.loc main_arg1)) facts.transposes_S2x2048x10304_S2x10304x2048_0_2_1 := by
  show StableHlo.after hostOps0 (fun b => m (c, b)) main_v0 = _
  after_results <;> rfl

/-- The block of the transposed weights that point `t` sees, by the column block `t / 8`. -/
theorem X1_apply (c : Dev nD) (t : Fin cfg0.N) (k : Fin 2048) (j : Fin 1024) (h : t.val / 8 * 1024 + j.val < 10304) :
    (X0_1 m c t : Vec Ideal S1x1024x2048 .f32) (ix3 0 j k) = m (c.tc.loc main_arg1) (ix3 1 k ⟨t.val / 8 * 1024 + j.val, h⟩) := by
  have hi : ∀ t : Fin cfg0.N, win0_1.index t 0 = 1 ∧ win0_1.index t 1 = t.val / 8 ∧ win0_1.index t 2 = 0 :=
    (by decide +kernel : ∀ t : Fin grid0.N, _)
  have e : (X0_1 m c t : Vec Ideal S1x1024x2048 .f32) (ix3 0 j k) = (V m c main_v0 : Vec Ideal S2x10304x2048 .f32) (ix3 1 ⟨t.val / 8 * 1024 + j.val, h⟩ k) := by
    unfold X0_1 Pipeline.Window.fill
    rw [dif_pos (moved0_1 t _)]
    unfold iblk
    rw [View.read_apply]
    show V m c main_v0 _ = V m c main_v0 _
    congr 1
    funext a
    apply Fin.ext
    match a with
    | ⟨0, _⟩ => show win0_1.index t 0 * 1 + 1 * 0 = 1; rw [(hi t).1]
    | ⟨1, _⟩ => show win0_1.index t 1 * 1024 + 1 * j.val = t.val / 8 * 1024 + j.val; rw [(hi t).2.1]; omega
    | ⟨2, _⟩ => show win0_1.index t 2 * 2048 + 1 * k.val = k.val; rw [(hi t).2.2]; omega
  rw [e, V_main_v0]
  pointwise

/-- The block of the activation that point `t` sees: rows of the row block `t % 8`, every column. -/
theorem iblk0_apply (c : Dev nD) (t : Fin cfg0.N) (r : Fin 1024) (k : Fin 2048) (h : t.val % 8 * 1024 + r.val < 8192) :
    (iblk m c 0 t : Vec Ideal S1024x2048 .bf16) (ix2 r k) = m (c.tc.loc main_arg0) (ix2 ⟨t.val % 8 * 1024 + r.val, h⟩ k) := by
  have hi : ∀ t : Fin cfg0.N, win0_0.index t 0 = t.val % 8 ∧ win0_0.index t 1 = 0 :=
    (by decide +kernel : ∀ t : Fin grid0.N, _)
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = t.val % 8 * 1024 + r.val; rw [(hi t).1]; omega
  | ⟨1, _⟩ => show win0_0.index t 1 * 2048 + 1 * k.val = k.val; rw [(hi t).2]; omega

/-- Points of one column block see one weight block. -/
theorem X1_prev (c : Dev nD) (n : ℕ) (h : n + 1 < cfg0.N) (hn : ¬(n + 1) % 8 = 0) :
    (X0_1 m c ⟨n, Nat.lt_of_succ_lt h⟩ : Vec Ideal S1x1024x2048 .f32) = X0_1 m c ⟨n + 1, h⟩ := by
  have hN : cfg0.N = 32 := N_0
  funext y
  obtain ⟨j, k, rfl⟩ : ∃ (j : Fin 1024) (k : Fin 2048), y = ix3 0 j k := ⟨y 1, y 2, by
    rw [eq_ix3 y]; congr 1; exact Subsingleton.elim (α := Fin 1) _ _⟩
  rw [X1_apply m c ⟨n, _⟩ k j (by have := j.isLt; dsimp only; omega), X1_apply m c ⟨n + 1, h⟩ k j (by have := j.isLt; dsimp only; omega)]
  congr 2
  apply Fin.ext
  dsimp only
  omega

/-- After every point: the output block at the product, the scratch at the cast weight block. -/
theorem outsAt_eq (c : Dev nD) : ∀ (n : ℕ) (h : n < cfg0.N), outsAt0 m c n h
    = (blockProd (iblk m c 0 ⟨n, h⟩) (k0_pay1 (F := Ideal) (X0_1 m c ⟨n, h⟩)), k0_pay1 (F := Ideal) (X0_1 m c ⟨n, h⟩))
  | 0, h => by rw [outsAt0_A m c ⟨0, h⟩ rfl, out_A, sout_A]
  | n + 1, h => by
    by_cases hn : (n + 1) % 8 = 0
    · rw [outsAt0_A m c ⟨n + 1, h⟩ hn, out_A, sout_A]
    · rw [outsAt0_B m c ⟨n + 1, h⟩ hn, out_B]
      unfold sout0_B_0
      show (blockProd _ (outsAt0 m c n _).2, (outsAt0 m c n _).2) = _
      rw [outsAt_eq c n, X1_prev m c n h hn]

/-- The row of the activation times the column of the second layer's input projection, for the columns of the gate. -/
def zAt (x : S8192x2048.Idx → EReal) (w : S2x2048x10304.Idx → EReal) (r : Fin 8192) (j : Fin 4096) : EReal :=
  ∑ k : Fin 2048, x (ix2 r k) * w (ix3 1 k ⟨j.val, by omega⟩)

/-- The output array, index by index. -/
theorem G_apply (c : Dev nD) (r : Fin 8192) (j : Fin 4096) : G2 m c (ix2 r j)
    = zAt (m (c.tc.loc main_arg0)) (m (c.tc.loc main_arg1)) r j := by
  unfold zAt
  have hN : cfg0.N = 32 := N_0
  have hr := r.isLt
  have hj := j.isLt
  have hp : pt2Of (ix2 r j) = r.val / 1024 + 8 * (j.val / 1024) := by
    show 1 * (r.val / 1024 - 0) + 8 * (j.val / 1024 - 0) = _; omega
  have hlt : pt2Of (ix2 r j) < cfg0.N := by rw [hp]; omega
  have hl : loc2Of (ix2 r j) = ix2 ⟨r.val % 1024, Nat.mod_lt _ (by decide)⟩ ⟨j.val % 1024, Nat.mod_lt _ (by decide)⟩ := by
    funext a; match a with
    | ⟨0, _⟩ => rfl
    | ⟨1, _⟩ => rfl
  have e1 : (pt2Of (ix2 r j)) % 8 = r.val / 1024 := by rw [hp]; omega
  have e2 : (pt2Of (ix2 r j)) / 8 = j.val / 1024 := by rw [hp]; omega
  have e3 : (⟨(pt2Of (ix2 r j)) % 8 * 1024 + r.val % 1024, by rw [e1]; omega⟩ : Fin 8192) = r := Fin.ext (by dsimp only; rw [e1]; omega)
  have e4 : (⟨(pt2Of (ix2 r j)) / 8 * 1024 + j.val % 1024, by rw [e2]; omega⟩ : Fin 10304) = ⟨j.val, by omega⟩ := Fin.ext (by dsimp only; rw [e2]; omega)
  unfold G2
  rw [dif_pos hlt, hl, ← outsAt0_sweep m c (pt2Of (ix2 r j)) hlt, outsAt_eq]
  dsimp only
  show (∑ k : Fin 2048, (_ : EReal)) = _
  refine Finset.sum_congr rfl fun k _ => ?_
  refine congrArg₂ (· * ·) ((iblk0_apply m c ⟨pt2Of (ix2 r j), hlt⟩ ⟨r.val % 1024, Nat.mod_lt _ (by decide)⟩ k (by dsimp only; rw [e1]; omega)).trans (by rw [e3])) ?_
  have e5 := X1_apply m c ⟨pt2Of (ix2 r j), hlt⟩ k ⟨j.val % 1024, Nat.mod_lt _ (by decide)⟩ (by dsimp only; rw [e2]; omega)
  rw [e4] at e5
  rw [← e5]
  generalize X0_1 m c ⟨pt2Of (ix2 r j), hlt⟩ = X
  show k0_pay1 (F := Ideal) X (ix2 k ⟨j.val % 1024, Nat.mod_lt _ (by decide)⟩) = _
  pointwise [k0_pay1]

end Cert.KernelIdeal9.InZ1

namespace Cert.Proof

/-- The reference's term is the array that the kernel leaves. -/
theorem inZ1_ref (x : Cert.KernelIdeal9.S8192x2048.Idx → EReal) (w : Cert.KernelIdeal9.S2x2048x10304.Idx → EReal) :
    (extractStridedSlice Cert.ReferenceIdeal9.S8192x4096 ![0, 0] (Host.dotGeneral (F := Ideal) (φ₁ := .f32) (φ₂ := .f32) Cert.ReferenceIdeal9.dot_S8192x2048_S2048x10304_S8192x10304_1_0_0_1_n_n none
      (extf (F := Ideal) (φ := .bf16) .f32 x Cert.ReferenceIdeal9.Gen.facts.bitsLt_bf16_f32)
      (shapeCast Cert.ReferenceIdeal9.S2048x10304 (extractStridedSlice Cert.ReferenceIdeal9.S1x2048x10304 ![1, 0, 0] w Cert.ReferenceIdeal9.Gen.facts.slices_S2x2048x10304_S1x2048x10304_1_0_0)
        Cert.ReferenceIdeal9.Gen.facts.shapeCasts_S1x2048x10304_S2048x10304)) Cert.ReferenceIdeal9.Gen.facts.slices_S8192x10304_S8192x4096_0_0)
    = fun i => Cert.KernelIdeal9.InZ1.zAt x w (i 0) (i 1) := by
  funext i
  idx_vars i
  unfold Cert.KernelIdeal9.InZ1.zAt
  pointwise

end Cert.Proof

end
-- ==== Proof.SsmOut1.lean ====
module

public import proofs.«01_k».proof.Defs
public import proofs.«01_k».proof.Proof.Gen.KernelIdeal10.Value
public import proofs.«01_k».proof.Proof.Gen.ReferenceIdeal10.Run
public import Idealize.ShloMosaic.Lib.Pointwise
public import Idealize.ShloMosaic.Lib.Pointwise.Sums
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal10.SsmOut1

open Cert.KernelIdeal10 Cert.KernelIdeal10.Gen Cert.KernelIdeal10.Value

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

section

variable (c : Dev nD) (i : grid0.Coords) (a2 : Memref sig .tc .vmem S256x4096 .bf16) (h2 : a2.IsWhole) (a3 : Memref sig .tc .vmem S1x4096x1024 .f32)
    (h3 : a3.IsWhole) (a4 : Memref sig .tc .vmem S256x1024 .f32) (h4 : a4.IsWhole) (a5 : Memref sig .tc .vmem S256x1024 .f32) (h5 : a5.IsWhole)
    (a6 : Memref sig .tc .vmem S4096x1024 .bf16) (h6 : a6.IsWhole) (x0 : Vec F S256x4096 .bf16) (x1 : Vec F S1x4096x1024 .f32)
    (x2 : Vec F S256x1024 .f32)

/-- At the first row block of a column block the body stores the cast weight block and multiplies by it. -/
theorem out_A (hc : cond0_0 i) :
    out0_A_3 c i a2 h2 a3 h3 a4 h4 a5 h5 a6 h6 hc x0 x1 x2 = k0_pay2 x0 (k0_pay1 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz2]
  simp only [View.readCov_unit_zero (S := S4096x1024) _ hz2, View.readAt_eq_ld, h2.read_unread, h3.read_unread, h4.read_unread,
    View.ld_unit_zero (S := S256x4096) hz2, View.ld_unit_zero (S := S256x1024) hz2, View.ld_unit_zero (S := S1x4096x1024) hz3]

/-- … and leaves the cast weight block in the scratch. -/
theorem sout_A (hc : cond0_0 i) :
    sout0_A_0 c i a2 h2 a3 h3 a4 h4 a5 h5 a6 h6 hc x0 x1 x2 = k0_pay1 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz2]
  simp only [View.readAt_eq_ld, h3.read_unread, View.ld_unit_zero (S := S1x4096x1024) hz3]

/-- At every other row block the body multiplies by what the scratch holds. -/
theorem out_B (hc : ¬cond0_0 i) (xs : Vec F S4096x1024 .bf16) :
    out0_B_3 c i a2 h2 a3 h3 a4 h4 a5 h5 a6 h6 hc x0 x1 x2 xs = k0_pay2 x0 xs x2 := by
  unfold out0_B_3
  rw [View.read_writes_eq_canon _ _ _ (cover0_B_3 c i a2 h2 a3 h3 a4 h4 a5 h5 a6 h6 hc x0 x1 x2 xs)]
  unfold kernelRun0_B
  dsimp only
  sl_unfold_words
  rw [View.canon_unit_zero hz2]
  simp only [View.readAt_eq_ld, h2.read_unread, h4.read_unread, h6.read_unread, View.ld_unit_zero (S := S4096x1024) hz2,
    View.ld_unit_zero (S := S256x4096) hz2, View.ld_unit_zero (S := S256x1024) hz2]

end

/-- The block of the weights that point `n` sees, by the column block `n / 32`. -/
theorem iblk1_apply (c : Dev nD) (t : Fin cfg0.N) (k : Fin 4096) (j : Fin 1024) (h : t.val / 32 * 1024 + j.val < 2048) :
    (iblk m c 1 t : Vec F S1x4096x1024 .f32) (ix3 0 k j) = m (c.tc.loc main_arg2) (ix3 1 k ⟨t.val / 32 * 1024 + j.val, h⟩) := by
  have hi : ∀ t : Fin cfg0.N, win0_1.index t 0 = 1 ∧ win0_1.index t 1 = 0 ∧ win0_1.index t 2 = t.val / 32 :=
    (by decide +kernel : ∀ t : Fin grid0.N, _)
  unfold iblk
  rw [View.read_apply]
  show V m c main_arg2 _ = m (c.tc.loc main_arg2) _
  rw [V_main_arg2]
  congr 1
  funext a
  apply Fin.ext
  match a with
  | ⟨0, _⟩ => show win0_1.index t 0 * 1 + 1 * 0 = 1; rw [(hi t).1]
  | ⟨1, _⟩ => show win0_1.index t 1 * 4096 + 1 * k.val = k.val; rw [(hi t).2.1]; omega
  | ⟨2, _⟩ => show win0_1.index t 2 * 1024 + 1 * j.val = t.val / 32 * 1024 + j.val; rw [(hi t).2.2]; omega

/-- The block of the activation that point `t` sees: rows of the row block `t % 32`, every column. -/
theorem iblk0_apply (c : Dev nD) (t : Fin cfg0.N) (r : Fin 256) (k : Fin 4096) (h : t.val % 32 * 256 + r.val < 8192) :
    (iblk m c 0 t : Vec F S256x4096 .bf16) (ix2 r k) = m (c.tc.loc main_arg0) (ix2 ⟨t.val % 32 * 256 + r.val, h⟩ k) := by
  have hi : ∀ t : Fin cfg0.N, win0_0.index t 0 = t.val % 32 ∧ win0_0.index t 1 = 0 :=
    (by decide +kernel : ∀ t : Fin grid0.N, _)
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * r.val = t.val % 32 * 256 + r.val; rw [(hi t).1]; omega
  | ⟨1, _⟩ => show win0_0.index t 1 * 4096 + 1 * k.val = k.val; rw [(hi t).2]; omega

/-- The block of the residual stream that point `t` sees. -/
theorem iblk2_apply (c : Dev nD) (t : Fin cfg0.N) (r : Fin 256) (j : Fin 1024) (h : t.val % 32 * 256 + r.val < 8192) (h' : t.val / 32 * 1024 + j.val < 2048) :
    (iblk m c 2 t : Vec F S256x1024 .f32) (ix2 r j)
      = m (c.tc.loc main_arg1) (ix2 ⟨t.val % 32 * 256 + r.val, h⟩ ⟨t.val / 32 * 1024 + j.val, h'⟩) := by
  have hi : ∀ t : Fin cfg0.N, win0_2.index t 0 = t.val % 32 ∧ win0_2.index t 1 = t.val / 32 :=
    (by decide +kernel : ∀ t : Fin grid0.N, _)
  unfold iblk
  rw [View.read_apply]
  show V m c main_arg1 _ = m (c.tc.loc main_arg1) _
  rw [V_main_arg1]
  congr 1
  funext a
  apply Fin.ext
  match a with
  | ⟨0, _⟩ => show win0_2.index t 0 * 256 + 1 * r.val = t.val % 32 * 256 + r.val; rw [(hi t).1]; omega
  | ⟨1, _⟩ => show win0_2.index t 1 * 1024 + 1 * j.val = t.val / 32 * 1024 + j.val; rw [(hi t).2]; omega

/-- Points of one column block see one weight block. -/
theorem iblk1_prev (c : Dev nD) (n : ℕ) (h : n + 1 < cfg0.N) (hn : ¬(n + 1) % 32 = 0) :
    (iblk m c 1 ⟨n, Nat.lt_of_succ_lt h⟩ : Vec F S1x4096x1024 .f32) = iblk m c 1 ⟨n + 1, h⟩ := by
  have hN : cfg0.N = 64 := N_0
  funext y
  obtain ⟨k, j, rfl⟩ : ∃ (k : Fin 4096) (j : Fin 1024), y = ix3 0 k j := ⟨y 1, y 2, by
    rw [eq_ix3 y]; congr 1; exact Subsingleton.elim (α := Fin 1) _ _⟩
  rw [iblk1_apply m c ⟨n, _⟩ k j (by have := j.isLt; dsimp only; omega), iblk1_apply m c ⟨n + 1, h⟩ k j (by have := j.isLt; dsimp only; omega)]
  congr 2
  apply Fin.ext
  dsimp only
  omega

/-- After every point: the output block at the residual plus the product, the scratch at the cast weight block. -/
theorem outsAt_eq (c : Dev nD) : ∀ (n : ℕ) (h : n < cfg0.N), outsAt0 m c n h
    = (k0_pay2 (iblk m c 0 ⟨n, h⟩) (k0_pay1 (iblk m c 1 ⟨n, h⟩)) (iblk m c 2 ⟨n, h⟩), k0_pay1 (iblk m c 1 ⟨n, h⟩))
  | 0, h => by rw [outsAt0_A m c ⟨0, h⟩ rfl, out_A, sout_A]
  | n + 1, h => by
    by_cases hn : (n + 1) % 32 = 0
    · rw [outsAt0_A m c ⟨n + 1, h⟩ hn, out_A, sout_A]
    · rw [outsAt0_B m c ⟨n + 1, h⟩ hn, out_B]
      unfold sout0_B_0
      show (k0_pay2 _ (outsAt0 m c n _).2 _, (outsAt0 m c n _).2) = _
      rw [outsAt_eq c n, iblk1_prev m c n h hn]

end Cert.KernelIdeal10.SsmOut1

namespace Cert.KernelIdeal10.SsmOut1

open Cert.KernelIdeal10 Cert.KernelIdeal10.Gen Cert.KernelIdeal10.Value

variable (m : (ℓ : Loc nD τ sig) → Buf (Elt Ideal) ℓ)

/-- The residual stream plus the row of the activation times the column of the second layer's down projection. -/
def ssmOutAt (act : S8192x4096.Idx → EReal) (x : S8192x2048.Idx → EReal) (w : S2x4096x2048.Idx → EReal) (r : Fin 8192) (j : Fin 2048) : EReal :=
  x (ix2 r j) + ∑ k : Fin 4096, act (ix2 r k) * w (ix3 1 k j)

/-- The output array: at row `r` and column `j` the residual plus the row of the activation times the column of the weights. -/
theorem G_apply (c : Dev nD) (r : Fin 8192) (j : Fin 2048) : G3 m c (ix2 r j)
    = ssmOutAt (m (c.tc.loc main_arg0)) (m (c.tc.loc main_arg1)) (m (c.tc.loc main_arg2)) r j := by
  unfold ssmOutAt
  have hN : cfg0.N = 64 := N_0
  have hr := r.isLt
  have hj := j.isLt
  have hp : pt3Of (ix2 r j) = r.val / 256 + 32 * (j.val / 1024) := by
    show 1 * (r.val / 256 - 0) + 32 * (j.val / 1024 - 0) = _; omega
  have hlt : pt3Of (ix2 r j) < cfg0.N := by rw [hp]; omega
  have hl : loc3Of (ix2 r j) = ix2 ⟨r.val % 256, Nat.mod_lt _ (by decide)⟩ ⟨j.val % 1024, Nat.mod_lt _ (by decide)⟩ := by
    funext a; match a with
    | ⟨0, _⟩ => rfl
    | ⟨1, _⟩ => rfl
  unfold G3
  rw [dif_pos hlt, hl, ← outsAt0_sweep m c (pt3Of (ix2 r j)) hlt, outsAt_eq]
  dsimp only
  pointwise [k0_pay2, k0_pay1]
  have e1 : (pt3Of (ix2 r j)) % 32 = r.val / 256 := by rw [hp]; omega
  have e2 : (pt3Of (ix2 r j)) / 32 = j.val / 1024 := by rw [hp]; omega
  have e3 : (⟨(pt3Of (ix2 r j)) % 32 * 256 + r.val % 256, by rw [e1]; omega⟩ : Fin 8192) = r := Fin.ext (by dsimp only; rw [e1]; omega)
  have e4 : (⟨(pt3Of (ix2 r j)) / 32 * 1024 + j.val % 1024, by rw [e2]; omega⟩ : Fin 2048) = j := Fin.ext (by dsimp only; rw [e2]; omega)
  rw [iblk2_apply m c ⟨pt3Of (ix2 r j), hlt⟩ _ _ (by dsimp only; rw [e1]; omega) (by dsimp only; rw [e2]; omega)]
  simp only [iblk0_apply m c ⟨pt3Of (ix2 r j), hlt⟩ _ _ (by dsimp only; rw [e1]; omega : (⟨pt3Of (ix2 r j), hlt⟩ : Fin cfg0.N).val % 32 * 256 + (⟨r.val % 256, Nat.mod_lt _ (by decide)⟩ : Fin 256).val < 8192),
    iblk1_apply m c ⟨pt3Of (ix2 r j), hlt⟩ _ _ (by dsimp only; rw [e2]; omega : (⟨pt3Of (ix2 r j), hlt⟩ : Fin cfg0.N).val / 32 * 1024 + (⟨j.val % 1024, Nat.mod_lt _ (by decide)⟩ : Fin 1024).val < 2048), e3, e4]

end Cert.KernelIdeal10.SsmOut1

namespace Cert.Proof

/-- The reference's term is the array that the kernel leaves. -/
theorem ssmOut1_ref (act : Cert.KernelIdeal10.S8192x4096.Idx → EReal) (x : Cert.KernelIdeal10.S8192x2048.Idx → EReal) (w : Cert.KernelIdeal10.S2x4096x2048.Idx → EReal) :
    (addf (F := Ideal) (φ := .f32) x (Host.dotGeneral (F := Ideal) (φ₁ := .f32) (φ₂ := .f32) Cert.ReferenceIdeal10.dot_S8192x4096_S4096x2048_S8192x2048_1_0_0_1_n_n none
      (extf (F := Ideal) (φ := .bf16) .f32 act Cert.ReferenceIdeal10.Gen.facts.bitsLt_bf16_f32)
      (shapeCast Cert.ReferenceIdeal10.S4096x2048 (extractStridedSlice Cert.ReferenceIdeal10.S1x4096x2048 ![1, 0, 0] w Cert.ReferenceIdeal10.Gen.facts.slices_S2x4096x2048_S1x4096x2048_1_0_0)
        Cert.ReferenceIdeal10.Gen.facts.shapeCasts_S1x4096x2048_S4096x2048)))
    = fun i => Cert.KernelIdeal10.SsmOut1.ssmOutAt act x w (i 0) (i 1) := by
  funext i
  idx_vars i
  unfold Cert.KernelIdeal10.SsmOut1.ssmOutAt
  pointwise

end Cert.Proof

end
-- ==== Proof.ConfOut1.lean ====
module

public import proofs.«01_k».proof.Defs
public import proofs.«01_k».proof.Proof.Gen.KernelIdeal11.Value
public import proofs.«01_k».proof.Proof.Gen.ReferenceIdeal11.Run
public import Idealize.ShloMosaic.Lib.Pointwise
public import Idealize.ShloMosaic.Lib.Pointwise.Sums
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal11.ConfOut1

open Cert.KernelIdeal11 Cert.KernelIdeal11.Gen Cert.KernelIdeal11.Value

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- A row block of the residual plus its product with a cast weight block plus the bias. -/
def blockOut (x : S1024x2048.Idx → EReal) (w : S2048x1024.Idx → EReal) (r : S1024x1024.Idx → EReal) (b : S1x1x1024.Idx → EReal) : S1024x1024.Idx → EReal :=
  fun y => r y + ((∑ k : Fin 2048, x (ix2 (y 0) k) * w (ix2 k (y 1))) + b (ix3 0 0 (y 1)))

/-- What the body computes for a range of 256 rows is that range of `blockOut`. -/
theorem rows_apply (o : ℕ) (hx : ∀ a, (![o, 0] : Fin 2 → ℕ) a + S256x2048.size a ≤ S1024x2048.size a)
    (hr : ∀ a, (![o, 0] : Fin 2 → ℕ) a + S256x1024.size a ≤ S1024x1024.size a)
    (x : Vec Ideal S1024x2048 .bf16) (w : Vec Ideal S2048x1024 .bf16) (r : Vec Ideal S1024x1024 .f32) (b : Vec Ideal S1x1x1024 .f32) (y : S256x1024.Idx) :
    k0_pay4 (F := Ideal) (View.ld x (Rect.unit (s := S1024x2048) ![o, 0] S256x2048.size hx)) w
        (View.ld r (Rect.unit (s := S1024x1024) ![o, 0] S256x1024.size hr)) b y
      = blockOut x w r b ((Rect.unit (s := S1024x1024) ![o, 0] S256x1024.size hr).emb y) := by
  obtain ⟨X, hX⟩ : ∃ X, X = View.ld x (Rect.unit (s := S1024x2048) ![o, 0] S256x2048.size hx) := ⟨_, rfl⟩
  obtain ⟨R, hR⟩ : ∃ R, R = View.ld r (Rect.unit (s := S1024x1024) ![o, 0] S256x1024.size hr) := ⟨_, rfl⟩
  rw [← hX, ← hR]
  idx_vars y
  have e0 : ((Rect.unit (s := S1024x1024) ![o, 0] S256x1024.size hr).emb (ix2 y0 y1)) 1 = y1 :=
    Fin.ext (by show 0 + 1 * y1.val = y1.val; omega)
  have e1 : R (ix2 y0 y1) = r ((Rect.unit (s := S1024x1024) ![o, 0] S256x1024.size hr).emb (ix2 y0 y1)) := by rw [hR]; rfl
  have e2 : ∀ k : Fin 2048, X (ix2 y0 k) = x (ix2 (((Rect.unit (s := S1024x1024) ![o, 0] S256x1024.size hr).emb (ix2 y0 y1)) 0) k) := by
    intro k
    rw [hX]
    refine congrArg x (funext fun a => Fin.ext ?_)
    match a with
    | ⟨0, _⟩ => rfl
    | ⟨1, _⟩ => show 0 + 1 * k.val = k.val; omega
  unfold blockOut
  rw [← e1, e0]
  simp only [← e2]
  pointwise [k0_pay4]

section

variable (c : Dev nD) (i : grid0.Coords) (a2 : Memref sig .tc .vmem S1024x2048 .bf16) (h2 : a2.IsWhole) (a3 : Memref sig .tc .vmem S1x2048x1024 .f32)
    (h3 : a3.IsWhole) (a4 : Memref sig .tc .vmem S1024x1024 .f32) (h4 : a4.IsWhole) (a5 : Memref sig .tc .vmem S1x1x1024 .f32) (h5 : a5.IsWhole)
    (a6 : Memref sig .tc .vmem S1024x1024 .f32) (h6 : a6.IsWhole) (a7 : Memref sig .tc .vmem S2048x1024 .bf16) (h7 : a7.IsWhole)
    (x0 : Vec Ideal S1024x2048 .bf16) (x1 : Vec Ideal S1x2048x1024 .f32) (x2 : Vec Ideal S1024x1024 .f32) (x3 : Vec Ideal S1x1x1024 .f32)

/-- At the first row block of a column block the body stores the cast weight block and multiplies by it. -/
theorem out_A (hc : cond0_0 i) :
    out0_A_4 c i a2 h2 a3 h3 a4 h4 a5 h5 a6 h6 a7 h7 hc x0 x1 x2 x3 = blockOut x0 (k0_pay3 (F := Ideal) x1) x2 x3 := by
  unfold out0_A_4
  rw [View.read_writes_eq_canon _ _ _ (cover0_A_4 c i a2 h2 a3 h3 a4 h4 a5 h5 a6 h6 a7 h7 hc x0 x1 x2 x3)]
  funext y
  refine View.canon_apply_of_pieces (blockOut x0 (k0_pay3 (F := Ideal) x1) x2 x3) _ ?_ y (cover0_A_4 c i a2 h2 a3 h3 a4 h4 a5 h5 a6 h6 a7 h7 hc x0 x1 x2 x3 y)
  unfold kernelRun0_A
  dsimp only
  sl_unfold_words
  simp only [View.readCov_unit_zero (S := S2048x1024) _ hz2, View.readAt_eq_ld, h2.read_unread, h3.read_unread, h4.read_unread, h5.read_unread,
    View.ld_unit_zero (S := S1x2048x1024) hz3, View.ld_unit_zero (S := S1x1x1024) hz3]
  intro p hp x
  simp only [List.mem_cons, List.not_mem_nil, or_false] at hp
  rcases hp with rfl | rfl | rfl | rfl <;> exact rows_apply _ _ _ x0 _ x2 x3 x

/-- … and leaves the cast weight block in the scratch. -/
theorem sout_A (hc : cond0_0 i) :
    sout0_A_0 c i a2 h2 a3 h3 a4 h4 a5 h5 a6 h6 a7 h7 hc x0 x1 x2 x3 = k0_pay3 (F := Ideal) x1 := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_unit_zero hz2]
  simp only [View.readAt_eq_ld, h3.read_unread, View.ld_unit_zero (S := S1x2048x1024) hz3]

/-- At every other row block the body multiplies by what the scratch holds. -/
theorem out_B (hc : ¬cond0_0 i) (xs : Vec Ideal S2048x1024 .bf16) : out0_B_4 c i a2 h2 a3 h3 a4 h4 a5 h5 a6 h6 a7 h7 hc x0 x1 x2 x3 xs = blockOut x0 xs x2 x3 := by
  unfold out0_B_4
  rw [View.read_writes_eq_canon _ _ _ (cover0_B_4 c i a2 h2 a3 h3 a4 h4 a5 h5 a6 h6 a7 h7 hc x0 x1 x2 x3 xs)]
  funext y
  refine View.canon_apply_of_pieces (blockOut x0 xs x2 x3) _ ?_ y (cover0_B_4 c i a2 h2 a3 h3 a4 h4 a5 h5 a6 h6 a7 h7 hc x0 x1 x2 x3 xs y)
  unfold kernelRun0_B
  dsimp only
  sl_unfold_words
  simp only [View.readAt_eq_ld, h2.read_unread, h4.read_unread, h5.read_unread, h7.read_unread, View.ld_unit_zero (S := S2048x1024) hz2,
    View.ld_unit_zero (S := S1x1x1024) hz3]
  intro p hp x
  simp only [List.mem_cons, List.not_mem_nil, or_false] at hp
  rcases hp with rfl | rfl | rfl | rfl <;> exact rows_apply _ _ _ x0 _ x2 x3 x

end

/-- The biases, as the host leaves them for the call. -/
theorem V_main_v0 (c : Dev nD) : (V m c main_v0 : Vec Ideal S2x1x2048 .f32)
    = shapeCast S2x1x2048 (m (c.tc.loc main_arg3)) facts.shapeCasts_S2x2048_S2x1x2048 := by
  show StableHlo.after hostOps0 (fun b => m (c, b)) main_v0 = _
  after_results <;> rfl

/-- The block of the biases that point `t` sees. -/
theorem iblk3_apply (c : Dev nD) (t : Fin cfg0.N) (j : Fin 1024) (h : t.val / 8 * 1024 + j.val < 2048) :
    (iblk m c 3 t : Vec Ideal S1x1x1024 .f32) (ix3 0 0 j) = m (c.tc.loc main_arg3) (ix2 1 ⟨t.val / 8 * 1024 + j.val, h⟩) := by
  have hi : ∀ t : Fin cfg0.N, win0_3.index t 0 = 1 ∧ win0_3.index t 1 = 0 ∧ win0_3.index t 2 = t.val / 8 :=
    (by decide +kernel : ∀ t : Fin grid0.N, _)
  have e : (iblk m c 3 t : Vec Ideal S1x1x1024 .f32) (ix3 0 0 j) = (V m c main_v0 : Vec Ideal S2x1x2048 .f32) (ix3 1 0 ⟨t.val / 8 * 1024 + j.val, h⟩) := by
    unfold iblk
    rw [View.read_apply]
    show V m c main_v0 _ = V m c main_v0 _
    congr 1
    funext a
    apply Fin.ext
    match a with
    | ⟨0, _⟩ => show win0_3.index t 0 * 1 + 1 * 0 = 1; rw [(hi t).1]
    | ⟨1, _⟩ => show win0_3.index t 1 * 1 + 1 * 0 = 0; rw [(hi t).2.1]
    | ⟨2, _⟩ => show win0_3.index t 2 * 1024 + 1 * j.val = t.val / 8 * 1024 + j.val; rw [(hi t).2.2]; omega
  rw [e, V_main_v0]
  pointwise

/-- The block of the weights that point `n` sees, by the column block `n / 8`. -/
theorem iblk1_apply (c : Dev nD) (t : Fin cfg0.N) (k : Fin 2048) (j : Fin 1024) (h : t.val / 8 * 1024 + j.val < 2048) :
    (iblk m c 1 t : Vec Ideal S1x2048x1024 .f32) (ix3 0 k j) = m (c.tc.loc main_arg2) (ix3 1 k ⟨t.val / 8 * 1024 + j.val, h⟩) := by
  have hi : ∀ t : Fin cfg0.N, win0_1.index t 0 = 1 ∧ win0_1.index t 1 = 0 ∧ win0_1.index t 2 = t.val / 8 :=
    (by decide +kernel : ∀ t : Fin grid0.N, _)
  unfold iblk
  rw [View.read_apply]
  show V m c main_arg2 _ = m (c.tc.loc main_arg2) _
  rw [V_main_arg2]
  congr 1
  funext a
  apply Fin.ext
  match a with
  | ⟨0, _⟩ => show win0_1.index t 0 * 1 + 1 * 0 = 1; rw [(hi t).1]
  | ⟨1, _⟩ => show win0_1.index t 1 * 2048 + 1 * k.val = k.val; rw [(hi t).2.1]; omega
  | ⟨2, _⟩ => show win0_1.index t 2 * 1024 + 1 * j.val = t.val / 8 * 1024 + j.val; rw [(hi t).2.2]; omega

/-- The block of the activation that point `t` sees: rows of the row block `t % 8`, every column. -/
theorem iblk0_apply (c : Dev nD) (t : Fin cfg0.N) (r : Fin 1024) (k : Fin 2048) (h : t.val % 8 * 1024 + r.val < 8192) :
    (iblk m c 0 t : Vec Ideal S1024x2048 .bf16) (ix2 r k) = m (c.tc.loc main_arg0) (ix2 ⟨t.val % 8 * 1024 + r.val, h⟩ k) := by
  have hi : ∀ t : Fin cfg0.N, win0_0.index t 0 = t.val % 8 ∧ win0_0.index t 1 = 0 :=
    (by decide +kernel : ∀ t : Fin grid0.N, _)
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = t.val % 8 * 1024 + r.val; rw [(hi t).1]; omega
  | ⟨1, _⟩ => show win0_0.index t 1 * 2048 + 1 * k.val = k.val; rw [(hi t).2]; omega

/-- The block of the residual stream that point `t` sees. -/
theorem iblk2_apply (c : Dev nD) (t : Fin cfg0.N) (r : Fin 1024) (j : Fin 1024) (h : t.val % 8 * 1024 + r.val < 8192) (h' : t.val / 8 * 1024 + j.val < 2048) :
    (iblk m c 2 t : Vec Ideal S1024x1024 .f32) (ix2 r j)
      = m (c.tc.loc main_arg1) (ix2 ⟨t.val % 8 * 1024 + r.val, h⟩ ⟨t.val / 8 * 1024 + j.val, h'⟩) := by
  have hi : ∀ t : Fin cfg0.N, win0_2.index t 0 = t.val % 8 ∧ win0_2.index t 1 = t.val / 8 :=
    (by decide +kernel : ∀ t : Fin grid0.N, _)
  unfold iblk
  rw [View.read_apply]
  show V m c main_arg1 _ = m (c.tc.loc main_arg1) _
  rw [V_main_arg1]
  congr 1
  funext a
  apply Fin.ext
  match a with
  | ⟨0, _⟩ => show win0_2.index t 0 * 1024 + 1 * r.val = t.val % 8 * 1024 + r.val; rw [(hi t).1]; omega
  | ⟨1, _⟩ => show win0_2.index t 1 * 1024 + 1 * j.val = t.val / 8 * 1024 + j.val; rw [(hi t).2]; omega

/-- Points of one column block see one weight block. -/
theorem iblk1_prev (c : Dev nD) (n : ℕ) (h : n + 1 < cfg0.N) (hn : ¬(n + 1) % 8 = 0) :
    (iblk m c 1 ⟨n, Nat.lt_of_succ_lt h⟩ : Vec Ideal S1x2048x1024 .f32) = iblk m c 1 ⟨n + 1, h⟩ := by
  have hN : cfg0.N = 16 := N_0
  funext y
  obtain ⟨k, j, rfl⟩ : ∃ (k : Fin 2048) (j : Fin 1024), y = ix3 0 k j := ⟨y 1, y 2, by
    rw [eq_ix3 y]; congr 1; exact Subsingleton.elim (α := Fin 1) _ _⟩
  rw [iblk1_apply m c ⟨n, _⟩ k j (by have := j.isLt; dsimp only; omega), iblk1_apply m c ⟨n + 1, h⟩ k j (by have := j.isLt; dsimp only; omega)]
  congr 2
  apply Fin.ext
  dsimp only
  omega

/-- After every point: the output block, the scratch at the cast weight block. -/
theorem outsAt_eq (c : Dev nD) : ∀ (n : ℕ) (h : n < cfg0.N), outsAt0 m c n h
    = (blockOut (iblk m c 0 ⟨n, h⟩) (k0_pay3 (F := Ideal) (iblk m c 1 ⟨n, h⟩)) (iblk m c 2 ⟨n, h⟩) (iblk m c 3 ⟨n, h⟩), k0_pay3 (F := Ideal) (iblk m c 1 ⟨n, h⟩))
  | 0, h => by rw [outsAt0_A m c ⟨0, h⟩ rfl, out_A, sout_A]
  | n + 1, h => by
    by_cases hn : (n + 1) % 8 = 0
    · rw [outsAt0_A m c ⟨n + 1, h⟩ hn, out_A, sout_A]
    · rw [outsAt0_B m c ⟨n + 1, h⟩ hn, out_B]
      unfold sout0_B_0
      show (blockOut _ (outsAt0 m c n _).2 _ _, (outsAt0 m c n _).2) = _
      rw [outsAt_eq c n, iblk1_prev m c n h hn]

/-- The residual stream plus the second layer's output projection of the row, with its bias. -/
def confOutAt (s : S8192x2048.Idx → EReal) (x : S8192x2048.Idx → EReal) (w : S2x2048x2048.Idx → EReal) (b : S2x2048.Idx → EReal)
    (r : Fin 8192) (j : Fin 2048) : EReal :=
  x (ix2 r j) + ((∑ k : Fin 2048, s (ix2 r k) * w (ix3 1 k j)) + b (ix2 1 j))

/-- The output array, index by index. -/
theorem G_apply (c : Dev nD) (r : Fin 8192) (j : Fin 2048) : G4 m c (ix2 r j)
    = confOutAt (m (c.tc.loc main_arg0)) (m (c.tc.loc main_arg1)) (m (c.tc.loc main_arg2))
        (m (c.tc.loc main_arg3)) r j := by
  unfold confOutAt
  have hN : cfg0.N = 16 := N_0
  have hr := r.isLt
  have hj := j.isLt
  have hp : pt4Of (ix2 r j) = r.val / 1024 + 8 * (j.val / 1024) := by
    show 1 * (r.val / 1024 - 0) + 8 * (j.val / 1024 - 0) = _; omega
  have hlt : pt4Of (ix2 r j) < cfg0.N := by rw [hp]; omega
  have hl : loc4Of (ix2 r j) = ix2 ⟨r.val % 1024, Nat.mod_lt _ (by decide)⟩ ⟨j.val % 1024, Nat.mod_lt _ (by decide)⟩ := by
    funext a; match a with
    | ⟨0, _⟩ => rfl
    | ⟨1, _⟩ => rfl
  have e1 : (pt4Of (ix2 r j)) % 8 = r.val / 1024 := by rw [hp]; omega
  have e2 : (pt4Of (ix2 r j)) / 8 = j.val / 1024 := by rw [hp]; omega
  have e3 : (⟨(pt4Of (ix2 r j)) % 8 * 1024 + r.val % 1024, by rw [e1]; omega⟩ : Fin 8192) = r := Fin.ext (by dsimp only; rw [e1]; omega)
  have e4 : (⟨(pt4Of (ix2 r j)) / 8 * 1024 + j.val % 1024, by rw [e2]; omega⟩ : Fin 2048) = j := Fin.ext (by dsimp only; rw [e2]; omega)
  unfold G4
  rw [dif_pos hlt, hl, ← outsAt0_sweep m c (pt4Of (ix2 r j)) hlt, outsAt_eq]
  dsimp only
  have q0 : ∀ k : Fin 2048, (iblk m c 0 ⟨pt4Of (ix2 r j), hlt⟩ : Vec Ideal S1024x2048 .bf16) (ix2 ⟨r.val % 1024, Nat.mod_lt _ (by decide)⟩ k)
      = m (c.tc.loc main_arg0) (ix2 r k) := fun k =>
    (iblk0_apply m c ⟨pt4Of (ix2 r j), hlt⟩ ⟨r.val % 1024, Nat.mod_lt _ (by decide)⟩ k (by dsimp only; rw [e1]; omega)).trans (by rw [e3])
  have q1 : ∀ k : Fin 2048, k0_pay3 (F := Ideal) (iblk m c 1 ⟨pt4Of (ix2 r j), hlt⟩) (ix2 k ⟨j.val % 1024, Nat.mod_lt _ (by decide)⟩)
      = m (c.tc.loc main_arg2) (ix3 1 k j) := fun k => by
    have e5 := iblk1_apply m c ⟨pt4Of (ix2 r j), hlt⟩ k ⟨j.val % 1024, Nat.mod_lt _ (by decide)⟩ (by dsimp only; rw [e2]; omega)
    rw [e4] at e5
    rw [← e5]
    generalize (iblk m c 1 ⟨pt4Of (ix2 r j), hlt⟩ : Vec Ideal S1x2048x1024 .f32) = X
    pointwise [k0_pay3]
  have q2 := iblk2_apply m c ⟨pt4Of (ix2 r j), hlt⟩ ⟨r.val % 1024, Nat.mod_lt _ (by decide)⟩ ⟨j.val % 1024, Nat.mod_lt _ (by decide)⟩
    (by dsimp only; rw [e1]; omega) (by dsimp only; rw [e2]; omega)
  have q3 := iblk3_apply m c ⟨pt4Of (ix2 r j), hlt⟩ ⟨j.val % 1024, Nat.mod_lt _ (by decide)⟩ (by dsimp only; rw [e2]; omega)
  rw [e3, e4] at q2
  rw [e4] at q3
  unfold blockOut
  exact congrArg₂ (· + ·) q2 (congrArg₂ (· + ·) (Finset.sum_congr rfl fun k _ => congrArg₂ (· * ·) (q0 k) (q1 k)) q3)

end Cert.KernelIdeal11.ConfOut1

namespace Cert.Proof

/-- The reference's term is the array that the kernel leaves. -/
theorem confOut1_ref (s x : Cert.KernelIdeal11.S8192x2048.Idx → EReal) (w : Cert.KernelIdeal11.S2x2048x2048.Idx → EReal) (b : Cert.KernelIdeal11.S2x2048.Idx → EReal) :
    (addf (F := Ideal) (φ := .f32) x (addf (F := Ideal) (φ := .f32) (Host.dotGeneral (F := Ideal) (φ₁ := .f32) (φ₂ := .f32) Cert.ReferenceIdeal11.dot_S8192x2048_S2048x2048_S8192x2048_1_0_0_1_n_n none
      (extf (F := Ideal) (φ := .bf16) .f32 s Cert.ReferenceIdeal11.Gen.facts.bitsLt_bf16_f32)
      (shapeCast Cert.ReferenceIdeal11.S2048x2048 (extractStridedSlice Cert.ReferenceIdeal11.S1x2048x2048 ![1, 0, 0] w Cert.ReferenceIdeal11.Gen.facts.slices_S2x2048x2048_S1x2048x2048_1_0_0)
        Cert.ReferenceIdeal11.Gen.facts.shapeCasts_S1x2048x2048_S2048x2048))
      (broadcastInDim Cert.ReferenceIdeal11.S8192x2048 ![0, 1] Cert.ReferenceIdeal11.Gen.facts.bcast_S1x2048_S8192x2048_0_1 (broadcastInDim Cert.ReferenceIdeal11.S1x2048 ![1] Cert.ReferenceIdeal11.Gen.facts.bcast_S2048_S1x2048_1
        (shapeCast Cert.ReferenceIdeal11.S2048 (extractStridedSlice Cert.ReferenceIdeal11.S1x2048 ![1, 0] b Cert.ReferenceIdeal11.Gen.facts.slices_S2x2048_S1x2048_1_0) Cert.ReferenceIdeal11.Gen.facts.shapeCasts_S1x2048_S2048)))))
    = fun i => Cert.KernelIdeal11.ConfOut1.confOutAt s x w b (i 0) (i 1) := by
  funext i
  idx_vars i
  unfold Cert.KernelIdeal11.ConfOut1.confOutAt
  pointwise

end Cert.Proof

end
-- ==== Proof.FfnUp.Body.lean ====
/- The body of the upward half of the feed-forward block: what one grid point computes, as functions, and its opening cut in pieces. -/
module

public import proofs.«01_k».proof.Proof.Rules
public import proofs.«01_k».proof.Proof.Gen.KernelIdeal12.Skeleton

@[expose] public section

set_option maxRecDepth 65536

noncomputable section

namespace Cert.KernelIdeal12.FfnUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal12 Cert.KernelIdeal12.Gen Cert.Rules
open Idealize.ShloMosaic.VecWindow (window put)

variable {F : FTy → Type} [FloatOps F]

/-! ## The conditions -/

/-- The first row block of a column block. -/
def first (i : grid0.Coords) : BitVec 1 := Scalar.cmpi .ne (Scalar.extui (Scalar.cmpi .eq (BitVec.ofNat 32 (i 1).val) 0#32) : BitVec 32) 0#32

/-- The first row block of a sequence. -/
def start (i : grid0.Coords) : BitVec 1 :=
  let arg1 : BitVec 32 := BitVec.ofNat 32 (i 1).val
  let v3 : BitVec 1 := Scalar.cmpi .eq 4#32 0#32
  let v4 : BitVec 32 := Scalar.select v3 1#32 4#32
  let v5 : BitVec 32 := Scalar.remsi arg1 v4
  let v6 : BitVec 1 := Scalar.cmpi .ne v5 0#32
  let v7 : BitVec 1 := Scalar.cmpi .slt v5 0#32
  let v8 : BitVec 1 := Scalar.cmpi .slt v4 0#32
  let v9 : BitVec 1 := Scalar.xori v7 v8
  let v10 : BitVec 1 := Scalar.andi v9 v6
  let v11 : BitVec 32 := Scalar.addi v5 v4
  let v12 : BitVec 32 := Scalar.select v10 v11 v5
  let v13 : BitVec 1 := Scalar.cmpi .eq v12 0#32
  let v14 : BitVec 32 := Scalar.extui v13
  Scalar.cmpi .ne v14 0#32

theorem first_iff : ∀ t : Fin grid0.N, first (grid0.coords t) = 1#1 ↔ t.val % 8 = 0 := by decide +kernel
theorem start_iff : ∀ t : Fin grid0.N, start (grid0.coords t) = 1#1 ↔ t.val % 4 = 0 := by decide +kernel
theorem cond3_iff : ∀ t : Fin grid0.N, k0_cond3 (grid0.coords t) = 1#1 ↔ t.val < 8 := by decide +kernel

/-! ## The functions -/

theorem inb_x (k : Fin 4) : ∀ a, (![256 * k.val, 0] : Fin 2 → ℕ) a + S256x2048.size a ≤ S1024x2048.size a := by decide +revert
theorem inb_o (k : Fin 4) : ∀ a, (![256 * k.val, 0] : Fin 2 → ℕ) a + S256x512.size a ≤ S1024x512.size a := by decide +revert
theorem inb_r (k : Fin 4) : ∀ a, (![0, 256 * k.val, 0] : Fin 3 → ℕ) a + S1x256x128.size a ≤ S1x1024x128.size a := by decide +revert
theorem inb_t (k : Fin 4) : ∀ a, (![k.val, 0, 0] : Fin 3 → ℕ) a + S1x8x512.size a ≤ S4x8x512.size a := by decide +revert
theorem inb_c (k : Fin 2) : ∀ a, (![k.val, 0, 0] : Fin 3 → ℕ) a + S1x8x512.size a ≤ S2x8x512.size a := by decide +revert
theorem inb_p (k : Fin 3) : ∀ a, (![0, k.val, 0] : Fin 3 → ℕ) a + S1x1x512.size a ≤ S1x3x512.size a := by decide +revert

/-- Rows `256 k` to `256 k + 255` of a block of 1024 rows. -/
abbrev xC (x : Vec F S1024x2048 .f32) (k : Fin 4) : Vec F S256x2048 .f32 := window x ![256 * k.val, 0] S256x2048.size (inb_x k)
/-- Row `k` of a table of taps: three taps, then the bias. -/
abbrev tr (t : Vec F S4x8x512 .f32) (k : Fin 4) : Vec F S1x8x512 .f32 := window t ![k.val, 0, 0] S1x8x512.size (inb_t k)
/-- Row `k` of the carry: of the gate half, of the value half. -/
abbrev crow (t : Vec F S2x8x512 .f32) (k : Fin 2) : Vec F S1x8x512 .f32 := window t ![k.val, 0, 0] S1x8x512.size (inb_c k)
/-- Tap `k` of a block of taps. -/
abbrev tap (t : Vec F S1x3x512 .f32) (k : Fin 3) : Vec F S1x1x512 .f32 := window t ![0, k.val, 0] S1x1x512.size (inb_p k)

/-- The scaled product of chunk `k` of the rows with a block of weights. -/
def prod (x : Vec F S1024x2048 .f32) (w : Vec F S2048x512 .bf16) (R : Fin 4 → Vec F S1x256x128 .f32) (k : Fin 4) : Vec F S256x512 .f32 :=
  k0_pay28 (xC x k) w (R k)

/-- The 8 rows before chunk `k`: the carry, or the last rows of the chunk before. -/
def tl (c0 : Vec F S8x512 .f32) (x : Vec F S1024x2048 .f32) (w : Vec F S2048x512 .bf16) (R : Fin 4 → Vec F S1x256x128 .f32) : Fin 4 → Vec F S8x512 .f32
  | 0 => c0
  | 1 => k0_pay34 (prod x w R 0)
  | 2 => k0_pay34 (prod x w R 1)
  | 3 => k0_pay34 (prod x w R 2)

/-- The convolution over the rows of chunk `k`. -/
def conv (c0 : Vec F S8x512 .f32) (x : Vec F S1024x2048 .f32) (w : Vec F S2048x512 .bf16) (t : Vec F S4x8x512 .f32) (R : Fin 4 → Vec F S1x256x128 .f32) (k : Fin 4) : Vec F S256x512 .f32 :=
  k0_pay59 (prod x w R k) (tl c0 x w R k) (tr t 2) (tr t 3) (tr t 0) (tr t 1)

/-- What a chunk writes: the gate half through the logistic gate, times the value half. -/
def gated (a b : Vec F S256x512 .f32) : Vec F S256x512 .bf16 :=
  truncf .bf16 (mulf (mulf a (logistic a)) b) bitsLt_bf16_f32

/-- What a point holds when its rows are worked on. -/
structure Ops (F : FTy → Type) where
  x : Vec F S1024x2048 .f32
  wg : Vec F S2048x512 .bf16
  wv : Vec F S2048x512 .bf16
  tg : Vec F S4x8x512 .f32
  tv : Vec F S4x8x512 .f32
  c : Vec F S2x8x512 .f32
  R : Fin 4 → Vec F S1x256x128 .f32

/-- Chunk `k` of the output. -/
def chunk (B : Ops F) (k : Fin 4) : Vec F S256x512 .bf16 :=
  gated (conv (k0_pay18 (crow B.c 0)) B.x B.wg B.tg B.R k) (conv (k0_pay18 (crow B.c 1)) B.x B.wv B.tv B.R k)

/-- The output block after the point. -/
def outF (B : Ops F) (o : Vec F S1024x512 .bf16) : Vec F S1024x512 .bf16 :=
  put (put (put (put o ![0, 0] S256x512.size (chunk B 0)) ![256, 0] S256x512.size (chunk B 1)) ![512, 0] S256x512.size (chunk B 2)) ![768, 0] S256x512.size (chunk B 3)

/-- The carry after the point. -/
def carryF (B : Ops F) (c : Vec F S2x8x512 .f32) : Vec F S2x8x512 .f32 :=
  put (put c ![0, 0, 0] S1x8x512.size (k0_pay2 (prod B.x B.wg B.R 3))) ![1, 0, 0] S1x8x512.size (k0_pay2 (prod B.x B.wv B.R 3))

/-- The table of taps and bias filled. -/
def fillT (p : Vec F S1x3x512 .f32) (b : Vec F S1x1x512 .f32) (t : Vec F S4x8x512 .f32) : Vec F S4x8x512 .f32 :=
  put (put (put (put t ![0, 0, 0] S1x8x512.size (k0_pay6 (tap p 0))) ![1, 0, 0] S1x8x512.size (k0_pay6 (tap p 1))) ![2, 0, 0] S1x8x512.size (k0_pay6 (tap p 2))) ![3, 0, 0] S1x8x512.size (k0_pay6 b)

/-- The weights, the tables, the carry and the statistics once the point has opened. -/
def wAt (i : grid0.Coords) (w : Vec F S1x2048x512 .f32) (g : Vec F S1x2048x1 .f32) (u : Vec F S2048x512 .bf16) : Vec F S2048x512 .bf16 :=
  if first i = 1#1 then k0_pay4 w g else u
def tAt (i : grid0.Coords) (p : Vec F S1x3x512 .f32) (b : Vec F S1x1x512 .f32) (t : Vec F S4x8x512 .f32) : Vec F S4x8x512 .f32 :=
  if first i = 1#1 then fillT p b t else t
def cAt (i : grid0.Coords) (c : Vec F S2x8x512 .f32) : Vec F S2x8x512 .f32 := if start i = 1#1 then k0_pay16 else c
def rAt (i : grid0.Coords) (x : Vec F S1024x2048 .f32) (r : Vec F S8x1024x128 .f32) : Vec F S8x1024x128 .f32 :=
  if k0_cond3 i = 1#1 then put r (k0_off1 i) S1x1024x128.size (k0_pay17 x) else r

/-- The statistics of the four chunks. -/
def rows (i : grid0.Coords) (r : Vec F S8x1024x128 .f32) : Fin 4 → Vec F S1x256x128 .f32
  | 0 => window r (k0_off2 i) S1x256x128.size (k0_off2_inb i)
  | 1 => window r (k0_off3 i) S1x256x128.size (k0_off3_inb i)
  | 2 => window r (k0_off4 i) S1x256x128.size (k0_off4_inb i)
  | 3 => window r (k0_off5 i) S1x256x128.size (k0_off5_inb i)

/-! ## The opening in pieces -/

section
variable (i : grid0.Coords) (arg2 : Memref sig .tc .vmem S1024x2048 .f32) (harg2 : arg2.IsWhole) (arg3 : Memref sig .tc .vmem S1x2048x1 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x3x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1024x512 .bf16) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S4x8x512 .f32) (harg13 : arg13.IsWhole) (arg14 : Memref sig .tc .vmem S4x8x512 .f32) (harg14 : arg14.IsWhole) (arg15 : Memref sig .tc .vmem S2x8x512 .f32) (harg15 : arg15.IsWhole) (arg16 : Memref sig .tc .vmem S8x1024x128 .f32) (harg16 : arg16.IsWhole)

/-- The weights and the tables filled. -/
def fill : Prog (TpuEff nD τ sig (Elt F) Λ₀ .tc) PUnit := do
  let v303 : FVec F S8x512 .f32 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16
  let v331 : FVec F S8x512 .f32 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 v303
  Prog.lift (.store arg14 (Rect.unit (s := S4x8x512) ![1, 0, 0] S1x8x512.size inb_S4x8x512_S1x8x512_1_0_0) (k0_pay13 v331) Finset.univ (View.stores_vmem_bits_univ h_S1x8x512 rfl) (.inl rfl))
  let v335 : Vec F S1x1x512 .f32 ← Prog.lift (.load arg7 (Rect.unit (s := S1x3x512) ![0, 2, 0] S1x1x512.size inb_S1x3x512_S1x1x512_0_2_0).toLoadRect (View.loadsAt_vmem h_S1x1x512))
  let v339 : Vec F S1x8x512 .f32 ← Prog.lift (.load arg14 (Rect.unit (s := S4x8x512) ![2, 0, 0] S1x8x512.size inb_S4x8x512_S1x8x512_2_0_0).toLoadRect (View.loadsAt_vmem h_S1x8x512))
  Prog.lift (.store arg14 (Rect.unit (s := S4x8x512) ![2, 0, 0] S1x8x512.size inb_S4x8x512_S1x8x512_2_0_0) (k0_pay14 v335) Finset.univ (View.stores_vmem_bits_univ h_S1x8x512 rfl) (.inl rfl))
  let v342 : Vec F S1x1x512 .f32 ← Prog.lift (.load arg9 (Rect.unit (s := S1x1x512) ![0, 0, 0] S1x1x512.size inb_S1x1x512_S1x1x512_0_0_0).toLoadRect (View.loadsAt_vmem h_S1x1x512))
  let v346 : Vec F S1x8x512 .f32 ← Prog.lift (.load arg14 (Rect.unit (s := S4x8x512) ![3, 0, 0] S1x8x512.size inb_S4x8x512_S1x8x512_3_0_0).toLoadRect (View.loadsAt_vmem h_S1x8x512))
  Prog.lift (.store arg14 (Rect.unit (s := S4x8x512) ![3, 0, 0] S1x8x512.size inb_S4x8x512_S1x8x512_3_0_0) (k0_pay15 v342) Finset.univ (View.stores_vmem_bits_univ h_S1x8x512 rfl) (.inl rfl))
  pure ⟨⟩

/-- The carry zeroed. -/
def zero : Prog (TpuEff nD τ sig (Elt F) Λ₀ .tc) PUnit := do
  let v274 : Vec F S2x8x512 .f32 ← Prog.lift (.load arg15 (Rect.unit (s := S2x8x512) ![0, 0, 0] S2x8x512.size inb_S2x8x512_S2x8x512_0_0_0).toLoadRect (View.loadsAt_vmem h_S2x8x512))
  Prog.lift (.store arg15 (Rect.unit (s := S2x8x512) ![0, 0, 0] S2x8x512.size inb_S2x8x512_S2x8x512_0_0_0) (k0_pay16 (F := F)) Finset.univ (View.stores_vmem_bits_univ h_S2x8x512 rfl) (.inl rfl))
  pure ⟨⟩

/-- The statistics of a row block. -/
def stat (k0_h3 : k0_cond3 i = 1#1) : Prog (TpuEff nD τ sig (Elt F) Λ₀ .tc) PUnit := do
  let v273 : Vec F S1024x2048 .f32 ← Prog.lift (.load arg2 (Rect.unit (s := S1024x2048) ![0, 0] S1024x2048.size inb_S1024x2048_S1024x2048_0_0).toLoadRect (View.loadsAt_vmem h_S1024x2048))
  let v285 : Vec F S1x1024x128 .f32 ← Prog.lift (.load arg16 (Rect.unit (s := S8x1024x128) (k0_off1 i) S1x1024x128.size (k0_off1_inb i k0_h3)).toLoadRect (View.loadsAt_vmem h_S1x1024x128))
  Prog.lift (.store arg16 (Rect.unit (s := S8x1024x128) (k0_off1 i) S1x1024x128.size (k0_off1_inb i k0_h3)) (k0_pay17 v273) Finset.univ (View.stores_vmem_bits_univ h_S1x1024x128 rfl) (.inl rfl))
  pure ⟨⟩

/-- The first loads, after the opening. -/
def loads : Prog (TpuEff nD τ sig (Elt F) Λ₀ .tc) (Σ' (arg1 : BitVec 32) (v20 : FVec F S8x512 .f32) (v22 : FVec F S8x512 .f32) (v26 : FVec F S256x512 .f32), FVec F S256x512 .f32) := do
  let arg1 : BitVec 32 := BitVec.ofNat 32 (i 1).val
  let v19 : Vec F S1x8x512 .f32 ← Prog.lift (.load arg15 (Rect.unit (s := S2x8x512) ![0, 0, 0] S1x8x512.size inb_S2x8x512_S1x8x512_0_0_0).toLoadRect (View.loadsAt_vmem h_S1x8x512))
  let v21 : Vec F S1x8x512 .f32 ← Prog.lift (.load arg15 (Rect.unit (s := S2x8x512) ![1, 0, 0] S1x8x512.size inb_S2x8x512_S1x8x512_1_0_0).toLoadRect (View.loadsAt_vmem h_S1x8x512))
  let v23 : Vec F S256x2048 .f32 ← Prog.lift (.load arg2 (Rect.unit (s := S1024x2048) ![0, 0] S256x2048.size inb_S1024x2048_S256x2048_0_0).toLoadRect (View.loadsAt_vmem h_S256x2048))
  let v25 : Vec F S2048x512 .bf16 ← Prog.lift (.load arg11 (Rect.unit (s := S2048x512) ![0, 0] S2048x512.size inb_S2048x512_S2048x512_0_0).toLoadRect (View.loadsAt_vmem h_S2048x512))
  let v27 : Vec F S2048x512 .bf16 ← Prog.lift (.load arg12 (Rect.unit (s := S2048x512) ![0, 0] S2048x512.size inb_S2048x512_S2048x512_0_0).toLoadRect (View.loadsAt_vmem h_S2048x512))
  pure ⟨arg1, k0_pay18 v19, k0_pay19 v21, k0_pay21 v23 v25, k0_pay22 v23 v27⟩

theorem part3_joined : k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 = (do
    if first i = 1#1 then fill i arg2 harg2 arg3 harg3 arg4 harg4 arg5 harg5 arg6 harg6 arg7 harg7 arg8 harg8 arg9 harg9 arg10 harg10 arg11 harg11 arg12 harg12 arg13 harg13 arg14 harg14 arg15 harg15 arg16 harg16 else pure ⟨⟩
    if start i = 1#1 then zero arg15 else pure ⟨⟩
    if h : k0_cond3 i = 1#1 then stat i arg2 arg16 h else pure ⟨⟩
    loads i arg2 arg11 arg12 arg15) := rfl

theorem part3_eq : k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 =
    ((if first i = 1#1 then fill i arg2 harg2 arg3 harg3 arg4 harg4 arg5 harg5 arg6 harg6 arg7 harg7 arg8 harg8 arg9 harg9 arg10 harg10 arg11 harg11 arg12 harg12 arg13 harg13 arg14 harg14 arg15 harg15 arg16 harg16 else pure ⟨⟩) >>= fun _ =>
      (if start i = 1#1 then zero arg15 else pure ⟨⟩) >>= fun _ =>
        (if h : k0_cond3 i = 1#1 then stat i arg2 arg16 h else pure ⟨⟩) >>= fun _ => loads i arg2 arg11 arg12 arg15) := by
  rw [part3_joined]
  by_cases h1 : first i = 1#1 <;> by_cases h2 : start i = 1#1 <;> by_cases h3 : k0_cond3 i = 1#1 <;>
    simp only [if_pos, if_neg, dif_pos, dif_neg, h1, h2, h3, not_false_eq_true, if_true, if_false, dite_true, dite_false] <;> rfl

end

end Cert.KernelIdeal12.FfnUp

end
-- ==== Proof.FfnUp.Triple.lean ====
/- What the body does to the buffers it holds. -/
module

public import proofs.«01_k».proof.Proof.FfnUp.Body
public import proofs.«01_k».proof.Proof.Gen.KernelIdeal12.Launch

@[expose] public section

set_option maxRecDepth 65536

noncomputable section

namespace Cert.KernelIdeal12.FfnUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal12 Cert.KernelIdeal12.Gen Cert.Rules
open Idealize.ShloMosaic.VecWindow (window put)

variable {F : FTy → Type} [FloatOps F]

local notation "𝕄" => MT nD τ sig Unit (Elt F) ℕ (UR sig nD τ) ℕ

section
variable (c : Dev nD) (i : grid0.Coords) (arg2 : Memref sig .tc .vmem S1024x2048 .f32) (harg2 : arg2.IsWhole) (arg3 : Memref sig .tc .vmem S1x2048x1 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x3x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1024x512 .bf16) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S4x8x512 .f32) (harg13 : arg13.IsWhole) (arg14 : Memref sig .tc .vmem S4x8x512 .f32) (harg14 : arg14.IsWhole) (arg15 : Memref sig .tc .vmem S2x8x512 .f32) (harg15 : arg15.IsWhole) (arg16 : Memref sig .tc .vmem S8x1024x128 .f32) (harg16 : arg16.IsWhole)
variable (E : Set ℕ) {D : Defs nD τ sig (Elt F) Λ₀}
variable (x : Vec F S1024x2048 .f32) (g : Vec F S1x2048x1 .f32) (w4 w5 : Vec F S1x2048x512 .f32) (p6 p7 : Vec F S1x3x512 .f32) (b8 b9 : Vec F S1x1x512 .f32) (o : Vec F S1024x512 .bf16) (u11 u12 : Vec F S2048x512 .bf16) (t13 t14 : Vec F S4x8x512 .f32) (cr : Vec F S2x8x512 .f32) (rs : Vec F S8x1024x128 .f32)

/-- Filling the weights and the tables. -/
theorem fill_triple (K : PUnit → sProp 𝕄) :
    iprop(owns c.tc arg3 fullShare g ∗ owns c.tc arg4 fullShare w4 ∗ owns c.tc arg5 fullShare w5 ∗ owns c.tc arg6 fullShare p6 ∗ owns c.tc arg7 fullShare p7 ∗ owns c.tc arg8 fullShare b8 ∗ owns c.tc arg9 fullShare b9 ∗ owns c.tc arg11 fullShare u11 ∗ owns c.tc arg12 fullShare u12 ∗ owns c.tc arg13 fullShare t13 ∗ owns c.tc arg14 fullShare t14 ∗ (iprop(owns c.tc arg3 fullShare g ∗ owns c.tc arg4 fullShare w4 ∗ owns c.tc arg5 fullShare w5 ∗ owns c.tc arg6 fullShare p6 ∗ owns c.tc arg7 fullShare p7 ∗ owns c.tc arg8 fullShare b8 ∗ owns c.tc arg9 fullShare b9 ∗ owns c.tc arg11 fullShare (k0_pay4 w4 g) ∗ owns c.tc arg12 fullShare (k0_pay4 w5 g) ∗ owns c.tc arg13 fullShare (fillT p6 b8 t13) ∗ owns c.tc arg14 fullShare (fillT p7 b9 t14)) -∗ K ⟨⟩))
      ⊢ wp frame (wpE D Variants.none c none) E (fill i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H3, H4, H5, H6, H7, H8, H9, H11, H12, H13, H14, Hk⟩
  unfold fill fillT
  rw [wp_bind, k0_part1_eq_skeleton]
  unfold k0_part1_skel
  iapply (wp_load_all (c := (c : Thread nD τ)) (m := arg4)) $$ H4
  iintro H4
  iapply (wp_load_all (c := (c : Thread nD τ)) (m := arg3)) $$ H3
  iintro H3
  iapply (wp_load_all (c := (c : Thread nD τ)) (m := arg11)) $$ H11
  iintro H11
  iapply (wp_store_all (c := (c : Thread nD τ)) (m := arg11)) $$ H11
  iintro H11
  iapply (wp_load_all (c := (c : Thread nD τ)) (m := arg5)) $$ H5
  iintro H5
  iapply (wp_load_all (c := (c : Thread nD τ)) (m := arg3)) $$ H3
  iintro H3
  iapply (wp_load_all (c := (c : Thread nD τ)) (m := arg12)) $$ H12
  iintro H12
  iapply (wp_store_all (c := (c : Thread nD τ)) (m := arg12)) $$ H12
  iintro H12
  iapply (wp_load_owns (c := (c : Thread nD τ)) (m := arg6)) $$ H6
  iintro H6
  iapply (wp_load_owns (c := (c : Thread nD τ)) (m := arg13)) $$ H13
  iintro H13
  iapply (wp_store_owns (c := (c : Thread nD τ)) (m := arg13)) $$ H13
  iintro H13
  iapply (wp_load_owns (c := (c : Thread nD τ)) (m := arg6)) $$ H6
  iintro H6
  iapply (le_wp_ret _ _ _ _ _)
  dsimp only
  rw [wp_bind, k0_part2_eq_skeleton]
  unfold k0_part2_skel
  iapply (wp_load_owns (c := (c : Thread nD τ)) (m := arg13)) $$ H13
  iintro H13
  iapply (wp_store_owns (c := (c : Thread nD τ)) (m := arg13)) $$ H13
  iintro H13
  iapply (wp_load_owns (c := (c : Thread nD τ)) (m := arg6)) $$ H6
  iintro H6
  iapply (wp_load_owns (c := (c : Thread nD τ)) (m := arg13)) $$ H13
  iintro H13
  iapply (wp_store_owns (c := (c : Thread nD τ)) (m := arg13)) $$ H13
  iintro H13
  iapply (wp_load_all (c := (c : Thread nD τ)) (m := arg8)) $$ H8
  iintro H8
  iapply (wp_load_owns (c := (c : Thread nD τ)) (m := arg13)) $$ H13
  iintro H13
  iapply (wp_store_owns (c := (c : Thread nD τ)) (m := arg13)) $$ H13
  iintro H13
  iapply (wp_load_owns (c := (c : Thread nD τ)) (m := arg7)) $$ H7
  iintro H7
  iapply (wp_load_owns (c := (c : Thread nD τ)) (m := arg14)) $$ H14
  iintro H14
  iapply (wp_store_owns (c := (c : Thread nD τ)) (m := arg14)) $$ H14
  iintro H14
  iapply (wp_load_owns (c := (c : Thread nD τ)) (m := arg7)) $$ H7
  iintro H7
  iapply (wp_load_owns (c := (c : Thread nD τ)) (m := arg14)) $$ H14
  iintro H14
  iapply (le_wp_ret _ _ _ _ _)
  dsimp only
  iapply (wp_store_owns (c := (c : Thread nD τ)) (m := arg14)) $$ H14
  iintro H14
  iapply (wp_load_owns (c := (c : Thread nD τ)) (m := arg7)) $$ H7
  iintro H7
  iapply (wp_load_owns (c := (c : Thread nD τ)) (m := arg14)) $$ H14
  iintro H14
  iapply (wp_store_owns (c := (c : Thread nD τ)) (m := arg14)) $$ H14
  iintro H14
  iapply (wp_load_all (c := (c : Thread nD τ)) (m := arg9)) $$ H9
  iintro H9
  iapply (wp_load_owns (c := (c : Thread nD τ)) (m := arg14)) $$ H14
  iintro H14
  iapply (wp_store_owns (c := (c : Thread nD τ)) (m := arg14)) $$ H14
  iintro H14
  iapply (le_wp_ret _ _ _ _ _)
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexact H11
  isplitl [H12]; · iexact H12
  isplitl [H13]; · iexact H13
  iexact H14

/-- Zeroing the carry. -/
theorem zero_triple (K : PUnit → sProp 𝕄) :
    iprop(owns c.tc arg15 fullShare cr ∗ (iprop(owns c.tc arg15 fullShare k0_pay16) -∗ K ⟨⟩))
      ⊢ wp frame (wpE D Variants.none c none) E (zero arg15) K := by
  iintro ⟨H15, Hk⟩
  unfold zero
  iapply (wp_load_all (c := (c : Thread nD τ)) (m := arg15)) $$ H15
  iintro H15
  iapply (wp_store_all (c := (c : Thread nD τ)) (m := arg15)) $$ H15
  iintro H15
  iapply (le_wp_ret _ _ _ _ _)
  iapply Hk
  iexact H15

/-- The statistics of a row block. -/
theorem stat_triple (h : k0_cond3 i = 1#1) (K : PUnit → sProp 𝕄) :
    iprop(owns c.tc arg2 fullShare x ∗ owns c.tc arg16 fullShare rs ∗ (iprop(owns c.tc arg2 fullShare x ∗ owns c.tc arg16 fullShare (put rs (k0_off1 i) S1x1024x128.size (k0_pay17 x))) -∗ K ⟨⟩))
      ⊢ wp frame (wpE D Variants.none c none) E (stat i arg2 arg16 h) K := by
  iintro ⟨H2, H16, Hk⟩
  unfold stat
  iapply (wp_load_all (c := (c : Thread nD τ)) (m := arg2)) $$ H2
  iintro H2
  iapply (wp_load_owns (c := (c : Thread nD τ)) (m := arg16)) $$ H16
  iintro H16
  iapply (wp_store_owns (c := (c : Thread nD τ)) (m := arg16)) $$ H16
  iintro H16
  iapply (le_wp_ret _ _ _ _ _)
  iapply Hk
  isplitl [H2]; · iexact H2
  iexact H16

/-- The opening, with the first loads. -/
theorem part3_triple (K : (Σ' (arg1 : BitVec 32) (v20 : FVec F S8x512 .f32) (v22 : FVec F S8x512 .f32) (v26 : FVec F S256x512 .f32), FVec F S256x512 .f32) → sProp 𝕄) :
    iprop(owns c.tc arg2 fullShare x ∗ owns c.tc arg3 fullShare g ∗ owns c.tc arg4 fullShare w4 ∗ owns c.tc arg5 fullShare w5 ∗ owns c.tc arg6 fullShare p6 ∗ owns c.tc arg7 fullShare p7 ∗ owns c.tc arg8 fullShare b8 ∗ owns c.tc arg9 fullShare b9 ∗ owns c.tc arg11 fullShare u11 ∗ owns c.tc arg12 fullShare u12 ∗ owns c.tc arg13 fullShare t13 ∗ owns c.tc arg14 fullShare t14 ∗ owns c.tc arg15 fullShare cr ∗ owns c.tc arg16 fullShare rs ∗ (iprop(owns c.tc arg2 fullShare x ∗ owns c.tc arg3 fullShare g ∗ owns c.tc arg4 fullShare w4 ∗ owns c.tc arg5 fullShare w5 ∗ owns c.tc arg6 fullShare p6 ∗ owns c.tc arg7 fullShare p7 ∗ owns c.tc arg8 fullShare b8 ∗ owns c.tc arg9 fullShare b9 ∗ owns c.tc arg11 fullShare (wAt i w4 g u11) ∗ owns c.tc arg12 fullShare (wAt i w5 g u12) ∗ owns c.tc arg13 fullShare (tAt i p6 b8 t13) ∗ owns c.tc arg14 fullShare (tAt i p7 b9 t14) ∗ owns c.tc arg15 fullShare (cAt i cr) ∗ owns c.tc arg16 fullShare (rAt i x rs)) -∗ K (⟨BitVec.ofNat 32 (i 1).val, k0_pay18 (window (cAt i cr) ![0, 0, 0] S1x8x512.size inb_S2x8x512_S1x8x512_0_0_0), k0_pay19 (window (cAt i cr) ![1, 0, 0] S1x8x512.size inb_S2x8x512_S1x8x512_1_0_0), k0_pay21 (window x ![0, 0] S256x2048.size inb_S1024x2048_S256x2048_0_0) (wAt i w4 g u11), k0_pay22 (window x ![0, 0] S256x2048.size inb_S1024x2048_S256x2048_0_0) (wAt i w5 g u12)⟩)))
      ⊢ wp frame (wpE D Variants.none c none) E (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [part3_eq]
  have h1 : ∀ K' : PUnit → sProp 𝕄, iprop(owns c.tc arg3 fullShare g ∗ owns c.tc arg4 fullShare w4 ∗ owns c.tc arg5 fullShare w5 ∗ owns c.tc arg6 fullShare p6 ∗ owns c.tc arg7 fullShare p7 ∗ owns c.tc arg8 fullShare b8 ∗ owns c.tc arg9 fullShare b9 ∗ owns c.tc arg11 fullShare u11 ∗ owns c.tc arg12 fullShare u12 ∗ owns c.tc arg13 fullShare t13 ∗ owns c.tc arg14 fullShare t14 ∗ (iprop(owns c.tc arg3 fullShare g ∗ owns c.tc arg4 fullShare w4 ∗ owns c.tc arg5 fullShare w5 ∗ owns c.tc arg6 fullShare p6 ∗ owns c.tc arg7 fullShare p7 ∗ owns c.tc arg8 fullShare b8 ∗ owns c.tc arg9 fullShare b9 ∗ owns c.tc arg11 fullShare (wAt i w4 g u11) ∗ owns c.tc arg12 fullShare (wAt i w5 g u12) ∗ owns c.tc arg13 fullShare (tAt i p6 b8 t13) ∗ owns c.tc arg14 fullShare (tAt i p7 b9 t14)) -∗ K' ⟨⟩)) ⊢ wp frame (wpE D Variants.none c none) E (if first i = 1#1 then fill i arg2 harg2 arg3 harg3 arg4 harg4 arg5 harg5 arg6 harg6 arg7 harg7 arg8 harg8 arg9 harg9 arg10 harg10 arg11 harg11 arg12 harg12 arg13 harg13 arg14 harg14 arg15 harg15 arg16 harg16 else pure ⟨⟩) K' := by
    intro K'
    unfold wAt tAt
    by_cases h : first i = 1#1
    · simp only [if_pos h, dif_pos h]; exact fill_triple (c := c) (i := i) (E := E) (K := K') (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (g := g) (w4 := w4) (w5 := w5) (p6 := p6) (p7 := p7) (b8 := b8) (b9 := b9) (u11 := u11) (u12 := u12) (t13 := t13) (t14 := t14)
    · simp only [if_neg h, dif_neg h]
      iintro ⟨H3, H4, H5, H6, H7, H8, H9, H11, H12, H13, H14, Hk⟩
      iapply (le_wp_ret _ _ _ _ _)
      iapply Hk
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H11]; · iexact H11
      isplitl [H12]; · iexact H12
      isplitl [H13]; · iexact H13
      iexact H14
  have h2 : ∀ K' : PUnit → sProp 𝕄, iprop(owns c.tc arg15 fullShare cr ∗ (iprop(owns c.tc arg15 fullShare (cAt i cr)) -∗ K' ⟨⟩)) ⊢ wp frame (wpE D Variants.none c none) E (if start i = 1#1 then zero arg15 else pure ⟨⟩) K' := by
    intro K'
    unfold cAt
    by_cases h : start i = 1#1
    · simp only [if_pos h, dif_pos h]; exact zero_triple (c := c) (arg15 := arg15) (cr := cr) (E := E) (K := K')
    · simp only [if_neg h, dif_neg h]
      iintro ⟨H15, Hk⟩
      iapply (le_wp_ret _ _ _ _ _)
      iapply Hk
      iexact H15
  have h3 : ∀ K' : PUnit → sProp 𝕄, iprop(owns c.tc arg2 fullShare x ∗ owns c.tc arg16 fullShare rs ∗ (iprop(owns c.tc arg2 fullShare x ∗ owns c.tc arg16 fullShare (rAt i x rs)) -∗ K' ⟨⟩)) ⊢ wp frame (wpE D Variants.none c none) E (if h : k0_cond3 i = 1#1 then stat i arg2 arg16 h else pure ⟨⟩) K' := by
    intro K'
    unfold rAt
    by_cases h : k0_cond3 i = 1#1
    · simp only [if_pos h, dif_pos h]; exact stat_triple (c := c) (i := i) (arg2 := arg2) (arg16 := arg16) (x := x) (rs := rs) (E := E) (K := K') (h := h)
    · simp only [if_neg h, dif_neg h]
      iintro ⟨H2, H16, Hk⟩
      iapply (le_wp_ret _ _ _ _ _)
      iapply Hk
      isplitl [H2]; · iexact H2
      iexact H16
  iintro ⟨H2, H3, H4, H5, H6, H7, H8, H9, H11, H12, H13, H14, H15, H16, Hk⟩
  rw [wp_bind]
  iapply (h1 _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexact H11
  isplitl [H12]; · iexact H12
  isplitl [H13]; · iexact H13
  isplitl [H14]; · iexact H14
  iintro ⟨H3, H4, H5, H6, H7, H8, H9, H11, H12, H13, H14⟩
  rw [wp_bind]
  iapply (h2 _)
  isplitl [H15]; · iexact H15
  iintro H15
  rw [wp_bind]
  iapply (h3 _)
  isplitl [H2]; · iexact H2
  isplitl [H16]; · iexact H16
  iintro ⟨H2, H16⟩
  unfold loads
  iapply (wp_load_owns (c := (c : Thread nD τ)) (m := arg15)) $$ H15
  iintro H15
  iapply (wp_load_owns (c := (c : Thread nD τ)) (m := arg15)) $$ H15
  iintro H15
  iapply (wp_load_owns (c := (c : Thread nD τ)) (m := arg2)) $$ H2
  iintro H2
  iapply (wp_load_all (c := (c : Thread nD τ)) (m := arg11)) $$ H11
  iintro H11
  iapply (wp_load_all (c := (c : Thread nD τ)) (m := arg12)) $$ H12
  iintro H12
  iapply (le_wp_ret _ _ _ _ _)
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexact H11
  isplitl [H12]; · iexact H12
  isplitl [H13]; · iexact H13
  isplitl [H14]; · iexact H14
  isplitl [H15]; · iexact H15
  iexact H16

/-- What the point holds. -/
abbrev opsOf : Ops F := ⟨x, u11, u12, t13, t14, cr, rows i rs⟩

/-- All after the opening. -/
def tail (r : Σ' (arg1 : BitVec 32) (v20 : FVec F S8x512 .f32) (v22 : FVec F S8x512 .f32) (v26 : FVec F S256x512 .f32), FVec F S256x512 .f32) : Prog (TpuEff nD τ sig (Elt F) Λ₀ .tc) PUnit := do
  let ⟨arg1, v20, v22, v26, v28⟩ := r
  let ⟨v33, v34, v45, v46, v61, v62, v64⟩ : Σ' (v33 : FVec F S256x512 .f32) (v34 : FVec F S256x512 .f32) (v45 : FVec F S256x512 .f32) (v46 : FVec F S256x512 .f32) (v61 : FVec F S256x512 .f32) (v62 : FVec F S256x512 .f32), FVec F S8x512 .f32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v20 v26 v28
  let ⟨v89, v90, v99, v101⟩ : Σ' (v89 : FVec F S8x512 .f32) (v90 : FVec F S8x512 .f32) (v99 : FVec F S256x512 .f32), FVec F S256x512 .f32 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 v22 v33 v34 v61 v62 v64
  let ⟨v106, v107, v128, v129, v137, v138⟩ : Σ' (v106 : FVec F S256x512 .f32) (v107 : FVec F S256x512 .f32) (v128 : FVec F S256x512 .f32) (v129 : FVec F S264x512 .f32) (v137 : FVec F S256x512 .f32), FVec F S256x512 .f32 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v45 v46 v89 v90 v99 v101
  let ⟨v151, v167, v168, v169, v173, v176⟩ : Σ' (v151 : FVec F S8x512 .f32) (v167 : FVec F S256x512 .f32) (v168 : FVec F S256x512 .f32) (v169 : FVec F S264x512 .f32) (v173 : FVec F S256x512 .f32), FVec F S256x512 .f32 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v45 v46 v106 v128 v129 v137 v138
  let ⟨v211, v212, v216⟩ : Σ' (v211 : FVec F S8x512 .f32) (v212 : FVec F S8x512 .f32), FVec F S256x512 .bf16 ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 v106 v107 v151 v169 v173 v176
  let ⟨v238, v253, v254⟩ : Σ' (v238 : FVec F S256x512 .f32) (v253 : FVec F S256x512 .f32), FVec F S256x512 .f32 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 v167 v168 v211 v212 v216
  let v255 : Vec F S1x8x512 .f32 ← Prog.lift (.load arg14 (Rect.unit (s := S4x8x512) ![1, 0, 0] S1x8x512.size inb_S4x8x512_S1x8x512_1_0_0).toLoadRect (View.loadsAt_vmem h_S1x8x512))
  let v266 : Vec F S256x512 .bf16 ← Prog.lift (.load arg10 (Rect.unit (s := S1024x512) ![768, 0] S256x512.size inb_S1024x512_S256x512_768_0).toLoadRect (View.loadsAt_vmem h_S256x512))
  Prog.lift (.store arg10 (Rect.unit (s := S1024x512) ![768, 0] S256x512.size inb_S1024x512_S256x512_768_0) (k0_pay1 v238 v253 v254 v255) Finset.univ (View.stores_vmem h_S256x512 (harg10.storeExact_slice rfl _ packedbf16_S1024x512_S256x512_768_0) (fun _ => rfl)) (.inl rfl))
  let v267 : Vec F S1x8x512 .f32 ← Prog.lift (.load arg15 (Rect.unit (s := S2x8x512) ![0, 0, 0] S1x8x512.size inb_S2x8x512_S1x8x512_0_0_0).toLoadRect (View.loadsAt_vmem h_S1x8x512))
  Prog.lift (.store arg15 (Rect.unit (s := S2x8x512) ![0, 0, 0] S1x8x512.size inb_S2x8x512_S1x8x512_0_0_0) (k0_pay2 v167) Finset.univ (View.stores_vmem_bits_univ h_S1x8x512 rfl) (.inl rfl))
  let v270 : Vec F S1x8x512 .f32 ← Prog.lift (.load arg15 (Rect.unit (s := S2x8x512) ![1, 0, 0] S1x8x512.size inb_S2x8x512_S1x8x512_1_0_0).toLoadRect (View.loadsAt_vmem h_S1x8x512))
  Prog.lift (.store arg15 (Rect.unit (s := S2x8x512) ![1, 0, 0] S1x8x512.size inb_S2x8x512_S1x8x512_1_0_0) (k0_pay3 v168) Finset.univ (View.stores_vmem_bits_univ h_S1x8x512 rfl) (.inl rfl))
  pure ⟨⟩

theorem body_eq : cc0_ffn_up_conv_gate (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 = (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 >>= tail i arg2 harg2 arg3 harg3 arg4 harg4 arg5 harg5 arg6 harg6 arg7 harg7 arg8 harg8 arg9 harg9 arg10 harg10 arg11 harg11 arg12 harg12 arg13 harg13 arg14 harg14 arg15 harg15 arg16 harg16) := by
  rw [cc0_ffn_up_conv_gate_eq_skeleton]
  rfl

set_option maxHeartbeats 3200000 in
/-- All after the opening. -/
theorem tail_triple (K : PUnit → sProp 𝕄) :
    iprop(owns c.tc arg2 fullShare x ∗ owns c.tc arg10 fullShare o ∗ owns c.tc arg11 fullShare u11 ∗ owns c.tc arg12 fullShare u12 ∗ owns c.tc arg13 fullShare t13 ∗ owns c.tc arg14 fullShare t14 ∗ owns c.tc arg15 fullShare cr ∗ owns c.tc arg16 fullShare rs ∗ (iprop(owns c.tc arg2 fullShare x ∗ owns c.tc arg10 fullShare (outF (opsOf i x u11 u12 t13 t14 cr rs) o) ∗ owns c.tc arg11 fullShare u11 ∗ owns c.tc arg12 fullShare u12 ∗ owns c.tc arg13 fullShare t13 ∗ owns c.tc arg14 fullShare t14 ∗ owns c.tc arg15 fullShare (carryF (opsOf i x u11 u12 t13 t14 cr rs) cr) ∗ owns c.tc arg16 fullShare rs) -∗ K ⟨⟩))
      ⊢ wp frame (wpE D Variants.none c none) E (tail i arg2 harg2 arg3 harg3 arg4 harg4 arg5 harg5 arg6 harg6 arg7 harg7 arg8 harg8 arg9 harg9 arg10 harg10 arg11 harg11 arg12 harg12 arg13 harg13 arg14 harg14 arg15 harg15 arg16 harg16 ⟨BitVec.ofNat 32 (i 1).val, k0_pay18 (window (cr) ![0, 0, 0] S1x8x512.size inb_S2x8x512_S1x8x512_0_0_0), k0_pay19 (window (cr) ![1, 0, 0] S1x8x512.size inb_S2x8x512_S1x8x512_1_0_0), k0_pay21 (window x ![0, 0] S256x2048.size inb_S1024x2048_S256x2048_0_0) u11, k0_pay22 (window x ![0, 0] S256x2048.size inb_S1024x2048_S256x2048_0_0) u12⟩) K := by
  unfold tail outF carryF
  iintro ⟨H2, H10, H11, H12, H13, H14, H15, H16, Hk⟩
  dsimp only
  rw [wp_bind, k0_part4_eq_skeleton]
  unfold k0_part4_skel
  iapply (wp_load_owns (c := (c : Thread nD τ)) (m := arg16)) $$ H16
  iintro H16
  iapply (wp_load_owns (c := (c : Thread nD τ)) (m := arg2)) $$ H2
  iintro H2
  iapply (wp_load_all (c := (c : Thread nD τ)) (m := arg11)) $$ H11
  iintro H11
  iapply (wp_load_all (c := (c : Thread nD τ)) (m := arg12)) $$ H12
  iintro H12
  iapply (wp_load_owns (c := (c : Thread nD τ)) (m := arg16)) $$ H16
  iintro H16
  iapply (wp_load_owns (c := (c : Thread nD τ)) (m := arg13)) $$ H13
  iintro H13
  iapply (wp_load_owns (c := (c : Thread nD τ)) (m := arg13)) $$ H13
  iintro H13
  iapply (wp_load_owns (c := (c : Thread nD τ)) (m := arg13)) $$ H13
  iintro H13
  iapply (wp_load_owns (c := (c : Thread nD τ)) (m := arg13)) $$ H13
  iintro H13
  iapply (le_wp_ret _ _ _ _ _)
  dsimp only
  rw [wp_bind, k0_part5_eq_skeleton]
  unfold k0_part5_skel
  iapply (wp_load_owns (c := (c : Thread nD τ)) (m := arg14)) $$ H14
  iintro H14
  iapply (wp_load_owns (c := (c : Thread nD τ)) (m := arg14)) $$ H14
  iintro H14
  iapply (wp_load_owns (c := (c : Thread nD τ)) (m := arg14)) $$ H14
  iintro H14
  iapply (wp_load_owns (c := (c : Thread nD τ)) (m := arg14)) $$ H14
  iintro H14
  iapply (wp_load_owns (c := (c : Thread nD τ)) (m := arg10)) $$ H10
  iintro H10
  iapply (wp_store_owns (c := (c : Thread nD τ)) (m := arg10)) $$ H10
  iintro H10
  iapply (wp_load_owns (c := (c : Thread nD τ)) (m := arg2)) $$ H2
  iintro H2
  iapply (wp_load_all (c := (c : Thread nD τ)) (m := arg11)) $$ H11
  iintro H11
  iapply (wp_load_all (c := (c : Thread nD τ)) (m := arg12)) $$ H12
  iintro H12
  iapply (le_wp_ret _ _ _ _ _)
  dsimp only
  rw [wp_bind, k0_part6_eq_skeleton]
  unfold k0_part6_skel
  iapply (wp_load_owns (c := (c : Thread nD τ)) (m := arg16)) $$ H16
  iintro H16
  iapply (wp_load_owns (c := (c : Thread nD τ)) (m := arg13)) $$ H13
  iintro H13
  iapply (wp_load_owns (c := (c : Thread nD τ)) (m := arg13)) $$ H13
  iintro H13
  iapply (wp_load_owns (c := (c : Thread nD τ)) (m := arg13)) $$ H13
  iintro H13
  iapply (wp_load_owns (c := (c : Thread nD τ)) (m := arg13)) $$ H13
  iintro H13
  iapply (wp_load_owns (c := (c : Thread nD τ)) (m := arg14)) $$ H14
  iintro H14
  iapply (wp_load_owns (c := (c : Thread nD τ)) (m := arg14)) $$ H14
  iintro H14
  iapply (le_wp_ret _ _ _ _ _)
  dsimp only
  rw [wp_bind, k0_part7_eq_skeleton]
  unfold k0_part7_skel
  iapply (wp_load_owns (c := (c : Thread nD τ)) (m := arg14)) $$ H14
  iintro H14
  iapply (wp_load_owns (c := (c : Thread nD τ)) (m := arg14)) $$ H14
  iintro H14
  iapply (wp_load_owns (c := (c : Thread nD τ)) (m := arg10)) $$ H10
  iintro H10
  iapply (wp_store_owns (c := (c : Thread nD τ)) (m := arg10)) $$ H10
  iintro H10
  iapply (wp_load_owns (c := (c : Thread nD τ)) (m := arg2)) $$ H2
  iintro H2
  iapply (wp_load_all (c := (c : Thread nD τ)) (m := arg11)) $$ H11
  iintro H11
  iapply (wp_load_all (c := (c : Thread nD τ)) (m := arg12)) $$ H12
  iintro H12
  iapply (wp_load_owns (c := (c : Thread nD τ)) (m := arg16)) $$ H16
  iintro H16
  iapply (wp_load_owns (c := (c : Thread nD τ)) (m := arg13)) $$ H13
  iintro H13
  iapply (wp_load_owns (c := (c : Thread nD τ)) (m := arg13)) $$ H13
  iintro H13
  iapply (le_wp_ret _ _ _ _ _)
  dsimp only
  rw [wp_bind, k0_part8_eq_skeleton]
  unfold k0_part8_skel
  iapply (wp_load_owns (c := (c : Thread nD τ)) (m := arg13)) $$ H13
  iintro H13
  iapply (wp_load_owns (c := (c : Thread nD τ)) (m := arg13)) $$ H13
  iintro H13
  iapply (wp_load_owns (c := (c : Thread nD τ)) (m := arg14)) $$ H14
  iintro H14
  iapply (wp_load_owns (c := (c : Thread nD τ)) (m := arg14)) $$ H14
  iintro H14
  iapply (wp_load_owns (c := (c : Thread nD τ)) (m := arg14)) $$ H14
  iintro H14
  iapply (wp_load_owns (c := (c : Thread nD τ)) (m := arg14)) $$ H14
  iintro H14
  iapply (le_wp_ret _ _ _ _ _)
  dsimp only
  rw [wp_bind, k0_part9_eq_skeleton]
  unfold k0_part9_skel
  iapply (wp_load_owns (c := (c : Thread nD τ)) (m := arg10)) $$ H10
  iintro H10
  iapply (wp_store_owns (c := (c : Thread nD τ)) (m := arg10)) $$ H10
  iintro H10
  iapply (wp_load_owns (c := (c : Thread nD τ)) (m := arg13)) $$ H13
  iintro H13
  iapply (wp_load_owns (c := (c : Thread nD τ)) (m := arg13)) $$ H13
  iintro H13
  iapply (wp_load_owns (c := (c : Thread nD τ)) (m := arg13)) $$ H13
  iintro H13
  iapply (wp_load_owns (c := (c : Thread nD τ)) (m := arg13)) $$ H13
  iintro H13
  iapply (wp_load_owns (c := (c : Thread nD τ)) (m := arg14)) $$ H14
  iintro H14
  iapply (wp_load_owns (c := (c : Thread nD τ)) (m := arg14)) $$ H14
  iintro H14
  iapply (wp_load_owns (c := (c : Thread nD τ)) (m := arg14)) $$ H14
  iintro H14
  iapply (le_wp_ret _ _ _ _ _)
  dsimp only
  iapply (wp_load_owns (c := (c : Thread nD τ)) (m := arg14)) $$ H14
  iintro H14
  iapply (wp_load_owns (c := (c : Thread nD τ)) (m := arg10)) $$ H10
  iintro H10
  iapply (wp_store_owns (c := (c : Thread nD τ)) (m := arg10)) $$ H10
  iintro H10
  iapply (wp_load_owns (c := (c : Thread nD τ)) (m := arg15)) $$ H15
  iintro H15
  iapply (wp_store_owns (c := (c : Thread nD τ)) (m := arg15)) $$ H15
  iintro H15
  iapply (wp_load_owns (c := (c : Thread nD τ)) (m := arg15)) $$ H15
  iintro H15
  iapply (wp_store_owns (c := (c : Thread nD τ)) (m := arg15)) $$ H15
  iintro H15
  iapply (le_wp_ret _ _ _ _ _)
  iapply Hk
  isplitl [H2]; · iexact H2
  isplitl [H10]; · iexact H10
  isplitl [H11]; · iexact H11
  isplitl [H12]; · iexact H12
  isplitl [H13]; · iexact H13
  isplitl [H14]; · iexact H14
  isplitl [H15]; · iexact H15
  iexact H16

/-- The whole body. -/
theorem body_triple (K : PUnit → sProp 𝕄) :
    iprop(owns c.tc arg2 fullShare x ∗ owns c.tc arg3 fullShare g ∗ owns c.tc arg4 fullShare w4 ∗ owns c.tc arg5 fullShare w5 ∗ owns c.tc arg6 fullShare p6 ∗ owns c.tc arg7 fullShare p7 ∗ owns c.tc arg8 fullShare b8 ∗ owns c.tc arg9 fullShare b9 ∗ owns c.tc arg10 fullShare o ∗ owns c.tc arg11 fullShare u11 ∗ owns c.tc arg12 fullShare u12 ∗ owns c.tc arg13 fullShare t13 ∗ owns c.tc arg14 fullShare t14 ∗ owns c.tc arg15 fullShare cr ∗ owns c.tc arg16 fullShare rs ∗ (iprop(owns c.tc arg2 fullShare x ∗ owns c.tc arg3 fullShare g ∗ owns c.tc arg4 fullShare w4 ∗ owns c.tc arg5 fullShare w5 ∗ owns c.tc arg6 fullShare p6 ∗ owns c.tc arg7 fullShare p7 ∗ owns c.tc arg8 fullShare b8 ∗ owns c.tc arg9 fullShare b9 ∗ owns c.tc arg10 fullShare (outF (opsOf i x (wAt i w4 g u11) (wAt i w5 g u12) (tAt i p6 b8 t13) (tAt i p7 b9 t14) (cAt i cr) (rAt i x rs)) o) ∗ owns c.tc arg11 fullShare (wAt i w4 g u11) ∗ owns c.tc arg12 fullShare (wAt i w5 g u12) ∗ owns c.tc arg13 fullShare (tAt i p6 b8 t13) ∗ owns c.tc arg14 fullShare (tAt i p7 b9 t14) ∗ owns c.tc arg15 fullShare (carryF (opsOf i x (wAt i w4 g u11) (wAt i w5 g u12) (tAt i p6 b8 t13) (tAt i p7 b9 t14) (cAt i cr) (rAt i x rs)) (cAt i cr)) ∗ owns c.tc arg16 fullShare (rAt i x rs)) -∗ K ⟨⟩))
      ⊢ wp frame (wpE D Variants.none c none) E (cc0_ffn_up_conv_gate i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [body_eq, wp_bind]
  iintro ⟨H2, H3, H4, H5, H6, H7, H8, H9, H10, H11, H12, H13, H14, H15, H16, Hk⟩
  iapply (part3_triple (c := c) (i := i) (E := E) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16))
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexact H11
  isplitl [H12]; · iexact H12
  isplitl [H13]; · iexact H13
  isplitl [H14]; · iexact H14
  isplitl [H15]; · iexact H15
  isplitl [H16]; · iexact H16
  iintro ⟨H2, H3, H4, H5, H6, H7, H8, H9, H11, H12, H13, H14, H15, H16⟩
  iapply (tail_triple (c := c) (i := i) (E := E) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16))
  isplitl [H2]; · iexact H2
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H2, H10, H11, H12, H13, H14, H15, H16⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

end

end Cert.KernelIdeal12.FfnUp

end
-- ==== Proof.FfnUp.State.lean ====
/- What the scratch holds before each grid point, over the blocks that the points see; one text for the launches of all layers. -/
module

public import proofs.«01_k».proof.Proof.FfnUp.Triple

@[expose] public section

set_option maxRecDepth 65536

noncomputable section

namespace Cert.KernelIdeal12.FfnUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal12 Cert.KernelIdeal12.Gen Cert.Rules
open Idealize.ShloMosaic.VecWindow (window put)

variable {F : FTy → Type} [FloatOps F]

/-! ## What the scratch holds -/

/-- The blocks that the points see, and what the two tables hold at the start. -/
structure Blk (F : FTy → Type) where
  x : Fin grid0.N → Vec F S1024x2048 .f32
  g : Fin grid0.N → Vec F S1x2048x1 .f32
  w4 : Fin grid0.N → Vec F S1x2048x512 .f32
  w5 : Fin grid0.N → Vec F S1x2048x512 .f32
  p6 : Fin grid0.N → Vec F S1x3x512 .f32
  p7 : Fin grid0.N → Vec F S1x3x512 .f32
  b8 : Fin grid0.N → Vec F S1x1x512 .f32
  b9 : Fin grid0.N → Vec F S1x1x512 .f32
  u2 : Vec F S4x8x512 .f32
  u3 : Vec F S4x8x512 .f32
  u4 : Vec F S2x8x512 .f32

variable (B : Blk F)

/-- The point of the first row block of the same column block. -/
def headPt (t : Fin grid0.N) : Fin grid0.N := ⟨t.val / 8 * 8, lt_of_le_of_lt (Nat.div_mul_le_self _ _) t.isLt⟩
/-- The point before. -/
def predPt (t : Fin grid0.N) : Fin grid0.N := ⟨t.val - 1, lt_of_le_of_lt (Nat.sub_le _ _) t.isLt⟩
/-- The point of the first column block that works on row block `b`. -/
def rowPt (b : Fin 8) : Fin grid0.N := ⟨b.val, lt_of_lt_of_eq (lt_trans b.isLt (by decide : 8 < 88)) N_0.symm⟩

def wgT (t : Fin grid0.N) : Vec F S2048x512 .bf16 := k0_pay4 (B.w4 (headPt t)) (B.g (headPt t))
def wvT (t : Fin grid0.N) : Vec F S2048x512 .bf16 := k0_pay4 (B.w5 (headPt t)) (B.g (headPt t))
def tgT (t : Fin grid0.N) : Vec F S4x8x512 .f32 := fillT (B.p6 (headPt t)) (B.b8 (headPt t)) B.u2
def tvT (t : Fin grid0.N) : Vec F S4x8x512 .f32 := fillT (B.p7 (headPt t)) (B.b9 (headPt t)) B.u3
/-- The statistics of the rows of point `t`. -/
def rT (t : Fin grid0.N) (k : Fin 4) : Vec F S1x256x128 .f32 := window (k0_pay17 (B.x t)) ![0, 256 * k.val, 0] S1x256x128.size (inb_r k)

/-- The carry that point `t` leaves. -/
def cOut (t : Fin grid0.N) : Vec F S2x8x512 .f32 :=
  carryF ⟨B.x t, wgT B t, wvT B t, tgT B t, tvT B t, B.u4, rT B t⟩ B.u4
/-- The carry that point `t` works with. -/
def cIn (t : Fin grid0.N) : Vec F S2x8x512 .f32 := if t.val % 4 = 0 then k0_pay16 else cOut B (predPt t)
/-- What point `t` works with. -/
def opsT (t : Fin grid0.N) : Ops F := ⟨B.x t, wgT B t, wvT B t, tgT B t, tvT B t, cIn B t, rT B t⟩
/-- The block that point `t` writes. -/
def outT (t : Fin grid0.N) : Vec F S1024x512 .bf16 := outF (opsT B t) (constant S1024x512 .bf16 0x0000#16)

/-! ## What is known before point `n` -/

theorem inb_rr (b : Fin 8) (k : Fin 4) : ∀ a, (![b.val, 256 * k.val, 0] : Fin 3 → ℕ) a + S1x256x128.size a ≤ S8x1024x128.size a := by decide +revert

def InvW (n : ℕ) (u11 u12 : Vec F S2048x512 .bf16) (t13 t14 : Vec F S4x8x512 .f32) : Prop :=
  ∀ t : Fin grid0.N, t.val = n → ¬ n % 8 = 0 → u11 = wgT B t ∧ u12 = wvT B t ∧ t13 = tgT B t ∧ t14 = tvT B t
def InvC (n : ℕ) (cr : Vec F S2x8x512 .f32) : Prop :=
  ∀ t : Fin grid0.N, t.val = n → ¬ n % 4 = 0 → cr = cOut B (predPt t)
def InvR (n : ℕ) (rs : Vec F S8x1024x128 .f32) : Prop :=
  ∀ b : Fin 8, b.val < n → ∀ k, window rs ![b.val, 256 * k.val, 0] S1x256x128.size (inb_rr b k) = rT B (rowPt b) k

/-! ### The tables and the output do not depend on what was there -/

theorem fillT_congr (p : Vec F S1x3x512 .f32) (b : Vec F S1x1x512 .f32) (u u' : Vec F S4x8x512 .f32) : fillT p b u = fillT p b u' := by
  funext y
  have h0 : (y 0).val < 4 := (y 0).isLt
  have h1 : (y 1).val < 8 := (y 1).isLt
  have h2 : (y 2).val < 512 := (y 2).isLt
  have hb : ∀ (n : ℕ), (∀ a, (![n, 0, 0] : Fin 3 → ℕ) a ≤ (y a).val ∧ (y a).val < (![n, 0, 0] : Fin 3 → ℕ) a + S1x8x512.size a) ↔ n ≤ (y 0).val ∧ (y 0).val < n + 1 := by
    intro n
    constructor
    · intro h; exact h 0
    · intro h a
      match a with
      | ⟨0, _⟩ => exact h
      | ⟨1, _⟩ => exact ⟨Nat.zero_le _, by show (y 1).val < 0 + 8; omega⟩
      | ⟨2, _⟩ => exact ⟨Nat.zero_le _, by show (y 2).val < 0 + 512; omega⟩
  unfold fillT put
  split
  · rfl
  · split
    · rfl
    · split
      · rfl
      · split
        · rfl
        · rename_i a b c d
          rw [hb] at a b c d
          omega

theorem carryF_congr (B B' : Ops F) (u u' : Vec F S2x8x512 .f32) (hx : B.x = B'.x) (hg : B.wg = B'.wg) (hv : B.wv = B'.wv) (hR : B.R = B'.R) :
    carryF B u = carryF B' u' := by
  funext y
  have h0 : (y 0).val < 2 := (y 0).isLt
  have h1 : (y 1).val < 8 := (y 1).isLt
  have h2 : (y 2).val < 512 := (y 2).isLt
  have hb : ∀ (n : ℕ), (∀ a, (![n, 0, 0] : Fin 3 → ℕ) a ≤ (y a).val ∧ (y a).val < (![n, 0, 0] : Fin 3 → ℕ) a + S1x8x512.size a) ↔ n ≤ (y 0).val ∧ (y 0).val < n + 1 := by
    intro n
    constructor
    · intro h; exact h 0
    · intro h a
      match a with
      | ⟨0, _⟩ => exact h
      | ⟨1, _⟩ => exact ⟨Nat.zero_le _, by show (y 1).val < 0 + 8; omega⟩
      | ⟨2, _⟩ => exact ⟨Nat.zero_le _, by show (y 2).val < 0 + 512; omega⟩
  unfold carryF
  rw [hx, hg, hv, hR]
  unfold put
  split
  · rfl
  · split
    · rfl
    · rename_i a b
      rw [hb] at a b
      omega

theorem outF_congr (B : Ops F) (u u' : Vec F S1024x512 .bf16) : outF B u = outF B u' := by
  funext y
  have h0 : (y 0).val < 1024 := (y 0).isLt
  have h1 : (y 1).val < 512 := (y 1).isLt
  have hb : ∀ (n : ℕ), (∀ a, (![n, 0] : Fin 2 → ℕ) a ≤ (y a).val ∧ (y a).val < (![n, 0] : Fin 2 → ℕ) a + S256x512.size a) ↔ n ≤ (y 0).val ∧ (y 0).val < n + 256 := by
    intro n
    constructor
    · intro h; exact h 0
    · intro h a
      match a with
      | ⟨0, _⟩ => exact h
      | ⟨1, _⟩ => exact ⟨Nat.zero_le _, by show (y 1).val < 0 + 512; omega⟩
  unfold outF put
  split
  · rfl
  · split
    · rfl
    · split
      · rfl
      · split
        · rfl
        · rename_i a b c d
          rw [hb] at a b c d
          omega

/-! ### The steps -/

theorem headPt_self (t : Fin grid0.N) (h : t.val % 8 = 0) : headPt t = t := Fin.ext (by show t.val / 8 * 8 = t.val; omega)

theorem open_W (t : Fin grid0.N) (u11 u12 : Vec F S2048x512 .bf16) (t13 t14 : Vec F S4x8x512 .f32) (h : InvW B t.val u11 u12 t13 t14) :
    wAt (grid0.coords t) (B.w4 t) (B.g t) u11 = wgT B t ∧ wAt (grid0.coords t) (B.w5 t) (B.g t) u12 = wvT B t
      ∧ tAt (grid0.coords t) (B.p6 t) (B.b8 t) t13 = tgT B t ∧ tAt (grid0.coords t) (B.p7 t) (B.b9 t) t14 = tvT B t := by
  unfold wAt tAt
  by_cases hf : first (grid0.coords t) = 1#1
  · simp only [if_pos hf]
    have e := headPt_self t ((first_iff t).mp hf)
    unfold wgT wvT tgT tvT
    rw [e]
    exact ⟨rfl, rfl, fillT_congr _ _ _ _, fillT_congr _ _ _ _⟩
  · simp only [if_neg hf]
    exact h t rfl fun hh => hf ((first_iff t).mpr hh)

theorem step_W (t : Fin grid0.N) : InvW B (t.val + 1) (wgT B t) (wvT B t) (tgT B t) (tvT B t) := by
  intro t' ht' h
  have e : headPt t' = headPt t := Fin.ext (by show t'.val / 8 * 8 = t.val / 8 * 8; omega)
  unfold wgT wvT tgT tvT
  rw [e]
  exact ⟨rfl, rfl, rfl, rfl⟩

theorem open_C (t : Fin grid0.N) (cr : Vec F S2x8x512 .f32) (h : InvC B t.val cr) : cAt (grid0.coords t) cr = cIn B t := by
  unfold cAt cIn
  by_cases hs : t.val % 4 = 0
  · rw [if_pos ((start_iff t).mpr hs), if_pos hs]
  · rw [if_neg fun hh => hs ((start_iff t).mp hh), if_neg hs]
    exact h t rfl hs

theorem step_C (t : Fin grid0.N) (u : Vec F S2x8x512 .f32) : InvC B (t.val + 1) (carryF (opsT B t) u) := by
  intro t' ht' h
  have e : predPt t' = t := Fin.ext (by show t'.val - 1 = t.val; omega)
  rw [e]
  exact carryF_congr _ _ _ _ rfl rfl rfl rfl

theorem off1_eq : ∀ t : Fin grid0.N, k0_off1 (grid0.coords t) = ![t.val % 8, 0, 0] := by decide +kernel
theorem off_eq : ∀ t : Fin grid0.N, k0_off2 (grid0.coords t) = ![t.val % 8, 256 * (0 : Fin 4).val, 0] ∧ k0_off3 (grid0.coords t) = ![t.val % 8, 256 * (1 : Fin 4).val, 0]
    ∧ k0_off4 (grid0.coords t) = ![t.val % 8, 256 * (2 : Fin 4).val, 0] ∧ k0_off5 (grid0.coords t) = ![t.val % 8, 256 * (3 : Fin 4).val, 0] := by decide +kernel

theorem window_off {s : Shape} {β : Type} (r : s.Idx → β) {off off' size : Fin s.rank → ℕ} (inb : ∀ a, off a + size a ≤ s.size a) (inb' : ∀ a, off' a + size a ≤ s.size a)
    (h : off = off') : window r off size inb = window r off' size inb' := by
  subst h; rfl

theorem step_R (t : Fin grid0.N) (rs : Vec F S8x1024x128 .f32) (h : InvR B t.val rs) :
    InvR B (t.val + 1) (rAt (grid0.coords t) (B.x t) rs) := by
  intro b hb k
  unfold rAt
  by_cases hc : k0_cond3 (grid0.coords t) = 1#1
  · have h8 := (cond3_iff t).mp hc
    rw [if_pos hc, off1_eq]
    by_cases hbt : b.val = t.val
    · have e : rowPt b = t := Fin.ext hbt
      rw [VecWindow.window_put_of_inside _ _ _ _ _ _ _ (by
        intro a
        have hk := k.isLt
        match a with
        | ⟨0, _⟩ => show t.val % 8 ≤ b.val ∧ b.val + 1 ≤ t.val % 8 + 1; omega
        | ⟨1, _⟩ => show 0 ≤ 256 * k.val ∧ 256 * k.val + 256 ≤ 0 + 1024; omega
        | ⟨2, _⟩ => show 0 ≤ 0 ∧ 0 + 128 ≤ 0 + 128; omega), e]
      unfold rT
      exact window_off (s := S1x1024x128) _ _ _ (funext fun a => by
        match a with
        | ⟨0, _⟩ => show b.val - t.val % 8 = 0; omega
        | ⟨1, _⟩ => show 256 * k.val - 0 = 256 * k.val; omega
        | ⟨2, _⟩ => rfl)
    · rw [VecWindow.window_put_of_disjoint _ _ _ _ _ _ _ (0 : Fin 3) (by
        show b.val + 1 ≤ t.val % 8 ∨ t.val % 8 + 1 ≤ b.val; omega)]
      exact h b (by omega) k
  · rw [if_neg hc]
    have h8 : ¬ t.val < 8 := fun hh => hc ((cond3_iff t).mpr hh)
    exact h b (by have := b.isLt; omega) k

theorem rows_eq (hx : ∀ t t' : Fin grid0.N, t.val % 8 = t'.val % 8 → B.x t = B.x t') (t : Fin grid0.N) (rs : Vec F S8x1024x128 .f32) (h : InvR B (t.val + 1) rs) : rows (grid0.coords t) rs = rT B t := by
  obtain ⟨o2, o3, o4, o5⟩ := off_eq t
  have key : ∀ k : Fin 4, window rs ![t.val % 8, 256 * k.val, 0] S1x256x128.size (inb_rr ⟨t.val % 8, Nat.mod_lt _ (by decide)⟩ k) = rT B t k := by
    intro k
    rw [h ⟨t.val % 8, Nat.mod_lt _ (by decide)⟩ (by show t.val % 8 < t.val + 1; omega) k]
    unfold rT
    rw [hx (rowPt ⟨t.val % 8, Nat.mod_lt _ (by decide)⟩) t (by show t.val % 8 % 8 = t.val % 8; omega)]
  funext k
  match k with
  | 0 => exact Eq.trans (window_off rs _ (inb_rr ⟨t.val % 8, Nat.mod_lt _ (by decide)⟩ 0) o2) (key 0)
  | 1 => exact Eq.trans (window_off rs _ (inb_rr ⟨t.val % 8, Nat.mod_lt _ (by decide)⟩ 1) o3) (key 1)
  | 2 => exact Eq.trans (window_off rs _ (inb_rr ⟨t.val % 8, Nat.mod_lt _ (by decide)⟩ 2) o4) (key 2)
  | 3 => exact Eq.trans (window_off rs _ (inb_rr ⟨t.val % 8, Nat.mod_lt _ (by decide)⟩ 3) o5) (key 3)

theorem ops_eq (hx : ∀ t t' : Fin grid0.N, t.val % 8 = t'.val % 8 → B.x t = B.x t') (t : Fin grid0.N) (rs : Vec F S8x1024x128 .f32) (h : InvR B (t.val + 1) rs) :
    opsOf (grid0.coords t) (B.x t) (wgT B t) (wvT B t) (tgT B t) (tvT B t) (cIn B t) rs = opsT B t := by
  unfold opsT
  rw [← rows_eq B hx t rs h]

/-! ## The output array -/

/-- The point that writes the block of index `i`, and the place of `i` in it. -/
abbrev ptOf (i : S8192x5632.Idx) : ℕ := (i 0).val / 1024 + 8 * ((i 1).val / 512)
set_option backward.proofsInPublic true in
abbrev locOf (i : S8192x5632.Idx) : S1024x512.Idx := fun a => match a with
  | ⟨0, _⟩ => ⟨(i 0).val % 1024, Nat.mod_lt _ (by decide)⟩
  | ⟨1, _⟩ => ⟨(i 1).val % 512, Nat.mod_lt _ (by decide)⟩

/-- What the output array ends holding: at each index what the point of its block computes there. -/
def outArr (i : S8192x5632.Idx) : Elt F .bf16 :=
  if h : ptOf i < grid0.N then outT B ⟨ptOf i, h⟩ (locOf i) else outT B (rowPt 0) (locOf i)

theorem outT_congr (t t' : Fin grid0.N) (h : t = t') (y : S1024x512.Idx) : outT B t y = outT B t' y := by rw [h]

end Cert.KernelIdeal12.FfnUp

end
-- ==== Proof.FfnUp.Frame.lean ====
/- The launch: what is known of the scratch before each grid point, the run and the frame. -/
module

public import proofs.«01_k».proof.Proof.FfnUp.State
public import proofs.«01_k».proof.Proof.Gen.KernelIdeal12.Frame
public import Idealize.ShloMosaic.Lib.Claim

@[expose] public section

set_option maxRecDepth 65536

noncomputable section

namespace Cert.KernelIdeal12.FfnUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal12 Cert.KernelIdeal12.Gen Cert.Rules
open Idealize.ShloMosaic.VecWindow (window put)

variable {F : FTy → Type} [FloatOps F]

open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-- The blocks of this launch. -/
def blk (c : Dev nD) : Blk F := ⟨fun t => iblk m c 0 t, fun t => iblk m c 1 t, fun t => iblk m c 2 t, fun t => iblk m c 3 t, fun t => iblk m c 4 t, fun t => iblk m c 5 t,
  fun t => iblk m c 6 t, fun t => iblk m c 7 t, m (c.tc.loc cc0_scratch2), m (c.tc.loc cc0_scratch3), m (c.tc.loc cc0_scratch4)⟩

/-- Points of one row block see the same rows. -/
theorem iblk0_congr (c : Dev nD) (t t' : Fin cfg0.N) (h : t.val % 8 = t'.val % 8) : (iblk m c 0 t : Vec F S1024x2048 .f32) = iblk m c 0 t' := by
  have hi : ∀ t : Fin cfg0.N, win0_0.index t 0 = t.val % 8 ∧ win0_0.index t 1 = 0 :=
    (by decide +kernel : ∀ t : Fin grid0.N, _)
  funext y
  unfold iblk
  rw [View.read_apply, View.read_apply]
  show V m c main_arg0 _ = V m c main_arg0 _
  congr 1
  funext a
  apply Fin.ext
  match a with
  | ⟨0, _⟩ => show win0_0.index t 0 * 1024 + 1 * (y 0).val = win0_0.index t' 0 * 1024 + 1 * (y 0).val; rw [(hi t).1, (hi t').1, h]
  | ⟨1, _⟩ => show win0_0.index t 1 * 2048 + 1 * (y 1).val = win0_0.index t' 1 * 2048 + 1 * (y 1).val; rw [(hi t).2, (hi t').2]

/-! ## The invariant and the proof data -/

abbrev sc11 : Memref sig .tc .vmem S2048x512 .bf16 := Memref.whole cc0_scratch0
abbrev sc12 : Memref sig .tc .vmem S2048x512 .bf16 := Memref.whole cc0_scratch1
abbrev sc13 : Memref sig .tc .vmem S4x8x512 .f32 := Memref.whole cc0_scratch2
abbrev sc14 : Memref sig .tc .vmem S4x8x512 .f32 := Memref.whole cc0_scratch3
abbrev sc15 : Memref sig .tc .vmem S2x8x512 .f32 := Memref.whole cc0_scratch4
abbrev sc16 : Memref sig .tc .vmem S8x1024x128 .f32 := Memref.whole cc0_scratch5

/-- Before point `n`: the scratch at contents of which the above is known. -/
def Phi (c : Dev nD) (n : ℕ) : sProp 𝕄 :=
  iprop((∃ u11 u12 t13 t14 cr rs, ⌜InvW (blk m c) n u11 u12 t13 t14 ∧ InvC (blk m c) n cr ∧ InvR (blk m c) n rs⌝ ∗ owns c.tc sc11 fullShare u11 ∗ owns c.tc sc12 fullShare u12
    ∗ owns c.tc sc13 fullShare t13 ∗ owns c.tc sc14 fullShare t14 ∗ owns c.tc sc15 fullShare cr ∗ owns c.tc sc16 fullShare rs) ∗ (∃ r, prngReg c r))

theorem PhiA_eq (c : Dev nD) : (Pipeline.ΦA spec0 c : sProp 𝕄)
    = iprop(((∃ u, owns c.tc sc11 fullShare u) ∗ (∃ u, owns c.tc sc12 fullShare u) ∗ (∃ u, owns c.tc sc13 fullShare u)
      ∗ (∃ u, owns c.tc sc14 fullShare u) ∗ (∃ u, owns c.tc sc15 fullShare u) ∗ (∃ u, owns c.tc sc16 fullShare u)) ∗ (∃ r, prngReg c r)) := by
  unfold Pipeline.ΦA; rw [scopedRest0_eq]; simp only [sc11, sc12, sc13, sc14, sc15, sc16, owns_whole]; try rfl

/-- The proof data: the arrays as the region finds them, each input's buffer at its block, the output's at `outT`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outT (blk m c) t
  Φ t := Phi m c t.val
  q := Pipeline.shareOf spec0
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outT (blk m c) t := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns c.tc (win0_0.stage (cfg0.slots t 0)) fullShare ((dats m 0 c).before 0 t d))
    ∗ (∃ d, owns c.tc (win0_1.stage (cfg0.slots t 1)) fullShare ((dats m 0 c).before 1 t d))
    ∗ (∃ d, owns c.tc (win0_2.stage (cfg0.slots t 2)) fullShare ((dats m 0 c).before 2 t d))
    ∗ (∃ d, owns c.tc (win0_3.stage (cfg0.slots t 3)) fullShare ((dats m 0 c).before 3 t d))
    ∗ (∃ d, owns c.tc (win0_4.stage (cfg0.slots t 4)) fullShare ((dats m 0 c).before 4 t d))
    ∗ (∃ d, owns c.tc (win0_5.stage (cfg0.slots t 5)) fullShare ((dats m 0 c).before 5 t d))
    ∗ (∃ d, owns c.tc (win0_6.stage (cfg0.slots t 6)) fullShare ((dats m 0 c).before 6 t d))
    ∗ (∃ d, owns c.tc (win0_7.stage (cfg0.slots t 7)) fullShare ((dats m 0 c).before 7 t d))
    ∗ (∃ d, owns c.tc (win0_8.stage (cfg0.slots t 8)) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns c.tc (win0_0.stage (cfg0.slots t 0)) fullShare ((dats m 0 c).after 0 t)
    ∗ owns c.tc (win0_1.stage (cfg0.slots t 1)) fullShare ((dats m 0 c).after 1 t)
    ∗ owns c.tc (win0_2.stage (cfg0.slots t 2)) fullShare ((dats m 0 c).after 2 t)
    ∗ owns c.tc (win0_3.stage (cfg0.slots t 3)) fullShare ((dats m 0 c).after 3 t)
    ∗ owns c.tc (win0_4.stage (cfg0.slots t 4)) fullShare ((dats m 0 c).after 4 t)
    ∗ owns c.tc (win0_5.stage (cfg0.slots t 5)) fullShare ((dats m 0 c).after 5 t)
    ∗ owns c.tc (win0_6.stage (cfg0.slots t 6)) fullShare ((dats m 0 c).after 6 t)
    ∗ owns c.tc (win0_7.stage (cfg0.slots t 7)) fullShare ((dats m 0 c).after 7 t)
    ∗ owns c.tc (win0_8.stage (cfg0.slots t 8)) fullShare ((dats m 0 c).after 8 t))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [before0_0, before0_1, before0_2, before0_3, before0_4, before0_5, before0_6, before0_7]
  rw [show (dats m 0 c).Φ t.castSucc = Phi m c t.val from rfl]
  unfold Phi
  iintro ⟨⟨⟨%u11, %u12, %t13, %t14, %cr, %rs, %hI, S11, S12, S13, S14, S15, S16⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨hW, hC, hR⟩ := hI
  obtain ⟨q1, q2, q3, q4⟩ : wAt (grid0.coords t) (iblk m c 2 t) (iblk m c 1 t) u11 = wgT (blk m c) t ∧ wAt (grid0.coords t) (iblk m c 3 t) (iblk m c 1 t) u12 = wvT (blk m c) t
      ∧ tAt (grid0.coords t) (iblk m c 4 t) (iblk m c 6 t) t13 = tgT (blk m c) t ∧ tAt (grid0.coords t) (iblk m c 5 t) (iblk m c 7 t) t14 = tvT (blk m c) t := open_W (blk m c) t u11 u12 t13 t14 hW
  have q5 : cAt (grid0.coords t) cr = cIn (blk m c) t := open_C (blk m c) t cr hC
  have hR' : InvR (blk m c) (t.val + 1) (rAt (grid0.coords t) (iblk m c 0 t) rs) := step_R (blk m c) t rs hR
  have hB : opsOf (grid0.coords t) (iblk m c 0 t) (wgT (blk m c) t) (wvT (blk m c) t) (tgT (blk m c) t) (tvT (blk m c) t) (cIn (blk m c) t) (rAt (grid0.coords t) (iblk m c 0 t) rs)
      = opsT (blk m c) t := ops_eq (blk m c) (iblk0_congr m c) t _ hR'
  have key := body_triple (D := defs₀ (F := F)) (c := c) (i := grid0.coords t) (arg2 := win0_0.stage (cfg0.slots t 0)) (harg2 := hstage0_0 ((cfg0.slots t 0).cast nbuf0_0)) (arg3 := win0_1.stage (cfg0.slots t 1)) (harg3 := hstage0_1 ((cfg0.slots t 1).cast nbuf0_1)) (arg4 := win0_2.stage (cfg0.slots t 2)) (harg4 := hstage0_2 ((cfg0.slots t 2).cast nbuf0_2)) (arg5 := win0_3.stage (cfg0.slots t 3)) (harg5 := hstage0_3 ((cfg0.slots t 3).cast nbuf0_3)) (arg6 := win0_4.stage (cfg0.slots t 4)) (harg6 := hstage0_4 ((cfg0.slots t 4).cast nbuf0_4)) (arg7 := win0_5.stage (cfg0.slots t 5)) (harg7 := hstage0_5 ((cfg0.slots t 5).cast nbuf0_5)) (arg8 := win0_6.stage (cfg0.slots t 6)) (harg8 := hstage0_6 ((cfg0.slots t 6).cast nbuf0_6)) (arg9 := win0_7.stage (cfg0.slots t 7)) (harg9 := hstage0_7 ((cfg0.slots t 7).cast nbuf0_7)) (arg10 := win0_8.stage (cfg0.slots t 8)) (harg10 := hstage0_8 ((cfg0.slots t 8).cast nbuf0_8))
    (arg11 := sc11) (harg11 := Memref.isWhole_whole _) (arg12 := sc12) (harg12 := Memref.isWhole_whole _) (arg13 := sc13) (harg13 := Memref.isWhole_whole _) (arg14 := sc14) (harg14 := Memref.isWhole_whole _) (arg15 := sc15) (harg15 := Memref.isWhole_whole _) (arg16 := sc16) (harg16 := Memref.isWhole_whole _) (E := Set.univ)
    (x := iblk m c 0 t) (g := iblk m c 1 t) (w4 := iblk m c 2 t) (w5 := iblk m c 3 t) (p6 := iblk m c 4 t) (p7 := iblk m c 5 t) (b8 := iblk m c 6 t) (b9 := iblk m c 7 t)
    (o := (dats m 0 c).before 8 t d8) (u11 := u11) (u12 := u12) (t13 := t13) (t14 := t14) (cr := cr) (rs := rs)
  rw [q1, q2, q3, q4, q5, hB, outF_congr _ _ (constant S1024x512 .bf16 0x0000#16)] at key
  iapply (key (fun _ => bodyPost m c t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S11]; · iexact S11
  isplitl [S12]; · iexact S12
  isplitl [S13]; · iexact S13
  isplitl [S14]; · iexact S14
  isplitl [S15]; · iexact S15
  isplitl [S16]; · iexact S16
  iintro ⟨H0, H1, H2, H3, H4, H5, H6, H7, H8, S11, S12, S13, S14, S15, S16⟩
  unfold bodyPost
  rw [show (dats m 0 c).owesAt () t.succ = (dats m 0 c).owesAt () t.castSucc from rfl,
    after0_0, after0_1, after0_2, after0_3, after0_4, after0_5, after0_6, after0_7, after0_8]
  rw [show (dats m 0 c).Φ t.succ = Phi m c (t.val + 1) from rfl]
  unfold Phi
  isplitl [S11 S12 S13 S14 S15 S16 Hg]
  · isplitr [Hg]
    swap; · iexact Hg
    iexists wgT (blk m c) t, wvT (blk m c) t, tgT (blk m c) t, tvT (blk m c) t, carryF (opsT (blk m c) t) (cIn (blk m c) t), rAt (grid0.coords t) (iblk m c 0 t) rs; isplitr
    · ipureintro; exact ⟨step_W (blk m c) t, step_C (blk m c) t _, hR'⟩
    isplitl [S11]; · iexact S11
    isplitl [S12]; · iexact S12
    isplitl [S13]; · iexact S13
    isplitl [S14]; · iexact S14
    isplitl [S15]; · iexact S15
    iexact S16
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, PhiA_eq]
  unfold Phi
  iintro ⟨⟨⟨%u11, S11⟩, ⟨%u12, S12⟩, ⟨%t13, S13⟩, ⟨%t14, S14⟩, ⟨%cr, S15⟩, ⟨%rs, S16⟩⟩, Hg⟩
  isplitr [Hg]
  swap; · iexact Hg
  iexists u11, u12, t13, t14, cr, rs; isplitr
  · ipureintro
    exact ⟨fun t _ h => absurd rfl h, fun t _ h => absurd rfl h, fun b h => absurd h (Nat.not_lt_zero _)⟩
  isplitl [S11]; · iexact S11
  isplitl [S12]; · iexact S12
  isplitl [S13]; · iexact S13
  isplitl [S14]; · iexact S14
  isplitl [S15]; · iexact S15
  iexact S16

theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi
  iintro ⟨⟨%u11, %u12, %t13, %t14, %cr, %rs, -, S11, S12, S13, S14, S15, S16⟩, Hg⟩
  isplitr [Hg]
  swap; · iexact Hg
  isplitl [S11]; · iexists _; iexact S11
  isplitl [S12]; · iexists _; iexact S12
  isplitl [S13]; · iexists _; iexact S13
  isplitl [S14]; · iexists _; iexact S14
  isplitl [S15]; · iexists _; iexact S15
  iexists _; iexact S16

/-! ## The run and the frame -/

set_option backward.isDefEq.respectTransparency.types false in
/-- Every weakly fair execution ends, with the arrays at what the proof data names and the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and the counters at zero. -/
theorem frame_run : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4))
      ∧ r.2.sem = fun _ => 0) :=
  θ_run_and (frame_of m ρ (dats m) (A_eq m) (run_main m ρ)) ((θ_run defs _ _).mono (fun _ h => h.2) (run_main_quiescent m ρ))

end Cert.KernelIdeal12.FfnUp

end
-- ==== Proof.FfnUp.Bits.lean ====
/- The frame of the kernel at bit patterns, from the one proof over any reading of the floats. -/
module

public import proofs.«01_k».proof.Proof.FfnUp.Frame
public import proofs.«01_k».proof.Defs
public import proofs.«01_k».proof.Proof.Gen.Kernel12

@[expose] public section

set_option maxRecDepth 16384

noncomputable section

namespace Cert.Proof.FfnUp

open Idealize.ShloMosaic Idealize.ShloMosaic.TcCoe Idealize.SL.Sem

theorem body_agree (i) (a2 h2 a3 h3 a4 h4 a5 h5 a6 h6 a7 h7 a8 h8 a9 h9 a10 h10 a11 h11 a12 h12 a13 h13 a14 h14 a15 h15 a16 h16) :
    Cert.KernelIdeal12.cc0_ffn_up_conv_gate (F := Bits) i a2 h2 a3 h3 a4 h4 a5 h5 a6 h6 a7 h7 a8 h8 a9 h9 a10 h10 a11 h11 a12 h12 a13 h13 a14 h14 a15 h15 a16 h16
    = Cert.Kernel12.cc0_ffn_up_conv_gate (F := Bits) i a2 h2 a3 h3 a4 h4 a5 h5 a6 h6 a7 h7 a8 h8 a9 h9 a10 h10 a11 h11 a12 h12 a13 h13 a14 h14 a15 h15 a16 h16 := by
  rfl

theorem defs₀_agree : Cert.KernelIdeal12.defs₀ (F := Bits) = Cert.Kernel12.defs₀ (F := Bits) := by
  unfold Cert.KernelIdeal12.defs₀ Cert.Kernel12.defs₀
  refine congrArg Defs.onTc (funext fun l => funext fun ts => ?_)
  obtain ⟨l, hl⟩ := l
  obtain rfl : l = 0 := by
    have : l < 1 := hl
    omega
  obtain ⟨t, s⟩ := ts
  exact body_agree ..

theorem defs_agree : Cert.KernelIdeal12.defs (F := Bits) = Cert.Kernel12.defs (F := Bits) :=
  congrArg (Pipeline.defs Cert.KernelIdeal12.pcfgs) defs₀_agree

theorem main_agree : Cert.KernelIdeal12.main (F := Bits) = Cert.Kernel12.main (F := Bits) := by
  rfl

/-- Every run of the kernel ends, with its arguments unchanged and its counters at zero. -/
theorem frame_bits (m : (ℓ : Loc Cert.Kernel12.nD Cert.Kernel12.τ Cert.Kernel12.sig) → Buf (Elt Bits) ℓ) (ρ : Dev Cert.Kernel12.nD → PrngReg) :
    θ_run (Cert.Kernel12.defs (F := Bits)) (onTc (τ := Cert.Kernel12.τ) (Cert.Kernel12.main (F := Bits))) ⟨m, fun _ => 0, ρ⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0) :=
by
  rw [← defs_agree, ← main_agree]
  exact Cert.KernelIdeal12.FfnUp.frame_run (F := Bits) m ρ

end Cert.Proof.FfnUp

end
-- ==== Proof.FfnUp.Point.lean ====
/- The arithmetic of a point, read at an index. -/
module

public import proofs.«01_k».proof.Proof.FfnUp.Body
public import Idealize.ShloMosaic.Lib.Pointwise
public import Idealize.ShloMosaic.Lib.Pointwise.Sums
public import Idealize.ShloMosaic.Lib.Tactic
public import Idealize.ShloMosaic.Lib.Pipeline.Value

@[expose] public section

set_option maxRecDepth 65536

noncomputable section

namespace Cert.KernelIdeal12.FfnUp

open Idealize.ShloMosaic Idealize.ShloMosaic.TcCoe Idealize.SL.Sem
open Cert.KernelIdeal12 Cert.KernelIdeal12.Gen
open Idealize.ShloMosaic.VecWindow (window put)

/-- 32 copies of the 8 rows of a table's row. -/
def rep (v : Vec Ideal S1x8x512 .f32) : FVec Ideal S256x512 .f32 :=
  concatenate S256x512 0 (List.replicate 32 ⟨S8x512, shapeCast S8x512 v shapeCasts_S1x8x512_S8x512⟩) concatenates_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S256x512_d0

theorem rep_apply (v : Vec Ideal S1x8x512 .f32) (y0 : Fin 256) (y1 : Fin 512) : rep v (ix2 y0 y1) = v (ix3 0 ⟨y0.val % 8, Nat.mod_lt _ (by decide)⟩ y1) := by
  unfold rep
  refine (concatenate_replicate_apply (t := S256x512) (s₁ := S8x512) 0 32 (shapeCast S8x512 v shapeCasts_S1x8x512_S8x512) _ rfl (ix2 y0 y1) (ix2 ⟨y0.val % 8, Nat.mod_lt _ (by decide)⟩ y1) rfl
    (fun b hb => by match b with | ⟨0, _⟩ => exact absurd rfl hb | ⟨1, _⟩ => rfl)).trans ?_
  pointwise

/-- The rows of a chunk with the 8 rows before it. -/
def ext (c : FVec Ideal S8x512 .f32) (u : FVec Ideal S256x512 .f32) : FVec Ideal S264x512 .f32 :=
  concatenate S264x512 0 [⟨S8x512, c⟩, ⟨S256x512, u⟩] concatenates_S8x512_S256x512_S264x512_d0

theorem ext_apply (c : FVec Ideal S8x512 .f32) (u : FVec Ideal S256x512 .f32) (i : Fin 264) (y1 : Fin 512) :
    ext c u (ix2 i y1) = if h : i.val < 8 then c (ix2 ⟨i.val, h⟩ y1) else u (ix2 ⟨i.val - 8, by omega⟩ y1) := by
  unfold ext
  pointwise

theorem pay59_eq (u : FVec Ideal S256x512 .f32) (c : FVec Ideal S8x512 .f32) (p2 p3 p0 p1 : Vec Ideal S1x8x512 .f32) :
    k0_pay59 u c p2 p3 p0 p1 = addf (F := Ideal) (φ := .f32) (addf (F := Ideal) (φ := .f32) (addf (F := Ideal) (φ := .f32) (mulf (F := Ideal) (φ := .f32) u (rep p2)) (rep p3))
      (mulf (F := Ideal) (φ := .f32) (extractStridedSlice S256x512 ![6, 0] (ext c u) slices_S264x512_o6_0_S256x512) (rep p0)))
      (mulf (F := Ideal) (φ := .f32) (extractStridedSlice S256x512 ![7, 0] (ext c u) slices_S264x512_o7_0_S256x512) (rep p1)) := rfl

theorem pay59_apply (u : FVec Ideal S256x512 .f32) (c : FVec Ideal S8x512 .f32) (p2 p3 p0 p1 : Vec Ideal S1x8x512 .f32) (y0 : Fin 256) (y1 : Fin 512) :
    k0_pay59 u c p2 p3 p0 p1 (ix2 y0 y1)
      = u (ix2 y0 y1) * p2 (ix3 0 ⟨y0.val % 8, Nat.mod_lt _ (by decide)⟩ y1) + p3 (ix3 0 ⟨y0.val % 8, Nat.mod_lt _ (by decide)⟩ y1)
        + ext c u (ix2 ⟨6 + y0.val, by omega⟩ y1) * p0 (ix3 0 ⟨y0.val % 8, Nat.mod_lt _ (by decide)⟩ y1)
        + ext c u (ix2 ⟨7 + y0.val, by omega⟩ y1) * p1 (ix3 0 ⟨y0.val % 8, Nat.mod_lt _ (by decide)⟩ y1) := by
  rw [pay59_eq, ← rep_apply p2, ← rep_apply p3, ← rep_apply p0, ← rep_apply p1]
  pointwise

/-- The statistics of 256 rows, on every column. -/
theorem pay27_apply (R : Vec Ideal S1x256x128 .f32) (y0 : Fin 256) (y1 : Fin 512) :
    k0_pay27 (F := Ideal) R (ix2 y0 y1) = R (ix3 0 y0 ⟨y1.val % 128, Nat.mod_lt _ (by decide)⟩) := by
  show concatenate S256x512 1 (List.replicate 4 ⟨S256x128, shapeCast S256x128 R shapeCasts_S1x256x128_S256x128⟩) concatenates_S256x128_S256x128_S256x128_S256x128_S256x512_d1 (ix2 y0 y1) = _
  refine (concatenate_replicate_apply (t := S256x512) (s₁ := S256x128) 1 4 (shapeCast S256x128 R shapeCasts_S1x256x128_S256x128) _ rfl (ix2 y0 y1) (ix2 y0 ⟨y1.val % 128, Nat.mod_lt _ (by decide)⟩) rfl
    (fun b hb => by match b with | ⟨0, _⟩ => rfl | ⟨1, _⟩ => exact absurd rfl hb)).trans ?_
  pointwise

theorem prod_apply (x : Vec Ideal S1024x2048 .f32) (w : Vec Ideal S2048x512 .bf16) (R : Fin 4 → Vec Ideal S1x256x128 .f32) (k : Fin 4) (y0 : Fin 256) (y1 : Fin 512) :
    prod x w R k (ix2 y0 y1)
      = (∑ q : Fin 2048, x (ix2 ⟨256 * k.val + y0.val, by omega⟩ q) * w (ix2 q y1)) * R k (ix3 0 y0 ⟨y1.val % 128, Nat.mod_lt _ (by decide)⟩) := by
  have hx : ∀ q : Fin 2048, xC x k (ix2 y0 q) = x (ix2 ⟨256 * k.val + y0.val, by omega⟩ q) := fun q => by
    refine congrArg x (funext fun a => Fin.ext ?_)
    match a with
    | ⟨0, _⟩ => show 256 * k.val + 1 * y0.val = 256 * k.val + y0.val; omega
    | ⟨1, _⟩ => show 0 + 1 * q.val = q.val; omega
  unfold prod
  rw [← pay27_apply (R k)]
  simp only [← hx]
  obtain ⟨X, hX⟩ : ∃ X : Vec Ideal S256x2048 .f32, X = xC x k := ⟨_, rfl⟩
  obtain ⟨Q, hQ⟩ : ∃ Q : FVec Ideal S256x512 .f32, Q = k0_pay27 (F := Ideal) (R k) := ⟨_, rfl⟩
  unfold k0_pay28
  rw [← hX, ← hQ]
  pointwise [k0_pay26]

/-- The statistic of a row. -/
theorem pay17_apply (x : Vec Ideal S1024x2048 .f32) (r : Fin 1024) (l : Fin 128) :
    k0_pay17 (F := Ideal) x (ix3 0 r l)
      = Ideal.rsqrt (Ideal.div (∑ k : Fin 2048, x (ix2 r k) * x (ix2 r k)) (Ideal.ofBits .f32 0x45000000#32) + Ideal.ofBits .f32 0x358637BD#32) := by
  pointwise [k0_pay17]

theorem pay4_apply (w : Vec Ideal S1x2048x512 .f32) (g : Vec Ideal S1x2048x1 .f32) (k : Fin 2048) (j : Fin 512) :
    k0_pay4 (F := Ideal) w g (ix2 k j) = w (ix3 0 k j) * g (ix3 0 k 0) := by
  pointwise [k0_pay4]

theorem pay6_apply (b : Vec Ideal S1x1x512 .f32) (e : Fin 8) (j : Fin 512) : k0_pay6 (F := Ideal) b (ix3 0 e j) = b (ix3 0 0 j) := by
  pointwise [k0_pay6]

theorem pay34_apply (u : FVec Ideal S256x512 .f32) (e : Fin 8) (j : Fin 512) : k0_pay34 (F := Ideal) u (ix2 e j) = u (ix2 ⟨248 + e.val, by omega⟩ j) := by
  pointwise [k0_pay34]

theorem pay18_pay2 (u : FVec Ideal S256x512 .f32) (e : Fin 8) (j : Fin 512) : k0_pay18 (F := Ideal) (k0_pay2 u) (ix2 e j) = u (ix2 ⟨248 + e.val, by omega⟩ j) := by
  pointwise [k0_pay18, k0_pay2]

theorem gated_apply (a b : Vec Ideal S256x512 .f32) (y : S256x512.Idx) : gated a b y = a y * Ideal.logistic (a y) * b y := by
  unfold gated
  pointwise
  done

/-! ### The tables, the carry and the output by their rows -/

theorem tr_fill (p : Vec Ideal S1x3x512 .f32) (b : Vec Ideal S1x1x512 .f32) (u : Vec Ideal S4x8x512 .f32) :
    tr (fillT p b u) 0 = k0_pay6 (tap p 0) ∧ tr (fillT p b u) 1 = k0_pay6 (tap p 1) ∧ tr (fillT p b u) 2 = k0_pay6 (tap p 2) ∧ tr (fillT p b u) 3 = k0_pay6 b := by
  unfold fillT tr
  refine ⟨?_, ?_, ?_, ?_⟩
  · rw [VecWindow.window_put_of_disjoint _ _ _ _ _ _ _ 0 (.inl (by decide)), VecWindow.window_put_of_disjoint _ _ _ _ _ _ _ 0 (.inl (by decide)),
      VecWindow.window_put_of_disjoint _ _ _ _ _ _ _ 0 (.inl (by decide))]
    exact VecWindow.window_put_same _ _ _ _ _
  · rw [VecWindow.window_put_of_disjoint _ _ _ _ _ _ _ 0 (.inl (by decide)), VecWindow.window_put_of_disjoint _ _ _ _ _ _ _ 0 (.inl (by decide))]
    exact VecWindow.window_put_same _ _ _ _ _
  · rw [VecWindow.window_put_of_disjoint _ _ _ _ _ _ _ 0 (.inl (by decide))]
    exact VecWindow.window_put_same _ _ _ _ _
  · exact VecWindow.window_put_same _ _ _ _ _

theorem tap_apply (p : Vec Ideal S1x3x512 .f32) (k : Fin 3) (j : Fin 512) : tap p k (ix3 0 0 j) = p (ix3 0 k j) := by
  refine congrArg p (funext fun a => Fin.ext ?_)
  match a with
  | ⟨0, _⟩ => rfl
  | ⟨1, _⟩ => show k.val + 1 * 0 = k.val; omega
  | ⟨2, _⟩ => show 0 + 1 * j.val = j.val; omega

theorem crow_carry (B : Ops Ideal) (c : Vec Ideal S2x8x512 .f32) :
    crow (carryF B c) 0 = k0_pay2 (prod B.x B.wg B.R 3) ∧ crow (carryF B c) 1 = k0_pay2 (prod B.x B.wv B.R 3) := by
  unfold carryF crow
  constructor
  · rw [VecWindow.window_put_of_disjoint _ _ _ _ _ _ _ 0 (.inl (by decide))]
    exact VecWindow.window_put_same _ _ _ _ _
  · exact VecWindow.window_put_same _ _ _ _ _

theorem crow_zero (k : Fin 2) (e : Fin 8) (j : Fin 512) : k0_pay18 (F := Ideal) (crow (k0_pay16 (F := Ideal)) k) (ix2 e j) = 0 := by
  have h : (crow (k0_pay16 (F := Ideal)) k : Vec Ideal S1x8x512 .f32) = fun _ => (Ideal.ofBits .f32 0x00000000#32 : EReal) := rfl
  rw [h]
  pointwise [k0_pay18]

/-- Row `256 k + e` of the output block is row `e` of chunk `k`. -/
theorem outF_apply (B : Ops Ideal) (o : Vec Ideal S1024x512 .bf16) (k : Fin 4) (e : Fin 256) (j : Fin 512) :
    outF B o (ix2 ⟨256 * k.val + e.val, by omega⟩ j) = chunk B k (ix2 e j) := by
  have h : window (outF B o) ![256 * k.val, 0] S256x512.size (by decide +revert) = chunk B k := by
    unfold outF
    match k with
    | ⟨0, _⟩ =>
      rw [VecWindow.window_put_of_disjoint _ _ _ _ _ _ _ 0 (.inl (by show 0 + 256 ≤ 768; omega)), VecWindow.window_put_of_disjoint _ _ _ _ _ _ _ 0 (.inl (by show 0 + 256 ≤ 512; omega)),
        VecWindow.window_put_of_disjoint _ _ _ _ _ _ _ 0 (.inl (by show 0 + 256 ≤ 256; omega))]
      exact VecWindow.window_put_same _ _ _ _ _
    | ⟨1, _⟩ =>
      rw [VecWindow.window_put_of_disjoint _ _ _ _ _ _ _ 0 (.inl (by show 256 + 256 ≤ 768; omega)), VecWindow.window_put_of_disjoint _ _ _ _ _ _ _ 0 (.inl (by show 256 + 256 ≤ 512; omega))]
      exact VecWindow.window_put_same _ _ _ _ _
    | ⟨2, _⟩ =>
      rw [VecWindow.window_put_of_disjoint _ _ _ _ _ _ _ 0 (.inl (by show 512 + 256 ≤ 768; omega))]
      exact VecWindow.window_put_same _ _ _ _ _
    | ⟨3, _⟩ => exact VecWindow.window_put_same _ _ _ _ _
  rw [← h]
  refine congrArg (outF B o) (funext fun a => Fin.ext ?_)
  match a with
  | ⟨0, _⟩ => show 256 * k.val + e.val = 256 * k.val + 1 * e.val; omega
  | ⟨1, _⟩ => show j.val = 0 + 1 * j.val; omega

end Cert.KernelIdeal12.FfnUp

end
-- ==== Proof.FfnUp.RefTerm.lean ====
/- The reference of the up projection with its convolution and gate, read at an index, over the slices of one layer; one text for all layers. -/
module

public import proofs.«01_k».proof.Proof.Gen.ReferenceIdeal12.Run
public import Idealize.ShloMosaic.Lib.Pointwise
public import Idealize.ShloMosaic.Lib.Pointwise.Sums
public import Idealize.ShloMosaic.Lib.Tactic

@[expose] public section

set_option maxRecDepth 16384

noncomputable section

open Idealize.ShloMosaic Idealize.ShloMosaic.TcCoe Idealize.SL.Sem

namespace Cert.ReferenceIdeal12.FfnUp

open Cert.ReferenceIdeal12 Cert.ReferenceIdeal12.Gen Cert.ReferenceIdeal12.Value

variable (x : FVec Ideal S8192x2048 .f32) (g : FVec Ideal S2048 .f32) (w : FVec Ideal S2048x11264 .f32) (q0 q1 q2 b : FVec Ideal S11264 .f32)

/-- The mean square of row `r`, and the small constant added. -/
def meanSq (x : S8192x2048.Idx → EReal) (r : Fin 8192) : EReal :=
  Ideal.div (∑ k : Fin 2048, x (ix2 r k) * x (ix2 r k)) (Ideal.ofBits .f32 0x45000000#32) + Ideal.ofBits .f32 0x358637BD#32

/-- The normed row times a weight column, in the order of the reference. -/
def upRef (x : S8192x2048.Idx → EReal) (g : Fin 2048 → EReal) (w : Fin 2048 → Fin 11264 → EReal) (r : Fin 8192) (j : Fin 11264) : EReal :=
  ∑ k : Fin 2048, x (ix2 r k) * Ideal.rsqrt (meanSq x r) * g k * w k j

/-- The reference's projection. -/
def termU : FVec Ideal S8192x11264 .f32 :=
  Host.dotGeneral (F := Ideal) dot_S8192x2048_S2048x11264_S8192x11264_1_0_0_1_n_n none (mulf (F := Ideal) (φ := .f32) (mulf (F := Ideal) (φ := .f32) x (broadcastInDim S8192x2048 ![0, 1] bcast_S8192x1_S8192x2048_0_1 (Host.rsqrt (addf (F := Ideal) (φ := .f32) (Host.divf (broadcastInDim S8192x1 ![0] bcast_S8192_S8192x1_0 (Host.reduceAdd (mulf (F := Ideal) (φ := .f32) x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))) w

theorem termU_apply (r : Fin 8192) (j : Fin 11264) : termU x g w (ix2 r j) = upRef x (fun k => g (ix1 k)) (fun k j => w (ix2 k j)) r j := by
  unfold termU upRef meanSq
  pointwise
  done

/-- A row's value `d` rows back in its sequence, zero before the sequence starts. -/
def past (U : S8192x11264.Idx → EReal) (d : ℕ) (r : Fin 8192) (j : Fin 11264) : EReal :=
  if d ≤ r.val % 4096 then U (ix2 ⟨r.val - d, lt_of_le_of_lt (Nat.sub_le _ _) r.isLt⟩ j) else 0

/-- The causal convolution of three taps with its bias. -/
def convRef (U : S8192x11264.Idx → EReal) (p : Fin 3 → Fin 11264 → EReal) (b : Fin 11264 → EReal) (r : Fin 8192) (j : Fin 11264) : EReal :=
  past U 2 r j * p 0 j + past U 1 r j * p 1 j + U (ix2 r j) * p 2 j + b j

def padded (U : FVec Ideal S8192x11264 .f32) : FVec Ideal S2x4098x11264 .f32 :=
  pad S2x4098x11264 ![0, 2, 0] ![0, 0, 0] ![0, 0, 0] (shapeCast _ U shapeCasts_S8192x11264_S2x4096x11264) (sitofp (F := Ideal) .f32 (constantI S_ 32 0#32)) pads_S2x4096x11264_S2x4098x11264_000_200_000 h_S_

def termY (U : FVec Ideal S8192x11264 .f32) : FVec Ideal S8192x11264 .f32 :=
  shapeCast _ (addf (F := Ideal) (φ := .f32) (addf (F := Ideal) (φ := .f32) (addf (F := Ideal) (φ := .f32) (mulf (F := Ideal) (φ := .f32) (extractStridedSlice S2x4096x11264 ![0, 0, 0] (padded U) slices_S2x4098x11264_S2x4096x11264_0_0_0) (broadcastInDim S2x4096x11264 ![0, 1, 2] bcast_S1x1x11264_S2x4096x11264_0_1_2 (broadcastInDim S1x1x11264 ![2] bcast_S11264_S1x1x11264_2 q0))) (mulf (F := Ideal) (φ := .f32) (extractStridedSlice S2x4096x11264 ![0, 1, 0] (padded U) slices_S2x4098x11264_S2x4096x11264_0_1_0) (broadcastInDim S2x4096x11264 ![0, 1, 2] bcast_S1x1x11264_S2x4096x11264_0_1_2 (broadcastInDim S1x1x11264 ![2] bcast_S11264_S1x1x11264_2 q1)))) (mulf (F := Ideal) (φ := .f32) (extractStridedSlice S2x4096x11264 ![0, 2, 0] (padded U) slices_S2x4098x11264_S2x4096x11264_0_2_0) (broadcastInDim S2x4096x11264 ![0, 1, 2] bcast_S1x1x11264_S2x4096x11264_0_1_2 (broadcastInDim S1x1x11264 ![2] bcast_S11264_S1x1x11264_2 q2)))) (broadcastInDim S2x4096x11264 ![0, 1, 2] bcast_S1x1x11264_S2x4096x11264_0_1_2 (broadcastInDim S1x1x11264 ![2] bcast_S11264_S1x1x11264_2 b))) shapeCasts_S2x4096x11264_S8192x11264

theorem padded_apply (U : FVec Ideal S8192x11264 .f32) (q : Fin 2) (s : Fin 4098) (j : Fin 11264) :
    padded U (ix3 q s j) = if h : 2 ≤ s.val then U (ix2 ⟨q.val * 4096 + (s.val - 2), by omega⟩ j) else 0 := by
  unfold padded
  pointwise
  have hs := s.isLt
  have hz : (FloatOps.sitofp (F := Ideal) .f32 0#32 : EReal) = 0 := by
    show (((0#32 : BitVec 32).toInt : ℝ) : EReal) = 0
    simp
  rw [hz]
  split <;> split <;> first | rfl | omega

theorem termY_apply (U : FVec Ideal S8192x11264 .f32) (r : Fin 8192) (j : Fin 11264) : termY q0 q1 q2 b U (ix2 r j) = convRef U (fun k j => (![q0, q1, q2] k) (ix1 j)) (fun j => b (ix1 j)) r j := by
  have hr := r.isLt
  have e : ∀ (d : ℕ) (h : d + r.val % 4096 < 4098) (hd : d ≤ 2), padded U (ix3 ⟨r.val / 4096, by omega⟩ ⟨d + r.val % 4096, h⟩ j) = past U (2 - d) r j := by
    intro d h hd
    rw [padded_apply]
    unfold past
    dsimp only
    split <;> split <;> first | omega | rfl | skip
    congr 2
    apply Fin.ext
    dsimp only
    omega
  have e0 := e 0 (by omega) (by omega)
  have e1 := e 1 (by omega) (by omega)
  have e2 := e 2 (by omega) (by omega)
  have h2 : past U (2 - 2) r j = U (ix2 r j) := by
    unfold past
    rw [if_pos (Nat.zero_le _)]
    rfl
  simp only [Nat.zero_add] at e0
  unfold termY convRef
  pointwise
  rw [e0, e1, e2, h2]

/-- The gate. -/
def termO (Y : FVec Ideal S8192x11264 .f32) : FVec Ideal S8192x5632 .bf16 :=
  truncf (F := Ideal) .bf16 (mulf (F := Ideal) (φ := .f32) (mulf (F := Ideal) (φ := .f32) (extractStridedSlice S8192x5632 ![0, 0] Y slices_S8192x11264_S8192x5632_0_0) (Host.divf (broadcastInDim S8192x5632 ![] bcast_S_S8192x5632 (constant S_ .f32 0x3F800000#32)) (addf (F := Ideal) (φ := .f32) (broadcastInDim S8192x5632 ![] bcast_S_S8192x5632 (constant S_ .f32 0x3F800000#32)) (Host.exp (Host.negf (extractStridedSlice S8192x5632 ![0, 0] Y slices_S8192x11264_S8192x5632_0_0)))))) (extractStridedSlice S8192x5632 ![0, 5632] Y slices_S8192x11264_S8192x5632_0_5632)) bitsLt_bf16_f32

/-- The gate column times its logistic, times the value column. -/
def gateAt (a v : EReal) : EReal := a * Ideal.logistic a * v

theorem termO_apply (Y : FVec Ideal S8192x11264 .f32) (r : Fin 8192) (j : Fin 5632) :
    termO Y (ix2 r j) = gateAt (Y (ix2 r ⟨j.val, by omega⟩)) (Y (ix2 r ⟨5632 + j.val, by omega⟩)) := by
  unfold termO gateAt
  pointwise
  rfl

/-- The projection as one array. -/
def U (x : S8192x2048.Idx → EReal) (g : Fin 2048 → EReal) (w : Fin 2048 → Fin 11264 → EReal) : S8192x11264.Idx → EReal := fun i => upRef x g w (i 0) (i 1)

/-- The result at an index, from the arrays. -/
def result (x : S8192x2048.Idx → EReal) (g : Fin 2048 → EReal) (w : Fin 2048 → Fin 11264 → EReal) (p : Fin 3 → Fin 11264 → EReal) (b : Fin 11264 → EReal) (r : Fin 8192) (j : Fin 5632) : EReal :=
  gateAt (convRef (U x g w) p b r ⟨j.val, by omega⟩) (convRef (U x g w) p b r ⟨5632 + j.val, by omega⟩)

/-- The reference's term is the result, when the slices are those of the arrays. -/
theorem term_apply (g' : Fin 2048 → EReal) (w' : Fin 2048 → Fin 11264 → EReal) (p' : Fin 3 → Fin 11264 → EReal) (b' : Fin 11264 → EReal)
    (hg : ∀ k, g (ix1 k) = g' k) (hw : ∀ k j, w (ix2 k j) = w' k j) (h0 : ∀ j, q0 (ix1 j) = p' 0 j) (h1 : ∀ j, q1 (ix1 j) = p' 1 j) (h2 : ∀ j, q2 (ix1 j) = p' 2 j) (hb : ∀ j, b (ix1 j) = b' j)
    (r : Fin 8192) (j : Fin 5632) : termO (termY q0 q1 q2 b (termU x g w)) (ix2 r j) = result x g' w' p' b' r j := by
  have hU : termU x g w = U x g' w' := by
    funext i
    idx_vars i
    rw [termU_apply]
    unfold U upRef
    simp only [hg, hw]
    rfl
  have hp : (fun (k : Fin 3) (j : Fin 11264) => (![q0, q1, q2] k) (ix1 j)) = p' := by
    funext k j
    match k with
    | ⟨0, _⟩ => exact h0 j
    | ⟨1, _⟩ => exact h1 j
    | ⟨2, _⟩ => exact h2 j
  rw [termO_apply, termY_apply, termY_apply, hU, hp, show (fun j => b (ix1 j)) = b' from funext hb]
  rfl

end Cert.ReferenceIdeal12.FfnUp

end
-- ==== Proof.Norm.lean ====
/- A root-mean-square norm moved past a matrix product: the factor that a row is scaled by is a nonnegative real
   number, whatever the row, so it distributes over the row's products. -/
module

public import Idealize.ShloMosaic.PureOps.Ideal
public import Idealize.ShloMosaic.Lib.IdealHost

@[expose] public section

namespace Cert.Norm

open Idealize.ShloMosaic

/-- The number of columns, as the programs write it. -/
theorem cols_eq : Ideal.ofBits .f32 0x45000000#32 = ((2048 : ℝ) : EReal) := by
  simp [Ideal.ofBits, Ideal.ieee, -EReal.coe_mul]
  norm_num

/-- The small constant that the norm adds is a positive real number. -/
theorem eps_pos : ∃ e : ℝ, 0 < e ∧ Ideal.ofBits .f32 0x358637BD#32 = (e : EReal) := by
  refine ⟨_, ?_, by simp [Ideal.ofBits, Ideal.ieee, -EReal.coe_mul]; rfl⟩
  norm_num

theorem sq_nonneg (x : EReal) : 0 ≤ x * x := by
  induction x using EReal.rec with
  | bot => simp
  | top => simp
  | coe r => rw [← EReal.coe_mul]; exact EReal.coe_nonneg.mpr (mul_self_nonneg r)

/-- The factor of a row whose squares sum to `S`. -/
theorem factor_real (S : EReal) (hS : 0 ≤ S) :
    ∃ s : ℝ, 0 ≤ s ∧ Ideal.rsqrt (Ideal.div S (Ideal.ofBits .f32 0x45000000#32) + Ideal.ofBits .f32 0x358637BD#32) = (s : EReal) := by
  obtain ⟨e, he, h⟩ := eps_pos
  rw [cols_eq, h]
  have hc : ((2048 : ℝ) : EReal) ≠ 0 := by norm_num
  unfold Ideal.div
  rw [if_neg hc]
  induction S using EReal.rec with
  | bot => simp at hS
  | top =>
    refine ⟨0, le_refl _, ?_⟩
    rw [← EReal.coe_inv, EReal.top_mul_coe_of_pos (by norm_num), EReal.top_add_coe]
    simp
  | coe r =>
    have hr : 0 ≤ r := EReal.coe_nonneg.mp hS
    rw [← EReal.coe_inv, ← EReal.coe_mul, ← EReal.coe_add, Ideal.rsqrt_coe]
    have hp : 0 < r * (2048 : ℝ)⁻¹ + e := by positivity
    rw [if_neg (not_lt.mpr hp.le), if_neg hp.ne']
    exact ⟨_, by positivity, rfl⟩

/-- A nonnegative real factor distributes over a sum. -/
theorem sum_mul_real {ι : Type} (t : Finset ι) (f : ι → EReal) (s : ℝ) (hs : 0 ≤ s) : (∑ k ∈ t, f k) * (s : EReal) = ∑ k ∈ t, f k * (s : EReal) := by
  classical
  induction t using Finset.induction_on with
  | empty => simp
  | insert a t ha ih =>
    rw [Finset.sum_insert ha, Finset.sum_insert ha, EReal.right_distrib_of_nonneg_of_ne_top (EReal.coe_nonneg.mpr hs) (EReal.coe_ne_top s), ih]

/-- The product with the gain folded into the weights, scaled afterwards, is the product of the normed row. -/
theorem fold {n : ℕ} (x w g : Fin n → EReal) :
    (∑ k, x k * (w k * g k)) * Ideal.rsqrt (Ideal.div (∑ k, x k * x k) (Ideal.ofBits .f32 0x45000000#32) + Ideal.ofBits .f32 0x358637BD#32)
      = ∑ k, x k * Ideal.rsqrt (Ideal.div (∑ k, x k * x k) (Ideal.ofBits .f32 0x45000000#32) + Ideal.ofBits .f32 0x358637BD#32) * g k * w k := by
  obtain ⟨s, hs, h⟩ := factor_real (∑ k, x k * x k) (Finset.sum_nonneg fun k _ => sq_nonneg (x k))
  rw [h, sum_mul_real _ _ s hs]
  exact Finset.sum_congr rfl fun k _ => by simp only [mul_comm, mul_left_comm, mul_assoc]

end Cert.Norm

end
-- ==== Proof.FfnUp.Value.lean ====
/- The value of the up projection with its convolution and gate, against the reference. -/
module

public import proofs.«01_k».proof.Proof.FfnUp.Point
public import proofs.«01_k».proof.Proof.FfnUp.State
public import proofs.«01_k».proof.Proof.FfnUp.RefTerm
public import proofs.«01_k».proof.Proof.Norm

@[expose] public section

set_option maxRecDepth 65536

noncomputable section

namespace Cert.KernelIdeal12.FfnUp

open Idealize.ShloMosaic Idealize.ShloMosaic.TcCoe Idealize.SL.Sem
open Cert.KernelIdeal12 Cert.KernelIdeal12.Gen
open Cert.ReferenceIdeal12.FfnUp (meanSq upRef U past convRef gateAt result)
open Idealize.ShloMosaic.VecWindow (window put)

/-- The blocks are those of these arrays: rows, gains, weights, taps, biases. -/
structure Reads (B : Blk Ideal) (x : S8192x2048.Idx → EReal) (g : Fin 2048 → EReal) (w : Fin 2048 → Fin 11264 → EReal) (p : Fin 3 → Fin 11264 → EReal) (b : Fin 11264 → EReal) : Prop where
  x : ∀ (t : Fin grid0.N) (r : Fin 1024) (k : Fin 2048) (h : t.val % 8 * 1024 + r.val < 8192), B.x t (ix2 r k) = x (ix2 ⟨t.val % 8 * 1024 + r.val, h⟩ k)
  g : ∀ (t : Fin grid0.N) (k : Fin 2048), B.g t (ix3 0 k 0) = g k
  w4 : ∀ (t : Fin grid0.N) (k : Fin 2048) (j : Fin 512) (h : t.val / 8 * 512 + j.val < 11264), B.w4 t (ix3 0 k j) = w k ⟨t.val / 8 * 512 + j.val, h⟩
  w5 : ∀ (t : Fin grid0.N) (k : Fin 2048) (j : Fin 512) (h : 5632 + t.val / 8 * 512 + j.val < 11264), B.w5 t (ix3 0 k j) = w k ⟨5632 + t.val / 8 * 512 + j.val, h⟩
  p6 : ∀ (t : Fin grid0.N) (k : Fin 3) (j : Fin 512) (h : t.val / 8 * 512 + j.val < 11264), B.p6 t (ix3 0 k j) = p k ⟨t.val / 8 * 512 + j.val, h⟩
  p7 : ∀ (t : Fin grid0.N) (k : Fin 3) (j : Fin 512) (h : 5632 + t.val / 8 * 512 + j.val < 11264), B.p7 t (ix3 0 k j) = p k ⟨5632 + t.val / 8 * 512 + j.val, h⟩
  b8 : ∀ (t : Fin grid0.N) (j : Fin 512) (h : t.val / 8 * 512 + j.val < 11264), B.b8 t (ix3 0 0 j) = b ⟨t.val / 8 * 512 + j.val, h⟩
  b9 : ∀ (t : Fin grid0.N) (j : Fin 512) (h : 5632 + t.val / 8 * 512 + j.val < 11264), B.b9 t (ix3 0 0 j) = b ⟨5632 + t.val / 8 * 512 + j.val, h⟩

variable {B : Blk Ideal} {x : S8192x2048.Idx → EReal} {g : Fin 2048 → EReal} {w : Fin 2048 → Fin 11264 → EReal} {p : Fin 3 → Fin 11264 → EReal} {b : Fin 11264 → EReal}
  (H : Reads B x g w p b)
include H

theorem rT_apply (t : Fin grid0.N) (k : Fin 4) (e : Fin 256) (l : Fin 128) (h : 1024 * (t.val % 8) + 256 * k.val + e.val < 8192) :
    rT B t k (ix3 0 e l) = Ideal.rsqrt (meanSq (x) ⟨1024 * (t.val % 8) + 256 * k.val + e.val, h⟩) := by
  have hw : rT B t k (ix3 0 e l) = k0_pay17 (F := Ideal) (B.x t) (ix3 0 ⟨256 * k.val + e.val, by omega⟩ l) := by
    refine congrArg (k0_pay17 (F := Ideal) (B.x t)) (funext fun a => Fin.ext ?_)
    match a with
    | ⟨0, _⟩ => rfl
    | ⟨1, _⟩ => show 256 * k.val + 1 * e.val = 256 * k.val + e.val; omega
    | ⟨2, _⟩ => show 0 + 1 * l.val = l.val; omega
  have hx : ∀ q : Fin 2048, (B.x t) (ix2 ⟨256 * k.val + e.val, by omega⟩ q)
      = x (ix2 ⟨1024 * (t.val % 8) + 256 * k.val + e.val, h⟩ q) := fun q => by
    rw [H.x t _ q (by dsimp only; omega)]
    congr 2
    apply Fin.ext
    dsimp only
    omega
  rw [hw, pay17_apply]
  simp only [hx]
  rfl

/-- A product of the kernel, gains folded into the weights and the statistic applied after the sum, is the reference's projection. -/
theorem prod_eq (t : Fin grid0.N) (W : Vec Ideal S2048x512 .bf16) (y1 : Fin 512) (j : Fin 11264)
    (hW : ∀ q : Fin 2048, W (ix2 q y1) = w q j * g q) (k : Fin 4) (e : Fin 256) (h : 1024 * (t.val % 8) + 256 * k.val + e.val < 8192) :
    prod (B.x t) W (rT B t) k (ix2 e y1) = U x g w (ix2 ⟨1024 * (t.val % 8) + 256 * k.val + e.val, h⟩ j) := by
  have hx : ∀ q : Fin 2048, (B.x t) (ix2 ⟨256 * k.val + e.val, by omega⟩ q)
      = x (ix2 ⟨1024 * (t.val % 8) + 256 * k.val + e.val, h⟩ q) := fun q => by
    rw [H.x t _ q (by dsimp only; omega)]
    congr 2
    apply Fin.ext
    dsimp only
    omega
  rw [prod_apply, rT_apply H t k e _ h]
  simp only [hx, hW]
  exact Norm.fold (fun q => x (ix2 ⟨1024 * (t.val % 8) + 256 * k.val + e.val, h⟩ q)) (fun q => w q j) (fun q => g q)

omit H in
theorem add4 (a b c d : EReal) : a + b + c + d = c + d + a + b := by rw [add_assoc (a + b), add_comm, ← add_assoc]

/-- The two rows before a chunk. -/
theorem tl_eq (t : Fin grid0.N) (W : Vec Ideal S2048x512 .bf16) (c0 : Vec Ideal S8x512 .f32) (y1 : Fin 512) (j : Fin 11264)
    (hW : ∀ q : Fin 2048, W (ix2 q y1) = w q j * g q)
    (hc : ∀ q : Fin 2, c0 (ix2 ⟨6 + q.val, by omega⟩ y1) = if t.val % 4 = 0 then 0 else U x g w (ix2 ⟨1024 * (t.val % 8) - 2 + q.val, by omega⟩ j))
    (k : Fin 4) (q : Fin 2) :
    tl c0 (B.x t) W (rT B t) k (ix2 ⟨6 + q.val, by omega⟩ y1)
      = if t.val % 4 = 0 ∧ k.val = 0 then 0 else U x g w (ix2 ⟨1024 * (t.val % 8) + 256 * k.val - 2 + q.val, by omega⟩ j) := by
  match k with
  | ⟨0, _⟩ =>
    show c0 (ix2 ⟨6 + q.val, _⟩ y1) = _
    rw [hc]
    by_cases h4 : t.val % 4 = 0
    · rw [if_pos h4, if_pos ⟨h4, rfl⟩]
    · rw [if_neg h4, if_neg (fun hh => h4 hh.1)]
      rfl
  | ⟨1, _⟩ =>
    show k0_pay34 (prod (B.x t) W (rT B t) 0) (ix2 ⟨6 + q.val, _⟩ y1) = _
    rw [pay34_apply, prod_eq H t W y1 j hW 0 _ (by show _ + 256 * 0 + (248 + (6 + q.val)) < _; omega), if_neg (fun hh => absurd (show 1 = 0 from hh.2) (by decide))]
    congr 2
    apply Fin.ext
    show 1024 * (t.val % 8) + 256 * 0 + (248 + (6 + q.val)) = 1024 * (t.val % 8) + 256 * 1 - 2 + q.val
    omega
  | ⟨2, _⟩ =>
    show k0_pay34 (prod (B.x t) W (rT B t) 1) (ix2 ⟨6 + q.val, _⟩ y1) = _
    rw [pay34_apply, prod_eq H t W y1 j hW 1 _ (by show _ + 256 * 1 + (248 + (6 + q.val)) < _; omega), if_neg (fun hh => absurd (show 2 = 0 from hh.2) (by decide))]
    congr 2
    apply Fin.ext
    show 1024 * (t.val % 8) + 256 * 1 + (248 + (6 + q.val)) = 1024 * (t.val % 8) + 256 * 2 - 2 + q.val
    omega
  | ⟨3, _⟩ =>
    show k0_pay34 (prod (B.x t) W (rT B t) 2) (ix2 ⟨6 + q.val, _⟩ y1) = _
    rw [pay34_apply, prod_eq H t W y1 j hW 2 _ (by show _ + 256 * 2 + (248 + (6 + q.val)) < _; omega), if_neg (fun hh => absurd (show 3 = 0 from hh.2) (by decide))]
    congr 2
    apply Fin.ext
    show 1024 * (t.val % 8) + 256 * 2 + (248 + (6 + q.val)) = 1024 * (t.val % 8) + 256 * 3 - 2 + q.val
    omega

/-- One half of a chunk, from the weights, the table and the rows before it, is the reference's convolution. -/
theorem conv_eq (t : Fin grid0.N) (W : Vec Ideal S2048x512 .bf16) (T : Vec Ideal S4x8x512 .f32) (c0 : Vec Ideal S8x512 .f32) (y1 : Fin 512) (j : Fin 11264)
    (hW : ∀ q : Fin 2048, W (ix2 q y1) = w q j * g q)
    (hT : ∀ e : Fin 8, tr T 0 (ix3 0 e y1) = p 0 j ∧ tr T 1 (ix3 0 e y1) = p 1 j ∧ tr T 2 (ix3 0 e y1) = p 2 j
      ∧ tr T 3 (ix3 0 e y1) = b j)
    (hc : ∀ q : Fin 2, c0 (ix2 ⟨6 + q.val, by omega⟩ y1) = if t.val % 4 = 0 then 0 else U x g w (ix2 ⟨1024 * (t.val % 8) - 2 + q.val, by omega⟩ j))
    (k : Fin 4) (e : Fin 256) (h : 1024 * (t.val % 8) + 256 * k.val + e.val < 8192) :
    conv c0 (B.x t) W T (rT B t) k (ix2 e y1)
      = convRef (U x g w) p b ⟨1024 * (t.val % 8) + 256 * k.val + e.val, h⟩ j := by
  have ht := tl_eq H t W c0 y1 j hW hc k
  have hk := k.isLt
  have he := e.isLt
  -- a row that lies `d` rows back
  have hb : ∀ (d : ℕ) (h1 : 1 ≤ d) (h2 : d ≤ 2) (hi : 8 - d + e.val < 264),
      ext (tl c0 (B.x t) W (rT B t) k) (prod (B.x t) W (rT B t) k) (ix2 ⟨8 - d + e.val, hi⟩ y1)
        = past (U x g w) d ⟨1024 * (t.val % 8) + 256 * k.val + e.val, h⟩ j := by
    intro d h1 h2 hi
    rw [ext_apply]
    unfold past
    dsimp only
    by_cases h8 : 8 - d + e.val < 8
    · rw [dif_pos h8]
      have hq := ht ⟨2 - d + e.val, by omega⟩
      have e1 : (⟨8 - d + e.val, h8⟩ : Fin 8) = ⟨6 + (2 - d + e.val), by omega⟩ := Fin.ext (by dsimp only; omega)
      rw [e1]
      refine hq.trans ?_
      by_cases h0 : t.val % 4 = 0 ∧ k.val = 0
      · rw [if_pos h0, if_neg (by omega)]
      · rw [if_neg h0, if_pos (by omega)]
        congr 2
        apply Fin.ext
        dsimp only
        omega
    · rw [dif_neg h8, prod_eq H t W y1 j hW k _ (by dsimp only; omega), if_pos (by omega)]
      congr 2
      apply Fin.ext
      dsimp only
      omega
  unfold conv
  rw [pay59_apply, prod_eq H t W y1 j hW k e h]
  obtain ⟨t0, t1, t2, t3⟩ := hT ⟨e.val % 8, Nat.mod_lt _ (by decide)⟩
  have b2 := hb 2 (by decide) (by decide) (by omega)
  have b1 := hb 1 (by decide) (by decide) (by omega)
  rw [t0, t1, t2, t3]
  unfold convRef
  rw [← b2, ← b1]
  exact add4 _ _ _ _

/-- The weights of both halves with the gains folded in. -/
theorem wgT_apply (t : Fin grid0.N) (y1 : Fin 512) (q : Fin 2048) (h : t.val / 8 * 512 + y1.val < 11264) :
    wgT B t (ix2 q y1) = w q ⟨t.val / 8 * 512 + y1.val, h⟩ * g q := by
  have hd : (headPt t).val / 8 = t.val / 8 := by show t.val / 8 * 8 / 8 = _; omega
  unfold wgT
  rw [pay4_apply, H.w4 (headPt t) q y1 (by rw [hd]; exact h), H.g]
  simp only [hd]

theorem wvT_apply (t : Fin grid0.N) (y1 : Fin 512) (q : Fin 2048) (h : 5632 + t.val / 8 * 512 + y1.val < 11264) :
    wvT B t (ix2 q y1) = w q ⟨5632 + t.val / 8 * 512 + y1.val, h⟩ * g q := by
  have hd : (headPt t).val / 8 = t.val / 8 := by show t.val / 8 * 8 / 8 = _; omega
  unfold wvT
  rw [pay4_apply, H.w5 (headPt t) q y1 (by rw [hd]; exact h), H.g]
  simp only [hd]

/-- The tables of both halves. -/
theorem tgT_apply (t : Fin grid0.N) (y1 : Fin 512) (h : t.val / 8 * 512 + y1.val < 11264) (e : Fin 8) :
    tr (tgT B t) 0 (ix3 0 e y1) = p 0 ⟨t.val / 8 * 512 + y1.val, h⟩ ∧ tr (tgT B t) 1 (ix3 0 e y1) = p 1 ⟨t.val / 8 * 512 + y1.val, h⟩
      ∧ tr (tgT B t) 2 (ix3 0 e y1) = p 2 ⟨t.val / 8 * 512 + y1.val, h⟩ ∧ tr (tgT B t) 3 (ix3 0 e y1) = b ⟨t.val / 8 * 512 + y1.val, h⟩ := by
  have hd : (headPt t).val / 8 = t.val / 8 := by show t.val / 8 * 8 / 8 = _; omega
  obtain ⟨f0, f1, f2, f3⟩ := tr_fill (B.p6 (headPt t)) (B.b8 (headPt t)) B.u2
  have hp : ∀ k : Fin 3, B.p6 (headPt t) (ix3 0 k y1) = p k ⟨t.val / 8 * 512 + y1.val, h⟩ := fun k => by
    rw [H.p6 (headPt t) k y1 (by rw [hd]; exact h)]
    simp only [hd]
  have hbb : B.b8 (headPt t) (ix3 0 0 y1) = b ⟨t.val / 8 * 512 + y1.val, h⟩ := by
    rw [H.b8 (headPt t) y1 (by rw [hd]; exact h)]
    simp only [hd]
  unfold tgT
  rw [f0, f1, f2, f3, pay6_apply, pay6_apply, pay6_apply, pay6_apply, tap_apply, tap_apply, tap_apply]
  exact ⟨hp 0, hp 1, hp 2, hbb⟩

theorem tvT_apply (t : Fin grid0.N) (y1 : Fin 512) (h : 5632 + t.val / 8 * 512 + y1.val < 11264) (e : Fin 8) :
    tr (tvT B t) 0 (ix3 0 e y1) = p 0 ⟨5632 + t.val / 8 * 512 + y1.val, h⟩ ∧ tr (tvT B t) 1 (ix3 0 e y1) = p 1 ⟨5632 + t.val / 8 * 512 + y1.val, h⟩
      ∧ tr (tvT B t) 2 (ix3 0 e y1) = p 2 ⟨5632 + t.val / 8 * 512 + y1.val, h⟩ ∧ tr (tvT B t) 3 (ix3 0 e y1) = b ⟨5632 + t.val / 8 * 512 + y1.val, h⟩ := by
  have hd : (headPt t).val / 8 = t.val / 8 := by show t.val / 8 * 8 / 8 = _; omega
  obtain ⟨f0, f1, f2, f3⟩ := tr_fill (B.p7 (headPt t)) (B.b9 (headPt t)) B.u3
  have hp : ∀ k : Fin 3, B.p7 (headPt t) (ix3 0 k y1) = p k ⟨5632 + t.val / 8 * 512 + y1.val, h⟩ := fun k => by
    rw [H.p7 (headPt t) k y1 (by rw [hd]; exact h)]
    simp only [hd]
  have hbb : B.b9 (headPt t) (ix3 0 0 y1) = b ⟨5632 + t.val / 8 * 512 + y1.val, h⟩ := by
    rw [H.b9 (headPt t) y1 (by rw [hd]; exact h)]
    simp only [hd]
  unfold tvT
  rw [f0, f1, f2, f3, pay6_apply, pay6_apply, pay6_apply, pay6_apply, tap_apply, tap_apply, tap_apply]
  exact ⟨hp 0, hp 1, hp 2, hbb⟩

/-- The carry: zero where a sequence starts, else the last rows of the row block before. -/
theorem cIn_apply (t : Fin grid0.N) (y1 : Fin 512) (q : Fin 2) (hg : t.val / 8 * 512 + y1.val < 11264) (hv : 5632 + t.val / 8 * 512 + y1.val < 11264) :
    k0_pay18 (crow (cIn B t) 0) (ix2 ⟨6 + q.val, by omega⟩ y1)
        = (if t.val % 4 = 0 then 0 else U x g w (ix2 ⟨1024 * (t.val % 8) - 2 + q.val, by omega⟩ ⟨t.val / 8 * 512 + y1.val, hg⟩))
    ∧ k0_pay18 (crow (cIn B t) 1) (ix2 ⟨6 + q.val, by omega⟩ y1)
        = (if t.val % 4 = 0 then 0 else U x g w (ix2 ⟨1024 * (t.val % 8) - 2 + q.val, by omega⟩ ⟨5632 + t.val / 8 * 512 + y1.val, hv⟩)) := by
  unfold cIn
  by_cases h4 : t.val % 4 = 0
  · rw [if_pos h4, if_pos h4, if_pos h4]
    exact ⟨crow_zero _ _ _, crow_zero _ _ _⟩
  · rw [if_neg h4, if_neg h4, if_neg h4]
    have hd : (predPt t).val / 8 = t.val / 8 := by show (t.val - 1) / 8 = _; omega
    have hm : (predPt t).val % 8 = t.val % 8 - 1 := by show (t.val - 1) % 8 = _; omega
    have hW : ∀ q' : Fin 2048, wgT B t (ix2 q' y1) = _ := fun q' => wgT_apply H t y1 q' hg
    have hWp : ∀ q' : Fin 2048, wgT B (predPt t) (ix2 q' y1) = w q' ⟨t.val / 8 * 512 + y1.val, hg⟩ * g q' := fun q' => by
      rw [wgT_apply H (predPt t) y1 q' (by rw [hd]; exact hg)]
      simp only [hd]
    have hVp : ∀ q' : Fin 2048, wvT B (predPt t) (ix2 q' y1) = w q' ⟨5632 + t.val / 8 * 512 + y1.val, hv⟩ * g q' := fun q' => by
      rw [wvT_apply H (predPt t) y1 q' (by rw [hd]; exact hv)]
      simp only [hd]
    unfold cOut
    rw [(crow_carry _ _).1, (crow_carry _ _).2, pay18_pay2, pay18_pay2]
    have hlt : 1024 * ((predPt t).val % 8) + 256 * (3 : Fin 4).val + (248 + (6 + q.val)) < 8192 := by
      rw [hm]; show _ + 256 * 3 + _ < _; omega
    have hrow : (⟨1024 * ((predPt t).val % 8) + 256 * (3 : Fin 4).val + (248 + (6 + q.val)), hlt⟩ : Fin 8192) = ⟨1024 * (t.val % 8) - 2 + q.val, by omega⟩ := by
      apply Fin.ext
      show 1024 * ((predPt t).val % 8) + 256 * 3 + (248 + (6 + q.val)) = 1024 * (t.val % 8) - 2 + q.val
      rw [hm]
      omega
    constructor
    · refine (prod_eq H (predPt t) _ y1 _ hWp 3 ⟨248 + (6 + q.val), by omega⟩ hlt).trans ?_
      rw [hrow]
    · refine (prod_eq H (predPt t) _ y1 _ hVp 3 ⟨248 + (6 + q.val), by omega⟩ hlt).trans ?_
      rw [hrow]

/-- What a point writes, at an index of its block. -/
theorem outT_apply (t : Fin grid0.N) (k : Fin 4) (e : Fin 256) (y1 : Fin 512) (h : 1024 * (t.val % 8) + 256 * k.val + e.val < 8192)
    (hg : t.val / 8 * 512 + y1.val < 11264) (hv : 5632 + t.val / 8 * 512 + y1.val < 11264) :
    outT B t (ix2 ⟨256 * k.val + e.val, by omega⟩ y1)
      = gateAt (convRef (U x g w) p b ⟨1024 * (t.val % 8) + 256 * k.val + e.val, h⟩ ⟨t.val / 8 * 512 + y1.val, hg⟩)
          (convRef (U x g w) p b ⟨1024 * (t.val % 8) + 256 * k.val + e.val, h⟩ ⟨5632 + t.val / 8 * 512 + y1.val, hv⟩) := by
  unfold outT
  rw [outF_apply]
  unfold chunk
  rw [gated_apply]
  have ha := conv_eq H t (wgT B t) (tgT B t) (k0_pay18 (crow (cIn B t) 0)) y1 ⟨t.val / 8 * 512 + y1.val, hg⟩ (fun q => wgT_apply H t y1 q hg) (tgT_apply H t y1 hg)
    (fun q => (cIn_apply H t y1 q hg hv).1) k e h
  have hb := conv_eq H t (wvT B t) (tvT B t) (k0_pay18 (crow (cIn B t) 1)) y1 ⟨5632 + t.val / 8 * 512 + y1.val, hv⟩ (fun q => wvT_apply H t y1 q hv) (tvT_apply H t y1 hv)
    (fun q => (cIn_apply H t y1 q hg hv).2) k e h
  rw [← ha, ← hb]
  rfl

/-- The output array, index by index. -/
theorem outArr_apply (r : Fin 8192) (j : Fin 5632) :
    outArr B (ix2 r j) = result x g w p b r j := by
  have hr := r.isLt
  have hj := j.isLt
  have hlt : ptOf (ix2 r j) < grid0.N := by
    show r.val / 1024 + 8 * (j.val / 512) < _
    rw [show grid0.N = 88 from N_0]
    omega
  obtain ⟨t, ht⟩ : ∃ t : Fin grid0.N, t = ⟨ptOf (ix2 r j), hlt⟩ := ⟨_, rfl⟩
  have htv : t.val = r.val / 1024 + 8 * (j.val / 512) := by rw [ht]; rfl
  have hl : locOf (ix2 r j) = ix2 ⟨256 * (⟨r.val % 1024 / 256, by omega⟩ : Fin 4).val + (⟨r.val % 256, by omega⟩ : Fin 256).val, by dsimp only; omega⟩ ⟨j.val % 512, by omega⟩ := by
    funext a
    apply Fin.ext
    match a with
    | ⟨0, _⟩ => show r.val % 1024 = 256 * (r.val % 1024 / 256) + r.val % 256; omega
    | ⟨1, _⟩ => rfl
  unfold outArr
  rw [dif_pos hlt, ← ht, hl, outT_apply H t _ _ _ (by dsimp only; omega) (by dsimp only; omega) (by dsimp only; omega)]
  have e0 : ∀ hh : 1024 * (t.val % 8) + 256 * (r.val % 1024 / 256) + r.val % 256 < 8192, (⟨1024 * (t.val % 8) + 256 * (r.val % 1024 / 256) + r.val % 256, hh⟩ : Fin 8192) = r :=
    fun hh => Fin.ext (by dsimp only; omega)
  have e1 : ∀ hh : t.val / 8 * 512 + j.val % 512 < 11264, (⟨t.val / 8 * 512 + j.val % 512, hh⟩ : Fin 11264) = ⟨j.val, by omega⟩ := fun hh => Fin.ext (by dsimp only; omega)
  have e2 : ∀ hh : 5632 + t.val / 8 * 512 + j.val % 512 < 11264, (⟨5632 + t.val / 8 * 512 + j.val % 512, hh⟩ : Fin 11264) = ⟨5632 + j.val, by omega⟩ :=
    fun hh => Fin.ext (by dsimp only; omega)
  dsimp only
  rw [e0, e1, e2]
  rfl

end Cert.KernelIdeal12.FfnUp

end
-- ==== Proof.FfnUp.Out.lean ====
/- The output array after the launch. -/
module

public import proofs.«01_k».proof.Proof.FfnUp.Frame
public import Idealize.ShloMosaic.Lib.Pipeline.Value

@[expose] public section

set_option maxRecDepth 65536

noncomputable section

namespace Cert.KernelIdeal12.FfnUp

open Idealize.ShloMosaic Idealize.ShloMosaic.TcCoe Idealize.SL.Sem
open Cert.KernelIdeal12 Cert.KernelIdeal12.Gen
open Idealize.ShloMosaic.Pipeline (Dat)

variable {F : FTy → Type} [FloatOps F]
variable (m : (ℓ : Loc nD τ sig) → Buf (Elt F) ℓ) (ρ : Dev nD → PrngReg)

/-- What the output array ends holding. -/
abbrev G (c : Dev nD) : Buf (Elt F) ((c.tc : Thread nD τ).loc main_v2) := outArr (blk m c)

theorem idx_facts : ∀ t : Fin cfg0.N, win0_8.index t (0 : Fin 2) ≤ 7 ∧ win0_8.index t (1 : Fin 2) ≤ 10 ∧ win0_8.index t (0 : Fin 2) + 8 * win0_8.index t (1 : Fin 2) = t.val :=
  (by decide +kernel : ∀ t : Fin grid0.N, _)

abbrev ontoPt (q0 : Fin 8) (q1 : Fin 11) : Fin grid0.N := ⟨q0.val + 8 * q1.val, lt_of_lt_of_eq (by omega) N_0.symm⟩
theorem idx_onto : ∀ (q0 : Fin 8) (q1 : Fin 11), ∃ t : Fin cfg0.N, (cfg0.win 8).flush t = true ∧ win0_8.index t = ![q0.val, q1.val] :=
  fun q0 q1 => ⟨ontoPt q0 q1, (by decide +kernel : ∀ (q0 : Fin 8) (q1 : Fin 11), win0_8.flush (ontoPt q0 q1) = true ∧ win0_8.index (ontoPt q0 q1) = ![q0.val, q1.val]) q0 q1⟩

/-- What a point writes back is its block of `G`. -/
theorem flushed_eq (c : Dev nD) (t : Fin cfg0.N) : (dats m 0 c).flushed 8 t = ((cfg0.win 8).blk t).view.read (Elt F) (G m c) := by
  show (cfg0.win 8).cut (grid0.coords t) ((dats m 0 c).after 8 t) = _
  rw [after0_8]
  obtain ⟨e0, e1, e2⟩ := idx_facts t
  funext y
  have hy0 : (y 0).val < 1024 := (y 0).isLt
  have hy1 : (y 1).val < 512 := (y 1).isLt
  have hb0 : (((cfg0.win 8).blk t).view.emb y 0).val = win0_8.index t (0 : Fin 2) * 1024 + 1 * (y 0).val := rfl
  have hb1 : (((cfg0.win 8).blk t).view.emb y 1).val = win0_8.index t (1 : Fin 2) * 512 + 1 * (y 1).val := rfl
  have hp : ptOf (((cfg0.win 8).blk t).view.emb y) = t.val := by
    show (((cfg0.win 8).blk t).view.emb y 0).val / 1024 + 8 * ((((cfg0.win 8).blk t).view.emb y 1).val / 512) = _
    rw [hb0, hb1]
    omega
  have hl : locOf (((cfg0.win 8).blk t).view.emb y) = (cfg0.win 8).xinj (grid0.coords t) y := by
    funext a; apply Fin.ext
    match a with
    | ⟨0, _⟩ => show (((cfg0.win 8).blk t).view.emb y 0).val % 1024 = (y 0).val; rw [hb0]; omega
    | ⟨1, _⟩ => show (((cfg0.win 8).blk t).view.emb y 1).val % 512 = (y 1).val; rw [hb1]; omega
  show outT (blk m c) t ((cfg0.win 8).xinj (grid0.coords t) y) = outArr (blk m c) (((cfg0.win 8).blk t).view.emb y)
  unfold outArr
  rw [dif_pos (by rw [hp]; exact t.isLt), hl]
  exact outT_congr (blk m c) _ _ (Fin.ext hp.symm) _

theorem mem_blk (t : Fin cfg0.N) (i : S8192x5632.Idx) :
    i ∈ ((cfg0.win 8).blk t).view.set ↔ ∀ a : Fin 2, win0_8.index t a * S1024x512.size a ≤ (i a).val ∧ (i a).val < win0_8.index t a * S1024x512.size a + S1024x512.size a := by
  show i ∈ ((View.whole main_v2).slice (win0_8.rect t)).set ↔ _
  rw [View.set_slice_whole, Rect.mem_set_unit]
  exact Iff.rfl

theorem covered (i : S8192x5632.Idx) : ∃ t : Fin cfg0.N, (cfg0.win 8).flush t = true ∧ i ∈ ((cfg0.win 8).blk t).view.set := by
  have hi0 : (i 0).val < 8192 := (i 0).isLt
  have hi1 : (i 1).val < 5632 := (i 1).isLt
  obtain ⟨t, hft, ht⟩ := idx_onto ⟨(i 0).val / 1024, by omega⟩ ⟨(i 1).val / 512, by omega⟩
  have q0 : win0_8.index t (0 : Fin 2) = (i 0).val / 1024 := congrFun ht 0
  have q1 : win0_8.index t (1 : Fin 2) = (i 1).val / 512 := congrFun ht 1
  refine ⟨t, hft, ?_⟩
  rw [mem_blk]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 512 ≤ (i 1).val ∧ (i 1).val < win0_8.index t (1 : Fin 2) * 512 + 512; omega

/-- The output array after the run. -/
theorem final (c : Dev nD) : (dats m 0 c).arrAt 8 cfg0.N = G m c :=
  (dats m 0 c).arrAt_eq_of_cover 8 _ (fun t _ => flushed_eq m c t) covered

/-- The run: the output array at what the points compute, the arguments unchanged. -/
theorem run : θ_run defs (onTc (τ := τ) (main (F := F))) ⟨m, fun _ => 0, ρ⟩ fun r => ∀ c : Dev nD,
      r.2.mem (c.tc.loc main_v2) = G m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun r h c => ⟨((h.1 c).1 8).trans (final m c), h.2 c⟩) (θ_run_and (run_main m ρ) (frame_of m ρ (dats m) (A_eq m) (run_main m ρ)))

end Cert.KernelIdeal12.FfnUp

end
-- ==== Proof.FfnUp.Read.lean ====
/- The blocks that a point sees, read off the arguments. -/
module

public import proofs.«01_k».proof.Proof.FfnUp.Value
public import proofs.«01_k».proof.Proof.FfnUp.Out
public import Idealize.ShloMosaic.Lib.Pointwise
public import Idealize.ShloMosaic.Lib.Tactic

@[expose] public section

set_option maxRecDepth 16384

noncomputable section

namespace Cert.KernelIdeal12.FfnUp

open Idealize.ShloMosaic Idealize.ShloMosaic.TcCoe Idealize.ShloMosaic.Tactic Idealize.SL.Sem
open Cert.KernelIdeal12 Cert.KernelIdeal12.Gen

variable (m : (ℓ : Loc nD τ sig) → Buf (Elt Ideal) ℓ)

/-- The gains, as the host leaves them for the call. -/
theorem V_main_v0 (c : Dev nD) : (V m c main_v0 : Vec Ideal S4x2048x1 .f32)
    = shapeCast S4x2048x1 (m (c.tc.loc main_arg1)) facts.shapeCasts_S4x2048_S4x2048x1 := by
  show StableHlo.after hostOps0 (fun b => m (c, b)) main_v0 = _
  after_results <;> rfl

/-- The biases, as the host leaves them for the call. -/
theorem V_main_v1 (c : Dev nD) : (V m c main_v1 : Vec Ideal S4x1x11264 .f32)
    = shapeCast S4x1x11264 (m (c.tc.loc main_arg4)) facts.shapeCasts_S4x11264_S4x1x11264 := by
  show StableHlo.after hostOps0 (fun b => m (c, b)) main_v1 = _
  after_results <;> rfl

theorem bias_cast (B : Vec Ideal S4x11264 .f32) (j : Fin 11264) :
    shapeCast S4x1x11264 B facts.shapeCasts_S4x11264_S4x1x11264 (ix3 0 0 j) = B (ix2 0 j) := by
  pointwise

/-- The rows of the activation that point `t` sees. -/
theorem iblk0_apply (c : Dev nD) (t : Fin cfg0.N) (r : Fin 1024) (k : Fin 2048) (h : t.val % 8 * 1024 + r.val < 8192) :
    (iblk m c 0 t : Vec Ideal S1024x2048 .f32) (ix2 r k) = m (c.tc.loc main_arg0) (ix2 ⟨t.val % 8 * 1024 + r.val, h⟩ k) := by
  have hi : ∀ t : Fin cfg0.N, win0_0.index t 0 = t.val % 8 ∧ win0_0.index t 1 = 0 := (by decide +kernel : ∀ t : Fin grid0.N, _)
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = t.val % 8 * 1024 + r.val; rw [(hi t).1]; omega
  | ⟨1, _⟩ => show win0_0.index t 1 * 2048 + 1 * k.val = k.val; rw [(hi t).2]; omega

/-- The gains that point `t` sees. -/
theorem iblk1_apply (c : Dev nD) (t : Fin cfg0.N) (k : Fin 2048) :
    (iblk m c 1 t : Vec Ideal S1x2048x1 .f32) (ix3 0 k 0) = m (c.tc.loc main_arg1) (ix2 0 k) := by
  have hi : ∀ t : Fin cfg0.N, win0_1.index t 0 = 0 ∧ win0_1.index t 1 = 0 ∧ win0_1.index t 2 = 0 := (by decide +kernel : ∀ t : Fin grid0.N, _)
  have e : (iblk m c 1 t : Vec Ideal S1x2048x1 .f32) (ix3 0 k 0) = (V m c main_v0 : Vec Ideal S4x2048x1 .f32) (ix3 0 k 0) := by
    unfold iblk
    rw [View.read_apply]
    show V m c main_v0 _ = V m c main_v0 _
    congr 1
    funext a
    apply Fin.ext
    match a with
    | ⟨0, _⟩ => show win0_1.index t 0 * 1 + 1 * 0 = 0; rw [(hi t).1]
    | ⟨1, _⟩ => show win0_1.index t 1 * 2048 + 1 * k.val = k.val; rw [(hi t).2.1]; omega
    | ⟨2, _⟩ => show win0_1.index t 2 * 1 + 1 * 0 = 0; rw [(hi t).2.2]
  rw [e, V_main_v0]
  pointwise

/-- The weights of the gate half that point `t` sees. -/
theorem iblk2_apply (c : Dev nD) (t : Fin cfg0.N) (k : Fin 2048) (j : Fin 512) (h : t.val / 8 * 512 + j.val < 11264) :
    (iblk m c 2 t : Vec Ideal S1x2048x512 .f32) (ix3 0 k j) = m (c.tc.loc main_arg2) (ix3 0 k ⟨t.val / 8 * 512 + j.val, h⟩) := by
  have hi : ∀ t : Fin cfg0.N, win0_2.index t 0 = 0 ∧ win0_2.index t 1 = 0 ∧ win0_2.index t 2 = t.val / 8 := (by decide +kernel : ∀ t : Fin grid0.N, _)
  unfold iblk
  rw [View.read_apply]
  show V m c main_arg2 _ = m (c.tc.loc main_arg2) _
  rw [V_main_arg2]
  congr 1
  funext a
  apply Fin.ext
  match a with
  | ⟨0, _⟩ => show win0_2.index t 0 * 1 + 1 * 0 = 0; rw [(hi t).1]
  | ⟨1, _⟩ => show win0_2.index t 1 * 2048 + 1 * k.val = k.val; rw [(hi t).2.1]; omega
  | ⟨2, _⟩ => show win0_2.index t 2 * 512 + 1 * j.val = t.val / 8 * 512 + j.val; rw [(hi t).2.2]; omega

/-- The taps of the gate half that point `t` sees. -/
theorem iblk4_apply (c : Dev nD) (t : Fin cfg0.N) (k : Fin 3) (j : Fin 512) (h : t.val / 8 * 512 + j.val < 11264) :
    (iblk m c 4 t : Vec Ideal S1x3x512 .f32) (ix3 0 k j) = m (c.tc.loc main_arg3) (ix3 0 k ⟨t.val / 8 * 512 + j.val, h⟩) := by
  have hi : ∀ t : Fin cfg0.N, win0_4.index t 0 = 0 ∧ win0_4.index t 1 = 0 ∧ win0_4.index t 2 = t.val / 8 := (by decide +kernel : ∀ t : Fin grid0.N, _)
  unfold iblk
  rw [View.read_apply]
  show V m c main_arg3 _ = m (c.tc.loc main_arg3) _
  rw [V_main_arg3]
  congr 1
  funext a
  apply Fin.ext
  match a with
  | ⟨0, _⟩ => show win0_4.index t 0 * 1 + 1 * 0 = 0; rw [(hi t).1]
  | ⟨1, _⟩ => show win0_4.index t 1 * 3 + 1 * k.val = k.val; rw [(hi t).2.1]; omega
  | ⟨2, _⟩ => show win0_4.index t 2 * 512 + 1 * j.val = t.val / 8 * 512 + j.val; rw [(hi t).2.2]; omega

/-- The biases of the gate half that point `t` sees. -/
theorem iblk6_apply (c : Dev nD) (t : Fin cfg0.N) (j : Fin 512) (h : t.val / 8 * 512 + j.val < 11264) :
    (iblk m c 6 t : Vec Ideal S1x1x512 .f32) (ix3 0 0 j) = m (c.tc.loc main_arg4) (ix2 0 ⟨t.val / 8 * 512 + j.val, h⟩) := by
  have hi : ∀ t : Fin cfg0.N, win0_6.index t 0 = 0 ∧ win0_6.index t 1 = 0 ∧ win0_6.index t 2 = t.val / 8 := (by decide +kernel : ∀ t : Fin grid0.N, _)
  have e : (iblk m c 6 t : Vec Ideal S1x1x512 .f32) (ix3 0 0 j) = (V m c main_v1 : Vec Ideal S4x1x11264 .f32) (ix3 0 0 ⟨t.val / 8 * 512 + j.val, h⟩) := by
    unfold iblk
    rw [View.read_apply]
    show V m c main_v1 _ = V m c main_v1 _
    congr 1
    funext a
    apply Fin.ext
    match a with
    | ⟨0, _⟩ => show win0_6.index t 0 * 1 + 1 * 0 = 0; rw [(hi t).1]
    | ⟨1, _⟩ => show win0_6.index t 1 * 1 + 1 * 0 = 0; rw [(hi t).2.1]
    | ⟨2, _⟩ => show win0_6.index t 2 * 512 + 1 * j.val = t.val / 8 * 512 + j.val; rw [(hi t).2.2]; omega
  rw [e, V_main_v1]
  exact bias_cast _ _

/-- The weights of the value half that point `t` sees. -/
theorem iblk3_apply (c : Dev nD) (t : Fin cfg0.N) (k : Fin 2048) (j : Fin 512) (h : 5632 + t.val / 8 * 512 + j.val < 11264) :
    (iblk m c 3 t : Vec Ideal S1x2048x512 .f32) (ix3 0 k j) = m (c.tc.loc main_arg2) (ix3 0 k ⟨5632 + t.val / 8 * 512 + j.val, h⟩) := by
  have hi : ∀ t : Fin cfg0.N, win0_3.index t 0 = 0 ∧ win0_3.index t 1 = 0 ∧ win0_3.index t 2 = t.val / 8 + 11 := (by decide +kernel : ∀ t : Fin grid0.N, _)
  unfold iblk
  rw [View.read_apply]
  show V m c main_arg2 _ = m (c.tc.loc main_arg2) _
  rw [V_main_arg2]
  congr 1
  funext a
  apply Fin.ext
  match a with
  | ⟨0, _⟩ => show win0_3.index t 0 * 1 + 1 * 0 = 0; rw [(hi t).1]
  | ⟨1, _⟩ => show win0_3.index t 1 * 2048 + 1 * k.val = k.val; rw [(hi t).2.1]; omega
  | ⟨2, _⟩ => show win0_3.index t 2 * 512 + 1 * j.val = 5632 + t.val / 8 * 512 + j.val; rw [(hi t).2.2]; omega

/-- The taps of the value half that point `t` sees. -/
theorem iblk5_apply (c : Dev nD) (t : Fin cfg0.N) (k : Fin 3) (j : Fin 512) (h : 5632 + t.val / 8 * 512 + j.val < 11264) :
    (iblk m c 5 t : Vec Ideal S1x3x512 .f32) (ix3 0 k j) = m (c.tc.loc main_arg3) (ix3 0 k ⟨5632 + t.val / 8 * 512 + j.val, h⟩) := by
  have hi : ∀ t : Fin cfg0.N, win0_5.index t 0 = 0 ∧ win0_5.index t 1 = 0 ∧ win0_5.index t 2 = t.val / 8 + 11 := (by decide +kernel : ∀ t : Fin grid0.N, _)
  unfold iblk
  rw [View.read_apply]
  show V m c main_arg3 _ = m (c.tc.loc main_arg3) _
  rw [V_main_arg3]
  congr 1
  funext a
  apply Fin.ext
  match a with
  | ⟨0, _⟩ => show win0_5.index t 0 * 1 + 1 * 0 = 0; rw [(hi t).1]
  | ⟨1, _⟩ => show win0_5.index t 1 * 3 + 1 * k.val = k.val; rw [(hi t).2.1]; omega
  | ⟨2, _⟩ => show win0_5.index t 2 * 512 + 1 * j.val = 5632 + t.val / 8 * 512 + j.val; rw [(hi t).2.2]; omega

/-- The biases of the value half that point `t` sees. -/
theorem iblk7_apply (c : Dev nD) (t : Fin cfg0.N) (j : Fin 512) (h : 5632 + t.val / 8 * 512 + j.val < 11264) :
    (iblk m c 7 t : Vec Ideal S1x1x512 .f32) (ix3 0 0 j) = m (c.tc.loc main_arg4) (ix2 0 ⟨5632 + t.val / 8 * 512 + j.val, h⟩) := by
  have hi : ∀ t : Fin cfg0.N, win0_7.index t 0 = 0 ∧ win0_7.index t 1 = 0 ∧ win0_7.index t 2 = t.val / 8 + 11 := (by decide +kernel : ∀ t : Fin grid0.N, _)
  have e : (iblk m c 7 t : Vec Ideal S1x1x512 .f32) (ix3 0 0 j) = (V m c main_v1 : Vec Ideal S4x1x11264 .f32) (ix3 0 0 ⟨5632 + t.val / 8 * 512 + j.val, h⟩) := by
    unfold iblk
    rw [View.read_apply]
    show V m c main_v1 _ = V m c main_v1 _
    congr 1
    funext a
    apply Fin.ext
    match a with
    | ⟨0, _⟩ => show win0_7.index t 0 * 1 + 1 * 0 = 0; rw [(hi t).1]
    | ⟨1, _⟩ => show win0_7.index t 1 * 1 + 1 * 0 = 0; rw [(hi t).2.1]
    | ⟨2, _⟩ => show win0_7.index t 2 * 512 + 1 * j.val = 5632 + t.val / 8 * 512 + j.val; rw [(hi t).2.2]; omega
  rw [e, V_main_v1]
  exact bias_cast _ _

/-- The blocks are those of this layer's slices of the arguments. -/
theorem reads (c : Dev nD) : Reads (blk m c) (m (c.tc.loc main_arg0)) (fun k => m (c.tc.loc main_arg1) (ix2 0 k)) (fun k j => m (c.tc.loc main_arg2) (ix3 0 k j))
    (fun k j => m (c.tc.loc main_arg3) (ix3 0 k j)) (fun j => m (c.tc.loc main_arg4) (ix2 0 j)) where
  x := fun t r k h => iblk0_apply m c t r k h
  g := fun t k => iblk1_apply m c t k
  w4 := fun t k j h => iblk2_apply m c t k j h
  w5 := fun t k j h => iblk3_apply m c t k j h
  p6 := fun t k j h => iblk4_apply m c t k j h
  p7 := fun t k j h => iblk5_apply m c t k j h
  b8 := fun t j h => iblk6_apply m c t j h
  b9 := fun t j h => iblk7_apply m c t j h

/-- The output array, index by index. -/
theorem G_apply (c : Dev nD) (r : Fin 8192) (j : Fin 5632) : G m c (ix2 r j)
    = Cert.ReferenceIdeal12.FfnUp.result (m (c.tc.loc main_arg0)) (fun k => m (c.tc.loc main_arg1) (ix2 0 k)) (fun k j => m (c.tc.loc main_arg2) (ix3 0 k j))
        (fun k j => m (c.tc.loc main_arg3) (ix3 0 k j)) (fun j => m (c.tc.loc main_arg4) (ix2 0 j)) r j := outArr_apply (reads m c) r j

end Cert.KernelIdeal12.FfnUp

end
-- ==== Proof.FfnUp.Ref.lean ====
/- The reference of layer 0, from the slices of its arguments. -/
module

public import proofs.«01_k».proof.Proof.FfnUp.RefTerm
public import proofs.«01_k».proof.Proof.Gen.ReferenceIdeal12.Run

@[expose] public section

set_option maxRecDepth 16384

noncomputable section

namespace Cert.ReferenceIdeal12.FfnUp

open Idealize.ShloMosaic Idealize.ShloMosaic.TcCoe Idealize.SL.Sem
open Cert.ReferenceIdeal12 Cert.ReferenceIdeal12.Gen Cert.ReferenceIdeal12.Value
open Cert.ReferenceIdeal12.FfnUp (termU termY termO padded result term_apply)

theorem res_eq (m : (ℓ : Loc nD τ sig) → Buf (Elt Ideal) ℓ) (c : Dev nD) :
    res_main_v56 (F := Ideal) m c = termO (termY
      (shapeCast _ (extractStridedSlice S1x1x11264 ![0, 0, 0] (m (c.tc.loc main_arg3)) slices_S4x3x11264_S1x1x11264_0_0_0) shapeCasts_S1x1x11264_S11264)
      (shapeCast _ (extractStridedSlice S1x1x11264 ![0, 1, 0] (m (c.tc.loc main_arg3)) slices_S4x3x11264_S1x1x11264_0_1_0) shapeCasts_S1x1x11264_S11264)
      (shapeCast _ (extractStridedSlice S1x1x11264 ![0, 2, 0] (m (c.tc.loc main_arg3)) slices_S4x3x11264_S1x1x11264_0_2_0) shapeCasts_S1x1x11264_S11264)
      (shapeCast _ (extractStridedSlice S1x11264 ![0, 0] (m (c.tc.loc main_arg4)) slices_S4x11264_S1x11264_0_0) shapeCasts_S1x11264_S11264)
      (termU (m (c.tc.loc main_arg0))
        (shapeCast _ (extractStridedSlice S1x2048 ![0, 0] (m (c.tc.loc main_arg1)) slices_S4x2048_S1x2048_0_0) shapeCasts_S1x2048_S2048)
        (shapeCast _ (extractStridedSlice S1x2048x11264 ![0, 0, 0] (m (c.tc.loc main_arg2)) slices_S4x2048x11264_S1x2048x11264_0_0_0) shapeCasts_S1x2048x11264_S2048x11264))) := by
  unfold res_main_v56 termO termY termU padded
  rfl

theorem gain_apply (g : FVec Ideal S4x2048 .f32) (k : Fin 2048) :
    (shapeCast S2048 (extractStridedSlice S1x2048 ![0, 0] g slices_S4x2048_S1x2048_0_0) shapeCasts_S1x2048_S2048) (ix1 k) = g (ix2 0 k) := by pointwise
theorem weight_apply (w : FVec Ideal S4x2048x11264 .f32) (k : Fin 2048) (j : Fin 11264) :
    (shapeCast S2048x11264 (extractStridedSlice S1x2048x11264 ![0, 0, 0] w slices_S4x2048x11264_S1x2048x11264_0_0_0) shapeCasts_S1x2048x11264_S2048x11264) (ix2 k j) = w (ix3 0 k j) := by pointwise
theorem tap0_apply (p : FVec Ideal S4x3x11264 .f32) (j : Fin 11264) :
    (shapeCast S11264 (extractStridedSlice S1x1x11264 ![0, 0, 0] p slices_S4x3x11264_S1x1x11264_0_0_0) shapeCasts_S1x1x11264_S11264) (ix1 j) = p (ix3 0 0 j) := by pointwise
theorem tap1_apply (p : FVec Ideal S4x3x11264 .f32) (j : Fin 11264) :
    (shapeCast S11264 (extractStridedSlice S1x1x11264 ![0, 1, 0] p slices_S4x3x11264_S1x1x11264_0_1_0) shapeCasts_S1x1x11264_S11264) (ix1 j) = p (ix3 0 1 j) := by pointwise
theorem tap2_apply (p : FVec Ideal S4x3x11264 .f32) (j : Fin 11264) :
    (shapeCast S11264 (extractStridedSlice S1x1x11264 ![0, 2, 0] p slices_S4x3x11264_S1x1x11264_0_2_0) shapeCasts_S1x1x11264_S11264) (ix1 j) = p (ix3 0 2 j) := by pointwise
theorem bias_apply (b : FVec Ideal S4x11264 .f32) (j : Fin 11264) :
    (shapeCast S11264 (extractStridedSlice S1x11264 ![0, 0] b slices_S4x11264_S1x11264_0_0) shapeCasts_S1x11264_S11264) (ix1 j) = b (ix2 0 j) := by pointwise

/-- The reference's result, index by index. -/
theorem res_apply (m : (ℓ : Loc nD τ sig) → Buf (Elt Ideal) ℓ) (c : Dev nD) (r : Fin 8192) (j : Fin 5632) :
    res_main_v56 (F := Ideal) m c (ix2 r j)
      = result (m (c.tc.loc main_arg0)) (fun k => m (c.tc.loc main_arg1) (ix2 0 k)) (fun k j => m (c.tc.loc main_arg2) (ix3 0 k j))
        (fun k j => m (c.tc.loc main_arg3) (ix3 0 k j)) (fun j => m (c.tc.loc main_arg4) (ix2 0 j)) r j := by
  rw [res_eq]
  exact term_apply _ _ _ _ _ _ _ _ _ _ _ (gain_apply _) (weight_apply _) (tap0_apply _) (tap1_apply _) (tap2_apply _) (bias_apply _) r j

end Cert.ReferenceIdeal12.FfnUp

end
-- ==== Proof.FfnUp1.Triple.lean ====
/- The body of this layer's launch is that of the first layer's, so its triple is too. -/
module

public import proofs.«01_k».proof.Proof.FfnUp.Triple
public import proofs.«01_k».proof.Proof.Gen.KernelIdeal13.Frame

@[expose] public section

set_option maxRecDepth 65536

noncomputable section

namespace Cert.KernelIdeal13.FfnUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal12.FfnUp (first start inb_x inb_o inb_r inb_t inb_c inb_p xC tr crow tap prod tl conv gated Ops chunk outF carryF fillT wAt tAt cAt rAt rows opsOf)
open Cert.KernelIdeal13 Cert.KernelIdeal13.Gen Cert.Rules

variable {F : FTy → Type} [FloatOps F]

local notation "𝕄" => MT nD τ sig Unit (Elt F) ℕ (UR sig nD τ) ℕ

/-- The two launches' labels are one: the same grid and the same number of buffers of each window. -/
theorem labels_eq : Cert.KernelIdeal12.Λ₀ = Cert.KernelIdeal13.Λ₀ := by
  have h : (fun w : Fin 9 => Fin (Cert.KernelIdeal12.win0 w).nbuf) = fun w : Fin 9 => Fin (Cert.KernelIdeal13.win0 w).nbuf := by
    funext w
    fin_cases w <;> rfl
  have h2 : (Fin Cert.KernelIdeal12.grid0.N × ((w : Fin 9) → Fin (Cert.KernelIdeal12.win0 w).nbuf)) = (Fin Cert.KernelIdeal13.grid0.N × ((w : Fin 9) → Fin (Cert.KernelIdeal13.win0 w).nbuf)) := by
    show (Fin Cert.KernelIdeal12.grid0.N × ((w : Fin 9) → (fun w : Fin 9 => Fin (Cert.KernelIdeal12.win0 w).nbuf) w)) = _
    rw [h]
  unfold Cert.KernelIdeal12.Λ₀ Cert.KernelIdeal13.Λ₀
  congr 1
  funext l
  match l with
  | 0 => exact h2

variable (c : Dev nD) (i : grid0.Coords) (arg2 : Memref sig .tc .vmem S1024x2048 .f32) (harg2 : arg2.IsWhole) (arg3 : Memref sig .tc .vmem S1x2048x1 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x3x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1024x512 .bf16) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S4x8x512 .f32) (harg13 : arg13.IsWhole) (arg14 : Memref sig .tc .vmem S4x8x512 .f32) (harg14 : arg14.IsWhole) (arg15 : Memref sig .tc .vmem S2x8x512 .f32) (harg15 : arg15.IsWhole) (arg16 : Memref sig .tc .vmem S8x1024x128 .f32) (harg16 : arg16.IsWhole)
variable (E : Set ℕ)
variable (x : Vec F S1024x2048 .f32) (g : Vec F S1x2048x1 .f32) (w4 w5 : Vec F S1x2048x512 .f32) (p6 p7 : Vec F S1x3x512 .f32) (b8 b9 : Vec F S1x1x512 .f32) (o : Vec F S1024x512 .bf16) (u11 u12 : Vec F S2048x512 .bf16) (t13 t14 : Vec F S4x8x512 .f32) (cr : Vec F S2x8x512 .f32) (rs : Vec F S8x1024x128 .f32)

theorem body_triple (K : PUnit → sProp 𝕄) :
    iprop(owns c.tc arg2 fullShare x ∗ owns c.tc arg3 fullShare g ∗ owns c.tc arg4 fullShare w4 ∗ owns c.tc arg5 fullShare w5 ∗ owns c.tc arg6 fullShare p6 ∗ owns c.tc arg7 fullShare p7 ∗ owns c.tc arg8 fullShare b8 ∗ owns c.tc arg9 fullShare b9 ∗ owns c.tc arg10 fullShare o ∗ owns c.tc arg11 fullShare u11 ∗ owns c.tc arg12 fullShare u12 ∗ owns c.tc arg13 fullShare t13 ∗ owns c.tc arg14 fullShare t14 ∗ owns c.tc arg15 fullShare cr ∗ owns c.tc arg16 fullShare rs ∗ (iprop(owns c.tc arg2 fullShare x ∗ owns c.tc arg3 fullShare g ∗ owns c.tc arg4 fullShare w4 ∗ owns c.tc arg5 fullShare w5 ∗ owns c.tc arg6 fullShare p6 ∗ owns c.tc arg7 fullShare p7 ∗ owns c.tc arg8 fullShare b8 ∗ owns c.tc arg9 fullShare b9 ∗ owns c.tc arg10 fullShare (outF (opsOf i x (wAt i w4 g u11) (wAt i w5 g u12) (tAt i p6 b8 t13) (tAt i p7 b9 t14) (cAt i cr) (rAt i x rs)) o) ∗ owns c.tc arg11 fullShare (wAt i w4 g u11) ∗ owns c.tc arg12 fullShare (wAt i w5 g u12) ∗ owns c.tc arg13 fullShare (tAt i p6 b8 t13) ∗ owns c.tc arg14 fullShare (tAt i p7 b9 t14) ∗ owns c.tc arg15 fullShare (carryF (opsOf i x (wAt i w4 g u11) (wAt i w5 g u12) (tAt i p6 b8 t13) (tAt i p7 b9 t14) (cAt i cr) (rAt i x rs)) (cAt i cr)) ∗ owns c.tc arg16 fullShare (rAt i x rs)) -∗ K ⟨⟩))
      ⊢ wp frame (wpE (defs₀ (F := F)) Variants.none c none) E (cc0_ffn_up_conv_gate i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have h := fun (D : Defs Cert.KernelIdeal12.nD Cert.KernelIdeal12.τ Cert.KernelIdeal12.sig (Elt F) Cert.KernelIdeal12.Λ₀) => Cert.KernelIdeal12.FfnUp.body_triple (F := F) (D := D) (c := c) (i := i) (E := E) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (x := x) (g := g) (w4 := w4) (w5 := w5) (p6 := p6) (p7 := p7) (b8 := b8) (b9 := b9) (o := o) (u11 := u11) (u12 := u12) (t13 := t13) (t14 := t14) (cr := cr) (rs := rs) (K := K)
  unfold Cert.KernelIdeal12.cc0_ffn_up_conv_gate at h
  unfold Cert.KernelIdeal12.k0_part9 Cert.KernelIdeal12.k0_part8 Cert.KernelIdeal12.k0_part7 Cert.KernelIdeal12.k0_part6 Cert.KernelIdeal12.k0_part5 Cert.KernelIdeal12.k0_part4 Cert.KernelIdeal12.k0_part3 Cert.KernelIdeal12.k0_part2 Cert.KernelIdeal12.k0_part1 at h
  rw [labels_eq] at h
  exact h (defs₀ (F := F))

end Cert.KernelIdeal13.FfnUp

end
-- ==== Proof.FfnUp1.Frame.lean ====
/- The launch: what is known of the scratch before each grid point, the run and the frame. -/
module

public import proofs.«01_k».proof.Proof.FfnUp.State
public import proofs.«01_k».proof.Proof.FfnUp1.Triple
public import proofs.«01_k».proof.Proof.Gen.KernelIdeal13.Frame
public import Idealize.ShloMosaic.Lib.Claim

@[expose] public section

set_option maxRecDepth 65536

noncomputable section

namespace Cert.KernelIdeal13.FfnUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal12.FfnUp (Blk wgT wvT tgT tvT cIn opsT outT InvW InvC InvR step_W step_C step_R open_W open_C ops_eq outF_congr wAt tAt cAt rAt opsOf outF carryF outArr outT_congr ptOf locOf rowPt)
open Cert.KernelIdeal13 Cert.KernelIdeal13.Gen Cert.Rules
open Idealize.ShloMosaic.VecWindow (window put)

variable {F : FTy → Type} [FloatOps F]

open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-- The blocks of this launch. -/
def blk (c : Dev nD) : Blk F := ⟨fun t => iblk m c 0 t, fun t => iblk m c 1 t, fun t => iblk m c 2 t, fun t => iblk m c 3 t, fun t => iblk m c 4 t, fun t => iblk m c 5 t,
  fun t => iblk m c 6 t, fun t => iblk m c 7 t, m (c.tc.loc cc0_scratch2), m (c.tc.loc cc0_scratch3), m (c.tc.loc cc0_scratch4)⟩

/-- Points of one row block see the same rows. -/
theorem iblk0_congr (c : Dev nD) (t t' : Fin cfg0.N) (h : t.val % 8 = t'.val % 8) : (iblk m c 0 t : Vec F S1024x2048 .f32) = iblk m c 0 t' := by
  have hi : ∀ t : Fin cfg0.N, win0_0.index t 0 = t.val % 8 ∧ win0_0.index t 1 = 0 :=
    (by decide +kernel : ∀ t : Fin grid0.N, _)
  funext y
  unfold iblk
  rw [View.read_apply, View.read_apply]
  show V m c main_arg0 _ = V m c main_arg0 _
  congr 1
  funext a
  apply Fin.ext
  match a with
  | ⟨0, _⟩ => show win0_0.index t 0 * 1024 + 1 * (y 0).val = win0_0.index t' 0 * 1024 + 1 * (y 0).val; rw [(hi t).1, (hi t').1, h]
  | ⟨1, _⟩ => show win0_0.index t 1 * 2048 + 1 * (y 1).val = win0_0.index t' 1 * 2048 + 1 * (y 1).val; rw [(hi t).2, (hi t').2]

/-! ## The invariant and the proof data -/

abbrev sc11 : Memref sig .tc .vmem S2048x512 .bf16 := Memref.whole cc0_scratch0
abbrev sc12 : Memref sig .tc .vmem S2048x512 .bf16 := Memref.whole cc0_scratch1
abbrev sc13 : Memref sig .tc .vmem S4x8x512 .f32 := Memref.whole cc0_scratch2
abbrev sc14 : Memref sig .tc .vmem S4x8x512 .f32 := Memref.whole cc0_scratch3
abbrev sc15 : Memref sig .tc .vmem S2x8x512 .f32 := Memref.whole cc0_scratch4
abbrev sc16 : Memref sig .tc .vmem S8x1024x128 .f32 := Memref.whole cc0_scratch5

/-- Before point `n`: the scratch at contents of which the above is known. -/
def Phi (c : Dev nD) (n : ℕ) : sProp 𝕄 :=
  iprop((∃ u11 u12 t13 t14 cr rs, ⌜InvW (blk m c) n u11 u12 t13 t14 ∧ InvC (blk m c) n cr ∧ InvR (blk m c) n rs⌝ ∗ owns c.tc sc11 fullShare u11 ∗ owns c.tc sc12 fullShare u12
    ∗ owns c.tc sc13 fullShare t13 ∗ owns c.tc sc14 fullShare t14 ∗ owns c.tc sc15 fullShare cr ∗ owns c.tc sc16 fullShare rs) ∗ (∃ r, prngReg c r))

theorem PhiA_eq (c : Dev nD) : (Pipeline.ΦA spec0 c : sProp 𝕄)
    = iprop(((∃ u, owns c.tc sc11 fullShare u) ∗ (∃ u, owns c.tc sc12 fullShare u) ∗ (∃ u, owns c.tc sc13 fullShare u)
      ∗ (∃ u, owns c.tc sc14 fullShare u) ∗ (∃ u, owns c.tc sc15 fullShare u) ∗ (∃ u, owns c.tc sc16 fullShare u)) ∗ (∃ r, prngReg c r)) := by
  unfold Pipeline.ΦA; rw [scopedRest0_eq]; simp only [sc11, sc12, sc13, sc14, sc15, sc16, owns_whole]; try rfl

/-- The proof data: the arrays as the region finds them, each input's buffer at its block, the output's at `outT`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outT (blk m c) t
  Φ t := Phi m c t.val
  q := Pipeline.shareOf spec0
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outT (blk m c) t := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns c.tc (win0_0.stage (cfg0.slots t 0)) fullShare ((dats m 0 c).before 0 t d))
    ∗ (∃ d, owns c.tc (win0_1.stage (cfg0.slots t 1)) fullShare ((dats m 0 c).before 1 t d))
    ∗ (∃ d, owns c.tc (win0_2.stage (cfg0.slots t 2)) fullShare ((dats m 0 c).before 2 t d))
    ∗ (∃ d, owns c.tc (win0_3.stage (cfg0.slots t 3)) fullShare ((dats m 0 c).before 3 t d))
    ∗ (∃ d, owns c.tc (win0_4.stage (cfg0.slots t 4)) fullShare ((dats m 0 c).before 4 t d))
    ∗ (∃ d, owns c.tc (win0_5.stage (cfg0.slots t 5)) fullShare ((dats m 0 c).before 5 t d))
    ∗ (∃ d, owns c.tc (win0_6.stage (cfg0.slots t 6)) fullShare ((dats m 0 c).before 6 t d))
    ∗ (∃ d, owns c.tc (win0_7.stage (cfg0.slots t 7)) fullShare ((dats m 0 c).before 7 t d))
    ∗ (∃ d, owns c.tc (win0_8.stage (cfg0.slots t 8)) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns c.tc (win0_0.stage (cfg0.slots t 0)) fullShare ((dats m 0 c).after 0 t)
    ∗ owns c.tc (win0_1.stage (cfg0.slots t 1)) fullShare ((dats m 0 c).after 1 t)
    ∗ owns c.tc (win0_2.stage (cfg0.slots t 2)) fullShare ((dats m 0 c).after 2 t)
    ∗ owns c.tc (win0_3.stage (cfg0.slots t 3)) fullShare ((dats m 0 c).after 3 t)
    ∗ owns c.tc (win0_4.stage (cfg0.slots t 4)) fullShare ((dats m 0 c).after 4 t)
    ∗ owns c.tc (win0_5.stage (cfg0.slots t 5)) fullShare ((dats m 0 c).after 5 t)
    ∗ owns c.tc (win0_6.stage (cfg0.slots t 6)) fullShare ((dats m 0 c).after 6 t)
    ∗ owns c.tc (win0_7.stage (cfg0.slots t 7)) fullShare ((dats m 0 c).after 7 t)
    ∗ owns c.tc (win0_8.stage (cfg0.slots t 8)) fullShare ((dats m 0 c).after 8 t))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [before0_0, before0_1, before0_2, before0_3, before0_4, before0_5, before0_6, before0_7]
  rw [show (dats m 0 c).Φ t.castSucc = Phi m c t.val from rfl]
  unfold Phi
  iintro ⟨⟨⟨%u11, %u12, %t13, %t14, %cr, %rs, %hI, S11, S12, S13, S14, S15, S16⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨hW, hC, hR⟩ := hI
  obtain ⟨q1, q2, q3, q4⟩ : wAt (grid0.coords t) (iblk m c 2 t) (iblk m c 1 t) u11 = wgT (blk m c) t ∧ wAt (grid0.coords t) (iblk m c 3 t) (iblk m c 1 t) u12 = wvT (blk m c) t
      ∧ tAt (grid0.coords t) (iblk m c 4 t) (iblk m c 6 t) t13 = tgT (blk m c) t ∧ tAt (grid0.coords t) (iblk m c 5 t) (iblk m c 7 t) t14 = tvT (blk m c) t := open_W (blk m c) t u11 u12 t13 t14 hW
  have q5 : cAt (grid0.coords t) cr = cIn (blk m c) t := open_C (blk m c) t cr hC
  have hR' : InvR (blk m c) (t.val + 1) (rAt (grid0.coords t) (iblk m c 0 t) rs) := step_R (blk m c) t rs hR
  have hB : opsOf (grid0.coords t) (iblk m c 0 t) (wgT (blk m c) t) (wvT (blk m c) t) (tgT (blk m c) t) (tvT (blk m c) t) (cIn (blk m c) t) (rAt (grid0.coords t) (iblk m c 0 t) rs)
      = opsT (blk m c) t := ops_eq (blk m c) (iblk0_congr m c) t _ hR'
  have key := body_triple (c := c) (i := grid0.coords t) (arg2 := win0_0.stage (cfg0.slots t 0)) (harg2 := hstage0_0 ((cfg0.slots t 0).cast nbuf0_0)) (arg3 := win0_1.stage (cfg0.slots t 1)) (harg3 := hstage0_1 ((cfg0.slots t 1).cast nbuf0_1)) (arg4 := win0_2.stage (cfg0.slots t 2)) (harg4 := hstage0_2 ((cfg0.slots t 2).cast nbuf0_2)) (arg5 := win0_3.stage (cfg0.slots t 3)) (harg5 := hstage0_3 ((cfg0.slots t 3).cast nbuf0_3)) (arg6 := win0_4.stage (cfg0.slots t 4)) (harg6 := hstage0_4 ((cfg0.slots t 4).cast nbuf0_4)) (arg7 := win0_5.stage (cfg0.slots t 5)) (harg7 := hstage0_5 ((cfg0.slots t 5).cast nbuf0_5)) (arg8 := win0_6.stage (cfg0.slots t 6)) (harg8 := hstage0_6 ((cfg0.slots t 6).cast nbuf0_6)) (arg9 := win0_7.stage (cfg0.slots t 7)) (harg9 := hstage0_7 ((cfg0.slots t 7).cast nbuf0_7)) (arg10 := win0_8.stage (cfg0.slots t 8)) (harg10 := hstage0_8 ((cfg0.slots t 8).cast nbuf0_8))
    (arg11 := sc11) (harg11 := Memref.isWhole_whole _) (arg12 := sc12) (harg12 := Memref.isWhole_whole _) (arg13 := sc13) (harg13 := Memref.isWhole_whole _) (arg14 := sc14) (harg14 := Memref.isWhole_whole _) (arg15 := sc15) (harg15 := Memref.isWhole_whole _) (arg16 := sc16) (harg16 := Memref.isWhole_whole _) (E := Set.univ)
    (x := iblk m c 0 t) (g := iblk m c 1 t) (w4 := iblk m c 2 t) (w5 := iblk m c 3 t) (p6 := iblk m c 4 t) (p7 := iblk m c 5 t) (b8 := iblk m c 6 t) (b9 := iblk m c 7 t)
    (o := (dats m 0 c).before 8 t d8) (u11 := u11) (u12 := u12) (t13 := t13) (t14 := t14) (cr := cr) (rs := rs)
  rw [q1, q2, q3, q4, q5, hB, outF_congr _ _ (constant S1024x512 .bf16 0x0000#16)] at key
  iapply (key (fun _ => bodyPost m c t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S11]; · iexact S11
  isplitl [S12]; · iexact S12
  isplitl [S13]; · iexact S13
  isplitl [S14]; · iexact S14
  isplitl [S15]; · iexact S15
  isplitl [S16]; · iexact S16
  iintro ⟨H0, H1, H2, H3, H4, H5, H6, H7, H8, S11, S12, S13, S14, S15, S16⟩
  unfold bodyPost
  rw [show (dats m 0 c).owesAt () t.succ = (dats m 0 c).owesAt () t.castSucc from rfl,
    after0_0, after0_1, after0_2, after0_3, after0_4, after0_5, after0_6, after0_7, after0_8]
  rw [show (dats m 0 c).Φ t.succ = Phi m c (t.val + 1) from rfl]
  unfold Phi
  isplitl [S11 S12 S13 S14 S15 S16 Hg]
  · isplitr [Hg]
    swap; · iexact Hg
    iexists wgT (blk m c) t, wvT (blk m c) t, tgT (blk m c) t, tvT (blk m c) t, carryF (opsT (blk m c) t) (cIn (blk m c) t), rAt (grid0.coords t) (iblk m c 0 t) rs; isplitr
    · ipureintro; exact ⟨step_W (blk m c) t, step_C (blk m c) t _, hR'⟩
    isplitl [S11]; · iexact S11
    isplitl [S12]; · iexact S12
    isplitl [S13]; · iexact S13
    isplitl [S14]; · iexact S14
    isplitl [S15]; · iexact S15
    iexact S16
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, PhiA_eq]
  unfold Phi
  iintro ⟨⟨⟨%u11, S11⟩, ⟨%u12, S12⟩, ⟨%t13, S13⟩, ⟨%t14, S14⟩, ⟨%cr, S15⟩, ⟨%rs, S16⟩⟩, Hg⟩
  isplitr [Hg]
  swap; · iexact Hg
  iexists u11, u12, t13, t14, cr, rs; isplitr
  · ipureintro
    exact ⟨fun t _ h => absurd rfl h, fun t _ h => absurd rfl h, fun b h => absurd h (Nat.not_lt_zero _)⟩
  isplitl [S11]; · iexact S11
  isplitl [S12]; · iexact S12
  isplitl [S13]; · iexact S13
  isplitl [S14]; · iexact S14
  isplitl [S15]; · iexact S15
  iexact S16

theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi
  iintro ⟨⟨%u11, %u12, %t13, %t14, %cr, %rs, -, S11, S12, S13, S14, S15, S16⟩, Hg⟩
  isplitr [Hg]
  swap; · iexact Hg
  isplitl [S11]; · iexists _; iexact S11
  isplitl [S12]; · iexists _; iexact S12
  isplitl [S13]; · iexists _; iexact S13
  isplitl [S14]; · iexists _; iexact S14
  isplitl [S15]; · iexists _; iexact S15
  iexists _; iexact S16

/-! ## The run and the frame -/

set_option backward.isDefEq.respectTransparency.types false in
/-- Every weakly fair execution ends, with the arrays at what the proof data names and the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and the counters at zero. -/
theorem frame_run : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4))
      ∧ r.2.sem = fun _ => 0) :=
  θ_run_and (frame_of m ρ (dats m) (A_eq m) (run_main m ρ)) ((θ_run defs _ _).mono (fun _ h => h.2) (run_main_quiescent m ρ))

end Cert.KernelIdeal13.FfnUp

end
-- ==== Proof.FfnUp1.Bits.lean ====
/- The frame of the kernel at bit patterns, from the one proof over any reading of the floats. -/
module

public import proofs.«01_k».proof.Proof.FfnUp1.Frame
public import proofs.«01_k».proof.Defs
public import proofs.«01_k».proof.Proof.Gen.Kernel13

@[expose] public section

set_option maxRecDepth 16384

noncomputable section

namespace Cert.Proof.FfnUp1

open Idealize.ShloMosaic Idealize.ShloMosaic.TcCoe Idealize.SL.Sem

theorem body_agree (i) (a2 h2 a3 h3 a4 h4 a5 h5 a6 h6 a7 h7 a8 h8 a9 h9 a10 h10 a11 h11 a12 h12 a13 h13 a14 h14 a15 h15 a16 h16) :
    Cert.KernelIdeal13.cc0_ffn_up_conv_gate (F := Bits) i a2 h2 a3 h3 a4 h4 a5 h5 a6 h6 a7 h7 a8 h8 a9 h9 a10 h10 a11 h11 a12 h12 a13 h13 a14 h14 a15 h15 a16 h16
    = Cert.Kernel13.cc0_ffn_up_conv_gate (F := Bits) i a2 h2 a3 h3 a4 h4 a5 h5 a6 h6 a7 h7 a8 h8 a9 h9 a10 h10 a11 h11 a12 h12 a13 h13 a14 h14 a15 h15 a16 h16 := by
  rfl

theorem defs₀_agree : Cert.KernelIdeal13.defs₀ (F := Bits) = Cert.Kernel13.defs₀ (F := Bits) := by
  unfold Cert.KernelIdeal13.defs₀ Cert.Kernel13.defs₀
  refine congrArg Defs.onTc (funext fun l => funext fun ts => ?_)
  obtain ⟨l, hl⟩ := l
  obtain rfl : l = 0 := by
    have : l < 1 := hl
    omega
  obtain ⟨t, s⟩ := ts
  exact body_agree ..

theorem defs_agree : Cert.KernelIdeal13.defs (F := Bits) = Cert.Kernel13.defs (F := Bits) :=
  congrArg (Pipeline.defs Cert.KernelIdeal13.pcfgs) defs₀_agree

theorem main_agree : Cert.KernelIdeal13.main (F := Bits) = Cert.Kernel13.main (F := Bits) := by
  rfl

/-- Every run of the kernel ends, with its arguments unchanged and its counters at zero. -/
theorem frame_bits (m : (ℓ : Loc Cert.Kernel13.nD Cert.Kernel13.τ Cert.Kernel13.sig) → Buf (Elt Bits) ℓ) (ρ : Dev Cert.Kernel13.nD → PrngReg) :
    θ_run (Cert.Kernel13.defs (F := Bits)) (onTc (τ := Cert.Kernel13.τ) (Cert.Kernel13.main (F := Bits))) ⟨m, fun _ => 0, ρ⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0) :=
by
  rw [← defs_agree, ← main_agree]
  exact Cert.KernelIdeal13.FfnUp.frame_run (F := Bits) m ρ

end Cert.Proof.FfnUp1

end
-- ==== Proof.FfnUp1.Out.lean ====
/- The output array after the launch. -/
module

public import proofs.«01_k».proof.Proof.FfnUp1.Frame
public import Idealize.ShloMosaic.Lib.Pipeline.Value

@[expose] public section

set_option maxRecDepth 65536

noncomputable section

namespace Cert.KernelIdeal13.FfnUp

open Idealize.ShloMosaic Idealize.ShloMosaic.TcCoe Idealize.SL.Sem
open Cert.KernelIdeal12.FfnUp (Blk outT outArr outT_congr ptOf locOf)
open Cert.KernelIdeal13 Cert.KernelIdeal13.Gen
open Idealize.ShloMosaic.Pipeline (Dat)

variable {F : FTy → Type} [FloatOps F]
variable (m : (ℓ : Loc nD τ sig) → Buf (Elt F) ℓ) (ρ : Dev nD → PrngReg)

/-- What the output array ends holding. -/
abbrev G (c : Dev nD) : Buf (Elt F) ((c.tc : Thread nD τ).loc main_v2) := outArr (blk m c)

theorem idx_facts : ∀ t : Fin cfg0.N, win0_8.index t (0 : Fin 2) ≤ 7 ∧ win0_8.index t (1 : Fin 2) ≤ 10 ∧ win0_8.index t (0 : Fin 2) + 8 * win0_8.index t (1 : Fin 2) = t.val :=
  (by decide +kernel : ∀ t : Fin grid0.N, _)

abbrev ontoPt (q0 : Fin 8) (q1 : Fin 11) : Fin grid0.N := ⟨q0.val + 8 * q1.val, lt_of_lt_of_eq (by omega) N_0.symm⟩
theorem idx_onto : ∀ (q0 : Fin 8) (q1 : Fin 11), ∃ t : Fin cfg0.N, (cfg0.win 8).flush t = true ∧ win0_8.index t = ![q0.val, q1.val] :=
  fun q0 q1 => ⟨ontoPt q0 q1, (by decide +kernel : ∀ (q0 : Fin 8) (q1 : Fin 11), win0_8.flush (ontoPt q0 q1) = true ∧ win0_8.index (ontoPt q0 q1) = ![q0.val, q1.val]) q0 q1⟩

/-- What a point writes back is its block of `G`. -/
theorem flushed_eq (c : Dev nD) (t : Fin cfg0.N) : (dats m 0 c).flushed 8 t = ((cfg0.win 8).blk t).view.read (Elt F) (G m c) := by
  show (cfg0.win 8).cut (grid0.coords t) ((dats m 0 c).after 8 t) = _
  rw [after0_8]
  obtain ⟨e0, e1, e2⟩ := idx_facts t
  funext y
  have hy0 : (y 0).val < 1024 := (y 0).isLt
  have hy1 : (y 1).val < 512 := (y 1).isLt
  have hb0 : (((cfg0.win 8).blk t).view.emb y 0).val = win0_8.index t (0 : Fin 2) * 1024 + 1 * (y 0).val := rfl
  have hb1 : (((cfg0.win 8).blk t).view.emb y 1).val = win0_8.index t (1 : Fin 2) * 512 + 1 * (y 1).val := rfl
  have hp : ptOf (((cfg0.win 8).blk t).view.emb y) = t.val := by
    show (((cfg0.win 8).blk t).view.emb y 0).val / 1024 + 8 * ((((cfg0.win 8).blk t).view.emb y 1).val / 512) = _
    rw [hb0, hb1]
    omega
  have hl : locOf (((cfg0.win 8).blk t).view.emb y) = (cfg0.win 8).xinj (grid0.coords t) y := by
    funext a; apply Fin.ext
    match a with
    | ⟨0, _⟩ => show (((cfg0.win 8).blk t).view.emb y 0).val % 1024 = (y 0).val; rw [hb0]; omega
    | ⟨1, _⟩ => show (((cfg0.win 8).blk t).view.emb y 1).val % 512 = (y 1).val; rw [hb1]; omega
  show outT (blk m c) t ((cfg0.win 8).xinj (grid0.coords t) y) = outArr (blk m c) (((cfg0.win 8).blk t).view.emb y)
  unfold outArr
  rw [dif_pos (by rw [hp]; exact t.isLt), hl]
  exact outT_congr (blk m c) _ _ (Fin.ext hp.symm) _

theorem mem_blk (t : Fin cfg0.N) (i : S8192x5632.Idx) :
    i ∈ ((cfg0.win 8).blk t).view.set ↔ ∀ a : Fin 2, win0_8.index t a * S1024x512.size a ≤ (i a).val ∧ (i a).val < win0_8.index t a * S1024x512.size a + S1024x512.size a := by
  show i ∈ ((View.whole main_v2).slice (win0_8.rect t)).set ↔ _
  rw [View.set_slice_whole, Rect.mem_set_unit]
  exact Iff.rfl

theorem covered (i : S8192x5632.Idx) : ∃ t : Fin cfg0.N, (cfg0.win 8).flush t = true ∧ i ∈ ((cfg0.win 8).blk t).view.set := by
  have hi0 : (i 0).val < 8192 := (i 0).isLt
  have hi1 : (i 1).val < 5632 := (i 1).isLt
  obtain ⟨t, hft, ht⟩ := idx_onto ⟨(i 0).val / 1024, by omega⟩ ⟨(i 1).val / 512, by omega⟩
  have q0 : win0_8.index t (0 : Fin 2) = (i 0).val / 1024 := congrFun ht 0
  have q1 : win0_8.index t (1 : Fin 2) = (i 1).val / 512 := congrFun ht 1
  refine ⟨t, hft, ?_⟩
  rw [mem_blk]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 512 ≤ (i 1).val ∧ (i 1).val < win0_8.index t (1 : Fin 2) * 512 + 512; omega

/-- The output array after the run. -/
theorem final (c : Dev nD) : (dats m 0 c).arrAt 8 cfg0.N = G m c :=
  (dats m 0 c).arrAt_eq_of_cover 8 _ (fun t _ => flushed_eq m c t) covered

/-- The run: the output array at what the points compute, the arguments unchanged. -/
theorem run : θ_run defs (onTc (τ := τ) (main (F := F))) ⟨m, fun _ => 0, ρ⟩ fun r => ∀ c : Dev nD,
      r.2.mem (c.tc.loc main_v2) = G m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun r h c => ⟨((h.1 c).1 8).trans (final m c), h.2 c⟩) (θ_run_and (run_main m ρ) (frame_of m ρ (dats m) (A_eq m) (run_main m ρ)))

end Cert.KernelIdeal13.FfnUp

end
-- ==== Proof.FfnUp1.Read.lean ====
/- The blocks that a point sees, read off the arguments. -/
module

public import proofs.«01_k».proof.Proof.FfnUp.Value
public import proofs.«01_k».proof.Proof.FfnUp1.Out
public import Idealize.ShloMosaic.Lib.Pointwise
public import Idealize.ShloMosaic.Lib.Tactic

@[expose] public section

set_option maxRecDepth 16384

noncomputable section

namespace Cert.KernelIdeal13.FfnUp

open Idealize.ShloMosaic Idealize.ShloMosaic.TcCoe Idealize.ShloMosaic.Tactic Idealize.SL.Sem
open Cert.KernelIdeal12.FfnUp (Reads outArr_apply)
open Cert.KernelIdeal13 Cert.KernelIdeal13.Gen

variable (m : (ℓ : Loc nD τ sig) → Buf (Elt Ideal) ℓ)

/-- The gains, as the host leaves them for the call. -/
theorem V_main_v0 (c : Dev nD) : (V m c main_v0 : Vec Ideal S4x2048x1 .f32)
    = shapeCast S4x2048x1 (m (c.tc.loc main_arg1)) facts.shapeCasts_S4x2048_S4x2048x1 := by
  show StableHlo.after hostOps0 (fun b => m (c, b)) main_v0 = _
  after_results <;> rfl

/-- The biases, as the host leaves them for the call. -/
theorem V_main_v1 (c : Dev nD) : (V m c main_v1 : Vec Ideal S4x1x11264 .f32)
    = shapeCast S4x1x11264 (m (c.tc.loc main_arg4)) facts.shapeCasts_S4x11264_S4x1x11264 := by
  show StableHlo.after hostOps0 (fun b => m (c, b)) main_v1 = _
  after_results <;> rfl

theorem bias_cast (B : Vec Ideal S4x11264 .f32) (j : Fin 11264) :
    shapeCast S4x1x11264 B facts.shapeCasts_S4x11264_S4x1x11264 (ix3 1 0 j) = B (ix2 1 j) := by
  pointwise

/-- The rows of the activation that point `t` sees. -/
theorem iblk0_apply (c : Dev nD) (t : Fin cfg0.N) (r : Fin 1024) (k : Fin 2048) (h : t.val % 8 * 1024 + r.val < 8192) :
    (iblk m c 0 t : Vec Ideal S1024x2048 .f32) (ix2 r k) = m (c.tc.loc main_arg0) (ix2 ⟨t.val % 8 * 1024 + r.val, h⟩ k) := by
  have hi : ∀ t : Fin cfg0.N, win0_0.index t 0 = t.val % 8 ∧ win0_0.index t 1 = 0 := (by decide +kernel : ∀ t : Fin grid0.N, _)
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = t.val % 8 * 1024 + r.val; rw [(hi t).1]; omega
  | ⟨1, _⟩ => show win0_0.index t 1 * 2048 + 1 * k.val = k.val; rw [(hi t).2]; omega

/-- The gains that point `t` sees. -/
theorem iblk1_apply (c : Dev nD) (t : Fin cfg0.N) (k : Fin 2048) :
    (iblk m c 1 t : Vec Ideal S1x2048x1 .f32) (ix3 0 k 0) = m (c.tc.loc main_arg1) (ix2 1 k) := by
  have hi : ∀ t : Fin cfg0.N, win0_1.index t 0 = 1 ∧ win0_1.index t 1 = 0 ∧ win0_1.index t 2 = 0 := (by decide +kernel : ∀ t : Fin grid0.N, _)
  have e : (iblk m c 1 t : Vec Ideal S1x2048x1 .f32) (ix3 0 k 0) = (V m c main_v0 : Vec Ideal S4x2048x1 .f32) (ix3 1 k 0) := by
    unfold iblk
    rw [View.read_apply]
    show V m c main_v0 _ = V m c main_v0 _
    congr 1
    funext a
    apply Fin.ext
    match a with
    | ⟨0, _⟩ => show win0_1.index t 0 * 1 + 1 * 0 = 1; rw [(hi t).1]
    | ⟨1, _⟩ => show win0_1.index t 1 * 2048 + 1 * k.val = k.val; rw [(hi t).2.1]; omega
    | ⟨2, _⟩ => show win0_1.index t 2 * 1 + 1 * 0 = 0; rw [(hi t).2.2]
  rw [e, V_main_v0]
  pointwise

/-- The weights of the gate half that point `t` sees. -/
theorem iblk2_apply (c : Dev nD) (t : Fin cfg0.N) (k : Fin 2048) (j : Fin 512) (h : t.val / 8 * 512 + j.val < 11264) :
    (iblk m c 2 t : Vec Ideal S1x2048x512 .f32) (ix3 0 k j) = m (c.tc.loc main_arg2) (ix3 1 k ⟨t.val / 8 * 512 + j.val, h⟩) := by
  have hi : ∀ t : Fin cfg0.N, win0_2.index t 0 = 1 ∧ win0_2.index t 1 = 0 ∧ win0_2.index t 2 = t.val / 8 := (by decide +kernel : ∀ t : Fin grid0.N, _)
  unfold iblk
  rw [View.read_apply]
  show V m c main_arg2 _ = m (c.tc.loc main_arg2) _
  rw [V_main_arg2]
  congr 1
  funext a
  apply Fin.ext
  match a with
  | ⟨0, _⟩ => show win0_2.index t 0 * 1 + 1 * 0 = 1; rw [(hi t).1]
  | ⟨1, _⟩ => show win0_2.index t 1 * 2048 + 1 * k.val = k.val; rw [(hi t).2.1]; omega
  | ⟨2, _⟩ => show win0_2.index t 2 * 512 + 1 * j.val = t.val / 8 * 512 + j.val; rw [(hi t).2.2]; omega

/-- The taps of the gate half that point `t` sees. -/
theorem iblk4_apply (c : Dev nD) (t : Fin cfg0.N) (k : Fin 3) (j : Fin 512) (h : t.val / 8 * 512 + j.val < 11264) :
    (iblk m c 4 t : Vec Ideal S1x3x512 .f32) (ix3 0 k j) = m (c.tc.loc main_arg3) (ix3 1 k ⟨t.val / 8 * 512 + j.val, h⟩) := by
  have hi : ∀ t : Fin cfg0.N, win0_4.index t 0 = 1 ∧ win0_4.index t 1 = 0 ∧ win0_4.index t 2 = t.val / 8 := (by decide +kernel : ∀ t : Fin grid0.N, _)
  unfold iblk
  rw [View.read_apply]
  show V m c main_arg3 _ = m (c.tc.loc main_arg3) _
  rw [V_main_arg3]
  congr 1
  funext a
  apply Fin.ext
  match a with
  | ⟨0, _⟩ => show win0_4.index t 0 * 1 + 1 * 0 = 1; rw [(hi t).1]
  | ⟨1, _⟩ => show win0_4.index t 1 * 3 + 1 * k.val = k.val; rw [(hi t).2.1]; omega
  | ⟨2, _⟩ => show win0_4.index t 2 * 512 + 1 * j.val = t.val / 8 * 512 + j.val; rw [(hi t).2.2]; omega

/-- The biases of the gate half that point `t` sees. -/
theorem iblk6_apply (c : Dev nD) (t : Fin cfg0.N) (j : Fin 512) (h : t.val / 8 * 512 + j.val < 11264) :
    (iblk m c 6 t : Vec Ideal S1x1x512 .f32) (ix3 0 0 j) = m (c.tc.loc main_arg4) (ix2 1 ⟨t.val / 8 * 512 + j.val, h⟩) := by
  have hi : ∀ t : Fin cfg0.N, win0_6.index t 0 = 1 ∧ win0_6.index t 1 = 0 ∧ win0_6.index t 2 = t.val / 8 := (by decide +kernel : ∀ t : Fin grid0.N, _)
  have e : (iblk m c 6 t : Vec Ideal S1x1x512 .f32) (ix3 0 0 j) = (V m c main_v1 : Vec Ideal S4x1x11264 .f32) (ix3 1 0 ⟨t.val / 8 * 512 + j.val, h⟩) := by
    unfold iblk
    rw [View.read_apply]
    show V m c main_v1 _ = V m c main_v1 _
    congr 1
    funext a
    apply Fin.ext
    match a with
    | ⟨0, _⟩ => show win0_6.index t 0 * 1 + 1 * 0 = 1; rw [(hi t).1]
    | ⟨1, _⟩ => show win0_6.index t 1 * 1 + 1 * 0 = 0; rw [(hi t).2.1]
    | ⟨2, _⟩ => show win0_6.index t 2 * 512 + 1 * j.val = t.val / 8 * 512 + j.val; rw [(hi t).2.2]; omega
  rw [e, V_main_v1]
  exact bias_cast _ _

/-- The weights of the value half that point `t` sees. -/
theorem iblk3_apply (c : Dev nD) (t : Fin cfg0.N) (k : Fin 2048) (j : Fin 512) (h : 5632 + t.val / 8 * 512 + j.val < 11264) :
    (iblk m c 3 t : Vec Ideal S1x2048x512 .f32) (ix3 0 k j) = m (c.tc.loc main_arg2) (ix3 1 k ⟨5632 + t.val / 8 * 512 + j.val, h⟩) := by
  have hi : ∀ t : Fin cfg0.N, win0_3.index t 0 = 1 ∧ win0_3.index t 1 = 0 ∧ win0_3.index t 2 = t.val / 8 + 11 := (by decide +kernel : ∀ t : Fin grid0.N, _)
  unfold iblk
  rw [View.read_apply]
  show V m c main_arg2 _ = m (c.tc.loc main_arg2) _
  rw [V_main_arg2]
  congr 1
  funext a
  apply Fin.ext
  match a with
  | ⟨0, _⟩ => show win0_3.index t 0 * 1 + 1 * 0 = 1; rw [(hi t).1]
  | ⟨1, _⟩ => show win0_3.index t 1 * 2048 + 1 * k.val = k.val; rw [(hi t).2.1]; omega
  | ⟨2, _⟩ => show win0_3.index t 2 * 512 + 1 * j.val = 5632 + t.val / 8 * 512 + j.val; rw [(hi t).2.2]; omega

/-- The taps of the value half that point `t` sees. -/
theorem iblk5_apply (c : Dev nD) (t : Fin cfg0.N) (k : Fin 3) (j : Fin 512) (h : 5632 + t.val / 8 * 512 + j.val < 11264) :
    (iblk m c 5 t : Vec Ideal S1x3x512 .f32) (ix3 0 k j) = m (c.tc.loc main_arg3) (ix3 1 k ⟨5632 + t.val / 8 * 512 + j.val, h⟩) := by
  have hi : ∀ t : Fin cfg0.N, win0_5.index t 0 = 1 ∧ win0_5.index t 1 = 0 ∧ win0_5.index t 2 = t.val / 8 + 11 := (by decide +kernel : ∀ t : Fin grid0.N, _)
  unfold iblk
  rw [View.read_apply]
  show V m c main_arg3 _ = m (c.tc.loc main_arg3) _
  rw [V_main_arg3]
  congr 1
  funext a
  apply Fin.ext
  match a with
  | ⟨0, _⟩ => show win0_5.index t 0 * 1 + 1 * 0 = 1; rw [(hi t).1]
  | ⟨1, _⟩ => show win0_5.index t 1 * 3 + 1 * k.val = k.val; rw [(hi t).2.1]; omega
  | ⟨2, _⟩ => show win0_5.index t 2 * 512 + 1 * j.val = 5632 + t.val / 8 * 512 + j.val; rw [(hi t).2.2]; omega

/-- The biases of the value half that point `t` sees. -/
theorem iblk7_apply (c : Dev nD) (t : Fin cfg0.N) (j : Fin 512) (h : 5632 + t.val / 8 * 512 + j.val < 11264) :
    (iblk m c 7 t : Vec Ideal S1x1x512 .f32) (ix3 0 0 j) = m (c.tc.loc main_arg4) (ix2 1 ⟨5632 + t.val / 8 * 512 + j.val, h⟩) := by
  have hi : ∀ t : Fin cfg0.N, win0_7.index t 0 = 1 ∧ win0_7.index t 1 = 0 ∧ win0_7.index t 2 = t.val / 8 + 11 := (by decide +kernel : ∀ t : Fin grid0.N, _)
  have e : (iblk m c 7 t : Vec Ideal S1x1x512 .f32) (ix3 0 0 j) = (V m c main_v1 : Vec Ideal S4x1x11264 .f32) (ix3 1 0 ⟨5632 + t.val / 8 * 512 + j.val, h⟩) := by
    unfold iblk
    rw [View.read_apply]
    show V m c main_v1 _ = V m c main_v1 _
    congr 1
    funext a
    apply Fin.ext
    match a with
    | ⟨0, _⟩ => show win0_7.index t 0 * 1 + 1 * 0 = 1; rw [(hi t).1]
    | ⟨1, _⟩ => show win0_7.index t 1 * 1 + 1 * 0 = 0; rw [(hi t).2.1]
    | ⟨2, _⟩ => show win0_7.index t 2 * 512 + 1 * j.val = 5632 + t.val / 8 * 512 + j.val; rw [(hi t).2.2]; omega
  rw [e, V_main_v1]
  exact bias_cast _ _

/-- The blocks are those of this layer's slices of the arguments. -/
theorem reads (c : Dev nD) : Reads (blk m c) (m (c.tc.loc main_arg0)) (fun k => m (c.tc.loc main_arg1) (ix2 1 k)) (fun k j => m (c.tc.loc main_arg2) (ix3 1 k j))
    (fun k j => m (c.tc.loc main_arg3) (ix3 1 k j)) (fun j => m (c.tc.loc main_arg4) (ix2 1 j)) where
  x := fun t r k h => iblk0_apply m c t r k h
  g := fun t k => iblk1_apply m c t k
  w4 := fun t k j h => iblk2_apply m c t k j h
  w5 := fun t k j h => iblk3_apply m c t k j h
  p6 := fun t k j h => iblk4_apply m c t k j h
  p7 := fun t k j h => iblk5_apply m c t k j h
  b8 := fun t j h => iblk6_apply m c t j h
  b9 := fun t j h => iblk7_apply m c t j h

/-- The output array, index by index. -/
theorem G_apply (c : Dev nD) (r : Fin 8192) (j : Fin 5632) : G m c (ix2 r j)
    = Cert.ReferenceIdeal12.FfnUp.result (m (c.tc.loc main_arg0)) (fun k => m (c.tc.loc main_arg1) (ix2 1 k)) (fun k j => m (c.tc.loc main_arg2) (ix3 1 k j))
        (fun k j => m (c.tc.loc main_arg3) (ix3 1 k j)) (fun j => m (c.tc.loc main_arg4) (ix2 1 j)) r j := outArr_apply (reads m c) r j

end Cert.KernelIdeal13.FfnUp

end
-- ==== Proof.FfnUp1.Ref.lean ====
/- The reference of layer 1, from the slices of its arguments. -/
module

public import proofs.«01_k».proof.Proof.FfnUp.RefTerm
public import proofs.«01_k».proof.Proof.Gen.ReferenceIdeal13.Run

@[expose] public section

set_option maxRecDepth 16384

noncomputable section

namespace Cert.ReferenceIdeal13.FfnUp

open Idealize.ShloMosaic Idealize.ShloMosaic.TcCoe Idealize.SL.Sem
open Cert.ReferenceIdeal13 Cert.ReferenceIdeal13.Gen Cert.ReferenceIdeal13.Value
open Cert.ReferenceIdeal12.FfnUp (termU termY termO padded result term_apply)

theorem res_eq (m : (ℓ : Loc nD τ sig) → Buf (Elt Ideal) ℓ) (c : Dev nD) :
    res_main_v56 (F := Ideal) m c = termO (termY
      (shapeCast _ (extractStridedSlice S1x1x11264 ![1, 0, 0] (m (c.tc.loc main_arg3)) slices_S4x3x11264_S1x1x11264_1_0_0) shapeCasts_S1x1x11264_S11264)
      (shapeCast _ (extractStridedSlice S1x1x11264 ![1, 1, 0] (m (c.tc.loc main_arg3)) slices_S4x3x11264_S1x1x11264_1_1_0) shapeCasts_S1x1x11264_S11264)
      (shapeCast _ (extractStridedSlice S1x1x11264 ![1, 2, 0] (m (c.tc.loc main_arg3)) slices_S4x3x11264_S1x1x11264_1_2_0) shapeCasts_S1x1x11264_S11264)
      (shapeCast _ (extractStridedSlice S1x11264 ![1, 0] (m (c.tc.loc main_arg4)) slices_S4x11264_S1x11264_1_0) shapeCasts_S1x11264_S11264)
      (termU (m (c.tc.loc main_arg0))
        (shapeCast _ (extractStridedSlice S1x2048 ![1, 0] (m (c.tc.loc main_arg1)) slices_S4x2048_S1x2048_1_0) shapeCasts_S1x2048_S2048)
        (shapeCast _ (extractStridedSlice S1x2048x11264 ![1, 0, 0] (m (c.tc.loc main_arg2)) slices_S4x2048x11264_S1x2048x11264_1_0_0) shapeCasts_S1x2048x11264_S2048x11264))) := by
  unfold res_main_v56 termO termY termU padded
  rfl

theorem gain_apply (g : FVec Ideal S4x2048 .f32) (k : Fin 2048) :
    (shapeCast S2048 (extractStridedSlice S1x2048 ![1, 0] g slices_S4x2048_S1x2048_1_0) shapeCasts_S1x2048_S2048) (ix1 k) = g (ix2 1 k) := by pointwise
theorem weight_apply (w : FVec Ideal S4x2048x11264 .f32) (k : Fin 2048) (j : Fin 11264) :
    (shapeCast S2048x11264 (extractStridedSlice S1x2048x11264 ![1, 0, 0] w slices_S4x2048x11264_S1x2048x11264_1_0_0) shapeCasts_S1x2048x11264_S2048x11264) (ix2 k j) = w (ix3 1 k j) := by pointwise
theorem tap0_apply (p : FVec Ideal S4x3x11264 .f32) (j : Fin 11264) :
    (shapeCast S11264 (extractStridedSlice S1x1x11264 ![1, 0, 0] p slices_S4x3x11264_S1x1x11264_1_0_0) shapeCasts_S1x1x11264_S11264) (ix1 j) = p (ix3 1 0 j) := by pointwise
theorem tap1_apply (p : FVec Ideal S4x3x11264 .f32) (j : Fin 11264) :
    (shapeCast S11264 (extractStridedSlice S1x1x11264 ![1, 1, 0] p slices_S4x3x11264_S1x1x11264_1_1_0) shapeCasts_S1x1x11264_S11264) (ix1 j) = p (ix3 1 1 j) := by pointwise
theorem tap2_apply (p : FVec Ideal S4x3x11264 .f32) (j : Fin 11264) :
    (shapeCast S11264 (extractStridedSlice S1x1x11264 ![1, 2, 0] p slices_S4x3x11264_S1x1x11264_1_2_0) shapeCasts_S1x1x11264_S11264) (ix1 j) = p (ix3 1 2 j) := by pointwise
theorem bias_apply (b : FVec Ideal S4x11264 .f32) (j : Fin 11264) :
    (shapeCast S11264 (extractStridedSlice S1x11264 ![1, 0] b slices_S4x11264_S1x11264_1_0) shapeCasts_S1x11264_S11264) (ix1 j) = b (ix2 1 j) := by pointwise

/-- The reference's result, index by index. -/
theorem res_apply (m : (ℓ : Loc nD τ sig) → Buf (Elt Ideal) ℓ) (c : Dev nD) (r : Fin 8192) (j : Fin 5632) :
    res_main_v56 (F := Ideal) m c (ix2 r j)
      = result (m (c.tc.loc main_arg0)) (fun k => m (c.tc.loc main_arg1) (ix2 1 k)) (fun k j => m (c.tc.loc main_arg2) (ix3 1 k j))
        (fun k j => m (c.tc.loc main_arg3) (ix3 1 k j)) (fun j => m (c.tc.loc main_arg4) (ix2 1 j)) r j := by
  rw [res_eq]
  exact term_apply _ _ _ _ _ _ _ _ _ _ _ (gain_apply _) (weight_apply _) (tap0_apply _) (tap1_apply _) (tap2_apply _) (bias_apply _) r j

end Cert.ReferenceIdeal13.FfnUp

end
-- ==== Proof.FfnUp2.Triple.lean ====
/- The body of this layer's launch is that of the first layer's, so its triple is too. -/
module

public import proofs.«01_k».proof.Proof.FfnUp.Triple
public import proofs.«01_k».proof.Proof.Gen.KernelIdeal14.Frame

@[expose] public section

set_option maxRecDepth 65536

noncomputable section

namespace Cert.KernelIdeal14.FfnUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal12.FfnUp (first start inb_x inb_o inb_r inb_t inb_c inb_p xC tr crow tap prod tl conv gated Ops chunk outF carryF fillT wAt tAt cAt rAt rows opsOf)
open Cert.KernelIdeal14 Cert.KernelIdeal14.Gen Cert.Rules

variable {F : FTy → Type} [FloatOps F]

local notation "𝕄" => MT nD τ sig Unit (Elt F) ℕ (UR sig nD τ) ℕ

/-- The two launches' labels are one: the same grid and the same number of buffers of each window. -/
theorem labels_eq : Cert.KernelIdeal12.Λ₀ = Cert.KernelIdeal14.Λ₀ := by
  have h : (fun w : Fin 9 => Fin (Cert.KernelIdeal12.win0 w).nbuf) = fun w : Fin 9 => Fin (Cert.KernelIdeal14.win0 w).nbuf := by
    funext w
    fin_cases w <;> rfl
  have h2 : (Fin Cert.KernelIdeal12.grid0.N × ((w : Fin 9) → Fin (Cert.KernelIdeal12.win0 w).nbuf)) = (Fin Cert.KernelIdeal14.grid0.N × ((w : Fin 9) → Fin (Cert.KernelIdeal14.win0 w).nbuf)) := by
    show (Fin Cert.KernelIdeal12.grid0.N × ((w : Fin 9) → (fun w : Fin 9 => Fin (Cert.KernelIdeal12.win0 w).nbuf) w)) = _
    rw [h]
  unfold Cert.KernelIdeal12.Λ₀ Cert.KernelIdeal14.Λ₀
  congr 1
  funext l
  match l with
  | 0 => exact h2

variable (c : Dev nD) (i : grid0.Coords) (arg2 : Memref sig .tc .vmem S1024x2048 .f32) (harg2 : arg2.IsWhole) (arg3 : Memref sig .tc .vmem S1x2048x1 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x3x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1024x512 .bf16) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S4x8x512 .f32) (harg13 : arg13.IsWhole) (arg14 : Memref sig .tc .vmem S4x8x512 .f32) (harg14 : arg14.IsWhole) (arg15 : Memref sig .tc .vmem S2x8x512 .f32) (harg15 : arg15.IsWhole) (arg16 : Memref sig .tc .vmem S8x1024x128 .f32) (harg16 : arg16.IsWhole)
variable (E : Set ℕ)
variable (x : Vec F S1024x2048 .f32) (g : Vec F S1x2048x1 .f32) (w4 w5 : Vec F S1x2048x512 .f32) (p6 p7 : Vec F S1x3x512 .f32) (b8 b9 : Vec F S1x1x512 .f32) (o : Vec F S1024x512 .bf16) (u11 u12 : Vec F S2048x512 .bf16) (t13 t14 : Vec F S4x8x512 .f32) (cr : Vec F S2x8x512 .f32) (rs : Vec F S8x1024x128 .f32)

theorem body_triple (K : PUnit → sProp 𝕄) :
    iprop(owns c.tc arg2 fullShare x ∗ owns c.tc arg3 fullShare g ∗ owns c.tc arg4 fullShare w4 ∗ owns c.tc arg5 fullShare w5 ∗ owns c.tc arg6 fullShare p6 ∗ owns c.tc arg7 fullShare p7 ∗ owns c.tc arg8 fullShare b8 ∗ owns c.tc arg9 fullShare b9 ∗ owns c.tc arg10 fullShare o ∗ owns c.tc arg11 fullShare u11 ∗ owns c.tc arg12 fullShare u12 ∗ owns c.tc arg13 fullShare t13 ∗ owns c.tc arg14 fullShare t14 ∗ owns c.tc arg15 fullShare cr ∗ owns c.tc arg16 fullShare rs ∗ (iprop(owns c.tc arg2 fullShare x ∗ owns c.tc arg3 fullShare g ∗ owns c.tc arg4 fullShare w4 ∗ owns c.tc arg5 fullShare w5 ∗ owns c.tc arg6 fullShare p6 ∗ owns c.tc arg7 fullShare p7 ∗ owns c.tc arg8 fullShare b8 ∗ owns c.tc arg9 fullShare b9 ∗ owns c.tc arg10 fullShare (outF (opsOf i x (wAt i w4 g u11) (wAt i w5 g u12) (tAt i p6 b8 t13) (tAt i p7 b9 t14) (cAt i cr) (rAt i x rs)) o) ∗ owns c.tc arg11 fullShare (wAt i w4 g u11) ∗ owns c.tc arg12 fullShare (wAt i w5 g u12) ∗ owns c.tc arg13 fullShare (tAt i p6 b8 t13) ∗ owns c.tc arg14 fullShare (tAt i p7 b9 t14) ∗ owns c.tc arg15 fullShare (carryF (opsOf i x (wAt i w4 g u11) (wAt i w5 g u12) (tAt i p6 b8 t13) (tAt i p7 b9 t14) (cAt i cr) (rAt i x rs)) (cAt i cr)) ∗ owns c.tc arg16 fullShare (rAt i x rs)) -∗ K ⟨⟩))
      ⊢ wp frame (wpE (defs₀ (F := F)) Variants.none c none) E (cc0_ffn_up_conv_gate i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have h := fun (D : Defs Cert.KernelIdeal12.nD Cert.KernelIdeal12.τ Cert.KernelIdeal12.sig (Elt F) Cert.KernelIdeal12.Λ₀) => Cert.KernelIdeal12.FfnUp.body_triple (F := F) (D := D) (c := c) (i := i) (E := E) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (x := x) (g := g) (w4 := w4) (w5 := w5) (p6 := p6) (p7 := p7) (b8 := b8) (b9 := b9) (o := o) (u11 := u11) (u12 := u12) (t13 := t13) (t14 := t14) (cr := cr) (rs := rs) (K := K)
  unfold Cert.KernelIdeal12.cc0_ffn_up_conv_gate at h
  unfold Cert.KernelIdeal12.k0_part9 Cert.KernelIdeal12.k0_part8 Cert.KernelIdeal12.k0_part7 Cert.KernelIdeal12.k0_part6 Cert.KernelIdeal12.k0_part5 Cert.KernelIdeal12.k0_part4 Cert.KernelIdeal12.k0_part3 Cert.KernelIdeal12.k0_part2 Cert.KernelIdeal12.k0_part1 at h
  rw [labels_eq] at h
  exact h (defs₀ (F := F))

end Cert.KernelIdeal14.FfnUp

end
-- ==== Proof.FfnUp2.Frame.lean ====
/- The launch: what is known of the scratch before each grid point, the run and the frame. -/
module

public import proofs.«01_k».proof.Proof.FfnUp.State
public import proofs.«01_k».proof.Proof.FfnUp2.Triple
public import proofs.«01_k».proof.Proof.Gen.KernelIdeal14.Frame
public import Idealize.ShloMosaic.Lib.Claim

@[expose] public section

set_option maxRecDepth 65536

noncomputable section

namespace Cert.KernelIdeal14.FfnUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal12.FfnUp (Blk wgT wvT tgT tvT cIn opsT outT InvW InvC InvR step_W step_C step_R open_W open_C ops_eq outF_congr wAt tAt cAt rAt opsOf outF carryF outArr outT_congr ptOf locOf rowPt)
open Cert.KernelIdeal14 Cert.KernelIdeal14.Gen Cert.Rules
open Idealize.ShloMosaic.VecWindow (window put)

variable {F : FTy → Type} [FloatOps F]

open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-- The blocks of this launch. -/
def blk (c : Dev nD) : Blk F := ⟨fun t => iblk m c 0 t, fun t => iblk m c 1 t, fun t => iblk m c 2 t, fun t => iblk m c 3 t, fun t => iblk m c 4 t, fun t => iblk m c 5 t,
  fun t => iblk m c 6 t, fun t => iblk m c 7 t, m (c.tc.loc cc0_scratch2), m (c.tc.loc cc0_scratch3), m (c.tc.loc cc0_scratch4)⟩

/-- Points of one row block see the same rows. -/
theorem iblk0_congr (c : Dev nD) (t t' : Fin cfg0.N) (h : t.val % 8 = t'.val % 8) : (iblk m c 0 t : Vec F S1024x2048 .f32) = iblk m c 0 t' := by
  have hi : ∀ t : Fin cfg0.N, win0_0.index t 0 = t.val % 8 ∧ win0_0.index t 1 = 0 :=
    (by decide +kernel : ∀ t : Fin grid0.N, _)
  funext y
  unfold iblk
  rw [View.read_apply, View.read_apply]
  show V m c main_arg0 _ = V m c main_arg0 _
  congr 1
  funext a
  apply Fin.ext
  match a with
  | ⟨0, _⟩ => show win0_0.index t 0 * 1024 + 1 * (y 0).val = win0_0.index t' 0 * 1024 + 1 * (y 0).val; rw [(hi t).1, (hi t').1, h]
  | ⟨1, _⟩ => show win0_0.index t 1 * 2048 + 1 * (y 1).val = win0_0.index t' 1 * 2048 + 1 * (y 1).val; rw [(hi t).2, (hi t').2]

/-! ## The invariant and the proof data -/

abbrev sc11 : Memref sig .tc .vmem S2048x512 .bf16 := Memref.whole cc0_scratch0
abbrev sc12 : Memref sig .tc .vmem S2048x512 .bf16 := Memref.whole cc0_scratch1
abbrev sc13 : Memref sig .tc .vmem S4x8x512 .f32 := Memref.whole cc0_scratch2
abbrev sc14 : Memref sig .tc .vmem S4x8x512 .f32 := Memref.whole cc0_scratch3
abbrev sc15 : Memref sig .tc .vmem S2x8x512 .f32 := Memref.whole cc0_scratch4
abbrev sc16 : Memref sig .tc .vmem S8x1024x128 .f32 := Memref.whole cc0_scratch5

/-- Before point `n`: the scratch at contents of which the above is known. -/
def Phi (c : Dev nD) (n : ℕ) : sProp 𝕄 :=
  iprop((∃ u11 u12 t13 t14 cr rs, ⌜InvW (blk m c) n u11 u12 t13 t14 ∧ InvC (blk m c) n cr ∧ InvR (blk m c) n rs⌝ ∗ owns c.tc sc11 fullShare u11 ∗ owns c.tc sc12 fullShare u12
    ∗ owns c.tc sc13 fullShare t13 ∗ owns c.tc sc14 fullShare t14 ∗ owns c.tc sc15 fullShare cr ∗ owns c.tc sc16 fullShare rs) ∗ (∃ r, prngReg c r))

theorem PhiA_eq (c : Dev nD) : (Pipeline.ΦA spec0 c : sProp 𝕄)
    = iprop(((∃ u, owns c.tc sc11 fullShare u) ∗ (∃ u, owns c.tc sc12 fullShare u) ∗ (∃ u, owns c.tc sc13 fullShare u)
      ∗ (∃ u, owns c.tc sc14 fullShare u) ∗ (∃ u, owns c.tc sc15 fullShare u) ∗ (∃ u, owns c.tc sc16 fullShare u)) ∗ (∃ r, prngReg c r)) := by
  unfold Pipeline.ΦA; rw [scopedRest0_eq]; simp only [sc11, sc12, sc13, sc14, sc15, sc16, owns_whole]; try rfl

/-- The proof data: the arrays as the region finds them, each input's buffer at its block, the output's at `outT`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outT (blk m c) t
  Φ t := Phi m c t.val
  q := Pipeline.shareOf spec0
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outT (blk m c) t := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns c.tc (win0_0.stage (cfg0.slots t 0)) fullShare ((dats m 0 c).before 0 t d))
    ∗ (∃ d, owns c.tc (win0_1.stage (cfg0.slots t 1)) fullShare ((dats m 0 c).before 1 t d))
    ∗ (∃ d, owns c.tc (win0_2.stage (cfg0.slots t 2)) fullShare ((dats m 0 c).before 2 t d))
    ∗ (∃ d, owns c.tc (win0_3.stage (cfg0.slots t 3)) fullShare ((dats m 0 c).before 3 t d))
    ∗ (∃ d, owns c.tc (win0_4.stage (cfg0.slots t 4)) fullShare ((dats m 0 c).before 4 t d))
    ∗ (∃ d, owns c.tc (win0_5.stage (cfg0.slots t 5)) fullShare ((dats m 0 c).before 5 t d))
    ∗ (∃ d, owns c.tc (win0_6.stage (cfg0.slots t 6)) fullShare ((dats m 0 c).before 6 t d))
    ∗ (∃ d, owns c.tc (win0_7.stage (cfg0.slots t 7)) fullShare ((dats m 0 c).before 7 t d))
    ∗ (∃ d, owns c.tc (win0_8.stage (cfg0.slots t 8)) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns c.tc (win0_0.stage (cfg0.slots t 0)) fullShare ((dats m 0 c).after 0 t)
    ∗ owns c.tc (win0_1.stage (cfg0.slots t 1)) fullShare ((dats m 0 c).after 1 t)
    ∗ owns c.tc (win0_2.stage (cfg0.slots t 2)) fullShare ((dats m 0 c).after 2 t)
    ∗ owns c.tc (win0_3.stage (cfg0.slots t 3)) fullShare ((dats m 0 c).after 3 t)
    ∗ owns c.tc (win0_4.stage (cfg0.slots t 4)) fullShare ((dats m 0 c).after 4 t)
    ∗ owns c.tc (win0_5.stage (cfg0.slots t 5)) fullShare ((dats m 0 c).after 5 t)
    ∗ owns c.tc (win0_6.stage (cfg0.slots t 6)) fullShare ((dats m 0 c).after 6 t)
    ∗ owns c.tc (win0_7.stage (cfg0.slots t 7)) fullShare ((dats m 0 c).after 7 t)
    ∗ owns c.tc (win0_8.stage (cfg0.slots t 8)) fullShare ((dats m 0 c).after 8 t))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [before0_0, before0_1, before0_2, before0_3, before0_4, before0_5, before0_6, before0_7]
  rw [show (dats m 0 c).Φ t.castSucc = Phi m c t.val from rfl]
  unfold Phi
  iintro ⟨⟨⟨%u11, %u12, %t13, %t14, %cr, %rs, %hI, S11, S12, S13, S14, S15, S16⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨hW, hC, hR⟩ := hI
  obtain ⟨q1, q2, q3, q4⟩ : wAt (grid0.coords t) (iblk m c 2 t) (iblk m c 1 t) u11 = wgT (blk m c) t ∧ wAt (grid0.coords t) (iblk m c 3 t) (iblk m c 1 t) u12 = wvT (blk m c) t
      ∧ tAt (grid0.coords t) (iblk m c 4 t) (iblk m c 6 t) t13 = tgT (blk m c) t ∧ tAt (grid0.coords t) (iblk m c 5 t) (iblk m c 7 t) t14 = tvT (blk m c) t := open_W (blk m c) t u11 u12 t13 t14 hW
  have q5 : cAt (grid0.coords t) cr = cIn (blk m c) t := open_C (blk m c) t cr hC
  have hR' : InvR (blk m c) (t.val + 1) (rAt (grid0.coords t) (iblk m c 0 t) rs) := step_R (blk m c) t rs hR
  have hB : opsOf (grid0.coords t) (iblk m c 0 t) (wgT (blk m c) t) (wvT (blk m c) t) (tgT (blk m c) t) (tvT (blk m c) t) (cIn (blk m c) t) (rAt (grid0.coords t) (iblk m c 0 t) rs)
      = opsT (blk m c) t := ops_eq (blk m c) (iblk0_congr m c) t _ hR'
  have key := body_triple (c := c) (i := grid0.coords t) (arg2 := win0_0.stage (cfg0.slots t 0)) (harg2 := hstage0_0 ((cfg0.slots t 0).cast nbuf0_0)) (arg3 := win0_1.stage (cfg0.slots t 1)) (harg3 := hstage0_1 ((cfg0.slots t 1).cast nbuf0_1)) (arg4 := win0_2.stage (cfg0.slots t 2)) (harg4 := hstage0_2 ((cfg0.slots t 2).cast nbuf0_2)) (arg5 := win0_3.stage (cfg0.slots t 3)) (harg5 := hstage0_3 ((cfg0.slots t 3).cast nbuf0_3)) (arg6 := win0_4.stage (cfg0.slots t 4)) (harg6 := hstage0_4 ((cfg0.slots t 4).cast nbuf0_4)) (arg7 := win0_5.stage (cfg0.slots t 5)) (harg7 := hstage0_5 ((cfg0.slots t 5).cast nbuf0_5)) (arg8 := win0_6.stage (cfg0.slots t 6)) (harg8 := hstage0_6 ((cfg0.slots t 6).cast nbuf0_6)) (arg9 := win0_7.stage (cfg0.slots t 7)) (harg9 := hstage0_7 ((cfg0.slots t 7).cast nbuf0_7)) (arg10 := win0_8.stage (cfg0.slots t 8)) (harg10 := hstage0_8 ((cfg0.slots t 8).cast nbuf0_8))
    (arg11 := sc11) (harg11 := Memref.isWhole_whole _) (arg12 := sc12) (harg12 := Memref.isWhole_whole _) (arg13 := sc13) (harg13 := Memref.isWhole_whole _) (arg14 := sc14) (harg14 := Memref.isWhole_whole _) (arg15 := sc15) (harg15 := Memref.isWhole_whole _) (arg16 := sc16) (harg16 := Memref.isWhole_whole _) (E := Set.univ)
    (x := iblk m c 0 t) (g := iblk m c 1 t) (w4 := iblk m c 2 t) (w5 := iblk m c 3 t) (p6 := iblk m c 4 t) (p7 := iblk m c 5 t) (b8 := iblk m c 6 t) (b9 := iblk m c 7 t)
    (o := (dats m 0 c).before 8 t d8) (u11 := u11) (u12 := u12) (t13 := t13) (t14 := t14) (cr := cr) (rs := rs)
  rw [q1, q2, q3, q4, q5, hB, outF_congr _ _ (constant S1024x512 .bf16 0x0000#16)] at key
  iapply (key (fun _ => bodyPost m c t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S11]; · iexact S11
  isplitl [S12]; · iexact S12
  isplitl [S13]; · iexact S13
  isplitl [S14]; · iexact S14
  isplitl [S15]; · iexact S15
  isplitl [S16]; · iexact S16
  iintro ⟨H0, H1, H2, H3, H4, H5, H6, H7, H8, S11, S12, S13, S14, S15, S16⟩
  unfold bodyPost
  rw [show (dats m 0 c).owesAt () t.succ = (dats m 0 c).owesAt () t.castSucc from rfl,
    after0_0, after0_1, after0_2, after0_3, after0_4, after0_5, after0_6, after0_7, after0_8]
  rw [show (dats m 0 c).Φ t.succ = Phi m c (t.val + 1) from rfl]
  unfold Phi
  isplitl [S11 S12 S13 S14 S15 S16 Hg]
  · isplitr [Hg]
    swap; · iexact Hg
    iexists wgT (blk m c) t, wvT (blk m c) t, tgT (blk m c) t, tvT (blk m c) t, carryF (opsT (blk m c) t) (cIn (blk m c) t), rAt (grid0.coords t) (iblk m c 0 t) rs; isplitr
    · ipureintro; exact ⟨step_W (blk m c) t, step_C (blk m c) t _, hR'⟩
    isplitl [S11]; · iexact S11
    isplitl [S12]; · iexact S12
    isplitl [S13]; · iexact S13
    isplitl [S14]; · iexact S14
    isplitl [S15]; · iexact S15
    iexact S16
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, PhiA_eq]
  unfold Phi
  iintro ⟨⟨⟨%u11, S11⟩, ⟨%u12, S12⟩, ⟨%t13, S13⟩, ⟨%t14, S14⟩, ⟨%cr, S15⟩, ⟨%rs, S16⟩⟩, Hg⟩
  isplitr [Hg]
  swap; · iexact Hg
  iexists u11, u12, t13, t14, cr, rs; isplitr
  · ipureintro
    exact ⟨fun t _ h => absurd rfl h, fun t _ h => absurd rfl h, fun b h => absurd h (Nat.not_lt_zero _)⟩
  isplitl [S11]; · iexact S11
  isplitl [S12]; · iexact S12
  isplitl [S13]; · iexact S13
  isplitl [S14]; · iexact S14
  isplitl [S15]; · iexact S15
  iexact S16

theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi
  iintro ⟨⟨%u11, %u12, %t13, %t14, %cr, %rs, -, S11, S12, S13, S14, S15, S16⟩, Hg⟩
  isplitr [Hg]
  swap; · iexact Hg
  isplitl [S11]; · iexists _; iexact S11
  isplitl [S12]; · iexists _; iexact S12
  isplitl [S13]; · iexists _; iexact S13
  isplitl [S14]; · iexists _; iexact S14
  isplitl [S15]; · iexists _; iexact S15
  iexists _; iexact S16

/-! ## The run and the frame -/

set_option backward.isDefEq.respectTransparency.types false in
/-- Every weakly fair execution ends, with the arrays at what the proof data names and the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and the counters at zero. -/
theorem frame_run : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4))
      ∧ r.2.sem = fun _ => 0) :=
  θ_run_and (frame_of m ρ (dats m) (A_eq m) (run_main m ρ)) ((θ_run defs _ _).mono (fun _ h => h.2) (run_main_quiescent m ρ))

end Cert.KernelIdeal14.FfnUp

end
-- ==== Proof.FfnUp2.Bits.lean ====
/- The frame of the kernel at bit patterns, from the one proof over any reading of the floats. -/
module

public import proofs.«01_k».proof.Proof.FfnUp2.Frame
public import proofs.«01_k».proof.Defs
public import proofs.«01_k».proof.Proof.Gen.Kernel14

@[expose] public section

set_option maxRecDepth 16384

noncomputable section

namespace Cert.Proof.FfnUp2

open Idealize.ShloMosaic Idealize.ShloMosaic.TcCoe Idealize.SL.Sem

theorem body_agree (i) (a2 h2 a3 h3 a4 h4 a5 h5 a6 h6 a7 h7 a8 h8 a9 h9 a10 h10 a11 h11 a12 h12 a13 h13 a14 h14 a15 h15 a16 h16) :
    Cert.KernelIdeal14.cc0_ffn_up_conv_gate (F := Bits) i a2 h2 a3 h3 a4 h4 a5 h5 a6 h6 a7 h7 a8 h8 a9 h9 a10 h10 a11 h11 a12 h12 a13 h13 a14 h14 a15 h15 a16 h16
    = Cert.Kernel14.cc0_ffn_up_conv_gate (F := Bits) i a2 h2 a3 h3 a4 h4 a5 h5 a6 h6 a7 h7 a8 h8 a9 h9 a10 h10 a11 h11 a12 h12 a13 h13 a14 h14 a15 h15 a16 h16 := by
  rfl

theorem defs₀_agree : Cert.KernelIdeal14.defs₀ (F := Bits) = Cert.Kernel14.defs₀ (F := Bits) := by
  unfold Cert.KernelIdeal14.defs₀ Cert.Kernel14.defs₀
  refine congrArg Defs.onTc (funext fun l => funext fun ts => ?_)
  obtain ⟨l, hl⟩ := l
  obtain rfl : l = 0 := by
    have : l < 1 := hl
    omega
  obtain ⟨t, s⟩ := ts
  exact body_agree ..

theorem defs_agree : Cert.KernelIdeal14.defs (F := Bits) = Cert.Kernel14.defs (F := Bits) :=
  congrArg (Pipeline.defs Cert.KernelIdeal14.pcfgs) defs₀_agree

theorem main_agree : Cert.KernelIdeal14.main (F := Bits) = Cert.Kernel14.main (F := Bits) := by
  rfl

/-- Every run of the kernel ends, with its arguments unchanged and its counters at zero. -/
theorem frame_bits (m : (ℓ : Loc Cert.Kernel14.nD Cert.Kernel14.τ Cert.Kernel14.sig) → Buf (Elt Bits) ℓ) (ρ : Dev Cert.Kernel14.nD → PrngReg) :
    θ_run (Cert.Kernel14.defs (F := Bits)) (onTc (τ := Cert.Kernel14.τ) (Cert.Kernel14.main (F := Bits))) ⟨m, fun _ => 0, ρ⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0) :=
by
  rw [← defs_agree, ← main_agree]
  exact Cert.KernelIdeal14.FfnUp.frame_run (F := Bits) m ρ

end Cert.Proof.FfnUp2

end
-- ==== Proof.FfnUp2.Out.lean ====
/- The output array after the launch. -/
module

public import proofs.«01_k».proof.Proof.FfnUp2.Frame
public import Idealize.ShloMosaic.Lib.Pipeline.Value

@[expose] public section

set_option maxRecDepth 65536

noncomputable section

namespace Cert.KernelIdeal14.FfnUp

open Idealize.ShloMosaic Idealize.ShloMosaic.TcCoe Idealize.SL.Sem
open Cert.KernelIdeal12.FfnUp (Blk outT outArr outT_congr ptOf locOf)
open Cert.KernelIdeal14 Cert.KernelIdeal14.Gen
open Idealize.ShloMosaic.Pipeline (Dat)

variable {F : FTy → Type} [FloatOps F]
variable (m : (ℓ : Loc nD τ sig) → Buf (Elt F) ℓ) (ρ : Dev nD → PrngReg)

/-- What the output array ends holding. -/
abbrev G (c : Dev nD) : Buf (Elt F) ((c.tc : Thread nD τ).loc main_v2) := outArr (blk m c)

theorem idx_facts : ∀ t : Fin cfg0.N, win0_8.index t (0 : Fin 2) ≤ 7 ∧ win0_8.index t (1 : Fin 2) ≤ 10 ∧ win0_8.index t (0 : Fin 2) + 8 * win0_8.index t (1 : Fin 2) = t.val :=
  (by decide +kernel : ∀ t : Fin grid0.N, _)

abbrev ontoPt (q0 : Fin 8) (q1 : Fin 11) : Fin grid0.N := ⟨q0.val + 8 * q1.val, lt_of_lt_of_eq (by omega) N_0.symm⟩
theorem idx_onto : ∀ (q0 : Fin 8) (q1 : Fin 11), ∃ t : Fin cfg0.N, (cfg0.win 8).flush t = true ∧ win0_8.index t = ![q0.val, q1.val] :=
  fun q0 q1 => ⟨ontoPt q0 q1, (by decide +kernel : ∀ (q0 : Fin 8) (q1 : Fin 11), win0_8.flush (ontoPt q0 q1) = true ∧ win0_8.index (ontoPt q0 q1) = ![q0.val, q1.val]) q0 q1⟩

/-- What a point writes back is its block of `G`. -/
theorem flushed_eq (c : Dev nD) (t : Fin cfg0.N) : (dats m 0 c).flushed 8 t = ((cfg0.win 8).blk t).view.read (Elt F) (G m c) := by
  show (cfg0.win 8).cut (grid0.coords t) ((dats m 0 c).after 8 t) = _
  rw [after0_8]
  obtain ⟨e0, e1, e2⟩ := idx_facts t
  funext y
  have hy0 : (y 0).val < 1024 := (y 0).isLt
  have hy1 : (y 1).val < 512 := (y 1).isLt
  have hb0 : (((cfg0.win 8).blk t).view.emb y 0).val = win0_8.index t (0 : Fin 2) * 1024 + 1 * (y 0).val := rfl
  have hb1 : (((cfg0.win 8).blk t).view.emb y 1).val = win0_8.index t (1 : Fin 2) * 512 + 1 * (y 1).val := rfl
  have hp : ptOf (((cfg0.win 8).blk t).view.emb y) = t.val := by
    show (((cfg0.win 8).blk t).view.emb y 0).val / 1024 + 8 * ((((cfg0.win 8).blk t).view.emb y 1).val / 512) = _
    rw [hb0, hb1]
    omega
  have hl : locOf (((cfg0.win 8).blk t).view.emb y) = (cfg0.win 8).xinj (grid0.coords t) y := by
    funext a; apply Fin.ext
    match a with
    | ⟨0, _⟩ => show (((cfg0.win 8).blk t).view.emb y 0).val % 1024 = (y 0).val; rw [hb0]; omega
    | ⟨1, _⟩ => show (((cfg0.win 8).blk t).view.emb y 1).val % 512 = (y 1).val; rw [hb1]; omega
  show outT (blk m c) t ((cfg0.win 8).xinj (grid0.coords t) y) = outArr (blk m c) (((cfg0.win 8).blk t).view.emb y)
  unfold outArr
  rw [dif_pos (by rw [hp]; exact t.isLt), hl]
  exact outT_congr (blk m c) _ _ (Fin.ext hp.symm) _

theorem mem_blk (t : Fin cfg0.N) (i : S8192x5632.Idx) :
    i ∈ ((cfg0.win 8).blk t).view.set ↔ ∀ a : Fin 2, win0_8.index t a * S1024x512.size a ≤ (i a).val ∧ (i a).val < win0_8.index t a * S1024x512.size a + S1024x512.size a := by
  show i ∈ ((View.whole main_v2).slice (win0_8.rect t)).set ↔ _
  rw [View.set_slice_whole, Rect.mem_set_unit]
  exact Iff.rfl

theorem covered (i : S8192x5632.Idx) : ∃ t : Fin cfg0.N, (cfg0.win 8).flush t = true ∧ i ∈ ((cfg0.win 8).blk t).view.set := by
  have hi0 : (i 0).val < 8192 := (i 0).isLt
  have hi1 : (i 1).val < 5632 := (i 1).isLt
  obtain ⟨t, hft, ht⟩ := idx_onto ⟨(i 0).val / 1024, by omega⟩ ⟨(i 1).val / 512, by omega⟩
  have q0 : win0_8.index t (0 : Fin 2) = (i 0).val / 1024 := congrFun ht 0
  have q1 : win0_8.index t (1 : Fin 2) = (i 1).val / 512 := congrFun ht 1
  refine ⟨t, hft, ?_⟩
  rw [mem_blk]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 512 ≤ (i 1).val ∧ (i 1).val < win0_8.index t (1 : Fin 2) * 512 + 512; omega

/-- The output array after the run. -/
theorem final (c : Dev nD) : (dats m 0 c).arrAt 8 cfg0.N = G m c :=
  (dats m 0 c).arrAt_eq_of_cover 8 _ (fun t _ => flushed_eq m c t) covered

/-- The run: the output array at what the points compute, the arguments unchanged. -/
theorem run : θ_run defs (onTc (τ := τ) (main (F := F))) ⟨m, fun _ => 0, ρ⟩ fun r => ∀ c : Dev nD,
      r.2.mem (c.tc.loc main_v2) = G m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun r h c => ⟨((h.1 c).1 8).trans (final m c), h.2 c⟩) (θ_run_and (run_main m ρ) (frame_of m ρ (dats m) (A_eq m) (run_main m ρ)))

end Cert.KernelIdeal14.FfnUp

end
-- ==== Proof.FfnUp2.Read.lean ====
/- The blocks that a point sees, read off the arguments. -/
module

public import proofs.«01_k».proof.Proof.FfnUp.Value
public import proofs.«01_k».proof.Proof.FfnUp2.Out
public import Idealize.ShloMosaic.Lib.Pointwise
public import Idealize.ShloMosaic.Lib.Tactic

@[expose] public section

set_option maxRecDepth 16384

noncomputable section

namespace Cert.KernelIdeal14.FfnUp

open Idealize.ShloMosaic Idealize.ShloMosaic.TcCoe Idealize.ShloMosaic.Tactic Idealize.SL.Sem
open Cert.KernelIdeal12.FfnUp (Reads outArr_apply)
open Cert.KernelIdeal14 Cert.KernelIdeal14.Gen

variable (m : (ℓ : Loc nD τ sig) → Buf (Elt Ideal) ℓ)

/-- The gains, as the host leaves them for the call. -/
theorem V_main_v0 (c : Dev nD) : (V m c main_v0 : Vec Ideal S4x2048x1 .f32)
    = shapeCast S4x2048x1 (m (c.tc.loc main_arg1)) facts.shapeCasts_S4x2048_S4x2048x1 := by
  show StableHlo.after hostOps0 (fun b => m (c, b)) main_v0 = _
  after_results <;> rfl

/-- The biases, as the host leaves them for the call. -/
theorem V_main_v1 (c : Dev nD) : (V m c main_v1 : Vec Ideal S4x1x11264 .f32)
    = shapeCast S4x1x11264 (m (c.tc.loc main_arg4)) facts.shapeCasts_S4x11264_S4x1x11264 := by
  show StableHlo.after hostOps0 (fun b => m (c, b)) main_v1 = _
  after_results <;> rfl

theorem bias_cast (B : Vec Ideal S4x11264 .f32) (j : Fin 11264) :
    shapeCast S4x1x11264 B facts.shapeCasts_S4x11264_S4x1x11264 (ix3 2 0 j) = B (ix2 2 j) := by
  pointwise

/-- The rows of the activation that point `t` sees. -/
theorem iblk0_apply (c : Dev nD) (t : Fin cfg0.N) (r : Fin 1024) (k : Fin 2048) (h : t.val % 8 * 1024 + r.val < 8192) :
    (iblk m c 0 t : Vec Ideal S1024x2048 .f32) (ix2 r k) = m (c.tc.loc main_arg0) (ix2 ⟨t.val % 8 * 1024 + r.val, h⟩ k) := by
  have hi : ∀ t : Fin cfg0.N, win0_0.index t 0 = t.val % 8 ∧ win0_0.index t 1 = 0 := (by decide +kernel : ∀ t : Fin grid0.N, _)
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = t.val % 8 * 1024 + r.val; rw [(hi t).1]; omega
  | ⟨1, _⟩ => show win0_0.index t 1 * 2048 + 1 * k.val = k.val; rw [(hi t).2]; omega

/-- The gains that point `t` sees. -/
theorem iblk1_apply (c : Dev nD) (t : Fin cfg0.N) (k : Fin 2048) :
    (iblk m c 1 t : Vec Ideal S1x2048x1 .f32) (ix3 0 k 0) = m (c.tc.loc main_arg1) (ix2 2 k) := by
  have hi : ∀ t : Fin cfg0.N, win0_1.index t 0 = 2 ∧ win0_1.index t 1 = 0 ∧ win0_1.index t 2 = 0 := (by decide +kernel : ∀ t : Fin grid0.N, _)
  have e : (iblk m c 1 t : Vec Ideal S1x2048x1 .f32) (ix3 0 k 0) = (V m c main_v0 : Vec Ideal S4x2048x1 .f32) (ix3 2 k 0) := by
    unfold iblk
    rw [View.read_apply]
    show V m c main_v0 _ = V m c main_v0 _
    congr 1
    funext a
    apply Fin.ext
    match a with
    | ⟨0, _⟩ => show win0_1.index t 0 * 1 + 1 * 0 = 2; rw [(hi t).1]
    | ⟨1, _⟩ => show win0_1.index t 1 * 2048 + 1 * k.val = k.val; rw [(hi t).2.1]; omega
    | ⟨2, _⟩ => show win0_1.index t 2 * 1 + 1 * 0 = 0; rw [(hi t).2.2]
  rw [e, V_main_v0]
  pointwise

/-- The weights of the gate half that point `t` sees. -/
theorem iblk2_apply (c : Dev nD) (t : Fin cfg0.N) (k : Fin 2048) (j : Fin 512) (h : t.val / 8 * 512 + j.val < 11264) :
    (iblk m c 2 t : Vec Ideal S1x2048x512 .f32) (ix3 0 k j) = m (c.tc.loc main_arg2) (ix3 2 k ⟨t.val / 8 * 512 + j.val, h⟩) := by
  have hi : ∀ t : Fin cfg0.N, win0_2.index t 0 = 2 ∧ win0_2.index t 1 = 0 ∧ win0_2.index t 2 = t.val / 8 := (by decide +kernel : ∀ t : Fin grid0.N, _)
  unfold iblk
  rw [View.read_apply]
  show V m c main_arg2 _ = m (c.tc.loc main_arg2) _
  rw [V_main_arg2]
  congr 1
  funext a
  apply Fin.ext
  match a with
  | ⟨0, _⟩ => show win0_2.index t 0 * 1 + 1 * 0 = 2; rw [(hi t).1]
  | ⟨1, _⟩ => show win0_2.index t 1 * 2048 + 1 * k.val = k.val; rw [(hi t).2.1]; omega
  | ⟨2, _⟩ => show win0_2.index t 2 * 512 + 1 * j.val = t.val / 8 * 512 + j.val; rw [(hi t).2.2]; omega

/-- The taps of the gate half that point `t` sees. -/
theorem iblk4_apply (c : Dev nD) (t : Fin cfg0.N) (k : Fin 3) (j : Fin 512) (h : t.val / 8 * 512 + j.val < 11264) :
    (iblk m c 4 t : Vec Ideal S1x3x512 .f32) (ix3 0 k j) = m (c.tc.loc main_arg3) (ix3 2 k ⟨t.val / 8 * 512 + j.val, h⟩) := by
  have hi : ∀ t : Fin cfg0.N, win0_4.index t 0 = 2 ∧ win0_4.index t 1 = 0 ∧ win0_4.index t 2 = t.val / 8 := (by decide +kernel : ∀ t : Fin grid0.N, _)
  unfold iblk
  rw [View.read_apply]
  show V m c main_arg3 _ = m (c.tc.loc main_arg3) _
  rw [V_main_arg3]
  congr 1
  funext a
  apply Fin.ext
  match a with
  | ⟨0, _⟩ => show win0_4.index t 0 * 1 + 1 * 0 = 2; rw [(hi t).1]
  | ⟨1, _⟩ => show win0_4.index t 1 * 3 + 1 * k.val = k.val; rw [(hi t).2.1]; omega
  | ⟨2, _⟩ => show win0_4.index t 2 * 512 + 1 * j.val = t.val / 8 * 512 + j.val; rw [(hi t).2.2]; omega

/-- The biases of the gate half that point `t` sees. -/
theorem iblk6_apply (c : Dev nD) (t : Fin cfg0.N) (j : Fin 512) (h : t.val / 8 * 512 + j.val < 11264) :
    (iblk m c 6 t : Vec Ideal S1x1x512 .f32) (ix3 0 0 j) = m (c.tc.loc main_arg4) (ix2 2 ⟨t.val / 8 * 512 + j.val, h⟩) := by
  have hi : ∀ t : Fin cfg0.N, win0_6.index t 0 = 2 ∧ win0_6.index t 1 = 0 ∧ win0_6.index t 2 = t.val / 8 := (by decide +kernel : ∀ t : Fin grid0.N, _)
  have e : (iblk m c 6 t : Vec Ideal S1x1x512 .f32) (ix3 0 0 j) = (V m c main_v1 : Vec Ideal S4x1x11264 .f32) (ix3 2 0 ⟨t.val / 8 * 512 + j.val, h⟩) := by
    unfold iblk
    rw [View.read_apply]
    show V m c main_v1 _ = V m c main_v1 _
    congr 1
    funext a
    apply Fin.ext
    match a with
    | ⟨0, _⟩ => show win0_6.index t 0 * 1 + 1 * 0 = 2; rw [(hi t).1]
    | ⟨1, _⟩ => show win0_6.index t 1 * 1 + 1 * 0 = 0; rw [(hi t).2.1]
    | ⟨2, _⟩ => show win0_6.index t 2 * 512 + 1 * j.val = t.val / 8 * 512 + j.val; rw [(hi t).2.2]; omega
  rw [e, V_main_v1]
  exact bias_cast _ _

/-- The weights of the value half that point `t` sees. -/
theorem iblk3_apply (c : Dev nD) (t : Fin cfg0.N) (k : Fin 2048) (j : Fin 512) (h : 5632 + t.val / 8 * 512 + j.val < 11264) :
    (iblk m c 3 t : Vec Ideal S1x2048x512 .f32) (ix3 0 k j) = m (c.tc.loc main_arg2) (ix3 2 k ⟨5632 + t.val / 8 * 512 + j.val, h⟩) := by
  have hi : ∀ t : Fin cfg0.N, win0_3.index t 0 = 2 ∧ win0_3.index t 1 = 0 ∧ win0_3.index t 2 = t.val / 8 + 11 := (by decide +kernel : ∀ t : Fin grid0.N, _)
  unfold iblk
  rw [View.read_apply]
  show V m c main_arg2 _ = m (c.tc.loc main_arg2) _
  rw [V_main_arg2]
  congr 1
  funext a
  apply Fin.ext
  match a with
  | ⟨0, _⟩ => show win0_3.index t 0 * 1 + 1 * 0 = 2; rw [(hi t).1]
  | ⟨1, _⟩ => show win0_3.index t 1 * 2048 + 1 * k.val = k.val; rw [(hi t).2.1]; omega
  | ⟨2, _⟩ => show win0_3.index t 2 * 512 + 1 * j.val = 5632 + t.val / 8 * 512 + j.val; rw [(hi t).2.2]; omega

/-- The taps of the value half that point `t` sees. -/
theorem iblk5_apply (c : Dev nD) (t : Fin cfg0.N) (k : Fin 3) (j : Fin 512) (h : 5632 + t.val / 8 * 512 + j.val < 11264) :
    (iblk m c 5 t : Vec Ideal S1x3x512 .f32) (ix3 0 k j) = m (c.tc.loc main_arg3) (ix3 2 k ⟨5632 + t.val / 8 * 512 + j.val, h⟩) := by
  have hi : ∀ t : Fin cfg0.N, win0_5.index t 0 = 2 ∧ win0_5.index t 1 = 0 ∧ win0_5.index t 2 = t.val / 8 + 11 := (by decide +kernel : ∀ t : Fin grid0.N, _)
  unfold iblk
  rw [View.read_apply]
  show V m c main_arg3 _ = m (c.tc.loc main_arg3) _
  rw [V_main_arg3]
  congr 1
  funext a
  apply Fin.ext
  match a with
  | ⟨0, _⟩ => show win0_5.index t 0 * 1 + 1 * 0 = 2; rw [(hi t).1]
  | ⟨1, _⟩ => show win0_5.index t 1 * 3 + 1 * k.val = k.val; rw [(hi t).2.1]; omega
  | ⟨2, _⟩ => show win0_5.index t 2 * 512 + 1 * j.val = 5632 + t.val / 8 * 512 + j.val; rw [(hi t).2.2]; omega

/-- The biases of the value half that point `t` sees. -/
theorem iblk7_apply (c : Dev nD) (t : Fin cfg0.N) (j : Fin 512) (h : 5632 + t.val / 8 * 512 + j.val < 11264) :
    (iblk m c 7 t : Vec Ideal S1x1x512 .f32) (ix3 0 0 j) = m (c.tc.loc main_arg4) (ix2 2 ⟨5632 + t.val / 8 * 512 + j.val, h⟩) := by
  have hi : ∀ t : Fin cfg0.N, win0_7.index t 0 = 2 ∧ win0_7.index t 1 = 0 ∧ win0_7.index t 2 = t.val / 8 + 11 := (by decide +kernel : ∀ t : Fin grid0.N, _)
  have e : (iblk m c 7 t : Vec Ideal S1x1x512 .f32) (ix3 0 0 j) = (V m c main_v1 : Vec Ideal S4x1x11264 .f32) (ix3 2 0 ⟨5632 + t.val / 8 * 512 + j.val, h⟩) := by
    unfold iblk
    rw [View.read_apply]
    show V m c main_v1 _ = V m c main_v1 _
    congr 1
    funext a
    apply Fin.ext
    match a with
    | ⟨0, _⟩ => show win0_7.index t 0 * 1 + 1 * 0 = 2; rw [(hi t).1]
    | ⟨1, _⟩ => show win0_7.index t 1 * 1 + 1 * 0 = 0; rw [(hi t).2.1]
    | ⟨2, _⟩ => show win0_7.index t 2 * 512 + 1 * j.val = 5632 + t.val / 8 * 512 + j.val; rw [(hi t).2.2]; omega
  rw [e, V_main_v1]
  exact bias_cast _ _

/-- The blocks are those of this layer's slices of the arguments. -/
theorem reads (c : Dev nD) : Reads (blk m c) (m (c.tc.loc main_arg0)) (fun k => m (c.tc.loc main_arg1) (ix2 2 k)) (fun k j => m (c.tc.loc main_arg2) (ix3 2 k j))
    (fun k j => m (c.tc.loc main_arg3) (ix3 2 k j)) (fun j => m (c.tc.loc main_arg4) (ix2 2 j)) where
  x := fun t r k h => iblk0_apply m c t r k h
  g := fun t k => iblk1_apply m c t k
  w4 := fun t k j h => iblk2_apply m c t k j h
  w5 := fun t k j h => iblk3_apply m c t k j h
  p6 := fun t k j h => iblk4_apply m c t k j h
  p7 := fun t k j h => iblk5_apply m c t k j h
  b8 := fun t j h => iblk6_apply m c t j h
  b9 := fun t j h => iblk7_apply m c t j h

/-- The output array, index by index. -/
theorem G_apply (c : Dev nD) (r : Fin 8192) (j : Fin 5632) : G m c (ix2 r j)
    = Cert.ReferenceIdeal12.FfnUp.result (m (c.tc.loc main_arg0)) (fun k => m (c.tc.loc main_arg1) (ix2 2 k)) (fun k j => m (c.tc.loc main_arg2) (ix3 2 k j))
        (fun k j => m (c.tc.loc main_arg3) (ix3 2 k j)) (fun j => m (c.tc.loc main_arg4) (ix2 2 j)) r j := outArr_apply (reads m c) r j

end Cert.KernelIdeal14.FfnUp

end
-- ==== Proof.FfnUp2.Ref.lean ====
/- The reference of layer 2, from the slices of its arguments. -/
module

public import proofs.«01_k».proof.Proof.FfnUp.RefTerm
public import proofs.«01_k».proof.Proof.Gen.ReferenceIdeal14.Run

@[expose] public section

set_option maxRecDepth 16384

noncomputable section

namespace Cert.ReferenceIdeal14.FfnUp

open Idealize.ShloMosaic Idealize.ShloMosaic.TcCoe Idealize.SL.Sem
open Cert.ReferenceIdeal14 Cert.ReferenceIdeal14.Gen Cert.ReferenceIdeal14.Value
open Cert.ReferenceIdeal12.FfnUp (termU termY termO padded result term_apply)

theorem res_eq (m : (ℓ : Loc nD τ sig) → Buf (Elt Ideal) ℓ) (c : Dev nD) :
    res_main_v56 (F := Ideal) m c = termO (termY
      (shapeCast _ (extractStridedSlice S1x1x11264 ![2, 0, 0] (m (c.tc.loc main_arg3)) slices_S4x3x11264_S1x1x11264_2_0_0) shapeCasts_S1x1x11264_S11264)
      (shapeCast _ (extractStridedSlice S1x1x11264 ![2, 1, 0] (m (c.tc.loc main_arg3)) slices_S4x3x11264_S1x1x11264_2_1_0) shapeCasts_S1x1x11264_S11264)
      (shapeCast _ (extractStridedSlice S1x1x11264 ![2, 2, 0] (m (c.tc.loc main_arg3)) slices_S4x3x11264_S1x1x11264_2_2_0) shapeCasts_S1x1x11264_S11264)
      (shapeCast _ (extractStridedSlice S1x11264 ![2, 0] (m (c.tc.loc main_arg4)) slices_S4x11264_S1x11264_2_0) shapeCasts_S1x11264_S11264)
      (termU (m (c.tc.loc main_arg0))
        (shapeCast _ (extractStridedSlice S1x2048 ![2, 0] (m (c.tc.loc main_arg1)) slices_S4x2048_S1x2048_2_0) shapeCasts_S1x2048_S2048)
        (shapeCast _ (extractStridedSlice S1x2048x11264 ![2, 0, 0] (m (c.tc.loc main_arg2)) slices_S4x2048x11264_S1x2048x11264_2_0_0) shapeCasts_S1x2048x11264_S2048x11264))) := by
  unfold res_main_v56 termO termY termU padded
  rfl

theorem gain_apply (g : FVec Ideal S4x2048 .f32) (k : Fin 2048) :
    (shapeCast S2048 (extractStridedSlice S1x2048 ![2, 0] g slices_S4x2048_S1x2048_2_0) shapeCasts_S1x2048_S2048) (ix1 k) = g (ix2 2 k) := by pointwise
theorem weight_apply (w : FVec Ideal S4x2048x11264 .f32) (k : Fin 2048) (j : Fin 11264) :
    (shapeCast S2048x11264 (extractStridedSlice S1x2048x11264 ![2, 0, 0] w slices_S4x2048x11264_S1x2048x11264_2_0_0) shapeCasts_S1x2048x11264_S2048x11264) (ix2 k j) = w (ix3 2 k j) := by pointwise
theorem tap0_apply (p : FVec Ideal S4x3x11264 .f32) (j : Fin 11264) :
    (shapeCast S11264 (extractStridedSlice S1x1x11264 ![2, 0, 0] p slices_S4x3x11264_S1x1x11264_2_0_0) shapeCasts_S1x1x11264_S11264) (ix1 j) = p (ix3 2 0 j) := by pointwise
theorem tap1_apply (p : FVec Ideal S4x3x11264 .f32) (j : Fin 11264) :
    (shapeCast S11264 (extractStridedSlice S1x1x11264 ![2, 1, 0] p slices_S4x3x11264_S1x1x11264_2_1_0) shapeCasts_S1x1x11264_S11264) (ix1 j) = p (ix3 2 1 j) := by pointwise
theorem tap2_apply (p : FVec Ideal S4x3x11264 .f32) (j : Fin 11264) :
    (shapeCast S11264 (extractStridedSlice S1x1x11264 ![2, 2, 0] p slices_S4x3x11264_S1x1x11264_2_2_0) shapeCasts_S1x1x11264_S11264) (ix1 j) = p (ix3 2 2 j) := by pointwise
theorem bias_apply (b : FVec Ideal S4x11264 .f32) (j : Fin 11264) :
    (shapeCast S11264 (extractStridedSlice S1x11264 ![2, 0] b slices_S4x11264_S1x11264_2_0) shapeCasts_S1x11264_S11264) (ix1 j) = b (ix2 2 j) := by pointwise

/-- The reference's result, index by index. -/
theorem res_apply (m : (ℓ : Loc nD τ sig) → Buf (Elt Ideal) ℓ) (c : Dev nD) (r : Fin 8192) (j : Fin 5632) :
    res_main_v56 (F := Ideal) m c (ix2 r j)
      = result (m (c.tc.loc main_arg0)) (fun k => m (c.tc.loc main_arg1) (ix2 2 k)) (fun k j => m (c.tc.loc main_arg2) (ix3 2 k j))
        (fun k j => m (c.tc.loc main_arg3) (ix3 2 k j)) (fun j => m (c.tc.loc main_arg4) (ix2 2 j)) r j := by
  rw [res_eq]
  exact term_apply _ _ _ _ _ _ _ _ _ _ _ (gain_apply _) (weight_apply _) (tap0_apply _) (tap1_apply _) (tap2_apply _) (bias_apply _) r j

end Cert.ReferenceIdeal14.FfnUp

end
-- ==== Proof.FfnUp3.Triple.lean ====
/- The body of this layer's launch is that of the first layer's, so its triple is too. -/
module

public import proofs.«01_k».proof.Proof.FfnUp.Triple
public import proofs.«01_k».proof.Proof.Gen.KernelIdeal15.Frame

@[expose] public section

set_option maxRecDepth 65536

noncomputable section

namespace Cert.KernelIdeal15.FfnUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal12.FfnUp (first start inb_x inb_o inb_r inb_t inb_c inb_p xC tr crow tap prod tl conv gated Ops chunk outF carryF fillT wAt tAt cAt rAt rows opsOf)
open Cert.KernelIdeal15 Cert.KernelIdeal15.Gen Cert.Rules

variable {F : FTy → Type} [FloatOps F]

local notation "𝕄" => MT nD τ sig Unit (Elt F) ℕ (UR sig nD τ) ℕ

/-- The two launches' labels are one: the same grid and the same number of buffers of each window. -/
theorem labels_eq : Cert.KernelIdeal12.Λ₀ = Cert.KernelIdeal15.Λ₀ := by
  have h : (fun w : Fin 9 => Fin (Cert.KernelIdeal12.win0 w).nbuf) = fun w : Fin 9 => Fin (Cert.KernelIdeal15.win0 w).nbuf := by
    funext w
    fin_cases w <;> rfl
  have h2 : (Fin Cert.KernelIdeal12.grid0.N × ((w : Fin 9) → Fin (Cert.KernelIdeal12.win0 w).nbuf)) = (Fin Cert.KernelIdeal15.grid0.N × ((w : Fin 9) → Fin (Cert.KernelIdeal15.win0 w).nbuf)) := by
    show (Fin Cert.KernelIdeal12.grid0.N × ((w : Fin 9) → (fun w : Fin 9 => Fin (Cert.KernelIdeal12.win0 w).nbuf) w)) = _
    rw [h]
  unfold Cert.KernelIdeal12.Λ₀ Cert.KernelIdeal15.Λ₀
  congr 1
  funext l
  match l with
  | 0 => exact h2

variable (c : Dev nD) (i : grid0.Coords) (arg2 : Memref sig .tc .vmem S1024x2048 .f32) (harg2 : arg2.IsWhole) (arg3 : Memref sig .tc .vmem S1x2048x1 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x3x512 .f32) (harg6 : arg6.IsWhole) (arg7 : Memref sig .tc .vmem S1x3x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1024x512 .bf16) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S4x8x512 .f32) (harg13 : arg13.IsWhole) (arg14 : Memref sig .tc .vmem S4x8x512 .f32) (harg14 : arg14.IsWhole) (arg15 : Memref sig .tc .vmem S2x8x512 .f32) (harg15 : arg15.IsWhole) (arg16 : Memref sig .tc .vmem S8x1024x128 .f32) (harg16 : arg16.IsWhole)
variable (E : Set ℕ)
variable (x : Vec F S1024x2048 .f32) (g : Vec F S1x2048x1 .f32) (w4 w5 : Vec F S1x2048x512 .f32) (p6 p7 : Vec F S1x3x512 .f32) (b8 b9 : Vec F S1x1x512 .f32) (o : Vec F S1024x512 .bf16) (u11 u12 : Vec F S2048x512 .bf16) (t13 t14 : Vec F S4x8x512 .f32) (cr : Vec F S2x8x512 .f32) (rs : Vec F S8x1024x128 .f32)

theorem body_triple (K : PUnit → sProp 𝕄) :
    iprop(owns c.tc arg2 fullShare x ∗ owns c.tc arg3 fullShare g ∗ owns c.tc arg4 fullShare w4 ∗ owns c.tc arg5 fullShare w5 ∗ owns c.tc arg6 fullShare p6 ∗ owns c.tc arg7 fullShare p7 ∗ owns c.tc arg8 fullShare b8 ∗ owns c.tc arg9 fullShare b9 ∗ owns c.tc arg10 fullShare o ∗ owns c.tc arg11 fullShare u11 ∗ owns c.tc arg12 fullShare u12 ∗ owns c.tc arg13 fullShare t13 ∗ owns c.tc arg14 fullShare t14 ∗ owns c.tc arg15 fullShare cr ∗ owns c.tc arg16 fullShare rs ∗ (iprop(owns c.tc arg2 fullShare x ∗ owns c.tc arg3 fullShare g ∗ owns c.tc arg4 fullShare w4 ∗ owns c.tc arg5 fullShare w5 ∗ owns c.tc arg6 fullShare p6 ∗ owns c.tc arg7 fullShare p7 ∗ owns c.tc arg8 fullShare b8 ∗ owns c.tc arg9 fullShare b9 ∗ owns c.tc arg10 fullShare (outF (opsOf i x (wAt i w4 g u11) (wAt i w5 g u12) (tAt i p6 b8 t13) (tAt i p7 b9 t14) (cAt i cr) (rAt i x rs)) o) ∗ owns c.tc arg11 fullShare (wAt i w4 g u11) ∗ owns c.tc arg12 fullShare (wAt i w5 g u12) ∗ owns c.tc arg13 fullShare (tAt i p6 b8 t13) ∗ owns c.tc arg14 fullShare (tAt i p7 b9 t14) ∗ owns c.tc arg15 fullShare (carryF (opsOf i x (wAt i w4 g u11) (wAt i w5 g u12) (tAt i p6 b8 t13) (tAt i p7 b9 t14) (cAt i cr) (rAt i x rs)) (cAt i cr)) ∗ owns c.tc arg16 fullShare (rAt i x rs)) -∗ K ⟨⟩))
      ⊢ wp frame (wpE (defs₀ (F := F)) Variants.none c none) E (cc0_ffn_up_conv_gate i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have h := fun (D : Defs Cert.KernelIdeal12.nD Cert.KernelIdeal12.τ Cert.KernelIdeal12.sig (Elt F) Cert.KernelIdeal12.Λ₀) => Cert.KernelIdeal12.FfnUp.body_triple (F := F) (D := D) (c := c) (i := i) (E := E) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (x := x) (g := g) (w4 := w4) (w5 := w5) (p6 := p6) (p7 := p7) (b8 := b8) (b9 := b9) (o := o) (u11 := u11) (u12 := u12) (t13 := t13) (t14 := t14) (cr := cr) (rs := rs) (K := K)
  unfold Cert.KernelIdeal12.cc0_ffn_up_conv_gate at h
  unfold Cert.KernelIdeal12.k0_part9 Cert.KernelIdeal12.k0_part8 Cert.KernelIdeal12.k0_part7 Cert.KernelIdeal12.k0_part6 Cert.KernelIdeal12.k0_part5 Cert.KernelIdeal12.k0_part4 Cert.KernelIdeal12.k0_part3 Cert.KernelIdeal12.k0_part2 Cert.KernelIdeal12.k0_part1 at h
  rw [labels_eq] at h
  exact h (defs₀ (F := F))

end Cert.KernelIdeal15.FfnUp

end
-- ==== Proof.FfnUp3.Frame.lean ====
/- The launch: what is known of the scratch before each grid point, the run and the frame. -/
module

public import proofs.«01_k».proof.Proof.FfnUp.State
public import proofs.«01_k».proof.Proof.FfnUp3.Triple
public import proofs.«01_k».proof.Proof.Gen.KernelIdeal15.Frame
public import Idealize.ShloMosaic.Lib.Claim

@[expose] public section

set_option maxRecDepth 65536

noncomputable section

namespace Cert.KernelIdeal15.FfnUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal12.FfnUp (Blk wgT wvT tgT tvT cIn opsT outT InvW InvC InvR step_W step_C step_R open_W open_C ops_eq outF_congr wAt tAt cAt rAt opsOf outF carryF outArr outT_congr ptOf locOf rowPt)
open Cert.KernelIdeal15 Cert.KernelIdeal15.Gen Cert.Rules
open Idealize.ShloMosaic.VecWindow (window put)

variable {F : FTy → Type} [FloatOps F]

open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-- The blocks of this launch. -/
def blk (c : Dev nD) : Blk F := ⟨fun t => iblk m c 0 t, fun t => iblk m c 1 t, fun t => iblk m c 2 t, fun t => iblk m c 3 t, fun t => iblk m c 4 t, fun t => iblk m c 5 t,
  fun t => iblk m c 6 t, fun t => iblk m c 7 t, m (c.tc.loc cc0_scratch2), m (c.tc.loc cc0_scratch3), m (c.tc.loc cc0_scratch4)⟩

/-- Points of one row block see the same rows. -/
theorem iblk0_congr (c : Dev nD) (t t' : Fin cfg0.N) (h : t.val % 8 = t'.val % 8) : (iblk m c 0 t : Vec F S1024x2048 .f32) = iblk m c 0 t' := by
  have hi : ∀ t : Fin cfg0.N, win0_0.index t 0 = t.val % 8 ∧ win0_0.index t 1 = 0 :=
    (by decide +kernel : ∀ t : Fin grid0.N, _)
  funext y
  unfold iblk
  rw [View.read_apply, View.read_apply]
  show V m c main_arg0 _ = V m c main_arg0 _
  congr 1
  funext a
  apply Fin.ext
  match a with
  | ⟨0, _⟩ => show win0_0.index t 0 * 1024 + 1 * (y 0).val = win0_0.index t' 0 * 1024 + 1 * (y 0).val; rw [(hi t).1, (hi t').1, h]
  | ⟨1, _⟩ => show win0_0.index t 1 * 2048 + 1 * (y 1).val = win0_0.index t' 1 * 2048 + 1 * (y 1).val; rw [(hi t).2, (hi t').2]

/-! ## The invariant and the proof data -/

abbrev sc11 : Memref sig .tc .vmem S2048x512 .bf16 := Memref.whole cc0_scratch0
abbrev sc12 : Memref sig .tc .vmem S2048x512 .bf16 := Memref.whole cc0_scratch1
abbrev sc13 : Memref sig .tc .vmem S4x8x512 .f32 := Memref.whole cc0_scratch2
abbrev sc14 : Memref sig .tc .vmem S4x8x512 .f32 := Memref.whole cc0_scratch3
abbrev sc15 : Memref sig .tc .vmem S2x8x512 .f32 := Memref.whole cc0_scratch4
abbrev sc16 : Memref sig .tc .vmem S8x1024x128 .f32 := Memref.whole cc0_scratch5

/-- Before point `n`: the scratch at contents of which the above is known. -/
def Phi (c : Dev nD) (n : ℕ) : sProp 𝕄 :=
  iprop((∃ u11 u12 t13 t14 cr rs, ⌜InvW (blk m c) n u11 u12 t13 t14 ∧ InvC (blk m c) n cr ∧ InvR (blk m c) n rs⌝ ∗ owns c.tc sc11 fullShare u11 ∗ owns c.tc sc12 fullShare u12
    ∗ owns c.tc sc13 fullShare t13 ∗ owns c.tc sc14 fullShare t14 ∗ owns c.tc sc15 fullShare cr ∗ owns c.tc sc16 fullShare rs) ∗ (∃ r, prngReg c r))

theorem PhiA_eq (c : Dev nD) : (Pipeline.ΦA spec0 c : sProp 𝕄)
    = iprop(((∃ u, owns c.tc sc11 fullShare u) ∗ (∃ u, owns c.tc sc12 fullShare u) ∗ (∃ u, owns c.tc sc13 fullShare u)
      ∗ (∃ u, owns c.tc sc14 fullShare u) ∗ (∃ u, owns c.tc sc15 fullShare u) ∗ (∃ u, owns c.tc sc16 fullShare u)) ∗ (∃ r, prngReg c r)) := by
  unfold Pipeline.ΦA; rw [scopedRest0_eq]; simp only [sc11, sc12, sc13, sc14, sc15, sc16, owns_whole]; try rfl

/-- The proof data: the arrays as the region finds them, each input's buffer at its block, the output's at `outT`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outT (blk m c) t
  Φ t := Phi m c t.val
  q := Pipeline.shareOf spec0
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outT (blk m c) t := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns c.tc (win0_0.stage (cfg0.slots t 0)) fullShare ((dats m 0 c).before 0 t d))
    ∗ (∃ d, owns c.tc (win0_1.stage (cfg0.slots t 1)) fullShare ((dats m 0 c).before 1 t d))
    ∗ (∃ d, owns c.tc (win0_2.stage (cfg0.slots t 2)) fullShare ((dats m 0 c).before 2 t d))
    ∗ (∃ d, owns c.tc (win0_3.stage (cfg0.slots t 3)) fullShare ((dats m 0 c).before 3 t d))
    ∗ (∃ d, owns c.tc (win0_4.stage (cfg0.slots t 4)) fullShare ((dats m 0 c).before 4 t d))
    ∗ (∃ d, owns c.tc (win0_5.stage (cfg0.slots t 5)) fullShare ((dats m 0 c).before 5 t d))
    ∗ (∃ d, owns c.tc (win0_6.stage (cfg0.slots t 6)) fullShare ((dats m 0 c).before 6 t d))
    ∗ (∃ d, owns c.tc (win0_7.stage (cfg0.slots t 7)) fullShare ((dats m 0 c).before 7 t d))
    ∗ (∃ d, owns c.tc (win0_8.stage (cfg0.slots t 8)) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns c.tc (win0_0.stage (cfg0.slots t 0)) fullShare ((dats m 0 c).after 0 t)
    ∗ owns c.tc (win0_1.stage (cfg0.slots t 1)) fullShare ((dats m 0 c).after 1 t)
    ∗ owns c.tc (win0_2.stage (cfg0.slots t 2)) fullShare ((dats m 0 c).after 2 t)
    ∗ owns c.tc (win0_3.stage (cfg0.slots t 3)) fullShare ((dats m 0 c).after 3 t)
    ∗ owns c.tc (win0_4.stage (cfg0.slots t 4)) fullShare ((dats m 0 c).after 4 t)
    ∗ owns c.tc (win0_5.stage (cfg0.slots t 5)) fullShare ((dats m 0 c).after 5 t)
    ∗ owns c.tc (win0_6.stage (cfg0.slots t 6)) fullShare ((dats m 0 c).after 6 t)
    ∗ owns c.tc (win0_7.stage (cfg0.slots t 7)) fullShare ((dats m 0 c).after 7 t)
    ∗ owns c.tc (win0_8.stage (cfg0.slots t 8)) fullShare ((dats m 0 c).after 8 t))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [before0_0, before0_1, before0_2, before0_3, before0_4, before0_5, before0_6, before0_7]
  rw [show (dats m 0 c).Φ t.castSucc = Phi m c t.val from rfl]
  unfold Phi
  iintro ⟨⟨⟨%u11, %u12, %t13, %t14, %cr, %rs, %hI, S11, S12, S13, S14, S15, S16⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨hW, hC, hR⟩ := hI
  obtain ⟨q1, q2, q3, q4⟩ : wAt (grid0.coords t) (iblk m c 2 t) (iblk m c 1 t) u11 = wgT (blk m c) t ∧ wAt (grid0.coords t) (iblk m c 3 t) (iblk m c 1 t) u12 = wvT (blk m c) t
      ∧ tAt (grid0.coords t) (iblk m c 4 t) (iblk m c 6 t) t13 = tgT (blk m c) t ∧ tAt (grid0.coords t) (iblk m c 5 t) (iblk m c 7 t) t14 = tvT (blk m c) t := open_W (blk m c) t u11 u12 t13 t14 hW
  have q5 : cAt (grid0.coords t) cr = cIn (blk m c) t := open_C (blk m c) t cr hC
  have hR' : InvR (blk m c) (t.val + 1) (rAt (grid0.coords t) (iblk m c 0 t) rs) := step_R (blk m c) t rs hR
  have hB : opsOf (grid0.coords t) (iblk m c 0 t) (wgT (blk m c) t) (wvT (blk m c) t) (tgT (blk m c) t) (tvT (blk m c) t) (cIn (blk m c) t) (rAt (grid0.coords t) (iblk m c 0 t) rs)
      = opsT (blk m c) t := ops_eq (blk m c) (iblk0_congr m c) t _ hR'
  have key := body_triple (c := c) (i := grid0.coords t) (arg2 := win0_0.stage (cfg0.slots t 0)) (harg2 := hstage0_0 ((cfg0.slots t 0).cast nbuf0_0)) (arg3 := win0_1.stage (cfg0.slots t 1)) (harg3 := hstage0_1 ((cfg0.slots t 1).cast nbuf0_1)) (arg4 := win0_2.stage (cfg0.slots t 2)) (harg4 := hstage0_2 ((cfg0.slots t 2).cast nbuf0_2)) (arg5 := win0_3.stage (cfg0.slots t 3)) (harg5 := hstage0_3 ((cfg0.slots t 3).cast nbuf0_3)) (arg6 := win0_4.stage (cfg0.slots t 4)) (harg6 := hstage0_4 ((cfg0.slots t 4).cast nbuf0_4)) (arg7 := win0_5.stage (cfg0.slots t 5)) (harg7 := hstage0_5 ((cfg0.slots t 5).cast nbuf0_5)) (arg8 := win0_6.stage (cfg0.slots t 6)) (harg8 := hstage0_6 ((cfg0.slots t 6).cast nbuf0_6)) (arg9 := win0_7.stage (cfg0.slots t 7)) (harg9 := hstage0_7 ((cfg0.slots t 7).cast nbuf0_7)) (arg10 := win0_8.stage (cfg0.slots t 8)) (harg10 := hstage0_8 ((cfg0.slots t 8).cast nbuf0_8))
    (arg11 := sc11) (harg11 := Memref.isWhole_whole _) (arg12 := sc12) (harg12 := Memref.isWhole_whole _) (arg13 := sc13) (harg13 := Memref.isWhole_whole _) (arg14 := sc14) (harg14 := Memref.isWhole_whole _) (arg15 := sc15) (harg15 := Memref.isWhole_whole _) (arg16 := sc16) (harg16 := Memref.isWhole_whole _) (E := Set.univ)
    (x := iblk m c 0 t) (g := iblk m c 1 t) (w4 := iblk m c 2 t) (w5 := iblk m c 3 t) (p6 := iblk m c 4 t) (p7 := iblk m c 5 t) (b8 := iblk m c 6 t) (b9 := iblk m c 7 t)
    (o := (dats m 0 c).before 8 t d8) (u11 := u11) (u12 := u12) (t13 := t13) (t14 := t14) (cr := cr) (rs := rs)
  rw [q1, q2, q3, q4, q5, hB, outF_congr _ _ (constant S1024x512 .bf16 0x0000#16)] at key
  iapply (key (fun _ => bodyPost m c t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S11]; · iexact S11
  isplitl [S12]; · iexact S12
  isplitl [S13]; · iexact S13
  isplitl [S14]; · iexact S14
  isplitl [S15]; · iexact S15
  isplitl [S16]; · iexact S16
  iintro ⟨H0, H1, H2, H3, H4, H5, H6, H7, H8, S11, S12, S13, S14, S15, S16⟩
  unfold bodyPost
  rw [show (dats m 0 c).owesAt () t.succ = (dats m 0 c).owesAt () t.castSucc from rfl,
    after0_0, after0_1, after0_2, after0_3, after0_4, after0_5, after0_6, after0_7, after0_8]
  rw [show (dats m 0 c).Φ t.succ = Phi m c (t.val + 1) from rfl]
  unfold Phi
  isplitl [S11 S12 S13 S14 S15 S16 Hg]
  · isplitr [Hg]
    swap; · iexact Hg
    iexists wgT (blk m c) t, wvT (blk m c) t, tgT (blk m c) t, tvT (blk m c) t, carryF (opsT (blk m c) t) (cIn (blk m c) t), rAt (grid0.coords t) (iblk m c 0 t) rs; isplitr
    · ipureintro; exact ⟨step_W (blk m c) t, step_C (blk m c) t _, hR'⟩
    isplitl [S11]; · iexact S11
    isplitl [S12]; · iexact S12
    isplitl [S13]; · iexact S13
    isplitl [S14]; · iexact S14
    isplitl [S15]; · iexact S15
    iexact S16
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, PhiA_eq]
  unfold Phi
  iintro ⟨⟨⟨%u11, S11⟩, ⟨%u12, S12⟩, ⟨%t13, S13⟩, ⟨%t14, S14⟩, ⟨%cr, S15⟩, ⟨%rs, S16⟩⟩, Hg⟩
  isplitr [Hg]
  swap; · iexact Hg
  iexists u11, u12, t13, t14, cr, rs; isplitr
  · ipureintro
    exact ⟨fun t _ h => absurd rfl h, fun t _ h => absurd rfl h, fun b h => absurd h (Nat.not_lt_zero _)⟩
  isplitl [S11]; · iexact S11
  isplitl [S12]; · iexact S12
  isplitl [S13]; · iexact S13
  isplitl [S14]; · iexact S14
  isplitl [S15]; · iexact S15
  iexact S16

theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi
  iintro ⟨⟨%u11, %u12, %t13, %t14, %cr, %rs, -, S11, S12, S13, S14, S15, S16⟩, Hg⟩
  isplitr [Hg]
  swap; · iexact Hg
  isplitl [S11]; · iexists _; iexact S11
  isplitl [S12]; · iexists _; iexact S12
  isplitl [S13]; · iexists _; iexact S13
  isplitl [S14]; · iexists _; iexact S14
  isplitl [S15]; · iexists _; iexact S15
  iexists _; iexact S16

/-! ## The run and the frame -/

set_option backward.isDefEq.respectTransparency.types false in
/-- Every weakly fair execution ends, with the arrays at what the proof data names and the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and the counters at zero. -/
theorem frame_run : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4))
      ∧ r.2.sem = fun _ => 0) :=
  θ_run_and (frame_of m ρ (dats m) (A_eq m) (run_main m ρ)) ((θ_run defs _ _).mono (fun _ h => h.2) (run_main_quiescent m ρ))

end Cert.KernelIdeal15.FfnUp

end
-- ==== Proof.FfnUp3.Bits.lean ====
/- The frame of the kernel at bit patterns, from the one proof over any reading of the floats. -/
module

public import proofs.«01_k».proof.Proof.FfnUp3.Frame
public import proofs.«01_k».proof.Defs
public import proofs.«01_k».proof.Proof.Gen.Kernel15

@[expose] public section

set_option maxRecDepth 16384

noncomputable section

namespace Cert.Proof.FfnUp3

open Idealize.ShloMosaic Idealize.ShloMosaic.TcCoe Idealize.SL.Sem

theorem body_agree (i) (a2 h2 a3 h3 a4 h4 a5 h5 a6 h6 a7 h7 a8 h8 a9 h9 a10 h10 a11 h11 a12 h12 a13 h13 a14 h14 a15 h15 a16 h16) :
    Cert.KernelIdeal15.cc0_ffn_up_conv_gate (F := Bits) i a2 h2 a3 h3 a4 h4 a5 h5 a6 h6 a7 h7 a8 h8 a9 h9 a10 h10 a11 h11 a12 h12 a13 h13 a14 h14 a15 h15 a16 h16
    = Cert.Kernel15.cc0_ffn_up_conv_gate (F := Bits) i a2 h2 a3 h3 a4 h4 a5 h5 a6 h6 a7 h7 a8 h8 a9 h9 a10 h10 a11 h11 a12 h12 a13 h13 a14 h14 a15 h15 a16 h16 := by
  rfl

theorem defs₀_agree : Cert.KernelIdeal15.defs₀ (F := Bits) = Cert.Kernel15.defs₀ (F := Bits) := by
  unfold Cert.KernelIdeal15.defs₀ Cert.Kernel15.defs₀
  refine congrArg Defs.onTc (funext fun l => funext fun ts => ?_)
  obtain ⟨l, hl⟩ := l
  obtain rfl : l = 0 := by
    have : l < 1 := hl
    omega
  obtain ⟨t, s⟩ := ts
  exact body_agree ..

theorem defs_agree : Cert.KernelIdeal15.defs (F := Bits) = Cert.Kernel15.defs (F := Bits) :=
  congrArg (Pipeline.defs Cert.KernelIdeal15.pcfgs) defs₀_agree

theorem main_agree : Cert.KernelIdeal15.main (F := Bits) = Cert.Kernel15.main (F := Bits) := by
  rfl

/-- Every run of the kernel ends, with its arguments unchanged and its counters at zero. -/
theorem frame_bits (m : (ℓ : Loc Cert.Kernel15.nD Cert.Kernel15.τ Cert.Kernel15.sig) → Buf (Elt Bits) ℓ) (ρ : Dev Cert.Kernel15.nD → PrngReg) :
    θ_run (Cert.Kernel15.defs (F := Bits)) (onTc (τ := Cert.Kernel15.τ) (Cert.Kernel15.main (F := Bits))) ⟨m, fun _ => 0, ρ⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0) :=
by
  rw [← defs_agree, ← main_agree]
  exact Cert.KernelIdeal15.FfnUp.frame_run (F := Bits) m ρ

end Cert.Proof.FfnUp3

end
-- ==== Proof.FfnUp3.Out.lean ====
/- The output array after the launch. -/
module

public import proofs.«01_k».proof.Proof.FfnUp3.Frame
public import Idealize.ShloMosaic.Lib.Pipeline.Value

@[expose] public section

set_option maxRecDepth 65536

noncomputable section

namespace Cert.KernelIdeal15.FfnUp

open Idealize.ShloMosaic Idealize.ShloMosaic.TcCoe Idealize.SL.Sem
open Cert.KernelIdeal12.FfnUp (Blk outT outArr outT_congr ptOf locOf)
open Cert.KernelIdeal15 Cert.KernelIdeal15.Gen
open Idealize.ShloMosaic.Pipeline (Dat)

variable {F : FTy → Type} [FloatOps F]
variable (m : (ℓ : Loc nD τ sig) → Buf (Elt F) ℓ) (ρ : Dev nD → PrngReg)

/-- What the output array ends holding. -/
abbrev G (c : Dev nD) : Buf (Elt F) ((c.tc : Thread nD τ).loc main_v2) := outArr (blk m c)

theorem idx_facts : ∀ t : Fin cfg0.N, win0_8.index t (0 : Fin 2) ≤ 7 ∧ win0_8.index t (1 : Fin 2) ≤ 10 ∧ win0_8.index t (0 : Fin 2) + 8 * win0_8.index t (1 : Fin 2) = t.val :=
  (by decide +kernel : ∀ t : Fin grid0.N, _)

abbrev ontoPt (q0 : Fin 8) (q1 : Fin 11) : Fin grid0.N := ⟨q0.val + 8 * q1.val, lt_of_lt_of_eq (by omega) N_0.symm⟩
theorem idx_onto : ∀ (q0 : Fin 8) (q1 : Fin 11), ∃ t : Fin cfg0.N, (cfg0.win 8).flush t = true ∧ win0_8.index t = ![q0.val, q1.val] :=
  fun q0 q1 => ⟨ontoPt q0 q1, (by decide +kernel : ∀ (q0 : Fin 8) (q1 : Fin 11), win0_8.flush (ontoPt q0 q1) = true ∧ win0_8.index (ontoPt q0 q1) = ![q0.val, q1.val]) q0 q1⟩

/-- What a point writes back is its block of `G`. -/
theorem flushed_eq (c : Dev nD) (t : Fin cfg0.N) : (dats m 0 c).flushed 8 t = ((cfg0.win 8).blk t).view.read (Elt F) (G m c) := by
  show (cfg0.win 8).cut (grid0.coords t) ((dats m 0 c).after 8 t) = _
  rw [after0_8]
  obtain ⟨e0, e1, e2⟩ := idx_facts t
  funext y
  have hy0 : (y 0).val < 1024 := (y 0).isLt
  have hy1 : (y 1).val < 512 := (y 1).isLt
  have hb0 : (((cfg0.win 8).blk t).view.emb y 0).val = win0_8.index t (0 : Fin 2) * 1024 + 1 * (y 0).val := rfl
  have hb1 : (((cfg0.win 8).blk t).view.emb y 1).val = win0_8.index t (1 : Fin 2) * 512 + 1 * (y 1).val := rfl
  have hp : ptOf (((cfg0.win 8).blk t).view.emb y) = t.val := by
    show (((cfg0.win 8).blk t).view.emb y 0).val / 1024 + 8 * ((((cfg0.win 8).blk t).view.emb y 1).val / 512) = _
    rw [hb0, hb1]
    omega
  have hl : locOf (((cfg0.win 8).blk t).view.emb y) = (cfg0.win 8).xinj (grid0.coords t) y := by
    funext a; apply Fin.ext
    match a with
    | ⟨0, _⟩ => show (((cfg0.win 8).blk t).view.emb y 0).val % 1024 = (y 0).val; rw [hb0]; omega
    | ⟨1, _⟩ => show (((cfg0.win 8).blk t).view.emb y 1).val % 512 = (y 1).val; rw [hb1]; omega
  show outT (blk m c) t ((cfg0.win 8).xinj (grid0.coords t) y) = outArr (blk m c) (((cfg0.win 8).blk t).view.emb y)
  unfold outArr
  rw [dif_pos (by rw [hp]; exact t.isLt), hl]
  exact outT_congr (blk m c) _ _ (Fin.ext hp.symm) _

theorem mem_blk (t : Fin cfg0.N) (i : S8192x5632.Idx) :
    i ∈ ((cfg0.win 8).blk t).view.set ↔ ∀ a : Fin 2, win0_8.index t a * S1024x512.size a ≤ (i a).val ∧ (i a).val < win0_8.index t a * S1024x512.size a + S1024x512.size a := by
  show i ∈ ((View.whole main_v2).slice (win0_8.rect t)).set ↔ _
  rw [View.set_slice_whole, Rect.mem_set_unit]
  exact Iff.rfl

theorem covered (i : S8192x5632.Idx) : ∃ t : Fin cfg0.N, (cfg0.win 8).flush t = true ∧ i ∈ ((cfg0.win 8).blk t).view.set := by
  have hi0 : (i 0).val < 8192 := (i 0).isLt
  have hi1 : (i 1).val < 5632 := (i 1).isLt
  obtain ⟨t, hft, ht⟩ := idx_onto ⟨(i 0).val / 1024, by omega⟩ ⟨(i 1).val / 512, by omega⟩
  have q0 : win0_8.index t (0 : Fin 2) = (i 0).val / 1024 := congrFun ht 0
  have q1 : win0_8.index t (1 : Fin 2) = (i 1).val / 512 := congrFun ht 1
  refine ⟨t, hft, ?_⟩
  rw [mem_blk]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 512 ≤ (i 1).val ∧ (i 1).val < win0_8.index t (1 : Fin 2) * 512 + 512; omega

/-- The output array after the run. -/
theorem final (c : Dev nD) : (dats m 0 c).arrAt 8 cfg0.N = G m c :=
  (dats m 0 c).arrAt_eq_of_cover 8 _ (fun t _ => flushed_eq m c t) covered

/-- The run: the output array at what the points compute, the arguments unchanged. -/
theorem run : θ_run defs (onTc (τ := τ) (main (F := F))) ⟨m, fun _ => 0, ρ⟩ fun r => ∀ c : Dev nD,
      r.2.mem (c.tc.loc main_v2) = G m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun r h c => ⟨((h.1 c).1 8).trans (final m c), h.2 c⟩) (θ_run_and (run_main m ρ) (frame_of m ρ (dats m) (A_eq m) (run_main m ρ)))

end Cert.KernelIdeal15.FfnUp

end
-- ==== Proof.FfnUp3.Read.lean ====
/- The blocks that a point sees, read off the arguments. -/
module

public import proofs.«01_k».proof.Proof.FfnUp.Value
public import proofs.«01_k».proof.Proof.FfnUp3.Out
public import Idealize.ShloMosaic.Lib.Pointwise
public import Idealize.ShloMosaic.Lib.Tactic

@[expose] public section

set_option maxRecDepth 16384

noncomputable section

namespace Cert.KernelIdeal15.FfnUp

open Idealize.ShloMosaic Idealize.ShloMosaic.TcCoe Idealize.ShloMosaic.Tactic Idealize.SL.Sem
open Cert.KernelIdeal12.FfnUp (Reads outArr_apply)
open Cert.KernelIdeal15 Cert.KernelIdeal15.Gen

variable (m : (ℓ : Loc nD τ sig) → Buf (Elt Ideal) ℓ)

/-- The gains, as the host leaves them for the call. -/
theorem V_main_v0 (c : Dev nD) : (V m c main_v0 : Vec Ideal S4x2048x1 .f32)
    = shapeCast S4x2048x1 (m (c.tc.loc main_arg1)) facts.shapeCasts_S4x2048_S4x2048x1 := by
  show StableHlo.after hostOps0 (fun b => m (c, b)) main_v0 = _
  after_results <;> rfl

/-- The biases, as the host leaves them for the call. -/
theorem V_main_v1 (c : Dev nD) : (V m c main_v1 : Vec Ideal S4x1x11264 .f32)
    = shapeCast S4x1x11264 (m (c.tc.loc main_arg4)) facts.shapeCasts_S4x11264_S4x1x11264 := by
  show StableHlo.after hostOps0 (fun b => m (c, b)) main_v1 = _
  after_results <;> rfl

theorem bias_cast (B : Vec Ideal S4x11264 .f32) (j : Fin 11264) :
    shapeCast S4x1x11264 B facts.shapeCasts_S4x11264_S4x1x11264 (ix3 3 0 j) = B (ix2 3 j) := by
  pointwise

/-- The rows of the activation that point `t` sees. -/
theorem iblk0_apply (c : Dev nD) (t : Fin cfg0.N) (r : Fin 1024) (k : Fin 2048) (h : t.val % 8 * 1024 + r.val < 8192) :
    (iblk m c 0 t : Vec Ideal S1024x2048 .f32) (ix2 r k) = m (c.tc.loc main_arg0) (ix2 ⟨t.val % 8 * 1024 + r.val, h⟩ k) := by
  have hi : ∀ t : Fin cfg0.N, win0_0.index t 0 = t.val % 8 ∧ win0_0.index t 1 = 0 := (by decide +kernel : ∀ t : Fin grid0.N, _)
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = t.val % 8 * 1024 + r.val; rw [(hi t).1]; omega
  | ⟨1, _⟩ => show win0_0.index t 1 * 2048 + 1 * k.val = k.val; rw [(hi t).2]; omega

/-- The gains that point `t` sees. -/
theorem iblk1_apply (c : Dev nD) (t : Fin cfg0.N) (k : Fin 2048) :
    (iblk m c 1 t : Vec Ideal S1x2048x1 .f32) (ix3 0 k 0) = m (c.tc.loc main_arg1) (ix2 3 k) := by
  have hi : ∀ t : Fin cfg0.N, win0_1.index t 0 = 3 ∧ win0_1.index t 1 = 0 ∧ win0_1.index t 2 = 0 := (by decide +kernel : ∀ t : Fin grid0.N, _)
  have e : (iblk m c 1 t : Vec Ideal S1x2048x1 .f32) (ix3 0 k 0) = (V m c main_v0 : Vec Ideal S4x2048x1 .f32) (ix3 3 k 0) := by
    unfold iblk
    rw [View.read_apply]
    show V m c main_v0 _ = V m c main_v0 _
    congr 1
    funext a
    apply Fin.ext
    match a with
    | ⟨0, _⟩ => show win0_1.index t 0 * 1 + 1 * 0 = 3; rw [(hi t).1]
    | ⟨1, _⟩ => show win0_1.index t 1 * 2048 + 1 * k.val = k.val; rw [(hi t).2.1]; omega
    | ⟨2, _⟩ => show win0_1.index t 2 * 1 + 1 * 0 = 0; rw [(hi t).2.2]
  rw [e, V_main_v0]
  pointwise

/-- The weights of the gate half that point `t` sees. -/
theorem iblk2_apply (c : Dev nD) (t : Fin cfg0.N) (k : Fin 2048) (j : Fin 512) (h : t.val / 8 * 512 + j.val < 11264) :
    (iblk m c 2 t : Vec Ideal S1x2048x512 .f32) (ix3 0 k j) = m (c.tc.loc main_arg2) (ix3 3 k ⟨t.val / 8 * 512 + j.val, h⟩) := by
  have hi : ∀ t : Fin cfg0.N, win0_2.index t 0 = 3 ∧ win0_2.index t 1 = 0 ∧ win0_2.index t 2 = t.val / 8 := (by decide +kernel : ∀ t : Fin grid0.N, _)
  unfold iblk
  rw [View.read_apply]
  show V m c main_arg2 _ = m (c.tc.loc main_arg2) _
  rw [V_main_arg2]
  congr 1
  funext a
  apply Fin.ext
  match a with
  | ⟨0, _⟩ => show win0_2.index t 0 * 1 + 1 * 0 = 3; rw [(hi t).1]
  | ⟨1, _⟩ => show win0_2.index t 1 * 2048 + 1 * k.val = k.val; rw [(hi t).2.1]; omega
  | ⟨2, _⟩ => show win0_2.index t 2 * 512 + 1 * j.val = t.val / 8 * 512 + j.val; rw [(hi t).2.2]; omega

/-- The taps of the gate half that point `t` sees. -/
theorem iblk4_apply (c : Dev nD) (t : Fin cfg0.N) (k : Fin 3) (j : Fin 512) (h : t.val / 8 * 512 + j.val < 11264) :
    (iblk m c 4 t : Vec Ideal S1x3x512 .f32) (ix3 0 k j) = m (c.tc.loc main_arg3) (ix3 3 k ⟨t.val / 8 * 512 + j.val, h⟩) := by
  have hi : ∀ t : Fin cfg0.N, win0_4.index t 0 = 3 ∧ win0_4.index t 1 = 0 ∧ win0_4.index t 2 = t.val / 8 := (by decide +kernel : ∀ t : Fin grid0.N, _)
  unfold iblk
  rw [View.read_apply]
  show V m c main_arg3 _ = m (c.tc.loc main_arg3) _
  rw [V_main_arg3]
  congr 1
  funext a
  apply Fin.ext
  match a with
  | ⟨0, _⟩ => show win0_4.index t 0 * 1 + 1 * 0 = 3; rw [(hi t).1]
  | ⟨1, _⟩ => show win0_4.index t 1 * 3 + 1 * k.val = k.val; rw [(hi t).2.1]; omega
  | ⟨2, _⟩ => show win0_4.index t 2 * 512 + 1 * j.val = t.val / 8 * 512 + j.val; rw [(hi t).2.2]; omega

/-- The biases of the gate half that point `t` sees. -/
theorem iblk6_apply (c : Dev nD) (t : Fin cfg0.N) (j : Fin 512) (h : t.val / 8 * 512 + j.val < 11264) :
    (iblk m c 6 t : Vec Ideal S1x1x512 .f32) (ix3 0 0 j) = m (c.tc.loc main_arg4) (ix2 3 ⟨t.val / 8 * 512 + j.val, h⟩) := by
  have hi : ∀ t : Fin cfg0.N, win0_6.index t 0 = 3 ∧ win0_6.index t 1 = 0 ∧ win0_6.index t 2 = t.val / 8 := (by decide +kernel : ∀ t : Fin grid0.N, _)
  have e : (iblk m c 6 t : Vec Ideal S1x1x512 .f32) (ix3 0 0 j) = (V m c main_v1 : Vec Ideal S4x1x11264 .f32) (ix3 3 0 ⟨t.val / 8 * 512 + j.val, h⟩) := by
    unfold iblk
    rw [View.read_apply]
    show V m c main_v1 _ = V m c main_v1 _
    congr 1
    funext a
    apply Fin.ext
    match a with
    | ⟨0, _⟩ => show win0_6.index t 0 * 1 + 1 * 0 = 3; rw [(hi t).1]
    | ⟨1, _⟩ => show win0_6.index t 1 * 1 + 1 * 0 = 0; rw [(hi t).2.1]
    | ⟨2, _⟩ => show win0_6.index t 2 * 512 + 1 * j.val = t.val / 8 * 512 + j.val; rw [(hi t).2.2]; omega
  rw [e, V_main_v1]
  exact bias_cast _ _

/-- The weights of the value half that point `t` sees. -/
theorem iblk3_apply (c : Dev nD) (t : Fin cfg0.N) (k : Fin 2048) (j : Fin 512) (h : 5632 + t.val / 8 * 512 + j.val < 11264) :
    (iblk m c 3 t : Vec Ideal S1x2048x512 .f32) (ix3 0 k j) = m (c.tc.loc main_arg2) (ix3 3 k ⟨5632 + t.val / 8 * 512 + j.val, h⟩) := by
  have hi : ∀ t : Fin cfg0.N, win0_3.index t 0 = 3 ∧ win0_3.index t 1 = 0 ∧ win0_3.index t 2 = t.val / 8 + 11 := (by decide +kernel : ∀ t : Fin grid0.N, _)
  unfold iblk
  rw [View.read_apply]
  show V m c main_arg2 _ = m (c.tc.loc main_arg2) _
  rw [V_main_arg2]
  congr 1
  funext a
  apply Fin.ext
  match a with
  | ⟨0, _⟩ => show win0_3.index t 0 * 1 + 1 * 0 = 3; rw [(hi t).1]
  | ⟨1, _⟩ => show win0_3.index t 1 * 2048 + 1 * k.val = k.val; rw [(hi t).2.1]; omega
  | ⟨2, _⟩ => show win0_3.index t 2 * 512 + 1 * j.val = 5632 + t.val / 8 * 512 + j.val; rw [(hi t).2.2]; omega

/-- The taps of the value half that point `t` sees. -/
theorem iblk5_apply (c : Dev nD) (t : Fin cfg0.N) (k : Fin 3) (j : Fin 512) (h : 5632 + t.val / 8 * 512 + j.val < 11264) :
    (iblk m c 5 t : Vec Ideal S1x3x512 .f32) (ix3 0 k j) = m (c.tc.loc main_arg3) (ix3 3 k ⟨5632 + t.val / 8 * 512 + j.val, h⟩) := by
  have hi : ∀ t : Fin cfg0.N, win0_5.index t 0 = 3 ∧ win0_5.index t 1 = 0 ∧ win0_5.index t 2 = t.val / 8 + 11 := (by decide +kernel : ∀ t : Fin grid0.N, _)
  unfold iblk
  rw [View.read_apply]
  show V m c main_arg3 _ = m (c.tc.loc main_arg3) _
  rw [V_main_arg3]
  congr 1
  funext a
  apply Fin.ext
  match a with
  | ⟨0, _⟩ => show win0_5.index t 0 * 1 + 1 * 0 = 3; rw [(hi t).1]
  | ⟨1, _⟩ => show win0_5.index t 1 * 3 + 1 * k.val = k.val; rw [(hi t).2.1]; omega
  | ⟨2, _⟩ => show win0_5.index t 2 * 512 + 1 * j.val = 5632 + t.val / 8 * 512 + j.val; rw [(hi t).2.2]; omega

/-- The biases of the value half that point `t` sees. -/
theorem iblk7_apply (c : Dev nD) (t : Fin cfg0.N) (j : Fin 512) (h : 5632 + t.val / 8 * 512 + j.val < 11264) :
    (iblk m c 7 t : Vec Ideal S1x1x512 .f32) (ix3 0 0 j) = m (c.tc.loc main_arg4) (ix2 3 ⟨5632 + t.val / 8 * 512 + j.val, h⟩) := by
  have hi : ∀ t : Fin cfg0.N, win0_7.index t 0 = 3 ∧ win0_7.index t 1 = 0 ∧ win0_7.index t 2 = t.val / 8 + 11 := (by decide +kernel : ∀ t : Fin grid0.N, _)
  have e : (iblk m c 7 t : Vec Ideal S1x1x512 .f32) (ix3 0 0 j) = (V m c main_v1 : Vec Ideal S4x1x11264 .f32) (ix3 3 0 ⟨5632 + t.val / 8 * 512 + j.val, h⟩) := by
    unfold iblk
    rw [View.read_apply]
    show V m c main_v1 _ = V m c main_v1 _
    congr 1
    funext a
    apply Fin.ext
    match a with
    | ⟨0, _⟩ => show win0_7.index t 0 * 1 + 1 * 0 = 3; rw [(hi t).1]
    | ⟨1, _⟩ => show win0_7.index t 1 * 1 + 1 * 0 = 0; rw [(hi t).2.1]
    | ⟨2, _⟩ => show win0_7.index t 2 * 512 + 1 * j.val = 5632 + t.val / 8 * 512 + j.val; rw [(hi t).2.2]; omega
  rw [e, V_main_v1]
  exact bias_cast _ _

/-- The blocks are those of this layer's slices of the arguments. -/
theorem reads (c : Dev nD) : Reads (blk m c) (m (c.tc.loc main_arg0)) (fun k => m (c.tc.loc main_arg1) (ix2 3 k)) (fun k j => m (c.tc.loc main_arg2) (ix3 3 k j))
    (fun k j => m (c.tc.loc main_arg3) (ix3 3 k j)) (fun j => m (c.tc.loc main_arg4) (ix2 3 j)) where
  x := fun t r k h => iblk0_apply m c t r k h
  g := fun t k => iblk1_apply m c t k
  w4 := fun t k j h => iblk2_apply m c t k j h
  w5 := fun t k j h => iblk3_apply m c t k j h
  p6 := fun t k j h => iblk4_apply m c t k j h
  p7 := fun t k j h => iblk5_apply m c t k j h
  b8 := fun t j h => iblk6_apply m c t j h
  b9 := fun t j h => iblk7_apply m c t j h

/-- The output array, index by index. -/
theorem G_apply (c : Dev nD) (r : Fin 8192) (j : Fin 5632) : G m c (ix2 r j)
    = Cert.ReferenceIdeal12.FfnUp.result (m (c.tc.loc main_arg0)) (fun k => m (c.tc.loc main_arg1) (ix2 3 k)) (fun k j => m (c.tc.loc main_arg2) (ix3 3 k j))
        (fun k j => m (c.tc.loc main_arg3) (ix3 3 k j)) (fun j => m (c.tc.loc main_arg4) (ix2 3 j)) r j := outArr_apply (reads m c) r j

end Cert.KernelIdeal15.FfnUp

end
-- ==== Proof.FfnUp3.Ref.lean ====
/- The reference of layer 3, from the slices of its arguments. -/
module

public import proofs.«01_k».proof.Proof.FfnUp.RefTerm
public import proofs.«01_k».proof.Proof.Gen.ReferenceIdeal15.Run

@[expose] public section

set_option maxRecDepth 16384

noncomputable section

namespace Cert.ReferenceIdeal15.FfnUp

open Idealize.ShloMosaic Idealize.ShloMosaic.TcCoe Idealize.SL.Sem
open Cert.ReferenceIdeal15 Cert.ReferenceIdeal15.Gen Cert.ReferenceIdeal15.Value
open Cert.ReferenceIdeal12.FfnUp (termU termY termO padded result term_apply)

theorem res_eq (m : (ℓ : Loc nD τ sig) → Buf (Elt Ideal) ℓ) (c : Dev nD) :
    res_main_v56 (F := Ideal) m c = termO (termY
      (shapeCast _ (extractStridedSlice S1x1x11264 ![3, 0, 0] (m (c.tc.loc main_arg3)) slices_S4x3x11264_S1x1x11264_3_0_0) shapeCasts_S1x1x11264_S11264)
      (shapeCast _ (extractStridedSlice S1x1x11264 ![3, 1, 0] (m (c.tc.loc main_arg3)) slices_S4x3x11264_S1x1x11264_3_1_0) shapeCasts_S1x1x11264_S11264)
      (shapeCast _ (extractStridedSlice S1x1x11264 ![3, 2, 0] (m (c.tc.loc main_arg3)) slices_S4x3x11264_S1x1x11264_3_2_0) shapeCasts_S1x1x11264_S11264)
      (shapeCast _ (extractStridedSlice S1x11264 ![3, 0] (m (c.tc.loc main_arg4)) slices_S4x11264_S1x11264_3_0) shapeCasts_S1x11264_S11264)
      (termU (m (c.tc.loc main_arg0))
        (shapeCast _ (extractStridedSlice S1x2048 ![3, 0] (m (c.tc.loc main_arg1)) slices_S4x2048_S1x2048_3_0) shapeCasts_S1x2048_S2048)
        (shapeCast _ (extractStridedSlice S1x2048x11264 ![3, 0, 0] (m (c.tc.loc main_arg2)) slices_S4x2048x11264_S1x2048x11264_3_0_0) shapeCasts_S1x2048x11264_S2048x11264))) := by
  unfold res_main_v56 termO termY termU padded
  rfl

theorem gain_apply (g : FVec Ideal S4x2048 .f32) (k : Fin 2048) :
    (shapeCast S2048 (extractStridedSlice S1x2048 ![3, 0] g slices_S4x2048_S1x2048_3_0) shapeCasts_S1x2048_S2048) (ix1 k) = g (ix2 3 k) := by pointwise
theorem weight_apply (w : FVec Ideal S4x2048x11264 .f32) (k : Fin 2048) (j : Fin 11264) :
    (shapeCast S2048x11264 (extractStridedSlice S1x2048x11264 ![3, 0, 0] w slices_S4x2048x11264_S1x2048x11264_3_0_0) shapeCasts_S1x2048x11264_S2048x11264) (ix2 k j) = w (ix3 3 k j) := by pointwise
theorem tap0_apply (p : FVec Ideal S4x3x11264 .f32) (j : Fin 11264) :
    (shapeCast S11264 (extractStridedSlice S1x1x11264 ![3, 0, 0] p slices_S4x3x11264_S1x1x11264_3_0_0) shapeCasts_S1x1x11264_S11264) (ix1 j) = p (ix3 3 0 j) := by pointwise
theorem tap1_apply (p : FVec Ideal S4x3x11264 .f32) (j : Fin 11264) :
    (shapeCast S11264 (extractStridedSlice S1x1x11264 ![3, 1, 0] p slices_S4x3x11264_S1x1x11264_3_1_0) shapeCasts_S1x1x11264_S11264) (ix1 j) = p (ix3 3 1 j) := by pointwise
theorem tap2_apply (p : FVec Ideal S4x3x11264 .f32) (j : Fin 11264) :
    (shapeCast S11264 (extractStridedSlice S1x1x11264 ![3, 2, 0] p slices_S4x3x11264_S1x1x11264_3_2_0) shapeCasts_S1x1x11264_S11264) (ix1 j) = p (ix3 3 2 j) := by pointwise
theorem bias_apply (b : FVec Ideal S4x11264 .f32) (j : Fin 11264) :
    (shapeCast S11264 (extractStridedSlice S1x11264 ![3, 0] b slices_S4x11264_S1x11264_3_0) shapeCasts_S1x11264_S11264) (ix1 j) = b (ix2 3 j) := by pointwise

/-- The reference's result, index by index. -/
theorem res_apply (m : (ℓ : Loc nD τ sig) → Buf (Elt Ideal) ℓ) (c : Dev nD) (r : Fin 8192) (j : Fin 5632) :
    res_main_v56 (F := Ideal) m c (ix2 r j)
      = result (m (c.tc.loc main_arg0)) (fun k => m (c.tc.loc main_arg1) (ix2 3 k)) (fun k j => m (c.tc.loc main_arg2) (ix3 3 k j))
        (fun k j => m (c.tc.loc main_arg3) (ix3 3 k j)) (fun j => m (c.tc.loc main_arg4) (ix2 3 j)) r j := by
  rw [res_eq]
  exact term_apply _ _ _ _ _ _ _ _ _ _ _ (gain_apply _) (weight_apply _) (tap0_apply _) (tap1_apply _) (tap2_apply _) (bias_apply _) r j

end Cert.ReferenceIdeal15.FfnUp

end
-- ==== Proof.InXbc.Math.lean ====
/- The arithmetic of a point of the scan's input call: a projection, a causal convolution of four taps, and a gate. -/
module

public import proofs.«01_k».proof.Defs
public import proofs.«01_k».proof.Proof.Gen.KernelIdeal16.Value
public import Idealize.ShloMosaic.Lib.Pointwise
public import Idealize.ShloMosaic.Lib.Pointwise.Sums
public import Idealize.ShloMosaic.Lib.Tactic
public import Idealize.ShloMosaic.Lib.Pipeline.Value

@[expose] public section

set_option maxRecDepth 65536

noncomputable section

namespace Cert.KernelIdeal16.InXbc

open Idealize.ShloMosaic Idealize.ShloMosaic.TcCoe Idealize.SL.Sem
open Cert.KernelIdeal16 Cert.KernelIdeal16.Gen

/-- A load of a buffer that has been written piece by piece reads the pieces' contents. -/
theorem readCov_ld {sig : RefSig} {κ : Kind} {sp : Space} (v : View sig κ sp S5x8x1024 .f32) (L : List (View.Piece (Elt Ideal) S5x8x1024 .f32)) (r : Rect S5x8x1024) :
    v.readCov L r.toLoadRect = View.ld (View.canon L) r := View.readCov_eq_canon' v L r.toLoadRect

/-- 32 copies of 8 rows. -/
def rep (v : Vec Ideal S1x8x1024 .f32) : FVec Ideal S256x1024 .f32 :=
  concatenate S256x1024 0 (List.replicate 32 ⟨S8x1024, shapeCast S8x1024 v shapeCasts_S1x8x1024_S8x1024⟩) concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S256x1024_d0

theorem rep_apply (v : Vec Ideal S1x8x1024 .f32) (y0 : Fin 256) (y1 : Fin 1024) : rep v (ix2 y0 y1) = v (ix3 0 ⟨y0.val % 8, Nat.mod_lt _ (by decide)⟩ y1) := by
  unfold rep
  refine (concatenate_replicate_apply (t := S256x1024) (s₁ := S8x1024) 0 32 (shapeCast S8x1024 v shapeCasts_S1x8x1024_S8x1024) _ rfl (ix2 y0 y1) (ix2 ⟨y0.val % 8, Nat.mod_lt _ (by decide)⟩ y1) rfl
    (fun b hb => by match b with | ⟨0, _⟩ => exact absurd rfl hb | ⟨1, _⟩ => rfl)).trans ?_
  pointwise

/-- The rows of a chunk with the 8 rows before it. -/
def ext (c : FVec Ideal S8x1024 .f32) (u : FVec Ideal S256x1024 .f32) : FVec Ideal S264x1024 .f32 :=
  concatenate S264x1024 0 [⟨S8x1024, c⟩, ⟨S256x1024, u⟩] concatenates_S8x1024_S256x1024_S264x1024_d0

theorem ext_apply (c : FVec Ideal S8x1024 .f32) (u : FVec Ideal S256x1024 .f32) (i : Fin 264) (y1 : Fin 1024) :
    ext c u (ix2 i y1) = if h : i.val < 8 then c (ix2 ⟨i.val, h⟩ y1) else u (ix2 ⟨i.val - 8, by omega⟩ y1) := by
  unfold ext
  pointwise

/-- Row `k` of the table of taps and bias: 8 equal rows. -/
def row (T : Vec Ideal S5x8x1024 .f32) (k : Fin 5) : Vec Ideal S1x8x1024 .f32 :=
  View.ld T (Rect.unit (s := S5x8x1024) ![k.val, 0, 0] S1x8x1024.size (by decide +revert))

theorem row_apply (T : Vec Ideal S5x8x1024 .f32) (k : Fin 5) (e : Fin 8) (j : Fin 1024) : row T k (ix3 0 e j) = T (ix3 k e j) := by
  refine congrArg T (funext fun a => Fin.ext ?_)
  match a with
  | ⟨0, _⟩ => show k.val + 1 * 0 = k.val; omega
  | ⟨1, _⟩ => show 0 + 1 * e.val = e.val; omega
  | ⟨2, _⟩ => show 0 + 1 * j.val = j.val; omega

/-- The convolution of 256 rows before the gate. -/
def conv (c : FVec Ideal S8x1024 .f32) (u : FVec Ideal S256x1024 .f32) (T : Vec Ideal S5x8x1024 .f32) : FVec Ideal S256x1024 .f32 :=
  addf (F := Ideal) (φ := .f32) (addf (F := Ideal) (φ := .f32) (addf (F := Ideal) (φ := .f32) (addf (F := Ideal) (φ := .f32) (mulf (F := Ideal) (φ := .f32) u (rep (row T 3))) (rep (row T 4)))
    (mulf (F := Ideal) (φ := .f32) (extractStridedSlice S256x1024 ![5, 0] (ext c u) slices_S264x1024_o5_0_S256x1024) (rep (row T 0))))
    (mulf (F := Ideal) (φ := .f32) (extractStridedSlice S256x1024 ![6, 0] (ext c u) slices_S264x1024_o6_0_S256x1024) (rep (row T 1))))
    (mulf (F := Ideal) (φ := .f32) (extractStridedSlice S256x1024 ![7, 0] (ext c u) slices_S264x1024_o7_0_S256x1024) (rep (row T 2)))

/-- The convolution of 256 rows with its gate. -/
def chunk (c : FVec Ideal S8x1024 .f32) (u : FVec Ideal S256x1024 .f32) (T : Vec Ideal S5x8x1024 .f32) : FVec Ideal S256x1024 .f32 :=
  mulf (F := Ideal) (φ := .f32) (conv c u T) (logistic (F := Ideal) (φ := .f32) (conv c u T))

theorem conv_apply (c : FVec Ideal S8x1024 .f32) (u : FVec Ideal S256x1024 .f32) (T : Vec Ideal S5x8x1024 .f32) (y0 : Fin 256) (y1 : Fin 1024) :
    conv c u T (ix2 y0 y1)
      = u (ix2 y0 y1) * T (ix3 3 ⟨y0.val % 8, Nat.mod_lt _ (by decide)⟩ y1) + T (ix3 4 ⟨y0.val % 8, Nat.mod_lt _ (by decide)⟩ y1)
        + ext c u (ix2 ⟨5 + y0.val, by omega⟩ y1) * T (ix3 0 ⟨y0.val % 8, Nat.mod_lt _ (by decide)⟩ y1)
        + ext c u (ix2 ⟨6 + y0.val, by omega⟩ y1) * T (ix3 1 ⟨y0.val % 8, Nat.mod_lt _ (by decide)⟩ y1)
        + ext c u (ix2 ⟨7 + y0.val, by omega⟩ y1) * T (ix3 2 ⟨y0.val % 8, Nat.mod_lt _ (by decide)⟩ y1) := by
  rw [← row_apply T 0, ← row_apply T 1, ← row_apply T 2, ← row_apply T 3, ← row_apply T 4, ← rep_apply (row T 0), ← rep_apply (row T 1), ← rep_apply (row T 2), ← rep_apply (row T 3),
    ← rep_apply (row T 4)]
  unfold conv
  pointwise

/-- The value times its logistic. -/
def gateAt (a : EReal) : EReal := a * Ideal.logistic a

theorem chunk_apply (c : FVec Ideal S8x1024 .f32) (u : FVec Ideal S256x1024 .f32) (T : Vec Ideal S5x8x1024 .f32) (y : S256x1024.Idx) :
    chunk c u T y = gateAt (conv c u T y) := rfl

/-- The product of a row with a weight column. -/
def P (x : Vec Ideal S1024x2048 .bf16) (w : Vec Ideal S2048x1024 .bf16) (r : Fin 1024) (j : Fin 1024) : EReal :=
  ∑ k : Fin 2048, x (ix2 r k) * w (ix2 k j)

/-- The product of the row that lies `d` rows back, in the block or in the 8 rows before it. -/
def back (x : Vec Ideal S1024x2048 .bf16) (w : Vec Ideal S2048x1024 .bf16) (q : Vec Ideal S1x8x1024 .f32) (d : ℕ) (r : Fin 1024) (j : Fin 1024) : EReal :=
  if h : d ≤ r.val then P x w ⟨r.val - d, by omega⟩ j else q (ix3 0 ⟨8 + r.val - d, by omega⟩ j)

/-- What a point leaves in the output block at a row and a column. -/
def blockAt (x : Vec Ideal S1024x2048 .bf16) (w : Vec Ideal S2048x1024 .bf16) (T : Vec Ideal S5x8x1024 .f32) (q : Vec Ideal S1x8x1024 .f32) (r : Fin 1024) (j : Fin 1024) : EReal :=
  gateAt (P x w r j * T (ix3 3 ⟨r.val % 8, Nat.mod_lt _ (by decide)⟩ j) + T (ix3 4 ⟨r.val % 8, Nat.mod_lt _ (by decide)⟩ j)
    + back x w q 3 r j * T (ix3 0 ⟨r.val % 8, Nat.mod_lt _ (by decide)⟩ j)
    + back x w q 2 r j * T (ix3 1 ⟨r.val % 8, Nat.mod_lt _ (by decide)⟩ j)
    + back x w q 1 r j * T (ix3 2 ⟨r.val % 8, Nat.mod_lt _ (by decide)⟩ j))

/-- What a point leaves in the output block. -/
def blockOut (x : Vec Ideal S1024x2048 .bf16) (w : Vec Ideal S2048x1024 .bf16) (T : Vec Ideal S5x8x1024 .f32) (q : Vec Ideal S1x8x1024 .f32) : Vec Ideal S1024x1024 .f32 :=
  fun y => blockAt x w T q (y 0) (y 1)

/-- The last 8 products of a block. -/
def last (x : Vec Ideal S1024x2048 .bf16) (w : Vec Ideal S2048x1024 .bf16) : Vec Ideal S1x8x1024 .f32 :=
  fun y => P x w ⟨1016 + (y 1).val, by have := (y 1).isLt; show 1016 + (y 1).val < 1024; have h : S1x8x1024.size 1 = 8 := rfl; omega⟩ (y 2)

/-- The taps and the bias, each on 8 rows. -/
def taps (p : Vec Ideal S1x4x1024 .f32) (b : Vec Ideal S1x1x1024 .f32) : Vec Ideal S5x8x1024 .f32 :=
  fun y => if h : (y 0).val < 4 then p (ix3 0 ⟨(y 0).val, h⟩ (y 2)) else b (ix3 0 0 (y 2))

/-- The products of the 256 rows from row `o`. -/
def prod (o : ℕ) (hx : ∀ a, (![o, 0] : Fin 2 → ℕ) a + S256x2048.size a ≤ S1024x2048.size a) (x : Vec Ideal S1024x2048 .bf16) (w : Vec Ideal S2048x1024 .bf16) : FVec Ideal S256x1024 .f32 :=
  k0_pay11 (F := Ideal) (View.ld x (Rect.unit (s := S1024x2048) ![o, 0] S256x2048.size hx)) w

theorem prod_apply (o : ℕ) (hx : ∀ a, (![o, 0] : Fin 2 → ℕ) a + S256x2048.size a ≤ S1024x2048.size a) (x : Vec Ideal S1024x2048 .bf16) (w : Vec Ideal S2048x1024 .bf16)
    (y0 : Fin 256) (y1 : Fin 1024) (h : o + y0.val < 1024) : prod o hx x w (ix2 y0 y1) = P x w ⟨o + y0.val, h⟩ y1 := by
  unfold prod P
  obtain ⟨X, hX⟩ : ∃ X, X = View.ld x (Rect.unit (s := S1024x2048) ![o, 0] S256x2048.size hx) := ⟨_, rfl⟩
  rw [← hX]
  have e : ∀ k : Fin 2048, X (ix2 y0 k) = x (ix2 ⟨o + y0.val, h⟩ k) := fun k => by
    rw [hX]
    refine congrArg x (funext fun a => Fin.ext ?_)
    match a with
    | ⟨0, _⟩ => show o + 1 * y0.val = o + y0.val; omega
    | ⟨1, _⟩ => show 0 + 1 * k.val = k.val; omega
  simp only [← e]
  pointwise [k0_pay11]

/-- The last 8 rows of 256. -/
def tail (u : FVec Ideal S256x1024 .f32) : FVec Ideal S8x1024 .f32 := extractStridedSlice S8x1024 ![248, 0] u slices_S256x1024_o248_0_S8x1024

theorem tail_apply (u : FVec Ideal S256x1024 .f32) (e : Fin 8) (j : Fin 1024) : tail u (ix2 e j) = u (ix2 ⟨248 + e.val, by omega⟩ j) := by
  pointwise [tail]

theorem head_apply (q : Vec Ideal S1x8x1024 .f32) (e : Fin 8) (j : Fin 1024) : (shapeCast S8x1024 q shapeCasts_S1x8x1024_S8x1024) (ix2 e j) = q (ix3 0 e j) := by
  pointwise

/-- A chunk's rows are those of the block, when the 8 rows before it are the block's too. -/
theorem rows_apply (o : ℕ) (hx : ∀ a, (![o, 0] : Fin 2 → ℕ) a + S256x2048.size a ≤ S1024x2048.size a)
    (hr : ∀ a, (![o, 0] : Fin 2 → ℕ) a + S256x1024.size a ≤ S1024x1024.size a) (h8 : o % 8 = 0)
    (x : Vec Ideal S1024x2048 .bf16) (w : Vec Ideal S2048x1024 .bf16) (T : Vec Ideal S5x8x1024 .f32) (q : Vec Ideal S1x8x1024 .f32) (c : FVec Ideal S8x1024 .f32)
    (hc : ∀ (e : Fin 8) (j : Fin 1024), c (ix2 e j) = if h : 8 ≤ o + e.val ∧ o + e.val < 1024 then P x w ⟨o + e.val - 8, by omega⟩ j else q (ix3 0 e j)) (y : S256x1024.Idx) :
    chunk c (prod o hx x w) T y = blockOut x w T q ((Rect.unit (s := S1024x1024) ![o, 0] S256x1024.size hr).emb y) := by
  have ho : o + 256 ≤ 1024 := hr 0
  idx_vars y
  have e0 : (Rect.unit (s := S1024x1024) ![o, 0] S256x1024.size hr).emb (ix2 y0 y1) = ix2 ⟨o + y0.val, by omega⟩ y1 := by
    refine funext fun a => Fin.ext ?_
    match a with
    | ⟨0, _⟩ => show o + 1 * y0.val = o + y0.val; omega
    | ⟨1, _⟩ => show 0 + 1 * y1.val = y1.val; omega
  have hy := y0.isLt
  have hb : ∀ (d : ℕ) (h1 : 1 ≤ d) (h2 : d ≤ 3) (hi : 8 - d + y0.val < 264),
      ext c (prod o hx x w) (ix2 ⟨8 - d + y0.val, hi⟩ y1) = back x w q d ⟨o + y0.val, by omega⟩ y1 := by
    intro d h1 h2 hi
    rw [ext_apply]
    unfold back
    dsimp only
    by_cases h : 8 - d + y0.val < 8
    · rw [dif_pos h, hc]
      dsimp only
      by_cases h0 : o = 0
      · subst h0
        rw [dif_neg (by omega), dif_neg (by omega)]
        congr 2
        apply Fin.ext
        dsimp only
        omega
      · rw [dif_pos (by omega), dif_pos (by omega)]
        congr 1
        apply Fin.ext
        dsimp only
        omega
    · rw [dif_neg h, prod_apply o hx x w _ y1 (by dsimp only; omega), dif_pos (by omega)]
      congr 1
      apply Fin.ext
      dsimp only
      omega
  have b3 := hb 3 (by decide) (by decide) (by omega)
  have b2 := hb 2 (by decide) (by decide) (by omega)
  have b1 := hb 1 (by decide) (by decide) (by omega)
  have em : (⟨(o + y0.val) % 8, Nat.mod_lt _ (by decide)⟩ : Fin 8) = ⟨y0.val % 8, Nat.mod_lt _ (by decide)⟩ := Fin.ext (by dsimp only; omega)
  rw [e0, chunk_apply, conv_apply, prod_apply o hx x w y0 y1 (by omega)]
  show _ = blockAt x w T q ⟨o + y0.val, _⟩ y1
  unfold blockAt
  rw [← b3, ← b2, ← b1, em]

/-- The first chunk, after the 8 rows that the block before left. -/
theorem rows_first (hx hr) (x : Vec Ideal S1024x2048 .bf16) (w : Vec Ideal S2048x1024 .bf16) (T : Vec Ideal S5x8x1024 .f32) (q : Vec Ideal S1x8x1024 .f32) (y : S256x1024.Idx) :
    chunk (shapeCast S8x1024 q shapeCasts_S1x8x1024_S8x1024) (prod 0 hx x w) T y = blockOut x w T q ((Rect.unit (s := S1024x1024) ![0, 0] S256x1024.size hr).emb y) :=
  rows_apply 0 hx hr rfl x w T q _ (fun e j => by rw [head_apply, dif_neg (by omega)]) y

/-- A later chunk, after the chunk before it. -/
theorem rows_next (o' o : ℕ) (h : o = o' + 256) (h8 : o' % 8 = 0) (hx' hx hr) (x : Vec Ideal S1024x2048 .bf16) (w : Vec Ideal S2048x1024 .bf16) (T : Vec Ideal S5x8x1024 .f32) (q : Vec Ideal S1x8x1024 .f32)
    (y : S256x1024.Idx) :
    chunk (tail (prod o' hx' x w)) (prod o hx x w) T y = blockOut x w T q ((Rect.unit (s := S1024x1024) ![o, 0] S256x1024.size hr).emb y) := by
  have ho : o + 256 ≤ 1024 := hr 0
  subst h
  refine rows_apply _ hx hr (by omega) x w T q _ (fun e j => ?_) y
  rw [tail_apply, prod_apply o' hx' x w _ j (by dsimp only; omega), dif_pos (by omega)]
  congr 1
  apply Fin.ext
  dsimp only
  omega

/-- The carry that a point leaves. -/
theorem last_eq (hx) (x : Vec Ideal S1024x2048 .bf16) (w : Vec Ideal S2048x1024 .bf16) : k0_pay2 (F := Ideal) (prod 768 hx x w) = last x w := by
  funext y
  idx_vars y
  have e : k0_pay2 (F := Ideal) (prod 768 hx x w) (ix3 y0 y1 y2) = tail (prod 768 hx x w) (ix2 y1 y2) := by
    generalize prod 768 hx x w = u
    pointwise [k0_pay2, tail]
  rw [e, tail_apply, prod_apply 768 hx x w _ y2 (by dsimp only; omega)]
  unfold last
  congr 1
  apply Fin.ext
  show 768 + (248 + y1.val) = 1016 + y1.val
  omega

end Cert.KernelIdeal16.InXbc

end
-- ==== Proof.InXbc.RefTerm.lean ====
/- The reference of the scan's input call, at an index. -/
module

public import proofs.«01_k».proof.Defs
public import proofs.«01_k».proof.Proof.Gen.ReferenceIdeal16.Run
public import Idealize.ShloMosaic.Lib.Pointwise
public import Idealize.ShloMosaic.Lib.Pointwise.Sums
public import Idealize.ShloMosaic.Lib.Tactic

@[expose] public section

set_option maxRecDepth 65536

noncomputable section

namespace Cert.ReferenceIdeal16.InXbc

open Idealize.ShloMosaic Idealize.ShloMosaic.TcCoe Idealize.SL.Sem
open Cert.ReferenceIdeal16 Cert.ReferenceIdeal16.Gen Cert.ReferenceIdeal16.Value

variable (x : FVec Ideal S8192x2048 .bf16) (w : FVec Ideal S2048x10304 .f32) (q0 q1 q2 q3 b : FVec Ideal S6144 .f32)

/-- The projection at a row and a column. -/
def proj (x : S8192x2048.Idx → EReal) (w : Fin 2048 → Fin 6144 → EReal) (r : Fin 8192) (j : Fin 6144) : EReal := ∑ k : Fin 2048, x (ix2 r k) * w k j

/-- The projection as one array. -/
def U (x : S8192x2048.Idx → EReal) (w : Fin 2048 → Fin 6144 → EReal) : S8192x6144.Idx → EReal := fun i => proj x w (i 0) (i 1)

/-- The reference's projection, its columns from 4096 on. -/
def termU : FVec Ideal S8192x6144 .f32 :=
  extractStridedSlice S8192x6144 ![0, 4096] (Host.dotGeneral (F := Ideal) dot_S8192x2048_S2048x10304_S8192x10304_1_0_0_1_n_n none (extf (F := Ideal) (φ := .bf16) .f32 x bitsLt_bf16_f32) w) slices_S8192x10304_S8192x6144_0_4096

theorem termU_apply (r : Fin 8192) (j : Fin 6144) : termU x w (ix2 r j) = proj x (fun k j => w (ix2 k ⟨4096 + j.val, by omega⟩)) r j := by
  unfold termU proj
  pointwise
  done

/-- A row's value `d` rows back in its sequence, zero before the sequence starts. -/
def past (U : S8192x6144.Idx → EReal) (d : ℕ) (r : Fin 8192) (j : Fin 6144) : EReal :=
  if d ≤ r.val % 4096 then U (ix2 ⟨r.val - d, lt_of_le_of_lt (Nat.sub_le _ _) r.isLt⟩ j) else 0

/-- The causal convolution of four taps with its bias. -/
def convRef (U : S8192x6144.Idx → EReal) (p : Fin 4 → Fin 6144 → EReal) (b : Fin 6144 → EReal) (r : Fin 8192) (j : Fin 6144) : EReal :=
  past U 3 r j * p 0 j + past U 2 r j * p 1 j + past U 1 r j * p 2 j + U (ix2 r j) * p 3 j + b j

def padded (U : FVec Ideal S8192x6144 .f32) : FVec Ideal S2x4099x6144 .f32 :=
  pad S2x4099x6144 ![0, 3, 0] ![0, 0, 0] ![0, 0, 0] (shapeCast _ U shapeCasts_S8192x6144_S2x4096x6144) (sitofp (F := Ideal) .f32 (constantI S_ 32 0#32)) pads_S2x4096x6144_S2x4099x6144_000_300_000 h_S_

/-- A vector of columns on every row. -/
def wide (v : FVec Ideal S6144 .f32) : FVec Ideal S2x4096x6144 .f32 :=
  broadcastInDim S2x4096x6144 ![0, 1, 2] bcast_S1x1x6144_S2x4096x6144_0_1_2 (broadcastInDim S1x1x6144 ![2] bcast_S6144_S1x1x6144_2 v)

def termY (U : FVec Ideal S8192x6144 .f32) : FVec Ideal S8192x6144 .f32 :=
  shapeCast _ (addf (F := Ideal) (φ := .f32) (addf (F := Ideal) (φ := .f32) (addf (F := Ideal) (φ := .f32) (addf (F := Ideal) (φ := .f32)
    (mulf (F := Ideal) (φ := .f32) (extractStridedSlice S2x4096x6144 ![0, 0, 0] (padded U) slices_S2x4099x6144_S2x4096x6144_0_0_0) (wide q0))
    (mulf (F := Ideal) (φ := .f32) (extractStridedSlice S2x4096x6144 ![0, 1, 0] (padded U) slices_S2x4099x6144_S2x4096x6144_0_1_0) (wide q1)))
    (mulf (F := Ideal) (φ := .f32) (extractStridedSlice S2x4096x6144 ![0, 2, 0] (padded U) slices_S2x4099x6144_S2x4096x6144_0_2_0) (wide q2)))
    (mulf (F := Ideal) (φ := .f32) (extractStridedSlice S2x4096x6144 ![0, 3, 0] (padded U) slices_S2x4099x6144_S2x4096x6144_0_3_0) (wide q3))) (wide b)) shapeCasts_S2x4096x6144_S8192x6144

theorem padded_apply (U : FVec Ideal S8192x6144 .f32) (q : Fin 2) (s : Fin 4099) (j : Fin 6144) :
    padded U (ix3 q s j) = if h : 3 ≤ s.val then U (ix2 ⟨q.val * 4096 + (s.val - 3), by omega⟩ j) else 0 := by
  unfold padded
  pointwise
  have hs := s.isLt
  have hz : (FloatOps.sitofp (F := Ideal) .f32 0#32 : EReal) = 0 := by
    show (((0#32 : BitVec 32).toInt : ℝ) : EReal) = 0
    simp
  rw [hz]
  split <;> split <;> first | rfl | omega

theorem wide_apply (v : FVec Ideal S6144 .f32) (q : Fin 2) (s : Fin 4096) (j : Fin 6144) : wide v (ix3 q s j) = v (ix1 j) := by
  unfold wide
  pointwise

theorem termY_apply (U : FVec Ideal S8192x6144 .f32) (r : Fin 8192) (j : Fin 6144) :
    termY q0 q1 q2 q3 b U (ix2 r j) = convRef U (fun k j => (![q0, q1, q2, q3] k) (ix1 j)) (fun j => b (ix1 j)) r j := by
  have hr := r.isLt
  have e : ∀ (d : ℕ) (h : d + r.val % 4096 < 4099) (hd : d ≤ 3), padded U (ix3 ⟨r.val / 4096, by omega⟩ ⟨d + r.val % 4096, h⟩ j) = past U (3 - d) r j := by
    intro d h hd
    rw [padded_apply]
    unfold past
    dsimp only
    split <;> split <;> first | omega | rfl | skip
    congr 2
    apply Fin.ext
    dsimp only
    omega
  have e0 := e 0 (by omega) (by omega)
  have e1 := e 1 (by omega) (by omega)
  have e2 := e 2 (by omega) (by omega)
  have e3 := e 3 (by omega) (by omega)
  have h3 : past U (3 - 3) r j = U (ix2 r j) := by
    unfold past
    rw [if_pos (Nat.zero_le _)]
    rfl
  have hw := fun v => wide_apply v ⟨r.val / 4096, by omega⟩ ⟨r.val % 4096, Nat.mod_lt _ (by decide)⟩ j
  simp only [Nat.zero_add] at e0
  obtain ⟨V, hV⟩ : ∃ V, V = padded U := ⟨_, rfl⟩
  obtain ⟨W, hW⟩ : ∃ W : FVec Ideal S6144 .f32 → FVec Ideal S2x4096x6144 .f32, W = wide := ⟨_, rfl⟩
  rw [← hV] at e0 e1 e2 e3
  rw [← hW] at hw
  unfold termY convRef
  rw [← hV, ← hW]
  pointwise
  rw [e0, e1, e2, e3, h3, hw, hw, hw, hw, hw]

/-- The gate. -/
def termO (Y : FVec Ideal S8192x6144 .f32) : FVec Ideal S8192x6144 .f32 :=
  mulf (F := Ideal) (φ := .f32) Y (Host.divf (broadcastInDim S8192x6144 ![] bcast_S_S8192x6144 (constant S_ .f32 0x3F800000#32)) (addf (F := Ideal) (φ := .f32) (broadcastInDim S8192x6144 ![] bcast_S_S8192x6144 (constant S_ .f32 0x3F800000#32)) (Host.exp (Host.negf Y))))

theorem termO_apply (Y : FVec Ideal S8192x6144 .f32) (r : Fin 8192) (j : Fin 6144) : termO Y (ix2 r j) = Y (ix2 r j) * Ideal.logistic (Y (ix2 r j)) := by
  unfold termO
  pointwise
  rfl

/-- The result at an index, from the arrays. -/
def result (x : S8192x2048.Idx → EReal) (w : Fin 2048 → Fin 6144 → EReal) (p : Fin 4 → Fin 6144 → EReal) (b : Fin 6144 → EReal) (r : Fin 8192) (j : Fin 6144) : EReal :=
  convRef (U x w) p b r j * Ideal.logistic (convRef (U x w) p b r j)

/-- The reference's term is the result, when the slices are those of the arrays. -/
theorem term_apply (w' : Fin 2048 → Fin 6144 → EReal) (p' : Fin 4 → Fin 6144 → EReal) (b' : Fin 6144 → EReal)
    (hw : ∀ (k : Fin 2048) (j : Fin 6144), w (ix2 k ⟨4096 + j.val, by omega⟩) = w' k j) (h0 : ∀ j, q0 (ix1 j) = p' 0 j) (h1 : ∀ j, q1 (ix1 j) = p' 1 j) (h2 : ∀ j, q2 (ix1 j) = p' 2 j) (h3 : ∀ j, q3 (ix1 j) = p' 3 j)
    (hb : ∀ j, b (ix1 j) = b' j) (r : Fin 8192) (j : Fin 6144) : termO (termY q0 q1 q2 q3 b (termU x w)) (ix2 r j) = result x w' p' b' r j := by
  have hU : termU x w = U x w' := by
    funext i
    idx_vars i
    rw [termU_apply]
    unfold U proj
    simp only [hw]
    rfl
  have hp : (fun (k : Fin 4) (j : Fin 6144) => (![q0, q1, q2, q3] k) (ix1 j)) = p' := by
    funext k j
    match k with
    | ⟨0, _⟩ => exact h0 j
    | ⟨1, _⟩ => exact h1 j
    | ⟨2, _⟩ => exact h2 j
    | ⟨3, _⟩ => exact h3 j
  rw [termO_apply, termY_apply, hU, hp, show (fun j => b (ix1 j)) = b' from funext hb]
  rfl

end Cert.ReferenceIdeal16.InXbc

end
-- ==== Proof.InXbc.Value.lean ====
/- What a point computes is the reference's value, when its blocks are those of the arrays. -/
module

public import proofs.«01_k».proof.Proof.InXbc.Math
public import proofs.«01_k».proof.Proof.InXbc.RefTerm

@[expose] public section

set_option maxRecDepth 65536

noncomputable section

namespace Cert.KernelIdeal16.InXbc

open Idealize.ShloMosaic Idealize.ShloMosaic.TcCoe Idealize.SL.Sem
open Cert.KernelIdeal16 Cert.KernelIdeal16.Gen
open Cert.ReferenceIdeal16.InXbc (U proj past convRef result)

theorem hz2 : (![0, 0] : Fin 2 → Nat) = fun _ => 0 := funext fun a => by fin_cases a <;> rfl
theorem hz3 : (![0, 0, 0] : Fin 3 → Nat) = fun _ => 0 := funext fun a => by fin_cases a <;> rfl

/-- A tap on 8 rows. -/
theorem tap_apply (k : Fin 4) (hp : ∀ a, (![0, k.val, 0] : Fin 3 → ℕ) a + S1x1x1024.size a ≤ S1x4x1024.size a) (hr : ∀ a, (![k.val, 0, 0] : Fin 3 → ℕ) a + S1x8x1024.size a ≤ S5x8x1024.size a)
    (p : Vec Ideal S1x4x1024 .f32) (b : Vec Ideal S1x1x1024 .f32) (y : S1x8x1024.Idx) :
    k0_pay4 (F := Ideal) (View.ld p (Rect.unit (s := S1x4x1024) ![0, k.val, 0] S1x1x1024.size hp)) y = taps p b ((Rect.unit (s := S5x8x1024) ![k.val, 0, 0] S1x8x1024.size hr).emb y) := by
  idx_vars y
  obtain ⟨X, hX⟩ : ∃ X, X = View.ld p (Rect.unit (s := S1x4x1024) ![0, k.val, 0] S1x1x1024.size hp) := ⟨_, rfl⟩
  have e : X (ix3 0 0 y2) = p (ix3 0 k y2) := by
    rw [hX]
    refine congrArg p (funext fun a => Fin.ext ?_)
    match a with
    | ⟨0, _⟩ => rfl
    | ⟨1, _⟩ => show k.val + 1 * 0 = k.val; omega
    | ⟨2, _⟩ => show 0 + 1 * y2.val = y2.val; omega
  rw [← hX]
  have h0 : y0.val = 0 := by omega
  have e1 : k0_pay4 (F := Ideal) X (ix3 y0 y1 y2) = X (ix3 0 0 y2) := by pointwise [k0_pay4]
  rw [e1, e]
  unfold taps
  rw [dif_pos (by show k.val + 1 * y0.val < 4; omega)]
  refine congrArg p (funext fun a => Fin.ext ?_)
  match a with
  | ⟨0, _⟩ => rfl
  | ⟨1, _⟩ => show k.val = k.val + 1 * y0.val; omega
  | ⟨2, _⟩ => show y2.val = 0 + 1 * y2.val; omega

/-- The bias on 8 rows. -/
theorem bias_apply (hr : ∀ a, (![4, 0, 0] : Fin 3 → ℕ) a + S1x8x1024.size a ≤ S5x8x1024.size a) (p : Vec Ideal S1x4x1024 .f32) (b : Vec Ideal S1x1x1024 .f32) (y : S1x8x1024.Idx) :
    k0_pay9 (F := Ideal) b y = taps p b ((Rect.unit (s := S5x8x1024) ![4, 0, 0] S1x8x1024.size hr).emb y) := by
  idx_vars y
  have e1 : k0_pay9 (F := Ideal) b (ix3 y0 y1 y2) = b (ix3 0 0 y2) := by pointwise [k0_pay9]
  rw [e1]
  unfold taps
  rw [dif_neg (by show ¬ 4 + 1 * y0.val < 4; omega)]
  refine congrArg b (funext fun a => Fin.ext ?_)
  match a with
  | ⟨0, _⟩ => rfl
  | ⟨1, _⟩ => rfl
  | ⟨2, _⟩ => show y2.val = 0 + 1 * y2.val; omega

/-- A cast weight. -/
theorem cast_apply (X : Vec Ideal S1x1024x2048 .f32) (k : Fin 2048) (j : Fin 1024) : k0_pay3 (F := Ideal) X (ix2 k j) = X (ix3 0 j k) := by pointwise [k0_pay3]

/-- The rows before a sequence. -/
theorem zero_apply (y : S1x8x1024.Idx) : k0_pay10 (F := Ideal) y = 0 := by
  idx_vars y
  pointwise [k0_pay10]

theorem add5 (a b c d e : EReal) : a + b + c + d + e = c + d + e + a + b := by
  rw [add_assoc c d e, add_assoc (a + b + c), add_assoc (a + b), add_comm (a + b), ← add_assoc]

variable (n : ℕ) (hn : n < 48) (x : S8192x2048.Idx → EReal) (w : Fin 2048 → Fin 6144 → EReal) (p : Fin 4 → Fin 6144 → EReal) (b : Fin 6144 → EReal)
variable (X : Vec Ideal S1024x2048 .bf16) (W : Vec Ideal S2048x1024 .bf16) (T : Vec Ideal S5x8x1024 .f32) (q : Vec Ideal S1x8x1024 .f32)

/-- A product of a block is the projection at its row and column. -/
theorem P_eq (hX : ∀ (r : Fin 1024) (k : Fin 2048), X (ix2 r k) = x (ix2 ⟨n % 8 * 1024 + r.val, by omega⟩ k))
    (j : Fin 1024) (hW : ∀ k : Fin 2048, W (ix2 k j) = w k ⟨n / 8 * 1024 + j.val, by omega⟩) (r : Fin 1024) :
    P X W r j = U x w (ix2 ⟨n % 8 * 1024 + r.val, by omega⟩ ⟨n / 8 * 1024 + j.val, by omega⟩) := by
  unfold P
  simp only [hX, hW]
  rfl

/-- A point's block, row by row. -/
theorem block_eq (hX : ∀ (r : Fin 1024) (k : Fin 2048), X (ix2 r k) = x (ix2 ⟨n % 8 * 1024 + r.val, by omega⟩ k))
    (j : Fin 1024) (hW : ∀ k : Fin 2048, W (ix2 k j) = w k ⟨n / 8 * 1024 + j.val, by omega⟩)
    (hT : ∀ (k : Fin 4) (e : Fin 8), T (ix3 ⟨k.val, by omega⟩ e j) = p k ⟨n / 8 * 1024 + j.val, by omega⟩)
    (hB : ∀ e : Fin 8, T (ix3 4 e j) = b ⟨n / 8 * 1024 + j.val, by omega⟩)
    (hq : ∀ e : Fin 8, q (ix3 0 e j) = if n % 4 = 0 then 0 else U x w (ix2 ⟨n % 8 * 1024 - 8 + e.val, by omega⟩ ⟨n / 8 * 1024 + j.val, by omega⟩)) (r : Fin 1024) :
    blockAt X W T q r j = result x w p b ⟨n % 8 * 1024 + r.val, by omega⟩ ⟨n / 8 * 1024 + j.val, by omega⟩ := by
  have hr := r.isLt
  have hb : ∀ (d : ℕ) (h1 : 1 ≤ d) (h2 : d ≤ 3), back X W q d r j = past (U x w) d ⟨n % 8 * 1024 + r.val, by omega⟩ ⟨n / 8 * 1024 + j.val, by omega⟩ := by
    intro d h1 h2
    unfold back past
    dsimp only
    by_cases h : d ≤ r.val
    · rw [dif_pos h, if_pos (by omega), P_eq n hn x w X W hX j hW]
      congr 2
      apply Fin.ext
      dsimp only
      omega
    · rw [dif_neg h, hq]
      by_cases h4 : n % 4 = 0
      · rw [if_pos h4, if_neg (by omega)]
      · rw [if_neg h4, if_pos (by omega)]
        congr 2
        apply Fin.ext
        dsimp only
        omega
  have t0 := hT 0 ⟨r.val % 8, Nat.mod_lt _ (by decide)⟩
  have t1 := hT 1 ⟨r.val % 8, Nat.mod_lt _ (by decide)⟩
  have t2 := hT 2 ⟨r.val % 8, Nat.mod_lt _ (by decide)⟩
  have t3 := hT 3 ⟨r.val % 8, Nat.mod_lt _ (by decide)⟩
  unfold blockAt gateAt result
  rw [hb 1 (by decide) (by decide), hb 2 (by decide) (by decide), hb 3 (by decide) (by decide), P_eq n hn x w X W hX j hW, hB, show T (ix3 0 _ j) = _ from t0, show T (ix3 1 _ j) = _ from t1,
    show T (ix3 2 _ j) = _ from t2, show T (ix3 3 _ j) = _ from t3]
  unfold convRef
  rw [add5]

end Cert.KernelIdeal16.InXbc

end
-- ==== Proof.InXbc.lean ====
/- The scan's input call of the first scan layer: what each point leaves, from the arrays. -/
module

public import proofs.«01_k».proof.Proof.InXbc.Value
public import proofs.«01_k».proof.Proof.Gen.KernelIdeal16.Value
public import proofs.«01_k».proof.Proof.Gen.ReferenceIdeal16.Run

@[expose] public section

set_option maxRecDepth 16384

noncomputable section

open Idealize.ShloMosaic Idealize.ShloMosaic.TcCoe Idealize.SL.Sem
open Idealize.ShloMosaic.Pipeline (Dat)

namespace Cert.KernelIdeal16.InXbc

open Cert.KernelIdeal16 Cert.KernelIdeal16.Gen Cert.KernelIdeal16.Value
open Cert.KernelIdeal16.InXbc (blockOut last taps readCov_ld rows_first rows_next last_eq block_eq P_eq)
open Cert.ReferenceIdeal16.InXbc (U proj result)

variable (m : (ℓ : Loc nD τ sig) → Buf (Elt Ideal) ℓ)

section

variable (c : Dev nD) (i : grid0.Coords) (a2 : Memref sig .tc .vmem S1024x2048 .bf16) (h2 : a2.IsWhole) (a3 : Memref sig .tc .vmem S1x1024x2048 .f32)
    (h3 : a3.IsWhole) (a4 : Memref sig .tc .vmem S1x4x1024 .f32) (h4 : a4.IsWhole) (a5 : Memref sig .tc .vmem S1x1x1024 .f32) (h5 : a5.IsWhole)
    (a6 : Memref sig .tc .vmem S1024x1024 .f32) (h6 : a6.IsWhole) (a7 : Memref sig .tc .vmem S2048x1024 .bf16) (h7 : a7.IsWhole)
    (a8 : Memref sig .tc .vmem S5x8x1024 .f32) (h8 : a8.IsWhole) (a9 : Memref sig .tc .vmem S1x8x1024 .f32) (h9 : a9.IsWhole)
    (x0 : Vec Ideal S1024x2048 .bf16) (x1 : Vec Ideal S1x1024x2048 .f32) (x2 : Vec Ideal S1x4x1024 .f32) (x3 : Vec Ideal S1x1x1024 .f32)

/-- At the first row block of a column block the body leaves the cast, transposed weight block in the first scratch buffer. -/
theorem sout0_A (hc : cond0_0 i) (hd : cond0_1 i) :
    sout0_A_0 c i a2 h2 a3 h3 a4 h4 a5 h5 a6 h6 a7 h7 a8 h8 a9 h9 hc hd x0 x1 x2 x3 = (k0_pay3 (F := Ideal) x1) := by
  unfold sout0_A_0
  rw [View.read_writes_eq_canon _ _ _ (scover0_A_0 c i a2 h2 a3 h3 a4 h4 a5 h5 a6 h6 a7 h7 a8 h8 a9 h9 hc hd x0 x1 x2 x3)]
  unfold kernelRun0_A
  dsimp only
  sl_unfold_words
  rw [View.canon_unit_zero hz2]
  simp only [View.readAt_eq_ld, h3.read_unread, View.ld_unit_zero (S := S1x1024x2048) hz3]

/-- … and the taps with the bias in the second. -/
theorem sout1_A (hc : cond0_0 i) (hd : cond0_1 i) :
    sout0_A_1 c i a2 h2 a3 h3 a4 h4 a5 h5 a6 h6 a7 h7 a8 h8 a9 h9 hc hd x0 x1 x2 x3 = taps x2 x3 := by
  unfold sout0_A_1
  rw [View.read_writes_eq_canon _ _ _ (scover0_A_1 c i a2 h2 a3 h3 a4 h4 a5 h5 a6 h6 a7 h7 a8 h8 a9 h9 hc hd x0 x1 x2 x3)]
  funext y
  refine View.canon_apply_of_pieces (taps x2 x3) _ ?_ y (scover0_A_1 c i a2 h2 a3 h3 a4 h4 a5 h5 a6 h6 a7 h7 a8 h8 a9 h9 hc hd x0 x1 x2 x3 y)
  unfold kernelRun0_A
  dsimp only
  sl_unfold_words
  simp only [View.readAt_eq_ld, h4.read_unread, h5.read_unread, View.ld_unit_zero (S := S1x1x1024) hz3]
  intro p hp x
  simp only [List.mem_cons, List.not_mem_nil, or_false] at hp
  rcases hp with rfl | rfl | rfl | rfl | rfl
  · exact bias_apply inb_S5x8x1024_S1x8x1024_4_0_0 x2 x3 x
  · exact tap_apply 3 inb_S1x4x1024_S1x1x1024_0_3_0 inb_S5x8x1024_S1x8x1024_3_0_0 x2 x3 x
  · exact tap_apply 2 inb_S1x4x1024_S1x1x1024_0_2_0 inb_S5x8x1024_S1x8x1024_2_0_0 x2 x3 x
  · exact tap_apply 1 inb_S1x4x1024_S1x1x1024_0_1_0 inb_S5x8x1024_S1x8x1024_1_0_0 x2 x3 x
  · exact tap_apply 0 inb_S1x4x1024_S1x1x1024_0_0_0 inb_S5x8x1024_S1x8x1024_0_0_0 x2 x3 x

/-- … and the last 8 products in the third. -/
theorem sout2_A (hc : cond0_0 i) (hd : cond0_1 i) :
    sout0_A_2 c i a2 h2 a3 h3 a4 h4 a5 h5 a6 h6 a7 h7 a8 h8 a9 h9 hc hd x0 x1 x2 x3 = last x0 (k0_pay3 (F := Ideal) x1) := by
  unfold sout0_A_2
  rw [View.read_writes_eq_canon _ _ _ (scover0_A_2 c i a2 h2 a3 h3 a4 h4 a5 h5 a6 h6 a7 h7 a8 h8 a9 h9 hc hd x0 x1 x2 x3)]
  unfold kernelRun0_A
  dsimp only
  sl_unfold_words
  rw [View.canon_cons_unit_zero (S := S1x8x1024) hz3]
  simp only [View.readAt_eq_ld, h2.read_unread, View.readCov_unit_zero (S := S2048x1024) _ hz2, h3.read_unread, View.ld_unit_zero (S := S1x1024x2048) hz3]
  exact last_eq inb_S1024x2048_S256x2048_768_0 x0 _

/-- … and the gated convolution in the output block, with no rows before it. -/
theorem out_A (hc : cond0_0 i) (hd : cond0_1 i) :
    out0_A_4 c i a2 h2 a3 h3 a4 h4 a5 h5 a6 h6 a7 h7 a8 h8 a9 h9 hc hd x0 x1 x2 x3 = blockOut x0 (k0_pay3 (F := Ideal) x1) (taps x2 x3) (k0_pay10 (F := Ideal)) := by
  unfold out0_A_4
  rw [View.read_writes_eq_canon _ _ _ (cover0_A_4 c i a2 h2 a3 h3 a4 h4 a5 h5 a6 h6 a7 h7 a8 h8 a9 h9 hc hd x0 x1 x2 x3)]
  funext y
  refine View.canon_apply_of_pieces (blockOut x0 (k0_pay3 (F := Ideal) x1) (taps x2 x3) (k0_pay10 (F := Ideal))) _ ?_ y (cover0_A_4 c i a2 h2 a3 h3 a4 h4 a5 h5 a6 h6 a7 h7 a8 h8 a9 h9 hc hd x0 x1 x2 x3 y)
  have hT : View.canon (kernelRun0_A c i a2 h2 a3 h3 a4 h4 a5 h5 a6 h6 a7 h7 a8 h8 a9 h9 hc hd x0 x1 x2 x3).2.2.1 = taps x2 x3 :=
    (View.read_writes_eq_canon _ _ _ (scover0_A_1 c i a2 h2 a3 h3 a4 h4 a5 h5 a6 h6 a7 h7 a8 h8 a9 h9 hc hd x0 x1 x2 x3)).symm.trans (sout1_A c i a2 h2 a3 h3 a4 h4 a5 h5 a6 h6 a7 h7 a8 h8 a9 h9 x0 x1 x2 x3 hc hd)
  revert hT
  unfold kernelRun0_A
  dsimp only
  sl_unfold_words
  simp only [readCov_ld, View.readCov_unit_zero (S := S2048x1024) _ hz2, View.readCov_unit_zero (S := S1x8x1024) _ hz3, View.readAt_eq_ld, h2.read_unread, h3.read_unread, h4.read_unread, h5.read_unread,
    View.ld_unit_zero (S := S1x1024x2048) hz3, View.ld_unit_zero (S := S1x1x1024) hz3]
  intro hT p hp x
  simp only [hT] at hp x
  clear hT
  generalize taps x2 x3 = T at hp x ⊢
  generalize k0_pay3 (F := Ideal) x1 = W at hp x ⊢
  generalize k0_pay10 (F := Ideal) = q at hp x ⊢
  simp only [List.mem_cons, List.not_mem_nil, or_false] at hp
  rcases hp with rfl | rfl | rfl | rfl
  · exact rows_next 512 768 rfl rfl inb_S1024x2048_S256x2048_512_0 inb_S1024x2048_S256x2048_768_0 inb_S1024x1024_S256x1024_768_0 x0 _ _ _ x
  · exact rows_next 256 512 rfl rfl inb_S1024x2048_S256x2048_256_0 inb_S1024x2048_S256x2048_512_0 inb_S1024x1024_S256x1024_512_0 x0 _ _ _ x
  · exact rows_next 0 256 rfl rfl inb_S1024x2048_S256x2048_0_0 inb_S1024x2048_S256x2048_256_0 inb_S1024x1024_S256x1024_256_0 x0 _ _ _ x
  · exact rows_first inb_S1024x2048_S256x2048_0_0 inb_S1024x1024_S256x1024_0_0 x0 _ _ _ x

/-- At a row block inside a sequence the body takes weights, taps and the rows before from the scratch buffers. -/
theorem out_B (hc : ¬cond0_0 i) (hd : ¬cond0_1 i) (s0 : Vec Ideal S2048x1024 .bf16) (s1 : Vec Ideal S5x8x1024 .f32) (s2 : Vec Ideal S1x8x1024 .f32) :
    out0_B_4 c i a2 h2 a3 h3 a4 h4 a5 h5 a6 h6 a7 h7 a8 h8 a9 h9 hc hd x0 x1 x2 x3 s0 s1 s2 = blockOut x0 s0 s1 s2 := by
  unfold out0_B_4
  rw [View.read_writes_eq_canon _ _ _ (cover0_B_4 c i a2 h2 a3 h3 a4 h4 a5 h5 a6 h6 a7 h7 a8 h8 a9 h9 hc hd x0 x1 x2 x3 s0 s1 s2)]
  funext y
  refine View.canon_apply_of_pieces (blockOut x0 s0 s1 s2) _ ?_ y (cover0_B_4 c i a2 h2 a3 h3 a4 h4 a5 h5 a6 h6 a7 h7 a8 h8 a9 h9 hc hd x0 x1 x2 x3 s0 s1 s2 y)
  unfold kernelRun0_B
  dsimp only
  sl_unfold_words
  simp only [View.readAt_eq_ld, h2.read_unread, h7.read_unread, h8.read_unread, h9.read_unread, View.ld_unit_zero (S := S2048x1024) hz2, View.ld_unit_zero (S := S1x8x1024) hz3]
  intro p hp x
  simp only [List.mem_cons, List.not_mem_nil, or_false] at hp
  rcases hp with rfl | rfl | rfl | rfl
  · exact rows_next 512 768 rfl rfl inb_S1024x2048_S256x2048_512_0 inb_S1024x2048_S256x2048_768_0 inb_S1024x1024_S256x1024_768_0 x0 _ _ _ x
  · exact rows_next 256 512 rfl rfl inb_S1024x2048_S256x2048_256_0 inb_S1024x2048_S256x2048_512_0 inb_S1024x1024_S256x1024_512_0 x0 _ _ _ x
  · exact rows_next 0 256 rfl rfl inb_S1024x2048_S256x2048_0_0 inb_S1024x2048_S256x2048_256_0 inb_S1024x1024_S256x1024_256_0 x0 _ _ _ x
  · exact rows_first inb_S1024x2048_S256x2048_0_0 inb_S1024x1024_S256x1024_0_0 x0 _ _ _ x

/-- … and leaves the last 8 products. -/
theorem sout2_B (hc : ¬cond0_0 i) (hd : ¬cond0_1 i) (s0 : Vec Ideal S2048x1024 .bf16) (s1 : Vec Ideal S5x8x1024 .f32) (s2 : Vec Ideal S1x8x1024 .f32) :
    sout0_B_2 c i a2 h2 a3 h3 a4 h4 a5 h5 a6 h6 a7 h7 a8 h8 a9 h9 hc hd x0 x1 x2 x3 s0 s1 s2 = last x0 s0 := by
  unfold sout0_B_2
  rw [View.read_writes_eq_canon _ _ _ (scover0_B_2 c i a2 h2 a3 h3 a4 h4 a5 h5 a6 h6 a7 h7 a8 h8 a9 h9 hc hd x0 x1 x2 x3 s0 s1 s2)]
  unfold kernelRun0_B
  dsimp only
  sl_unfold_words
  rw [View.canon_cons_unit_zero (S := S1x8x1024) hz3]
  simp only [View.readAt_eq_ld, h2.read_unread, h7.read_unread, View.ld_unit_zero (S := S2048x1024) hz2]
  exact last_eq inb_S1024x2048_S256x2048_768_0 x0 _

/-- At the first row block of the second sequence it takes weights and taps from the scratch buffers, with no rows before it. -/
theorem out_C (hc : ¬cond0_0 i) (hd : cond0_1 i) (s0 : Vec Ideal S2048x1024 .bf16) (s1 : Vec Ideal S5x8x1024 .f32) :
    out0_C_4 c i a2 h2 a3 h3 a4 h4 a5 h5 a6 h6 a7 h7 a8 h8 a9 h9 hc hd x0 x1 x2 x3 s0 s1 = blockOut x0 s0 s1 (k0_pay10 (F := Ideal)) := by
  unfold out0_C_4
  rw [View.read_writes_eq_canon _ _ _ (cover0_C_4 c i a2 h2 a3 h3 a4 h4 a5 h5 a6 h6 a7 h7 a8 h8 a9 h9 hc hd x0 x1 x2 x3 s0 s1)]
  funext y
  refine View.canon_apply_of_pieces (blockOut x0 s0 s1 (k0_pay10 (F := Ideal))) _ ?_ y (cover0_C_4 c i a2 h2 a3 h3 a4 h4 a5 h5 a6 h6 a7 h7 a8 h8 a9 h9 hc hd x0 x1 x2 x3 s0 s1 y)
  unfold kernelRun0_C
  dsimp only
  sl_unfold_words
  simp only [View.readCov_unit_zero (S := S1x8x1024) _ hz3, View.readAt_eq_ld, h2.read_unread, h7.read_unread, h8.read_unread, View.ld_unit_zero (S := S2048x1024) hz2]
  intro p hp x
  simp only [List.mem_cons, List.not_mem_nil, or_false] at hp
  rcases hp with rfl | rfl | rfl | rfl
  · exact rows_next 512 768 rfl rfl inb_S1024x2048_S256x2048_512_0 inb_S1024x2048_S256x2048_768_0 inb_S1024x1024_S256x1024_768_0 x0 _ _ _ x
  · exact rows_next 256 512 rfl rfl inb_S1024x2048_S256x2048_256_0 inb_S1024x2048_S256x2048_512_0 inb_S1024x1024_S256x1024_512_0 x0 _ _ _ x
  · exact rows_next 0 256 rfl rfl inb_S1024x2048_S256x2048_0_0 inb_S1024x2048_S256x2048_256_0 inb_S1024x1024_S256x1024_256_0 x0 _ _ _ x
  · exact rows_first inb_S1024x2048_S256x2048_0_0 inb_S1024x1024_S256x1024_0_0 x0 _ _ _ x

/-- … and leaves the last 8 products. -/
theorem sout2_C (hc : ¬cond0_0 i) (hd : cond0_1 i) (s0 : Vec Ideal S2048x1024 .bf16) (s1 : Vec Ideal S5x8x1024 .f32) :
    sout0_C_2 c i a2 h2 a3 h3 a4 h4 a5 h5 a6 h6 a7 h7 a8 h8 a9 h9 hc hd x0 x1 x2 x3 s0 s1 = last x0 s0 := by
  unfold sout0_C_2
  rw [View.read_writes_eq_canon _ _ _ (scover0_C_2 c i a2 h2 a3 h3 a4 h4 a5 h5 a6 h6 a7 h7 a8 h8 a9 h9 hc hd x0 x1 x2 x3 s0 s1)]
  unfold kernelRun0_C
  dsimp only
  sl_unfold_words
  rw [View.canon_cons_unit_zero (S := S1x8x1024) hz3]
  simp only [View.readAt_eq_ld, h2.read_unread, h7.read_unread, View.ld_unit_zero (S := S2048x1024) hz2]
  exact last_eq inb_S1024x2048_S256x2048_768_0 x0 _

end

/-- The transposed weights, as the host leaves them for the call. -/
theorem V_main_v0 (c : Dev nD) : (V m c main_v0 : Vec Ideal S2x10304x2048 .f32)
    = transpose S2x10304x2048 [0, 2, 1] (m (c.tc.loc main_arg1)) facts.transposes_S2x2048x10304_S2x10304x2048_0_2_1 := by
  show StableHlo.after hostOps0 (fun b => m (c, b)) main_v0 = _
  after_results <;> rfl

/-- The biases, as the host leaves them for the call. -/
theorem V_main_v1 (c : Dev nD) : (V m c main_v1 : Vec Ideal S2x1x6144 .f32)
    = shapeCast S2x1x6144 (m (c.tc.loc main_arg3)) facts.shapeCasts_S2x6144_S2x1x6144 := by
  show StableHlo.after hostOps0 (fun b => m (c, b)) main_v1 = _
  after_results <;> rfl

/-- The block of the transposed weights that point `t` sees, by the column block `t / 8`. -/
theorem X1_apply (c : Dev nD) (t : Fin cfg0.N) (k : Fin 2048) (j : Fin 1024) (h : 4096 + (t.val / 8 * 1024 + j.val) < 10304) :
    (X0_1 m c t : Vec Ideal S1x1024x2048 .f32) (ix3 0 j k) = m (c.tc.loc main_arg1) (ix3 0 k ⟨4096 + (t.val / 8 * 1024 + j.val), h⟩) := by
  have hi : ∀ t : Fin cfg0.N, win0_1.index t 0 = 0 ∧ win0_1.index t 1 = t.val / 8 + 4 ∧ win0_1.index t 2 = 0 :=
    (by decide +kernel : ∀ t : Fin grid0.N, _)
  have e : (X0_1 m c t : Vec Ideal S1x1024x2048 .f32) (ix3 0 j k) = (V m c main_v0 : Vec Ideal S2x10304x2048 .f32) (ix3 0 ⟨4096 + (t.val / 8 * 1024 + j.val), h⟩ k) := by
    unfold X0_1 Pipeline.Window.fill
    rw [dif_pos (moved0_1 t _)]
    unfold iblk
    rw [View.read_apply]
    show V m c main_v0 _ = V m c main_v0 _
    congr 1
    funext a
    apply Fin.ext
    match a with
    | ⟨0, _⟩ => show win0_1.index t 0 * 1 + 1 * 0 = 0; rw [(hi t).1]
    | ⟨1, _⟩ => show win0_1.index t 1 * 1024 + 1 * j.val = 4096 + (t.val / 8 * 1024 + j.val); rw [(hi t).2.1]; omega
    | ⟨2, _⟩ => show win0_1.index t 2 * 2048 + 1 * k.val = k.val; rw [(hi t).2.2]; omega
  rw [e, V_main_v0]
  pointwise

/-- The block of the activation that point `t` sees: rows of the row block `t % 8`, every column. -/
theorem iblk0_apply (c : Dev nD) (t : Fin cfg0.N) (r : Fin 1024) (k : Fin 2048) (h : t.val % 8 * 1024 + r.val < 8192) :
    (iblk m c 0 t : Vec Ideal S1024x2048 .bf16) (ix2 r k) = m (c.tc.loc main_arg0) (ix2 ⟨t.val % 8 * 1024 + r.val, h⟩ k) := by
  have hi : ∀ t : Fin cfg0.N, win0_0.index t 0 = t.val % 8 ∧ win0_0.index t 1 = 0 :=
    (by decide +kernel : ∀ t : Fin grid0.N, _)
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = t.val % 8 * 1024 + r.val; rw [(hi t).1]; omega
  | ⟨1, _⟩ => show win0_0.index t 1 * 2048 + 1 * k.val = k.val; rw [(hi t).2]; omega

/-- The block of the taps that point `t` sees. -/
theorem iblk2_apply (c : Dev nD) (t : Fin cfg0.N) (k : Fin 4) (j : Fin 1024) (h : t.val / 8 * 1024 + j.val < 6144) :
    (iblk m c 2 t : Vec Ideal S1x4x1024 .f32) (ix3 0 k j) = m (c.tc.loc main_arg2) (ix3 0 k ⟨t.val / 8 * 1024 + j.val, h⟩) := by
  have hi : ∀ t : Fin cfg0.N, win0_2.index t 0 = 0 ∧ win0_2.index t 1 = 0 ∧ win0_2.index t 2 = t.val / 8 :=
    (by decide +kernel : ∀ t : Fin grid0.N, _)
  unfold iblk
  rw [View.read_apply]
  show V m c main_arg2 _ = m (c.tc.loc main_arg2) _
  rw [V_main_arg2]
  congr 1
  funext a
  apply Fin.ext
  match a with
  | ⟨0, _⟩ => show win0_2.index t 0 * 1 + 1 * 0 = 0; rw [(hi t).1]
  | ⟨1, _⟩ => show win0_2.index t 1 * 4 + 1 * k.val = k.val; rw [(hi t).2.1]; omega
  | ⟨2, _⟩ => show win0_2.index t 2 * 1024 + 1 * j.val = t.val / 8 * 1024 + j.val; rw [(hi t).2.2]; omega

theorem reshaped_apply (b : Vec Ideal S2x6144 .f32) (j : Fin 6144) : shapeCast S2x1x6144 b facts.shapeCasts_S2x6144_S2x1x6144 (ix3 0 0 j) = b (ix2 0 j) := by
  pointwise

/-- The block of the biases that point `t` sees. -/
theorem iblk3_apply (c : Dev nD) (t : Fin cfg0.N) (j : Fin 1024) (h : t.val / 8 * 1024 + j.val < 6144) :
    (iblk m c 3 t : Vec Ideal S1x1x1024 .f32) (ix3 0 0 j) = m (c.tc.loc main_arg3) (ix2 0 ⟨t.val / 8 * 1024 + j.val, h⟩) := by
  have hi : ∀ t : Fin cfg0.N, win0_3.index t 0 = 0 ∧ win0_3.index t 1 = 0 ∧ win0_3.index t 2 = t.val / 8 :=
    (by decide +kernel : ∀ t : Fin grid0.N, _)
  have e : (iblk m c 3 t : Vec Ideal S1x1x1024 .f32) (ix3 0 0 j) = (V m c main_v1 : Vec Ideal S2x1x6144 .f32) (ix3 0 0 ⟨t.val / 8 * 1024 + j.val, h⟩) := by
    unfold iblk
    rw [View.read_apply]
    show V m c main_v1 _ = V m c main_v1 _
    congr 1
    funext a
    apply Fin.ext
    match a with
    | ⟨0, _⟩ => show win0_3.index t 0 * 1 + 1 * 0 = 0; rw [(hi t).1]
    | ⟨1, _⟩ => show win0_3.index t 1 * 1 + 1 * 0 = 0; rw [(hi t).2.1]
    | ⟨2, _⟩ => show win0_3.index t 2 * 1024 + 1 * j.val = t.val / 8 * 1024 + j.val; rw [(hi t).2.2]; omega
  rw [e, V_main_v1]
  exact reshaped_apply _ _

/-- Points of one column block see one weight block, … -/
theorem X1_prev (c : Dev nD) (n : ℕ) (h : n + 1 < cfg0.N) (hn : ¬(n + 1) % 8 = 0) :
    (X0_1 m c ⟨n, Nat.lt_of_succ_lt h⟩ : Vec Ideal S1x1024x2048 .f32) = X0_1 m c ⟨n + 1, h⟩ := by
  have hN : cfg0.N = 48 := N_0
  funext y
  obtain ⟨j, k, rfl⟩ : ∃ (j : Fin 1024) (k : Fin 2048), y = ix3 0 j k := ⟨y 1, y 2, by
    rw [eq_ix3 y]; congr 1; exact Subsingleton.elim (α := Fin 1) _ _⟩
  rw [X1_apply m c ⟨n, _⟩ k j (by have := j.isLt; dsimp only; omega), X1_apply m c ⟨n + 1, h⟩ k j (by have := j.isLt; dsimp only; omega)]
  congr 2
  apply Fin.ext
  dsimp only
  omega

/-- … one block of taps … -/
theorem iblk2_prev (c : Dev nD) (n : ℕ) (h : n + 1 < cfg0.N) (hn : ¬(n + 1) % 8 = 0) :
    (iblk m c 2 ⟨n, Nat.lt_of_succ_lt h⟩ : Vec Ideal S1x4x1024 .f32) = iblk m c 2 ⟨n + 1, h⟩ := by
  have hN : cfg0.N = 48 := N_0
  funext y
  obtain ⟨k, j, rfl⟩ : ∃ (k : Fin 4) (j : Fin 1024), y = ix3 0 k j := ⟨y 1, y 2, by
    rw [eq_ix3 y]; congr 1; exact Subsingleton.elim (α := Fin 1) _ _⟩
  rw [iblk2_apply m c ⟨n, _⟩ k j (by have := j.isLt; dsimp only; omega), iblk2_apply m c ⟨n + 1, h⟩ k j (by have := j.isLt; dsimp only; omega)]
  congr 2
  apply Fin.ext
  dsimp only
  omega

/-- … and one block of biases. -/
theorem iblk3_prev (c : Dev nD) (n : ℕ) (h : n + 1 < cfg0.N) (hn : ¬(n + 1) % 8 = 0) :
    (iblk m c 3 ⟨n, Nat.lt_of_succ_lt h⟩ : Vec Ideal S1x1x1024 .f32) = iblk m c 3 ⟨n + 1, h⟩ := by
  have hN : cfg0.N = 48 := N_0
  funext y
  obtain ⟨j, rfl⟩ : ∃ (j : Fin 1024), y = ix3 0 0 j := ⟨y 2, by
    rw [eq_ix3 y]; congr 1 <;> exact Subsingleton.elim (α := Fin 1) _ _⟩
  rw [iblk3_apply m c ⟨n, _⟩ j (by have := j.isLt; dsimp only; omega), iblk3_apply m c ⟨n + 1, h⟩ j (by have := j.isLt; dsimp only; omega)]
  congr 2
  apply Fin.ext
  dsimp only
  omega

/-- The rows before point `n`'s: zero where a sequence starts, else the last rows of the point before. -/
def carry (c : Dev nD) : (n : ℕ) → n < cfg0.N → Vec Ideal S1x8x1024 .f32
  | 0, _ => k0_pay10 (F := Ideal)
  | n + 1, h => if (n + 1) % 4 = 0 then k0_pay10 (F := Ideal) else last (iblk m c 0 ⟨n, Nat.lt_of_succ_lt h⟩) (k0_pay3 (F := Ideal) (X0_1 m c ⟨n, Nat.lt_of_succ_lt h⟩))

theorem carry_start (c : Dev nD) (n : ℕ) (h : n + 1 < cfg0.N) (h4 : (n + 1) % 4 = 0) : carry m c (n + 1) h = k0_pay10 (F := Ideal) := if_pos h4

theorem carry_next (c : Dev nD) (n : ℕ) (h : n + 1 < cfg0.N) (h4 : ¬(n + 1) % 4 = 0) :
    carry m c (n + 1) h = last (iblk m c 0 ⟨n, Nat.lt_of_succ_lt h⟩) (k0_pay3 (F := Ideal) (X0_1 m c ⟨n, Nat.lt_of_succ_lt h⟩)) := if_neg h4

/-- After every point: the output block, the scratches at the cast weights, the taps and the last rows. -/
theorem outsAt_eq (c : Dev nD) : ∀ (n : ℕ) (h : n < cfg0.N), outsAt0 m c n h
    = (blockOut (iblk m c 0 ⟨n, h⟩) (k0_pay3 (F := Ideal) (X0_1 m c ⟨n, h⟩)) (taps (iblk m c 2 ⟨n, h⟩) (iblk m c 3 ⟨n, h⟩)) (carry m c n h), k0_pay3 (F := Ideal) (X0_1 m c ⟨n, h⟩),
      taps (iblk m c 2 ⟨n, h⟩) (iblk m c 3 ⟨n, h⟩), last (iblk m c 0 ⟨n, h⟩) (k0_pay3 (F := Ideal) (X0_1 m c ⟨n, h⟩)))
  | 0, h => by
    rw [outsAt0_A m c ⟨0, h⟩ rfl rfl, out_A, sout0_A, sout1_A, sout2_A]
    rfl
  | n + 1, h => by
    by_cases hn : (n + 1) % 8 = 0
    · rw [outsAt0_A m c ⟨n + 1, h⟩ hn (by dsimp only; omega), out_A, sout0_A, sout1_A, sout2_A]
      rw [carry_start m c n h (by omega)]
    · by_cases h4 : (n + 1) % 4 = 0
      · rw [outsAt0_C m c ⟨n + 1, h⟩ hn h4, out_C, sout2_C]
        unfold sout0_C_0 sout0_C_1
        show (blockOut _ (outsAt0 m c n _).2.1 (outsAt0 m c n _).2.2.1 _, (outsAt0 m c n _).2.1, (outsAt0 m c n _).2.2.1, last _ (outsAt0 m c n _).2.1) = _
        rw [outsAt_eq c n]
        dsimp only
        rw [carry_start m c n h h4, X1_prev m c n h hn, iblk2_prev m c n h hn, iblk3_prev m c n h hn]
      · rw [outsAt0_B m c ⟨n + 1, h⟩ hn h4, out_B, sout2_B]
        unfold sout0_B_0 sout0_B_1
        show (blockOut _ (outsAt0 m c n _).2.1 (outsAt0 m c n _).2.2.1 (outsAt0 m c n _).2.2.2, (outsAt0 m c n _).2.1, (outsAt0 m c n _).2.2.1, last _ (outsAt0 m c n _).2.1) = _
        rw [outsAt_eq c n]
        dsimp only
        rw [carry_next m c n h h4,
          X1_prev m c n h hn, iblk2_prev m c n h hn, iblk3_prev m c n h hn]

/-- The rows before point `n`'s, from the arrays. -/
theorem carry_apply (c : Dev nD) (n : ℕ) (h : n < cfg0.N) (h48 : n < 48) (e : Fin 8) (j : Fin 1024) : carry m c n h (ix3 0 e j) = if n % 4 = 0 then 0 else
    U (m (c.tc.loc main_arg0)) (fun k j => m (c.tc.loc main_arg1) (ix3 0 k ⟨4096 + j.val, by omega⟩)) (ix2 ⟨n % 8 * 1024 - 8 + e.val, by omega⟩ ⟨n / 8 * 1024 + j.val, by omega⟩) := by
  match n, h with
  | 0, _ => exact zero_apply _
  | n + 1, h =>
    by_cases h4 : (n + 1) % 4 = 0
    · rw [carry_start m c n h h4, if_pos h4]
      exact zero_apply _
    · rw [carry_next m c n h h4, if_neg h4]
      unfold last
      have p := P_eq n (by omega) (m (c.tc.loc main_arg0)) (fun k j => m (c.tc.loc main_arg1) (ix3 0 k ⟨4096 + j.val, by omega⟩))
        (iblk m c 0 ⟨n, Nat.lt_of_succ_lt h⟩) (k0_pay3 (F := Ideal) (X0_1 m c ⟨n, Nat.lt_of_succ_lt h⟩))
        (fun r k => iblk0_apply m c ⟨n, Nat.lt_of_succ_lt h⟩ r k (by dsimp only; omega)) j
        (fun k => (cast_apply _ k j).trans (X1_apply m c ⟨n, Nat.lt_of_succ_lt h⟩ k j (by dsimp only; omega))) ⟨1016 + e.val, by omega⟩
      refine p.trans ?_
      congr 2
      · apply Fin.ext
        dsimp only
        omega
      · apply Fin.ext
        dsimp only
        omega

/-- The output array, index by index. -/
theorem G_apply (c : Dev nD) (r : Fin 8192) (j : Fin 6144) : G4 m c (ix2 r j)
    = result (m (c.tc.loc main_arg0)) (fun k j => m (c.tc.loc main_arg1) (ix3 0 k ⟨4096 + j.val, by omega⟩))
        (fun k j => m (c.tc.loc main_arg2) (ix3 0 k j)) (fun j => m (c.tc.loc main_arg3) (ix2 0 j)) r j := by
  have hN : cfg0.N = 48 := N_0
  have hr := r.isLt
  have hj := j.isLt
  have hp : pt4Of (ix2 r j) = r.val / 1024 + 8 * (j.val / 1024) := by
    show 1 * (r.val / 1024 - 0) + 8 * (j.val / 1024 - 0) = _; omega
  have hl : loc4Of (ix2 r j) = ix2 ⟨r.val % 1024, Nat.mod_lt _ (by decide)⟩ ⟨j.val % 1024, Nat.mod_lt _ (by decide)⟩ := by
    funext a; match a with
    | ⟨0, _⟩ => rfl
    | ⟨1, _⟩ => rfl
  have hlt : pt4Of (ix2 r j) < cfg0.N := by rw [hp]; omega
  unfold G4
  rw [dif_pos hlt, hl, ← outsAt0_sweep m c (pt4Of (ix2 r j)) hlt, outsAt_eq]
  dsimp only
  generalize pt4Of (ix2 r j) = n at hp hlt ⊢
  have h48 : n < 48 := by omega
  have b := block_eq n h48 (m (c.tc.loc main_arg0)) (fun k j => m (c.tc.loc main_arg1) (ix3 0 k ⟨4096 + j.val, by omega⟩))
    (fun k j => m (c.tc.loc main_arg2) (ix3 0 k j)) (fun j => m (c.tc.loc main_arg3) (ix2 0 j))
    (iblk m c 0 ⟨n, hlt⟩) (k0_pay3 (F := Ideal) (X0_1 m c ⟨n, hlt⟩)) (taps (iblk m c 2 ⟨n, hlt⟩) (iblk m c 3 ⟨n, hlt⟩)) (carry m c n hlt)
    (fun r k => iblk0_apply m c ⟨n, hlt⟩ r k (by dsimp only; omega)) ⟨j.val % 1024, Nat.mod_lt _ (by decide)⟩
    (fun k => (cast_apply _ k _).trans (X1_apply m c ⟨n, hlt⟩ k ⟨j.val % 1024, Nat.mod_lt _ (by decide)⟩ (by dsimp only; omega)))
    (fun k e => by
      refine (dif_pos (show k.val < 4 from k.isLt)).trans ?_
      exact iblk2_apply m c ⟨n, hlt⟩ k ⟨j.val % 1024, Nat.mod_lt _ (by decide)⟩ (by dsimp only; omega))
    (fun e => by
      refine (dif_neg (show ¬(4 : ℕ) < 4 by omega)).trans ?_
      exact iblk3_apply m c ⟨n, hlt⟩ ⟨j.val % 1024, Nat.mod_lt _ (by decide)⟩ (by dsimp only; omega))
    (fun e => carry_apply m c n hlt h48 e ⟨j.val % 1024, Nat.mod_lt _ (by decide)⟩) ⟨r.val % 1024, Nat.mod_lt _ (by decide)⟩
  refine Eq.trans ?_ (b.trans ?_)
  · rfl
  · congr 1
    · apply Fin.ext
      dsimp only
      omega
    · apply Fin.ext
      dsimp only
      omega

end Cert.KernelIdeal16.InXbc

namespace Cert.ReferenceIdeal16.InXbc

open Cert.ReferenceIdeal16 Cert.ReferenceIdeal16.Gen Cert.ReferenceIdeal16.Value
open Cert.ReferenceIdeal16.InXbc (termU termY termO padded wide result term_apply)

theorem res_eq (m : (ℓ : Loc nD τ sig) → Buf (Elt Ideal) ℓ) (c : Dev nD) :
    res_main_v46 (F := Ideal) m c = termO (termY
      (shapeCast _ (extractStridedSlice S1x1x6144 ![0, 0, 0] (m (c.tc.loc main_arg2)) slices_S2x4x6144_S1x1x6144_0_0_0) shapeCasts_S1x1x6144_S6144)
      (shapeCast _ (extractStridedSlice S1x1x6144 ![0, 1, 0] (m (c.tc.loc main_arg2)) slices_S2x4x6144_S1x1x6144_0_1_0) shapeCasts_S1x1x6144_S6144)
      (shapeCast _ (extractStridedSlice S1x1x6144 ![0, 2, 0] (m (c.tc.loc main_arg2)) slices_S2x4x6144_S1x1x6144_0_2_0) shapeCasts_S1x1x6144_S6144)
      (shapeCast _ (extractStridedSlice S1x1x6144 ![0, 3, 0] (m (c.tc.loc main_arg2)) slices_S2x4x6144_S1x1x6144_0_3_0) shapeCasts_S1x1x6144_S6144)
      (shapeCast _ (extractStridedSlice S1x6144 ![0, 0] (m (c.tc.loc main_arg3)) slices_S2x6144_S1x6144_0_0) shapeCasts_S1x6144_S6144)
      (termU (m (c.tc.loc main_arg0))
        (shapeCast _ (extractStridedSlice S1x2048x10304 ![0, 0, 0] (m (c.tc.loc main_arg1)) slices_S2x2048x10304_S1x2048x10304_0_0_0) shapeCasts_S1x2048x10304_S2048x10304))) := by
  unfold res_main_v46 termO termY termU padded wide
  rfl

theorem weight_apply (w : FVec Ideal S2x2048x10304 .f32) (k : Fin 2048) (j : Fin 6144) :
    (shapeCast S2048x10304 (extractStridedSlice S1x2048x10304 ![0, 0, 0] w slices_S2x2048x10304_S1x2048x10304_0_0_0) shapeCasts_S1x2048x10304_S2048x10304) (ix2 k ⟨4096 + j.val, by omega⟩)
      = w (ix3 0 k ⟨4096 + j.val, by omega⟩) := by pointwise
theorem tap0_apply (p : FVec Ideal S2x4x6144 .f32) (j : Fin 6144) :
    (shapeCast S6144 (extractStridedSlice S1x1x6144 ![0, 0, 0] p slices_S2x4x6144_S1x1x6144_0_0_0) shapeCasts_S1x1x6144_S6144) (ix1 j) = p (ix3 0 0 j) := by pointwise
theorem tap1_apply (p : FVec Ideal S2x4x6144 .f32) (j : Fin 6144) :
    (shapeCast S6144 (extractStridedSlice S1x1x6144 ![0, 1, 0] p slices_S2x4x6144_S1x1x6144_0_1_0) shapeCasts_S1x1x6144_S6144) (ix1 j) = p (ix3 0 1 j) := by pointwise
theorem tap2_apply (p : FVec Ideal S2x4x6144 .f32) (j : Fin 6144) :
    (shapeCast S6144 (extractStridedSlice S1x1x6144 ![0, 2, 0] p slices_S2x4x6144_S1x1x6144_0_2_0) shapeCasts_S1x1x6144_S6144) (ix1 j) = p (ix3 0 2 j) := by pointwise
theorem tap3_apply (p : FVec Ideal S2x4x6144 .f32) (j : Fin 6144) :
    (shapeCast S6144 (extractStridedSlice S1x1x6144 ![0, 3, 0] p slices_S2x4x6144_S1x1x6144_0_3_0) shapeCasts_S1x1x6144_S6144) (ix1 j) = p (ix3 0 3 j) := by pointwise
theorem bias_apply (b : FVec Ideal S2x6144 .f32) (j : Fin 6144) :
    (shapeCast S6144 (extractStridedSlice S1x6144 ![0, 0] b slices_S2x6144_S1x6144_0_0) shapeCasts_S1x6144_S6144) (ix1 j) = b (ix2 0 j) := by pointwise

/-- The reference's result, index by index. -/
theorem res_apply (m : (ℓ : Loc nD τ sig) → Buf (Elt Ideal) ℓ) (c : Dev nD) (r : Fin 8192) (j : Fin 6144) :
    res_main_v46 (F := Ideal) m c (ix2 r j)
      = result (m (c.tc.loc main_arg0)) (fun k j => m (c.tc.loc main_arg1) (ix3 0 k ⟨4096 + j.val, by omega⟩))
        (fun k j => m (c.tc.loc main_arg2) (ix3 0 k j)) (fun j => m (c.tc.loc main_arg3) (ix2 0 j)) r j := by
  rw [res_eq]
  exact term_apply _ _ _ _ _ _ _ _ _ _ (weight_apply _) (tap0_apply _) (tap1_apply _) (tap2_apply _) (tap3_apply _) (bias_apply _) r j

end Cert.ReferenceIdeal16.InXbc

end
-- ==== Proof.InXbc1.lean ====
/- The scan's input call of the second scan layer: what each point leaves, from the arrays. -/
module

public import proofs.«01_k».proof.Proof.InXbc.Value
public import proofs.«01_k».proof.Proof.Gen.KernelIdeal17.Value
public import proofs.«01_k».proof.Proof.Gen.ReferenceIdeal17.Run

@[expose] public section

set_option maxRecDepth 16384

noncomputable section

open Idealize.ShloMosaic Idealize.ShloMosaic.TcCoe Idealize.SL.Sem
open Idealize.ShloMosaic.Pipeline (Dat)

namespace Cert.KernelIdeal17.InXbc1

open Cert.KernelIdeal17 Cert.KernelIdeal17.Gen Cert.KernelIdeal17.Value
open Cert.KernelIdeal16.InXbc (blockOut last taps readCov_ld rows_first rows_next last_eq block_eq P_eq hz2 hz3 tap_apply bias_apply cast_apply zero_apply)
open Cert.ReferenceIdeal16.InXbc (U proj result)

variable (m : (ℓ : Loc nD τ sig) → Buf (Elt Ideal) ℓ)

section

variable (c : Dev nD) (i : grid0.Coords) (a2 : Memref sig .tc .vmem S1024x2048 .bf16) (h2 : a2.IsWhole) (a3 : Memref sig .tc .vmem S1x1024x2048 .f32)
    (h3 : a3.IsWhole) (a4 : Memref sig .tc .vmem S1x4x1024 .f32) (h4 : a4.IsWhole) (a5 : Memref sig .tc .vmem S1x1x1024 .f32) (h5 : a5.IsWhole)
    (a6 : Memref sig .tc .vmem S1024x1024 .f32) (h6 : a6.IsWhole) (a7 : Memref sig .tc .vmem S2048x1024 .bf16) (h7 : a7.IsWhole)
    (a8 : Memref sig .tc .vmem S5x8x1024 .f32) (h8 : a8.IsWhole) (a9 : Memref sig .tc .vmem S1x8x1024 .f32) (h9 : a9.IsWhole)
    (x0 : Vec Ideal S1024x2048 .bf16) (x1 : Vec Ideal S1x1024x2048 .f32) (x2 : Vec Ideal S1x4x1024 .f32) (x3 : Vec Ideal S1x1x1024 .f32)

/-- At the first row block of a column block the body leaves the cast, transposed weight block in the first scratch buffer. -/
theorem sout0_A (hc : cond0_0 i) (hd : cond0_1 i) :
    sout0_A_0 c i a2 h2 a3 h3 a4 h4 a5 h5 a6 h6 a7 h7 a8 h8 a9 h9 hc hd x0 x1 x2 x3 = (k0_pay3 (F := Ideal) x1) := by
  unfold sout0_A_0
  rw [View.read_writes_eq_canon _ _ _ (scover0_A_0 c i a2 h2 a3 h3 a4 h4 a5 h5 a6 h6 a7 h7 a8 h8 a9 h9 hc hd x0 x1 x2 x3)]
  unfold kernelRun0_A
  dsimp only
  sl_unfold_words
  rw [View.canon_unit_zero hz2]
  simp only [View.readAt_eq_ld, h3.read_unread, View.ld_unit_zero (S := S1x1024x2048) hz3]

/-- … and the taps with the bias in the second. -/
theorem sout1_A (hc : cond0_0 i) (hd : cond0_1 i) :
    sout0_A_1 c i a2 h2 a3 h3 a4 h4 a5 h5 a6 h6 a7 h7 a8 h8 a9 h9 hc hd x0 x1 x2 x3 = taps x2 x3 := by
  unfold sout0_A_1
  rw [View.read_writes_eq_canon _ _ _ (scover0_A_1 c i a2 h2 a3 h3 a4 h4 a5 h5 a6 h6 a7 h7 a8 h8 a9 h9 hc hd x0 x1 x2 x3)]
  funext y
  refine View.canon_apply_of_pieces (taps x2 x3) _ ?_ y (scover0_A_1 c i a2 h2 a3 h3 a4 h4 a5 h5 a6 h6 a7 h7 a8 h8 a9 h9 hc hd x0 x1 x2 x3 y)
  unfold kernelRun0_A
  dsimp only
  sl_unfold_words
  simp only [View.readAt_eq_ld, h4.read_unread, h5.read_unread, View.ld_unit_zero (S := S1x1x1024) hz3]
  intro p hp x
  simp only [List.mem_cons, List.not_mem_nil, or_false] at hp
  rcases hp with rfl | rfl | rfl | rfl | rfl
  · exact bias_apply inb_S5x8x1024_S1x8x1024_4_0_0 x2 x3 x
  · exact tap_apply 3 inb_S1x4x1024_S1x1x1024_0_3_0 inb_S5x8x1024_S1x8x1024_3_0_0 x2 x3 x
  · exact tap_apply 2 inb_S1x4x1024_S1x1x1024_0_2_0 inb_S5x8x1024_S1x8x1024_2_0_0 x2 x3 x
  · exact tap_apply 1 inb_S1x4x1024_S1x1x1024_0_1_0 inb_S5x8x1024_S1x8x1024_1_0_0 x2 x3 x
  · exact tap_apply 0 inb_S1x4x1024_S1x1x1024_0_0_0 inb_S5x8x1024_S1x8x1024_0_0_0 x2 x3 x

/-- … and the last 8 products in the third. -/
theorem sout2_A (hc : cond0_0 i) (hd : cond0_1 i) :
    sout0_A_2 c i a2 h2 a3 h3 a4 h4 a5 h5 a6 h6 a7 h7 a8 h8 a9 h9 hc hd x0 x1 x2 x3 = last x0 (k0_pay3 (F := Ideal) x1) := by
  unfold sout0_A_2
  rw [View.read_writes_eq_canon _ _ _ (scover0_A_2 c i a2 h2 a3 h3 a4 h4 a5 h5 a6 h6 a7 h7 a8 h8 a9 h9 hc hd x0 x1 x2 x3)]
  unfold kernelRun0_A
  dsimp only
  sl_unfold_words
  rw [View.canon_cons_unit_zero (S := S1x8x1024) hz3]
  simp only [View.readAt_eq_ld, h2.read_unread, View.readCov_unit_zero (S := S2048x1024) _ hz2, h3.read_unread, View.ld_unit_zero (S := S1x1024x2048) hz3]
  exact last_eq inb_S1024x2048_S256x2048_768_0 x0 _

/-- … and the gated convolution in the output block, with no rows before it. -/
theorem out_A (hc : cond0_0 i) (hd : cond0_1 i) :
    out0_A_4 c i a2 h2 a3 h3 a4 h4 a5 h5 a6 h6 a7 h7 a8 h8 a9 h9 hc hd x0 x1 x2 x3 = blockOut x0 (k0_pay3 (F := Ideal) x1) (taps x2 x3) (k0_pay10 (F := Ideal)) := by
  unfold out0_A_4
  rw [View.read_writes_eq_canon _ _ _ (cover0_A_4 c i a2 h2 a3 h3 a4 h4 a5 h5 a6 h6 a7 h7 a8 h8 a9 h9 hc hd x0 x1 x2 x3)]
  funext y
  refine View.canon_apply_of_pieces (blockOut x0 (k0_pay3 (F := Ideal) x1) (taps x2 x3) (k0_pay10 (F := Ideal))) _ ?_ y (cover0_A_4 c i a2 h2 a3 h3 a4 h4 a5 h5 a6 h6 a7 h7 a8 h8 a9 h9 hc hd x0 x1 x2 x3 y)
  have hT : View.canon (kernelRun0_A c i a2 h2 a3 h3 a4 h4 a5 h5 a6 h6 a7 h7 a8 h8 a9 h9 hc hd x0 x1 x2 x3).2.2.1 = taps x2 x3 :=
    (View.read_writes_eq_canon _ _ _ (scover0_A_1 c i a2 h2 a3 h3 a4 h4 a5 h5 a6 h6 a7 h7 a8 h8 a9 h9 hc hd x0 x1 x2 x3)).symm.trans (sout1_A c i a2 h2 a3 h3 a4 h4 a5 h5 a6 h6 a7 h7 a8 h8 a9 h9 x0 x1 x2 x3 hc hd)
  revert hT
  unfold kernelRun0_A
  dsimp only
  sl_unfold_words
  simp only [readCov_ld, View.readCov_unit_zero (S := S2048x1024) _ hz2, View.readCov_unit_zero (S := S1x8x1024) _ hz3, View.readAt_eq_ld, h2.read_unread, h3.read_unread, h4.read_unread, h5.read_unread,
    View.ld_unit_zero (S := S1x1024x2048) hz3, View.ld_unit_zero (S := S1x1x1024) hz3]
  intro hT p hp x
  simp only [hT] at hp x
  clear hT
  generalize taps x2 x3 = T at hp x ⊢
  generalize k0_pay3 (F := Ideal) x1 = W at hp x ⊢
  generalize k0_pay10 (F := Ideal) = q at hp x ⊢
  simp only [List.mem_cons, List.not_mem_nil, or_false] at hp
  rcases hp with rfl | rfl | rfl | rfl
  · exact rows_next 512 768 rfl rfl inb_S1024x2048_S256x2048_512_0 inb_S1024x2048_S256x2048_768_0 inb_S1024x1024_S256x1024_768_0 x0 _ _ _ x
  · exact rows_next 256 512 rfl rfl inb_S1024x2048_S256x2048_256_0 inb_S1024x2048_S256x2048_512_0 inb_S1024x1024_S256x1024_512_0 x0 _ _ _ x
  · exact rows_next 0 256 rfl rfl inb_S1024x2048_S256x2048_0_0 inb_S1024x2048_S256x2048_256_0 inb_S1024x1024_S256x1024_256_0 x0 _ _ _ x
  · exact rows_first inb_S1024x2048_S256x2048_0_0 inb_S1024x1024_S256x1024_0_0 x0 _ _ _ x

/-- At a row block inside a sequence the body takes weights, taps and the rows before from the scratch buffers. -/
theorem out_B (hc : ¬cond0_0 i) (hd : ¬cond0_1 i) (s0 : Vec Ideal S2048x1024 .bf16) (s1 : Vec Ideal S5x8x1024 .f32) (s2 : Vec Ideal S1x8x1024 .f32) :
    out0_B_4 c i a2 h2 a3 h3 a4 h4 a5 h5 a6 h6 a7 h7 a8 h8 a9 h9 hc hd x0 x1 x2 x3 s0 s1 s2 = blockOut x0 s0 s1 s2 := by
  unfold out0_B_4
  rw [View.read_writes_eq_canon _ _ _ (cover0_B_4 c i a2 h2 a3 h3 a4 h4 a5 h5 a6 h6 a7 h7 a8 h8 a9 h9 hc hd x0 x1 x2 x3 s0 s1 s2)]
  funext y
  refine View.canon_apply_of_pieces (blockOut x0 s0 s1 s2) _ ?_ y (cover0_B_4 c i a2 h2 a3 h3 a4 h4 a5 h5 a6 h6 a7 h7 a8 h8 a9 h9 hc hd x0 x1 x2 x3 s0 s1 s2 y)
  unfold kernelRun0_B
  dsimp only
  sl_unfold_words
  simp only [View.readAt_eq_ld, h2.read_unread, h7.read_unread, h8.read_unread, h9.read_unread, View.ld_unit_zero (S := S2048x1024) hz2, View.ld_unit_zero (S := S1x8x1024) hz3]
  intro p hp x
  simp only [List.mem_cons, List.not_mem_nil, or_false] at hp
  rcases hp with rfl | rfl | rfl | rfl
  · exact rows_next 512 768 rfl rfl inb_S1024x2048_S256x2048_512_0 inb_S1024x2048_S256x2048_768_0 inb_S1024x1024_S256x1024_768_0 x0 _ _ _ x
  · exact rows_next 256 512 rfl rfl inb_S1024x2048_S256x2048_256_0 inb_S1024x2048_S256x2048_512_0 inb_S1024x1024_S256x1024_512_0 x0 _ _ _ x
  · exact rows_next 0 256 rfl rfl inb_S1024x2048_S256x2048_0_0 inb_S1024x2048_S256x2048_256_0 inb_S1024x1024_S256x1024_256_0 x0 _ _ _ x
  · exact rows_first inb_S1024x2048_S256x2048_0_0 inb_S1024x1024_S256x1024_0_0 x0 _ _ _ x

/-- … and leaves the last 8 products. -/
theorem sout2_B (hc : ¬cond0_0 i) (hd : ¬cond0_1 i) (s0 : Vec Ideal S2048x1024 .bf16) (s1 : Vec Ideal S5x8x1024 .f32) (s2 : Vec Ideal S1x8x1024 .f32) :
    sout0_B_2 c i a2 h2 a3 h3 a4 h4 a5 h5 a6 h6 a7 h7 a8 h8 a9 h9 hc hd x0 x1 x2 x3 s0 s1 s2 = last x0 s0 := by
  unfold sout0_B_2
  rw [View.read_writes_eq_canon _ _ _ (scover0_B_2 c i a2 h2 a3 h3 a4 h4 a5 h5 a6 h6 a7 h7 a8 h8 a9 h9 hc hd x0 x1 x2 x3 s0 s1 s2)]
  unfold kernelRun0_B
  dsimp only
  sl_unfold_words
  rw [View.canon_cons_unit_zero (S := S1x8x1024) hz3]
  simp only [View.readAt_eq_ld, h2.read_unread, h7.read_unread, View.ld_unit_zero (S := S2048x1024) hz2]
  exact last_eq inb_S1024x2048_S256x2048_768_0 x0 _

/-- At the first row block of the second sequence it takes weights and taps from the scratch buffers, with no rows before it. -/
theorem out_C (hc : ¬cond0_0 i) (hd : cond0_1 i) (s0 : Vec Ideal S2048x1024 .bf16) (s1 : Vec Ideal S5x8x1024 .f32) :
    out0_C_4 c i a2 h2 a3 h3 a4 h4 a5 h5 a6 h6 a7 h7 a8 h8 a9 h9 hc hd x0 x1 x2 x3 s0 s1 = blockOut x0 s0 s1 (k0_pay10 (F := Ideal)) := by
  unfold out0_C_4
  rw [View.read_writes_eq_canon _ _ _ (cover0_C_4 c i a2 h2 a3 h3 a4 h4 a5 h5 a6 h6 a7 h7 a8 h8 a9 h9 hc hd x0 x1 x2 x3 s0 s1)]
  funext y
  refine View.canon_apply_of_pieces (blockOut x0 s0 s1 (k0_pay10 (F := Ideal))) _ ?_ y (cover0_C_4 c i a2 h2 a3 h3 a4 h4 a5 h5 a6 h6 a7 h7 a8 h8 a9 h9 hc hd x0 x1 x2 x3 s0 s1 y)
  unfold kernelRun0_C
  dsimp only
  sl_unfold_words
  simp only [View.readCov_unit_zero (S := S1x8x1024) _ hz3, View.readAt_eq_ld, h2.read_unread, h7.read_unread, h8.read_unread, View.ld_unit_zero (S := S2048x1024) hz2]
  intro p hp x
  simp only [List.mem_cons, List.not_mem_nil, or_false] at hp
  rcases hp with rfl | rfl | rfl | rfl
  · exact rows_next 512 768 rfl rfl inb_S1024x2048_S256x2048_512_0 inb_S1024x2048_S256x2048_768_0 inb_S1024x1024_S256x1024_768_0 x0 _ _ _ x
  · exact rows_next 256 512 rfl rfl inb_S1024x2048_S256x2048_256_0 inb_S1024x2048_S256x2048_512_0 inb_S1024x1024_S256x1024_512_0 x0 _ _ _ x
  · exact rows_next 0 256 rfl rfl inb_S1024x2048_S256x2048_0_0 inb_S1024x2048_S256x2048_256_0 inb_S1024x1024_S256x1024_256_0 x0 _ _ _ x
  · exact rows_first inb_S1024x2048_S256x2048_0_0 inb_S1024x1024_S256x1024_0_0 x0 _ _ _ x

/-- … and leaves the last 8 products. -/
theorem sout2_C (hc : ¬cond0_0 i) (hd : cond0_1 i) (s0 : Vec Ideal S2048x1024 .bf16) (s1 : Vec Ideal S5x8x1024 .f32) :
    sout0_C_2 c i a2 h2 a3 h3 a4 h4 a5 h5 a6 h6 a7 h7 a8 h8 a9 h9 hc hd x0 x1 x2 x3 s0 s1 = last x0 s0 := by
  unfold sout0_C_2
  rw [View.read_writes_eq_canon _ _ _ (scover0_C_2 c i a2 h2 a3 h3 a4 h4 a5 h5 a6 h6 a7 h7 a8 h8 a9 h9 hc hd x0 x1 x2 x3 s0 s1)]
  unfold kernelRun0_C
  dsimp only
  sl_unfold_words
  rw [View.canon_cons_unit_zero (S := S1x8x1024) hz3]
  simp only [View.readAt_eq_ld, h2.read_unread, h7.read_unread, View.ld_unit_zero (S := S2048x1024) hz2]
  exact last_eq inb_S1024x2048_S256x2048_768_0 x0 _

end

/-- The transposed weights, as the host leaves them for the call. -/
theorem V_main_v0 (c : Dev nD) : (V m c main_v0 : Vec Ideal S2x10304x2048 .f32)
    = transpose S2x10304x2048 [0, 2, 1] (m (c.tc.loc main_arg1)) facts.transposes_S2x2048x10304_S2x10304x2048_0_2_1 := by
  show StableHlo.after hostOps0 (fun b => m (c, b)) main_v0 = _
  after_results <;> rfl

/-- The biases, as the host leaves them for the call. -/
theorem V_main_v1 (c : Dev nD) : (V m c main_v1 : Vec Ideal S2x1x6144 .f32)
    = shapeCast S2x1x6144 (m (c.tc.loc main_arg3)) facts.shapeCasts_S2x6144_S2x1x6144 := by
  show StableHlo.after hostOps0 (fun b => m (c, b)) main_v1 = _
  after_results <;> rfl

/-- The block of the transposed weights that point `t` sees, by the column block `t / 8`. -/
theorem X1_apply (c : Dev nD) (t : Fin cfg0.N) (k : Fin 2048) (j : Fin 1024) (h : 4096 + (t.val / 8 * 1024 + j.val) < 10304) :
    (X0_1 m c t : Vec Ideal S1x1024x2048 .f32) (ix3 0 j k) = m (c.tc.loc main_arg1) (ix3 1 k ⟨4096 + (t.val / 8 * 1024 + j.val), h⟩) := by
  have hi : ∀ t : Fin cfg0.N, win0_1.index t 0 = 1 ∧ win0_1.index t 1 = t.val / 8 + 4 ∧ win0_1.index t 2 = 0 :=
    (by decide +kernel : ∀ t : Fin grid0.N, _)
  have e : (X0_1 m c t : Vec Ideal S1x1024x2048 .f32) (ix3 0 j k) = (V m c main_v0 : Vec Ideal S2x10304x2048 .f32) (ix3 1 ⟨4096 + (t.val / 8 * 1024 + j.val), h⟩ k) := by
    unfold X0_1 Pipeline.Window.fill
    rw [dif_pos (moved0_1 t _)]
    unfold iblk
    rw [View.read_apply]
    show V m c main_v0 _ = V m c main_v0 _
    congr 1
    funext a
    apply Fin.ext
    match a with
    | ⟨0, _⟩ => show win0_1.index t 0 * 1 + 1 * 0 = 1; rw [(hi t).1]
    | ⟨1, _⟩ => show win0_1.index t 1 * 1024 + 1 * j.val = 4096 + (t.val / 8 * 1024 + j.val); rw [(hi t).2.1]; omega
    | ⟨2, _⟩ => show win0_1.index t 2 * 2048 + 1 * k.val = k.val; rw [(hi t).2.2]; omega
  rw [e, V_main_v0]
  pointwise

/-- The block of the activation that point `t` sees: rows of the row block `t % 8`, every column. -/
theorem iblk0_apply (c : Dev nD) (t : Fin cfg0.N) (r : Fin 1024) (k : Fin 2048) (h : t.val % 8 * 1024 + r.val < 8192) :
    (iblk m c 0 t : Vec Ideal S1024x2048 .bf16) (ix2 r k) = m (c.tc.loc main_arg0) (ix2 ⟨t.val % 8 * 1024 + r.val, h⟩ k) := by
  have hi : ∀ t : Fin cfg0.N, win0_0.index t 0 = t.val % 8 ∧ win0_0.index t 1 = 0 :=
    (by decide +kernel : ∀ t : Fin grid0.N, _)
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = t.val % 8 * 1024 + r.val; rw [(hi t).1]; omega
  | ⟨1, _⟩ => show win0_0.index t 1 * 2048 + 1 * k.val = k.val; rw [(hi t).2]; omega

/-- The block of the taps that point `t` sees. -/
theorem iblk2_apply (c : Dev nD) (t : Fin cfg0.N) (k : Fin 4) (j : Fin 1024) (h : t.val / 8 * 1024 + j.val < 6144) :
    (iblk m c 2 t : Vec Ideal S1x4x1024 .f32) (ix3 0 k j) = m (c.tc.loc main_arg2) (ix3 1 k ⟨t.val / 8 * 1024 + j.val, h⟩) := by
  have hi : ∀ t : Fin cfg0.N, win0_2.index t 0 = 1 ∧ win0_2.index t 1 = 0 ∧ win0_2.index t 2 = t.val / 8 :=
    (by decide +kernel : ∀ t : Fin grid0.N, _)
  unfold iblk
  rw [View.read_apply]
  show V m c main_arg2 _ = m (c.tc.loc main_arg2) _
  rw [V_main_arg2]
  congr 1
  funext a
  apply Fin.ext
  match a with
  | ⟨0, _⟩ => show win0_2.index t 0 * 1 + 1 * 0 = 1; rw [(hi t).1]
  | ⟨1, _⟩ => show win0_2.index t 1 * 4 + 1 * k.val = k.val; rw [(hi t).2.1]; omega
  | ⟨2, _⟩ => show win0_2.index t 2 * 1024 + 1 * j.val = t.val / 8 * 1024 + j.val; rw [(hi t).2.2]; omega

theorem reshaped_apply (b : Vec Ideal S2x6144 .f32) (j : Fin 6144) : shapeCast S2x1x6144 b facts.shapeCasts_S2x6144_S2x1x6144 (ix3 1 0 j) = b (ix2 1 j) := by
  pointwise

/-- The block of the biases that point `t` sees. -/
theorem iblk3_apply (c : Dev nD) (t : Fin cfg0.N) (j : Fin 1024) (h : t.val / 8 * 1024 + j.val < 6144) :
    (iblk m c 3 t : Vec Ideal S1x1x1024 .f32) (ix3 0 0 j) = m (c.tc.loc main_arg3) (ix2 1 ⟨t.val / 8 * 1024 + j.val, h⟩) := by
  have hi : ∀ t : Fin cfg0.N, win0_3.index t 0 = 1 ∧ win0_3.index t 1 = 0 ∧ win0_3.index t 2 = t.val / 8 :=
    (by decide +kernel : ∀ t : Fin grid0.N, _)
  have e : (iblk m c 3 t : Vec Ideal S1x1x1024 .f32) (ix3 0 0 j) = (V m c main_v1 : Vec Ideal S2x1x6144 .f32) (ix3 1 0 ⟨t.val / 8 * 1024 + j.val, h⟩) := by
    unfold iblk
    rw [View.read_apply]
    show V m c main_v1 _ = V m c main_v1 _
    congr 1
    funext a
    apply Fin.ext
    match a with
    | ⟨0, _⟩ => show win0_3.index t 0 * 1 + 1 * 0 = 1; rw [(hi t).1]
    | ⟨1, _⟩ => show win0_3.index t 1 * 1 + 1 * 0 = 0; rw [(hi t).2.1]
    | ⟨2, _⟩ => show win0_3.index t 2 * 1024 + 1 * j.val = t.val / 8 * 1024 + j.val; rw [(hi t).2.2]; omega
  rw [e, V_main_v1]
  exact reshaped_apply _ _

/-- Points of one column block see one weight block, … -/
theorem X1_prev (c : Dev nD) (n : ℕ) (h : n + 1 < cfg0.N) (hn : ¬(n + 1) % 8 = 0) :
    (X0_1 m c ⟨n, Nat.lt_of_succ_lt h⟩ : Vec Ideal S1x1024x2048 .f32) = X0_1 m c ⟨n + 1, h⟩ := by
  have hN : cfg0.N = 48 := N_0
  funext y
  obtain ⟨j, k, rfl⟩ : ∃ (j : Fin 1024) (k : Fin 2048), y = ix3 0 j k := ⟨y 1, y 2, by
    rw [eq_ix3 y]; congr 1; exact Subsingleton.elim (α := Fin 1) _ _⟩
  rw [X1_apply m c ⟨n, _⟩ k j (by have := j.isLt; dsimp only; omega), X1_apply m c ⟨n + 1, h⟩ k j (by have := j.isLt; dsimp only; omega)]
  congr 2
  apply Fin.ext
  dsimp only
  omega

/-- … one block of taps … -/
theorem iblk2_prev (c : Dev nD) (n : ℕ) (h : n + 1 < cfg0.N) (hn : ¬(n + 1) % 8 = 0) :
    (iblk m c 2 ⟨n, Nat.lt_of_succ_lt h⟩ : Vec Ideal S1x4x1024 .f32) = iblk m c 2 ⟨n + 1, h⟩ := by
  have hN : cfg0.N = 48 := N_0
  funext y
  obtain ⟨k, j, rfl⟩ : ∃ (k : Fin 4) (j : Fin 1024), y = ix3 0 k j := ⟨y 1, y 2, by
    rw [eq_ix3 y]; congr 1; exact Subsingleton.elim (α := Fin 1) _ _⟩
  rw [iblk2_apply m c ⟨n, _⟩ k j (by have := j.isLt; dsimp only; omega), iblk2_apply m c ⟨n + 1, h⟩ k j (by have := j.isLt; dsimp only; omega)]
  congr 2
  apply Fin.ext
  dsimp only
  omega

/-- … and one block of biases. -/
theorem iblk3_prev (c : Dev nD) (n : ℕ) (h : n + 1 < cfg0.N) (hn : ¬(n + 1) % 8 = 0) :
    (iblk m c 3 ⟨n, Nat.lt_of_succ_lt h⟩ : Vec Ideal S1x1x1024 .f32) = iblk m c 3 ⟨n + 1, h⟩ := by
  have hN : cfg0.N = 48 := N_0
  funext y
  obtain ⟨j, rfl⟩ : ∃ (j : Fin 1024), y = ix3 0 0 j := ⟨y 2, by
    rw [eq_ix3 y]; congr 1 <;> exact Subsingleton.elim (α := Fin 1) _ _⟩
  rw [iblk3_apply m c ⟨n, _⟩ j (by have := j.isLt; dsimp only; omega), iblk3_apply m c ⟨n + 1, h⟩ j (by have := j.isLt; dsimp only; omega)]
  congr 2
  apply Fin.ext
  dsimp only
  omega

/-- The rows before point `n`'s: zero where a sequence starts, else the last rows of the point before. -/
def carry (c : Dev nD) : (n : ℕ) → n < cfg0.N → Vec Ideal S1x8x1024 .f32
  | 0, _ => k0_pay10 (F := Ideal)
  | n + 1, h => if (n + 1) % 4 = 0 then k0_pay10 (F := Ideal) else last (iblk m c 0 ⟨n, Nat.lt_of_succ_lt h⟩) (k0_pay3 (F := Ideal) (X0_1 m c ⟨n, Nat.lt_of_succ_lt h⟩))

theorem carry_start (c : Dev nD) (n : ℕ) (h : n + 1 < cfg0.N) (h4 : (n + 1) % 4 = 0) : carry m c (n + 1) h = k0_pay10 (F := Ideal) := if_pos h4

theorem carry_next (c : Dev nD) (n : ℕ) (h : n + 1 < cfg0.N) (h4 : ¬(n + 1) % 4 = 0) :
    carry m c (n + 1) h = last (iblk m c 0 ⟨n, Nat.lt_of_succ_lt h⟩) (k0_pay3 (F := Ideal) (X0_1 m c ⟨n, Nat.lt_of_succ_lt h⟩)) := if_neg h4

/-- After every point: the output block, the scratches at the cast weights, the taps and the last rows. -/
theorem outsAt_eq (c : Dev nD) : ∀ (n : ℕ) (h : n < cfg0.N), outsAt0 m c n h
    = (blockOut (iblk m c 0 ⟨n, h⟩) (k0_pay3 (F := Ideal) (X0_1 m c ⟨n, h⟩)) (taps (iblk m c 2 ⟨n, h⟩) (iblk m c 3 ⟨n, h⟩)) (carry m c n h), k0_pay3 (F := Ideal) (X0_1 m c ⟨n, h⟩),
      taps (iblk m c 2 ⟨n, h⟩) (iblk m c 3 ⟨n, h⟩), last (iblk m c 0 ⟨n, h⟩) (k0_pay3 (F := Ideal) (X0_1 m c ⟨n, h⟩)))
  | 0, h => by
    rw [outsAt0_A m c ⟨0, h⟩ rfl rfl, out_A, sout0_A, sout1_A, sout2_A]
    rfl
  | n + 1, h => by
    by_cases hn : (n + 1) % 8 = 0
    · rw [outsAt0_A m c ⟨n + 1, h⟩ hn (by dsimp only; omega), out_A, sout0_A, sout1_A, sout2_A]
      rw [carry_start m c n h (by omega)]
    · by_cases h4 : (n + 1) % 4 = 0
      · rw [outsAt0_C m c ⟨n + 1, h⟩ hn h4, out_C, sout2_C]
        unfold sout0_C_0 sout0_C_1
        show (blockOut _ (outsAt0 m c n _).2.1 (outsAt0 m c n _).2.2.1 _, (outsAt0 m c n _).2.1, (outsAt0 m c n _).2.2.1, last _ (outsAt0 m c n _).2.1) = _
        rw [outsAt_eq c n]
        dsimp only
        rw [carry_start m c n h h4, X1_prev m c n h hn, iblk2_prev m c n h hn, iblk3_prev m c n h hn]
      · rw [outsAt0_B m c ⟨n + 1, h⟩ hn h4, out_B, sout2_B]
        unfold sout0_B_0 sout0_B_1
        show (blockOut _ (outsAt0 m c n _).2.1 (outsAt0 m c n _).2.2.1 (outsAt0 m c n _).2.2.2, (outsAt0 m c n _).2.1, (outsAt0 m c n _).2.2.1, last _ (outsAt0 m c n _).2.1) = _
        rw [outsAt_eq c n]
        dsimp only
        rw [carry_next m c n h h4,
          X1_prev m c n h hn, iblk2_prev m c n h hn, iblk3_prev m c n h hn]

/-- The rows before point `n`'s, from the arrays. -/
theorem carry_apply (c : Dev nD) (n : ℕ) (h : n < cfg0.N) (h48 : n < 48) (e : Fin 8) (j : Fin 1024) : carry m c n h (ix3 0 e j) = if n % 4 = 0 then 0 else
    U (m (c.tc.loc main_arg0)) (fun k j => m (c.tc.loc main_arg1) (ix3 1 k ⟨4096 + j.val, by omega⟩)) (ix2 ⟨n % 8 * 1024 - 8 + e.val, by omega⟩ ⟨n / 8 * 1024 + j.val, by omega⟩) := by
  match n, h with
  | 0, _ => exact zero_apply _
  | n + 1, h =>
    by_cases h4 : (n + 1) % 4 = 0
    · rw [carry_start m c n h h4, if_pos h4]
      exact zero_apply _
    · rw [carry_next m c n h h4, if_neg h4]
      unfold last
      have p := P_eq n (by omega) (m (c.tc.loc main_arg0)) (fun k j => m (c.tc.loc main_arg1) (ix3 1 k ⟨4096 + j.val, by omega⟩))
        (iblk m c 0 ⟨n, Nat.lt_of_succ_lt h⟩) (k0_pay3 (F := Ideal) (X0_1 m c ⟨n, Nat.lt_of_succ_lt h⟩))
        (fun r k => iblk0_apply m c ⟨n, Nat.lt_of_succ_lt h⟩ r k (by dsimp only; omega)) j
        (fun k => (cast_apply _ k j).trans (X1_apply m c ⟨n, Nat.lt_of_succ_lt h⟩ k j (by dsimp only; omega))) ⟨1016 + e.val, by omega⟩
      refine p.trans ?_
      congr 2
      · apply Fin.ext
        dsimp only
        omega
      · apply Fin.ext
        dsimp only
        omega

/-- The output array, index by index. -/
theorem G_apply (c : Dev nD) (r : Fin 8192) (j : Fin 6144) : G4 m c (ix2 r j)
    = result (m (c.tc.loc main_arg0)) (fun k j => m (c.tc.loc main_arg1) (ix3 1 k ⟨4096 + j.val, by omega⟩))
        (fun k j => m (c.tc.loc main_arg2) (ix3 1 k j)) (fun j => m (c.tc.loc main_arg3) (ix2 1 j)) r j := by
  have hN : cfg0.N = 48 := N_0
  have hr := r.isLt
  have hj := j.isLt
  have hp : pt4Of (ix2 r j) = r.val / 1024 + 8 * (j.val / 1024) := by
    show 1 * (r.val / 1024 - 0) + 8 * (j.val / 1024 - 0) = _; omega
  have hl : loc4Of (ix2 r j) = ix2 ⟨r.val % 1024, Nat.mod_lt _ (by decide)⟩ ⟨j.val % 1024, Nat.mod_lt _ (by decide)⟩ := by
    funext a; match a with
    | ⟨0, _⟩ => rfl
    | ⟨1, _⟩ => rfl
  have hlt : pt4Of (ix2 r j) < cfg0.N := by rw [hp]; omega
  unfold G4
  rw [dif_pos hlt, hl, ← outsAt0_sweep m c (pt4Of (ix2 r j)) hlt, outsAt_eq]
  dsimp only
  generalize pt4Of (ix2 r j) = n at hp hlt ⊢
  have h48 : n < 48 := by omega
  have b := block_eq n h48 (m (c.tc.loc main_arg0)) (fun k j => m (c.tc.loc main_arg1) (ix3 1 k ⟨4096 + j.val, by omega⟩))
    (fun k j => m (c.tc.loc main_arg2) (ix3 1 k j)) (fun j => m (c.tc.loc main_arg3) (ix2 1 j))
    (iblk m c 0 ⟨n, hlt⟩) (k0_pay3 (F := Ideal) (X0_1 m c ⟨n, hlt⟩)) (taps (iblk m c 2 ⟨n, hlt⟩) (iblk m c 3 ⟨n, hlt⟩)) (carry m c n hlt)
    (fun r k => iblk0_apply m c ⟨n, hlt⟩ r k (by dsimp only; omega)) ⟨j.val % 1024, Nat.mod_lt _ (by decide)⟩
    (fun k => (cast_apply _ k _).trans (X1_apply m c ⟨n, hlt⟩ k ⟨j.val % 1024, Nat.mod_lt _ (by decide)⟩ (by dsimp only; omega)))
    (fun k e => by
      refine (dif_pos (show k.val < 4 from k.isLt)).trans ?_
      exact iblk2_apply m c ⟨n, hlt⟩ k ⟨j.val % 1024, Nat.mod_lt _ (by decide)⟩ (by dsimp only; omega))
    (fun e => by
      refine (dif_neg (show ¬(4 : ℕ) < 4 by omega)).trans ?_
      exact iblk3_apply m c ⟨n, hlt⟩ ⟨j.val % 1024, Nat.mod_lt _ (by decide)⟩ (by dsimp only; omega))
    (fun e => carry_apply m c n hlt h48 e ⟨j.val % 1024, Nat.mod_lt _ (by decide)⟩) ⟨r.val % 1024, Nat.mod_lt _ (by decide)⟩
  refine Eq.trans ?_ (b.trans ?_)
  · rfl
  · congr 1
    · apply Fin.ext
      dsimp only
      omega
    · apply Fin.ext
      dsimp only
      omega

end Cert.KernelIdeal17.InXbc1

namespace Cert.ReferenceIdeal17.InXbc1

open Cert.ReferenceIdeal17 Cert.ReferenceIdeal17.Gen Cert.ReferenceIdeal17.Value
open Cert.ReferenceIdeal16.InXbc (termU termY termO padded wide result term_apply)

theorem res_eq (m : (ℓ : Loc nD τ sig) → Buf (Elt Ideal) ℓ) (c : Dev nD) :
    res_main_v46 (F := Ideal) m c = termO (termY
      (shapeCast _ (extractStridedSlice S1x1x6144 ![1, 0, 0] (m (c.tc.loc main_arg2)) slices_S2x4x6144_S1x1x6144_1_0_0) shapeCasts_S1x1x6144_S6144)
      (shapeCast _ (extractStridedSlice S1x1x6144 ![1, 1, 0] (m (c.tc.loc main_arg2)) slices_S2x4x6144_S1x1x6144_1_1_0) shapeCasts_S1x1x6144_S6144)
      (shapeCast _ (extractStridedSlice S1x1x6144 ![1, 2, 0] (m (c.tc.loc main_arg2)) slices_S2x4x6144_S1x1x6144_1_2_0) shapeCasts_S1x1x6144_S6144)
      (shapeCast _ (extractStridedSlice S1x1x6144 ![1, 3, 0] (m (c.tc.loc main_arg2)) slices_S2x4x6144_S1x1x6144_1_3_0) shapeCasts_S1x1x6144_S6144)
      (shapeCast _ (extractStridedSlice S1x6144 ![1, 0] (m (c.tc.loc main_arg3)) slices_S2x6144_S1x6144_1_0) shapeCasts_S1x6144_S6144)
      (termU (m (c.tc.loc main_arg0))
        (shapeCast _ (extractStridedSlice S1x2048x10304 ![1, 0, 0] (m (c.tc.loc main_arg1)) slices_S2x2048x10304_S1x2048x10304_1_0_0) shapeCasts_S1x2048x10304_S2048x10304))) := by
  unfold res_main_v46 termO termY termU padded wide
  rfl

theorem weight_apply (w : FVec Ideal S2x2048x10304 .f32) (k : Fin 2048) (j : Fin 6144) :
    (shapeCast S2048x10304 (extractStridedSlice S1x2048x10304 ![1, 0, 0] w slices_S2x2048x10304_S1x2048x10304_1_0_0) shapeCasts_S1x2048x10304_S2048x10304) (ix2 k ⟨4096 + j.val, by omega⟩)
      = w (ix3 1 k ⟨4096 + j.val, by omega⟩) := by pointwise
theorem tap0_apply (p : FVec Ideal S2x4x6144 .f32) (j : Fin 6144) :
    (shapeCast S6144 (extractStridedSlice S1x1x6144 ![1, 0, 0] p slices_S2x4x6144_S1x1x6144_1_0_0) shapeCasts_S1x1x6144_S6144) (ix1 j) = p (ix3 1 0 j) := by pointwise
theorem tap1_apply (p : FVec Ideal S2x4x6144 .f32) (j : Fin 6144) :
    (shapeCast S6144 (extractStridedSlice S1x1x6144 ![1, 1, 0] p slices_S2x4x6144_S1x1x6144_1_1_0) shapeCasts_S1x1x6144_S6144) (ix1 j) = p (ix3 1 1 j) := by pointwise
theorem tap2_apply (p : FVec Ideal S2x4x6144 .f32) (j : Fin 6144) :
    (shapeCast S6144 (extractStridedSlice S1x1x6144 ![1, 2, 0] p slices_S2x4x6144_S1x1x6144_1_2_0) shapeCasts_S1x1x6144_S6144) (ix1 j) = p (ix3 1 2 j) := by pointwise
theorem tap3_apply (p : FVec Ideal S2x4x6144 .f32) (j : Fin 6144) :
    (shapeCast S6144 (extractStridedSlice S1x1x6144 ![1, 3, 0] p slices_S2x4x6144_S1x1x6144_1_3_0) shapeCasts_S1x1x6144_S6144) (ix1 j) = p (ix3 1 3 j) := by pointwise
theorem bias_apply (b : FVec Ideal S2x6144 .f32) (j : Fin 6144) :
    (shapeCast S6144 (extractStridedSlice S1x6144 ![1, 0] b slices_S2x6144_S1x6144_1_0) shapeCasts_S1x6144_S6144) (ix1 j) = b (ix2 1 j) := by pointwise

/-- The reference's result, index by index. -/
theorem res_apply (m : (ℓ : Loc nD τ sig) → Buf (Elt Ideal) ℓ) (c : Dev nD) (r : Fin 8192) (j : Fin 6144) :
    res_main_v46 (F := Ideal) m c (ix2 r j)
      = result (m (c.tc.loc main_arg0)) (fun k j => m (c.tc.loc main_arg1) (ix3 1 k ⟨4096 + j.val, by omega⟩))
        (fun k j => m (c.tc.loc main_arg2) (ix3 1 k j)) (fun j => m (c.tc.loc main_arg3) (ix2 1 j)) r j := by
  rw [res_eq]
  exact term_apply _ _ _ _ _ _ _ _ _ _ (weight_apply _) (tap0_apply _) (tap1_apply _) (tap2_apply _) (tap3_apply _) (bias_apply _) r j

end Cert.ReferenceIdeal17.InXbc1

end
-- ==== Proof.LastNorm.lean ====
/- The last norm: each row over the root of its mean square, times the gains. -/
module

public import proofs.«01_k».proof.Proof.Gen.KernelIdeal18.Value
public import proofs.«01_k».proof.Proof.Gen.ReferenceIdeal18.Run
public import Idealize.ShloMosaic.Lib.Pointwise
public import Idealize.ShloMosaic.Lib.Pointwise.Sums
public import Idealize.ShloMosaic.Lib.Tactic

@[expose] public section

set_option maxRecDepth 16384

noncomputable section

open Idealize.ShloMosaic Idealize.ShloMosaic.TcCoe Idealize.SL.Sem

namespace Cert.KernelIdeal18.LastNorm

open Cert.KernelIdeal18 Cert.KernelIdeal18.Gen Cert.KernelIdeal18.Value

variable (m : (ℓ : Loc nD τ sig) → Buf (Elt Ideal) ℓ)

/-- An element over the root of its row's mean square (with the small constant), times a gain. -/
def normed (row : Fin 2048 → EReal) (g : Fin 2048 → EReal) (j : Fin 2048) : EReal :=
  row j * Ideal.rsqrt (Ideal.div (∑ k : Fin 2048, row k * row k) (Ideal.ofBits .f32 0x45000000#32) + Ideal.ofBits .f32 0x358637BD#32) * g j

/-- The array of the normed rows. -/
def G (x : S8192x2048.Idx → EReal) (g : S2048.Idx → EReal) : S8192x2048.Idx → EReal :=
  fun i => normed (fun k => x (ix2 (i 0) k)) (fun k => g (ix1 k)) (i 1)

/-- What a point computes of its block. -/
theorem block_apply (X : Vec Ideal S1024x2048 .f32) (g : Vec Ideal S1x1x2048 .f32) (r : Fin 1024) (j : Fin 2048) :
    k0_pay1 (F := Ideal) X g (ix2 r j) = normed (fun k => X (ix2 r k)) (fun k => g (ix3 0 0 k)) j := by
  unfold normed
  pointwise [k0_pay1]

/-- The gains, as the host leaves them for the call. -/
theorem V_main_v0 (c : Dev nD) : (V m c main_v0 : Vec Ideal S1x1x2048 .f32)
    = shapeCast S1x1x2048 (m (c.tc.loc main_arg1)) facts.shapeCasts_S2048_S1x1x2048 := by
  show StableHlo.after hostOps0 (fun b => m (c, b)) main_v0 = _
  after_results <;> rfl

theorem reshaped_apply (g : Vec Ideal S2048 .f32) (j : Fin 2048) : shapeCast S1x1x2048 g facts.shapeCasts_S2048_S1x1x2048 (ix3 0 0 j) = g (ix1 j) := by
  pointwise

/-- The rows that point `t` sees. -/
theorem iblk0_apply (c : Dev nD) (t : Fin cfg0.N) (r : Fin 1024) (k : Fin 2048) (h : t.val * 1024 + r.val < 8192) :
    (iblk m c 0 t : Vec Ideal S1024x2048 .f32) (ix2 r k) = m (c.tc.loc main_arg0) (ix2 ⟨t.val * 1024 + r.val, h⟩ k) := by
  have hi : ∀ t : Fin cfg0.N, win0_0.index t 0 = t.val ∧ win0_0.index t 1 = 0 := (by decide +kernel : ∀ t : Fin grid0.N, _)
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = t.val * 1024 + r.val; rw [(hi t).1]; omega
  | ⟨1, _⟩ => show win0_0.index t 1 * 2048 + 1 * k.val = k.val; rw [(hi t).2]; omega

/-- The gains that point `t` sees. -/
theorem iblk1_apply (c : Dev nD) (t : Fin cfg0.N) (j : Fin 2048) :
    (iblk m c 1 t : Vec Ideal S1x1x2048 .f32) (ix3 0 0 j) = m (c.tc.loc main_arg1) (ix1 j) := by
  have hi : ∀ t : Fin cfg0.N, win0_1.index t 0 = 0 ∧ win0_1.index t 1 = 0 ∧ win0_1.index t 2 = 0 := (by decide +kernel : ∀ t : Fin grid0.N, _)
  have e : (iblk m c 1 t : Vec Ideal S1x1x2048 .f32) (ix3 0 0 j) = (V m c main_v0 : Vec Ideal S1x1x2048 .f32) (ix3 0 0 j) := by
    unfold iblk
    rw [View.read_apply]
    show V m c main_v0 _ = V m c main_v0 _
    congr 1
    funext a
    apply Fin.ext
    match a with
    | ⟨0, _⟩ => show win0_1.index t 0 * 1 + 1 * 0 = 0; rw [(hi t).1]
    | ⟨1, _⟩ => show win0_1.index t 1 * 1 + 1 * 0 = 0; rw [(hi t).2.1]
    | ⟨2, _⟩ => show win0_1.index t 2 * 2048 + 1 * j.val = j.val; rw [(hi t).2.2]; omega
  rw [e, V_main_v0]
  exact reshaped_apply _ _

theorem hz2 : (![0, 0] : Fin 2 → Nat) = fun _ => 0 := funext fun a => by fin_cases a <;> rfl
theorem hz3 : (![0, 0, 0] : Fin 3 → Nat) = fun _ => 0 := funext fun a => by fin_cases a <;> rfl

/-- What a point leaves in its output block. -/
theorem out_eq (X : Vec Ideal S1024x2048 .f32) (g : Vec Ideal S1x1x2048 .f32) : out0_2 X g = k0_pay1 (F := Ideal) X g := by
  unfold out0_2
  rw [View.canon_unit_zero hz2, View.ld_unit_zero (S := S1024x2048) hz2, View.ld_unit_zero (S := S1x1x2048) hz3]

/-- What a point writes back is its block of the array of the normed rows. -/
theorem flushed_eq (c : Dev nD) (t : Fin cfg0.N) : (dats m 0 c).flushed 2 t
    = ((cfg0.win 2).blk t).view.read (Elt Ideal) (G (m (c.tc.loc main_arg0)) (m (c.tc.loc main_arg1))) := by
  have hi : ∀ t : Fin cfg0.N, win0_2.index t 0 = t.val ∧ win0_2.index t 1 = 0 := (by decide +kernel : ∀ t : Fin grid0.N, _)
  have ht : t.val < 8 := lt_of_lt_of_eq t.isLt (show cfg0.N = 8 from N_0)
  rw [flushed2, out_eq]
  funext y
  obtain ⟨r, j, rfl⟩ : ∃ (r : Fin 1024) (j : Fin 2048), y = ix2 r j := ⟨y 0, y 1, eq_ix2 y⟩
  have he : ((cfg0.win 2).blk t).view.emb (ix2 r j) = ix2 ⟨t.val * 1024 + r.val, by omega⟩ j := by
    funext a
    apply Fin.ext
    match a with
    | ⟨0, _⟩ => show win0_2.index t 0 * 1024 + 1 * r.val = t.val * 1024 + r.val; rw [(hi t).1]; omega
    | ⟨1, _⟩ => show win0_2.index t 1 * 2048 + 1 * j.val = j.val; rw [(hi t).2]; omega
  rw [View.read_apply, he]
  refine (block_apply (iblk m c 0 t) (iblk m c 1 t) r j).trans ?_
  unfold G
  simp only [iblk0_apply m c t r _ (by omega), iblk1_apply m c t]
  rfl

/-- Every index lies in the block of a point. -/
theorem covered (i : S8192x2048.Idx) : ∃ t : Fin cfg0.N, (cfg0.win 2).flush t = true ∧ i ∈ ((cfg0.win 2).blk t).view.set := by
  have hi : ∀ t : Fin cfg0.N, (cfg0.win 2).flush t = true ∧ win0_2.index t 0 = t.val ∧ win0_2.index t 1 = 0 :=
    (by decide +kernel : ∀ t : Fin grid0.N, win0_2.flush t = true ∧ _)
  have h0 : (i 0).val < 8192 := (i 0).isLt
  have h1 : (i 1).val < 2048 := (i 1).isLt
  obtain ⟨t, ht⟩ : ∃ t : Fin cfg0.N, t.val = (i 0).val / 1024 := ⟨⟨(i 0).val / 1024, by rw [show cfg0.N = 8 from N_0]; omega⟩, rfl⟩
  obtain ⟨e, e0, e1⟩ := hi t
  refine ⟨t, e, ?_⟩
  show i ∈ ((View.whole main_v1).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; omega
  | ⟨1, _⟩ => show win0_2.index t 1 * 2048 ≤ (i 1).val ∧ (i 1).val < win0_2.index t 1 * 2048 + 2048; rw [e1]; omega

/-- The output array after the run. -/
theorem final (c : Dev nD) : (dats m 0 c).arrAt 2 cfg0.N = G (m (c.tc.loc main_arg0)) (m (c.tc.loc main_arg1)) :=
  (dats m 0 c).arrAt_eq_of_cover 2 _ (fun t _ => flushed_eq m c t) covered

end Cert.KernelIdeal18.LastNorm

namespace Cert.ReferenceIdeal18.LastNorm

open Cert.ReferenceIdeal18 Cert.ReferenceIdeal18.Gen

/-- The reference's term is the array of the normed rows. -/
theorem term_eq (x : FVec Ideal S8192x2048 .f32) (g : FVec Ideal S2048 .f32) :
    mulf (F := Ideal) (φ := .f32) (mulf (F := Ideal) (φ := .f32) x (broadcastInDim S8192x2048 ![0, 1] bcast_S8192x1_S8192x2048_0_1 (Host.rsqrt (addf (F := Ideal) (φ := .f32)
      (Host.divf (broadcastInDim S8192x1 ![0] bcast_S8192_S8192x1_0 (Host.reduceAdd (mulf (F := Ideal) (φ := .f32) x x) (constant S_ .f32 0x00000000#32) reducesTo_S8192x2048_S8192_d1 h_S_))
        (broadcastInDim S8192x1 ![] bcast_S_S8192x1 (constant S_ .f32 0x45000000#32))) (broadcastInDim S8192x1 ![] bcast_S_S8192x1 (constant S_ .f32 0x358637BD#32))))))
      (broadcastInDim S8192x2048 ![0, 1] bcast_S1x2048_S8192x2048_0_1 (broadcastInDim S1x2048 ![1] bcast_S2048_S1x2048_1 g))
    = Cert.KernelIdeal18.LastNorm.G x g := by
  funext i
  obtain ⟨r, j, rfl⟩ : ∃ (r : Fin 8192) (j : Fin 2048), i = ix2 r j := ⟨i 0, i 1, eq_ix2 i⟩
  unfold Cert.KernelIdeal18.LastNorm.G Cert.KernelIdeal18.LastNorm.normed
  pointwise

end Cert.ReferenceIdeal18.LastNorm

end
-- ==== Proof.lean ====
/- The claims of the certificate: the frames, what the idealization keeps, and the values. -/
module

public import proofs.«01_k».proof.Defs
public import proofs.«01_k».proof.Proof.Ssd.Bits
public import proofs.«01_k».proof.Proof.Ssd.Read
public import proofs.«01_k».proof.Proof.Down
public import proofs.«01_k».proof.Proof.SsmOut
public import proofs.«01_k».proof.Proof.InZ
public import proofs.«01_k».proof.Proof.ConfOut
public import proofs.«01_k».proof.Proof.Down1
public import proofs.«01_k».proof.Proof.Down2
public import proofs.«01_k».proof.Proof.Down3
public import proofs.«01_k».proof.Proof.InZ1
public import proofs.«01_k».proof.Proof.SsmOut1
public import proofs.«01_k».proof.Proof.ConfOut1
public import proofs.«01_k».proof.Proof.FfnUp.Bits
public import proofs.«01_k».proof.Proof.FfnUp.Read
public import proofs.«01_k».proof.Proof.FfnUp.Ref
public import proofs.«01_k».proof.Proof.FfnUp1.Bits
public import proofs.«01_k».proof.Proof.FfnUp1.Read
public import proofs.«01_k».proof.Proof.FfnUp1.Ref
public import proofs.«01_k».proof.Proof.FfnUp2.Bits
public import proofs.«01_k».proof.Proof.FfnUp2.Read
public import proofs.«01_k».proof.Proof.FfnUp2.Ref
public import proofs.«01_k».proof.Proof.FfnUp3.Bits
public import proofs.«01_k».proof.Proof.FfnUp3.Read
public import proofs.«01_k».proof.Proof.FfnUp3.Ref
public import proofs.«01_k».proof.Proof.InXbc
public import proofs.«01_k».proof.Proof.InXbc1
public import proofs.«01_k».proof.Proof.LastNorm
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.KernelIdeal2.Value
public import proofs.«01_k».proof.Proof.Gen.ReferenceIdeal2.Run
public import proofs.«01_k».proof.Proof.Gen.Kernel3.Frame
public import proofs.«01_k».proof.Proof.Gen.KernelIdeal3.Value
public import proofs.«01_k».proof.Proof.Gen.ReferenceIdeal3.Run
public import proofs.«01_k».proof.Proof.Gen.Kernel4.Frame
public import proofs.«01_k».proof.Proof.Gen.KernelIdeal4.Value
public import proofs.«01_k».proof.Proof.Gen.ReferenceIdeal4.Run
public import proofs.«01_k».proof.Proof.Gen.Kernel5.Frame
public import proofs.«01_k».proof.Proof.Gen.KernelIdeal5.Value
public import proofs.«01_k».proof.Proof.Gen.ReferenceIdeal5.Run
public import proofs.«01_k».proof.Proof.Gen.Kernel6.Frame
public import proofs.«01_k».proof.Proof.Gen.KernelIdeal6.Value
public import proofs.«01_k».proof.Proof.Gen.ReferenceIdeal6.Run
public import proofs.«01_k».proof.Proof.Gen.Kernel7.Frame
public import proofs.«01_k».proof.Proof.Gen.KernelIdeal7.Value
public import proofs.«01_k».proof.Proof.Gen.ReferenceIdeal7.Run
public import proofs.«01_k».proof.Proof.Gen.Kernel8.Frame
public import proofs.«01_k».proof.Proof.Gen.KernelIdeal8.Value
public import proofs.«01_k».proof.Proof.Gen.ReferenceIdeal8.Run
public import proofs.«01_k».proof.Proof.Gen.Kernel9.Frame
public import proofs.«01_k».proof.Proof.Gen.KernelIdeal9.Value
public import proofs.«01_k».proof.Proof.Gen.ReferenceIdeal9.Run
public import proofs.«01_k».proof.Proof.Gen.Kernel10.Frame
public import proofs.«01_k».proof.Proof.Gen.KernelIdeal10.Value
public import proofs.«01_k».proof.Proof.Gen.ReferenceIdeal10.Run
public import proofs.«01_k».proof.Proof.Gen.Kernel11.Frame
public import proofs.«01_k».proof.Proof.Gen.KernelIdeal11.Value
public import proofs.«01_k».proof.Proof.Gen.ReferenceIdeal11.Run
public import proofs.«01_k».proof.Proof.Gen.KernelIdeal12.Frame
public import proofs.«01_k».proof.Proof.Gen.ReferenceIdeal12.Run
public import proofs.«01_k».proof.Proof.Gen.KernelIdeal13.Frame
public import proofs.«01_k».proof.Proof.Gen.ReferenceIdeal13.Run
public import proofs.«01_k».proof.Proof.Gen.KernelIdeal14.Frame
public import proofs.«01_k».proof.Proof.Gen.ReferenceIdeal14.Run
public import proofs.«01_k».proof.Proof.Gen.KernelIdeal15.Frame
public import proofs.«01_k».proof.Proof.Gen.ReferenceIdeal15.Run
public import proofs.«01_k».proof.Proof.Gen.Kernel16.Frame
public import proofs.«01_k».proof.Proof.Gen.KernelIdeal16.Value
public import proofs.«01_k».proof.Proof.Gen.ReferenceIdeal16.Run
public import proofs.«01_k».proof.Proof.Gen.Kernel17.Frame
public import proofs.«01_k».proof.Proof.Gen.KernelIdeal17.Value
public import proofs.«01_k».proof.Proof.Gen.ReferenceIdeal17.Run
public import proofs.«01_k».proof.Proof.Gen.Kernel18.Frame
public import proofs.«01_k».proof.Proof.Gen.KernelIdeal18.Value
public import proofs.«01_k».proof.Proof.Gen.ReferenceIdeal18.Run
public import Idealize.ShloMosaic.Adequacy
public import Idealize.ShloMosaic.Init

@[expose] public section

noncomputable section

namespace Cert.Proof

open Idealize.ShloMosaic Idealize.SL.Sem

/-- Every run of the scan's reference ends, with its arguments unchanged and its counters at zero. -/
theorem quiescent_ReferenceIdeal : Cert.quiescent_ReferenceIdeal (hReferenceIdeal := ReferenceIdeal.Gen.facts) := fun m ρ _ =>
  (θ_run ReferenceIdeal.defs _ _).mono (fun r h => ⟨fun c => (h c).2, sem_eq_zero_of_no_sems (by decide) r.2⟩)
    (ReferenceIdeal.Read.run_result (F := Ideal) m ρ)

/-- The two named constants stand for what they are named for. -/
theorem preserves_Kernel_KernelIdeal : Cert.preserves_Kernel_KernelIdeal :=
  ⟨IdealRules.named_const.statement KernelIdeal.κ "log2e" .f32 0x3FB8AA3B#32 (((Real.log 2)⁻¹ : ℝ) : EReal) rfl,
    IdealRules.named_const.statement KernelIdeal.κ "mask" .f32 0xF149F2CA#32 ⊥ rfl⟩

/-- Every run of the reference of the down projection of layer 0 ends, with its arguments unchanged and its counters at zero. -/
theorem quiescent_ReferenceIdeal2 : Cert.quiescent_ReferenceIdeal2 (hReferenceIdeal2 := ReferenceIdeal2.Gen.facts) := fun m ρ _ =>
  (θ_run ReferenceIdeal2.defs _ _).mono (fun r h => ⟨fun c => (h c).2, sem_eq_zero_of_no_sems (by decide) r.2⟩)
    (ReferenceIdeal2.Value.run (F := Ideal) m ρ)

/-- The down projection of layer 0 and its reference end with the same array. -/
theorem algebraic_KernelIdeal2_ReferenceIdeal2 : Cert.algebraic_KernelIdeal2_ReferenceIdeal2
    (hKernelIdeal2 := KernelIdeal2.Gen.facts) (hReferenceIdeal2 := ReferenceIdeal2.Gen.facts) := by
  intro m ρ m' ρ' _ hagree
  refine ⟨_, KernelIdeal2.Value.run (F := Ideal) m ρ, ?_⟩
  refine (θ_run ReferenceIdeal2.defs _ _).mono (fun _ h c => ⟨?_, (h c).2⟩) (ReferenceIdeal2.Value.run (F := Ideal) m' ρ')
  obtain ⟨h0, h1, h2⟩ := hagree c
  rw [(h c).1, h0, h1, h2]
  refine (down_ref _ _ _).trans ?_
  funext i
  exact (KernelIdeal2.Down.G_apply m c (i 0) (i 1)).symm.trans (congrArg _ (Idealize.ShloMosaic.eq_ix2 i).symm)

/-- Every run of the reference of the scan's output projection in the first scan layer ends, with its arguments unchanged and its counters at zero. -/
theorem quiescent_ReferenceIdeal3 : Cert.quiescent_ReferenceIdeal3 (hReferenceIdeal3 := ReferenceIdeal3.Gen.facts) := fun m ρ _ =>
  (θ_run ReferenceIdeal3.defs _ _).mono (fun r h => ⟨fun c => (h c).2, sem_eq_zero_of_no_sems (by decide) r.2⟩)
    (ReferenceIdeal3.Value.run (F := Ideal) m ρ)

/-- The scan's output projection in the first scan layer and its reference end with the same array. -/
theorem algebraic_KernelIdeal3_ReferenceIdeal3 : Cert.algebraic_KernelIdeal3_ReferenceIdeal3
    (hKernelIdeal3 := KernelIdeal3.Gen.facts) (hReferenceIdeal3 := ReferenceIdeal3.Gen.facts) := by
  intro m ρ m' ρ' _ hagree
  refine ⟨_, KernelIdeal3.Value.run (F := Ideal) m ρ, ?_⟩
  refine (θ_run ReferenceIdeal3.defs _ _).mono (fun _ h c => ⟨?_, (h c).2⟩) (ReferenceIdeal3.Value.run (F := Ideal) m' ρ')
  obtain ⟨h0, h1, h2⟩ := hagree c
  rw [(h c).1, h0, h1, h2]
  refine (ssmOut_ref _ _ _).trans ?_
  funext i
  exact (KernelIdeal3.SsmOut.G_apply m c (i 0) (i 1)).symm.trans (congrArg _ (Idealize.ShloMosaic.eq_ix2 i).symm)

/-- Every run of the reference of the gate of the first scan layer ends, with its arguments unchanged and its counters at zero. -/
theorem quiescent_ReferenceIdeal4 : Cert.quiescent_ReferenceIdeal4 (hReferenceIdeal4 := ReferenceIdeal4.Gen.facts) := fun m ρ _ =>
  (θ_run ReferenceIdeal4.defs _ _).mono (fun r h => ⟨fun c => (h c).2, sem_eq_zero_of_no_sems (by decide) r.2⟩)
    (ReferenceIdeal4.Value.run (F := Ideal) m ρ)

/-- The gate of the first scan layer and its reference end with the same array. -/
theorem algebraic_KernelIdeal4_ReferenceIdeal4 : Cert.algebraic_KernelIdeal4_ReferenceIdeal4
    (hKernelIdeal4 := KernelIdeal4.Gen.facts) (hReferenceIdeal4 := ReferenceIdeal4.Gen.facts) := by
  intro m ρ m' ρ' _ hagree
  refine ⟨_, KernelIdeal4.Value.run (F := Ideal) m ρ, ?_⟩
  refine (θ_run ReferenceIdeal4.defs _ _).mono (fun _ h c => ⟨?_, (h c).2⟩) (ReferenceIdeal4.Value.run (F := Ideal) m' ρ')
  obtain ⟨h0, h1⟩ := hagree c
  rw [(h c).1, h0, h1]
  refine (inZ_ref _ _).trans ?_
  funext i
  exact (KernelIdeal4.InZ.G_apply m c (i 0) (i 1)).symm.trans (congrArg _ (Idealize.ShloMosaic.eq_ix2 i).symm)

/-- Every run of the reference of the output projection of the first convolution layer ends, with its arguments unchanged and its counters at zero. -/
theorem quiescent_ReferenceIdeal5 : Cert.quiescent_ReferenceIdeal5 (hReferenceIdeal5 := ReferenceIdeal5.Gen.facts) := fun m ρ _ =>
  (θ_run ReferenceIdeal5.defs _ _).mono (fun r h => ⟨fun c => (h c).2, sem_eq_zero_of_no_sems (by decide) r.2⟩)
    (ReferenceIdeal5.Value.run (F := Ideal) m ρ)

/-- The output projection of the first convolution layer and its reference end with the same array. -/
theorem algebraic_KernelIdeal5_ReferenceIdeal5 : Cert.algebraic_KernelIdeal5_ReferenceIdeal5
    (hKernelIdeal5 := KernelIdeal5.Gen.facts) (hReferenceIdeal5 := ReferenceIdeal5.Gen.facts) := by
  intro m ρ m' ρ' _ hagree
  refine ⟨_, KernelIdeal5.Value.run (F := Ideal) m ρ, ?_⟩
  refine (θ_run ReferenceIdeal5.defs _ _).mono (fun _ h c => ⟨?_, (h c).2⟩) (ReferenceIdeal5.Value.run (F := Ideal) m' ρ')
  obtain ⟨h0, h1, h2, h3⟩ := hagree c
  rw [(h c).1, h0, h1, h2, h3]
  refine (confOut_ref _ _ _ _).trans ?_
  funext i
  exact (KernelIdeal5.ConfOut.G_apply m c (i 0) (i 1)).symm.trans (congrArg _ (Idealize.ShloMosaic.eq_ix2 i).symm)

/-- Every run of the reference of the down projection of layer 1 ends, with its arguments unchanged and its counters at zero. -/
theorem quiescent_ReferenceIdeal6 : Cert.quiescent_ReferenceIdeal6 (hReferenceIdeal6 := ReferenceIdeal6.Gen.facts) := fun m ρ _ =>
  (θ_run ReferenceIdeal6.defs _ _).mono (fun r h => ⟨fun c => (h c).2, sem_eq_zero_of_no_sems (by decide) r.2⟩)
    (ReferenceIdeal6.Value.run (F := Ideal) m ρ)

/-- The down projection of layer 1 and its reference end with the same array. -/
theorem algebraic_KernelIdeal6_ReferenceIdeal6 : Cert.algebraic_KernelIdeal6_ReferenceIdeal6
    (hKernelIdeal6 := KernelIdeal6.Gen.facts) (hReferenceIdeal6 := ReferenceIdeal6.Gen.facts) := by
  intro m ρ m' ρ' _ hagree
  refine ⟨_, KernelIdeal6.Value.run (F := Ideal) m ρ, ?_⟩
  refine (θ_run ReferenceIdeal6.defs _ _).mono (fun _ h c => ⟨?_, (h c).2⟩) (ReferenceIdeal6.Value.run (F := Ideal) m' ρ')
  obtain ⟨h0, h1, h2⟩ := hagree c
  rw [(h c).1, h0, h1, h2]
  refine (down1_ref _ _ _).trans ?_
  funext i
  exact (KernelIdeal6.Down1.G_apply m c (i 0) (i 1)).symm.trans (congrArg _ (Idealize.ShloMosaic.eq_ix2 i).symm)

/-- Every run of the reference of the down projection of layer 2 ends, with its arguments unchanged and its counters at zero. -/
theorem quiescent_ReferenceIdeal7 : Cert.quiescent_ReferenceIdeal7 (hReferenceIdeal7 := ReferenceIdeal7.Gen.facts) := fun m ρ _ =>
  (θ_run ReferenceIdeal7.defs _ _).mono (fun r h => ⟨fun c => (h c).2, sem_eq_zero_of_no_sems (by decide) r.2⟩)
    (ReferenceIdeal7.Value.run (F := Ideal) m ρ)

/-- The down projection of layer 2 and its reference end with the same array. -/
theorem algebraic_KernelIdeal7_ReferenceIdeal7 : Cert.algebraic_KernelIdeal7_ReferenceIdeal7
    (hKernelIdeal7 := KernelIdeal7.Gen.facts) (hReferenceIdeal7 := ReferenceIdeal7.Gen.facts) := by
  intro m ρ m' ρ' _ hagree
  refine ⟨_, KernelIdeal7.Value.run (F := Ideal) m ρ, ?_⟩
  refine (θ_run ReferenceIdeal7.defs _ _).mono (fun _ h c => ⟨?_, (h c).2⟩) (ReferenceIdeal7.Value.run (F := Ideal) m' ρ')
  obtain ⟨h0, h1, h2⟩ := hagree c
  rw [(h c).1, h0, h1, h2]
  refine (down2_ref _ _ _).trans ?_
  funext i
  exact (KernelIdeal7.Down2.G_apply m c (i 0) (i 1)).symm.trans (congrArg _ (Idealize.ShloMosaic.eq_ix2 i).symm)

/-- Every run of the reference of the down projection of layer 3 ends, with its arguments unchanged and its counters at zero. -/
theorem quiescent_ReferenceIdeal8 : Cert.quiescent_ReferenceIdeal8 (hReferenceIdeal8 := ReferenceIdeal8.Gen.facts) := fun m ρ _ =>
  (θ_run ReferenceIdeal8.defs _ _).mono (fun r h => ⟨fun c => (h c).2, sem_eq_zero_of_no_sems (by decide) r.2⟩)
    (ReferenceIdeal8.Value.run (F := Ideal) m ρ)

/-- The down projection of layer 3 and its reference end with the same array. -/
theorem algebraic_KernelIdeal8_ReferenceIdeal8 : Cert.algebraic_KernelIdeal8_ReferenceIdeal8
    (hKernelIdeal8 := KernelIdeal8.Gen.facts) (hReferenceIdeal8 := ReferenceIdeal8.Gen.facts) := by
  intro m ρ m' ρ' _ hagree
  refine ⟨_, KernelIdeal8.Value.run (F := Ideal) m ρ, ?_⟩
  refine (θ_run ReferenceIdeal8.defs _ _).mono (fun _ h c => ⟨?_, (h c).2⟩) (ReferenceIdeal8.Value.run (F := Ideal) m' ρ')
  obtain ⟨h0, h1, h2⟩ := hagree c
  rw [(h c).1, h0, h1, h2]
  refine (down3_ref _ _ _).trans ?_
  funext i
  exact (KernelIdeal8.Down3.G_apply m c (i 0) (i 1)).symm.trans (congrArg _ (Idealize.ShloMosaic.eq_ix2 i).symm)

/-- Every run of the reference of the gate of the second scan layer ends, with its arguments unchanged and its counters at zero. -/
theorem quiescent_ReferenceIdeal9 : Cert.quiescent_ReferenceIdeal9 (hReferenceIdeal9 := ReferenceIdeal9.Gen.facts) := fun m ρ _ =>
  (θ_run ReferenceIdeal9.defs _ _).mono (fun r h => ⟨fun c => (h c).2, sem_eq_zero_of_no_sems (by decide) r.2⟩)
    (ReferenceIdeal9.Value.run (F := Ideal) m ρ)

/-- The gate of the second scan layer and its reference end with the same array. -/
theorem algebraic_KernelIdeal9_ReferenceIdeal9 : Cert.algebraic_KernelIdeal9_ReferenceIdeal9
    (hKernelIdeal9 := KernelIdeal9.Gen.facts) (hReferenceIdeal9 := ReferenceIdeal9.Gen.facts) := by
  intro m ρ m' ρ' _ hagree
  refine ⟨_, KernelIdeal9.Value.run (F := Ideal) m ρ, ?_⟩
  refine (θ_run ReferenceIdeal9.defs _ _).mono (fun _ h c => ⟨?_, (h c).2⟩) (ReferenceIdeal9.Value.run (F := Ideal) m' ρ')
  obtain ⟨h0, h1⟩ := hagree c
  rw [(h c).1, h0, h1]
  refine (inZ1_ref _ _).trans ?_
  funext i
  exact (KernelIdeal9.InZ1.G_apply m c (i 0) (i 1)).symm.trans (congrArg _ (Idealize.ShloMosaic.eq_ix2 i).symm)

/-- Every run of the reference of the scan's output projection in the second scan layer ends, with its arguments unchanged and its counters at zero. -/
theorem quiescent_ReferenceIdeal10 : Cert.quiescent_ReferenceIdeal10 (hReferenceIdeal10 := ReferenceIdeal10.Gen.facts) := fun m ρ _ =>
  (θ_run ReferenceIdeal10.defs _ _).mono (fun r h => ⟨fun c => (h c).2, sem_eq_zero_of_no_sems (by decide) r.2⟩)
    (ReferenceIdeal10.Value.run (F := Ideal) m ρ)

/-- The scan's output projection in the second scan layer and its reference end with the same array. -/
theorem algebraic_KernelIdeal10_ReferenceIdeal10 : Cert.algebraic_KernelIdeal10_ReferenceIdeal10
    (hKernelIdeal10 := KernelIdeal10.Gen.facts) (hReferenceIdeal10 := ReferenceIdeal10.Gen.facts) := by
  intro m ρ m' ρ' _ hagree
  refine ⟨_, KernelIdeal10.Value.run (F := Ideal) m ρ, ?_⟩
  refine (θ_run ReferenceIdeal10.defs _ _).mono (fun _ h c => ⟨?_, (h c).2⟩) (ReferenceIdeal10.Value.run (F := Ideal) m' ρ')
  obtain ⟨h0, h1, h2⟩ := hagree c
  rw [(h c).1, h0, h1, h2]
  refine (ssmOut1_ref _ _ _).trans ?_
  funext i
  exact (KernelIdeal10.SsmOut1.G_apply m c (i 0) (i 1)).symm.trans (congrArg _ (Idealize.ShloMosaic.eq_ix2 i).symm)

/-- Every run of the reference of the output projection of the second convolution layer ends, with its arguments unchanged and its counters at zero. -/
theorem quiescent_ReferenceIdeal11 : Cert.quiescent_ReferenceIdeal11 (hReferenceIdeal11 := ReferenceIdeal11.Gen.facts) := fun m ρ _ =>
  (θ_run ReferenceIdeal11.defs _ _).mono (fun r h => ⟨fun c => (h c).2, sem_eq_zero_of_no_sems (by decide) r.2⟩)
    (ReferenceIdeal11.Value.run (F := Ideal) m ρ)

/-- The output projection of the second convolution layer and its reference end with the same array. -/
theorem algebraic_KernelIdeal11_ReferenceIdeal11 : Cert.algebraic_KernelIdeal11_ReferenceIdeal11
    (hKernelIdeal11 := KernelIdeal11.Gen.facts) (hReferenceIdeal11 := ReferenceIdeal11.Gen.facts) := by
  intro m ρ m' ρ' _ hagree
  refine ⟨_, KernelIdeal11.Value.run (F := Ideal) m ρ, ?_⟩
  refine (θ_run ReferenceIdeal11.defs _ _).mono (fun _ h c => ⟨?_, (h c).2⟩) (ReferenceIdeal11.Value.run (F := Ideal) m' ρ')
  obtain ⟨h0, h1, h2, h3⟩ := hagree c
  rw [(h c).1, h0, h1, h2, h3]
  refine (confOut1_ref _ _ _ _).trans ?_
  funext i
  exact (KernelIdeal11.ConfOut1.G_apply m c (i 0) (i 1)).symm.trans (congrArg _ (Idealize.ShloMosaic.eq_ix2 i).symm)

/-- Every run of the reference of the up projection, convolution and gate of layer 0 ends, with its arguments unchanged and its counters at zero. -/
theorem quiescent_ReferenceIdeal12 : Cert.quiescent_ReferenceIdeal12 (hReferenceIdeal12 := ReferenceIdeal12.Gen.facts) := fun m ρ _ =>
  (θ_run ReferenceIdeal12.defs _ _).mono (fun r h => ⟨fun c => (h c).2, sem_eq_zero_of_no_sems (by decide) r.2⟩)
    (ReferenceIdeal12.Value.run (F := Ideal) m ρ)

/-- The up projection, convolution and gate of layer 0 and its reference end with the same array. -/
theorem algebraic_KernelIdeal12_ReferenceIdeal12 : Cert.algebraic_KernelIdeal12_ReferenceIdeal12
    (hKernelIdeal12 := KernelIdeal12.Gen.facts) (hReferenceIdeal12 := ReferenceIdeal12.Gen.facts) := by
  intro m ρ m' ρ' _ hagree
  refine ⟨_, KernelIdeal12.FfnUp.run (F := Ideal) m ρ, ?_⟩
  refine (θ_run ReferenceIdeal12.defs _ _).mono (fun _ h c => ⟨?_, (h c).2⟩) (ReferenceIdeal12.Value.run (F := Ideal) m' ρ')
  obtain ⟨h0, h1, h2, h3, h4⟩ := hagree c
  rw [(h c).1]
  funext i
  rw [Idealize.ShloMosaic.eq_ix2 i]
  refine (ReferenceIdeal12.FfnUp.res_apply m' c (i 0) (i 1)).trans ?_
  rw [h0, h1, h2, h3, h4]
  exact (KernelIdeal12.FfnUp.G_apply m c (i 0) (i 1)).symm

/-- Every run of the reference of the up projection, convolution and gate of layer 1 ends, with its arguments unchanged and its counters at zero. -/
theorem quiescent_ReferenceIdeal13 : Cert.quiescent_ReferenceIdeal13 (hReferenceIdeal13 := ReferenceIdeal13.Gen.facts) := fun m ρ _ =>
  (θ_run ReferenceIdeal13.defs _ _).mono (fun r h => ⟨fun c => (h c).2, sem_eq_zero_of_no_sems (by decide) r.2⟩)
    (ReferenceIdeal13.Value.run (F := Ideal) m ρ)

/-- The up projection, convolution and gate of layer 1 and its reference end with the same array. -/
theorem algebraic_KernelIdeal13_ReferenceIdeal13 : Cert.algebraic_KernelIdeal13_ReferenceIdeal13
    (hKernelIdeal13 := KernelIdeal13.Gen.facts) (hReferenceIdeal13 := ReferenceIdeal13.Gen.facts) := by
  intro m ρ m' ρ' _ hagree
  refine ⟨_, KernelIdeal13.FfnUp.run (F := Ideal) m ρ, ?_⟩
  refine (θ_run ReferenceIdeal13.defs _ _).mono (fun _ h c => ⟨?_, (h c).2⟩) (ReferenceIdeal13.Value.run (F := Ideal) m' ρ')
  obtain ⟨h0, h1, h2, h3, h4⟩ := hagree c
  rw [(h c).1]
  funext i
  rw [Idealize.ShloMosaic.eq_ix2 i]
  refine (ReferenceIdeal13.FfnUp.res_apply m' c (i 0) (i 1)).trans ?_
  rw [h0, h1, h2, h3, h4]
  exact (KernelIdeal13.FfnUp.G_apply m c (i 0) (i 1)).symm

/-- Every run of the reference of the up projection, convolution and gate of layer 2 ends, with its arguments unchanged and its counters at zero. -/
theorem quiescent_ReferenceIdeal14 : Cert.quiescent_ReferenceIdeal14 (hReferenceIdeal14 := ReferenceIdeal14.Gen.facts) := fun m ρ _ =>
  (θ_run ReferenceIdeal14.defs _ _).mono (fun r h => ⟨fun c => (h c).2, sem_eq_zero_of_no_sems (by decide) r.2⟩)
    (ReferenceIdeal14.Value.run (F := Ideal) m ρ)

/-- The up projection, convolution and gate of layer 2 and its reference end with the same array. -/
theorem algebraic_KernelIdeal14_ReferenceIdeal14 : Cert.algebraic_KernelIdeal14_ReferenceIdeal14
    (hKernelIdeal14 := KernelIdeal14.Gen.facts) (hReferenceIdeal14 := ReferenceIdeal14.Gen.facts) := by
  intro m ρ m' ρ' _ hagree
  refine ⟨_, KernelIdeal14.FfnUp.run (F := Ideal) m ρ, ?_⟩
  refine (θ_run ReferenceIdeal14.defs _ _).mono (fun _ h c => ⟨?_, (h c).2⟩) (ReferenceIdeal14.Value.run (F := Ideal) m' ρ')
  obtain ⟨h0, h1, h2, h3, h4⟩ := hagree c
  rw [(h c).1]
  funext i
  rw [Idealize.ShloMosaic.eq_ix2 i]
  refine (ReferenceIdeal14.FfnUp.res_apply m' c (i 0) (i 1)).trans ?_
  rw [h0, h1, h2, h3, h4]
  exact (KernelIdeal14.FfnUp.G_apply m c (i 0) (i 1)).symm

/-- Every run of the reference of the up projection, convolution and gate of layer 3 ends, with its arguments unchanged and its counters at zero. -/
theorem quiescent_ReferenceIdeal15 : Cert.quiescent_ReferenceIdeal15 (hReferenceIdeal15 := ReferenceIdeal15.Gen.facts) := fun m ρ _ =>
  (θ_run ReferenceIdeal15.defs _ _).mono (fun r h => ⟨fun c => (h c).2, sem_eq_zero_of_no_sems (by decide) r.2⟩)
    (ReferenceIdeal15.Value.run (F := Ideal) m ρ)

/-- The up projection, convolution and gate of layer 3 and its reference end with the same array. -/
theorem algebraic_KernelIdeal15_ReferenceIdeal15 : Cert.algebraic_KernelIdeal15_ReferenceIdeal15
    (hKernelIdeal15 := KernelIdeal15.Gen.facts) (hReferenceIdeal15 := ReferenceIdeal15.Gen.facts) := by
  intro m ρ m' ρ' _ hagree
  refine ⟨_, KernelIdeal15.FfnUp.run (F := Ideal) m ρ, ?_⟩
  refine (θ_run ReferenceIdeal15.defs _ _).mono (fun _ h c => ⟨?_, (h c).2⟩) (ReferenceIdeal15.Value.run (F := Ideal) m' ρ')
  obtain ⟨h0, h1, h2, h3, h4⟩ := hagree c
  rw [(h c).1]
  funext i
  rw [Idealize.ShloMosaic.eq_ix2 i]
  refine (ReferenceIdeal15.FfnUp.res_apply m' c (i 0) (i 1)).trans ?_
  rw [h0, h1, h2, h3, h4]
  exact (KernelIdeal15.FfnUp.G_apply m c (i 0) (i 1)).symm

/-- Every run of the reference of the scan's input of the first scan layer ends, with its arguments unchanged and its counters at zero. -/
theorem quiescent_ReferenceIdeal16 : Cert.quiescent_ReferenceIdeal16 (hReferenceIdeal16 := ReferenceIdeal16.Gen.facts) := fun m ρ _ =>
  (θ_run ReferenceIdeal16.defs _ _).mono (fun r h => ⟨fun c => (h c).2, sem_eq_zero_of_no_sems (by decide) r.2⟩)
    (ReferenceIdeal16.Value.run (F := Ideal) m ρ)

/-- The scan's input of the first scan layer and its reference end with the same array. -/
theorem algebraic_KernelIdeal16_ReferenceIdeal16 : Cert.algebraic_KernelIdeal16_ReferenceIdeal16
    (hKernelIdeal16 := KernelIdeal16.Gen.facts) (hReferenceIdeal16 := ReferenceIdeal16.Gen.facts) := by
  intro m ρ m' ρ' _ hagree
  refine ⟨_, KernelIdeal16.Value.run (F := Ideal) m ρ, ?_⟩
  refine (θ_run ReferenceIdeal16.defs _ _).mono (fun _ h c => ⟨?_, (h c).2⟩) (ReferenceIdeal16.Value.run (F := Ideal) m' ρ')
  obtain ⟨h0, h1, h2, h3⟩ := hagree c
  rw [(h c).1]
  funext i
  rw [Idealize.ShloMosaic.eq_ix2 i]
  refine (ReferenceIdeal16.InXbc.res_apply m' c (i 0) (i 1)).trans ?_
  rw [h0, h1, h2, h3]
  exact (KernelIdeal16.InXbc.G_apply m c (i 0) (i 1)).symm

/-- Every run of the reference of the scan's input of the second scan layer ends, with its arguments unchanged and its counters at zero. -/
theorem quiescent_ReferenceIdeal17 : Cert.quiescent_ReferenceIdeal17 (hReferenceIdeal17 := ReferenceIdeal17.Gen.facts) := fun m ρ _ =>
  (θ_run ReferenceIdeal17.defs _ _).mono (fun r h => ⟨fun c => (h c).2, sem_eq_zero_of_no_sems (by decide) r.2⟩)
    (ReferenceIdeal17.Value.run (F := Ideal) m ρ)

/-- The scan's input of the second scan layer and its reference end with the same array. -/
theorem algebraic_KernelIdeal17_ReferenceIdeal17 : Cert.algebraic_KernelIdeal17_ReferenceIdeal17
    (hKernelIdeal17 := KernelIdeal17.Gen.facts) (hReferenceIdeal17 := ReferenceIdeal17.Gen.facts) := by
  intro m ρ m' ρ' _ hagree
  refine ⟨_, KernelIdeal17.Value.run (F := Ideal) m ρ, ?_⟩
  refine (θ_run ReferenceIdeal17.defs _ _).mono (fun _ h c => ⟨?_, (h c).2⟩) (ReferenceIdeal17.Value.run (F := Ideal) m' ρ')
  obtain ⟨h0, h1, h2, h3⟩ := hagree c
  rw [(h c).1]
  funext i
  rw [Idealize.ShloMosaic.eq_ix2 i]
  refine (ReferenceIdeal17.InXbc1.res_apply m' c (i 0) (i 1)).trans ?_
  rw [h0, h1, h2, h3]
  exact (KernelIdeal17.InXbc1.G_apply m c (i 0) (i 1)).symm

/-- Every run of the reference of the last norm ends, with its arguments unchanged and its counters at zero. -/
theorem quiescent_ReferenceIdeal18 : Cert.quiescent_ReferenceIdeal18 (hReferenceIdeal18 := ReferenceIdeal18.Gen.facts) := fun m ρ _ =>
  (θ_run ReferenceIdeal18.defs _ _).mono (fun r h => ⟨fun c => (h c).2, sem_eq_zero_of_no_sems (by decide) r.2⟩)
    (ReferenceIdeal18.Value.run (F := Ideal) m ρ)

/-- The last norm and its reference end with the same array. -/
theorem algebraic_KernelIdeal18_ReferenceIdeal18 : Cert.algebraic_KernelIdeal18_ReferenceIdeal18
    (hKernelIdeal18 := KernelIdeal18.Gen.facts) (hReferenceIdeal18 := ReferenceIdeal18.Gen.facts) := by
  intro m ρ m' ρ' _ hagree
  refine ⟨_, KernelIdeal18.Value.run_blocks (F := Ideal) m ρ, ?_⟩
  refine (θ_run ReferenceIdeal18.defs _ _).mono (fun _ h c => ⟨?_, (h c).2⟩) (ReferenceIdeal18.Value.run (F := Ideal) m' ρ')
  obtain ⟨h0, h1⟩ := hagree c
  rw [(h c).1, h0, h1]
  exact (ReferenceIdeal18.LastNorm.term_eq _ _).trans (KernelIdeal18.LastNorm.final m c).symm

/-- The claims of the certificate hold. -/
theorem claim : Cert.Claim := by
  refine ⟨Kernel.Gen.facts, KernelIdeal.Gen.facts, ReferenceIdeal.Gen.facts, Kernel2.Gen.facts, KernelIdeal2.Gen.facts,
    ReferenceIdeal2.Gen.facts, Kernel3.Gen.facts, KernelIdeal3.Gen.facts, ReferenceIdeal3.Gen.facts,
    Kernel4.Gen.facts, KernelIdeal4.Gen.facts, ReferenceIdeal4.Gen.facts, Kernel5.Gen.facts, KernelIdeal5.Gen.facts,
    ReferenceIdeal5.Gen.facts, Kernel6.Gen.facts, KernelIdeal6.Gen.facts, ReferenceIdeal6.Gen.facts,
    Kernel7.Gen.facts, KernelIdeal7.Gen.facts, ReferenceIdeal7.Gen.facts, Kernel8.Gen.facts, KernelIdeal8.Gen.facts,
    ReferenceIdeal8.Gen.facts, Kernel9.Gen.facts, KernelIdeal9.Gen.facts, ReferenceIdeal9.Gen.facts,
    Kernel10.Gen.facts, KernelIdeal10.Gen.facts, ReferenceIdeal10.Gen.facts, Kernel11.Gen.facts,
    KernelIdeal11.Gen.facts, ReferenceIdeal11.Gen.facts, Kernel12.Gen.facts, KernelIdeal12.Gen.facts,
    ReferenceIdeal12.Gen.facts, Kernel13.Gen.facts, KernelIdeal13.Gen.facts, ReferenceIdeal13.Gen.facts,
    Kernel14.Gen.facts, KernelIdeal14.Gen.facts, ReferenceIdeal14.Gen.facts, Kernel15.Gen.facts,
    KernelIdeal15.Gen.facts, ReferenceIdeal15.Gen.facts, Kernel16.Gen.facts, KernelIdeal16.Gen.facts,
    ReferenceIdeal16.Gen.facts, Kernel17.Gen.facts, KernelIdeal17.Gen.facts, ReferenceIdeal17.Gen.facts,
    Kernel18.Gen.facts, KernelIdeal18.Gen.facts, ReferenceIdeal18.Gen.facts, fun m ρ _ => Cert.Proof.Ssd.frame_bits m ρ,
    fun m ρ _ => KernelIdeal.Ssd.frame_run m ρ, quiescent_ReferenceIdeal, fun m ρ _ => Kernel2.Gen.frame m ρ,
    fun m ρ _ => KernelIdeal2.Gen.frame m ρ, quiescent_ReferenceIdeal2, fun m ρ _ => Kernel3.Gen.frame m ρ,
    fun m ρ _ => KernelIdeal3.Gen.frame m ρ, quiescent_ReferenceIdeal3, fun m ρ _ => Kernel4.Gen.frame m ρ,
    fun m ρ _ => KernelIdeal4.Gen.frame m ρ, quiescent_ReferenceIdeal4, fun m ρ _ => Kernel5.Gen.frame m ρ,
    fun m ρ _ => KernelIdeal5.Gen.frame m ρ, quiescent_ReferenceIdeal5, fun m ρ _ => Kernel6.Gen.frame m ρ,
    fun m ρ _ => KernelIdeal6.Gen.frame m ρ, quiescent_ReferenceIdeal6, fun m ρ _ => Kernel7.Gen.frame m ρ,
    fun m ρ _ => KernelIdeal7.Gen.frame m ρ, quiescent_ReferenceIdeal7, fun m ρ _ => Kernel8.Gen.frame m ρ,
    fun m ρ _ => KernelIdeal8.Gen.frame m ρ, quiescent_ReferenceIdeal8, fun m ρ _ => Kernel9.Gen.frame m ρ,
    fun m ρ _ => KernelIdeal9.Gen.frame m ρ, quiescent_ReferenceIdeal9, fun m ρ _ => Kernel10.Gen.frame m ρ,
    fun m ρ _ => KernelIdeal10.Gen.frame m ρ, quiescent_ReferenceIdeal10, fun m ρ _ => Kernel11.Gen.frame m ρ,
    fun m ρ _ => KernelIdeal11.Gen.frame m ρ, quiescent_ReferenceIdeal11, fun m ρ _ => Cert.Proof.FfnUp.frame_bits m ρ,
    fun m ρ _ => KernelIdeal12.FfnUp.frame_run m ρ, quiescent_ReferenceIdeal12, fun m ρ _ => Cert.Proof.FfnUp1.frame_bits m ρ,
    fun m ρ _ => KernelIdeal13.FfnUp.frame_run m ρ, quiescent_ReferenceIdeal13, fun m ρ _ => Cert.Proof.FfnUp2.frame_bits m ρ,
    fun m ρ _ => KernelIdeal14.FfnUp.frame_run m ρ, quiescent_ReferenceIdeal14, fun m ρ _ => Cert.Proof.FfnUp3.frame_bits m ρ,
    fun m ρ _ => KernelIdeal15.FfnUp.frame_run m ρ, quiescent_ReferenceIdeal15, fun m ρ _ => Kernel16.Gen.frame m ρ,
    fun m ρ _ => KernelIdeal16.Gen.frame m ρ, quiescent_ReferenceIdeal16, fun m ρ _ => Kernel17.Gen.frame m ρ,
    fun m ρ _ => KernelIdeal17.Gen.frame m ρ, quiescent_ReferenceIdeal17, fun m ρ _ => Kernel18.Gen.frame m ρ,
    fun m ρ _ => KernelIdeal18.Gen.frame m ρ, quiescent_ReferenceIdeal18, preserves_Kernel_KernelIdeal, trivial,
    algebraic_KernelIdeal2_ReferenceIdeal2, trivial, algebraic_KernelIdeal3_ReferenceIdeal3, trivial, algebraic_KernelIdeal4_ReferenceIdeal4,
    trivial, algebraic_KernelIdeal5_ReferenceIdeal5, trivial, algebraic_KernelIdeal6_ReferenceIdeal6, trivial,
    algebraic_KernelIdeal7_ReferenceIdeal7, trivial, algebraic_KernelIdeal8_ReferenceIdeal8, trivial, algebraic_KernelIdeal9_ReferenceIdeal9,
    trivial, algebraic_KernelIdeal10_ReferenceIdeal10, trivial, algebraic_KernelIdeal11_ReferenceIdeal11, trivial,
    algebraic_KernelIdeal12_ReferenceIdeal12, trivial, algebraic_KernelIdeal13_ReferenceIdeal13, trivial,
    algebraic_KernelIdeal14_ReferenceIdeal14, trivial, algebraic_KernelIdeal15_ReferenceIdeal15, trivial,
    algebraic_KernelIdeal16_ReferenceIdeal16, trivial, algebraic_KernelIdeal17_ReferenceIdeal17, trivial,
    algebraic_KernelIdeal18_ReferenceIdeal18⟩

end Cert.Proof

end
